-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDrawnIdeal (m : (ℓ : Loc Cert.KernelDrawnIdeal.nD Cert.KernelDrawnIdeal.τ Cert.KernelDrawnIdeal.sig) → Buf (Elt Ideal) ℓ) : Prop :=
  True

def Pre_ReferenceDrawnIdeal (m : (ℓ : Loc Cert.ReferenceDrawnIdeal.nD Cert.ReferenceDrawnIdeal.τ Cert.ReferenceDrawnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_agrees [hKernelIdeal : Cert.KernelIdeal.Facts] [hReferenceIdeal : Cert.ReferenceIdeal.Facts] [hOn_agrees : Cert.On_agrees.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![128, 3, 224, 224]⟩ : Shape).Idx, (Cert.On_agrees.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v62) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![128, 3, 224, 224]⟩ : Shape).Idx, (Cert.On_agrees.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v210) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def disproves_algebraic_KernelDrawnIdeal_ReferenceDrawnIdeal [hKernelDrawnIdeal : Cert.KernelDrawnIdeal.Facts] [hReferenceDrawnIdeal : Cert.ReferenceDrawnIdeal.Facts] : Prop :=
  ∀ (m : (ℓ : Loc Cert.KernelDrawnIdeal.nD Cert.KernelDrawnIdeal.τ Cert.KernelDrawnIdeal.sig) → Buf (Elt Ideal) ℓ) (g : Dev Cert.KernelDrawnIdeal.nD → PrngReg)
    (m' : (ℓ : Loc Cert.ReferenceDrawnIdeal.nD Cert.ReferenceDrawnIdeal.τ Cert.ReferenceDrawnIdeal.sig) → Buf (Elt Ideal) ℓ) (g' : Dev Cert.ReferenceDrawnIdeal.nD → PrngReg),
    (∀ c : Dev Cert.KernelDrawnIdeal.nD,
      m ((c.tc : Thread Cert.KernelDrawnIdeal.nD Cert.KernelDrawnIdeal.τ).loc Cert.KernelDrawnIdeal.main_arg0) = Cert.Cx_KernelDrawnIdeal.arg0 (F := Ideal)
      ∧ m ((c.tc : Thread Cert.KernelDrawnIdeal.nD Cert.KernelDrawnIdeal.τ).loc Cert.KernelDrawnIdeal.main_arg1) = Cert.Cx_KernelDrawnIdeal.arg1
      ∧ m ((c.tc : Thread Cert.KernelDrawnIdeal.nD Cert.KernelDrawnIdeal.τ).loc Cert.KernelDrawnIdeal.main_arg2) = Cert.Cx_KernelDrawnIdeal.arg2
      ∧ m ((c.tc : Thread Cert.KernelDrawnIdeal.nD Cert.KernelDrawnIdeal.τ).loc Cert.KernelDrawnIdeal.main_arg3) = Cert.Cx_KernelDrawnIdeal.arg3 (F := Ideal)) →
    (∀ c : Dev Cert.KernelDrawnIdeal.nD,
      m' ((c.tc : Thread Cert.ReferenceDrawnIdeal.nD Cert.ReferenceDrawnIdeal.τ).loc Cert.ReferenceDrawnIdeal.main_arg0) = m ((c.tc : Thread Cert.KernelDrawnIdeal.nD Cert.KernelDrawnIdeal.τ).loc Cert.KernelDrawnIdeal.main_arg0)
      ∧ m' ((c.tc : Thread Cert.ReferenceDrawnIdeal.nD Cert.ReferenceDrawnIdeal.τ).loc Cert.ReferenceDrawnIdeal.main_arg1) = m ((c.tc : Thread Cert.KernelDrawnIdeal.nD Cert.KernelDrawnIdeal.τ).loc Cert.KernelDrawnIdeal.main_arg1)
      ∧ m' ((c.tc : Thread Cert.ReferenceDrawnIdeal.nD Cert.ReferenceDrawnIdeal.τ).loc Cert.ReferenceDrawnIdeal.main_arg2) = m ((c.tc : Thread Cert.KernelDrawnIdeal.nD Cert.KernelDrawnIdeal.τ).loc Cert.KernelDrawnIdeal.main_arg2)
      ∧ m' ((c.tc : Thread Cert.ReferenceDrawnIdeal.nD Cert.ReferenceDrawnIdeal.τ).loc Cert.ReferenceDrawnIdeal.main_arg3) = m ((c.tc : Thread Cert.KernelDrawnIdeal.nD Cert.KernelDrawnIdeal.τ).loc Cert.KernelDrawnIdeal.main_arg3)) →
    Pre_KernelDrawnIdeal m
    ∧ ∃ (v0 : (c : Dev Cert.KernelDrawnIdeal.nD) → Buf (Elt Ideal) ((c.tc : Thread Cert.KernelDrawnIdeal.nD Cert.KernelDrawnIdeal.τ).loc Cert.KernelDrawnIdeal.main_v16)),
      θ_run (Cert.KernelDrawnIdeal.defs (F := Ideal)) (onTc (τ := Cert.KernelDrawnIdeal.τ) (Cert.KernelDrawnIdeal.main (F := Ideal))) ⟨m, fun _ => 0, g⟩ (fun r => ¬ (∀ c : Dev Cert.KernelDrawnIdeal.nD,
          r.2.mem ((c.tc : Thread Cert.KernelDrawnIdeal.nD Cert.KernelDrawnIdeal.τ).loc Cert.KernelDrawnIdeal.main_v16) = v0 c))
      ∧ θ_run (Cert.ReferenceDrawnIdeal.defs (F := Ideal)) (onTc (τ := Cert.ReferenceDrawnIdeal.τ) (Cert.ReferenceDrawnIdeal.main (F := Ideal))) ⟨m', fun _ => 0, g'⟩ (fun r => ∀ c : Dev Cert.ReferenceDrawnIdeal.nD,
          r.2.mem ((c.tc : Thread Cert.ReferenceDrawnIdeal.nD Cert.ReferenceDrawnIdeal.τ).loc Cert.ReferenceDrawnIdeal.main_v133) = v0 c)

def Claim : Prop :=
  ∃ (hKernel : Cert.Kernel.Facts) (hKernelIdeal : Cert.KernelIdeal.Facts) (hReferenceIdeal : Cert.ReferenceIdeal.Facts) (hKernelDrawnIdeal : Cert.KernelDrawnIdeal.Facts) (hReferenceDrawnIdeal : Cert.ReferenceDrawnIdeal.Facts) (hOn_agrees : Cert.On_agrees.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_agrees (hKernelIdeal := hKernelIdeal) (hReferenceIdeal := hReferenceIdeal) (hOn_agrees := hOn_agrees)
    ∧ disproves_algebraic_KernelDrawnIdeal_ReferenceDrawnIdeal (hKernelDrawnIdeal := hKernelDrawnIdeal) (hReferenceDrawnIdeal := hReferenceDrawnIdeal)
-- ==== Cx_KernelDrawnIdeal.lean ====
noncomputable def arg0_words : Fin 3 → Fin 2 → Fin 224 → Fin 4 → BitVec 32 :=
  ![
    ![
      ![
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x3F800000#32, 0x3F800000#32, 0x3F800000#32, 0x3F800000#32] ],
      ![
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x3F800000#32, 0x3F800000#32, 0x3F800000#32, 0x3F800000#32] ] ],
    ![
      ![
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x3F800000#32, 0x3F800000#32, 0x3F800000#32, 0x3F800000#32] ],
      ![
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x3F800000#32, 0x3F800000#32, 0x3F800000#32, 0x3F800000#32] ] ],
    ![
      ![
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x3F800000#32, 0x3F800000#32, 0x3F800000#32, 0x3F800000#32] ],
      ![
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x00000000#32, 0x00000000#32, 0x00000000#32, 0x00000000#32],
        ![0x3F800000#32, 0x3F800000#32, 0x3F800000#32, 0x3F800000#32] ] ] ]
noncomputable def arg0 {F : FTy → Type} [FloatOps F] : FVec F (⟨4, ![3, 2, 224, 4]⟩ : Shape) .f32 := fun i => FloatOps.ofBits .f32 (arg0_words (i 0) (i 1) (i 2) (i 3))

noncomputable def arg1_words : Fin 3 → BitVec 32 :=
  ![2#32, 2#32, 2#32]
noncomputable def arg1 : IVec (⟨1, ![3]⟩ : Shape) 32 := fun i => arg1_words (i 0)

noncomputable def arg2_words : Fin 3 → BitVec 32 :=
  ![2#32, 2#32, 2#32]
noncomputable def arg2 : IVec (⟨1, ![3]⟩ : Shape) 32 := fun i => arg2_words (i 0)

noncomputable def arg3_words : BitVec 32 :=
  0x41200000#32
noncomputable def arg3 {F : FTy → Type} [FloatOps F] : FVec F (⟨0, ![]⟩ : Shape) .f32 := fun _ => FloatOps.ofBits .f32 (arg3_words)
-- ==== On_agrees.lean ====
abbrev S128x3x224x224 : Shape := ⟨4, ![128, 3, 224, 224]⟩
abbrev S8 : Shape := ⟨1, ![8]⟩
abbrev S_ : Shape := ⟨0, ![]⟩
abbrev S1 : Shape := ⟨1, ![1]⟩
abbrev S2 : Shape := ⟨1, ![2]⟩
abbrev S1x8 : Shape := ⟨2, ![1, 8]⟩
abbrev S1x1 : Shape := ⟨2, ![1, 1]⟩
abbrev S128x8 : Shape := ⟨2, ![128, 8]⟩
abbrev S128 : Shape := ⟨1, ![128]⟩

class Facts : Prop where
  bcast_S_S1 : S_.BroadcastsInDim S1 (![] : Fin 0 → Fin S1.rank)
  concatenates_S1_S1_S2_d0 : Shape.Concatenates [S1, S1] S2 0
  bcast_S_S1x8 : S_.BroadcastsInDim S1x8 (![] : Fin 0 → Fin S1x8.rank)
  reducesTo_S1x8_S1_d1 : S1x8.ReducesTo [1] S1
  h_S_ : 0 < S_.numel
  bcast_S1_S1x1_0 : S1.BroadcastsInDim S1x1 (![0] : Fin 1 → Fin S1x1.rank)
  bcast_S1x1_S1x8_0_1 : S1x1.BroadcastsInDim S1x8 (![0, 1] : Fin 2 → Fin S1x8.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  slices_S2_S1_0 : S2.Slices ![0] S1
  shapeCasts_S1_S_ : S1.ShapeCasts S_
  slices_S2_S1_1 : S2.Slices ![1] S1
  bcast_S_S1x1 : S_.BroadcastsInDim S1x1 (![] : Fin 0 → Fin S1x1.rank)
  bcast_S_S128x8 : S_.BroadcastsInDim S128x8 (![] : Fin 0 → Fin S128x8.rank)
  natLt_32_64 : 32 < 64
  bcast_S1x1_S128x8_0_1 : S1x1.BroadcastsInDim S128x8 (![0, 1] : Fin 2 → Fin S128x8.rank)
  reducesTo_S128x8_S128_d1 : S128x8.ReducesTo [1] S128
  bcast_S128_S128x3x224x224_0 : S128.BroadcastsInDim S128x3x224x224 (![0] : Fin 1 → Fin S128x3x224x224.rank)
  bcast_S_S128x3x224x224 : S_.BroadcastsInDim S128x3x224x224 (![] : Fin 0 → Fin S128x3x224x224.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_threefry2x32_part9 {F : FTy → Type} [FloatOps F] (arg0 : IVec S_ 32) (v163 : IVec S1 32) (v169 : IVec S1 32) (v170 : IVec S1 32) : IVec S1 32 × IVec S1 32 :=
  let v171 : IVec S1 32 := addi v163 v170
  let v172 : IVec S1 32 := broadcastInDim S1 ![] bcast_S_S1 arg0
  let v173 : IVec S1 32 := addi v169 v172
  let c_44 : IVec S_ 32 := constantI S_ 32 5#32
  let v174 : IVec S1 32 := broadcastInDim S1 ![] bcast_S_S1 c_44
  let v175 : IVec S1 32 := addi v173 v174
  (v171, v175)

def fn_threefry2x32_part8 {F : FTy → Type} [FloatOps F] (arg0 : IVec S_ 32) (v1 : IVec S_ 32) (v148 : IVec S1 32) (v149 : IVec S1 32) (v151 : IVec S1 32) : IVec S1 32 × IVec S1 32 :=
  let c_39 : IVec S_ 32 := constantI S_ 32 17#32
  let v152 : IVec S1 32 := broadcastInDim S1 ![] bcast_S_S1 c_39
  let v153 : IVec S1 32 := Host.shrui v148 v152
  let v154 : IVec S1 32 := ori v151 v153
  let v155 : IVec S1 32 := xori v149 v154
  let v156 : IVec S1 32 := addi v149 v155
  let c_40 : IVec S_ 32 := constantI S_ 32 26#32
  let v157 : IVec S1 32 := broadcastInDim S1 ![] bcast_S_S1 c_40
  let v158 : IVec S1 32 := Host.shli v155 v157
  let c_41 : IVec S_ 32 := constantI S_ 32 6#32
  let v159 : IVec S1 32 := broadcastInDim S1 ![] bcast_S_S1 c_41
  let v160 : IVec S1 32 := Host.shrui v155 v159
  let v161 : IVec S1 32 := ori v158 v160
  let v162 : IVec S1 32 := xori v156 v161
  let v163 : IVec S1 32 := addi v156 v162
  let c_42 : IVec S_ 32 := constantI S_ 32 6#32
  let v164 : IVec S1 32 := broadcastInDim S1 ![] bcast_S_S1 c_42
  let v165 : IVec S1 32 := Host.shli v162 v164
  let c_43 : IVec S_ 32 := constantI S_ 32 26#32
  let v166 : IVec S1 32 := broadcastInDim S1 ![] bcast_S_S1 c_43
  let v167 : IVec S1 32 := Host.shrui v162 v166
  let v168 : IVec S1 32 := ori v165 v167
  let v169 : IVec S1 32 := xori v163 v168
  let v170 : IVec S1 32 := broadcastInDim S1 ![] bcast_S_S1 v1
  fn_threefry2x32_part9 (F := F) arg0 v163 v169 v170

def fn_threefry2x32_part7 {F : FTy → Type} [FloatOps F] (arg0 : IVec S_ 32) (arg1 : IVec S_ 32) (v1 : IVec S_ 32) (v128 : IVec S1 32) (v129 : IVec S1 32) (v131 : IVec S1 32) (c_34 : IVec S_ 32) : IVec S1 32 × IVec S1 32 :=
  let v132 : IVec S1 32 := broadcastInDim S1 ![] bcast_S_S1 c_34
  let v133 : IVec S1 32 := Host.shrui v128 v132
  let v134 : IVec S1 32 := ori v131 v133
  let v135 : IVec S1 32 := xori v129 v134
  let v136 : IVec S1 32 := broadcastInDim S1 ![] bcast_S_S1 arg1
  let v137 : IVec S1 32 := addi v129 v136
  let v138 : IVec S1 32 := broadcastInDim S1 ![] bcast_S_S1 v1
  let v139 : IVec S1 32 := addi v135 v138
  let c_35 : IVec S_ 32 := constantI S_ 32 4#32
  let v140 : IVec S1 32 := broadcastInDim S1 ![] bcast_S_S1 c_35
  let v141 : IVec S1 32 := addi v139 v140
  let v142 : IVec S1 32 := addi v137 v141
  let c_36 : IVec S_ 32 := constantI S_ 32 13#32
  let v143 : IVec S1 32 := broadcastInDim S1 ![] bcast_S_S1 c_36
  let v144 : IVec S1 32 := Host.shli v141 v143
  let c_37 : IVec S_ 32 := constantI S_ 32 19#32
  let v145 : IVec S1 32 := broadcastInDim S1 ![] bcast_S_S1 c_37
  let v146 : IVec S1 32 := Host.shrui v141 v145
  let v147 : IVec S1 32 := ori v144 v146
  let v148 : IVec S1 32 := xori v142 v147
  let v149 : IVec S1 32 := addi v142 v148
  let c_38 : IVec S_ 32 := constantI S_ 32 15#32
  let v150 : IVec S1 32 := broadcastInDim S1 ![] bcast_S_S1 c_38
  let v151 : IVec S1 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S1 32) (v113 : IVec S1 32) : IVec S1 32 × IVec S1 32 :=
  let v114 : IVec S1 32 := xori v108 v113
  let v115 : IVec S1 32 := addi v108 v114
  let c_29 : IVec S_ 32 := constantI S_ 32 29#32
  let v116 : IVec S1 32 := broadcastInDim S1 ![] bcast_S_S1 c_29
  let v117 : IVec S1 32 := Host.shli v114 v116
  let c_30 : IVec S_ 32 := constantI S_ 32 3#32
  let v118 : IVec S1 32 := broadcastInDim S1 ![] bcast_S_S1 c_30
  let v119 : IVec S1 32 := Host.shrui v114 v118
  let v120 : IVec S1 32 := ori v117 v119
  let v121 : IVec S1 32 := xori v115 v120
  let v122 : IVec S1 32 := addi v115 v121
  let c_31 : IVec S_ 32 := constantI S_ 32 16#32
  let v123 : IVec S1 32 := broadcastInDim S1 ![] bcast_S_S1 c_31
  let v124 : IVec S1 32 := Host.shli v121 v123
  let c_32 : IVec S_ 32 := constantI S_ 32 16#32
  let v125 : IVec S1 32 := broadcastInDim S1 ![] bcast_S_S1 c_32
  let v126 : IVec S1 32 := Host.shrui v121 v125
  let v127 : IVec S1 32 := ori v124 v126
  let v128 : IVec S1 32 := xori v122 v127
  let v129 : IVec S1 32 := addi v122 v128
  let c_33 : IVec S_ 32 := constantI S_ 32 24#32
  let v130 : IVec S1 32 := broadcastInDim S1 ![] bcast_S_S1 c_33
  let v131 : IVec S1 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S1 32) (v94 : IVec S1 32) : IVec S1 32 × IVec S1 32 :=
  let v95 : IVec S1 32 := addi v88 v94
  let c_24 : IVec S_ 32 := constantI S_ 32 6#32
  let v96 : IVec S1 32 := broadcastInDim S1 ![] bcast_S_S1 c_24
  let v97 : IVec S1 32 := Host.shli v94 v96
  let c_25 : IVec S_ 32 := constantI S_ 32 26#32
  let v98 : IVec S1 32 := broadcastInDim S1 ![] bcast_S_S1 c_25
  let v99 : IVec S1 32 := Host.shrui v94 v98
  let v100 : IVec S1 32 := ori v97 v99
  let v101 : IVec S1 32 := xori v95 v100
  let v102 : IVec S1 32 := broadcastInDim S1 ![] bcast_S_S1 arg0
  let v103 : IVec S1 32 := addi v95 v102
  let v104 : IVec S1 32 := broadcastInDim S1 ![] bcast_S_S1 arg1
  let v105 : IVec S1 32 := addi v101 v104
  let c_26 : IVec S_ 32 := constantI S_ 32 3#32
  let v106 : IVec S1 32 := broadcastInDim S1 ![] bcast_S_S1 c_26
  let v107 : IVec S1 32 := addi v105 v106
  let v108 : IVec S1 32 := addi v103 v107
  let c_27 : IVec S_ 32 := constantI S_ 32 17#32
  let v109 : IVec S1 32 := broadcastInDim S1 ![] bcast_S_S1 c_27
  let v110 : IVec S1 32 := Host.shli v107 v109
  let c_28 : IVec S_ 32 := constantI S_ 32 15#32
  let v111 : IVec S1 32 := broadcastInDim S1 ![] bcast_S_S1 c_28
  let v112 : IVec S1 32 := Host.shrui v107 v111
  let v113 : IVec S1 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S1 32) (v74 : IVec S1 32) (v75 : IVec S1 32) : IVec S1 32 × IVec S1 32 :=
  let v76 : IVec S1 32 := Host.shli v73 v75
  let c_19 : IVec S_ 32 := constantI S_ 32 19#32
  let v77 : IVec S1 32 := broadcastInDim S1 ![] bcast_S_S1 c_19
  let v78 : IVec S1 32 := Host.shrui v73 v77
  let v79 : IVec S1 32 := ori v76 v78
  let v80 : IVec S1 32 := xori v74 v79
  let v81 : IVec S1 32 := addi v74 v80
  let c_20 : IVec S_ 32 := constantI S_ 32 15#32
  let v82 : IVec S1 32 := broadcastInDim S1 ![] bcast_S_S1 c_20
  let v83 : IVec S1 32 := Host.shli v80 v82
  let c_21 : IVec S_ 32 := constantI S_ 32 17#32
  let v84 : IVec S1 32 := broadcastInDim S1 ![] bcast_S_S1 c_21
  let v85 : IVec S1 32 := Host.shrui v80 v84
  let v86 : IVec S1 32 := ori v83 v85
  let v87 : IVec S1 32 := xori v81 v86
  let v88 : IVec S1 32 := addi v81 v87
  let c_22 : IVec S_ 32 := constantI S_ 32 26#32
  let v89 : IVec S1 32 := broadcastInDim S1 ![] bcast_S_S1 c_22
  let v90 : IVec S1 32 := Host.shli v87 v89
  let c_23 : IVec S_ 32 := constantI S_ 32 6#32
  let v91 : IVec S1 32 := broadcastInDim S1 ![] bcast_S_S1 c_23
  let v92 : IVec S1 32 := Host.shrui v87 v91
  let v93 : IVec S1 32 := ori v90 v92
  let v94 : IVec S1 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S1 32) (v54 : IVec S1 32) (v56 : IVec S1 32) : IVec S1 32 × IVec S1 32 :=
  let c_14 : IVec S_ 32 := constantI S_ 32 16#32
  let v57 : IVec S1 32 := broadcastInDim S1 ![] bcast_S_S1 c_14
  let v58 : IVec S1 32 := Host.shrui v53 v57
  let v59 : IVec S1 32 := ori v56 v58
  let v60 : IVec S1 32 := xori v54 v59
  let v61 : IVec S1 32 := addi v54 v60
  let c_15 : IVec S_ 32 := constantI S_ 32 24#32
  let v62 : IVec S1 32 := broadcastInDim S1 ![] bcast_S_S1 c_15
  let v63 : IVec S1 32 := Host.shli v60 v62
  let c_16 : IVec S_ 32 := constantI S_ 32 8#32
  let v64 : IVec S1 32 := broadcastInDim S1 ![] bcast_S_S1 c_16
  let v65 : IVec S1 32 := Host.shrui v60 v64
  let v66 : IVec S1 32 := ori v63 v65
  let v67 : IVec S1 32 := xori v61 v66
  let v68 : IVec S1 32 := broadcastInDim S1 ![] bcast_S_S1 v1
  let v69 : IVec S1 32 := addi v61 v68
  let v70 : IVec S1 32 := broadcastInDim S1 ![] bcast_S_S1 arg0
  let v71 : IVec S1 32 := addi v67 v70
  let c_17 : IVec S_ 32 := constantI S_ 32 2#32
  let v72 : IVec S1 32 := broadcastInDim S1 ![] bcast_S_S1 c_17
  let v73 : IVec S1 32 := addi v71 v72
  let v74 : IVec S1 32 := addi v69 v73
  let c_18 : IVec S_ 32 := constantI S_ 32 13#32
  let v75 : IVec S1 32 := broadcastInDim S1 ![] bcast_S_S1 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S1 32) (v37 : IVec S1 32) (c_8 : IVec S_ 32) : IVec S1 32 × IVec S1 32 :=
  let v38 : IVec S1 32 := broadcastInDim S1 ![] bcast_S_S1 c_8
  let v39 : IVec S1 32 := addi v37 v38
  let v40 : IVec S1 32 := addi v35 v39
  let c_9 : IVec S_ 32 := constantI S_ 32 17#32
  let v41 : IVec S1 32 := broadcastInDim S1 ![] bcast_S_S1 c_9
  let v42 : IVec S1 32 := Host.shli v39 v41
  let c_10 : IVec S_ 32 := constantI S_ 32 15#32
  let v43 : IVec S1 32 := broadcastInDim S1 ![] bcast_S_S1 c_10
  let v44 : IVec S1 32 := Host.shrui v39 v43
  let v45 : IVec S1 32 := ori v42 v44
  let v46 : IVec S1 32 := xori v40 v45
  let v47 : IVec S1 32 := addi v40 v46
  let c_11 : IVec S_ 32 := constantI S_ 32 29#32
  let v48 : IVec S1 32 := broadcastInDim S1 ![] bcast_S_S1 c_11
  let v49 : IVec S1 32 := Host.shli v46 v48
  let c_12 : IVec S_ 32 := constantI S_ 32 3#32
  let v50 : IVec S1 32 := broadcastInDim S1 ![] bcast_S_S1 c_12
  let v51 : IVec S1 32 := Host.shrui v46 v50
  let v52 : IVec S1 32 := ori v49 v51
  let v53 : IVec S1 32 := xori v47 v52
  let v54 : IVec S1 32 := addi v47 v53
  let c_13 : IVec S_ 32 := constantI S_ 32 16#32
  let v55 : IVec S1 32 := broadcastInDim S1 ![] bcast_S_S1 c_13
  let v56 : IVec S1 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S1 32) (v18 : IVec S1 32) : IVec S1 32 × IVec S1 32 :=
  let v19 : IVec S1 32 := xori v13 v18
  let v20 : IVec S1 32 := addi v13 v19
  let c_4 : IVec S_ 32 := constantI S_ 32 26#32
  let v21 : IVec S1 32 := broadcastInDim S1 ![] bcast_S_S1 c_4
  let v22 : IVec S1 32 := Host.shli v19 v21
  let c_5 : IVec S_ 32 := constantI S_ 32 6#32
  let v23 : IVec S1 32 := broadcastInDim S1 ![] bcast_S_S1 c_5
  let v24 : IVec S1 32 := Host.shrui v19 v23
  let v25 : IVec S1 32 := ori v22 v24
  let v26 : IVec S1 32 := xori v20 v25
  let v27 : IVec S1 32 := addi v20 v26
  let c_6 : IVec S_ 32 := constantI S_ 32 6#32
  let v28 : IVec S1 32 := broadcastInDim S1 ![] bcast_S_S1 c_6
  let v29 : IVec S1 32 := Host.shli v26 v28
  let c_7 : IVec S_ 32 := constantI S_ 32 26#32
  let v30 : IVec S1 32 := broadcastInDim S1 ![] bcast_S_S1 c_7
  let v31 : IVec S1 32 := Host.shrui v26 v30
  let v32 : IVec S1 32 := ori v29 v31
  let v33 : IVec S1 32 := xori v27 v32
  let v34 : IVec S1 32 := broadcastInDim S1 ![] bcast_S_S1 arg1
  let v35 : IVec S1 32 := addi v27 v34
  let v36 : IVec S1 32 := broadcastInDim S1 ![] bcast_S_S1 v1
  let v37 : IVec S1 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S1 32) (arg3 : IVec S1 32) : IVec S1 32 × IVec S1 32 :=
  let v0 : IVec S_ 32 := xori arg0 arg1
  let c : IVec S_ 32 := constantI S_ 32 466688986#32
  let v1 : IVec S_ 32 := xori v0 c
  let v2 : IVec S1 32 := broadcastInDim S1 ![] bcast_S_S1 arg0
  let v3 : IVec S1 32 := addi arg2 v2
  let v4 : IVec S1 32 := broadcastInDim S1 ![] bcast_S_S1 arg1
  let v5 : IVec S1 32 := addi arg3 v4
  let v6 : IVec S1 32 := addi v3 v5
  let c_0 : IVec S_ 32 := constantI S_ 32 13#32
  let v7 : IVec S1 32 := broadcastInDim S1 ![] bcast_S_S1 c_0
  let v8 : IVec S1 32 := Host.shli v5 v7
  let c_1 : IVec S_ 32 := constantI S_ 32 19#32
  let v9 : IVec S1 32 := broadcastInDim S1 ![] bcast_S_S1 c_1
  let v10 : IVec S1 32 := Host.shrui v5 v9
  let v11 : IVec S1 32 := ori v8 v10
  let v12 : IVec S1 32 := xori v6 v11
  let v13 : IVec S1 32 := addi v6 v12
  let c_2 : IVec S_ 32 := constantI S_ 32 15#32
  let v14 : IVec S1 32 := broadcastInDim S1 ![] bcast_S_S1 c_2
  let v15 : IVec S1 32 := Host.shli v12 v14
  let c_3 : IVec S_ 32 := constantI S_ 32 17#32
  let v16 : IVec S1 32 := broadcastInDim S1 ![] bcast_S_S1 c_3
  let v17 : IVec S1 32 := Host.shrui v12 v16
  let v18 : IVec S1 32 := ori v15 v17
  fn_threefry2x32_part1 (F := F) arg0 arg1 v1 v13 v18

def fn_threefry_fold_in {F : FTy → Type} [FloatOps F] (arg0 : IVec S2 32) (arg1 : IVec S_ 32) : IVec S2 32 :=
  let c : IVec S_ 32 := constantI S_ 32 32#32
  let v0 : IVec S_ 32 := Host.shrui arg1 c
  let v1 : IVec S1 32 := broadcastInDim S1 ![] bcast_S_S1 v0
  let c_0 : IVec S_ 32 := constantI S_ 32 4294967295#32
  let v2 : IVec S_ 32 := andi arg1 c_0
  let v3 : IVec S1 32 := broadcastInDim S1 ![] bcast_S_S1 v2
  let v4 : IVec S2 32 := (fun a b => concatenate S2 0 [⟨S1, a⟩, ⟨S1, b⟩] concatenates_S1_S1_S2_d0) v1 v3
  let v5 : IVec S1 32 := (extractStridedSlice S1 ![0] · slices_S2_S1_0) arg0
  let v6 : IVec S_ 32 := shapeCast S_ v5 shapeCasts_S1_S_
  let v7 : IVec S1 32 := (extractStridedSlice S1 ![1] · slices_S2_S1_1) arg0
  let v8 : IVec S_ 32 := shapeCast S_ v7 shapeCasts_S1_S_
  let v9 : IVec S1 32 := (extractStridedSlice S1 ![0] · slices_S2_S1_0) v4
  let v10 : IVec S1 32 := (extractStridedSlice S1 ![1] · slices_S2_S1_1) v4
  let v11_0 : IVec S1 32 := (fn_threefry2x32 (F := F) v6 v8 v9 v10).1
  let v11_1 : IVec S1 32 := (fn_threefry2x32 (F := F) v6 v8 v9 v10).2
  let v12 : IVec S2 32 := (fun a b => concatenate S2 0 [⟨S1, a⟩, ⟨S1, b⟩] concatenates_S1_S1_S2_d0) v11_0 v11_1
  v12

def fn_threefry2x32_0_part9 {F : FTy → Type} [FloatOps F] (arg0 : IVec S_ 32) (v163 : IVec S128x8 32) (v169 : IVec S128x8 32) (v170 : IVec S128x8 32) : IVec S128x8 32 × IVec S128x8 32 :=
  let v171 : IVec S128x8 32 := addi v163 v170
  let v172 : IVec S128x8 32 := broadcastInDim S128x8 ![] bcast_S_S128x8 arg0
  let v173 : IVec S128x8 32 := addi v169 v172
  let c_44 : IVec S_ 32 := constantI S_ 32 5#32
  let v174 : IVec S128x8 32 := broadcastInDim S128x8 ![] bcast_S_S128x8 c_44
  let v175 : IVec S128x8 32 := addi v173 v174
  (v171, v175)

def fn_threefry2x32_0_part8 {F : FTy → Type} [FloatOps F] (arg0 : IVec S_ 32) (v1 : IVec S_ 32) (v148 : IVec S128x8 32) (v149 : IVec S128x8 32) (v151 : IVec S128x8 32) : IVec S128x8 32 × IVec S128x8 32 :=
  let c_39 : IVec S_ 32 := constantI S_ 32 17#32
  let v152 : IVec S128x8 32 := broadcastInDim S128x8 ![] bcast_S_S128x8 c_39
  let v153 : IVec S128x8 32 := Host.shrui v148 v152
  let v154 : IVec S128x8 32 := ori v151 v153
  let v155 : IVec S128x8 32 := xori v149 v154
  let v156 : IVec S128x8 32 := addi v149 v155
  let c_40 : IVec S_ 32 := constantI S_ 32 26#32
  let v157 : IVec S128x8 32 := broadcastInDim S128x8 ![] bcast_S_S128x8 c_40
  let v158 : IVec S128x8 32 := Host.shli v155 v157
  let c_41 : IVec S_ 32 := constantI S_ 32 6#32
  let v159 : IVec S128x8 32 := broadcastInDim S128x8 ![] bcast_S_S128x8 c_41
  let v160 : IVec S128x8 32 := Host.shrui v155 v159
  let v161 : IVec S128x8 32 := ori v158 v160
  let v162 : IVec S128x8 32 := xori v156 v161
  let v163 : IVec S128x8 32 := addi v156 v162
  let c_42 : IVec S_ 32 := constantI S_ 32 6#32
  let v164 : IVec S128x8 32 := broadcastInDim S128x8 ![] bcast_S_S128x8 c_42
  let v165 : IVec S128x8 32 := Host.shli v162 v164
  let c_43 : IVec S_ 32 := constantI S_ 32 26#32
  let v166 : IVec S128x8 32 := broadcastInDim S128x8 ![] bcast_S_S128x8 c_43
  let v167 : IVec S128x8 32 := Host.shrui v162 v166
  let v168 : IVec S128x8 32 := ori v165 v167
  let v169 : IVec S128x8 32 := xori v163 v168
  let v170 : IVec S128x8 32 := broadcastInDim S128x8 ![] bcast_S_S128x8 v1
  fn_threefry2x32_0_part9 (F := F) arg0 v163 v169 v170

def fn_threefry2x32_0_part7 {F : FTy → Type} [FloatOps F] (arg0 : IVec S_ 32) (arg1 : IVec S_ 32) (v1 : IVec S_ 32) (v128 : IVec S128x8 32) (v129 : IVec S128x8 32) (v131 : IVec S128x8 32) (c_34 : IVec S_ 32) : IVec S128x8 32 × IVec S128x8 32 :=
  let v132 : IVec S128x8 32 := broadcastInDim S128x8 ![] bcast_S_S128x8 c_34
  let v133 : IVec S128x8 32 := Host.shrui v128 v132
  let v134 : IVec S128x8 32 := ori v131 v133
  let v135 : IVec S128x8 32 := xori v129 v134
  let v136 : IVec S128x8 32 := broadcastInDim S128x8 ![] bcast_S_S128x8 arg1
  let v137 : IVec S128x8 32 := addi v129 v136
  let v138 : IVec S128x8 32 := broadcastInDim S128x8 ![] bcast_S_S128x8 v1
  let v139 : IVec S128x8 32 := addi v135 v138
  let c_35 : IVec S_ 32 := constantI S_ 32 4#32
  let v140 : IVec S128x8 32 := broadcastInDim S128x8 ![] bcast_S_S128x8 c_35
  let v141 : IVec S128x8 32 := addi v139 v140
  let v142 : IVec S128x8 32 := addi v137 v141
  let c_36 : IVec S_ 32 := constantI S_ 32 13#32
  let v143 : IVec S128x8 32 := broadcastInDim S128x8 ![] bcast_S_S128x8 c_36
  let v144 : IVec S128x8 32 := Host.shli v141 v143
  let c_37 : IVec S_ 32 := constantI S_ 32 19#32
  let v145 : IVec S128x8 32 := broadcastInDim S128x8 ![] bcast_S_S128x8 c_37
  let v146 : IVec S128x8 32 := Host.shrui v141 v145
  let v147 : IVec S128x8 32 := ori v144 v146
  let v148 : IVec S128x8 32 := xori v142 v147
  let v149 : IVec S128x8 32 := addi v142 v148
  let c_38 : IVec S_ 32 := constantI S_ 32 15#32
  let v150 : IVec S128x8 32 := broadcastInDim S128x8 ![] bcast_S_S128x8 c_38
  let v151 : IVec S128x8 32 := Host.shli v148 v150
  fn_threefry2x32_0_part8 (F := F) arg0 v1 v148 v149 v151

def fn_threefry2x32_0_part6 {F : FTy → Type} [FloatOps F] (arg0 : IVec S_ 32) (arg1 : IVec S_ 32) (v1 : IVec S_ 32) (v108 : IVec S128x8 32) (v113 : IVec S128x8 32) : IVec S128x8 32 × IVec S128x8 32 :=
  let v114 : IVec S128x8 32 := xori v108 v113
  let v115 : IVec S128x8 32 := addi v108 v114
  let c_29 : IVec S_ 32 := constantI S_ 32 29#32
  let v116 : IVec S128x8 32 := broadcastInDim S128x8 ![] bcast_S_S128x8 c_29
  let v117 : IVec S128x8 32 := Host.shli v114 v116
  let c_30 : IVec S_ 32 := constantI S_ 32 3#32
  let v118 : IVec S128x8 32 := broadcastInDim S128x8 ![] bcast_S_S128x8 c_30
  let v119 : IVec S128x8 32 := Host.shrui v114 v118
  let v120 : IVec S128x8 32 := ori v117 v119
  let v121 : IVec S128x8 32 := xori v115 v120
  let v122 : IVec S128x8 32 := addi v115 v121
  let c_31 : IVec S_ 32 := constantI S_ 32 16#32
  let v123 : IVec S128x8 32 := broadcastInDim S128x8 ![] bcast_S_S128x8 c_31
  let v124 : IVec S128x8 32 := Host.shli v121 v123
  let c_32 : IVec S_ 32 := constantI S_ 32 16#32
  let v125 : IVec S128x8 32 := broadcastInDim S128x8 ![] bcast_S_S128x8 c_32
  let v126 : IVec S128x8 32 := Host.shrui v121 v125
  let v127 : IVec S128x8 32 := ori v124 v126
  let v128 : IVec S128x8 32 := xori v122 v127
  let v129 : IVec S128x8 32 := addi v122 v128
  let c_33 : IVec S_ 32 := constantI S_ 32 24#32
  let v130 : IVec S128x8 32 := broadcastInDim S128x8 ![] bcast_S_S128x8 c_33
  let v131 : IVec S128x8 32 := Host.shli v128 v130
  let c_34 : IVec S_ 32 := constantI S_ 32 8#32
  fn_threefry2x32_0_part7 (F := F) arg0 arg1 v1 v128 v129 v131 c_34

def fn_threefry2x32_0_part5 {F : FTy → Type} [FloatOps F] (arg0 : IVec S_ 32) (arg1 : IVec S_ 32) (v1 : IVec S_ 32) (v88 : IVec S128x8 32) (v94 : IVec S128x8 32) : IVec S128x8 32 × IVec S128x8 32 :=
  let v95 : IVec S128x8 32 := addi v88 v94
  let c_24 : IVec S_ 32 := constantI S_ 32 6#32
  let v96 : IVec S128x8 32 := broadcastInDim S128x8 ![] bcast_S_S128x8 c_24
  let v97 : IVec S128x8 32 := Host.shli v94 v96
  let c_25 : IVec S_ 32 := constantI S_ 32 26#32
  let v98 : IVec S128x8 32 := broadcastInDim S128x8 ![] bcast_S_S128x8 c_25
  let v99 : IVec S128x8 32 := Host.shrui v94 v98
  let v100 : IVec S128x8 32 := ori v97 v99
  let v101 : IVec S128x8 32 := xori v95 v100
  let v102 : IVec S128x8 32 := broadcastInDim S128x8 ![] bcast_S_S128x8 arg0
  let v103 : IVec S128x8 32 := addi v95 v102
  let v104 : IVec S128x8 32 := broadcastInDim S128x8 ![] bcast_S_S128x8 arg1
  let v105 : IVec S128x8 32 := addi v101 v104
  let c_26 : IVec S_ 32 := constantI S_ 32 3#32
  let v106 : IVec S128x8 32 := broadcastInDim S128x8 ![] bcast_S_S128x8 c_26
  let v107 : IVec S128x8 32 := addi v105 v106
  let v108 : IVec S128x8 32 := addi v103 v107
  let c_27 : IVec S_ 32 := constantI S_ 32 17#32
  let v109 : IVec S128x8 32 := broadcastInDim S128x8 ![] bcast_S_S128x8 c_27
  let v110 : IVec S128x8 32 := Host.shli v107 v109
  let c_28 : IVec S_ 32 := constantI S_ 32 15#32
  let v111 : IVec S128x8 32 := broadcastInDim S128x8 ![] bcast_S_S128x8 c_28
  let v112 : IVec S128x8 32 := Host.shrui v107 v111
  let v113 : IVec S128x8 32 := ori v110 v112
  fn_threefry2x32_0_part6 (F := F) arg0 arg1 v1 v108 v113

def fn_threefry2x32_0_part4 {F : FTy → Type} [FloatOps F] (arg0 : IVec S_ 32) (arg1 : IVec S_ 32) (v1 : IVec S_ 32) (v73 : IVec S128x8 32) (v74 : IVec S128x8 32) (v75 : IVec S128x8 32) : IVec S128x8 32 × IVec S128x8 32 :=
  let v76 : IVec S128x8 32 := Host.shli v73 v75
  let c_19 : IVec S_ 32 := constantI S_ 32 19#32
  let v77 : IVec S128x8 32 := broadcastInDim S128x8 ![] bcast_S_S128x8 c_19
  let v78 : IVec S128x8 32 := Host.shrui v73 v77
  let v79 : IVec S128x8 32 := ori v76 v78
  let v80 : IVec S128x8 32 := xori v74 v79
  let v81 : IVec S128x8 32 := addi v74 v80
  let c_20 : IVec S_ 32 := constantI S_ 32 15#32
  let v82 : IVec S128x8 32 := broadcastInDim S128x8 ![] bcast_S_S128x8 c_20
  let v83 : IVec S128x8 32 := Host.shli v80 v82
  let c_21 : IVec S_ 32 := constantI S_ 32 17#32
  let v84 : IVec S128x8 32 := broadcastInDim S128x8 ![] bcast_S_S128x8 c_21
  let v85 : IVec S128x8 32 := Host.shrui v80 v84
  let v86 : IVec S128x8 32 := ori v83 v85
  let v87 : IVec S128x8 32 := xori v81 v86
  let v88 : IVec S128x8 32 := addi v81 v87
  let c_22 : IVec S_ 32 := constantI S_ 32 26#32
  let v89 : IVec S128x8 32 := broadcastInDim S128x8 ![] bcast_S_S128x8 c_22
  let v90 : IVec S128x8 32 := Host.shli v87 v89
  let c_23 : IVec S_ 32 := constantI S_ 32 6#32
  let v91 : IVec S128x8 32 := broadcastInDim S128x8 ![] bcast_S_S128x8 c_23
  let v92 : IVec S128x8 32 := Host.shrui v87 v91
  let v93 : IVec S128x8 32 := ori v90 v92
  let v94 : IVec S128x8 32 := xori v88 v93
  fn_threefry2x32_0_part5 (F := F) arg0 arg1 v1 v88 v94

def fn_threefry2x32_0_part3 {F : FTy → Type} [FloatOps F] (arg0 : IVec S_ 32) (arg1 : IVec S_ 32) (v1 : IVec S_ 32) (v53 : IVec S128x8 32) (v54 : IVec S128x8 32) (v56 : IVec S128x8 32) : IVec S128x8 32 × IVec S128x8 32 :=
  let c_14 : IVec S_ 32 := constantI S_ 32 16#32
  let v57 : IVec S128x8 32 := broadcastInDim S128x8 ![] bcast_S_S128x8 c_14
  let v58 : IVec S128x8 32 := Host.shrui v53 v57
  let v59 : IVec S128x8 32 := ori v56 v58
  let v60 : IVec S128x8 32 := xori v54 v59
  let v61 : IVec S128x8 32 := addi v54 v60
  let c_15 : IVec S_ 32 := constantI S_ 32 24#32
  let v62 : IVec S128x8 32 := broadcastInDim S128x8 ![] bcast_S_S128x8 c_15
  let v63 : IVec S128x8 32 := Host.shli v60 v62
  let c_16 : IVec S_ 32 := constantI S_ 32 8#32
  let v64 : IVec S128x8 32 := broadcastInDim S128x8 ![] bcast_S_S128x8 c_16
  let v65 : IVec S128x8 32 := Host.shrui v60 v64
  let v66 : IVec S128x8 32 := ori v63 v65
  let v67 : IVec S128x8 32 := xori v61 v66
  let v68 : IVec S128x8 32 := broadcastInDim S128x8 ![] bcast_S_S128x8 v1
  let v69 : IVec S128x8 32 := addi v61 v68
  let v70 : IVec S128x8 32 := broadcastInDim S128x8 ![] bcast_S_S128x8 arg0
  let v71 : IVec S128x8 32 := addi v67 v70
  let c_17 : IVec S_ 32 := constantI S_ 32 2#32
  let v72 : IVec S128x8 32 := broadcastInDim S128x8 ![] bcast_S_S128x8 c_17
  let v73 : IVec S128x8 32 := addi v71 v72
  let v74 : IVec S128x8 32 := addi v69 v73
  let c_18 : IVec S_ 32 := constantI S_ 32 13#32
  let v75 : IVec S128x8 32 := broadcastInDim S128x8 ![] bcast_S_S128x8 c_18
  fn_threefry2x32_0_part4 (F := F) arg0 arg1 v1 v73 v74 v75

def fn_threefry2x32_0_part2 {F : FTy → Type} [FloatOps F] (arg0 : IVec S_ 32) (arg1 : IVec S_ 32) (v1 : IVec S_ 32) (v35 : IVec S128x8 32) (v37 : IVec S128x8 32) (c_8 : IVec S_ 32) : IVec S128x8 32 × IVec S128x8 32 :=
  let v38 : IVec S128x8 32 := broadcastInDim S128x8 ![] bcast_S_S128x8 c_8
  let v39 : IVec S128x8 32 := addi v37 v38
  let v40 : IVec S128x8 32 := addi v35 v39
  let c_9 : IVec S_ 32 := constantI S_ 32 17#32
  let v41 : IVec S128x8 32 := broadcastInDim S128x8 ![] bcast_S_S128x8 c_9
  let v42 : IVec S128x8 32 := Host.shli v39 v41
  let c_10 : IVec S_ 32 := constantI S_ 32 15#32
  let v43 : IVec S128x8 32 := broadcastInDim S128x8 ![] bcast_S_S128x8 c_10
  let v44 : IVec S128x8 32 := Host.shrui v39 v43
  let v45 : IVec S128x8 32 := ori v42 v44
  let v46 : IVec S128x8 32 := xori v40 v45
  let v47 : IVec S128x8 32 := addi v40 v46
  let c_11 : IVec S_ 32 := constantI S_ 32 29#32
  let v48 : IVec S128x8 32 := broadcastInDim S128x8 ![] bcast_S_S128x8 c_11
  let v49 : IVec S128x8 32 := Host.shli v46 v48
  let c_12 : IVec S_ 32 := constantI S_ 32 3#32
  let v50 : IVec S128x8 32 := broadcastInDim S128x8 ![] bcast_S_S128x8 c_12
  let v51 : IVec S128x8 32 := Host.shrui v46 v50
  let v52 : IVec S128x8 32 := ori v49 v51
  let v53 : IVec S128x8 32 := xori v47 v52
  let v54 : IVec S128x8 32 := addi v47 v53
  let c_13 : IVec S_ 32 := constantI S_ 32 16#32
  let v55 : IVec S128x8 32 := broadcastInDim S128x8 ![] bcast_S_S128x8 c_13
  let v56 : IVec S128x8 32 := Host.shli v53 v55
  fn_threefry2x32_0_part3 (F := F) arg0 arg1 v1 v53 v54 v56

def fn_threefry2x32_0_part1 {F : FTy → Type} [FloatOps F] (arg0 : IVec S_ 32) (arg1 : IVec S_ 32) (v1 : IVec S_ 32) (v13 : IVec S128x8 32) (v18 : IVec S128x8 32) : IVec S128x8 32 × IVec S128x8 32 :=
  let v19 : IVec S128x8 32 := xori v13 v18
  let v20 : IVec S128x8 32 := addi v13 v19
  let c_4 : IVec S_ 32 := constantI S_ 32 26#32
  let v21 : IVec S128x8 32 := broadcastInDim S128x8 ![] bcast_S_S128x8 c_4
  let v22 : IVec S128x8 32 := Host.shli v19 v21
  let c_5 : IVec S_ 32 := constantI S_ 32 6#32
  let v23 : IVec S128x8 32 := broadcastInDim S128x8 ![] bcast_S_S128x8 c_5
  let v24 : IVec S128x8 32 := Host.shrui v19 v23
  let v25 : IVec S128x8 32 := ori v22 v24
  let v26 : IVec S128x8 32 := xori v20 v25
  let v27 : IVec S128x8 32 := addi v20 v26
  let c_6 : IVec S_ 32 := constantI S_ 32 6#32
  let v28 : IVec S128x8 32 := broadcastInDim S128x8 ![] bcast_S_S128x8 c_6
  let v29 : IVec S128x8 32 := Host.shli v26 v28
  let c_7 : IVec S_ 32 := constantI S_ 32 26#32
  let v30 : IVec S128x8 32 := broadcastInDim S128x8 ![] bcast_S_S128x8 c_7
  let v31 : IVec S128x8 32 := Host.shrui v26 v30
  let v32 : IVec S128x8 32 := ori v29 v31
  let v33 : IVec S128x8 32 := xori v27 v32
  let v34 : IVec S128x8 32 := broadcastInDim S128x8 ![] bcast_S_S128x8 arg1
  let v35 : IVec S128x8 32 := addi v27 v34
  let v36 : IVec S128x8 32 := broadcastInDim S128x8 ![] bcast_S_S128x8 v1
  let v37 : IVec S128x8 32 := addi v33 v36
  let c_8 : IVec S_ 32 := constantI S_ 32 1#32
  fn_threefry2x32_0_part2 (F := F) arg0 arg1 v1 v35 v37 c_8

def fn_threefry2x32_0 {F : FTy → Type} [FloatOps F] (arg0 : IVec S_ 32) (arg1 : IVec S_ 32) (arg2 : IVec S128x8 32) (arg3 : IVec S128x8 32) : IVec S128x8 32 × IVec S128x8 32 :=
  let v0 : IVec S_ 32 := xori arg0 arg1
  let c : IVec S_ 32 := constantI S_ 32 466688986#32
  let v1 : IVec S_ 32 := xori v0 c
  let v2 : IVec S128x8 32 := broadcastInDim S128x8 ![] bcast_S_S128x8 arg0
  let v3 : IVec S128x8 32 := addi arg2 v2
  let v4 : IVec S128x8 32 := broadcastInDim S128x8 ![] bcast_S_S128x8 arg1
  let v5 : IVec S128x8 32 := addi arg3 v4
  let v6 : IVec S128x8 32 := addi v3 v5
  let c_0 : IVec S_ 32 := constantI S_ 32 13#32
  let v7 : IVec S128x8 32 := broadcastInDim S128x8 ![] bcast_S_S128x8 c_0
  let v8 : IVec S128x8 32 := Host.shli v5 v7
  let c_1 : IVec S_ 32 := constantI S_ 32 19#32
  let v9 : IVec S128x8 32 := broadcastInDim S128x8 ![] bcast_S_S128x8 c_1
  let v10 : IVec S128x8 32 := Host.shrui v5 v9
  let v11 : IVec S128x8 32 := ori v8 v10
  let v12 : IVec S128x8 32 := xori v6 v11
  let v13 : IVec S128x8 32 := addi v6 v12
  let c_2 : IVec S_ 32 := constantI S_ 32 15#32
  let v14 : IVec S128x8 32 := broadcastInDim S128x8 ![] bcast_S_S128x8 c_2
  let v15 : IVec S128x8 32 := Host.shli v12 v14
  let c_3 : IVec S_ 32 := constantI S_ 32 17#32
  let v16 : IVec S128x8 32 := broadcastInDim S128x8 ![] bcast_S_S128x8 c_3
  let v17 : IVec S128x8 32 := Host.shrui v12 v16
  let v18 : IVec S128x8 32 := ori v15 v17
  fn_threefry2x32_0_part1 (F := F) arg0 arg1 v1 v13 v18

def fn_uniform_part1 {F : FTy → Type} [FloatOps F] (v1 : FVec F S1x1 .f32) (v2 : FVec F S1x1 .f32) (v19 : IVec S128x8 32) : FVec F S128x8 .f32 :=
  let c_2 : IVec S_ 32 := constantI S_ 32 9#32
  let v20 : IVec S128x8 32 := broadcastInDim S128x8 ![] bcast_S_S128x8 c_2
  let v21 : IVec S128x8 32 := Host.shrui v19 v20
  let c_3 : IVec S_ 32 := constantI S_ 32 1065353216#32
  let v22 : IVec S128x8 32 := broadcastInDim S128x8 ![] bcast_S_S128x8 c_3
  let v23 : IVec S128x8 32 := ori v21 v22
  let v24 : FVec F S128x8 .f32 := bitcastToFloat .f32 v23
  let cst : FVec F S_ .f32 := constant S_ .f32 0x3F800000#32
  let v25 : FVec F S128x8 .f32 := broadcastInDim S128x8 ![] bcast_S_S128x8 cst
  let v26 : FVec F S128x8 .f32 := subf v24 v25
  let v27 : FVec F S1x1 .f32 := subf v2 v1
  let v28 : FVec F S128x8 .f32 := broadcastInDim S128x8 ![0, 1] bcast_S1x1_S128x8_0_1 v27
  let v29 : FVec F S128x8 .f32 := mulf v26 v28
  let v30 : FVec F S128x8 .f32 := broadcastInDim S128x8 ![0, 1] bcast_S1x1_S128x8_0_1 v1
  let v31 : FVec F S128x8 .f32 := addf v29 v30
  let v32 : FVec F S128x8 .f32 := broadcastInDim S128x8 ![0, 1] bcast_S1x1_S128x8_0_1 v1
  let v33 : FVec F S128x8 .f32 := maximumf v32 v31
  v33

def fn_uniform {F : FTy → Type} [FloatOps F] (arg0 : IVec S2 32) (arg1 : FVec F S_ .f32) (arg2 : FVec F S_ .f32) : FVec F S128x8 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S128x8 64 := iotaInDim S128x8 64 0
  let v8 : IVec S128x8 64 := iotaInDim S128x8 64 1
  let c : IVec S_ 64 := constantI S_ 64 8#64
  let v9 : IVec S128x8 64 := broadcastInDim S128x8 ![] bcast_S_S128x8 c
  let v10 : IVec S128x8 64 := muli v9 v7
  let c_0 : IVec S_ 64 := constantI S_ 64 1#64
  let v11 : IVec S128x8 64 := broadcastInDim S128x8 ![] bcast_S_S128x8 c_0
  let v12 : IVec S128x8 64 := muli v11 v8
  let v13 : IVec S128x8 64 := addi v10 v12
  let c_1 : IVec S_ 64 := constantI S_ 64 32#64
  let v14 : IVec S128x8 64 := broadcastInDim S128x8 ![] bcast_S_S128x8 c_1
  let v15 : IVec S128x8 64 := Host.shrui v13 v14
  let v16 : IVec S128x8 32 := (trunci 32 · natLt_32_64) v13
  let v17 : IVec S128x8 32 := (trunci 32 · natLt_32_64) v15
  let v18_0 : IVec S128x8 32 := (fn_threefry2x32_0 (F := F) v4 v6 v17 v16).1
  let v18_1 : IVec S128x8 32 := (fn_threefry2x32_0 (F := F) v4 v6 v17 v16).2
  let v19 : IVec S128x8 32 := xori v18_0 v18_1
  fn_uniform_part1 (F := F) v1 v2 v19

def fn_gumbel {F : FTy → Type} [FloatOps F] (arg0 : IVec S2 32) : FVec F S128x8 .f32 :=
  let cst : FVec F S_ .f32 := constant S_ .f32 0x3F800000#32
  let cst_0 : FVec F S_ .f32 := constant S_ .f32 0x00800000#32
  let v0 : FVec F S128x8 .f32 := fn_uniform (F := F) arg0 cst cst_0
  let v1 : FVec F S128x8 .f32 := Host.log v0
  let v2 : FVec F S128x8 .f32 := Host.negf v1
  let v3 : FVec F S128x8 .f32 := Host.log v2
  let v4 : FVec F S128x8 .f32 := Host.negf v3
  v4

def fn_argmax {F : FTy → Type} [FloatOps F] (arg0 : FVec F S128x8 .f32) : IVec S128 32 :=
  let v0 : IVec S128x8 32 := iotaInDim S128x8 32 1
  let cst : FVec F S_ .f32 := constant S_ .f32 0xFF800000#32
  let c : IVec S_ 32 := constantI S_ 32 0#32
  let v1_0 : FVec F S128 .f32 := (fun x y u v j => (Host.argReduce reducer_argmax_f32_i32 x y u v reducesTo_S128x8_S128_d1 h_S_ j).1) arg0 v0 cst c
  let v1_1 : IVec S128 32 := (fun x y u v j => (Host.argReduce reducer_argmax_f32_i32 x y u v reducesTo_S128x8_S128_d1 h_S_ j).2) arg0 v0 cst c
  v1_1

def fn_part6 {F : FTy → Type} [FloatOps F] (main_v42 : IVec S128x3x224x224 32) (main_v85 : IVec S128x3x224x224 32) (main_v86 : IVec S128x3x224x224 32) (main_v106 : IVec S128x3x224x224 1) (main_v108 : IVec S128x3x224x224 1) (main_c_32 : IVec S_ 32) : IVec S128x3x224x224 1 :=
  let main_v109 : IVec S128x3x224x224 32 := broadcastInDim S128x3x224x224 ![] bcast_S_S128x3x224x224 main_c_32
  let main_v110 : IVec S128x3x224x224 1 := cmpi .eq main_v85 main_v109
  let main_v111 : IVec S128x3x224x224 1 := andi main_v108 main_v110
  let main_c_33 : IVec S_ 32 := constantI S_ 32 150#32
  let main_v112 : IVec S128x3x224x224 32 := broadcastInDim S128x3x224x224 ![] bcast_S_S128x3x224x224 main_c_33
  let main_v113 : IVec S128x3x224x224 1 := cmpi .slt main_v86 main_v112
  let main_v114 : IVec S128x3x224x224 1 := andi main_v111 main_v113
  let main_v115 : IVec S128x3x224x224 1 := ori main_v106 main_v114
  let main_c_34 : IVec S_ 32 := constantI S_ 32 2#32
  let main_v116 : IVec S128x3x224x224 32 := broadcastInDim S128x3x224x224 ![] bcast_S_S128x3x224x224 main_c_34
  let main_v117 : IVec S128x3x224x224 1 := cmpi .eq main_v42 main_v116
  let main_c_35 : IVec S_ 32 := constantI S_ 32 2#32
  let main_v118 : IVec S128x3x224x224 32 := broadcastInDim S128x3x224x224 ![] bcast_S_S128x3x224x224 main_c_35
  let main_v119 : IVec S128x3x224x224 1 := cmpi .ne main_v85 main_v118
  let main_v120 : IVec S128x3x224x224 1 := andi main_v117 main_v119
  let main_c_36 : IVec S_ 32 := constantI S_ 32 4#32
  let main_v121 : IVec S128x3x224x224 32 := broadcastInDim S128x3x224x224 ![] bcast_S_S128x3x224x224 main_c_36
  let main_v122 : IVec S128x3x224x224 1 := cmpi .ne main_v85 main_v121
  let main_v123 : IVec S128x3x224x224 1 := andi main_v120 main_v122
  let main_c_37 : IVec S_ 32 := constantI S_ 32 120#32
  let main_v124 : IVec S128x3x224x224 32 := broadcastInDim S128x3x224x224 ![] bcast_S_S128x3x224x224 main_c_37
  let main_v125 : IVec S128x3x224x224 1 := cmpi .slt main_v86 main_v124
  let main_v126 : IVec S128x3x224x224 1 := andi main_v123 main_v125
  let main_v127 : IVec S128x3x224x224 1 := ori main_v115 main_v126
  main_v127

def fn_part5 {F : FTy → Type} [FloatOps F] (main_v42 : IVec S128x3x224x224 32) (main_v85 : IVec S128x3x224x224 32) (main_v86 : IVec S128x3x224x224 32) (main_v91 : IVec S128x3x224x224 1) : IVec S128x3x224x224 1 :=
  let main_c_26 : IVec S_ 32 := constantI S_ 32 2#32
  let main_v92 : IVec S128x3x224x224 32 := broadcastInDim S128x3x224x224 ![] bcast_S_S128x3x224x224 main_c_26
  let main_v93 : IVec S128x3x224x224 1 := cmpi .eq main_v42 main_v92
  let main_c_27 : IVec S_ 32 := constantI S_ 32 1#32
  let main_v94 : IVec S128x3x224x224 32 := broadcastInDim S128x3x224x224 ![] bcast_S_S128x3x224x224 main_c_27
  let main_v95 : IVec S128x3x224x224 1 := cmpi .eq main_v85 main_v94
  let main_v96 : IVec S128x3x224x224 1 := andi main_v93 main_v95
  let main_v97 : IVec S128x3x224x224 1 := ori main_v91 main_v96
  let main_c_28 : IVec S_ 32 := constantI S_ 32 2#32
  let main_v98 : IVec S128x3x224x224 32 := broadcastInDim S128x3x224x224 ![] bcast_S_S128x3x224x224 main_c_28
  let main_v99 : IVec S128x3x224x224 1 := cmpi .eq main_v42 main_v98
  let main_c_29 : IVec S_ 32 := constantI S_ 32 2#32
  let main_v100 : IVec S128x3x224x224 32 := broadcastInDim S128x3x224x224 ![] bcast_S_S128x3x224x224 main_c_29
  let main_v101 : IVec S128x3x224x224 1 := cmpi .eq main_v85 main_v100
  let main_v102 : IVec S128x3x224x224 1 := andi main_v99 main_v101
  let main_c_30 : IVec S_ 32 := constantI S_ 32 104#32
  let main_v103 : IVec S128x3x224x224 32 := broadcastInDim S128x3x224x224 ![] bcast_S_S128x3x224x224 main_c_30
  let main_v104 : IVec S128x3x224x224 1 := cmpi .sge main_v86 main_v103
  let main_v105 : IVec S128x3x224x224 1 := andi main_v102 main_v104
  let main_v106 : IVec S128x3x224x224 1 := ori main_v97 main_v105
  let main_c_31 : IVec S_ 32 := constantI S_ 32 2#32
  let main_v107 : IVec S128x3x224x224 32 := broadcastInDim S128x3x224x224 ![] bcast_S_S128x3x224x224 main_c_31
  let main_v108 : IVec S128x3x224x224 1 := cmpi .ne main_v42 main_v107
  let main_c_32 : IVec S_ 32 := constantI S_ 32 2#32
  fn_part6 (F := F) main_v42 main_v85 main_v86 main_v106 main_v108 main_c_32

def fn_part4 {F : FTy → Type} [FloatOps F] (main_v42 : IVec S128x3x224x224 32) (main_v49 : IVec S2 32) (main_v67 : FVec F S1x8 .f32) (main_v71 : FVec F S1x1 .f32) : IVec S128x3x224x224 1 :=
  let main_v72 : FVec F S1x8 .f32 := broadcastInDim S1x8 ![0, 1] bcast_S1x1_S1x8_0_1 main_v71
  let main_v73 : FVec F S1x8 .f32 := subf main_v67 main_v72
  let main_v74 : FVec F S1x8 .f32 := Host.exp main_v73
  let main_cst_22 : FVec F S_ .f32 := constant S_ .f32 0x00000000#32
  let main_v75 : FVec F S1 .f32 := (fun x v => Host.reduceAdd x v reducesTo_S1x8_S1_d1 h_S_) main_v74 main_cst_22
  let main_v76 : FVec F S1x1 .f32 := broadcastInDim S1x1 ![0] bcast_S1_S1x1_0 main_v75
  let main_v77 : FVec F S1x8 .f32 := broadcastInDim S1x8 ![0, 1] bcast_S1x1_S1x8_0_1 main_v76
  let main_v78 : FVec F S1x8 .f32 := Host.divf main_v74 main_v77
  let main_v79 : FVec F S128x8 .f32 := broadcastInDim S128x8 ![0, 1] bcast_S1x8_S128x8_0_1 main_v78
  let main_v80 : FVec F S128x8 .f32 := Host.log main_v79
  let main_c_23 : IVec S_ 32 := constantI S_ 32 1#32
  let main_v81 : IVec S2 32 := fn_threefry_fold_in (F := F) main_v49 main_c_23
  let main_v82 : FVec F S128x8 .f32 := fn_gumbel (F := F) main_v81
  let main_v83 : FVec F S128x8 .f32 := addf main_v82 main_v80
  let main_v84 : IVec S128 32 := fn_argmax (F := F) main_v83
  let main_v85 : IVec S128x3x224x224 32 := broadcastInDim S128x3x224x224 ![0] bcast_S128_S128x3x224x224_0 main_v84
  let main_v86 : IVec S128x3x224x224 32 := iotaInDim S128x3x224x224 32 2
  let main_c_24 : IVec S_ 32 := constantI S_ 32 2#32
  let main_v87 : IVec S128x3x224x224 32 := broadcastInDim S128x3x224x224 ![] bcast_S_S128x3x224x224 main_c_24
  let main_v88 : IVec S128x3x224x224 1 := cmpi .ne main_v42 main_v87
  let main_c_25 : IVec S_ 32 := constantI S_ 32 2#32
  let main_v89 : IVec S128x3x224x224 32 := broadcastInDim S128x3x224x224 ![] bcast_S_S128x3x224x224 main_c_25
  let main_v90 : IVec S128x3x224x224 1 := cmpi .ne main_v85 main_v89
  let main_v91 : IVec S128x3x224x224 1 := andi main_v88 main_v90
  fn_part5 (F := F) main_v42 main_v85 main_v86 main_v91

def fn_part3 {F : FTy → Type} [FloatOps F] (main_arg1 : FVec F S8 .f32) (main_v42 : IVec S128x3x224x224 32) (main_v49 : IVec S2 32) (main_v50 : FVec F S1x8 .f32) (main_v51 : FVec F S1 .f32) (main_v52 : FVec F S1 .f32) : IVec S128x3x224x224 1 :=
  let main_v53 : FVec F S1 .f32 := maximumf main_v52 main_v51
  let main_v54 : FVec F S1x1 .f32 := broadcastInDim S1x1 ![0] bcast_S1_S1x1_0 main_v53
  let main_v55 : FVec F S1x8 .f32 := broadcastInDim S1x8 ![0, 1] bcast_S1x1_S1x8_0_1 main_v54
  let main_v56 : FVec F S1x8 .f32 := subf main_v50 main_v55
  let main_v57 : FVec F S1x8 .f32 := Host.exp main_v56
  let main_cst_17 : FVec F S_ .f32 := constant S_ .f32 0x00000000#32
  let main_v58 : FVec F S1 .f32 := (fun x v => Host.reduceAdd x v reducesTo_S1x8_S1_d1 h_S_) main_v57 main_cst_17
  let main_v59 : FVec F S1x1 .f32 := broadcastInDim S1x1 ![0] bcast_S1_S1x1_0 main_v58
  let main_v60 : FVec F S1x8 .f32 := broadcastInDim S1x8 ![0, 1] bcast_S1x1_S1x8_0_1 main_v59
  let main_v61 : FVec F S1x8 .f32 := Host.divf main_v57 main_v60
  let main_v62 : FVec F S1x8 .f32 := broadcastInDim S1x8 ![1] bcast_S8_S1x8_1 main_arg1
  let main_cst_18 : FVec F S_ .f32 := constant S_ .f32 0x3F000000#32
  let main_v63 : FVec F S1x8 .f32 := broadcastInDim S1x8 ![] bcast_S_S1x8 main_cst_18
  let main_v64 : FVec F S1x8 .f32 := mulf main_v63 main_v62
  let main_cst_19 : FVec F S_ .f32 := constant S_ .f32 0x3F000000#32
  let main_v65 : FVec F S1x8 .f32 := broadcastInDim S1x8 ![] bcast_S_S1x8 main_cst_19
  let main_v66 : FVec F S1x8 .f32 := mulf main_v65 main_v61
  let main_v67 : FVec F S1x8 .f32 := addf main_v64 main_v66
  let main_cst_20 : FVec F S_ .f32 := constant S_ .f32 0xFF800000#32
  let main_v68 : FVec F S1 .f32 := (fun x v => Host.reduce FloatOps.maximumf x v reducesTo_S1x8_S1_d1 h_S_) main_v67 main_cst_20
  let main_cst_21 : FVec F S_ .f32 := constant S_ .f32 0xFF800000#32
  let main_v69 : FVec F S1 .f32 := broadcastInDim S1 ![] bcast_S_S1 main_cst_21
  let main_v70 : FVec F S1 .f32 := maximumf main_v69 main_v68
  let main_v71 : FVec F S1x1 .f32 := broadcastInDim S1x1 ![0] bcast_S1_S1x1_0 main_v70
  fn_part4 (F := F) main_v42 main_v49 main_v67 main_v71

def fn_part2 {F : FTy → Type} [FloatOps F] (main_arg1 : FVec F S8 .f32) (main_v6 : IVec S2 32) (main_v35 : FVec F S1x8 .f32) : IVec S128x3x224x224 1 :=
  let main_v36 : FVec F S128x8 .f32 := broadcastInDim S128x8 ![0, 1] bcast_S1x8_S128x8_0_1 main_v35
  let main_v37 : FVec F S128x8 .f32 := Host.log main_v36
  let main_c_10 : IVec S_ 32 := constantI S_ 32 0#32
  let main_v38 : IVec S2 32 := fn_threefry_fold_in (F := F) main_v6 main_c_10
  let main_v39 : FVec F S128x8 .f32 := fn_gumbel (F := F) main_v38
  let main_v40 : FVec F S128x8 .f32 := addf main_v39 main_v37
  let main_v41 : IVec S128 32 := fn_argmax (F := F) main_v40
  let main_v42 : IVec S128x3x224x224 32 := broadcastInDim S128x3x224x224 ![0] bcast_S128_S128x3x224x224_0 main_v41
  let main_c_11 : IVec S_ 32 := constantI S_ 32 42#32
  let main_c_12 : IVec S_ 32 := constantI S_ 32 32#32
  let main_v43 : IVec S_ 32 := Host.shrui main_c_11 main_c_12
  let main_v44 : IVec S_ 32 := id main_v43
  let main_v45 : IVec S1 32 := broadcastInDim S1 ![] bcast_S_S1 main_v44
  let main_c_13 : IVec S_ 32 := constantI S_ 32 4294967295#32
  let main_v46 : IVec S_ 32 := andi main_c_11 main_c_13
  let main_v47 : IVec S_ 32 := id main_v46
  let main_v48 : IVec S1 32 := broadcastInDim S1 ![] bcast_S_S1 main_v47
  let main_v49 : IVec S2 32 := (fun a b => concatenate S2 0 [⟨S1, a⟩, ⟨S1, b⟩] concatenates_S1_S1_S2_d0) main_v45 main_v48
  let main_cst_14 : FVec F S_ .f32 := constant S_ .f32 0x3F800000#32
  let main_v50 : FVec F S1x8 .f32 := broadcastInDim S1x8 ![] bcast_S_S1x8 main_cst_14
  let main_cst_15 : FVec F S_ .f32 := constant S_ .f32 0xFF800000#32
  let main_v51 : FVec F S1 .f32 := (fun x v => Host.reduce FloatOps.maximumf x v reducesTo_S1x8_S1_d1 h_S_) main_v50 main_cst_15
  let main_cst_16 : FVec F S_ .f32 := constant S_ .f32 0xFF800000#32
  let main_v52 : FVec F S1 .f32 := broadcastInDim S1 ![] bcast_S_S1 main_cst_16
  fn_part3 (F := F) main_arg1 main_v42 main_v49 main_v50 main_v51 main_v52

def fn_part1 {F : FTy → Type} [FloatOps F] (main_arg1 : FVec F S8 .f32) (main_v6 : IVec S2 32) (main_v14 : FVec F S1x8 .f32) (main_v16 : FVec F S1x1 .f32) : IVec S128x3x224x224 1 :=
  let main_v17 : FVec F S1x8 .f32 := broadcastInDim S1x8 ![0, 1] bcast_S1x1_S1x8_0_1 main_v16
  let main_v18 : FVec F S1x8 .f32 := Host.divf main_v14 main_v17
  let main_v19 : FVec F S1x8 .f32 := broadcastInDim S1x8 ![1] bcast_S8_S1x8_1 main_arg1
  let main_cst_5 : FVec F S_ .f32 := constant S_ .f32 0x3F000000#32
  let main_v20 : FVec F S1x8 .f32 := broadcastInDim S1x8 ![] bcast_S_S1x8 main_cst_5
  let main_v21 : FVec F S1x8 .f32 := mulf main_v20 main_v19
  let main_cst_6 : FVec F S_ .f32 := constant S_ .f32 0x3F000000#32
  let main_v22 : FVec F S1x8 .f32 := broadcastInDim S1x8 ![] bcast_S_S1x8 main_cst_6
  let main_v23 : FVec F S1x8 .f32 := mulf main_v22 main_v18
  let main_v24 : FVec F S1x8 .f32 := addf main_v21 main_v23
  let main_cst_7 : FVec F S_ .f32 := constant S_ .f32 0xFF800000#32
  let main_v25 : FVec F S1 .f32 := (fun x v => Host.reduce FloatOps.maximumf x v reducesTo_S1x8_S1_d1 h_S_) main_v24 main_cst_7
  let main_cst_8 : FVec F S_ .f32 := constant S_ .f32 0xFF800000#32
  let main_v26 : FVec F S1 .f32 := broadcastInDim S1 ![] bcast_S_S1 main_cst_8
  let main_v27 : FVec F S1 .f32 := maximumf main_v26 main_v25
  let main_v28 : FVec F S1x1 .f32 := broadcastInDim S1x1 ![0] bcast_S1_S1x1_0 main_v27
  let main_v29 : FVec F S1x8 .f32 := broadcastInDim S1x8 ![0, 1] bcast_S1x1_S1x8_0_1 main_v28
  let main_v30 : FVec F S1x8 .f32 := subf main_v24 main_v29
  let main_v31 : FVec F S1x8 .f32 := Host.exp main_v30
  let main_cst_9 : FVec F S_ .f32 := constant S_ .f32 0x00000000#32
  let main_v32 : FVec F S1 .f32 := (fun x v => Host.reduceAdd x v reducesTo_S1x8_S1_d1 h_S_) main_v31 main_cst_9
  let main_v33 : FVec F S1x1 .f32 := broadcastInDim S1x1 ![0] bcast_S1_S1x1_0 main_v32
  let main_v34 : FVec F S1x8 .f32 := broadcastInDim S1x8 ![0, 1] bcast_S1x1_S1x8_0_1 main_v33
  let main_v35 : FVec F S1x8 .f32 := Host.divf main_v31 main_v34
  fn_part2 (F := F) main_arg1 main_v6 main_v35

def fn {F : FTy → Type} [FloatOps F] (main_arg0 : FVec F S128x3x224x224 .f32) (main_arg1 : FVec F S8 .f32) (main_arg2 : FVec F S_ .f32) : IVec S128x3x224x224 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_cst : FVec F S_ .f32 := constant S_ .f32 0x3F800000#32
  let main_v7 : FVec F S1x8 .f32 := broadcastInDim S1x8 ![] bcast_S_S1x8 main_cst
  let main_cst_2 : FVec F S_ .f32 := constant S_ .f32 0xFF800000#32
  let main_v8 : FVec F S1 .f32 := (fun x v => Host.reduce FloatOps.maximumf x v reducesTo_S1x8_S1_d1 h_S_) main_v7 main_cst_2
  let main_cst_3 : FVec F S_ .f32 := constant S_ .f32 0xFF800000#32
  let main_v9 : FVec F S1 .f32 := broadcastInDim S1 ![] bcast_S_S1 main_cst_3
  let main_v10 : FVec F S1 .f32 := maximumf main_v9 main_v8
  let main_v11 : FVec F S1x1 .f32 := broadcastInDim S1x1 ![0] bcast_S1_S1x1_0 main_v10
  let main_v12 : FVec F S1x8 .f32 := broadcastInDim S1x8 ![0, 1] bcast_S1x1_S1x8_0_1 main_v11
  let main_v13 : FVec F S1x8 .f32 := subf main_v7 main_v12
  let main_v14 : FVec F S1x8 .f32 := Host.exp main_v13
  let main_cst_4 : FVec F S_ .f32 := constant S_ .f32 0x00000000#32
  let main_v15 : FVec F S1 .f32 := (fun x v => Host.reduceAdd x v reducesTo_S1x8_S1_d1 h_S_) main_v14 main_cst_4
  let main_v16 : FVec F S1x1 .f32 := broadcastInDim S1x1 ![0] bcast_S1_S1x1_0 main_v15
  fn_part1 (F := F) main_arg1 main_v6 main_v14 main_v16
-- ==== Kernel.lean ====
abbrev S128x3x224x224 : Shape := ⟨4, ![128, 3, 224, 224]⟩
abbrev S8 : Shape := ⟨1, ![8]⟩
abbrev S_ : Shape := ⟨0, ![]⟩
abbrev S1 : Shape := ⟨1, ![1]⟩
abbrev S2 : Shape := ⟨1, ![2]⟩
abbrev S1x8 : Shape := ⟨2, ![1, 8]⟩
abbrev S1x1 : Shape := ⟨2, ![1, 1]⟩
abbrev S128x8 : Shape := ⟨2, ![128, 8]⟩
abbrev S128 : Shape := ⟨1, ![128]⟩
abbrev S1x3x224x224 : Shape := ⟨4, ![1, 3, 224, 224]⟩
abbrev S3x224x224 : Shape := ⟨3, ![3, 224, 224]⟩
abbrev S1x1x1x1 : Shape := ⟨4, ![1, 1, 1, 1]⟩
abbrev S224x224 : Shape := ⟨2, ![224, 224]⟩
abbrev S672x224 : Shape := ⟨2, ![672, 224]⟩

abbrev nBuf : Space → Nat
  | .hbm => 1107
  | .vmem => 4
  | .smem => 5
  | _ => 0

abbrev hbmTy0_0 (i : Nat) : BufTy := match i % 128 with
  | 0 => ⟨S128x3x224x224, .f32⟩
  | 1 => ⟨S8, .f32⟩
  | 2 => ⟨S_, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S1x8, .f32⟩
  | 15 => ⟨S_, .f32⟩
  | 16 => ⟨S1, .f32⟩
  | 17 => ⟨S_, .f32⟩
  | 18 => ⟨S1, .f32⟩
  | 19 => ⟨S1, .f32⟩
  | 20 => ⟨S1x1, .f32⟩
  | 21 => ⟨S1x8, .f32⟩
  | 22 => ⟨S1x8, .f32⟩
  | 23 => ⟨S1x8, .f32⟩
  | 24 => ⟨S_, .f32⟩
  | 25 => ⟨S1, .f32⟩
  | 26 => ⟨S1x1, .f32⟩
  | 27 => ⟨S1x8, .f32⟩
  | 28 => ⟨S1x8, .f32⟩
  | 29 => ⟨S1x8, .f32⟩
  | 30 => ⟨S_, .f32⟩
  | 31 => ⟨S1x8, .f32⟩
  | 32 => ⟨S1x8, .f32⟩
  | 33 => ⟨S_, .f32⟩
  | 34 => ⟨S1x8, .f32⟩
  | 35 => ⟨S1x8, .f32⟩
  | 36 => ⟨S1x8, .f32⟩
  | 37 => ⟨S_, .f32⟩
  | 38 => ⟨S1, .f32⟩
  | 39 => ⟨S_, .f32⟩
  | 40 => ⟨S1, .f32⟩
  | 41 => ⟨S1, .f32⟩
  | 42 => ⟨S1x1, .f32⟩
  | 43 => ⟨S1x8, .f32⟩
  | 44 => ⟨S1x8, .f32⟩
  | 45 => ⟨S1x8, .f32⟩
  | 46 => ⟨S_, .f32⟩
  | 47 => ⟨S1, .f32⟩
  | 48 => ⟨S1x1, .f32⟩
  | 49 => ⟨S1x8, .f32⟩
  | 50 => ⟨S1x8, .f32⟩
  | 51 => ⟨S128x8, .f32⟩
  | 52 => ⟨S128x8, .f32⟩
  | 53 => ⟨S_, .i32⟩
  | 54 => ⟨S_, .i32⟩
  | 55 => ⟨S_, .i32⟩
  | 56 => ⟨S1, .i32⟩
  | 57 => ⟨S_, .i32⟩
  | 58 => ⟨S_, .i32⟩
  | 59 => ⟨S1, .i32⟩
  | 60 => ⟨S2, .i32⟩
  | 61 => ⟨S1, .i32⟩
  | 62 => ⟨S_, .i32⟩
  | 63 => ⟨S1, .i32⟩
  | 64 => ⟨S_, .i32⟩
  | 65 => ⟨S1, .i32⟩
  | 66 => ⟨S1, .i32⟩
  | 67 => ⟨S_, .i32⟩
  | 68 => ⟨S_, .i32⟩
  | 69 => ⟨S_, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S_, .i32⟩
  | 79 => ⟨S1, .i32⟩
  | 80 => ⟨S1, .i32⟩
  | 81 => ⟨S1, .i32⟩
  | 82 => ⟨S1, .i32⟩
  | 83 => ⟨S1, .i32⟩
  | 84 => ⟨S_, .i32⟩
  | 85 => ⟨S1, .i32⟩
  | 86 => ⟨S1, .i32⟩
  | 87 => ⟨S_, .i32⟩
  | 88 => ⟨S1, .i32⟩
  | 89 => ⟨S1, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S_, .i32⟩
  | 97 => ⟨S1, .i32⟩
  | 98 => ⟨S1, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S_, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S_, .i32⟩
  | 122 => ⟨S1, .i32⟩
  | 123 => ⟨S1, .i32⟩
  | 124 => ⟨S1, .i32⟩
  | 125 => ⟨S1, .i32⟩
  | 126 => ⟨S1, .i32⟩
  | 127 => ⟨S_, .i32⟩
  | _ => ⟨S128x3x224x224, .f32⟩

abbrev hbmTy0_1 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S1, .i32⟩
  | 6 => ⟨S1, .i32⟩
  | 7 => ⟨S1, .i32⟩
  | 8 => ⟨S_, .i32⟩
  | 9 => ⟨S1, .i32⟩
  | 10 => ⟨S1, .i32⟩
  | 11 => ⟨S_, .i32⟩
  | 12 => ⟨S1, .i32⟩
  | 13 => ⟨S1, .i32⟩
  | 14 => ⟨S1, .i32⟩
  | 15 => ⟨S1, .i32⟩
  | 16 => ⟨S1, .i32⟩
  | 17 => ⟨S_, .i32⟩
  | 18 => ⟨S1, .i32⟩
  | 19 => ⟨S1, .i32⟩
  | 20 => ⟨S_, .i32⟩
  | 21 => ⟨S1, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S_, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S128x3x224x224, .f32⟩

abbrev hbmTy0_2 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S2, .i32⟩
  | 34 => ⟨S_, .f32⟩
  | 35 => ⟨S_, .f32⟩
  | 36 => ⟨S_, .f32⟩
  | 37 => ⟨S1x1, .f32⟩
  | 38 => ⟨S1x1, .f32⟩
  | 39 => ⟨S1, .i32⟩
  | 40 => ⟨S_, .i32⟩
  | 41 => ⟨S1, .i32⟩
  | 42 => ⟨S_, .i32⟩
  | 43 => ⟨S128x8, .i64⟩
  | 44 => ⟨S128x8, .i64⟩
  | 45 => ⟨S_, .i64⟩
  | 46 => ⟨S128x8, .i64⟩
  | 47 => ⟨S128x8, .i64⟩
  | 48 => ⟨S_, .i64⟩
  | 49 => ⟨S128x8, .i64⟩
  | 50 => ⟨S128x8, .i64⟩
  | 51 => ⟨S128x8, .i64⟩
  | 52 => ⟨S_, .i64⟩
  | 53 => ⟨S128x8, .i64⟩
  | 54 => ⟨S128x8, .i64⟩
  | 55 => ⟨S128x8, .i32⟩
  | 56 => ⟨S128x8, .i32⟩
  | 57 => ⟨S_, .i32⟩
  | 58 => ⟨S_, .i32⟩
  | 59 => ⟨S_, .i32⟩
  | 60 => ⟨S128x8, .i32⟩
  | 61 => ⟨S128x8, .i32⟩
  | 62 => ⟨S128x8, .i32⟩
  | 63 => ⟨S128x8, .i32⟩
  | 64 => ⟨S128x8, .i32⟩
  | 65 => ⟨S_, .i32⟩
  | 66 => ⟨S128x8, .i32⟩
  | 67 => ⟨S128x8, .i32⟩
  | 68 => ⟨S_, .i32⟩
  | 69 => ⟨S128x8, .i32⟩
  | 70 => ⟨S128x8, .i32⟩
  | 71 => ⟨S128x8, .i32⟩
  | 72 => ⟨S128x8, .i32⟩
  | 73 => ⟨S128x8, .i32⟩
  | 74 => ⟨S_, .i32⟩
  | 75 => ⟨S128x8, .i32⟩
  | 76 => ⟨S128x8, .i32⟩
  | 77 => ⟨S_, .i32⟩
  | 78 => ⟨S128x8, .i32⟩
  | 79 => ⟨S128x8, .i32⟩
  | 80 => ⟨S128x8, .i32⟩
  | 81 => ⟨S128x8, .i32⟩
  | 82 => ⟨S128x8, .i32⟩
  | 83 => ⟨S_, .i32⟩
  | 84 => ⟨S128x8, .i32⟩
  | 85 => ⟨S128x8, .i32⟩
  | 86 => ⟨S_, .i32⟩
  | 87 => ⟨S128x8, .i32⟩
  | 88 => ⟨S128x8, .i32⟩
  | 89 => ⟨S128x8, .i32⟩
  | 90 => ⟨S128x8, .i32⟩
  | 91 => ⟨S128x8, .i32⟩
  | 92 => ⟨S_, .i32⟩
  | 93 => ⟨S128x8, .i32⟩
  | 94 => ⟨S128x8, .i32⟩
  | 95 => ⟨S_, .i32⟩
  | 96 => ⟨S128x8, .i32⟩
  | 97 => ⟨S128x8, .i32⟩
  | 98 => ⟨S128x8, .i32⟩
  | 99 => ⟨S128x8, .i32⟩
  | 100 => ⟨S128x8, .i32⟩
  | 101 => ⟨S128x8, .i32⟩
  | 102 => ⟨S128x8, .i32⟩
  | 103 => ⟨S128x8, .i32⟩
  | 104 => ⟨S_, .i32⟩
  | 105 => ⟨S128x8, .i32⟩
  | 106 => ⟨S128x8, .i32⟩
  | 107 => ⟨S128x8, .i32⟩
  | 108 => ⟨S_, .i32⟩
  | 109 => ⟨S128x8, .i32⟩
  | 110 => ⟨S128x8, .i32⟩
  | 111 => ⟨S_, .i32⟩
  | 112 => ⟨S128x8, .i32⟩
  | 113 => ⟨S128x8, .i32⟩
  | 114 => ⟨S128x8, .i32⟩
  | 115 => ⟨S128x8, .i32⟩
  | 116 => ⟨S128x8, .i32⟩
  | 117 => ⟨S_, .i32⟩
  | 118 => ⟨S128x8, .i32⟩
  | 119 => ⟨S128x8, .i32⟩
  | 120 => ⟨S_, .i32⟩
  | 121 => ⟨S128x8, .i32⟩
  | 122 => ⟨S128x8, .i32⟩
  | 123 => ⟨S128x8, .i32⟩
  | 124 => ⟨S128x8, .i32⟩
  | 125 => ⟨S128x8, .i32⟩
  | 126 => ⟨S_, .i32⟩
  | 127 => ⟨S128x8, .i32⟩
  | _ => ⟨S128x3x224x224, .f32⟩

abbrev hbmTy0_3 (i : Nat) : BufTy := match i % 128 with
  | 0 => ⟨S128x8, .i32⟩
  | 1 => ⟨S_, .i32⟩
  | 2 => ⟨S128x8, .i32⟩
  | 3 => ⟨S128x8, .i32⟩
  | 4 => ⟨S128x8, .i32⟩
  | 5 => ⟨S128x8, .i32⟩
  | 6 => ⟨S128x8, .i32⟩
  | 7 => ⟨S_, .i32⟩
  | 8 => ⟨S128x8, .i32⟩
  | 9 => ⟨S128x8, .i32⟩
  | 10 => ⟨S_, .i32⟩
  | 11 => ⟨S128x8, .i32⟩
  | 12 => ⟨S128x8, .i32⟩
  | 13 => ⟨S128x8, .i32⟩
  | 14 => ⟨S128x8, .i32⟩
  | 15 => ⟨S128x8, .i32⟩
  | 16 => ⟨S128x8, .i32⟩
  | 17 => ⟨S128x8, .i32⟩
  | 18 => ⟨S128x8, .i32⟩
  | 19 => ⟨S_, .i32⟩
  | 20 => ⟨S128x8, .i32⟩
  | 21 => ⟨S128x8, .i32⟩
  | 22 => ⟨S128x8, .i32⟩
  | 23 => ⟨S_, .i32⟩
  | 24 => ⟨S128x8, .i32⟩
  | 25 => ⟨S128x8, .i32⟩
  | 26 => ⟨S_, .i32⟩
  | 27 => ⟨S128x8, .i32⟩
  | 28 => ⟨S128x8, .i32⟩
  | 29 => ⟨S128x8, .i32⟩
  | 30 => ⟨S128x8, .i32⟩
  | 31 => ⟨S128x8, .i32⟩
  | 32 => ⟨S_, .i32⟩
  | 33 => ⟨S128x8, .i32⟩
  | 34 => ⟨S128x8, .i32⟩
  | 35 => ⟨S_, .i32⟩
  | 36 => ⟨S128x8, .i32⟩
  | 37 => ⟨S128x8, .i32⟩
  | 38 => ⟨S128x8, .i32⟩
  | 39 => ⟨S128x8, .i32⟩
  | 40 => ⟨S128x8, .i32⟩
  | 41 => ⟨S_, .i32⟩
  | 42 => ⟨S128x8, .i32⟩
  | 43 => ⟨S128x8, .i32⟩
  | 44 => ⟨S_, .i32⟩
  | 45 => ⟨S128x8, .i32⟩
  | 46 => ⟨S128x8, .i32⟩
  | 47 => ⟨S128x8, .i32⟩
  | 48 => ⟨S128x8, .i32⟩
  | 49 => ⟨S128x8, .i32⟩
  | 50 => ⟨S_, .i32⟩
  | 51 => ⟨S128x8, .i32⟩
  | 52 => ⟨S128x8, .i32⟩
  | 53 => ⟨S_, .i32⟩
  | 54 => ⟨S128x8, .i32⟩
  | 55 => ⟨S128x8, .i32⟩
  | 56 => ⟨S128x8, .i32⟩
  | 57 => ⟨S128x8, .i32⟩
  | 58 => ⟨S128x8, .i32⟩
  | 59 => ⟨S128x8, .i32⟩
  | 60 => ⟨S128x8, .i32⟩
  | 61 => ⟨S128x8, .i32⟩
  | 62 => ⟨S_, .i32⟩
  | 63 => ⟨S128x8, .i32⟩
  | 64 => ⟨S128x8, .i32⟩
  | 65 => ⟨S128x8, .i32⟩
  | 66 => ⟨S_, .i32⟩
  | 67 => ⟨S128x8, .i32⟩
  | 68 => ⟨S128x8, .i32⟩
  | 69 => ⟨S_, .i32⟩
  | 70 => ⟨S128x8, .i32⟩
  | 71 => ⟨S128x8, .i32⟩
  | 72 => ⟨S128x8, .i32⟩
  | 73 => ⟨S128x8, .i32⟩
  | 74 => ⟨S128x8, .i32⟩
  | 75 => ⟨S_, .i32⟩
  | 76 => ⟨S128x8, .i32⟩
  | 77 => ⟨S128x8, .i32⟩
  | 78 => ⟨S_, .i32⟩
  | 79 => ⟨S128x8, .i32⟩
  | 80 => ⟨S128x8, .i32⟩
  | 81 => ⟨S128x8, .i32⟩
  | 82 => ⟨S128x8, .i32⟩
  | 83 => ⟨S128x8, .i32⟩
  | 84 => ⟨S_, .i32⟩
  | 85 => ⟨S128x8, .i32⟩
  | 86 => ⟨S128x8, .i32⟩
  | 87 => ⟨S_, .i32⟩
  | 88 => ⟨S128x8, .i32⟩
  | 89 => ⟨S128x8, .i32⟩
  | 90 => ⟨S128x8, .i32⟩
  | 91 => ⟨S128x8, .i32⟩
  | 92 => ⟨S128x8, .i32⟩
  | 93 => ⟨S_, .i32⟩
  | 94 => ⟨S128x8, .i32⟩
  | 95 => ⟨S128x8, .i32⟩
  | 96 => ⟨S_, .i32⟩
  | 97 => ⟨S128x8, .i32⟩
  | 98 => ⟨S128x8, .i32⟩
  | 99 => ⟨S128x8, .i32⟩
  | 100 => ⟨S128x8, .i32⟩
  | 101 => ⟨S128x8, .i32⟩
  | 102 => ⟨S128x8, .i32⟩
  | 103 => ⟨S128x8, .i32⟩
  | 104 => ⟨S128x8, .i32⟩
  | 105 => ⟨S_, .i32⟩
  | 106 => ⟨S128x8, .i32⟩
  | 107 => ⟨S128x8, .i32⟩
  | 108 => ⟨S128x8, .i32⟩
  | 109 => ⟨S_, .i32⟩
  | 110 => ⟨S128x8, .i32⟩
  | 111 => ⟨S128x8, .i32⟩
  | 112 => ⟨S_, .i32⟩
  | 113 => ⟨S128x8, .i32⟩
  | 114 => ⟨S128x8, .i32⟩
  | 115 => ⟨S128x8, .i32⟩
  | 116 => ⟨S128x8, .i32⟩
  | 117 => ⟨S128x8, .i32⟩
  | 118 => ⟨S_, .i32⟩
  | 119 => ⟨S128x8, .i32⟩
  | 120 => ⟨S128x8, .i32⟩
  | 121 => ⟨S_, .i32⟩
  | 122 => ⟨S128x8, .i32⟩
  | 123 => ⟨S128x8, .i32⟩
  | 124 => ⟨S128x8, .i32⟩
  | 125 => ⟨S128x8, .i32⟩
  | 126 => ⟨S128x8, .i32⟩
  | 127 => ⟨S_, .i32⟩
  | _ => ⟨S128x3x224x224, .f32⟩

abbrev hbmTy0_4 (i : Nat) : BufTy := match i % 128 with
  | 0 => ⟨S128x8, .i32⟩
  | 1 => ⟨S128x8, .i32⟩
  | 2 => ⟨S_, .i32⟩
  | 3 => ⟨S128x8, .i32⟩
  | 4 => ⟨S128x8, .i32⟩
  | 5 => ⟨S128x8, .i32⟩
  | 6 => ⟨S128x8, .i32⟩
  | 7 => ⟨S128x8, .i32⟩
  | 8 => ⟨S_, .i32⟩
  | 9 => ⟨S128x8, .i32⟩
  | 10 => ⟨S128x8, .i32⟩
  | 11 => ⟨S_, .i32⟩
  | 12 => ⟨S128x8, .i32⟩
  | 13 => ⟨S128x8, .i32⟩
  | 14 => ⟨S128x8, .i32⟩
  | 15 => ⟨S128x8, .i32⟩
  | 16 => ⟨S128x8, .i32⟩
  | 17 => ⟨S128x8, .i32⟩
  | 18 => ⟨S128x8, .i32⟩
  | 19 => ⟨S128x8, .i32⟩
  | 20 => ⟨S_, .i32⟩
  | 21 => ⟨S128x8, .i32⟩
  | 22 => ⟨S128x8, .i32⟩
  | 23 => ⟨S128x8, .i32⟩
  | 24 => ⟨S_, .i32⟩
  | 25 => ⟨S128x8, .i32⟩
  | 26 => ⟨S128x8, .i32⟩
  | 27 => ⟨S_, .i32⟩
  | 28 => ⟨S128x8, .i32⟩
  | 29 => ⟨S128x8, .i32⟩
  | 30 => ⟨S128x8, .f32⟩
  | 31 => ⟨S_, .f32⟩
  | 32 => ⟨S128x8, .f32⟩
  | 33 => ⟨S128x8, .f32⟩
  | 34 => ⟨S1x1, .f32⟩
  | 35 => ⟨S128x8, .f32⟩
  | 36 => ⟨S128x8, .f32⟩
  | 37 => ⟨S128x8, .f32⟩
  | 38 => ⟨S128x8, .f32⟩
  | 39 => ⟨S128x8, .f32⟩
  | 40 => ⟨S128x8, .f32⟩
  | 41 => ⟨S128x8, .f32⟩
  | 42 => ⟨S128x8, .f32⟩
  | 43 => ⟨S128x8, .f32⟩
  | 44 => ⟨S128x8, .f32⟩
  | 45 => ⟨S128x8, .f32⟩
  | 46 => ⟨S128x8, .i32⟩
  | 47 => ⟨S_, .f32⟩
  | 48 => ⟨S_, .i32⟩
  | 49 => ⟨S128, .f32⟩
  | 50 => ⟨S128, .i32⟩
  | 51 => ⟨S_, .i32⟩
  | 52 => ⟨S_, .i32⟩
  | 53 => ⟨S_, .i32⟩
  | 54 => ⟨S1, .i32⟩
  | 55 => ⟨S_, .i32⟩
  | 56 => ⟨S_, .i32⟩
  | 57 => ⟨S1, .i32⟩
  | 58 => ⟨S2, .i32⟩
  | 59 => ⟨S1, .i32⟩
  | 60 => ⟨S_, .i32⟩
  | 61 => ⟨S1, .i32⟩
  | 62 => ⟨S_, .i32⟩
  | 63 => ⟨S1, .i32⟩
  | 64 => ⟨S1, .i32⟩
  | 65 => ⟨S_, .i32⟩
  | 66 => ⟨S_, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S_, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S1, .i32⟩
  | 108 => ⟨S1, .i32⟩
  | 109 => ⟨S1, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S128x3x224x224, .f32⟩

abbrev hbmTy0_5 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S1, .i32⟩
  | 23 => ⟨S1, .i32⟩
  | 24 => ⟨S1, .i32⟩
  | 25 => ⟨S1, .i32⟩
  | 26 => ⟨S1, .i32⟩
  | 27 => ⟨S_, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S_, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S1, .i32⟩
  | 57 => ⟨S1, .i32⟩
  | 58 => ⟨S_, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S_, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S_, .i32⟩
  | 121 => ⟨S1, .i32⟩
  | 122 => ⟨S1, .i32⟩
  | 123 => ⟨S1, .i32⟩
  | 124 => ⟨S1, .i32⟩
  | 125 => ⟨S1, .i32⟩
  | 126 => ⟨S_, .i32⟩
  | 127 => ⟨S1, .i32⟩
  | _ => ⟨S128x3x224x224, .f32⟩

abbrev hbmTy0_6 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S1, .i32⟩
  | 15 => ⟨S1, .i32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S_, .i32⟩
  | 29 => ⟨S1, .i32⟩
  | 30 => ⟨S1, .i32⟩
  | 31 => ⟨S2, .i32⟩
  | 32 => ⟨S_, .f32⟩
  | 33 => ⟨S_, .f32⟩
  | 34 => ⟨S_, .f32⟩
  | 35 => ⟨S1x1, .f32⟩
  | 36 => ⟨S1x1, .f32⟩
  | 37 => ⟨S1, .i32⟩
  | 38 => ⟨S_, .i32⟩
  | 39 => ⟨S1, .i32⟩
  | 40 => ⟨S_, .i32⟩
  | 41 => ⟨S128x8, .i64⟩
  | 42 => ⟨S128x8, .i64⟩
  | 43 => ⟨S_, .i64⟩
  | 44 => ⟨S128x8, .i64⟩
  | 45 => ⟨S128x8, .i64⟩
  | 46 => ⟨S_, .i64⟩
  | 47 => ⟨S128x8, .i64⟩
  | 48 => ⟨S128x8, .i64⟩
  | 49 => ⟨S128x8, .i64⟩
  | 50 => ⟨S_, .i64⟩
  | 51 => ⟨S128x8, .i64⟩
  | 52 => ⟨S128x8, .i64⟩
  | 53 => ⟨S128x8, .i32⟩
  | 54 => ⟨S128x8, .i32⟩
  | 55 => ⟨S_, .i32⟩
  | 56 => ⟨S_, .i32⟩
  | 57 => ⟨S_, .i32⟩
  | 58 => ⟨S128x8, .i32⟩
  | 59 => ⟨S128x8, .i32⟩
  | 60 => ⟨S128x8, .i32⟩
  | 61 => ⟨S128x8, .i32⟩
  | 62 => ⟨S128x8, .i32⟩
  | 63 => ⟨S_, .i32⟩
  | 64 => ⟨S128x8, .i32⟩
  | 65 => ⟨S128x8, .i32⟩
  | 66 => ⟨S_, .i32⟩
  | 67 => ⟨S128x8, .i32⟩
  | 68 => ⟨S128x8, .i32⟩
  | 69 => ⟨S128x8, .i32⟩
  | 70 => ⟨S128x8, .i32⟩
  | 71 => ⟨S128x8, .i32⟩
  | 72 => ⟨S_, .i32⟩
  | 73 => ⟨S128x8, .i32⟩
  | 74 => ⟨S128x8, .i32⟩
  | 75 => ⟨S_, .i32⟩
  | 76 => ⟨S128x8, .i32⟩
  | 77 => ⟨S128x8, .i32⟩
  | 78 => ⟨S128x8, .i32⟩
  | 79 => ⟨S128x8, .i32⟩
  | 80 => ⟨S128x8, .i32⟩
  | 81 => ⟨S_, .i32⟩
  | 82 => ⟨S128x8, .i32⟩
  | 83 => ⟨S128x8, .i32⟩
  | 84 => ⟨S_, .i32⟩
  | 85 => ⟨S128x8, .i32⟩
  | 86 => ⟨S128x8, .i32⟩
  | 87 => ⟨S128x8, .i32⟩
  | 88 => ⟨S128x8, .i32⟩
  | 89 => ⟨S128x8, .i32⟩
  | 90 => ⟨S_, .i32⟩
  | 91 => ⟨S128x8, .i32⟩
  | 92 => ⟨S128x8, .i32⟩
  | 93 => ⟨S_, .i32⟩
  | 94 => ⟨S128x8, .i32⟩
  | 95 => ⟨S128x8, .i32⟩
  | 96 => ⟨S128x8, .i32⟩
  | 97 => ⟨S128x8, .i32⟩
  | 98 => ⟨S128x8, .i32⟩
  | 99 => ⟨S128x8, .i32⟩
  | 100 => ⟨S128x8, .i32⟩
  | 101 => ⟨S128x8, .i32⟩
  | 102 => ⟨S_, .i32⟩
  | 103 => ⟨S128x8, .i32⟩
  | 104 => ⟨S128x8, .i32⟩
  | 105 => ⟨S128x8, .i32⟩
  | 106 => ⟨S_, .i32⟩
  | 107 => ⟨S128x8, .i32⟩
  | 108 => ⟨S128x8, .i32⟩
  | 109 => ⟨S_, .i32⟩
  | 110 => ⟨S128x8, .i32⟩
  | 111 => ⟨S128x8, .i32⟩
  | 112 => ⟨S128x8, .i32⟩
  | 113 => ⟨S128x8, .i32⟩
  | 114 => ⟨S128x8, .i32⟩
  | 115 => ⟨S_, .i32⟩
  | 116 => ⟨S128x8, .i32⟩
  | 117 => ⟨S128x8, .i32⟩
  | 118 => ⟨S_, .i32⟩
  | 119 => ⟨S128x8, .i32⟩
  | 120 => ⟨S128x8, .i32⟩
  | 121 => ⟨S128x8, .i32⟩
  | 122 => ⟨S128x8, .i32⟩
  | 123 => ⟨S128x8, .i32⟩
  | 124 => ⟨S_, .i32⟩
  | 125 => ⟨S128x8, .i32⟩
  | 126 => ⟨S128x8, .i32⟩
  | 127 => ⟨S_, .i32⟩
  | _ => ⟨S128x3x224x224, .f32⟩

abbrev hbmTy0_7 (i : Nat) : BufTy := match i % 128 with
  | 0 => ⟨S128x8, .i32⟩
  | 1 => ⟨S128x8, .i32⟩
  | 2 => ⟨S128x8, .i32⟩
  | 3 => ⟨S128x8, .i32⟩
  | 4 => ⟨S128x8, .i32⟩
  | 5 => ⟨S_, .i32⟩
  | 6 => ⟨S128x8, .i32⟩
  | 7 => ⟨S128x8, .i32⟩
  | 8 => ⟨S_, .i32⟩
  | 9 => ⟨S128x8, .i32⟩
  | 10 => ⟨S128x8, .i32⟩
  | 11 => ⟨S128x8, .i32⟩
  | 12 => ⟨S128x8, .i32⟩
  | 13 => ⟨S128x8, .i32⟩
  | 14 => ⟨S128x8, .i32⟩
  | 15 => ⟨S128x8, .i32⟩
  | 16 => ⟨S128x8, .i32⟩
  | 17 => ⟨S_, .i32⟩
  | 18 => ⟨S128x8, .i32⟩
  | 19 => ⟨S128x8, .i32⟩
  | 20 => ⟨S128x8, .i32⟩
  | 21 => ⟨S_, .i32⟩
  | 22 => ⟨S128x8, .i32⟩
  | 23 => ⟨S128x8, .i32⟩
  | 24 => ⟨S_, .i32⟩
  | 25 => ⟨S128x8, .i32⟩
  | 26 => ⟨S128x8, .i32⟩
  | 27 => ⟨S128x8, .i32⟩
  | 28 => ⟨S128x8, .i32⟩
  | 29 => ⟨S128x8, .i32⟩
  | 30 => ⟨S_, .i32⟩
  | 31 => ⟨S128x8, .i32⟩
  | 32 => ⟨S128x8, .i32⟩
  | 33 => ⟨S_, .i32⟩
  | 34 => ⟨S128x8, .i32⟩
  | 35 => ⟨S128x8, .i32⟩
  | 36 => ⟨S128x8, .i32⟩
  | 37 => ⟨S128x8, .i32⟩
  | 38 => ⟨S128x8, .i32⟩
  | 39 => ⟨S_, .i32⟩
  | 40 => ⟨S128x8, .i32⟩
  | 41 => ⟨S128x8, .i32⟩
  | 42 => ⟨S_, .i32⟩
  | 43 => ⟨S128x8, .i32⟩
  | 44 => ⟨S128x8, .i32⟩
  | 45 => ⟨S128x8, .i32⟩
  | 46 => ⟨S128x8, .i32⟩
  | 47 => ⟨S128x8, .i32⟩
  | 48 => ⟨S_, .i32⟩
  | 49 => ⟨S128x8, .i32⟩
  | 50 => ⟨S128x8, .i32⟩
  | 51 => ⟨S_, .i32⟩
  | 52 => ⟨S128x8, .i32⟩
  | 53 => ⟨S128x8, .i32⟩
  | 54 => ⟨S128x8, .i32⟩
  | 55 => ⟨S128x8, .i32⟩
  | 56 => ⟨S128x8, .i32⟩
  | 57 => ⟨S128x8, .i32⟩
  | 58 => ⟨S128x8, .i32⟩
  | 59 => ⟨S128x8, .i32⟩
  | 60 => ⟨S_, .i32⟩
  | 61 => ⟨S128x8, .i32⟩
  | 62 => ⟨S128x8, .i32⟩
  | 63 => ⟨S128x8, .i32⟩
  | 64 => ⟨S_, .i32⟩
  | 65 => ⟨S128x8, .i32⟩
  | 66 => ⟨S128x8, .i32⟩
  | 67 => ⟨S_, .i32⟩
  | 68 => ⟨S128x8, .i32⟩
  | 69 => ⟨S128x8, .i32⟩
  | 70 => ⟨S128x8, .i32⟩
  | 71 => ⟨S128x8, .i32⟩
  | 72 => ⟨S128x8, .i32⟩
  | 73 => ⟨S_, .i32⟩
  | 74 => ⟨S128x8, .i32⟩
  | 75 => ⟨S128x8, .i32⟩
  | 76 => ⟨S_, .i32⟩
  | 77 => ⟨S128x8, .i32⟩
  | 78 => ⟨S128x8, .i32⟩
  | 79 => ⟨S128x8, .i32⟩
  | 80 => ⟨S128x8, .i32⟩
  | 81 => ⟨S128x8, .i32⟩
  | 82 => ⟨S_, .i32⟩
  | 83 => ⟨S128x8, .i32⟩
  | 84 => ⟨S128x8, .i32⟩
  | 85 => ⟨S_, .i32⟩
  | 86 => ⟨S128x8, .i32⟩
  | 87 => ⟨S128x8, .i32⟩
  | 88 => ⟨S128x8, .i32⟩
  | 89 => ⟨S128x8, .i32⟩
  | 90 => ⟨S128x8, .i32⟩
  | 91 => ⟨S_, .i32⟩
  | 92 => ⟨S128x8, .i32⟩
  | 93 => ⟨S128x8, .i32⟩
  | 94 => ⟨S_, .i32⟩
  | 95 => ⟨S128x8, .i32⟩
  | 96 => ⟨S128x8, .i32⟩
  | 97 => ⟨S128x8, .i32⟩
  | 98 => ⟨S128x8, .i32⟩
  | 99 => ⟨S128x8, .i32⟩
  | 100 => ⟨S128x8, .i32⟩
  | 101 => ⟨S128x8, .i32⟩
  | 102 => ⟨S128x8, .i32⟩
  | 103 => ⟨S_, .i32⟩
  | 104 => ⟨S128x8, .i32⟩
  | 105 => ⟨S128x8, .i32⟩
  | 106 => ⟨S128x8, .i32⟩
  | 107 => ⟨S_, .i32⟩
  | 108 => ⟨S128x8, .i32⟩
  | 109 => ⟨S128x8, .i32⟩
  | 110 => ⟨S_, .i32⟩
  | 111 => ⟨S128x8, .i32⟩
  | 112 => ⟨S128x8, .i32⟩
  | 113 => ⟨S128x8, .i32⟩
  | 114 => ⟨S128x8, .i32⟩
  | 115 => ⟨S128x8, .i32⟩
  | 116 => ⟨S_, .i32⟩
  | 117 => ⟨S128x8, .i32⟩
  | 118 => ⟨S128x8, .i32⟩
  | 119 => ⟨S_, .i32⟩
  | 120 => ⟨S128x8, .i32⟩
  | 121 => ⟨S128x8, .i32⟩
  | 122 => ⟨S128x8, .i32⟩
  | 123 => ⟨S128x8, .i32⟩
  | 124 => ⟨S128x8, .i32⟩
  | 125 => ⟨S_, .i32⟩
  | 126 => ⟨S128x8, .i32⟩
  | 127 => ⟨S128x8, .i32⟩
  | _ => ⟨S128x3x224x224, .f32⟩

abbrev hbmTy0_8 (i : Nat) : BufTy := match i % 128 with
  | 0 => ⟨S_, .i32⟩
  | 1 => ⟨S128x8, .i32⟩
  | 2 => ⟨S128x8, .i32⟩
  | 3 => ⟨S128x8, .i32⟩
  | 4 => ⟨S128x8, .i32⟩
  | 5 => ⟨S128x8, .i32⟩
  | 6 => ⟨S_, .i32⟩
  | 7 => ⟨S128x8, .i32⟩
  | 8 => ⟨S128x8, .i32⟩
  | 9 => ⟨S_, .i32⟩
  | 10 => ⟨S128x8, .i32⟩
  | 11 => ⟨S128x8, .i32⟩
  | 12 => ⟨S128x8, .i32⟩
  | 13 => ⟨S128x8, .i32⟩
  | 14 => ⟨S128x8, .i32⟩
  | 15 => ⟨S128x8, .i32⟩
  | 16 => ⟨S128x8, .i32⟩
  | 17 => ⟨S128x8, .i32⟩
  | 18 => ⟨S_, .i32⟩
  | 19 => ⟨S128x8, .i32⟩
  | 20 => ⟨S128x8, .i32⟩
  | 21 => ⟨S128x8, .i32⟩
  | 22 => ⟨S_, .i32⟩
  | 23 => ⟨S128x8, .i32⟩
  | 24 => ⟨S128x8, .i32⟩
  | 25 => ⟨S_, .i32⟩
  | 26 => ⟨S128x8, .i32⟩
  | 27 => ⟨S128x8, .i32⟩
  | 28 => ⟨S128x8, .f32⟩
  | 29 => ⟨S_, .f32⟩
  | 30 => ⟨S128x8, .f32⟩
  | 31 => ⟨S128x8, .f32⟩
  | 32 => ⟨S1x1, .f32⟩
  | 33 => ⟨S128x8, .f32⟩
  | 34 => ⟨S128x8, .f32⟩
  | 35 => ⟨S128x8, .f32⟩
  | 36 => ⟨S128x8, .f32⟩
  | 37 => ⟨S128x8, .f32⟩
  | 38 => ⟨S128x8, .f32⟩
  | 39 => ⟨S128x8, .f32⟩
  | 40 => ⟨S128x8, .f32⟩
  | 41 => ⟨S128x8, .f32⟩
  | 42 => ⟨S128x8, .f32⟩
  | 43 => ⟨S128x8, .f32⟩
  | 44 => ⟨S128x8, .i32⟩
  | 45 => ⟨S_, .f32⟩
  | 46 => ⟨S_, .i32⟩
  | 47 => ⟨S128, .f32⟩
  | 48 => ⟨S128, .i32⟩
  | 49 => ⟨S_, .i32⟩
  | 50 => ⟨S128, .i32⟩
  | 51 => ⟨S128, .i1⟩
  | 52 => ⟨S_, .i32⟩
  | 53 => ⟨S128, .i32⟩
  | 54 => ⟨S128, .i1⟩
  | 55 => ⟨S_, .i32⟩
  | 56 => ⟨S_, .i32⟩
  | 57 => ⟨S128, .i32⟩
  | 58 => ⟨S128, .i32⟩
  | 59 => ⟨S128, .i32⟩
  | 60 => ⟨S_, .i32⟩
  | 61 => ⟨S128, .i32⟩
  | 62 => ⟨S128, .i32⟩
  | 63 => ⟨S128, .i32⟩
  | 64 => ⟨S_, .i32⟩
  | 65 => ⟨S128, .i32⟩
  | 66 => ⟨S128, .i1⟩
  | 67 => ⟨S_, .i32⟩
  | 68 => ⟨S128, .i32⟩
  | 69 => ⟨S128, .i1⟩
  | 70 => ⟨S_, .i32⟩
  | 71 => ⟨S_, .i32⟩
  | 72 => ⟨S128, .i32⟩
  | 73 => ⟨S128, .i32⟩
  | 74 => ⟨S128, .i32⟩
  | 75 => ⟨S_, .i32⟩
  | 76 => ⟨S128, .i32⟩
  | 77 => ⟨S128, .i32⟩
  | 78 => ⟨S128, .i32⟩
  | 79 => ⟨S_, .f32⟩
  | 80 => ⟨S_, .f32⟩
  | 81 => ⟨S1, .f32⟩
  | 82 => ⟨S128x3x224x224, .f32⟩
  | _ => ⟨S128x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S128x3x224x224, .f32⟩

abbrev bufTy : (tb : Table) → Fin (tcTables nBuf tb) → BufTy
  | .hbm, ⟨i, _⟩ => hbmTy i
  | .local _ .vmem, ⟨0, _⟩ => ⟨S1x3x224x224, .f32⟩
  | .local _ .vmem, ⟨1, _⟩ => ⟨S1x3x224x224, .f32⟩
  | .local _ .vmem, ⟨2, _⟩ => ⟨S1x3x224x224, .f32⟩
  | .local _ .vmem, ⟨3, _⟩ => ⟨S1x3x224x224, .f32⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | .local _ .smem, ⟨4, _⟩ => ⟨S1, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_call0_v0 : Ref sig .tc := ⟨.hbm, 67, rfl⟩
abbrev main_call0_call0_c : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_c_0 : Ref sig .tc := ⟨.hbm, 75, rfl⟩
abbrev main_call0_call0_v7 : Ref sig .tc := ⟨.hbm, 76, rfl⟩
abbrev main_call0_call0_v8 : Ref sig .tc := ⟨.hbm, 77, rfl⟩
abbrev main_call0_call0_c_1 : Ref sig .tc := ⟨.hbm, 78, rfl⟩
abbrev main_call0_call0_v9 : Ref sig .tc := ⟨.hbm, 79, rfl⟩
abbrev main_call0_call0_v10 : Ref sig .tc := ⟨.hbm, 80, rfl⟩
abbrev main_call0_call0_v11 : Ref sig .tc := ⟨.hbm, 81, rfl⟩
abbrev main_call0_call0_v12 : Ref sig .tc := ⟨.hbm, 82, rfl⟩
abbrev main_call0_call0_v13 : Ref sig .tc := ⟨.hbm, 83, rfl⟩
abbrev main_call0_call0_c_2 : Ref sig .tc := ⟨.hbm, 84, rfl⟩
abbrev main_call0_call0_v14 : Ref sig .tc := ⟨.hbm, 85, rfl⟩
abbrev main_call0_call0_v15 : Ref sig .tc := ⟨.hbm, 86, rfl⟩
abbrev main_call0_call0_c_3 : Ref sig .tc := ⟨.hbm, 87, rfl⟩
abbrev main_call0_call0_v16 : Ref sig .tc := ⟨.hbm, 88, rfl⟩
abbrev main_call0_call0_v17 : Ref sig .tc := ⟨.hbm, 89, rfl⟩
abbrev main_call0_call0_v18 : Ref sig .tc := ⟨.hbm, 90, rfl⟩
abbrev main_call0_call0_v19 : Ref sig .tc := ⟨.hbm, 91, rfl⟩
abbrev main_call0_call0_v20 : Ref sig .tc := ⟨.hbm, 92, rfl⟩
abbrev main_call0_call0_c_4 : Ref sig .tc := ⟨.hbm, 93, rfl⟩
abbrev main_call0_call0_v21 : Ref sig .tc := ⟨.hbm, 94, rfl⟩
abbrev main_call0_call0_v22 : Ref sig .tc := ⟨.hbm, 95, rfl⟩
abbrev main_call0_call0_c_5 : Ref sig .tc := ⟨.hbm, 96, rfl⟩
abbrev main_call0_call0_v23 : Ref sig .tc := ⟨.hbm, 97, rfl⟩
abbrev main_call0_call0_v24 : Ref sig .tc := ⟨.hbm, 98, rfl⟩
abbrev main_call0_call0_v25 : Ref sig .tc := ⟨.hbm, 99, rfl⟩
abbrev main_call0_call0_v26 : Ref sig .tc := ⟨.hbm, 100, rfl⟩
abbrev main_call0_call0_v27 : Ref sig .tc := ⟨.hbm, 101, rfl⟩
abbrev main_call0_call0_c_6 : Ref sig .tc := ⟨.hbm, 102, rfl⟩
abbrev main_call0_call0_v28 : Ref sig .tc := ⟨.hbm, 103, rfl⟩
abbrev main_call0_call0_v29 : Ref sig .tc := ⟨.hbm, 104, rfl⟩
abbrev main_call0_call0_c_7 : Ref sig .tc := ⟨.hbm, 105, rfl⟩
abbrev main_call0_call0_v30 : Ref sig .tc := ⟨.hbm, 106, rfl⟩
abbrev main_call0_call0_v31 : Ref sig .tc := ⟨.hbm, 107, rfl⟩
abbrev main_call0_call0_v32 : Ref sig .tc := ⟨.hbm, 108, rfl⟩
abbrev main_call0_call0_v33 : Ref sig .tc := ⟨.hbm, 109, rfl⟩
abbrev main_call0_call0_v34 : Ref sig .tc := ⟨.hbm, 110, rfl⟩
abbrev main_call0_call0_v35 : Ref sig .tc := ⟨.hbm, 111, rfl⟩
abbrev main_call0_call0_v36 : Ref sig .tc := ⟨.hbm, 112, rfl⟩
abbrev main_call0_call0_v37 : Ref sig .tc := ⟨.hbm, 113, rfl⟩
abbrev main_call0_call0_c_8 : Ref sig .tc := ⟨.hbm, 114, rfl⟩
abbrev main_call0_call0_v38 : Ref sig .tc := ⟨.hbm, 115, rfl⟩
abbrev main_call0_call0_v39 : Ref sig .tc := ⟨.hbm, 116, rfl⟩
abbrev main_call0_call0_v40 : Ref sig .tc := ⟨.hbm, 117, rfl⟩
abbrev main_call0_call0_c_9 : Ref sig .tc := ⟨.hbm, 118, rfl⟩
abbrev main_call0_call0_v41 : Ref sig .tc := ⟨.hbm, 119, rfl⟩
abbrev main_call0_call0_v42 : Ref sig .tc := ⟨.hbm, 120, rfl⟩
abbrev main_call0_call0_c_10 : Ref sig .tc := ⟨.hbm, 121, rfl⟩
abbrev main_call0_call0_v43 : Ref sig .tc := ⟨.hbm, 122, rfl⟩
abbrev main_call0_call0_v44 : Ref sig .tc := ⟨.hbm, 123, rfl⟩
abbrev main_call0_call0_v45 : Ref sig .tc := ⟨.hbm, 124, rfl⟩
abbrev main_call0_call0_v46 : Ref sig .tc := ⟨.hbm, 125, rfl⟩
abbrev main_call0_call0_v47 : Ref sig .tc := ⟨.hbm, 126, rfl⟩
abbrev main_call0_call0_c_11 : Ref sig .tc := ⟨.hbm, 127, rfl⟩
abbrev main_call0_call0_v48 : Ref sig .tc := ⟨.hbm, 128, rfl⟩
abbrev main_call0_call0_v49 : Ref sig .tc := ⟨.hbm, 129, rfl⟩
abbrev main_call0_call0_c_12 : Ref sig .tc := ⟨.hbm, 130, rfl⟩
abbrev main_call0_call0_v50 : Ref sig .tc := ⟨.hbm, 131, rfl⟩
abbrev main_call0_call0_v51 : Ref sig .tc := ⟨.hbm, 132, rfl⟩
abbrev main_call0_call0_v52 : Ref sig .tc := ⟨.hbm, 133, rfl⟩
abbrev main_call0_call0_v53 : Ref sig .tc := ⟨.hbm, 134, rfl⟩
abbrev main_call0_call0_v54 : Ref sig .tc := ⟨.hbm, 135, rfl⟩
abbrev main_call0_call0_c_13 : Ref sig .tc := ⟨.hbm, 136, rfl⟩
abbrev main_call0_call0_v55 : Ref sig .tc := ⟨.hbm, 137, rfl⟩
abbrev main_call0_call0_v56 : Ref sig .tc := ⟨.hbm, 138, rfl⟩
abbrev main_call0_call0_c_14 : Ref sig .tc := ⟨.hbm, 139, rfl⟩
abbrev main_call0_call0_v57 : Ref sig .tc := ⟨.hbm, 140, rfl⟩
abbrev main_call0_call0_v58 : Ref sig .tc := ⟨.hbm, 141, rfl⟩
abbrev main_call0_call0_v59 : Ref sig .tc := ⟨.hbm, 142, rfl⟩
abbrev main_call0_call0_v60 : Ref sig .tc := ⟨.hbm, 143, rfl⟩
abbrev main_call0_call0_v61 : Ref sig .tc := ⟨.hbm, 144, rfl⟩
abbrev main_call0_call0_c_15 : Ref sig .tc := ⟨.hbm, 145, rfl⟩
abbrev main_call0_call0_v62 : Ref sig .tc := ⟨.hbm, 146, rfl⟩
abbrev main_call0_call0_v63 : Ref sig .tc := ⟨.hbm, 147, rfl⟩
abbrev main_call0_call0_c_16 : Ref sig .tc := ⟨.hbm, 148, rfl⟩
abbrev main_call0_call0_v64 : Ref sig .tc := ⟨.hbm, 149, rfl⟩
abbrev main_call0_call0_v65 : Ref sig .tc := ⟨.hbm, 150, rfl⟩
abbrev main_call0_call0_v66 : Ref sig .tc := ⟨.hbm, 151, rfl⟩
abbrev main_call0_call0_v67 : Ref sig .tc := ⟨.hbm, 152, rfl⟩
abbrev main_call0_call0_v68 : Ref sig .tc := ⟨.hbm, 153, rfl⟩
abbrev main_call0_call0_v69 : Ref sig .tc := ⟨.hbm, 154, rfl⟩
abbrev main_call0_call0_v70 : Ref sig .tc := ⟨.hbm, 155, rfl⟩
abbrev main_call0_call0_v71 : Ref sig .tc := ⟨.hbm, 156, rfl⟩
abbrev main_call0_call0_c_17 : Ref sig .tc := ⟨.hbm, 157, rfl⟩
abbrev main_call0_call0_v72 : Ref sig .tc := ⟨.hbm, 158, rfl⟩
abbrev main_call0_call0_v73 : Ref sig .tc := ⟨.hbm, 159, rfl⟩
abbrev main_call0_call0_v74 : Ref sig .tc := ⟨.hbm, 160, rfl⟩
abbrev main_call0_call0_c_18 : Ref sig .tc := ⟨.hbm, 161, rfl⟩
abbrev main_call0_call0_v75 : Ref sig .tc := ⟨.hbm, 162, rfl⟩
abbrev main_call0_call0_v76 : Ref sig .tc := ⟨.hbm, 163, rfl⟩
abbrev main_call0_call0_c_19 : Ref sig .tc := ⟨.hbm, 164, rfl⟩
abbrev main_call0_call0_v77 : Ref sig .tc := ⟨.hbm, 165, rfl⟩
abbrev main_call0_call0_v78 : Ref sig .tc := ⟨.hbm, 166, rfl⟩
abbrev main_call0_call0_v79 : Ref sig .tc := ⟨.hbm, 167, rfl⟩
abbrev main_call0_call0_v80 : Ref sig .tc := ⟨.hbm, 168, rfl⟩
abbrev main_call0_call0_v81 : Ref sig .tc := ⟨.hbm, 169, rfl⟩
abbrev main_call0_call0_c_20 : Ref sig .tc := ⟨.hbm, 170, rfl⟩
abbrev main_call0_call0_v82 : Ref sig .tc := ⟨.hbm, 171, rfl⟩
abbrev main_call0_call0_v83 : Ref sig .tc := ⟨.hbm, 172, rfl⟩
abbrev main_call0_call0_c_21 : Ref sig .tc := ⟨.hbm, 173, rfl⟩
abbrev main_call0_call0_v84 : Ref sig .tc := ⟨.hbm, 174, rfl⟩
abbrev main_call0_call0_v85 : Ref sig .tc := ⟨.hbm, 175, rfl⟩
abbrev main_call0_call0_v86 : Ref sig .tc := ⟨.hbm, 176, rfl⟩
abbrev main_call0_call0_v87 : Ref sig .tc := ⟨.hbm, 177, rfl⟩
abbrev main_call0_call0_v88 : Ref sig .tc := ⟨.hbm, 178, rfl⟩
abbrev main_call0_call0_c_22 : Ref sig .tc := ⟨.hbm, 179, rfl⟩
abbrev main_call0_call0_v89 : Ref sig .tc := ⟨.hbm, 180, rfl⟩
abbrev main_call0_call0_v90 : Ref sig .tc := ⟨.hbm, 181, rfl⟩
abbrev main_call0_call0_c_23 : Ref sig .tc := ⟨.hbm, 182, rfl⟩
abbrev main_call0_call0_v91 : Ref sig .tc := ⟨.hbm, 183, rfl⟩
abbrev main_call0_call0_v92 : Ref sig .tc := ⟨.hbm, 184, rfl⟩
abbrev main_call0_call0_v93 : Ref sig .tc := ⟨.hbm, 185, rfl⟩
abbrev main_call0_call0_v94 : Ref sig .tc := ⟨.hbm, 186, rfl⟩
abbrev main_call0_call0_v95 : Ref sig .tc := ⟨.hbm, 187, rfl⟩
abbrev main_call0_call0_c_24 : Ref sig .tc := ⟨.hbm, 188, rfl⟩
abbrev main_call0_call0_v96 : Ref sig .tc := ⟨.hbm, 189, rfl⟩
abbrev main_call0_call0_v97 : Ref sig .tc := ⟨.hbm, 190, rfl⟩
abbrev main_call0_call0_c_25 : Ref sig .tc := ⟨.hbm, 191, rfl⟩
abbrev main_call0_call0_v98 : Ref sig .tc := ⟨.hbm, 192, rfl⟩
abbrev main_call0_call0_v99 : Ref sig .tc := ⟨.hbm, 193, rfl⟩
abbrev main_call0_call0_v100 : Ref sig .tc := ⟨.hbm, 194, rfl⟩
abbrev main_call0_call0_v101 : Ref sig .tc := ⟨.hbm, 195, rfl⟩
abbrev main_call0_call0_v102 : Ref sig .tc := ⟨.hbm, 196, rfl⟩
abbrev main_call0_call0_v103 : Ref sig .tc := ⟨.hbm, 197, rfl⟩
abbrev main_call0_call0_v104 : Ref sig .tc := ⟨.hbm, 198, rfl⟩
abbrev main_call0_call0_v105 : Ref sig .tc := ⟨.hbm, 199, rfl⟩
abbrev main_call0_call0_c_26 : Ref sig .tc := ⟨.hbm, 200, rfl⟩
abbrev main_call0_call0_v106 : Ref sig .tc := ⟨.hbm, 201, rfl⟩
abbrev main_call0_call0_v107 : Ref sig .tc := ⟨.hbm, 202, rfl⟩
abbrev main_call0_call0_v108 : Ref sig .tc := ⟨.hbm, 203, rfl⟩
abbrev main_call0_call0_c_27 : Ref sig .tc := ⟨.hbm, 204, rfl⟩
abbrev main_call0_call0_v109 : Ref sig .tc := ⟨.hbm, 205, rfl⟩
abbrev main_call0_call0_v110 : Ref sig .tc := ⟨.hbm, 206, rfl⟩
abbrev main_call0_call0_c_28 : Ref sig .tc := ⟨.hbm, 207, rfl⟩
abbrev main_call0_call0_v111 : Ref sig .tc := ⟨.hbm, 208, rfl⟩
abbrev main_call0_call0_v112 : Ref sig .tc := ⟨.hbm, 209, rfl⟩
abbrev main_call0_call0_v113 : Ref sig .tc := ⟨.hbm, 210, rfl⟩
abbrev main_call0_call0_v114 : Ref sig .tc := ⟨.hbm, 211, rfl⟩
abbrev main_call0_call0_v115 : Ref sig .tc := ⟨.hbm, 212, rfl⟩
abbrev main_call0_call0_c_29 : Ref sig .tc := ⟨.hbm, 213, rfl⟩
abbrev main_call0_call0_v116 : Ref sig .tc := ⟨.hbm, 214, rfl⟩
abbrev main_call0_call0_v117 : Ref sig .tc := ⟨.hbm, 215, rfl⟩
abbrev main_call0_call0_c_30 : Ref sig .tc := ⟨.hbm, 216, rfl⟩
abbrev main_call0_call0_v118 : Ref sig .tc := ⟨.hbm, 217, rfl⟩
abbrev main_call0_call0_v119 : Ref sig .tc := ⟨.hbm, 218, rfl⟩
abbrev main_call0_call0_v120 : Ref sig .tc := ⟨.hbm, 219, rfl⟩
abbrev main_call0_call0_v121 : Ref sig .tc := ⟨.hbm, 220, rfl⟩
abbrev main_call0_call0_v122 : Ref sig .tc := ⟨.hbm, 221, rfl⟩
abbrev main_call0_call0_c_31 : Ref sig .tc := ⟨.hbm, 222, rfl⟩
abbrev main_call0_call0_v123 : Ref sig .tc := ⟨.hbm, 223, rfl⟩
abbrev main_call0_call0_v124 : Ref sig .tc := ⟨.hbm, 224, rfl⟩
abbrev main_call0_call0_c_32 : Ref sig .tc := ⟨.hbm, 225, rfl⟩
abbrev main_call0_call0_v125 : Ref sig .tc := ⟨.hbm, 226, rfl⟩
abbrev main_call0_call0_v126 : Ref sig .tc := ⟨.hbm, 227, rfl⟩
abbrev main_call0_call0_v127 : Ref sig .tc := ⟨.hbm, 228, rfl⟩
abbrev main_call0_call0_v128 : Ref sig .tc := ⟨.hbm, 229, rfl⟩
abbrev main_call0_call0_v129 : Ref sig .tc := ⟨.hbm, 230, rfl⟩
abbrev main_call0_call0_c_33 : Ref sig .tc := ⟨.hbm, 231, rfl⟩
abbrev main_call0_call0_v130 : Ref sig .tc := ⟨.hbm, 232, rfl⟩
abbrev main_call0_call0_v131 : Ref sig .tc := ⟨.hbm, 233, rfl⟩
abbrev main_call0_call0_c_34 : Ref sig .tc := ⟨.hbm, 234, rfl⟩
abbrev main_call0_call0_v132 : Ref sig .tc := ⟨.hbm, 235, rfl⟩
abbrev main_call0_call0_v133 : Ref sig .tc := ⟨.hbm, 236, rfl⟩
abbrev main_call0_call0_v134 : Ref sig .tc := ⟨.hbm, 237, rfl⟩
abbrev main_call0_call0_v135 : Ref sig .tc := ⟨.hbm, 238, rfl⟩
abbrev main_call0_call0_v136 : Ref sig .tc := ⟨.hbm, 239, rfl⟩
abbrev main_call0_call0_v137 : Ref sig .tc := ⟨.hbm, 240, rfl⟩
abbrev main_call0_call0_v138 : Ref sig .tc := ⟨.hbm, 241, rfl⟩
abbrev main_call0_call0_v139 : Ref sig .tc := ⟨.hbm, 242, rfl⟩
abbrev main_call0_call0_c_35 : Ref sig .tc := ⟨.hbm, 243, rfl⟩
abbrev main_call0_call0_v140 : Ref sig .tc := ⟨.hbm, 244, rfl⟩
abbrev main_call0_call0_v141 : Ref sig .tc := ⟨.hbm, 245, rfl⟩
abbrev main_call0_call0_v142 : Ref sig .tc := ⟨.hbm, 246, rfl⟩
abbrev main_call0_call0_c_36 : Ref sig .tc := ⟨.hbm, 247, rfl⟩
abbrev main_call0_call0_v143 : Ref sig .tc := ⟨.hbm, 248, rfl⟩
abbrev main_call0_call0_v144 : Ref sig .tc := ⟨.hbm, 249, rfl⟩
abbrev main_call0_call0_c_37 : Ref sig .tc := ⟨.hbm, 250, rfl⟩
abbrev main_call0_call0_v145 : Ref sig .tc := ⟨.hbm, 251, rfl⟩
abbrev main_call0_call0_v146 : Ref sig .tc := ⟨.hbm, 252, rfl⟩
abbrev main_call0_call0_v147 : Ref sig .tc := ⟨.hbm, 253, rfl⟩
abbrev main_call0_call0_v148 : Ref sig .tc := ⟨.hbm, 254, rfl⟩
abbrev main_call0_call0_v149 : Ref sig .tc := ⟨.hbm, 255, rfl⟩
abbrev main_call0_call0_c_38 : Ref sig .tc := ⟨.hbm, 256, rfl⟩
abbrev main_call0_call0_v150 : Ref sig .tc := ⟨.hbm, 257, rfl⟩
abbrev main_call0_call0_v151 : Ref sig .tc := ⟨.hbm, 258, rfl⟩
abbrev main_call0_call0_c_39 : Ref sig .tc := ⟨.hbm, 259, rfl⟩
abbrev main_call0_call0_v152 : Ref sig .tc := ⟨.hbm, 260, rfl⟩
abbrev main_call0_call0_v153 : Ref sig .tc := ⟨.hbm, 261, rfl⟩
abbrev main_call0_call0_v154 : Ref sig .tc := ⟨.hbm, 262, rfl⟩
abbrev main_call0_call0_v155 : Ref sig .tc := ⟨.hbm, 263, rfl⟩
abbrev main_call0_call0_v156 : Ref sig .tc := ⟨.hbm, 264, rfl⟩
abbrev main_call0_call0_c_40 : Ref sig .tc := ⟨.hbm, 265, rfl⟩
abbrev main_call0_call0_v157 : Ref sig .tc := ⟨.hbm, 266, rfl⟩
abbrev main_call0_call0_v158 : Ref sig .tc := ⟨.hbm, 267, rfl⟩
abbrev main_call0_call0_c_41 : Ref sig .tc := ⟨.hbm, 268, rfl⟩
abbrev main_call0_call0_v159 : Ref sig .tc := ⟨.hbm, 269, rfl⟩
abbrev main_call0_call0_v160 : Ref sig .tc := ⟨.hbm, 270, rfl⟩
abbrev main_call0_call0_v161 : Ref sig .tc := ⟨.hbm, 271, rfl⟩
abbrev main_call0_call0_v162 : Ref sig .tc := ⟨.hbm, 272, rfl⟩
abbrev main_call0_call0_v163 : Ref sig .tc := ⟨.hbm, 273, rfl⟩
abbrev main_call0_call0_c_42 : Ref sig .tc := ⟨.hbm, 274, rfl⟩
abbrev main_call0_call0_v164 : Ref sig .tc := ⟨.hbm, 275, rfl⟩
abbrev main_call0_call0_v165 : Ref sig .tc := ⟨.hbm, 276, rfl⟩
abbrev main_call0_call0_c_43 : Ref sig .tc := ⟨.hbm, 277, rfl⟩
abbrev main_call0_call0_v166 : Ref sig .tc := ⟨.hbm, 278, rfl⟩
abbrev main_call0_call0_v167 : Ref sig .tc := ⟨.hbm, 279, rfl⟩
abbrev main_call0_call0_v168 : Ref sig .tc := ⟨.hbm, 280, rfl⟩
abbrev main_call0_call0_v169 : Ref sig .tc := ⟨.hbm, 281, rfl⟩
abbrev main_call0_call0_v170 : Ref sig .tc := ⟨.hbm, 282, rfl⟩
abbrev main_call0_v11_0 : Ref sig .tc := ⟨.hbm, 283, rfl⟩
abbrev main_call0_call0_v172 : Ref sig .tc := ⟨.hbm, 284, rfl⟩
abbrev main_call0_call0_v173 : Ref sig .tc := ⟨.hbm, 285, rfl⟩
abbrev main_call0_call0_c_44 : Ref sig .tc := ⟨.hbm, 286, rfl⟩
abbrev main_call0_call0_v174 : Ref sig .tc := ⟨.hbm, 287, rfl⟩
abbrev main_call0_v11_1 : Ref sig .tc := ⟨.hbm, 288, rfl⟩
abbrev main_v38 : Ref sig .tc := ⟨.hbm, 289, rfl⟩
abbrev main_call1_cst : Ref sig .tc := ⟨.hbm, 290, rfl⟩
abbrev main_call1_cst_0 : Ref sig .tc := ⟨.hbm, 291, rfl⟩
abbrev main_call1_call0_v0 : Ref sig .tc := ⟨.hbm, 292, rfl⟩
abbrev main_call1_call0_v1 : Ref sig .tc := ⟨.hbm, 293, rfl⟩
abbrev main_call1_call0_v2 : Ref sig .tc := ⟨.hbm, 294, rfl⟩
abbrev main_call1_call0_v3 : Ref sig .tc := ⟨.hbm, 295, rfl⟩
abbrev main_call1_call0_v4 : Ref sig .tc := ⟨.hbm, 296, rfl⟩
abbrev main_call1_call0_v5 : Ref sig .tc := ⟨.hbm, 297, rfl⟩
abbrev main_call1_call0_v6 : Ref sig .tc := ⟨.hbm, 298, rfl⟩
abbrev main_call1_call0_v7 : Ref sig .tc := ⟨.hbm, 299, rfl⟩
abbrev main_call1_call0_v8 : Ref sig .tc := ⟨.hbm, 300, rfl⟩
abbrev main_call1_call0_c : Ref sig .tc := ⟨.hbm, 301, rfl⟩
abbrev main_call1_call0_v9 : Ref sig .tc := ⟨.hbm, 302, rfl⟩
abbrev main_call1_call0_v10 : Ref sig .tc := ⟨.hbm, 303, rfl⟩
abbrev main_call1_call0_c_0 : Ref sig .tc := ⟨.hbm, 304, rfl⟩
abbrev main_call1_call0_v11 : Ref sig .tc := ⟨.hbm, 305, rfl⟩
abbrev main_call1_call0_v12 : Ref sig .tc := ⟨.hbm, 306, rfl⟩
abbrev main_call1_call0_v13 : Ref sig .tc := ⟨.hbm, 307, rfl⟩
abbrev main_call1_call0_c_1 : Ref sig .tc := ⟨.hbm, 308, rfl⟩
abbrev main_call1_call0_v14 : Ref sig .tc := ⟨.hbm, 309, rfl⟩
abbrev main_call1_call0_v15 : Ref sig .tc := ⟨.hbm, 310, rfl⟩
abbrev main_call1_call0_v16 : Ref sig .tc := ⟨.hbm, 311, rfl⟩
abbrev main_call1_call0_v17 : Ref sig .tc := ⟨.hbm, 312, rfl⟩
abbrev main_call1_call0_call0_v0 : Ref sig .tc := ⟨.hbm, 313, rfl⟩
abbrev main_call1_call0_call0_c : Ref sig .tc := ⟨.hbm, 314, rfl⟩
abbrev main_call1_call0_call0_v1 : Ref sig .tc := ⟨.hbm, 315, rfl⟩
abbrev main_call1_call0_call0_v2 : Ref sig .tc := ⟨.hbm, 316, rfl⟩
abbrev main_call1_call0_call0_v3 : Ref sig .tc := ⟨.hbm, 317, rfl⟩
abbrev main_call1_call0_call0_v4 : Ref sig .tc := ⟨.hbm, 318, rfl⟩
abbrev main_call1_call0_call0_v5 : Ref sig .tc := ⟨.hbm, 319, rfl⟩
abbrev main_call1_call0_call0_v6 : Ref sig .tc := ⟨.hbm, 320, rfl⟩
abbrev main_call1_call0_call0_c_0 : Ref sig .tc := ⟨.hbm, 321, rfl⟩
abbrev main_call1_call0_call0_v7 : Ref sig .tc := ⟨.hbm, 322, rfl⟩
abbrev main_call1_call0_call0_v8 : Ref sig .tc := ⟨.hbm, 323, rfl⟩
abbrev main_call1_call0_call0_c_1 : Ref sig .tc := ⟨.hbm, 324, rfl⟩
abbrev main_call1_call0_call0_v9 : Ref sig .tc := ⟨.hbm, 325, rfl⟩
abbrev main_call1_call0_call0_v10 : Ref sig .tc := ⟨.hbm, 326, rfl⟩
abbrev main_call1_call0_call0_v11 : Ref sig .tc := ⟨.hbm, 327, rfl⟩
abbrev main_call1_call0_call0_v12 : Ref sig .tc := ⟨.hbm, 328, rfl⟩
abbrev main_call1_call0_call0_v13 : Ref sig .tc := ⟨.hbm, 329, rfl⟩
abbrev main_call1_call0_call0_c_2 : Ref sig .tc := ⟨.hbm, 330, rfl⟩
abbrev main_call1_call0_call0_v14 : Ref sig .tc := ⟨.hbm, 331, rfl⟩
abbrev main_call1_call0_call0_v15 : Ref sig .tc := ⟨.hbm, 332, rfl⟩
abbrev main_call1_call0_call0_c_3 : Ref sig .tc := ⟨.hbm, 333, rfl⟩
abbrev main_call1_call0_call0_v16 : Ref sig .tc := ⟨.hbm, 334, rfl⟩
abbrev main_call1_call0_call0_v17 : Ref sig .tc := ⟨.hbm, 335, rfl⟩
abbrev main_call1_call0_call0_v18 : Ref sig .tc := ⟨.hbm, 336, rfl⟩
abbrev main_call1_call0_call0_v19 : Ref sig .tc := ⟨.hbm, 337, rfl⟩
abbrev main_call1_call0_call0_v20 : Ref sig .tc := ⟨.hbm, 338, rfl⟩
abbrev main_call1_call0_call0_c_4 : Ref sig .tc := ⟨.hbm, 339, rfl⟩
abbrev main_call1_call0_call0_v21 : Ref sig .tc := ⟨.hbm, 340, rfl⟩
abbrev main_call1_call0_call0_v22 : Ref sig .tc := ⟨.hbm, 341, rfl⟩
abbrev main_call1_call0_call0_c_5 : Ref sig .tc := ⟨.hbm, 342, rfl⟩
abbrev main_call1_call0_call0_v23 : Ref sig .tc := ⟨.hbm, 343, rfl⟩
abbrev main_call1_call0_call0_v24 : Ref sig .tc := ⟨.hbm, 344, rfl⟩
abbrev main_call1_call0_call0_v25 : Ref sig .tc := ⟨.hbm, 345, rfl⟩
abbrev main_call1_call0_call0_v26 : Ref sig .tc := ⟨.hbm, 346, rfl⟩
abbrev main_call1_call0_call0_v27 : Ref sig .tc := ⟨.hbm, 347, rfl⟩
abbrev main_call1_call0_call0_c_6 : Ref sig .tc := ⟨.hbm, 348, rfl⟩
abbrev main_call1_call0_call0_v28 : Ref sig .tc := ⟨.hbm, 349, rfl⟩
abbrev main_call1_call0_call0_v29 : Ref sig .tc := ⟨.hbm, 350, rfl⟩
abbrev main_call1_call0_call0_c_7 : Ref sig .tc := ⟨.hbm, 351, rfl⟩
abbrev main_call1_call0_call0_v30 : Ref sig .tc := ⟨.hbm, 352, rfl⟩
abbrev main_call1_call0_call0_v31 : Ref sig .tc := ⟨.hbm, 353, rfl⟩
abbrev main_call1_call0_call0_v32 : Ref sig .tc := ⟨.hbm, 354, rfl⟩
abbrev main_call1_call0_call0_v33 : Ref sig .tc := ⟨.hbm, 355, rfl⟩
abbrev main_call1_call0_call0_v34 : Ref sig .tc := ⟨.hbm, 356, rfl⟩
abbrev main_call1_call0_call0_v35 : Ref sig .tc := ⟨.hbm, 357, rfl⟩
abbrev main_call1_call0_call0_v36 : Ref sig .tc := ⟨.hbm, 358, rfl⟩
abbrev main_call1_call0_call0_v37 : Ref sig .tc := ⟨.hbm, 359, rfl⟩
abbrev main_call1_call0_call0_c_8 : Ref sig .tc := ⟨.hbm, 360, rfl⟩
abbrev main_call1_call0_call0_v38 : Ref sig .tc := ⟨.hbm, 361, rfl⟩
abbrev main_call1_call0_call0_v39 : Ref sig .tc := ⟨.hbm, 362, rfl⟩
abbrev main_call1_call0_call0_v40 : Ref sig .tc := ⟨.hbm, 363, rfl⟩
abbrev main_call1_call0_call0_c_9 : Ref sig .tc := ⟨.hbm, 364, rfl⟩
abbrev main_call1_call0_call0_v41 : Ref sig .tc := ⟨.hbm, 365, rfl⟩
abbrev main_call1_call0_call0_v42 : Ref sig .tc := ⟨.hbm, 366, rfl⟩
abbrev main_call1_call0_call0_c_10 : Ref sig .tc := ⟨.hbm, 367, rfl⟩
abbrev main_call1_call0_call0_v43 : Ref sig .tc := ⟨.hbm, 368, rfl⟩
abbrev main_call1_call0_call0_v44 : Ref sig .tc := ⟨.hbm, 369, rfl⟩
abbrev main_call1_call0_call0_v45 : Ref sig .tc := ⟨.hbm, 370, rfl⟩
abbrev main_call1_call0_call0_v46 : Ref sig .tc := ⟨.hbm, 371, rfl⟩
abbrev main_call1_call0_call0_v47 : Ref sig .tc := ⟨.hbm, 372, rfl⟩
abbrev main_call1_call0_call0_c_11 : Ref sig .tc := ⟨.hbm, 373, rfl⟩
abbrev main_call1_call0_call0_v48 : Ref sig .tc := ⟨.hbm, 374, rfl⟩
abbrev main_call1_call0_call0_v49 : Ref sig .tc := ⟨.hbm, 375, rfl⟩
abbrev main_call1_call0_call0_c_12 : Ref sig .tc := ⟨.hbm, 376, rfl⟩
abbrev main_call1_call0_call0_v50 : Ref sig .tc := ⟨.hbm, 377, rfl⟩
abbrev main_call1_call0_call0_v51 : Ref sig .tc := ⟨.hbm, 378, rfl⟩
abbrev main_call1_call0_call0_v52 : Ref sig .tc := ⟨.hbm, 379, rfl⟩
abbrev main_call1_call0_call0_v53 : Ref sig .tc := ⟨.hbm, 380, rfl⟩
abbrev main_call1_call0_call0_v54 : Ref sig .tc := ⟨.hbm, 381, rfl⟩
abbrev main_call1_call0_call0_c_13 : Ref sig .tc := ⟨.hbm, 382, rfl⟩
abbrev main_call1_call0_call0_v55 : Ref sig .tc := ⟨.hbm, 383, rfl⟩
abbrev main_call1_call0_call0_v56 : Ref sig .tc := ⟨.hbm, 384, rfl⟩
abbrev main_call1_call0_call0_c_14 : Ref sig .tc := ⟨.hbm, 385, rfl⟩
abbrev main_call1_call0_call0_v57 : Ref sig .tc := ⟨.hbm, 386, rfl⟩
abbrev main_call1_call0_call0_v58 : Ref sig .tc := ⟨.hbm, 387, rfl⟩
abbrev main_call1_call0_call0_v59 : Ref sig .tc := ⟨.hbm, 388, rfl⟩
abbrev main_call1_call0_call0_v60 : Ref sig .tc := ⟨.hbm, 389, rfl⟩
abbrev main_call1_call0_call0_v61 : Ref sig .tc := ⟨.hbm, 390, rfl⟩
abbrev main_call1_call0_call0_c_15 : Ref sig .tc := ⟨.hbm, 391, rfl⟩
abbrev main_call1_call0_call0_v62 : Ref sig .tc := ⟨.hbm, 392, rfl⟩
abbrev main_call1_call0_call0_v63 : Ref sig .tc := ⟨.hbm, 393, rfl⟩
abbrev main_call1_call0_call0_c_16 : Ref sig .tc := ⟨.hbm, 394, rfl⟩
abbrev main_call1_call0_call0_v64 : Ref sig .tc := ⟨.hbm, 395, rfl⟩
abbrev main_call1_call0_call0_v65 : Ref sig .tc := ⟨.hbm, 396, rfl⟩
abbrev main_call1_call0_call0_v66 : Ref sig .tc := ⟨.hbm, 397, rfl⟩
abbrev main_call1_call0_call0_v67 : Ref sig .tc := ⟨.hbm, 398, rfl⟩
abbrev main_call1_call0_call0_v68 : Ref sig .tc := ⟨.hbm, 399, rfl⟩
abbrev main_call1_call0_call0_v69 : Ref sig .tc := ⟨.hbm, 400, rfl⟩
abbrev main_call1_call0_call0_v70 : Ref sig .tc := ⟨.hbm, 401, rfl⟩
abbrev main_call1_call0_call0_v71 : Ref sig .tc := ⟨.hbm, 402, rfl⟩
abbrev main_call1_call0_call0_c_17 : Ref sig .tc := ⟨.hbm, 403, rfl⟩
abbrev main_call1_call0_call0_v72 : Ref sig .tc := ⟨.hbm, 404, rfl⟩
abbrev main_call1_call0_call0_v73 : Ref sig .tc := ⟨.hbm, 405, rfl⟩
abbrev main_call1_call0_call0_v74 : Ref sig .tc := ⟨.hbm, 406, rfl⟩
abbrev main_call1_call0_call0_c_18 : Ref sig .tc := ⟨.hbm, 407, rfl⟩
abbrev main_call1_call0_call0_v75 : Ref sig .tc := ⟨.hbm, 408, rfl⟩
abbrev main_call1_call0_call0_v76 : Ref sig .tc := ⟨.hbm, 409, rfl⟩
abbrev main_call1_call0_call0_c_19 : Ref sig .tc := ⟨.hbm, 410, rfl⟩
abbrev main_call1_call0_call0_v77 : Ref sig .tc := ⟨.hbm, 411, rfl⟩
abbrev main_call1_call0_call0_v78 : Ref sig .tc := ⟨.hbm, 412, rfl⟩
abbrev main_call1_call0_call0_v79 : Ref sig .tc := ⟨.hbm, 413, rfl⟩
abbrev main_call1_call0_call0_v80 : Ref sig .tc := ⟨.hbm, 414, rfl⟩
abbrev main_call1_call0_call0_v81 : Ref sig .tc := ⟨.hbm, 415, rfl⟩
abbrev main_call1_call0_call0_c_20 : Ref sig .tc := ⟨.hbm, 416, rfl⟩
abbrev main_call1_call0_call0_v82 : Ref sig .tc := ⟨.hbm, 417, rfl⟩
abbrev main_call1_call0_call0_v83 : Ref sig .tc := ⟨.hbm, 418, rfl⟩
abbrev main_call1_call0_call0_c_21 : Ref sig .tc := ⟨.hbm, 419, rfl⟩
abbrev main_call1_call0_call0_v84 : Ref sig .tc := ⟨.hbm, 420, rfl⟩
abbrev main_call1_call0_call0_v85 : Ref sig .tc := ⟨.hbm, 421, rfl⟩
abbrev main_call1_call0_call0_v86 : Ref sig .tc := ⟨.hbm, 422, rfl⟩
abbrev main_call1_call0_call0_v87 : Ref sig .tc := ⟨.hbm, 423, rfl⟩
abbrev main_call1_call0_call0_v88 : Ref sig .tc := ⟨.hbm, 424, rfl⟩
abbrev main_call1_call0_call0_c_22 : Ref sig .tc := ⟨.hbm, 425, rfl⟩
abbrev main_call1_call0_call0_v89 : Ref sig .tc := ⟨.hbm, 426, rfl⟩
abbrev main_call1_call0_call0_v90 : Ref sig .tc := ⟨.hbm, 427, rfl⟩
abbrev main_call1_call0_call0_c_23 : Ref sig .tc := ⟨.hbm, 428, rfl⟩
abbrev main_call1_call0_call0_v91 : Ref sig .tc := ⟨.hbm, 429, rfl⟩
abbrev main_call1_call0_call0_v92 : Ref sig .tc := ⟨.hbm, 430, rfl⟩
abbrev main_call1_call0_call0_v93 : Ref sig .tc := ⟨.hbm, 431, rfl⟩
abbrev main_call1_call0_call0_v94 : Ref sig .tc := ⟨.hbm, 432, rfl⟩
abbrev main_call1_call0_call0_v95 : Ref sig .tc := ⟨.hbm, 433, rfl⟩
abbrev main_call1_call0_call0_c_24 : Ref sig .tc := ⟨.hbm, 434, rfl⟩
abbrev main_call1_call0_call0_v96 : Ref sig .tc := ⟨.hbm, 435, rfl⟩
abbrev main_call1_call0_call0_v97 : Ref sig .tc := ⟨.hbm, 436, rfl⟩
abbrev main_call1_call0_call0_c_25 : Ref sig .tc := ⟨.hbm, 437, rfl⟩
abbrev main_call1_call0_call0_v98 : Ref sig .tc := ⟨.hbm, 438, rfl⟩
abbrev main_call1_call0_call0_v99 : Ref sig .tc := ⟨.hbm, 439, rfl⟩
abbrev main_call1_call0_call0_v100 : Ref sig .tc := ⟨.hbm, 440, rfl⟩
abbrev main_call1_call0_call0_v101 : Ref sig .tc := ⟨.hbm, 441, rfl⟩
abbrev main_call1_call0_call0_v102 : Ref sig .tc := ⟨.hbm, 442, rfl⟩
abbrev main_call1_call0_call0_v103 : Ref sig .tc := ⟨.hbm, 443, rfl⟩
abbrev main_call1_call0_call0_v104 : Ref sig .tc := ⟨.hbm, 444, rfl⟩
abbrev main_call1_call0_call0_v105 : Ref sig .tc := ⟨.hbm, 445, rfl⟩
abbrev main_call1_call0_call0_c_26 : Ref sig .tc := ⟨.hbm, 446, rfl⟩
abbrev main_call1_call0_call0_v106 : Ref sig .tc := ⟨.hbm, 447, rfl⟩
abbrev main_call1_call0_call0_v107 : Ref sig .tc := ⟨.hbm, 448, rfl⟩
abbrev main_call1_call0_call0_v108 : Ref sig .tc := ⟨.hbm, 449, rfl⟩
abbrev main_call1_call0_call0_c_27 : Ref sig .tc := ⟨.hbm, 450, rfl⟩
abbrev main_call1_call0_call0_v109 : Ref sig .tc := ⟨.hbm, 451, rfl⟩
abbrev main_call1_call0_call0_v110 : Ref sig .tc := ⟨.hbm, 452, rfl⟩
abbrev main_call1_call0_call0_c_28 : Ref sig .tc := ⟨.hbm, 453, rfl⟩
abbrev main_call1_call0_call0_v111 : Ref sig .tc := ⟨.hbm, 454, rfl⟩
abbrev main_call1_call0_call0_v112 : Ref sig .tc := ⟨.hbm, 455, rfl⟩
abbrev main_call1_call0_call0_v113 : Ref sig .tc := ⟨.hbm, 456, rfl⟩
abbrev main_call1_call0_call0_v114 : Ref sig .tc := ⟨.hbm, 457, rfl⟩
abbrev main_call1_call0_call0_v115 : Ref sig .tc := ⟨.hbm, 458, rfl⟩
abbrev main_call1_call0_call0_c_29 : Ref sig .tc := ⟨.hbm, 459, rfl⟩
abbrev main_call1_call0_call0_v116 : Ref sig .tc := ⟨.hbm, 460, rfl⟩
abbrev main_call1_call0_call0_v117 : Ref sig .tc := ⟨.hbm, 461, rfl⟩
abbrev main_call1_call0_call0_c_30 : Ref sig .tc := ⟨.hbm, 462, rfl⟩
abbrev main_call1_call0_call0_v118 : Ref sig .tc := ⟨.hbm, 463, rfl⟩
abbrev main_call1_call0_call0_v119 : Ref sig .tc := ⟨.hbm, 464, rfl⟩
abbrev main_call1_call0_call0_v120 : Ref sig .tc := ⟨.hbm, 465, rfl⟩
abbrev main_call1_call0_call0_v121 : Ref sig .tc := ⟨.hbm, 466, rfl⟩
abbrev main_call1_call0_call0_v122 : Ref sig .tc := ⟨.hbm, 467, rfl⟩
abbrev main_call1_call0_call0_c_31 : Ref sig .tc := ⟨.hbm, 468, rfl⟩
abbrev main_call1_call0_call0_v123 : Ref sig .tc := ⟨.hbm, 469, rfl⟩
abbrev main_call1_call0_call0_v124 : Ref sig .tc := ⟨.hbm, 470, rfl⟩
abbrev main_call1_call0_call0_c_32 : Ref sig .tc := ⟨.hbm, 471, rfl⟩
abbrev main_call1_call0_call0_v125 : Ref sig .tc := ⟨.hbm, 472, rfl⟩
abbrev main_call1_call0_call0_v126 : Ref sig .tc := ⟨.hbm, 473, rfl⟩
abbrev main_call1_call0_call0_v127 : Ref sig .tc := ⟨.hbm, 474, rfl⟩
abbrev main_call1_call0_call0_v128 : Ref sig .tc := ⟨.hbm, 475, rfl⟩
abbrev main_call1_call0_call0_v129 : Ref sig .tc := ⟨.hbm, 476, rfl⟩
abbrev main_call1_call0_call0_c_33 : Ref sig .tc := ⟨.hbm, 477, rfl⟩
abbrev main_call1_call0_call0_v130 : Ref sig .tc := ⟨.hbm, 478, rfl⟩
abbrev main_call1_call0_call0_v131 : Ref sig .tc := ⟨.hbm, 479, rfl⟩
abbrev main_call1_call0_call0_c_34 : Ref sig .tc := ⟨.hbm, 480, rfl⟩
abbrev main_call1_call0_call0_v132 : Ref sig .tc := ⟨.hbm, 481, rfl⟩
abbrev main_call1_call0_call0_v133 : Ref sig .tc := ⟨.hbm, 482, rfl⟩
abbrev main_call1_call0_call0_v134 : Ref sig .tc := ⟨.hbm, 483, rfl⟩
abbrev main_call1_call0_call0_v135 : Ref sig .tc := ⟨.hbm, 484, rfl⟩
abbrev main_call1_call0_call0_v136 : Ref sig .tc := ⟨.hbm, 485, rfl⟩
abbrev main_call1_call0_call0_v137 : Ref sig .tc := ⟨.hbm, 486, rfl⟩
abbrev main_call1_call0_call0_v138 : Ref sig .tc := ⟨.hbm, 487, rfl⟩
abbrev main_call1_call0_call0_v139 : Ref sig .tc := ⟨.hbm, 488, rfl⟩
abbrev main_call1_call0_call0_c_35 : Ref sig .tc := ⟨.hbm, 489, rfl⟩
abbrev main_call1_call0_call0_v140 : Ref sig .tc := ⟨.hbm, 490, rfl⟩
abbrev main_call1_call0_call0_v141 : Ref sig .tc := ⟨.hbm, 491, rfl⟩
abbrev main_call1_call0_call0_v142 : Ref sig .tc := ⟨.hbm, 492, rfl⟩
abbrev main_call1_call0_call0_c_36 : Ref sig .tc := ⟨.hbm, 493, rfl⟩
abbrev main_call1_call0_call0_v143 : Ref sig .tc := ⟨.hbm, 494, rfl⟩
abbrev main_call1_call0_call0_v144 : Ref sig .tc := ⟨.hbm, 495, rfl⟩
abbrev main_call1_call0_call0_c_37 : Ref sig .tc := ⟨.hbm, 496, rfl⟩
abbrev main_call1_call0_call0_v145 : Ref sig .tc := ⟨.hbm, 497, rfl⟩
abbrev main_call1_call0_call0_v146 : Ref sig .tc := ⟨.hbm, 498, rfl⟩
abbrev main_call1_call0_call0_v147 : Ref sig .tc := ⟨.hbm, 499, rfl⟩
abbrev main_call1_call0_call0_v148 : Ref sig .tc := ⟨.hbm, 500, rfl⟩
abbrev main_call1_call0_call0_v149 : Ref sig .tc := ⟨.hbm, 501, rfl⟩
abbrev main_call1_call0_call0_c_38 : Ref sig .tc := ⟨.hbm, 502, rfl⟩
abbrev main_call1_call0_call0_v150 : Ref sig .tc := ⟨.hbm, 503, rfl⟩
abbrev main_call1_call0_call0_v151 : Ref sig .tc := ⟨.hbm, 504, rfl⟩
abbrev main_call1_call0_call0_c_39 : Ref sig .tc := ⟨.hbm, 505, rfl⟩
abbrev main_call1_call0_call0_v152 : Ref sig .tc := ⟨.hbm, 506, rfl⟩
abbrev main_call1_call0_call0_v153 : Ref sig .tc := ⟨.hbm, 507, rfl⟩
abbrev main_call1_call0_call0_v154 : Ref sig .tc := ⟨.hbm, 508, rfl⟩
abbrev main_call1_call0_call0_v155 : Ref sig .tc := ⟨.hbm, 509, rfl⟩
abbrev main_call1_call0_call0_v156 : Ref sig .tc := ⟨.hbm, 510, rfl⟩
abbrev main_call1_call0_call0_c_40 : Ref sig .tc := ⟨.hbm, 511, rfl⟩
abbrev main_call1_call0_call0_v157 : Ref sig .tc := ⟨.hbm, 512, rfl⟩
abbrev main_call1_call0_call0_v158 : Ref sig .tc := ⟨.hbm, 513, rfl⟩
abbrev main_call1_call0_call0_c_41 : Ref sig .tc := ⟨.hbm, 514, rfl⟩
abbrev main_call1_call0_call0_v159 : Ref sig .tc := ⟨.hbm, 515, rfl⟩
abbrev main_call1_call0_call0_v160 : Ref sig .tc := ⟨.hbm, 516, rfl⟩
abbrev main_call1_call0_call0_v161 : Ref sig .tc := ⟨.hbm, 517, rfl⟩
abbrev main_call1_call0_call0_v162 : Ref sig .tc := ⟨.hbm, 518, rfl⟩
abbrev main_call1_call0_call0_v163 : Ref sig .tc := ⟨.hbm, 519, rfl⟩
abbrev main_call1_call0_call0_c_42 : Ref sig .tc := ⟨.hbm, 520, rfl⟩
abbrev main_call1_call0_call0_v164 : Ref sig .tc := ⟨.hbm, 521, rfl⟩
abbrev main_call1_call0_call0_v165 : Ref sig .tc := ⟨.hbm, 522, rfl⟩
abbrev main_call1_call0_call0_c_43 : Ref sig .tc := ⟨.hbm, 523, rfl⟩
abbrev main_call1_call0_call0_v166 : Ref sig .tc := ⟨.hbm, 524, rfl⟩
abbrev main_call1_call0_call0_v167 : Ref sig .tc := ⟨.hbm, 525, rfl⟩
abbrev main_call1_call0_call0_v168 : Ref sig .tc := ⟨.hbm, 526, rfl⟩
abbrev main_call1_call0_call0_v169 : Ref sig .tc := ⟨.hbm, 527, rfl⟩
abbrev main_call1_call0_call0_v170 : Ref sig .tc := ⟨.hbm, 528, rfl⟩
abbrev main_call1_call0_v18_0 : Ref sig .tc := ⟨.hbm, 529, rfl⟩
abbrev main_call1_call0_call0_v172 : Ref sig .tc := ⟨.hbm, 530, rfl⟩
abbrev main_call1_call0_call0_v173 : Ref sig .tc := ⟨.hbm, 531, rfl⟩
abbrev main_call1_call0_call0_c_44 : Ref sig .tc := ⟨.hbm, 532, rfl⟩
abbrev main_call1_call0_call0_v174 : Ref sig .tc := ⟨.hbm, 533, rfl⟩
abbrev main_call1_call0_v18_1 : Ref sig .tc := ⟨.hbm, 534, rfl⟩
abbrev main_call1_call0_v19 : Ref sig .tc := ⟨.hbm, 535, rfl⟩
abbrev main_call1_call0_c_2 : Ref sig .tc := ⟨.hbm, 536, rfl⟩
abbrev main_call1_call0_v20 : Ref sig .tc := ⟨.hbm, 537, rfl⟩
abbrev main_call1_call0_v21 : Ref sig .tc := ⟨.hbm, 538, rfl⟩
abbrev main_call1_call0_c_3 : Ref sig .tc := ⟨.hbm, 539, rfl⟩
abbrev main_call1_call0_v22 : Ref sig .tc := ⟨.hbm, 540, rfl⟩
abbrev main_call1_call0_v23 : Ref sig .tc := ⟨.hbm, 541, rfl⟩
abbrev main_call1_call0_v24 : Ref sig .tc := ⟨.hbm, 542, rfl⟩
abbrev main_call1_call0_cst : Ref sig .tc := ⟨.hbm, 543, rfl⟩
abbrev main_call1_call0_v25 : Ref sig .tc := ⟨.hbm, 544, rfl⟩
abbrev main_call1_call0_v26 : Ref sig .tc := ⟨.hbm, 545, rfl⟩
abbrev main_call1_call0_v27 : Ref sig .tc := ⟨.hbm, 546, rfl⟩
abbrev main_call1_call0_v28 : Ref sig .tc := ⟨.hbm, 547, rfl⟩
abbrev main_call1_call0_v29 : Ref sig .tc := ⟨.hbm, 548, rfl⟩
abbrev main_call1_call0_v30 : Ref sig .tc := ⟨.hbm, 549, rfl⟩
abbrev main_call1_call0_v31 : Ref sig .tc := ⟨.hbm, 550, rfl⟩
abbrev main_call1_call0_v32 : Ref sig .tc := ⟨.hbm, 551, rfl⟩
abbrev main_call1_v0 : Ref sig .tc := ⟨.hbm, 552, rfl⟩
abbrev main_call1_v1 : Ref sig .tc := ⟨.hbm, 553, rfl⟩
abbrev main_call1_v2 : Ref sig .tc := ⟨.hbm, 554, rfl⟩
abbrev main_call1_v3 : Ref sig .tc := ⟨.hbm, 555, rfl⟩
abbrev main_v39 : Ref sig .tc := ⟨.hbm, 556, rfl⟩
abbrev main_v40 : Ref sig .tc := ⟨.hbm, 557, rfl⟩
abbrev main_call2_v0 : Ref sig .tc := ⟨.hbm, 558, rfl⟩
abbrev main_call2_cst : Ref sig .tc := ⟨.hbm, 559, rfl⟩
abbrev main_call2_c : Ref sig .tc := ⟨.hbm, 560, rfl⟩
abbrev main_call2_v1_0 : Ref sig .tc := ⟨.hbm, 561, rfl⟩
abbrev main_v41 : Ref sig .tc := ⟨.hbm, 562, rfl⟩
abbrev main_c_11 : Ref sig .tc := ⟨.hbm, 563, rfl⟩
abbrev main_call3_c : Ref sig .tc := ⟨.hbm, 564, rfl⟩
abbrev main_call3_v0 : Ref sig .tc := ⟨.hbm, 565, rfl⟩
abbrev main_call3_v1 : Ref sig .tc := ⟨.hbm, 566, rfl⟩
abbrev main_call3_c_0 : Ref sig .tc := ⟨.hbm, 567, rfl⟩
abbrev main_call3_v2 : Ref sig .tc := ⟨.hbm, 568, rfl⟩
abbrev main_call3_v3 : Ref sig .tc := ⟨.hbm, 569, rfl⟩
abbrev main_call3_v4 : Ref sig .tc := ⟨.hbm, 570, rfl⟩
abbrev main_call3_v5 : Ref sig .tc := ⟨.hbm, 571, rfl⟩
abbrev main_call3_v6 : Ref sig .tc := ⟨.hbm, 572, rfl⟩
abbrev main_call3_v7 : Ref sig .tc := ⟨.hbm, 573, rfl⟩
abbrev main_call3_v8 : Ref sig .tc := ⟨.hbm, 574, rfl⟩
abbrev main_call3_v9 : Ref sig .tc := ⟨.hbm, 575, rfl⟩
abbrev main_call3_v10 : Ref sig .tc := ⟨.hbm, 576, rfl⟩
abbrev main_call3_call0_v0 : Ref sig .tc := ⟨.hbm, 577, rfl⟩
abbrev main_call3_call0_c : Ref sig .tc := ⟨.hbm, 578, rfl⟩
abbrev main_call3_call0_v1 : Ref sig .tc := ⟨.hbm, 579, rfl⟩
abbrev main_call3_call0_v2 : Ref sig .tc := ⟨.hbm, 580, rfl⟩
abbrev main_call3_call0_v3 : Ref sig .tc := ⟨.hbm, 581, rfl⟩
abbrev main_call3_call0_v4 : Ref sig .tc := ⟨.hbm, 582, rfl⟩
abbrev main_call3_call0_v5 : Ref sig .tc := ⟨.hbm, 583, rfl⟩
abbrev main_call3_call0_v6 : Ref sig .tc := ⟨.hbm, 584, rfl⟩
abbrev main_call3_call0_c_0 : Ref sig .tc := ⟨.hbm, 585, rfl⟩
abbrev main_call3_call0_v7 : Ref sig .tc := ⟨.hbm, 586, rfl⟩
abbrev main_call3_call0_v8 : Ref sig .tc := ⟨.hbm, 587, rfl⟩
abbrev main_call3_call0_c_1 : Ref sig .tc := ⟨.hbm, 588, rfl⟩
abbrev main_call3_call0_v9 : Ref sig .tc := ⟨.hbm, 589, rfl⟩
abbrev main_call3_call0_v10 : Ref sig .tc := ⟨.hbm, 590, rfl⟩
abbrev main_call3_call0_v11 : Ref sig .tc := ⟨.hbm, 591, rfl⟩
abbrev main_call3_call0_v12 : Ref sig .tc := ⟨.hbm, 592, rfl⟩
abbrev main_call3_call0_v13 : Ref sig .tc := ⟨.hbm, 593, rfl⟩
abbrev main_call3_call0_c_2 : Ref sig .tc := ⟨.hbm, 594, rfl⟩
abbrev main_call3_call0_v14 : Ref sig .tc := ⟨.hbm, 595, rfl⟩
abbrev main_call3_call0_v15 : Ref sig .tc := ⟨.hbm, 596, rfl⟩
abbrev main_call3_call0_c_3 : Ref sig .tc := ⟨.hbm, 597, rfl⟩
abbrev main_call3_call0_v16 : Ref sig .tc := ⟨.hbm, 598, rfl⟩
abbrev main_call3_call0_v17 : Ref sig .tc := ⟨.hbm, 599, rfl⟩
abbrev main_call3_call0_v18 : Ref sig .tc := ⟨.hbm, 600, rfl⟩
abbrev main_call3_call0_v19 : Ref sig .tc := ⟨.hbm, 601, rfl⟩
abbrev main_call3_call0_v20 : Ref sig .tc := ⟨.hbm, 602, rfl⟩
abbrev main_call3_call0_c_4 : Ref sig .tc := ⟨.hbm, 603, rfl⟩
abbrev main_call3_call0_v21 : Ref sig .tc := ⟨.hbm, 604, rfl⟩
abbrev main_call3_call0_v22 : Ref sig .tc := ⟨.hbm, 605, rfl⟩
abbrev main_call3_call0_c_5 : Ref sig .tc := ⟨.hbm, 606, rfl⟩
abbrev main_call3_call0_v23 : Ref sig .tc := ⟨.hbm, 607, rfl⟩
abbrev main_call3_call0_v24 : Ref sig .tc := ⟨.hbm, 608, rfl⟩
abbrev main_call3_call0_v25 : Ref sig .tc := ⟨.hbm, 609, rfl⟩
abbrev main_call3_call0_v26 : Ref sig .tc := ⟨.hbm, 610, rfl⟩
abbrev main_call3_call0_v27 : Ref sig .tc := ⟨.hbm, 611, rfl⟩
abbrev main_call3_call0_c_6 : Ref sig .tc := ⟨.hbm, 612, rfl⟩
abbrev main_call3_call0_v28 : Ref sig .tc := ⟨.hbm, 613, rfl⟩
abbrev main_call3_call0_v29 : Ref sig .tc := ⟨.hbm, 614, rfl⟩
abbrev main_call3_call0_c_7 : Ref sig .tc := ⟨.hbm, 615, rfl⟩
abbrev main_call3_call0_v30 : Ref sig .tc := ⟨.hbm, 616, rfl⟩
abbrev main_call3_call0_v31 : Ref sig .tc := ⟨.hbm, 617, rfl⟩
abbrev main_call3_call0_v32 : Ref sig .tc := ⟨.hbm, 618, rfl⟩
abbrev main_call3_call0_v33 : Ref sig .tc := ⟨.hbm, 619, rfl⟩
abbrev main_call3_call0_v34 : Ref sig .tc := ⟨.hbm, 620, rfl⟩
abbrev main_call3_call0_v35 : Ref sig .tc := ⟨.hbm, 621, rfl⟩
abbrev main_call3_call0_v36 : Ref sig .tc := ⟨.hbm, 622, rfl⟩
abbrev main_call3_call0_v37 : Ref sig .tc := ⟨.hbm, 623, rfl⟩
abbrev main_call3_call0_c_8 : Ref sig .tc := ⟨.hbm, 624, rfl⟩
abbrev main_call3_call0_v38 : Ref sig .tc := ⟨.hbm, 625, rfl⟩
abbrev main_call3_call0_v39 : Ref sig .tc := ⟨.hbm, 626, rfl⟩
abbrev main_call3_call0_v40 : Ref sig .tc := ⟨.hbm, 627, rfl⟩
abbrev main_call3_call0_c_9 : Ref sig .tc := ⟨.hbm, 628, rfl⟩
abbrev main_call3_call0_v41 : Ref sig .tc := ⟨.hbm, 629, rfl⟩
abbrev main_call3_call0_v42 : Ref sig .tc := ⟨.hbm, 630, rfl⟩
abbrev main_call3_call0_c_10 : Ref sig .tc := ⟨.hbm, 631, rfl⟩
abbrev main_call3_call0_v43 : Ref sig .tc := ⟨.hbm, 632, rfl⟩
abbrev main_call3_call0_v44 : Ref sig .tc := ⟨.hbm, 633, rfl⟩
abbrev main_call3_call0_v45 : Ref sig .tc := ⟨.hbm, 634, rfl⟩
abbrev main_call3_call0_v46 : Ref sig .tc := ⟨.hbm, 635, rfl⟩
abbrev main_call3_call0_v47 : Ref sig .tc := ⟨.hbm, 636, rfl⟩
abbrev main_call3_call0_c_11 : Ref sig .tc := ⟨.hbm, 637, rfl⟩
abbrev main_call3_call0_v48 : Ref sig .tc := ⟨.hbm, 638, rfl⟩
abbrev main_call3_call0_v49 : Ref sig .tc := ⟨.hbm, 639, rfl⟩
abbrev main_call3_call0_c_12 : Ref sig .tc := ⟨.hbm, 640, rfl⟩
abbrev main_call3_call0_v50 : Ref sig .tc := ⟨.hbm, 641, rfl⟩
abbrev main_call3_call0_v51 : Ref sig .tc := ⟨.hbm, 642, rfl⟩
abbrev main_call3_call0_v52 : Ref sig .tc := ⟨.hbm, 643, rfl⟩
abbrev main_call3_call0_v53 : Ref sig .tc := ⟨.hbm, 644, rfl⟩
abbrev main_call3_call0_v54 : Ref sig .tc := ⟨.hbm, 645, rfl⟩
abbrev main_call3_call0_c_13 : Ref sig .tc := ⟨.hbm, 646, rfl⟩
abbrev main_call3_call0_v55 : Ref sig .tc := ⟨.hbm, 647, rfl⟩
abbrev main_call3_call0_v56 : Ref sig .tc := ⟨.hbm, 648, rfl⟩
abbrev main_call3_call0_c_14 : Ref sig .tc := ⟨.hbm, 649, rfl⟩
abbrev main_call3_call0_v57 : Ref sig .tc := ⟨.hbm, 650, rfl⟩
abbrev main_call3_call0_v58 : Ref sig .tc := ⟨.hbm, 651, rfl⟩
abbrev main_call3_call0_v59 : Ref sig .tc := ⟨.hbm, 652, rfl⟩
abbrev main_call3_call0_v60 : Ref sig .tc := ⟨.hbm, 653, rfl⟩
abbrev main_call3_call0_v61 : Ref sig .tc := ⟨.hbm, 654, rfl⟩
abbrev main_call3_call0_c_15 : Ref sig .tc := ⟨.hbm, 655, rfl⟩
abbrev main_call3_call0_v62 : Ref sig .tc := ⟨.hbm, 656, rfl⟩
abbrev main_call3_call0_v63 : Ref sig .tc := ⟨.hbm, 657, rfl⟩
abbrev main_call3_call0_c_16 : Ref sig .tc := ⟨.hbm, 658, rfl⟩
abbrev main_call3_call0_v64 : Ref sig .tc := ⟨.hbm, 659, rfl⟩
abbrev main_call3_call0_v65 : Ref sig .tc := ⟨.hbm, 660, rfl⟩
abbrev main_call3_call0_v66 : Ref sig .tc := ⟨.hbm, 661, rfl⟩
abbrev main_call3_call0_v67 : Ref sig .tc := ⟨.hbm, 662, rfl⟩
abbrev main_call3_call0_v68 : Ref sig .tc := ⟨.hbm, 663, rfl⟩
abbrev main_call3_call0_v69 : Ref sig .tc := ⟨.hbm, 664, rfl⟩
abbrev main_call3_call0_v70 : Ref sig .tc := ⟨.hbm, 665, rfl⟩
abbrev main_call3_call0_v71 : Ref sig .tc := ⟨.hbm, 666, rfl⟩
abbrev main_call3_call0_c_17 : Ref sig .tc := ⟨.hbm, 667, rfl⟩
abbrev main_call3_call0_v72 : Ref sig .tc := ⟨.hbm, 668, rfl⟩
abbrev main_call3_call0_v73 : Ref sig .tc := ⟨.hbm, 669, rfl⟩
abbrev main_call3_call0_v74 : Ref sig .tc := ⟨.hbm, 670, rfl⟩
abbrev main_call3_call0_c_18 : Ref sig .tc := ⟨.hbm, 671, rfl⟩
abbrev main_call3_call0_v75 : Ref sig .tc := ⟨.hbm, 672, rfl⟩
abbrev main_call3_call0_v76 : Ref sig .tc := ⟨.hbm, 673, rfl⟩
abbrev main_call3_call0_c_19 : Ref sig .tc := ⟨.hbm, 674, rfl⟩
abbrev main_call3_call0_v77 : Ref sig .tc := ⟨.hbm, 675, rfl⟩
abbrev main_call3_call0_v78 : Ref sig .tc := ⟨.hbm, 676, rfl⟩
abbrev main_call3_call0_v79 : Ref sig .tc := ⟨.hbm, 677, rfl⟩
abbrev main_call3_call0_v80 : Ref sig .tc := ⟨.hbm, 678, rfl⟩
abbrev main_call3_call0_v81 : Ref sig .tc := ⟨.hbm, 679, rfl⟩
abbrev main_call3_call0_c_20 : Ref sig .tc := ⟨.hbm, 680, rfl⟩
abbrev main_call3_call0_v82 : Ref sig .tc := ⟨.hbm, 681, rfl⟩
abbrev main_call3_call0_v83 : Ref sig .tc := ⟨.hbm, 682, rfl⟩
abbrev main_call3_call0_c_21 : Ref sig .tc := ⟨.hbm, 683, rfl⟩
abbrev main_call3_call0_v84 : Ref sig .tc := ⟨.hbm, 684, rfl⟩
abbrev main_call3_call0_v85 : Ref sig .tc := ⟨.hbm, 685, rfl⟩
abbrev main_call3_call0_v86 : Ref sig .tc := ⟨.hbm, 686, rfl⟩
abbrev main_call3_call0_v87 : Ref sig .tc := ⟨.hbm, 687, rfl⟩
abbrev main_call3_call0_v88 : Ref sig .tc := ⟨.hbm, 688, rfl⟩
abbrev main_call3_call0_c_22 : Ref sig .tc := ⟨.hbm, 689, rfl⟩
abbrev main_call3_call0_v89 : Ref sig .tc := ⟨.hbm, 690, rfl⟩
abbrev main_call3_call0_v90 : Ref sig .tc := ⟨.hbm, 691, rfl⟩
abbrev main_call3_call0_c_23 : Ref sig .tc := ⟨.hbm, 692, rfl⟩
abbrev main_call3_call0_v91 : Ref sig .tc := ⟨.hbm, 693, rfl⟩
abbrev main_call3_call0_v92 : Ref sig .tc := ⟨.hbm, 694, rfl⟩
abbrev main_call3_call0_v93 : Ref sig .tc := ⟨.hbm, 695, rfl⟩
abbrev main_call3_call0_v94 : Ref sig .tc := ⟨.hbm, 696, rfl⟩
abbrev main_call3_call0_v95 : Ref sig .tc := ⟨.hbm, 697, rfl⟩
abbrev main_call3_call0_c_24 : Ref sig .tc := ⟨.hbm, 698, rfl⟩
abbrev main_call3_call0_v96 : Ref sig .tc := ⟨.hbm, 699, rfl⟩
abbrev main_call3_call0_v97 : Ref sig .tc := ⟨.hbm, 700, rfl⟩
abbrev main_call3_call0_c_25 : Ref sig .tc := ⟨.hbm, 701, rfl⟩
abbrev main_call3_call0_v98 : Ref sig .tc := ⟨.hbm, 702, rfl⟩
abbrev main_call3_call0_v99 : Ref sig .tc := ⟨.hbm, 703, rfl⟩
abbrev main_call3_call0_v100 : Ref sig .tc := ⟨.hbm, 704, rfl⟩
abbrev main_call3_call0_v101 : Ref sig .tc := ⟨.hbm, 705, rfl⟩
abbrev main_call3_call0_v102 : Ref sig .tc := ⟨.hbm, 706, rfl⟩
abbrev main_call3_call0_v103 : Ref sig .tc := ⟨.hbm, 707, rfl⟩
abbrev main_call3_call0_v104 : Ref sig .tc := ⟨.hbm, 708, rfl⟩
abbrev main_call3_call0_v105 : Ref sig .tc := ⟨.hbm, 709, rfl⟩
abbrev main_call3_call0_c_26 : Ref sig .tc := ⟨.hbm, 710, rfl⟩
abbrev main_call3_call0_v106 : Ref sig .tc := ⟨.hbm, 711, rfl⟩
abbrev main_call3_call0_v107 : Ref sig .tc := ⟨.hbm, 712, rfl⟩
abbrev main_call3_call0_v108 : Ref sig .tc := ⟨.hbm, 713, rfl⟩
abbrev main_call3_call0_c_27 : Ref sig .tc := ⟨.hbm, 714, rfl⟩
abbrev main_call3_call0_v109 : Ref sig .tc := ⟨.hbm, 715, rfl⟩
abbrev main_call3_call0_v110 : Ref sig .tc := ⟨.hbm, 716, rfl⟩
abbrev main_call3_call0_c_28 : Ref sig .tc := ⟨.hbm, 717, rfl⟩
abbrev main_call3_call0_v111 : Ref sig .tc := ⟨.hbm, 718, rfl⟩
abbrev main_call3_call0_v112 : Ref sig .tc := ⟨.hbm, 719, rfl⟩
abbrev main_call3_call0_v113 : Ref sig .tc := ⟨.hbm, 720, rfl⟩
abbrev main_call3_call0_v114 : Ref sig .tc := ⟨.hbm, 721, rfl⟩
abbrev main_call3_call0_v115 : Ref sig .tc := ⟨.hbm, 722, rfl⟩
abbrev main_call3_call0_c_29 : Ref sig .tc := ⟨.hbm, 723, rfl⟩
abbrev main_call3_call0_v116 : Ref sig .tc := ⟨.hbm, 724, rfl⟩
abbrev main_call3_call0_v117 : Ref sig .tc := ⟨.hbm, 725, rfl⟩
abbrev main_call3_call0_c_30 : Ref sig .tc := ⟨.hbm, 726, rfl⟩
abbrev main_call3_call0_v118 : Ref sig .tc := ⟨.hbm, 727, rfl⟩
abbrev main_call3_call0_v119 : Ref sig .tc := ⟨.hbm, 728, rfl⟩
abbrev main_call3_call0_v120 : Ref sig .tc := ⟨.hbm, 729, rfl⟩
abbrev main_call3_call0_v121 : Ref sig .tc := ⟨.hbm, 730, rfl⟩
abbrev main_call3_call0_v122 : Ref sig .tc := ⟨.hbm, 731, rfl⟩
abbrev main_call3_call0_c_31 : Ref sig .tc := ⟨.hbm, 732, rfl⟩
abbrev main_call3_call0_v123 : Ref sig .tc := ⟨.hbm, 733, rfl⟩
abbrev main_call3_call0_v124 : Ref sig .tc := ⟨.hbm, 734, rfl⟩
abbrev main_call3_call0_c_32 : Ref sig .tc := ⟨.hbm, 735, rfl⟩
abbrev main_call3_call0_v125 : Ref sig .tc := ⟨.hbm, 736, rfl⟩
abbrev main_call3_call0_v126 : Ref sig .tc := ⟨.hbm, 737, rfl⟩
abbrev main_call3_call0_v127 : Ref sig .tc := ⟨.hbm, 738, rfl⟩
abbrev main_call3_call0_v128 : Ref sig .tc := ⟨.hbm, 739, rfl⟩
abbrev main_call3_call0_v129 : Ref sig .tc := ⟨.hbm, 740, rfl⟩
abbrev main_call3_call0_c_33 : Ref sig .tc := ⟨.hbm, 741, rfl⟩
abbrev main_call3_call0_v130 : Ref sig .tc := ⟨.hbm, 742, rfl⟩
abbrev main_call3_call0_v131 : Ref sig .tc := ⟨.hbm, 743, rfl⟩
abbrev main_call3_call0_c_34 : Ref sig .tc := ⟨.hbm, 744, rfl⟩
abbrev main_call3_call0_v132 : Ref sig .tc := ⟨.hbm, 745, rfl⟩
abbrev main_call3_call0_v133 : Ref sig .tc := ⟨.hbm, 746, rfl⟩
abbrev main_call3_call0_v134 : Ref sig .tc := ⟨.hbm, 747, rfl⟩
abbrev main_call3_call0_v135 : Ref sig .tc := ⟨.hbm, 748, rfl⟩
abbrev main_call3_call0_v136 : Ref sig .tc := ⟨.hbm, 749, rfl⟩
abbrev main_call3_call0_v137 : Ref sig .tc := ⟨.hbm, 750, rfl⟩
abbrev main_call3_call0_v138 : Ref sig .tc := ⟨.hbm, 751, rfl⟩
abbrev main_call3_call0_v139 : Ref sig .tc := ⟨.hbm, 752, rfl⟩
abbrev main_call3_call0_c_35 : Ref sig .tc := ⟨.hbm, 753, rfl⟩
abbrev main_call3_call0_v140 : Ref sig .tc := ⟨.hbm, 754, rfl⟩
abbrev main_call3_call0_v141 : Ref sig .tc := ⟨.hbm, 755, rfl⟩
abbrev main_call3_call0_v142 : Ref sig .tc := ⟨.hbm, 756, rfl⟩
abbrev main_call3_call0_c_36 : Ref sig .tc := ⟨.hbm, 757, rfl⟩
abbrev main_call3_call0_v143 : Ref sig .tc := ⟨.hbm, 758, rfl⟩
abbrev main_call3_call0_v144 : Ref sig .tc := ⟨.hbm, 759, rfl⟩
abbrev main_call3_call0_c_37 : Ref sig .tc := ⟨.hbm, 760, rfl⟩
abbrev main_call3_call0_v145 : Ref sig .tc := ⟨.hbm, 761, rfl⟩
abbrev main_call3_call0_v146 : Ref sig .tc := ⟨.hbm, 762, rfl⟩
abbrev main_call3_call0_v147 : Ref sig .tc := ⟨.hbm, 763, rfl⟩
abbrev main_call3_call0_v148 : Ref sig .tc := ⟨.hbm, 764, rfl⟩
abbrev main_call3_call0_v149 : Ref sig .tc := ⟨.hbm, 765, rfl⟩
abbrev main_call3_call0_c_38 : Ref sig .tc := ⟨.hbm, 766, rfl⟩
abbrev main_call3_call0_v150 : Ref sig .tc := ⟨.hbm, 767, rfl⟩
abbrev main_call3_call0_v151 : Ref sig .tc := ⟨.hbm, 768, rfl⟩
abbrev main_call3_call0_c_39 : Ref sig .tc := ⟨.hbm, 769, rfl⟩
abbrev main_call3_call0_v152 : Ref sig .tc := ⟨.hbm, 770, rfl⟩
abbrev main_call3_call0_v153 : Ref sig .tc := ⟨.hbm, 771, rfl⟩
abbrev main_call3_call0_v154 : Ref sig .tc := ⟨.hbm, 772, rfl⟩
abbrev main_call3_call0_v155 : Ref sig .tc := ⟨.hbm, 773, rfl⟩
abbrev main_call3_call0_v156 : Ref sig .tc := ⟨.hbm, 774, rfl⟩
abbrev main_call3_call0_c_40 : Ref sig .tc := ⟨.hbm, 775, rfl⟩
abbrev main_call3_call0_v157 : Ref sig .tc := ⟨.hbm, 776, rfl⟩
abbrev main_call3_call0_v158 : Ref sig .tc := ⟨.hbm, 777, rfl⟩
abbrev main_call3_call0_c_41 : Ref sig .tc := ⟨.hbm, 778, rfl⟩
abbrev main_call3_call0_v159 : Ref sig .tc := ⟨.hbm, 779, rfl⟩
abbrev main_call3_call0_v160 : Ref sig .tc := ⟨.hbm, 780, rfl⟩
abbrev main_call3_call0_v161 : Ref sig .tc := ⟨.hbm, 781, rfl⟩
abbrev main_call3_call0_v162 : Ref sig .tc := ⟨.hbm, 782, rfl⟩
abbrev main_call3_call0_v163 : Ref sig .tc := ⟨.hbm, 783, rfl⟩
abbrev main_call3_call0_c_42 : Ref sig .tc := ⟨.hbm, 784, rfl⟩
abbrev main_call3_call0_v164 : Ref sig .tc := ⟨.hbm, 785, rfl⟩
abbrev main_call3_call0_v165 : Ref sig .tc := ⟨.hbm, 786, rfl⟩
abbrev main_call3_call0_c_43 : Ref sig .tc := ⟨.hbm, 787, rfl⟩
abbrev main_call3_call0_v166 : Ref sig .tc := ⟨.hbm, 788, rfl⟩
abbrev main_call3_call0_v167 : Ref sig .tc := ⟨.hbm, 789, rfl⟩
abbrev main_call3_call0_v168 : Ref sig .tc := ⟨.hbm, 790, rfl⟩
abbrev main_call3_call0_v169 : Ref sig .tc := ⟨.hbm, 791, rfl⟩
abbrev main_call3_call0_v170 : Ref sig .tc := ⟨.hbm, 792, rfl⟩
abbrev main_call3_v11_0 : Ref sig .tc := ⟨.hbm, 793, rfl⟩
abbrev main_call3_call0_v172 : Ref sig .tc := ⟨.hbm, 794, rfl⟩
abbrev main_call3_call0_v173 : Ref sig .tc := ⟨.hbm, 795, rfl⟩
abbrev main_call3_call0_c_44 : Ref sig .tc := ⟨.hbm, 796, rfl⟩
abbrev main_call3_call0_v174 : Ref sig .tc := ⟨.hbm, 797, rfl⟩
abbrev main_call3_v11_1 : Ref sig .tc := ⟨.hbm, 798, rfl⟩
abbrev main_v42 : Ref sig .tc := ⟨.hbm, 799, rfl⟩
abbrev main_call4_cst : Ref sig .tc := ⟨.hbm, 800, rfl⟩
abbrev main_call4_cst_0 : Ref sig .tc := ⟨.hbm, 801, rfl⟩
abbrev main_call4_call0_v0 : Ref sig .tc := ⟨.hbm, 802, rfl⟩
abbrev main_call4_call0_v1 : Ref sig .tc := ⟨.hbm, 803, rfl⟩
abbrev main_call4_call0_v2 : Ref sig .tc := ⟨.hbm, 804, rfl⟩
abbrev main_call4_call0_v3 : Ref sig .tc := ⟨.hbm, 805, rfl⟩
abbrev main_call4_call0_v4 : Ref sig .tc := ⟨.hbm, 806, rfl⟩
abbrev main_call4_call0_v5 : Ref sig .tc := ⟨.hbm, 807, rfl⟩
abbrev main_call4_call0_v6 : Ref sig .tc := ⟨.hbm, 808, rfl⟩
abbrev main_call4_call0_v7 : Ref sig .tc := ⟨.hbm, 809, rfl⟩
abbrev main_call4_call0_v8 : Ref sig .tc := ⟨.hbm, 810, rfl⟩
abbrev main_call4_call0_c : Ref sig .tc := ⟨.hbm, 811, rfl⟩
abbrev main_call4_call0_v9 : Ref sig .tc := ⟨.hbm, 812, rfl⟩
abbrev main_call4_call0_v10 : Ref sig .tc := ⟨.hbm, 813, rfl⟩
abbrev main_call4_call0_c_0 : Ref sig .tc := ⟨.hbm, 814, rfl⟩
abbrev main_call4_call0_v11 : Ref sig .tc := ⟨.hbm, 815, rfl⟩
abbrev main_call4_call0_v12 : Ref sig .tc := ⟨.hbm, 816, rfl⟩
abbrev main_call4_call0_v13 : Ref sig .tc := ⟨.hbm, 817, rfl⟩
abbrev main_call4_call0_c_1 : Ref sig .tc := ⟨.hbm, 818, rfl⟩
abbrev main_call4_call0_v14 : Ref sig .tc := ⟨.hbm, 819, rfl⟩
abbrev main_call4_call0_v15 : Ref sig .tc := ⟨.hbm, 820, rfl⟩
abbrev main_call4_call0_v16 : Ref sig .tc := ⟨.hbm, 821, rfl⟩
abbrev main_call4_call0_v17 : Ref sig .tc := ⟨.hbm, 822, rfl⟩
abbrev main_call4_call0_call0_v0 : Ref sig .tc := ⟨.hbm, 823, rfl⟩
abbrev main_call4_call0_call0_c : Ref sig .tc := ⟨.hbm, 824, rfl⟩
abbrev main_call4_call0_call0_v1 : Ref sig .tc := ⟨.hbm, 825, rfl⟩
abbrev main_call4_call0_call0_v2 : Ref sig .tc := ⟨.hbm, 826, rfl⟩
abbrev main_call4_call0_call0_v3 : Ref sig .tc := ⟨.hbm, 827, rfl⟩
abbrev main_call4_call0_call0_v4 : Ref sig .tc := ⟨.hbm, 828, rfl⟩
abbrev main_call4_call0_call0_v5 : Ref sig .tc := ⟨.hbm, 829, rfl⟩
abbrev main_call4_call0_call0_v6 : Ref sig .tc := ⟨.hbm, 830, rfl⟩
abbrev main_call4_call0_call0_c_0 : Ref sig .tc := ⟨.hbm, 831, rfl⟩
abbrev main_call4_call0_call0_v7 : Ref sig .tc := ⟨.hbm, 832, rfl⟩
abbrev main_call4_call0_call0_v8 : Ref sig .tc := ⟨.hbm, 833, rfl⟩
abbrev main_call4_call0_call0_c_1 : Ref sig .tc := ⟨.hbm, 834, rfl⟩
abbrev main_call4_call0_call0_v9 : Ref sig .tc := ⟨.hbm, 835, rfl⟩
abbrev main_call4_call0_call0_v10 : Ref sig .tc := ⟨.hbm, 836, rfl⟩
abbrev main_call4_call0_call0_v11 : Ref sig .tc := ⟨.hbm, 837, rfl⟩
abbrev main_call4_call0_call0_v12 : Ref sig .tc := ⟨.hbm, 838, rfl⟩
abbrev main_call4_call0_call0_v13 : Ref sig .tc := ⟨.hbm, 839, rfl⟩
abbrev main_call4_call0_call0_c_2 : Ref sig .tc := ⟨.hbm, 840, rfl⟩
abbrev main_call4_call0_call0_v14 : Ref sig .tc := ⟨.hbm, 841, rfl⟩
abbrev main_call4_call0_call0_v15 : Ref sig .tc := ⟨.hbm, 842, rfl⟩
abbrev main_call4_call0_call0_c_3 : Ref sig .tc := ⟨.hbm, 843, rfl⟩
abbrev main_call4_call0_call0_v16 : Ref sig .tc := ⟨.hbm, 844, rfl⟩
abbrev main_call4_call0_call0_v17 : Ref sig .tc := ⟨.hbm, 845, rfl⟩
abbrev main_call4_call0_call0_v18 : Ref sig .tc := ⟨.hbm, 846, rfl⟩
abbrev main_call4_call0_call0_v19 : Ref sig .tc := ⟨.hbm, 847, rfl⟩
abbrev main_call4_call0_call0_v20 : Ref sig .tc := ⟨.hbm, 848, rfl⟩
abbrev main_call4_call0_call0_c_4 : Ref sig .tc := ⟨.hbm, 849, rfl⟩
abbrev main_call4_call0_call0_v21 : Ref sig .tc := ⟨.hbm, 850, rfl⟩
abbrev main_call4_call0_call0_v22 : Ref sig .tc := ⟨.hbm, 851, rfl⟩
abbrev main_call4_call0_call0_c_5 : Ref sig .tc := ⟨.hbm, 852, rfl⟩
abbrev main_call4_call0_call0_v23 : Ref sig .tc := ⟨.hbm, 853, rfl⟩
abbrev main_call4_call0_call0_v24 : Ref sig .tc := ⟨.hbm, 854, rfl⟩
abbrev main_call4_call0_call0_v25 : Ref sig .tc := ⟨.hbm, 855, rfl⟩
abbrev main_call4_call0_call0_v26 : Ref sig .tc := ⟨.hbm, 856, rfl⟩
abbrev main_call4_call0_call0_v27 : Ref sig .tc := ⟨.hbm, 857, rfl⟩
abbrev main_call4_call0_call0_c_6 : Ref sig .tc := ⟨.hbm, 858, rfl⟩
abbrev main_call4_call0_call0_v28 : Ref sig .tc := ⟨.hbm, 859, rfl⟩
abbrev main_call4_call0_call0_v29 : Ref sig .tc := ⟨.hbm, 860, rfl⟩
abbrev main_call4_call0_call0_c_7 : Ref sig .tc := ⟨.hbm, 861, rfl⟩
abbrev main_call4_call0_call0_v30 : Ref sig .tc := ⟨.hbm, 862, rfl⟩
abbrev main_call4_call0_call0_v31 : Ref sig .tc := ⟨.hbm, 863, rfl⟩
abbrev main_call4_call0_call0_v32 : Ref sig .tc := ⟨.hbm, 864, rfl⟩
abbrev main_call4_call0_call0_v33 : Ref sig .tc := ⟨.hbm, 865, rfl⟩
abbrev main_call4_call0_call0_v34 : Ref sig .tc := ⟨.hbm, 866, rfl⟩
abbrev main_call4_call0_call0_v35 : Ref sig .tc := ⟨.hbm, 867, rfl⟩
abbrev main_call4_call0_call0_v36 : Ref sig .tc := ⟨.hbm, 868, rfl⟩
abbrev main_call4_call0_call0_v37 : Ref sig .tc := ⟨.hbm, 869, rfl⟩
abbrev main_call4_call0_call0_c_8 : Ref sig .tc := ⟨.hbm, 870, rfl⟩
abbrev main_call4_call0_call0_v38 : Ref sig .tc := ⟨.hbm, 871, rfl⟩
abbrev main_call4_call0_call0_v39 : Ref sig .tc := ⟨.hbm, 872, rfl⟩
abbrev main_call4_call0_call0_v40 : Ref sig .tc := ⟨.hbm, 873, rfl⟩
abbrev main_call4_call0_call0_c_9 : Ref sig .tc := ⟨.hbm, 874, rfl⟩
abbrev main_call4_call0_call0_v41 : Ref sig .tc := ⟨.hbm, 875, rfl⟩
abbrev main_call4_call0_call0_v42 : Ref sig .tc := ⟨.hbm, 876, rfl⟩
abbrev main_call4_call0_call0_c_10 : Ref sig .tc := ⟨.hbm, 877, rfl⟩
abbrev main_call4_call0_call0_v43 : Ref sig .tc := ⟨.hbm, 878, rfl⟩
abbrev main_call4_call0_call0_v44 : Ref sig .tc := ⟨.hbm, 879, rfl⟩
abbrev main_call4_call0_call0_v45 : Ref sig .tc := ⟨.hbm, 880, rfl⟩
abbrev main_call4_call0_call0_v46 : Ref sig .tc := ⟨.hbm, 881, rfl⟩
abbrev main_call4_call0_call0_v47 : Ref sig .tc := ⟨.hbm, 882, rfl⟩
abbrev main_call4_call0_call0_c_11 : Ref sig .tc := ⟨.hbm, 883, rfl⟩
abbrev main_call4_call0_call0_v48 : Ref sig .tc := ⟨.hbm, 884, rfl⟩
abbrev main_call4_call0_call0_v49 : Ref sig .tc := ⟨.hbm, 885, rfl⟩
abbrev main_call4_call0_call0_c_12 : Ref sig .tc := ⟨.hbm, 886, rfl⟩
abbrev main_call4_call0_call0_v50 : Ref sig .tc := ⟨.hbm, 887, rfl⟩
abbrev main_call4_call0_call0_v51 : Ref sig .tc := ⟨.hbm, 888, rfl⟩
abbrev main_call4_call0_call0_v52 : Ref sig .tc := ⟨.hbm, 889, rfl⟩
abbrev main_call4_call0_call0_v53 : Ref sig .tc := ⟨.hbm, 890, rfl⟩
abbrev main_call4_call0_call0_v54 : Ref sig .tc := ⟨.hbm, 891, rfl⟩
abbrev main_call4_call0_call0_c_13 : Ref sig .tc := ⟨.hbm, 892, rfl⟩
abbrev main_call4_call0_call0_v55 : Ref sig .tc := ⟨.hbm, 893, rfl⟩
abbrev main_call4_call0_call0_v56 : Ref sig .tc := ⟨.hbm, 894, rfl⟩
abbrev main_call4_call0_call0_c_14 : Ref sig .tc := ⟨.hbm, 895, rfl⟩
abbrev main_call4_call0_call0_v57 : Ref sig .tc := ⟨.hbm, 896, rfl⟩
abbrev main_call4_call0_call0_v58 : Ref sig .tc := ⟨.hbm, 897, rfl⟩
abbrev main_call4_call0_call0_v59 : Ref sig .tc := ⟨.hbm, 898, rfl⟩
abbrev main_call4_call0_call0_v60 : Ref sig .tc := ⟨.hbm, 899, rfl⟩
abbrev main_call4_call0_call0_v61 : Ref sig .tc := ⟨.hbm, 900, rfl⟩
abbrev main_call4_call0_call0_c_15 : Ref sig .tc := ⟨.hbm, 901, rfl⟩
abbrev main_call4_call0_call0_v62 : Ref sig .tc := ⟨.hbm, 902, rfl⟩
abbrev main_call4_call0_call0_v63 : Ref sig .tc := ⟨.hbm, 903, rfl⟩
abbrev main_call4_call0_call0_c_16 : Ref sig .tc := ⟨.hbm, 904, rfl⟩
abbrev main_call4_call0_call0_v64 : Ref sig .tc := ⟨.hbm, 905, rfl⟩
abbrev main_call4_call0_call0_v65 : Ref sig .tc := ⟨.hbm, 906, rfl⟩
abbrev main_call4_call0_call0_v66 : Ref sig .tc := ⟨.hbm, 907, rfl⟩
abbrev main_call4_call0_call0_v67 : Ref sig .tc := ⟨.hbm, 908, rfl⟩
abbrev main_call4_call0_call0_v68 : Ref sig .tc := ⟨.hbm, 909, rfl⟩
abbrev main_call4_call0_call0_v69 : Ref sig .tc := ⟨.hbm, 910, rfl⟩
abbrev main_call4_call0_call0_v70 : Ref sig .tc := ⟨.hbm, 911, rfl⟩
abbrev main_call4_call0_call0_v71 : Ref sig .tc := ⟨.hbm, 912, rfl⟩
abbrev main_call4_call0_call0_c_17 : Ref sig .tc := ⟨.hbm, 913, rfl⟩
abbrev main_call4_call0_call0_v72 : Ref sig .tc := ⟨.hbm, 914, rfl⟩
abbrev main_call4_call0_call0_v73 : Ref sig .tc := ⟨.hbm, 915, rfl⟩
abbrev main_call4_call0_call0_v74 : Ref sig .tc := ⟨.hbm, 916, rfl⟩
abbrev main_call4_call0_call0_c_18 : Ref sig .tc := ⟨.hbm, 917, rfl⟩
abbrev main_call4_call0_call0_v75 : Ref sig .tc := ⟨.hbm, 918, rfl⟩
abbrev main_call4_call0_call0_v76 : Ref sig .tc := ⟨.hbm, 919, rfl⟩
abbrev main_call4_call0_call0_c_19 : Ref sig .tc := ⟨.hbm, 920, rfl⟩
abbrev main_call4_call0_call0_v77 : Ref sig .tc := ⟨.hbm, 921, rfl⟩
abbrev main_call4_call0_call0_v78 : Ref sig .tc := ⟨.hbm, 922, rfl⟩
abbrev main_call4_call0_call0_v79 : Ref sig .tc := ⟨.hbm, 923, rfl⟩
abbrev main_call4_call0_call0_v80 : Ref sig .tc := ⟨.hbm, 924, rfl⟩
abbrev main_call4_call0_call0_v81 : Ref sig .tc := ⟨.hbm, 925, rfl⟩
abbrev main_call4_call0_call0_c_20 : Ref sig .tc := ⟨.hbm, 926, rfl⟩
abbrev main_call4_call0_call0_v82 : Ref sig .tc := ⟨.hbm, 927, rfl⟩
abbrev main_call4_call0_call0_v83 : Ref sig .tc := ⟨.hbm, 928, rfl⟩
abbrev main_call4_call0_call0_c_21 : Ref sig .tc := ⟨.hbm, 929, rfl⟩
abbrev main_call4_call0_call0_v84 : Ref sig .tc := ⟨.hbm, 930, rfl⟩
abbrev main_call4_call0_call0_v85 : Ref sig .tc := ⟨.hbm, 931, rfl⟩
abbrev main_call4_call0_call0_v86 : Ref sig .tc := ⟨.hbm, 932, rfl⟩
abbrev main_call4_call0_call0_v87 : Ref sig .tc := ⟨.hbm, 933, rfl⟩
abbrev main_call4_call0_call0_v88 : Ref sig .tc := ⟨.hbm, 934, rfl⟩
abbrev main_call4_call0_call0_c_22 : Ref sig .tc := ⟨.hbm, 935, rfl⟩
abbrev main_call4_call0_call0_v89 : Ref sig .tc := ⟨.hbm, 936, rfl⟩
abbrev main_call4_call0_call0_v90 : Ref sig .tc := ⟨.hbm, 937, rfl⟩
abbrev main_call4_call0_call0_c_23 : Ref sig .tc := ⟨.hbm, 938, rfl⟩
abbrev main_call4_call0_call0_v91 : Ref sig .tc := ⟨.hbm, 939, rfl⟩
abbrev main_call4_call0_call0_v92 : Ref sig .tc := ⟨.hbm, 940, rfl⟩
abbrev main_call4_call0_call0_v93 : Ref sig .tc := ⟨.hbm, 941, rfl⟩
abbrev main_call4_call0_call0_v94 : Ref sig .tc := ⟨.hbm, 942, rfl⟩
abbrev main_call4_call0_call0_v95 : Ref sig .tc := ⟨.hbm, 943, rfl⟩
abbrev main_call4_call0_call0_c_24 : Ref sig .tc := ⟨.hbm, 944, rfl⟩
abbrev main_call4_call0_call0_v96 : Ref sig .tc := ⟨.hbm, 945, rfl⟩
abbrev main_call4_call0_call0_v97 : Ref sig .tc := ⟨.hbm, 946, rfl⟩
abbrev main_call4_call0_call0_c_25 : Ref sig .tc := ⟨.hbm, 947, rfl⟩
abbrev main_call4_call0_call0_v98 : Ref sig .tc := ⟨.hbm, 948, rfl⟩
abbrev main_call4_call0_call0_v99 : Ref sig .tc := ⟨.hbm, 949, rfl⟩
abbrev main_call4_call0_call0_v100 : Ref sig .tc := ⟨.hbm, 950, rfl⟩
abbrev main_call4_call0_call0_v101 : Ref sig .tc := ⟨.hbm, 951, rfl⟩
abbrev main_call4_call0_call0_v102 : Ref sig .tc := ⟨.hbm, 952, rfl⟩
abbrev main_call4_call0_call0_v103 : Ref sig .tc := ⟨.hbm, 953, rfl⟩
abbrev main_call4_call0_call0_v104 : Ref sig .tc := ⟨.hbm, 954, rfl⟩
abbrev main_call4_call0_call0_v105 : Ref sig .tc := ⟨.hbm, 955, rfl⟩
abbrev main_call4_call0_call0_c_26 : Ref sig .tc := ⟨.hbm, 956, rfl⟩
abbrev main_call4_call0_call0_v106 : Ref sig .tc := ⟨.hbm, 957, rfl⟩
abbrev main_call4_call0_call0_v107 : Ref sig .tc := ⟨.hbm, 958, rfl⟩
abbrev main_call4_call0_call0_v108 : Ref sig .tc := ⟨.hbm, 959, rfl⟩
abbrev main_call4_call0_call0_c_27 : Ref sig .tc := ⟨.hbm, 960, rfl⟩
abbrev main_call4_call0_call0_v109 : Ref sig .tc := ⟨.hbm, 961, rfl⟩
abbrev main_call4_call0_call0_v110 : Ref sig .tc := ⟨.hbm, 962, rfl⟩
abbrev main_call4_call0_call0_c_28 : Ref sig .tc := ⟨.hbm, 963, rfl⟩
abbrev main_call4_call0_call0_v111 : Ref sig .tc := ⟨.hbm, 964, rfl⟩
abbrev main_call4_call0_call0_v112 : Ref sig .tc := ⟨.hbm, 965, rfl⟩
abbrev main_call4_call0_call0_v113 : Ref sig .tc := ⟨.hbm, 966, rfl⟩
abbrev main_call4_call0_call0_v114 : Ref sig .tc := ⟨.hbm, 967, rfl⟩
abbrev main_call4_call0_call0_v115 : Ref sig .tc := ⟨.hbm, 968, rfl⟩
abbrev main_call4_call0_call0_c_29 : Ref sig .tc := ⟨.hbm, 969, rfl⟩
abbrev main_call4_call0_call0_v116 : Ref sig .tc := ⟨.hbm, 970, rfl⟩
abbrev main_call4_call0_call0_v117 : Ref sig .tc := ⟨.hbm, 971, rfl⟩
abbrev main_call4_call0_call0_c_30 : Ref sig .tc := ⟨.hbm, 972, rfl⟩
abbrev main_call4_call0_call0_v118 : Ref sig .tc := ⟨.hbm, 973, rfl⟩
abbrev main_call4_call0_call0_v119 : Ref sig .tc := ⟨.hbm, 974, rfl⟩
abbrev main_call4_call0_call0_v120 : Ref sig .tc := ⟨.hbm, 975, rfl⟩
abbrev main_call4_call0_call0_v121 : Ref sig .tc := ⟨.hbm, 976, rfl⟩
abbrev main_call4_call0_call0_v122 : Ref sig .tc := ⟨.hbm, 977, rfl⟩
abbrev main_call4_call0_call0_c_31 : Ref sig .tc := ⟨.hbm, 978, rfl⟩
abbrev main_call4_call0_call0_v123 : Ref sig .tc := ⟨.hbm, 979, rfl⟩
abbrev main_call4_call0_call0_v124 : Ref sig .tc := ⟨.hbm, 980, rfl⟩
abbrev main_call4_call0_call0_c_32 : Ref sig .tc := ⟨.hbm, 981, rfl⟩
abbrev main_call4_call0_call0_v125 : Ref sig .tc := ⟨.hbm, 982, rfl⟩
abbrev main_call4_call0_call0_v126 : Ref sig .tc := ⟨.hbm, 983, rfl⟩
abbrev main_call4_call0_call0_v127 : Ref sig .tc := ⟨.hbm, 984, rfl⟩
abbrev main_call4_call0_call0_v128 : Ref sig .tc := ⟨.hbm, 985, rfl⟩
abbrev main_call4_call0_call0_v129 : Ref sig .tc := ⟨.hbm, 986, rfl⟩
abbrev main_call4_call0_call0_c_33 : Ref sig .tc := ⟨.hbm, 987, rfl⟩
abbrev main_call4_call0_call0_v130 : Ref sig .tc := ⟨.hbm, 988, rfl⟩
abbrev main_call4_call0_call0_v131 : Ref sig .tc := ⟨.hbm, 989, rfl⟩
abbrev main_call4_call0_call0_c_34 : Ref sig .tc := ⟨.hbm, 990, rfl⟩
abbrev main_call4_call0_call0_v132 : Ref sig .tc := ⟨.hbm, 991, rfl⟩
abbrev main_call4_call0_call0_v133 : Ref sig .tc := ⟨.hbm, 992, rfl⟩
abbrev main_call4_call0_call0_v134 : Ref sig .tc := ⟨.hbm, 993, rfl⟩
abbrev main_call4_call0_call0_v135 : Ref sig .tc := ⟨.hbm, 994, rfl⟩
abbrev main_call4_call0_call0_v136 : Ref sig .tc := ⟨.hbm, 995, rfl⟩
abbrev main_call4_call0_call0_v137 : Ref sig .tc := ⟨.hbm, 996, rfl⟩
abbrev main_call4_call0_call0_v138 : Ref sig .tc := ⟨.hbm, 997, rfl⟩
abbrev main_call4_call0_call0_v139 : Ref sig .tc := ⟨.hbm, 998, rfl⟩
abbrev main_call4_call0_call0_c_35 : Ref sig .tc := ⟨.hbm, 999, rfl⟩
abbrev main_call4_call0_call0_v140 : Ref sig .tc := ⟨.hbm, 1000, rfl⟩
abbrev main_call4_call0_call0_v141 : Ref sig .tc := ⟨.hbm, 1001, rfl⟩
abbrev main_call4_call0_call0_v142 : Ref sig .tc := ⟨.hbm, 1002, rfl⟩
abbrev main_call4_call0_call0_c_36 : Ref sig .tc := ⟨.hbm, 1003, rfl⟩
abbrev main_call4_call0_call0_v143 : Ref sig .tc := ⟨.hbm, 1004, rfl⟩
abbrev main_call4_call0_call0_v144 : Ref sig .tc := ⟨.hbm, 1005, rfl⟩
abbrev main_call4_call0_call0_c_37 : Ref sig .tc := ⟨.hbm, 1006, rfl⟩
abbrev main_call4_call0_call0_v145 : Ref sig .tc := ⟨.hbm, 1007, rfl⟩
abbrev main_call4_call0_call0_v146 : Ref sig .tc := ⟨.hbm, 1008, rfl⟩
abbrev main_call4_call0_call0_v147 : Ref sig .tc := ⟨.hbm, 1009, rfl⟩
abbrev main_call4_call0_call0_v148 : Ref sig .tc := ⟨.hbm, 1010, rfl⟩
abbrev main_call4_call0_call0_v149 : Ref sig .tc := ⟨.hbm, 1011, rfl⟩
abbrev main_call4_call0_call0_c_38 : Ref sig .tc := ⟨.hbm, 1012, rfl⟩
abbrev main_call4_call0_call0_v150 : Ref sig .tc := ⟨.hbm, 1013, rfl⟩
abbrev main_call4_call0_call0_v151 : Ref sig .tc := ⟨.hbm, 1014, rfl⟩
abbrev main_call4_call0_call0_c_39 : Ref sig .tc := ⟨.hbm, 1015, rfl⟩
abbrev main_call4_call0_call0_v152 : Ref sig .tc := ⟨.hbm, 1016, rfl⟩
abbrev main_call4_call0_call0_v153 : Ref sig .tc := ⟨.hbm, 1017, rfl⟩
abbrev main_call4_call0_call0_v154 : Ref sig .tc := ⟨.hbm, 1018, rfl⟩
abbrev main_call4_call0_call0_v155 : Ref sig .tc := ⟨.hbm, 1019, rfl⟩
abbrev main_call4_call0_call0_v156 : Ref sig .tc := ⟨.hbm, 1020, rfl⟩
abbrev main_call4_call0_call0_c_40 : Ref sig .tc := ⟨.hbm, 1021, rfl⟩
abbrev main_call4_call0_call0_v157 : Ref sig .tc := ⟨.hbm, 1022, rfl⟩
abbrev main_call4_call0_call0_v158 : Ref sig .tc := ⟨.hbm, 1023, rfl⟩
abbrev main_call4_call0_call0_c_41 : Ref sig .tc := ⟨.hbm, 1024, rfl⟩
abbrev main_call4_call0_call0_v159 : Ref sig .tc := ⟨.hbm, 1025, rfl⟩
abbrev main_call4_call0_call0_v160 : Ref sig .tc := ⟨.hbm, 1026, rfl⟩
abbrev main_call4_call0_call0_v161 : Ref sig .tc := ⟨.hbm, 1027, rfl⟩
abbrev main_call4_call0_call0_v162 : Ref sig .tc := ⟨.hbm, 1028, rfl⟩
abbrev main_call4_call0_call0_v163 : Ref sig .tc := ⟨.hbm, 1029, rfl⟩
abbrev main_call4_call0_call0_c_42 : Ref sig .tc := ⟨.hbm, 1030, rfl⟩
abbrev main_call4_call0_call0_v164 : Ref sig .tc := ⟨.hbm, 1031, rfl⟩
abbrev main_call4_call0_call0_v165 : Ref sig .tc := ⟨.hbm, 1032, rfl⟩
abbrev main_call4_call0_call0_c_43 : Ref sig .tc := ⟨.hbm, 1033, rfl⟩
abbrev main_call4_call0_call0_v166 : Ref sig .tc := ⟨.hbm, 1034, rfl⟩
abbrev main_call4_call0_call0_v167 : Ref sig .tc := ⟨.hbm, 1035, rfl⟩
abbrev main_call4_call0_call0_v168 : Ref sig .tc := ⟨.hbm, 1036, rfl⟩
abbrev main_call4_call0_call0_v169 : Ref sig .tc := ⟨.hbm, 1037, rfl⟩
abbrev main_call4_call0_call0_v170 : Ref sig .tc := ⟨.hbm, 1038, rfl⟩
abbrev main_call4_call0_v18_0 : Ref sig .tc := ⟨.hbm, 1039, rfl⟩
abbrev main_call4_call0_call0_v172 : Ref sig .tc := ⟨.hbm, 1040, rfl⟩
abbrev main_call4_call0_call0_v173 : Ref sig .tc := ⟨.hbm, 1041, rfl⟩
abbrev main_call4_call0_call0_c_44 : Ref sig .tc := ⟨.hbm, 1042, rfl⟩
abbrev main_call4_call0_call0_v174 : Ref sig .tc := ⟨.hbm, 1043, rfl⟩
abbrev main_call4_call0_v18_1 : Ref sig .tc := ⟨.hbm, 1044, rfl⟩
abbrev main_call4_call0_v19 : Ref sig .tc := ⟨.hbm, 1045, rfl⟩
abbrev main_call4_call0_c_2 : Ref sig .tc := ⟨.hbm, 1046, rfl⟩
abbrev main_call4_call0_v20 : Ref sig .tc := ⟨.hbm, 1047, rfl⟩
abbrev main_call4_call0_v21 : Ref sig .tc := ⟨.hbm, 1048, rfl⟩
abbrev main_call4_call0_c_3 : Ref sig .tc := ⟨.hbm, 1049, rfl⟩
abbrev main_call4_call0_v22 : Ref sig .tc := ⟨.hbm, 1050, rfl⟩
abbrev main_call4_call0_v23 : Ref sig .tc := ⟨.hbm, 1051, rfl⟩
abbrev main_call4_call0_v24 : Ref sig .tc := ⟨.hbm, 1052, rfl⟩
abbrev main_call4_call0_cst : Ref sig .tc := ⟨.hbm, 1053, rfl⟩
abbrev main_call4_call0_v25 : Ref sig .tc := ⟨.hbm, 1054, rfl⟩
abbrev main_call4_call0_v26 : Ref sig .tc := ⟨.hbm, 1055, rfl⟩
abbrev main_call4_call0_v27 : Ref sig .tc := ⟨.hbm, 1056, rfl⟩
abbrev main_call4_call0_v28 : Ref sig .tc := ⟨.hbm, 1057, rfl⟩
abbrev main_call4_call0_v29 : Ref sig .tc := ⟨.hbm, 1058, rfl⟩
abbrev main_call4_call0_v30 : Ref sig .tc := ⟨.hbm, 1059, rfl⟩
abbrev main_call4_call0_v31 : Ref sig .tc := ⟨.hbm, 1060, rfl⟩
abbrev main_call4_call0_v32 : Ref sig .tc := ⟨.hbm, 1061, rfl⟩
abbrev main_call4_v0 : Ref sig .tc := ⟨.hbm, 1062, rfl⟩
abbrev main_call4_v1 : Ref sig .tc := ⟨.hbm, 1063, rfl⟩
abbrev main_call4_v2 : Ref sig .tc := ⟨.hbm, 1064, rfl⟩
abbrev main_call4_v3 : Ref sig .tc := ⟨.hbm, 1065, rfl⟩
abbrev main_v43 : Ref sig .tc := ⟨.hbm, 1066, rfl⟩
abbrev main_v44 : Ref sig .tc := ⟨.hbm, 1067, rfl⟩
abbrev main_call5_v0 : Ref sig .tc := ⟨.hbm, 1068, rfl⟩
abbrev main_call5_cst : Ref sig .tc := ⟨.hbm, 1069, rfl⟩
abbrev main_call5_c : Ref sig .tc := ⟨.hbm, 1070, rfl⟩
abbrev main_call5_v1_0 : Ref sig .tc := ⟨.hbm, 1071, rfl⟩
abbrev main_v45 : Ref sig .tc := ⟨.hbm, 1072, rfl⟩
abbrev main_c_12 : Ref sig .tc := ⟨.hbm, 1073, rfl⟩
abbrev main_v46 : Ref sig .tc := ⟨.hbm, 1074, rfl⟩
abbrev main_v47 : Ref sig .tc := ⟨.hbm, 1075, rfl⟩
abbrev main_c_13 : Ref sig .tc := ⟨.hbm, 1076, rfl⟩
abbrev main_v48 : Ref sig .tc := ⟨.hbm, 1077, rfl⟩
abbrev main_v49 : Ref sig .tc := ⟨.hbm, 1078, rfl⟩
abbrev main_c_14 : Ref sig .tc := ⟨.hbm, 1079, rfl⟩
abbrev main_c_15 : Ref sig .tc := ⟨.hbm, 1080, rfl⟩
abbrev main_call6_v0 : Ref sig .tc := ⟨.hbm, 1081, rfl⟩
abbrev main_call6_v1 : Ref sig .tc := ⟨.hbm, 1082, rfl⟩
abbrev main_v50 : Ref sig .tc := ⟨.hbm, 1083, rfl⟩
abbrev main_c_16 : Ref sig .tc := ⟨.hbm, 1084, rfl⟩
abbrev main_call7_v0 : Ref sig .tc := ⟨.hbm, 1085, rfl⟩
abbrev main_v51 : Ref sig .tc := ⟨.hbm, 1086, rfl⟩
abbrev main_v52 : Ref sig .tc := ⟨.hbm, 1087, rfl⟩
abbrev main_c_17 : Ref sig .tc := ⟨.hbm, 1088, rfl⟩
abbrev main_v53 : Ref sig .tc := ⟨.hbm, 1089, rfl⟩
abbrev main_v54 : Ref sig .tc := ⟨.hbm, 1090, rfl⟩
abbrev main_c_18 : Ref sig .tc := ⟨.hbm, 1091, rfl⟩
abbrev main_v55 : Ref sig .tc := ⟨.hbm, 1092, rfl⟩
abbrev main_v56 : Ref sig .tc := ⟨.hbm, 1093, rfl⟩
abbrev main_c_19 : Ref sig .tc := ⟨.hbm, 1094, rfl⟩
abbrev main_c_20 : Ref sig .tc := ⟨.hbm, 1095, rfl⟩
abbrev main_call8_v0 : Ref sig .tc := ⟨.hbm, 1096, rfl⟩
abbrev main_call8_v1 : Ref sig .tc := ⟨.hbm, 1097, rfl⟩
abbrev main_v57 : Ref sig .tc := ⟨.hbm, 1098, rfl⟩
abbrev main_c_21 : Ref sig .tc := ⟨.hbm, 1099, rfl⟩
abbrev main_call9_v0 : Ref sig .tc := ⟨.hbm, 1100, rfl⟩
abbrev main_v58 : Ref sig .tc := ⟨.hbm, 1101, rfl⟩
abbrev main_v59 : Ref sig .tc := ⟨.hbm, 1102, rfl⟩
abbrev main_cst_22 : Ref sig .tc := ⟨.hbm, 1103, rfl⟩
abbrev main_v60 : Ref sig .tc := ⟨.hbm, 1104, rfl⟩
abbrev main_v61 : Ref sig .tc := ⟨.hbm, 1105, rfl⟩
abbrev main_v62 : Ref sig .tc := ⟨.hbm, 1106, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v11 : Index := Scalar.indexCast arg0
  ![v11.toNat]
def k0_off3 (i : grid0.Coords) : Fin 1 → Nat :=
  let arg0 : BitVec 32 := BitVec.ofNat 32 (i 0).val
  let v22 : Index := Scalar.indexCast arg0
  ![v22.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3x224x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x224x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S128x3x224x224 : Shape := ⟨4, ![128, 3, 224, 224]⟩
abbrev S8 : Shape := ⟨1, ![8]⟩
abbrev S_ : Shape := ⟨0, ![]⟩
abbrev S1 : Shape := ⟨1, ![1]⟩
abbrev S2 : Shape := ⟨1, ![2]⟩
abbrev S1x8 : Shape := ⟨2, ![1, 8]⟩
abbrev S1x1 : Shape := ⟨2, ![1, 1]⟩
abbrev S128x8 : Shape := ⟨2, ![128, 8]⟩
abbrev S128 : Shape := ⟨1, ![128]⟩
abbrev S128x1x1x1 : Shape := ⟨4, ![128, 1, 1, 1]⟩

abbrev nBuf : Space → Nat
  | .hbm => 1333
  | .vmem => 0
  | .smem => 0
  | _ => 0

abbrev hbmTy0_0 (i : Nat) : BufTy := match i % 128 with
  | 0 => ⟨S128x3x224x224, .f32⟩
  | 1 => ⟨S8, .f32⟩
  | 2 => ⟨S_, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S1x8, .f32⟩
  | 15 => ⟨S_, .f32⟩
  | 16 => ⟨S1, .f32⟩
  | 17 => ⟨S_, .f32⟩
  | 18 => ⟨S1, .f32⟩
  | 19 => ⟨S1, .f32⟩
  | 20 => ⟨S1x1, .f32⟩
  | 21 => ⟨S1x8, .f32⟩
  | 22 => ⟨S1x8, .f32⟩
  | 23 => ⟨S1x8, .f32⟩
  | 24 => ⟨S_, .f32⟩
  | 25 => ⟨S1, .f32⟩
  | 26 => ⟨S1x1, .f32⟩
  | 27 => ⟨S1x8, .f32⟩
  | 28 => ⟨S1x8, .f32⟩
  | 29 => ⟨S1x8, .f32⟩
  | 30 => ⟨S_, .f32⟩
  | 31 => ⟨S1x8, .f32⟩
  | 32 => ⟨S1x8, .f32⟩
  | 33 => ⟨S_, .f32⟩
  | 34 => ⟨S1x8, .f32⟩
  | 35 => ⟨S1x8, .f32⟩
  | 36 => ⟨S1x8, .f32⟩
  | 37 => ⟨S_, .f32⟩
  | 38 => ⟨S1, .f32⟩
  | 39 => ⟨S_, .f32⟩
  | 40 => ⟨S1, .f32⟩
  | 41 => ⟨S1, .f32⟩
  | 42 => ⟨S1x1, .f32⟩
  | 43 => ⟨S1x8, .f32⟩
  | 44 => ⟨S1x8, .f32⟩
  | 45 => ⟨S1x8, .f32⟩
  | 46 => ⟨S_, .f32⟩
  | 47 => ⟨S1, .f32⟩
  | 48 => ⟨S1x1, .f32⟩
  | 49 => ⟨S1x8, .f32⟩
  | 50 => ⟨S1x8, .f32⟩
  | 51 => ⟨S128x8, .f32⟩
  | 52 => ⟨S128x8, .f32⟩
  | 53 => ⟨S_, .i32⟩
  | 54 => ⟨S_, .i32⟩
  | 55 => ⟨S_, .i32⟩
  | 56 => ⟨S1, .i32⟩
  | 57 => ⟨S_, .i32⟩
  | 58 => ⟨S_, .i32⟩
  | 59 => ⟨S1, .i32⟩
  | 60 => ⟨S2, .i32⟩
  | 61 => ⟨S1, .i32⟩
  | 62 => ⟨S_, .i32⟩
  | 63 => ⟨S1, .i32⟩
  | 64 => ⟨S_, .i32⟩
  | 65 => ⟨S1, .i32⟩
  | 66 => ⟨S1, .i32⟩
  | 67 => ⟨S_, .i32⟩
  | 68 => ⟨S_, .i32⟩
  | 69 => ⟨S_, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S_, .i32⟩
  | 79 => ⟨S1, .i32⟩
  | 80 => ⟨S1, .i32⟩
  | 81 => ⟨S1, .i32⟩
  | 82 => ⟨S1, .i32⟩
  | 83 => ⟨S1, .i32⟩
  | 84 => ⟨S_, .i32⟩
  | 85 => ⟨S1, .i32⟩
  | 86 => ⟨S1, .i32⟩
  | 87 => ⟨S_, .i32⟩
  | 88 => ⟨S1, .i32⟩
  | 89 => ⟨S1, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S_, .i32⟩
  | 97 => ⟨S1, .i32⟩
  | 98 => ⟨S1, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S_, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S_, .i32⟩
  | 122 => ⟨S1, .i32⟩
  | 123 => ⟨S1, .i32⟩
  | 124 => ⟨S1, .i32⟩
  | 125 => ⟨S1, .i32⟩
  | 126 => ⟨S1, .i32⟩
  | 127 => ⟨S_, .i32⟩
  | _ => ⟨S128x3x224x224, .f32⟩

abbrev hbmTy0_1 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S1, .i32⟩
  | 6 => ⟨S1, .i32⟩
  | 7 => ⟨S1, .i32⟩
  | 8 => ⟨S_, .i32⟩
  | 9 => ⟨S1, .i32⟩
  | 10 => ⟨S1, .i32⟩
  | 11 => ⟨S_, .i32⟩
  | 12 => ⟨S1, .i32⟩
  | 13 => ⟨S1, .i32⟩
  | 14 => ⟨S1, .i32⟩
  | 15 => ⟨S1, .i32⟩
  | 16 => ⟨S1, .i32⟩
  | 17 => ⟨S_, .i32⟩
  | 18 => ⟨S1, .i32⟩
  | 19 => ⟨S1, .i32⟩
  | 20 => ⟨S_, .i32⟩
  | 21 => ⟨S1, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S_, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S128x3x224x224, .f32⟩

abbrev hbmTy0_2 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S2, .i32⟩
  | 34 => ⟨S_, .f32⟩
  | 35 => ⟨S_, .f32⟩
  | 36 => ⟨S_, .f32⟩
  | 37 => ⟨S1x1, .f32⟩
  | 38 => ⟨S1x1, .f32⟩
  | 39 => ⟨S1, .i32⟩
  | 40 => ⟨S_, .i32⟩
  | 41 => ⟨S1, .i32⟩
  | 42 => ⟨S_, .i32⟩
  | 43 => ⟨S128x8, .i64⟩
  | 44 => ⟨S128x8, .i64⟩
  | 45 => ⟨S_, .i64⟩
  | 46 => ⟨S128x8, .i64⟩
  | 47 => ⟨S128x8, .i64⟩
  | 48 => ⟨S_, .i64⟩
  | 49 => ⟨S128x8, .i64⟩
  | 50 => ⟨S128x8, .i64⟩
  | 51 => ⟨S128x8, .i64⟩
  | 52 => ⟨S_, .i64⟩
  | 53 => ⟨S128x8, .i64⟩
  | 54 => ⟨S128x8, .i64⟩
  | 55 => ⟨S128x8, .i32⟩
  | 56 => ⟨S128x8, .i32⟩
  | 57 => ⟨S_, .i32⟩
  | 58 => ⟨S_, .i32⟩
  | 59 => ⟨S_, .i32⟩
  | 60 => ⟨S128x8, .i32⟩
  | 61 => ⟨S128x8, .i32⟩
  | 62 => ⟨S128x8, .i32⟩
  | 63 => ⟨S128x8, .i32⟩
  | 64 => ⟨S128x8, .i32⟩
  | 65 => ⟨S_, .i32⟩
  | 66 => ⟨S128x8, .i32⟩
  | 67 => ⟨S128x8, .i32⟩
  | 68 => ⟨S_, .i32⟩
  | 69 => ⟨S128x8, .i32⟩
  | 70 => ⟨S128x8, .i32⟩
  | 71 => ⟨S128x8, .i32⟩
  | 72 => ⟨S128x8, .i32⟩
  | 73 => ⟨S128x8, .i32⟩
  | 74 => ⟨S_, .i32⟩
  | 75 => ⟨S128x8, .i32⟩
  | 76 => ⟨S128x8, .i32⟩
  | 77 => ⟨S_, .i32⟩
  | 78 => ⟨S128x8, .i32⟩
  | 79 => ⟨S128x8, .i32⟩
  | 80 => ⟨S128x8, .i32⟩
  | 81 => ⟨S128x8, .i32⟩
  | 82 => ⟨S128x8, .i32⟩
  | 83 => ⟨S_, .i32⟩
  | 84 => ⟨S128x8, .i32⟩
  | 85 => ⟨S128x8, .i32⟩
  | 86 => ⟨S_, .i32⟩
  | 87 => ⟨S128x8, .i32⟩
  | 88 => ⟨S128x8, .i32⟩
  | 89 => ⟨S128x8, .i32⟩
  | 90 => ⟨S128x8, .i32⟩
  | 91 => ⟨S128x8, .i32⟩
  | 92 => ⟨S_, .i32⟩
  | 93 => ⟨S128x8, .i32⟩
  | 94 => ⟨S128x8, .i32⟩
  | 95 => ⟨S_, .i32⟩
  | 96 => ⟨S128x8, .i32⟩
  | 97 => ⟨S128x8, .i32⟩
  | 98 => ⟨S128x8, .i32⟩
  | 99 => ⟨S128x8, .i32⟩
  | 100 => ⟨S128x8, .i32⟩
  | 101 => ⟨S128x8, .i32⟩
  | 102 => ⟨S128x8, .i32⟩
  | 103 => ⟨S128x8, .i32⟩
  | 104 => ⟨S_, .i32⟩
  | 105 => ⟨S128x8, .i32⟩
  | 106 => ⟨S128x8, .i32⟩
  | 107 => ⟨S128x8, .i32⟩
  | 108 => ⟨S_, .i32⟩
  | 109 => ⟨S128x8, .i32⟩
  | 110 => ⟨S128x8, .i32⟩
  | 111 => ⟨S_, .i32⟩
  | 112 => ⟨S128x8, .i32⟩
  | 113 => ⟨S128x8, .i32⟩
  | 114 => ⟨S128x8, .i32⟩
  | 115 => ⟨S128x8, .i32⟩
  | 116 => ⟨S128x8, .i32⟩
  | 117 => ⟨S_, .i32⟩
  | 118 => ⟨S128x8, .i32⟩
  | 119 => ⟨S128x8, .i32⟩
  | 120 => ⟨S_, .i32⟩
  | 121 => ⟨S128x8, .i32⟩
  | 122 => ⟨S128x8, .i32⟩
  | 123 => ⟨S128x8, .i32⟩
  | 124 => ⟨S128x8, .i32⟩
  | 125 => ⟨S128x8, .i32⟩
  | 126 => ⟨S_, .i32⟩
  | 127 => ⟨S128x8, .i32⟩
  | _ => ⟨S128x3x224x224, .f32⟩

abbrev hbmTy0_3 (i : Nat) : BufTy := match i % 128 with
  | 0 => ⟨S128x8, .i32⟩
  | 1 => ⟨S_, .i32⟩
  | 2 => ⟨S128x8, .i32⟩
  | 3 => ⟨S128x8, .i32⟩
  | 4 => ⟨S128x8, .i32⟩
  | 5 => ⟨S128x8, .i32⟩
  | 6 => ⟨S128x8, .i32⟩
  | 7 => ⟨S_, .i32⟩
  | 8 => ⟨S128x8, .i32⟩
  | 9 => ⟨S128x8, .i32⟩
  | 10 => ⟨S_, .i32⟩
  | 11 => ⟨S128x8, .i32⟩
  | 12 => ⟨S128x8, .i32⟩
  | 13 => ⟨S128x8, .i32⟩
  | 14 => ⟨S128x8, .i32⟩
  | 15 => ⟨S128x8, .i32⟩
  | 16 => ⟨S128x8, .i32⟩
  | 17 => ⟨S128x8, .i32⟩
  | 18 => ⟨S128x8, .i32⟩
  | 19 => ⟨S_, .i32⟩
  | 20 => ⟨S128x8, .i32⟩
  | 21 => ⟨S128x8, .i32⟩
  | 22 => ⟨S128x8, .i32⟩
  | 23 => ⟨S_, .i32⟩
  | 24 => ⟨S128x8, .i32⟩
  | 25 => ⟨S128x8, .i32⟩
  | 26 => ⟨S_, .i32⟩
  | 27 => ⟨S128x8, .i32⟩
  | 28 => ⟨S128x8, .i32⟩
  | 29 => ⟨S128x8, .i32⟩
  | 30 => ⟨S128x8, .i32⟩
  | 31 => ⟨S128x8, .i32⟩
  | 32 => ⟨S_, .i32⟩
  | 33 => ⟨S128x8, .i32⟩
  | 34 => ⟨S128x8, .i32⟩
  | 35 => ⟨S_, .i32⟩
  | 36 => ⟨S128x8, .i32⟩
  | 37 => ⟨S128x8, .i32⟩
  | 38 => ⟨S128x8, .i32⟩
  | 39 => ⟨S128x8, .i32⟩
  | 40 => ⟨S128x8, .i32⟩
  | 41 => ⟨S_, .i32⟩
  | 42 => ⟨S128x8, .i32⟩
  | 43 => ⟨S128x8, .i32⟩
  | 44 => ⟨S_, .i32⟩
  | 45 => ⟨S128x8, .i32⟩
  | 46 => ⟨S128x8, .i32⟩
  | 47 => ⟨S128x8, .i32⟩
  | 48 => ⟨S128x8, .i32⟩
  | 49 => ⟨S128x8, .i32⟩
  | 50 => ⟨S_, .i32⟩
  | 51 => ⟨S128x8, .i32⟩
  | 52 => ⟨S128x8, .i32⟩
  | 53 => ⟨S_, .i32⟩
  | 54 => ⟨S128x8, .i32⟩
  | 55 => ⟨S128x8, .i32⟩
  | 56 => ⟨S128x8, .i32⟩
  | 57 => ⟨S128x8, .i32⟩
  | 58 => ⟨S128x8, .i32⟩
  | 59 => ⟨S128x8, .i32⟩
  | 60 => ⟨S128x8, .i32⟩
  | 61 => ⟨S128x8, .i32⟩
  | 62 => ⟨S_, .i32⟩
  | 63 => ⟨S128x8, .i32⟩
  | 64 => ⟨S128x8, .i32⟩
  | 65 => ⟨S128x8, .i32⟩
  | 66 => ⟨S_, .i32⟩
  | 67 => ⟨S128x8, .i32⟩
  | 68 => ⟨S128x8, .i32⟩
  | 69 => ⟨S_, .i32⟩
  | 70 => ⟨S128x8, .i32⟩
  | 71 => ⟨S128x8, .i32⟩
  | 72 => ⟨S128x8, .i32⟩
  | 73 => ⟨S128x8, .i32⟩
  | 74 => ⟨S128x8, .i32⟩
  | 75 => ⟨S_, .i32⟩
  | 76 => ⟨S128x8, .i32⟩
  | 77 => ⟨S128x8, .i32⟩
  | 78 => ⟨S_, .i32⟩
  | 79 => ⟨S128x8, .i32⟩
  | 80 => ⟨S128x8, .i32⟩
  | 81 => ⟨S128x8, .i32⟩
  | 82 => ⟨S128x8, .i32⟩
  | 83 => ⟨S128x8, .i32⟩
  | 84 => ⟨S_, .i32⟩
  | 85 => ⟨S128x8, .i32⟩
  | 86 => ⟨S128x8, .i32⟩
  | 87 => ⟨S_, .i32⟩
  | 88 => ⟨S128x8, .i32⟩
  | 89 => ⟨S128x8, .i32⟩
  | 90 => ⟨S128x8, .i32⟩
  | 91 => ⟨S128x8, .i32⟩
  | 92 => ⟨S128x8, .i32⟩
  | 93 => ⟨S_, .i32⟩
  | 94 => ⟨S128x8, .i32⟩
  | 95 => ⟨S128x8, .i32⟩
  | 96 => ⟨S_, .i32⟩
  | 97 => ⟨S128x8, .i32⟩
  | 98 => ⟨S128x8, .i32⟩
  | 99 => ⟨S128x8, .i32⟩
  | 100 => ⟨S128x8, .i32⟩
  | 101 => ⟨S128x8, .i32⟩
  | 102 => ⟨S128x8, .i32⟩
  | 103 => ⟨S128x8, .i32⟩
  | 104 => ⟨S128x8, .i32⟩
  | 105 => ⟨S_, .i32⟩
  | 106 => ⟨S128x8, .i32⟩
  | 107 => ⟨S128x8, .i32⟩
  | 108 => ⟨S128x8, .i32⟩
  | 109 => ⟨S_, .i32⟩
  | 110 => ⟨S128x8, .i32⟩
  | 111 => ⟨S128x8, .i32⟩
  | 112 => ⟨S_, .i32⟩
  | 113 => ⟨S128x8, .i32⟩
  | 114 => ⟨S128x8, .i32⟩
  | 115 => ⟨S128x8, .i32⟩
  | 116 => ⟨S128x8, .i32⟩
  | 117 => ⟨S128x8, .i32⟩
  | 118 => ⟨S_, .i32⟩
  | 119 => ⟨S128x8, .i32⟩
  | 120 => ⟨S128x8, .i32⟩
  | 121 => ⟨S_, .i32⟩
  | 122 => ⟨S128x8, .i32⟩
  | 123 => ⟨S128x8, .i32⟩
  | 124 => ⟨S128x8, .i32⟩
  | 125 => ⟨S128x8, .i32⟩
  | 126 => ⟨S128x8, .i32⟩
  | 127 => ⟨S_, .i32⟩
  | _ => ⟨S128x3x224x224, .f32⟩

abbrev hbmTy0_4 (i : Nat) : BufTy := match i % 128 with
  | 0 => ⟨S128x8, .i32⟩
  | 1 => ⟨S128x8, .i32⟩
  | 2 => ⟨S_, .i32⟩
  | 3 => ⟨S128x8, .i32⟩
  | 4 => ⟨S128x8, .i32⟩
  | 5 => ⟨S128x8, .i32⟩
  | 6 => ⟨S128x8, .i32⟩
  | 7 => ⟨S128x8, .i32⟩
  | 8 => ⟨S_, .i32⟩
  | 9 => ⟨S128x8, .i32⟩
  | 10 => ⟨S128x8, .i32⟩
  | 11 => ⟨S_, .i32⟩
  | 12 => ⟨S128x8, .i32⟩
  | 13 => ⟨S128x8, .i32⟩
  | 14 => ⟨S128x8, .i32⟩
  | 15 => ⟨S128x8, .i32⟩
  | 16 => ⟨S128x8, .i32⟩
  | 17 => ⟨S128x8, .i32⟩
  | 18 => ⟨S128x8, .i32⟩
  | 19 => ⟨S128x8, .i32⟩
  | 20 => ⟨S_, .i32⟩
  | 21 => ⟨S128x8, .i32⟩
  | 22 => ⟨S128x8, .i32⟩
  | 23 => ⟨S128x8, .i32⟩
  | 24 => ⟨S_, .i32⟩
  | 25 => ⟨S128x8, .i32⟩
  | 26 => ⟨S128x8, .i32⟩
  | 27 => ⟨S_, .i32⟩
  | 28 => ⟨S128x8, .i32⟩
  | 29 => ⟨S128x8, .i32⟩
  | 30 => ⟨S128x8, .f32⟩
  | 31 => ⟨S_, .f32⟩
  | 32 => ⟨S128x8, .f32⟩
  | 33 => ⟨S128x8, .f32⟩
  | 34 => ⟨S1x1, .f32⟩
  | 35 => ⟨S128x8, .f32⟩
  | 36 => ⟨S128x8, .f32⟩
  | 37 => ⟨S128x8, .f32⟩
  | 38 => ⟨S128x8, .f32⟩
  | 39 => ⟨S128x8, .f32⟩
  | 40 => ⟨S128x8, .f32⟩
  | 41 => ⟨S128x8, .f32⟩
  | 42 => ⟨S128x8, .f32⟩
  | 43 => ⟨S128x8, .f32⟩
  | 44 => ⟨S128x8, .f32⟩
  | 45 => ⟨S128x8, .f32⟩
  | 46 => ⟨S128x8, .i32⟩
  | 47 => ⟨S_, .f32⟩
  | 48 => ⟨S_, .i32⟩
  | 49 => ⟨S128, .f32⟩
  | 50 => ⟨S128, .i32⟩
  | 51 => ⟨S_, .i32⟩
  | 52 => ⟨S128, .i32⟩
  | 53 => ⟨S128, .i1⟩
  | 54 => ⟨S128x1x1x1, .i1⟩
  | 55 => ⟨S128x3x224x224, .i1⟩
  | 56 => ⟨S128x3x224x224, .f32⟩
  | 57 => ⟨S_, .i32⟩
  | 58 => ⟨S128, .i32⟩
  | 59 => ⟨S128, .i1⟩
  | 60 => ⟨S128x1x1x1, .i1⟩
  | 61 => ⟨S128x3x224x224, .f32⟩
  | 62 => ⟨S128x3x224x224, .i1⟩
  | 63 => ⟨S128x3x224x224, .f32⟩
  | 64 => ⟨S_, .i32⟩
  | 65 => ⟨S128, .i32⟩
  | 66 => ⟨S128, .i1⟩
  | 67 => ⟨S128x1x1x1, .i1⟩
  | 68 => ⟨S128x3x224x224, .f32⟩
  | 69 => ⟨S128x3x224x224, .i1⟩
  | 70 => ⟨S128x3x224x224, .f32⟩
  | 71 => ⟨S_, .i32⟩
  | 72 => ⟨S128, .i32⟩
  | 73 => ⟨S128, .i1⟩
  | 74 => ⟨S128x1x1x1, .i1⟩
  | 75 => ⟨S_, .f32⟩
  | 76 => ⟨S_, .f32⟩
  | 77 => ⟨S_, .f32⟩
  | 78 => ⟨S_, .f32⟩
  | 79 => ⟨S128x3x224x224, .f32⟩
  | 80 => ⟨S128x3x224x224, .f32⟩
  | 81 => ⟨S_, .f32⟩
  | 82 => ⟨S_, .f32⟩
  | 83 => ⟨S_, .f32⟩
  | 84 => ⟨S128x3x224x224, .f32⟩
  | 85 => ⟨S128x3x224x224, .f32⟩
  | 86 => ⟨S_, .f32⟩
  | 87 => ⟨S128x3x224x224, .f32⟩
  | 88 => ⟨S128x3x224x224, .f32⟩
  | 89 => ⟨S128x3x224x224, .i1⟩
  | 90 => ⟨S128x3x224x224, .f32⟩
  | 91 => ⟨S_, .i32⟩
  | 92 => ⟨S128, .i32⟩
  | 93 => ⟨S128, .i1⟩
  | 94 => ⟨S128x1x1x1, .i1⟩
  | 95 => ⟨S_, .f32⟩
  | 96 => ⟨S128, .f32⟩
  | 97 => ⟨S128x1x1x1, .f32⟩
  | 98 => ⟨S_, .f32⟩
  | 99 => ⟨S128x1x1x1, .f32⟩
  | 100 => ⟨S128x1x1x1, .f32⟩
  | 101 => ⟨S128x3x224x224, .f32⟩
  | 102 => ⟨S128x3x224x224, .f32⟩
  | 103 => ⟨S_, .f32⟩
  | 104 => ⟨S_, .f32⟩
  | 105 => ⟨S_, .f32⟩
  | 106 => ⟨S_, .f32⟩
  | 107 => ⟨S128x3x224x224, .f32⟩
  | 108 => ⟨S128x3x224x224, .f32⟩
  | 109 => ⟨S128x3x224x224, .f32⟩
  | 110 => ⟨S128x3x224x224, .f32⟩
  | 111 => ⟨S_, .f32⟩
  | 112 => ⟨S_, .f32⟩
  | 113 => ⟨S_, .f32⟩
  | 114 => ⟨S128x3x224x224, .f32⟩
  | 115 => ⟨S128x3x224x224, .f32⟩
  | 116 => ⟨S_, .f32⟩
  | 117 => ⟨S128x3x224x224, .f32⟩
  | 118 => ⟨S128x3x224x224, .f32⟩
  | 119 => ⟨S128x3x224x224, .i1⟩
  | 120 => ⟨S128x3x224x224, .f32⟩
  | 121 => ⟨S_, .i32⟩
  | 122 => ⟨S128, .i32⟩
  | 123 => ⟨S128, .i1⟩
  | 124 => ⟨S128x1x1x1, .i1⟩
  | 125 => ⟨S_, .f32⟩
  | 126 => ⟨S128x3x224x224, .f32⟩
  | 127 => ⟨S128x3x224x224, .f32⟩
  | _ => ⟨S128x3x224x224, .f32⟩

abbrev hbmTy0_5 (i : Nat) : BufTy := match i % 128 with
  | 0 => ⟨S128x3x224x224, .i1⟩
  | 1 => ⟨S128x3x224x224, .f32⟩
  | 2 => ⟨S_, .i32⟩
  | 3 => ⟨S128, .i32⟩
  | 4 => ⟨S128, .i1⟩
  | 5 => ⟨S128x1x1x1, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S128x3x224x224, .f32⟩
  | 13 => ⟨S128x3x224x224, .i1⟩
  | 14 => ⟨S_, .f32⟩
  | 15 => ⟨S128x3x224x224, .f32⟩
  | 16 => ⟨S128x3x224x224, .f32⟩
  | 17 => ⟨S128x3x224x224, .f32⟩
  | 18 => ⟨S128x3x224x224, .i1⟩
  | 19 => ⟨S128x3x224x224, .f32⟩
  | 20 => ⟨S_, .i32⟩
  | 21 => ⟨S128, .i32⟩
  | 22 => ⟨S128, .i1⟩
  | 23 => ⟨S128x1x1x1, .i1⟩
  | 24 => ⟨S_, .f32⟩
  | 25 => ⟨S_, .f32⟩
  | 26 => ⟨S_, .f32⟩
  | 27 => ⟨S_, .f32⟩
  | 28 => ⟨S128x3x224x224, .f32⟩
  | 29 => ⟨S128x3x224x224, .f32⟩
  | 30 => ⟨S128x3x224x224, .f32⟩
  | 31 => ⟨S128x3x224x224, .i1⟩
  | 32 => ⟨S128x3x224x224, .f32⟩
  | 33 => ⟨S_, .f32⟩
  | 34 => ⟨S1x8, .f32⟩
  | 35 => ⟨S_, .f32⟩
  | 36 => ⟨S1, .f32⟩
  | 37 => ⟨S_, .f32⟩
  | 38 => ⟨S1, .f32⟩
  | 39 => ⟨S1, .f32⟩
  | 40 => ⟨S1x1, .f32⟩
  | 41 => ⟨S1x8, .f32⟩
  | 42 => ⟨S1x8, .f32⟩
  | 43 => ⟨S1x8, .f32⟩
  | 44 => ⟨S_, .f32⟩
  | 45 => ⟨S1, .f32⟩
  | 46 => ⟨S1x1, .f32⟩
  | 47 => ⟨S1x8, .f32⟩
  | 48 => ⟨S1x8, .f32⟩
  | 49 => ⟨S1x8, .f32⟩
  | 50 => ⟨S_, .f32⟩
  | 51 => ⟨S1x8, .f32⟩
  | 52 => ⟨S1x8, .f32⟩
  | 53 => ⟨S_, .f32⟩
  | 54 => ⟨S1x8, .f32⟩
  | 55 => ⟨S1x8, .f32⟩
  | 56 => ⟨S1x8, .f32⟩
  | 57 => ⟨S_, .f32⟩
  | 58 => ⟨S1, .f32⟩
  | 59 => ⟨S_, .f32⟩
  | 60 => ⟨S1, .f32⟩
  | 61 => ⟨S1, .f32⟩
  | 62 => ⟨S1x1, .f32⟩
  | 63 => ⟨S1x8, .f32⟩
  | 64 => ⟨S1x8, .f32⟩
  | 65 => ⟨S1x8, .f32⟩
  | 66 => ⟨S_, .f32⟩
  | 67 => ⟨S1, .f32⟩
  | 68 => ⟨S1x1, .f32⟩
  | 69 => ⟨S1x8, .f32⟩
  | 70 => ⟨S1x8, .f32⟩
  | 71 => ⟨S128x8, .f32⟩
  | 72 => ⟨S128x8, .f32⟩
  | 73 => ⟨S_, .i32⟩
  | 74 => ⟨S_, .i32⟩
  | 75 => ⟨S_, .i32⟩
  | 76 => ⟨S1, .i32⟩
  | 77 => ⟨S_, .i32⟩
  | 78 => ⟨S_, .i32⟩
  | 79 => ⟨S1, .i32⟩
  | 80 => ⟨S2, .i32⟩
  | 81 => ⟨S1, .i32⟩
  | 82 => ⟨S_, .i32⟩
  | 83 => ⟨S1, .i32⟩
  | 84 => ⟨S_, .i32⟩
  | 85 => ⟨S1, .i32⟩
  | 86 => ⟨S1, .i32⟩
  | 87 => ⟨S_, .i32⟩
  | 88 => ⟨S_, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S_, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S_, .i32⟩
  | 126 => ⟨S1, .i32⟩
  | 127 => ⟨S1, .i32⟩
  | _ => ⟨S128x3x224x224, .f32⟩

abbrev hbmTy0_6 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S_, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S_, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S_, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S_, .i32⟩
  | 127 => ⟨S1, .i32⟩
  | _ => ⟨S128x3x224x224, .f32⟩

abbrev hbmTy0_7 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S_, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S1, .i32⟩
  | 37 => ⟨S1, .i32⟩
  | 38 => ⟨S_, .i32⟩
  | 39 => ⟨S1, .i32⟩
  | 40 => ⟨S1, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S_, .i32⟩
  | 51 => ⟨S1, .i32⟩
  | 52 => ⟨S1, .i32⟩
  | 53 => ⟨S2, .i32⟩
  | 54 => ⟨S_, .f32⟩
  | 55 => ⟨S_, .f32⟩
  | 56 => ⟨S_, .f32⟩
  | 57 => ⟨S1x1, .f32⟩
  | 58 => ⟨S1x1, .f32⟩
  | 59 => ⟨S1, .i32⟩
  | 60 => ⟨S_, .i32⟩
  | 61 => ⟨S1, .i32⟩
  | 62 => ⟨S_, .i32⟩
  | 63 => ⟨S128x8, .i64⟩
  | 64 => ⟨S128x8, .i64⟩
  | 65 => ⟨S_, .i64⟩
  | 66 => ⟨S128x8, .i64⟩
  | 67 => ⟨S128x8, .i64⟩
  | 68 => ⟨S_, .i64⟩
  | 69 => ⟨S128x8, .i64⟩
  | 70 => ⟨S128x8, .i64⟩
  | 71 => ⟨S128x8, .i64⟩
  | 72 => ⟨S_, .i64⟩
  | 73 => ⟨S128x8, .i64⟩
  | 74 => ⟨S128x8, .i64⟩
  | 75 => ⟨S128x8, .i32⟩
  | 76 => ⟨S128x8, .i32⟩
  | 77 => ⟨S_, .i32⟩
  | 78 => ⟨S_, .i32⟩
  | 79 => ⟨S_, .i32⟩
  | 80 => ⟨S128x8, .i32⟩
  | 81 => ⟨S128x8, .i32⟩
  | 82 => ⟨S128x8, .i32⟩
  | 83 => ⟨S128x8, .i32⟩
  | 84 => ⟨S128x8, .i32⟩
  | 85 => ⟨S_, .i32⟩
  | 86 => ⟨S128x8, .i32⟩
  | 87 => ⟨S128x8, .i32⟩
  | 88 => ⟨S_, .i32⟩
  | 89 => ⟨S128x8, .i32⟩
  | 90 => ⟨S128x8, .i32⟩
  | 91 => ⟨S128x8, .i32⟩
  | 92 => ⟨S128x8, .i32⟩
  | 93 => ⟨S128x8, .i32⟩
  | 94 => ⟨S_, .i32⟩
  | 95 => ⟨S128x8, .i32⟩
  | 96 => ⟨S128x8, .i32⟩
  | 97 => ⟨S_, .i32⟩
  | 98 => ⟨S128x8, .i32⟩
  | 99 => ⟨S128x8, .i32⟩
  | 100 => ⟨S128x8, .i32⟩
  | 101 => ⟨S128x8, .i32⟩
  | 102 => ⟨S128x8, .i32⟩
  | 103 => ⟨S_, .i32⟩
  | 104 => ⟨S128x8, .i32⟩
  | 105 => ⟨S128x8, .i32⟩
  | 106 => ⟨S_, .i32⟩
  | 107 => ⟨S128x8, .i32⟩
  | 108 => ⟨S128x8, .i32⟩
  | 109 => ⟨S128x8, .i32⟩
  | 110 => ⟨S128x8, .i32⟩
  | 111 => ⟨S128x8, .i32⟩
  | 112 => ⟨S_, .i32⟩
  | 113 => ⟨S128x8, .i32⟩
  | 114 => ⟨S128x8, .i32⟩
  | 115 => ⟨S_, .i32⟩
  | 116 => ⟨S128x8, .i32⟩
  | 117 => ⟨S128x8, .i32⟩
  | 118 => ⟨S128x8, .i32⟩
  | 119 => ⟨S128x8, .i32⟩
  | 120 => ⟨S128x8, .i32⟩
  | 121 => ⟨S128x8, .i32⟩
  | 122 => ⟨S128x8, .i32⟩
  | 123 => ⟨S128x8, .i32⟩
  | 124 => ⟨S_, .i32⟩
  | 125 => ⟨S128x8, .i32⟩
  | 126 => ⟨S128x8, .i32⟩
  | 127 => ⟨S128x8, .i32⟩
  | _ => ⟨S128x3x224x224, .f32⟩

abbrev hbmTy0_8 (i : Nat) : BufTy := match i % 128 with
  | 0 => ⟨S_, .i32⟩
  | 1 => ⟨S128x8, .i32⟩
  | 2 => ⟨S128x8, .i32⟩
  | 3 => ⟨S_, .i32⟩
  | 4 => ⟨S128x8, .i32⟩
  | 5 => ⟨S128x8, .i32⟩
  | 6 => ⟨S128x8, .i32⟩
  | 7 => ⟨S128x8, .i32⟩
  | 8 => ⟨S128x8, .i32⟩
  | 9 => ⟨S_, .i32⟩
  | 10 => ⟨S128x8, .i32⟩
  | 11 => ⟨S128x8, .i32⟩
  | 12 => ⟨S_, .i32⟩
  | 13 => ⟨S128x8, .i32⟩
  | 14 => ⟨S128x8, .i32⟩
  | 15 => ⟨S128x8, .i32⟩
  | 16 => ⟨S128x8, .i32⟩
  | 17 => ⟨S128x8, .i32⟩
  | 18 => ⟨S_, .i32⟩
  | 19 => ⟨S128x8, .i32⟩
  | 20 => ⟨S128x8, .i32⟩
  | 21 => ⟨S_, .i32⟩
  | 22 => ⟨S128x8, .i32⟩
  | 23 => ⟨S128x8, .i32⟩
  | 24 => ⟨S128x8, .i32⟩
  | 25 => ⟨S128x8, .i32⟩
  | 26 => ⟨S128x8, .i32⟩
  | 27 => ⟨S_, .i32⟩
  | 28 => ⟨S128x8, .i32⟩
  | 29 => ⟨S128x8, .i32⟩
  | 30 => ⟨S_, .i32⟩
  | 31 => ⟨S128x8, .i32⟩
  | 32 => ⟨S128x8, .i32⟩
  | 33 => ⟨S128x8, .i32⟩
  | 34 => ⟨S128x8, .i32⟩
  | 35 => ⟨S128x8, .i32⟩
  | 36 => ⟨S128x8, .i32⟩
  | 37 => ⟨S128x8, .i32⟩
  | 38 => ⟨S128x8, .i32⟩
  | 39 => ⟨S_, .i32⟩
  | 40 => ⟨S128x8, .i32⟩
  | 41 => ⟨S128x8, .i32⟩
  | 42 => ⟨S128x8, .i32⟩
  | 43 => ⟨S_, .i32⟩
  | 44 => ⟨S128x8, .i32⟩
  | 45 => ⟨S128x8, .i32⟩
  | 46 => ⟨S_, .i32⟩
  | 47 => ⟨S128x8, .i32⟩
  | 48 => ⟨S128x8, .i32⟩
  | 49 => ⟨S128x8, .i32⟩
  | 50 => ⟨S128x8, .i32⟩
  | 51 => ⟨S128x8, .i32⟩
  | 52 => ⟨S_, .i32⟩
  | 53 => ⟨S128x8, .i32⟩
  | 54 => ⟨S128x8, .i32⟩
  | 55 => ⟨S_, .i32⟩
  | 56 => ⟨S128x8, .i32⟩
  | 57 => ⟨S128x8, .i32⟩
  | 58 => ⟨S128x8, .i32⟩
  | 59 => ⟨S128x8, .i32⟩
  | 60 => ⟨S128x8, .i32⟩
  | 61 => ⟨S_, .i32⟩
  | 62 => ⟨S128x8, .i32⟩
  | 63 => ⟨S128x8, .i32⟩
  | 64 => ⟨S_, .i32⟩
  | 65 => ⟨S128x8, .i32⟩
  | 66 => ⟨S128x8, .i32⟩
  | 67 => ⟨S128x8, .i32⟩
  | 68 => ⟨S128x8, .i32⟩
  | 69 => ⟨S128x8, .i32⟩
  | 70 => ⟨S_, .i32⟩
  | 71 => ⟨S128x8, .i32⟩
  | 72 => ⟨S128x8, .i32⟩
  | 73 => ⟨S_, .i32⟩
  | 74 => ⟨S128x8, .i32⟩
  | 75 => ⟨S128x8, .i32⟩
  | 76 => ⟨S128x8, .i32⟩
  | 77 => ⟨S128x8, .i32⟩
  | 78 => ⟨S128x8, .i32⟩
  | 79 => ⟨S128x8, .i32⟩
  | 80 => ⟨S128x8, .i32⟩
  | 81 => ⟨S128x8, .i32⟩
  | 82 => ⟨S_, .i32⟩
  | 83 => ⟨S128x8, .i32⟩
  | 84 => ⟨S128x8, .i32⟩
  | 85 => ⟨S128x8, .i32⟩
  | 86 => ⟨S_, .i32⟩
  | 87 => ⟨S128x8, .i32⟩
  | 88 => ⟨S128x8, .i32⟩
  | 89 => ⟨S_, .i32⟩
  | 90 => ⟨S128x8, .i32⟩
  | 91 => ⟨S128x8, .i32⟩
  | 92 => ⟨S128x8, .i32⟩
  | 93 => ⟨S128x8, .i32⟩
  | 94 => ⟨S128x8, .i32⟩
  | 95 => ⟨S_, .i32⟩
  | 96 => ⟨S128x8, .i32⟩
  | 97 => ⟨S128x8, .i32⟩
  | 98 => ⟨S_, .i32⟩
  | 99 => ⟨S128x8, .i32⟩
  | 100 => ⟨S128x8, .i32⟩
  | 101 => ⟨S128x8, .i32⟩
  | 102 => ⟨S128x8, .i32⟩
  | 103 => ⟨S128x8, .i32⟩
  | 104 => ⟨S_, .i32⟩
  | 105 => ⟨S128x8, .i32⟩
  | 106 => ⟨S128x8, .i32⟩
  | 107 => ⟨S_, .i32⟩
  | 108 => ⟨S128x8, .i32⟩
  | 109 => ⟨S128x8, .i32⟩
  | 110 => ⟨S128x8, .i32⟩
  | 111 => ⟨S128x8, .i32⟩
  | 112 => ⟨S128x8, .i32⟩
  | 113 => ⟨S_, .i32⟩
  | 114 => ⟨S128x8, .i32⟩
  | 115 => ⟨S128x8, .i32⟩
  | 116 => ⟨S_, .i32⟩
  | 117 => ⟨S128x8, .i32⟩
  | 118 => ⟨S128x8, .i32⟩
  | 119 => ⟨S128x8, .i32⟩
  | 120 => ⟨S128x8, .i32⟩
  | 121 => ⟨S128x8, .i32⟩
  | 122 => ⟨S128x8, .i32⟩
  | 123 => ⟨S128x8, .i32⟩
  | 124 => ⟨S128x8, .i32⟩
  | 125 => ⟨S_, .i32⟩
  | 126 => ⟨S128x8, .i32⟩
  | 127 => ⟨S128x8, .i32⟩
  | _ => ⟨S128x3x224x224, .f32⟩

abbrev hbmTy0_9 (i : Nat) : BufTy := match i % 128 with
  | 0 => ⟨S128x8, .i32⟩
  | 1 => ⟨S_, .i32⟩
  | 2 => ⟨S128x8, .i32⟩
  | 3 => ⟨S128x8, .i32⟩
  | 4 => ⟨S_, .i32⟩
  | 5 => ⟨S128x8, .i32⟩
  | 6 => ⟨S128x8, .i32⟩
  | 7 => ⟨S128x8, .i32⟩
  | 8 => ⟨S128x8, .i32⟩
  | 9 => ⟨S128x8, .i32⟩
  | 10 => ⟨S_, .i32⟩
  | 11 => ⟨S128x8, .i32⟩
  | 12 => ⟨S128x8, .i32⟩
  | 13 => ⟨S_, .i32⟩
  | 14 => ⟨S128x8, .i32⟩
  | 15 => ⟨S128x8, .i32⟩
  | 16 => ⟨S128x8, .i32⟩
  | 17 => ⟨S128x8, .i32⟩
  | 18 => ⟨S128x8, .i32⟩
  | 19 => ⟨S_, .i32⟩
  | 20 => ⟨S128x8, .i32⟩
  | 21 => ⟨S128x8, .i32⟩
  | 22 => ⟨S_, .i32⟩
  | 23 => ⟨S128x8, .i32⟩
  | 24 => ⟨S128x8, .i32⟩
  | 25 => ⟨S128x8, .i32⟩
  | 26 => ⟨S128x8, .i32⟩
  | 27 => ⟨S128x8, .i32⟩
  | 28 => ⟨S_, .i32⟩
  | 29 => ⟨S128x8, .i32⟩
  | 30 => ⟨S128x8, .i32⟩
  | 31 => ⟨S_, .i32⟩
  | 32 => ⟨S128x8, .i32⟩
  | 33 => ⟨S128x8, .i32⟩
  | 34 => ⟨S128x8, .i32⟩
  | 35 => ⟨S128x8, .i32⟩
  | 36 => ⟨S128x8, .i32⟩
  | 37 => ⟨S128x8, .i32⟩
  | 38 => ⟨S128x8, .i32⟩
  | 39 => ⟨S128x8, .i32⟩
  | 40 => ⟨S_, .i32⟩
  | 41 => ⟨S128x8, .i32⟩
  | 42 => ⟨S128x8, .i32⟩
  | 43 => ⟨S128x8, .i32⟩
  | 44 => ⟨S_, .i32⟩
  | 45 => ⟨S128x8, .i32⟩
  | 46 => ⟨S128x8, .i32⟩
  | 47 => ⟨S_, .i32⟩
  | 48 => ⟨S128x8, .i32⟩
  | 49 => ⟨S128x8, .i32⟩
  | 50 => ⟨S128x8, .f32⟩
  | 51 => ⟨S_, .f32⟩
  | 52 => ⟨S128x8, .f32⟩
  | 53 => ⟨S128x8, .f32⟩
  | 54 => ⟨S1x1, .f32⟩
  | 55 => ⟨S128x8, .f32⟩
  | 56 => ⟨S128x8, .f32⟩
  | 57 => ⟨S128x8, .f32⟩
  | 58 => ⟨S128x8, .f32⟩
  | 59 => ⟨S128x8, .f32⟩
  | 60 => ⟨S128x8, .f32⟩
  | 61 => ⟨S128x8, .f32⟩
  | 62 => ⟨S128x8, .f32⟩
  | 63 => ⟨S128x8, .f32⟩
  | 64 => ⟨S128x8, .f32⟩
  | 65 => ⟨S128x8, .f32⟩
  | 66 => ⟨S128x8, .i32⟩
  | 67 => ⟨S_, .f32⟩
  | 68 => ⟨S_, .i32⟩
  | 69 => ⟨S128, .f32⟩
  | 70 => ⟨S128, .i32⟩
  | 71 => ⟨S_, .i32⟩
  | 72 => ⟨S128, .i32⟩
  | 73 => ⟨S128, .i1⟩
  | 74 => ⟨S128x1x1x1, .i1⟩
  | 75 => ⟨S128x3x224x224, .i1⟩
  | 76 => ⟨S128x3x224x224, .f32⟩
  | 77 => ⟨S_, .i32⟩
  | 78 => ⟨S128, .i32⟩
  | 79 => ⟨S128, .i1⟩
  | 80 => ⟨S128x1x1x1, .i1⟩
  | 81 => ⟨S128x3x224x224, .f32⟩
  | 82 => ⟨S128x3x224x224, .i1⟩
  | 83 => ⟨S128x3x224x224, .f32⟩
  | 84 => ⟨S_, .i32⟩
  | 85 => ⟨S128, .i32⟩
  | 86 => ⟨S128, .i1⟩
  | 87 => ⟨S128x1x1x1, .i1⟩
  | 88 => ⟨S128x3x224x224, .f32⟩
  | 89 => ⟨S128x3x224x224, .i1⟩
  | 90 => ⟨S128x3x224x224, .f32⟩
  | 91 => ⟨S_, .i32⟩
  | 92 => ⟨S128, .i32⟩
  | 93 => ⟨S128, .i1⟩
  | 94 => ⟨S128x1x1x1, .i1⟩
  | 95 => ⟨S_, .f32⟩
  | 96 => ⟨S_, .f32⟩
  | 97 => ⟨S_, .f32⟩
  | 98 => ⟨S_, .f32⟩
  | 99 => ⟨S128x3x224x224, .f32⟩
  | 100 => ⟨S128x3x224x224, .f32⟩
  | 101 => ⟨S_, .f32⟩
  | 102 => ⟨S_, .f32⟩
  | 103 => ⟨S_, .f32⟩
  | 104 => ⟨S128x3x224x224, .f32⟩
  | 105 => ⟨S128x3x224x224, .f32⟩
  | 106 => ⟨S_, .f32⟩
  | 107 => ⟨S128x3x224x224, .f32⟩
  | 108 => ⟨S128x3x224x224, .f32⟩
  | 109 => ⟨S128x3x224x224, .i1⟩
  | 110 => ⟨S128x3x224x224, .f32⟩
  | 111 => ⟨S_, .i32⟩
  | 112 => ⟨S128, .i32⟩
  | 113 => ⟨S128, .i1⟩
  | 114 => ⟨S128x1x1x1, .i1⟩
  | 115 => ⟨S_, .f32⟩
  | 116 => ⟨S128, .f32⟩
  | 117 => ⟨S128x1x1x1, .f32⟩
  | 118 => ⟨S_, .f32⟩
  | 119 => ⟨S128x1x1x1, .f32⟩
  | 120 => ⟨S128x1x1x1, .f32⟩
  | 121 => ⟨S128x3x224x224, .f32⟩
  | 122 => ⟨S128x3x224x224, .f32⟩
  | 123 => ⟨S_, .f32⟩
  | 124 => ⟨S_, .f32⟩
  | 125 => ⟨S_, .f32⟩
  | 126 => ⟨S_, .f32⟩
  | 127 => ⟨S128x3x224x224, .f32⟩
  | _ => ⟨S128x3x224x224, .f32⟩

abbrev hbmTy0_10 (i : Nat) : BufTy := match i % 128 with
  | 0 => ⟨S128x3x224x224, .f32⟩
  | 1 => ⟨S128x3x224x224, .f32⟩
  | 2 => ⟨S128x3x224x224, .f32⟩
  | 3 => ⟨S_, .f32⟩
  | 4 => ⟨S_, .f32⟩
  | 5 => ⟨S_, .f32⟩
  | 6 => ⟨S128x3x224x224, .f32⟩
  | 7 => ⟨S128x3x224x224, .f32⟩
  | 8 => ⟨S_, .f32⟩
  | 9 => ⟨S128x3x224x224, .f32⟩
  | 10 => ⟨S128x3x224x224, .f32⟩
  | 11 => ⟨S128x3x224x224, .i1⟩
  | 12 => ⟨S128x3x224x224, .f32⟩
  | 13 => ⟨S_, .i32⟩
  | 14 => ⟨S128, .i32⟩
  | 15 => ⟨S128, .i1⟩
  | 16 => ⟨S128x1x1x1, .i1⟩
  | 17 => ⟨S_, .f32⟩
  | 18 => ⟨S128x3x224x224, .f32⟩
  | 19 => ⟨S128x3x224x224, .f32⟩
  | 20 => ⟨S128x3x224x224, .i1⟩
  | 21 => ⟨S128x3x224x224, .f32⟩
  | 22 => ⟨S_, .i32⟩
  | 23 => ⟨S128, .i32⟩
  | 24 => ⟨S128, .i1⟩
  | 25 => ⟨S128x1x1x1, .i1⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S128x3x224x224, .f32⟩
  | 33 => ⟨S128x3x224x224, .i1⟩
  | 34 => ⟨S_, .f32⟩
  | 35 => ⟨S128x3x224x224, .f32⟩
  | 36 => ⟨S128x3x224x224, .f32⟩
  | 37 => ⟨S128x3x224x224, .f32⟩
  | 38 => ⟨S128x3x224x224, .i1⟩
  | 39 => ⟨S128x3x224x224, .f32⟩
  | 40 => ⟨S_, .i32⟩
  | 41 => ⟨S128, .i32⟩
  | 42 => ⟨S128, .i1⟩
  | 43 => ⟨S128x1x1x1, .i1⟩
  | 44 => ⟨S_, .f32⟩
  | 45 => ⟨S_, .f32⟩
  | 46 => ⟨S_, .f32⟩
  | 47 => ⟨S_, .f32⟩
  | 48 => ⟨S128x3x224x224, .f32⟩
  | 49 => ⟨S128x3x224x224, .f32⟩
  | 50 => ⟨S128x3x224x224, .f32⟩
  | 51 => ⟨S128x3x224x224, .i1⟩
  | 52 => ⟨S128x3x224x224, .f32⟩
  | _ => ⟨S128x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S128x3x224x224, .f32⟩

abbrev bufTy : (tb : Table) → Fin (tcTables nBuf tb) → BufTy
  | .hbm, ⟨i, _⟩ => hbmTy i
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_call0_v0 : Ref sig .tc := ⟨.hbm, 67, rfl⟩
abbrev main_call0_call0_c : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_c_0 : Ref sig .tc := ⟨.hbm, 75, rfl⟩
abbrev main_call0_call0_v7 : Ref sig .tc := ⟨.hbm, 76, rfl⟩
abbrev main_call0_call0_v8 : Ref sig .tc := ⟨.hbm, 77, rfl⟩
abbrev main_call0_call0_c_1 : Ref sig .tc := ⟨.hbm, 78, rfl⟩
abbrev main_call0_call0_v9 : Ref sig .tc := ⟨.hbm, 79, rfl⟩
abbrev main_call0_call0_v10 : Ref sig .tc := ⟨.hbm, 80, rfl⟩
abbrev main_call0_call0_v11 : Ref sig .tc := ⟨.hbm, 81, rfl⟩
abbrev main_call0_call0_v12 : Ref sig .tc := ⟨.hbm, 82, rfl⟩
abbrev main_call0_call0_v13 : Ref sig .tc := ⟨.hbm, 83, rfl⟩
abbrev main_call0_call0_c_2 : Ref sig .tc := ⟨.hbm, 84, rfl⟩
abbrev main_call0_call0_v14 : Ref sig .tc := ⟨.hbm, 85, rfl⟩
abbrev main_call0_call0_v15 : Ref sig .tc := ⟨.hbm, 86, rfl⟩
abbrev main_call0_call0_c_3 : Ref sig .tc := ⟨.hbm, 87, rfl⟩
abbrev main_call0_call0_v16 : Ref sig .tc := ⟨.hbm, 88, rfl⟩
abbrev main_call0_call0_v17 : Ref sig .tc := ⟨.hbm, 89, rfl⟩
abbrev main_call0_call0_v18 : Ref sig .tc := ⟨.hbm, 90, rfl⟩
abbrev main_call0_call0_v19 : Ref sig .tc := ⟨.hbm, 91, rfl⟩
abbrev main_call0_call0_v20 : Ref sig .tc := ⟨.hbm, 92, rfl⟩
abbrev main_call0_call0_c_4 : Ref sig .tc := ⟨.hbm, 93, rfl⟩
abbrev main_call0_call0_v21 : Ref sig .tc := ⟨.hbm, 94, rfl⟩
abbrev main_call0_call0_v22 : Ref sig .tc := ⟨.hbm, 95, rfl⟩
abbrev main_call0_call0_c_5 : Ref sig .tc := ⟨.hbm, 96, rfl⟩
abbrev main_call0_call0_v23 : Ref sig .tc := ⟨.hbm, 97, rfl⟩
abbrev main_call0_call0_v24 : Ref sig .tc := ⟨.hbm, 98, rfl⟩
abbrev main_call0_call0_v25 : Ref sig .tc := ⟨.hbm, 99, rfl⟩
abbrev main_call0_call0_v26 : Ref sig .tc := ⟨.hbm, 100, rfl⟩
abbrev main_call0_call0_v27 : Ref sig .tc := ⟨.hbm, 101, rfl⟩
abbrev main_call0_call0_c_6 : Ref sig .tc := ⟨.hbm, 102, rfl⟩
abbrev main_call0_call0_v28 : Ref sig .tc := ⟨.hbm, 103, rfl⟩
abbrev main_call0_call0_v29 : Ref sig .tc := ⟨.hbm, 104, rfl⟩
abbrev main_call0_call0_c_7 : Ref sig .tc := ⟨.hbm, 105, rfl⟩
abbrev main_call0_call0_v30 : Ref sig .tc := ⟨.hbm, 106, rfl⟩
abbrev main_call0_call0_v31 : Ref sig .tc := ⟨.hbm, 107, rfl⟩
abbrev main_call0_call0_v32 : Ref sig .tc := ⟨.hbm, 108, rfl⟩
abbrev main_call0_call0_v33 : Ref sig .tc := ⟨.hbm, 109, rfl⟩
abbrev main_call0_call0_v34 : Ref sig .tc := ⟨.hbm, 110, rfl⟩
abbrev main_call0_call0_v35 : Ref sig .tc := ⟨.hbm, 111, rfl⟩
abbrev main_call0_call0_v36 : Ref sig .tc := ⟨.hbm, 112, rfl⟩
abbrev main_call0_call0_v37 : Ref sig .tc := ⟨.hbm, 113, rfl⟩
abbrev main_call0_call0_c_8 : Ref sig .tc := ⟨.hbm, 114, rfl⟩
abbrev main_call0_call0_v38 : Ref sig .tc := ⟨.hbm, 115, rfl⟩
abbrev main_call0_call0_v39 : Ref sig .tc := ⟨.hbm, 116, rfl⟩
abbrev main_call0_call0_v40 : Ref sig .tc := ⟨.hbm, 117, rfl⟩
abbrev main_call0_call0_c_9 : Ref sig .tc := ⟨.hbm, 118, rfl⟩
abbrev main_call0_call0_v41 : Ref sig .tc := ⟨.hbm, 119, rfl⟩
abbrev main_call0_call0_v42 : Ref sig .tc := ⟨.hbm, 120, rfl⟩
abbrev main_call0_call0_c_10 : Ref sig .tc := ⟨.hbm, 121, rfl⟩
abbrev main_call0_call0_v43 : Ref sig .tc := ⟨.hbm, 122, rfl⟩
abbrev main_call0_call0_v44 : Ref sig .tc := ⟨.hbm, 123, rfl⟩
abbrev main_call0_call0_v45 : Ref sig .tc := ⟨.hbm, 124, rfl⟩
abbrev main_call0_call0_v46 : Ref sig .tc := ⟨.hbm, 125, rfl⟩
abbrev main_call0_call0_v47 : Ref sig .tc := ⟨.hbm, 126, rfl⟩
abbrev main_call0_call0_c_11 : Ref sig .tc := ⟨.hbm, 127, rfl⟩
abbrev main_call0_call0_v48 : Ref sig .tc := ⟨.hbm, 128, rfl⟩
abbrev main_call0_call0_v49 : Ref sig .tc := ⟨.hbm, 129, rfl⟩
abbrev main_call0_call0_c_12 : Ref sig .tc := ⟨.hbm, 130, rfl⟩
abbrev main_call0_call0_v50 : Ref sig .tc := ⟨.hbm, 131, rfl⟩
abbrev main_call0_call0_v51 : Ref sig .tc := ⟨.hbm, 132, rfl⟩
abbrev main_call0_call0_v52 : Ref sig .tc := ⟨.hbm, 133, rfl⟩
abbrev main_call0_call0_v53 : Ref sig .tc := ⟨.hbm, 134, rfl⟩
abbrev main_call0_call0_v54 : Ref sig .tc := ⟨.hbm, 135, rfl⟩
abbrev main_call0_call0_c_13 : Ref sig .tc := ⟨.hbm, 136, rfl⟩
abbrev main_call0_call0_v55 : Ref sig .tc := ⟨.hbm, 137, rfl⟩
abbrev main_call0_call0_v56 : Ref sig .tc := ⟨.hbm, 138, rfl⟩
abbrev main_call0_call0_c_14 : Ref sig .tc := ⟨.hbm, 139, rfl⟩
abbrev main_call0_call0_v57 : Ref sig .tc := ⟨.hbm, 140, rfl⟩
abbrev main_call0_call0_v58 : Ref sig .tc := ⟨.hbm, 141, rfl⟩
abbrev main_call0_call0_v59 : Ref sig .tc := ⟨.hbm, 142, rfl⟩
abbrev main_call0_call0_v60 : Ref sig .tc := ⟨.hbm, 143, rfl⟩
abbrev main_call0_call0_v61 : Ref sig .tc := ⟨.hbm, 144, rfl⟩
abbrev main_call0_call0_c_15 : Ref sig .tc := ⟨.hbm, 145, rfl⟩
abbrev main_call0_call0_v62 : Ref sig .tc := ⟨.hbm, 146, rfl⟩
abbrev main_call0_call0_v63 : Ref sig .tc := ⟨.hbm, 147, rfl⟩
abbrev main_call0_call0_c_16 : Ref sig .tc := ⟨.hbm, 148, rfl⟩
abbrev main_call0_call0_v64 : Ref sig .tc := ⟨.hbm, 149, rfl⟩
abbrev main_call0_call0_v65 : Ref sig .tc := ⟨.hbm, 150, rfl⟩
abbrev main_call0_call0_v66 : Ref sig .tc := ⟨.hbm, 151, rfl⟩
abbrev main_call0_call0_v67 : Ref sig .tc := ⟨.hbm, 152, rfl⟩
abbrev main_call0_call0_v68 : Ref sig .tc := ⟨.hbm, 153, rfl⟩
abbrev main_call0_call0_v69 : Ref sig .tc := ⟨.hbm, 154, rfl⟩
abbrev main_call0_call0_v70 : Ref sig .tc := ⟨.hbm, 155, rfl⟩
abbrev main_call0_call0_v71 : Ref sig .tc := ⟨.hbm, 156, rfl⟩
abbrev main_call0_call0_c_17 : Ref sig .tc := ⟨.hbm, 157, rfl⟩
abbrev main_call0_call0_v72 : Ref sig .tc := ⟨.hbm, 158, rfl⟩
abbrev main_call0_call0_v73 : Ref sig .tc := ⟨.hbm, 159, rfl⟩
abbrev main_call0_call0_v74 : Ref sig .tc := ⟨.hbm, 160, rfl⟩
abbrev main_call0_call0_c_18 : Ref sig .tc := ⟨.hbm, 161, rfl⟩
abbrev main_call0_call0_v75 : Ref sig .tc := ⟨.hbm, 162, rfl⟩
abbrev main_call0_call0_v76 : Ref sig .tc := ⟨.hbm, 163, rfl⟩
abbrev main_call0_call0_c_19 : Ref sig .tc := ⟨.hbm, 164, rfl⟩
abbrev main_call0_call0_v77 : Ref sig .tc := ⟨.hbm, 165, rfl⟩
abbrev main_call0_call0_v78 : Ref sig .tc := ⟨.hbm, 166, rfl⟩
abbrev main_call0_call0_v79 : Ref sig .tc := ⟨.hbm, 167, rfl⟩
abbrev main_call0_call0_v80 : Ref sig .tc := ⟨.hbm, 168, rfl⟩
abbrev main_call0_call0_v81 : Ref sig .tc := ⟨.hbm, 169, rfl⟩
abbrev main_call0_call0_c_20 : Ref sig .tc := ⟨.hbm, 170, rfl⟩
abbrev main_call0_call0_v82 : Ref sig .tc := ⟨.hbm, 171, rfl⟩
abbrev main_call0_call0_v83 : Ref sig .tc := ⟨.hbm, 172, rfl⟩
abbrev main_call0_call0_c_21 : Ref sig .tc := ⟨.hbm, 173, rfl⟩
abbrev main_call0_call0_v84 : Ref sig .tc := ⟨.hbm, 174, rfl⟩
abbrev main_call0_call0_v85 : Ref sig .tc := ⟨.hbm, 175, rfl⟩
abbrev main_call0_call0_v86 : Ref sig .tc := ⟨.hbm, 176, rfl⟩
abbrev main_call0_call0_v87 : Ref sig .tc := ⟨.hbm, 177, rfl⟩
abbrev main_call0_call0_v88 : Ref sig .tc := ⟨.hbm, 178, rfl⟩
abbrev main_call0_call0_c_22 : Ref sig .tc := ⟨.hbm, 179, rfl⟩
abbrev main_call0_call0_v89 : Ref sig .tc := ⟨.hbm, 180, rfl⟩
abbrev main_call0_call0_v90 : Ref sig .tc := ⟨.hbm, 181, rfl⟩
abbrev main_call0_call0_c_23 : Ref sig .tc := ⟨.hbm, 182, rfl⟩
abbrev main_call0_call0_v91 : Ref sig .tc := ⟨.hbm, 183, rfl⟩
abbrev main_call0_call0_v92 : Ref sig .tc := ⟨.hbm, 184, rfl⟩
abbrev main_call0_call0_v93 : Ref sig .tc := ⟨.hbm, 185, rfl⟩
abbrev main_call0_call0_v94 : Ref sig .tc := ⟨.hbm, 186, rfl⟩
abbrev main_call0_call0_v95 : Ref sig .tc := ⟨.hbm, 187, rfl⟩
abbrev main_call0_call0_c_24 : Ref sig .tc := ⟨.hbm, 188, rfl⟩
abbrev main_call0_call0_v96 : Ref sig .tc := ⟨.hbm, 189, rfl⟩
abbrev main_call0_call0_v97 : Ref sig .tc := ⟨.hbm, 190, rfl⟩
abbrev main_call0_call0_c_25 : Ref sig .tc := ⟨.hbm, 191, rfl⟩
abbrev main_call0_call0_v98 : Ref sig .tc := ⟨.hbm, 192, rfl⟩
abbrev main_call0_call0_v99 : Ref sig .tc := ⟨.hbm, 193, rfl⟩
abbrev main_call0_call0_v100 : Ref sig .tc := ⟨.hbm, 194, rfl⟩
abbrev main_call0_call0_v101 : Ref sig .tc := ⟨.hbm, 195, rfl⟩
abbrev main_call0_call0_v102 : Ref sig .tc := ⟨.hbm, 196, rfl⟩
abbrev main_call0_call0_v103 : Ref sig .tc := ⟨.hbm, 197, rfl⟩
abbrev main_call0_call0_v104 : Ref sig .tc := ⟨.hbm, 198, rfl⟩
abbrev main_call0_call0_v105 : Ref sig .tc := ⟨.hbm, 199, rfl⟩
abbrev main_call0_call0_c_26 : Ref sig .tc := ⟨.hbm, 200, rfl⟩
abbrev main_call0_call0_v106 : Ref sig .tc := ⟨.hbm, 201, rfl⟩
abbrev main_call0_call0_v107 : Ref sig .tc := ⟨.hbm, 202, rfl⟩
abbrev main_call0_call0_v108 : Ref sig .tc := ⟨.hbm, 203, rfl⟩
abbrev main_call0_call0_c_27 : Ref sig .tc := ⟨.hbm, 204, rfl⟩
abbrev main_call0_call0_v109 : Ref sig .tc := ⟨.hbm, 205, rfl⟩
abbrev main_call0_call0_v110 : Ref sig .tc := ⟨.hbm, 206, rfl⟩
abbrev main_call0_call0_c_28 : Ref sig .tc := ⟨.hbm, 207, rfl⟩
abbrev main_call0_call0_v111 : Ref sig .tc := ⟨.hbm, 208, rfl⟩
abbrev main_call0_call0_v112 : Ref sig .tc := ⟨.hbm, 209, rfl⟩
abbrev main_call0_call0_v113 : Ref sig .tc := ⟨.hbm, 210, rfl⟩
abbrev main_call0_call0_v114 : Ref sig .tc := ⟨.hbm, 211, rfl⟩
abbrev main_call0_call0_v115 : Ref sig .tc := ⟨.hbm, 212, rfl⟩
abbrev main_call0_call0_c_29 : Ref sig .tc := ⟨.hbm, 213, rfl⟩
abbrev main_call0_call0_v116 : Ref sig .tc := ⟨.hbm, 214, rfl⟩
abbrev main_call0_call0_v117 : Ref sig .tc := ⟨.hbm, 215, rfl⟩
abbrev main_call0_call0_c_30 : Ref sig .tc := ⟨.hbm, 216, rfl⟩
abbrev main_call0_call0_v118 : Ref sig .tc := ⟨.hbm, 217, rfl⟩
abbrev main_call0_call0_v119 : Ref sig .tc := ⟨.hbm, 218, rfl⟩
abbrev main_call0_call0_v120 : Ref sig .tc := ⟨.hbm, 219, rfl⟩
abbrev main_call0_call0_v121 : Ref sig .tc := ⟨.hbm, 220, rfl⟩
abbrev main_call0_call0_v122 : Ref sig .tc := ⟨.hbm, 221, rfl⟩
abbrev main_call0_call0_c_31 : Ref sig .tc := ⟨.hbm, 222, rfl⟩
abbrev main_call0_call0_v123 : Ref sig .tc := ⟨.hbm, 223, rfl⟩
abbrev main_call0_call0_v124 : Ref sig .tc := ⟨.hbm, 224, rfl⟩
abbrev main_call0_call0_c_32 : Ref sig .tc := ⟨.hbm, 225, rfl⟩
abbrev main_call0_call0_v125 : Ref sig .tc := ⟨.hbm, 226, rfl⟩
abbrev main_call0_call0_v126 : Ref sig .tc := ⟨.hbm, 227, rfl⟩
abbrev main_call0_call0_v127 : Ref sig .tc := ⟨.hbm, 228, rfl⟩
abbrev main_call0_call0_v128 : Ref sig .tc := ⟨.hbm, 229, rfl⟩
abbrev main_call0_call0_v129 : Ref sig .tc := ⟨.hbm, 230, rfl⟩
abbrev main_call0_call0_c_33 : Ref sig .tc := ⟨.hbm, 231, rfl⟩
abbrev main_call0_call0_v130 : Ref sig .tc := ⟨.hbm, 232, rfl⟩
abbrev main_call0_call0_v131 : Ref sig .tc := ⟨.hbm, 233, rfl⟩
abbrev main_call0_call0_c_34 : Ref sig .tc := ⟨.hbm, 234, rfl⟩
abbrev main_call0_call0_v132 : Ref sig .tc := ⟨.hbm, 235, rfl⟩
abbrev main_call0_call0_v133 : Ref sig .tc := ⟨.hbm, 236, rfl⟩
abbrev main_call0_call0_v134 : Ref sig .tc := ⟨.hbm, 237, rfl⟩
abbrev main_call0_call0_v135 : Ref sig .tc := ⟨.hbm, 238, rfl⟩
abbrev main_call0_call0_v136 : Ref sig .tc := ⟨.hbm, 239, rfl⟩
abbrev main_call0_call0_v137 : Ref sig .tc := ⟨.hbm, 240, rfl⟩
abbrev main_call0_call0_v138 : Ref sig .tc := ⟨.hbm, 241, rfl⟩
abbrev main_call0_call0_v139 : Ref sig .tc := ⟨.hbm, 242, rfl⟩
abbrev main_call0_call0_c_35 : Ref sig .tc := ⟨.hbm, 243, rfl⟩
abbrev main_call0_call0_v140 : Ref sig .tc := ⟨.hbm, 244, rfl⟩
abbrev main_call0_call0_v141 : Ref sig .tc := ⟨.hbm, 245, rfl⟩
abbrev main_call0_call0_v142 : Ref sig .tc := ⟨.hbm, 246, rfl⟩
abbrev main_call0_call0_c_36 : Ref sig .tc := ⟨.hbm, 247, rfl⟩
abbrev main_call0_call0_v143 : Ref sig .tc := ⟨.hbm, 248, rfl⟩
abbrev main_call0_call0_v144 : Ref sig .tc := ⟨.hbm, 249, rfl⟩
abbrev main_call0_call0_c_37 : Ref sig .tc := ⟨.hbm, 250, rfl⟩
abbrev main_call0_call0_v145 : Ref sig .tc := ⟨.hbm, 251, rfl⟩
abbrev main_call0_call0_v146 : Ref sig .tc := ⟨.hbm, 252, rfl⟩
abbrev main_call0_call0_v147 : Ref sig .tc := ⟨.hbm, 253, rfl⟩
abbrev main_call0_call0_v148 : Ref sig .tc := ⟨.hbm, 254, rfl⟩
abbrev main_call0_call0_v149 : Ref sig .tc := ⟨.hbm, 255, rfl⟩
abbrev main_call0_call0_c_38 : Ref sig .tc := ⟨.hbm, 256, rfl⟩
abbrev main_call0_call0_v150 : Ref sig .tc := ⟨.hbm, 257, rfl⟩
abbrev main_call0_call0_v151 : Ref sig .tc := ⟨.hbm, 258, rfl⟩
abbrev main_call0_call0_c_39 : Ref sig .tc := ⟨.hbm, 259, rfl⟩
abbrev main_call0_call0_v152 : Ref sig .tc := ⟨.hbm, 260, rfl⟩
abbrev main_call0_call0_v153 : Ref sig .tc := ⟨.hbm, 261, rfl⟩
abbrev main_call0_call0_v154 : Ref sig .tc := ⟨.hbm, 262, rfl⟩
abbrev main_call0_call0_v155 : Ref sig .tc := ⟨.hbm, 263, rfl⟩
abbrev main_call0_call0_v156 : Ref sig .tc := ⟨.hbm, 264, rfl⟩
abbrev main_call0_call0_c_40 : Ref sig .tc := ⟨.hbm, 265, rfl⟩
abbrev main_call0_call0_v157 : Ref sig .tc := ⟨.hbm, 266, rfl⟩
abbrev main_call0_call0_v158 : Ref sig .tc := ⟨.hbm, 267, rfl⟩
abbrev main_call0_call0_c_41 : Ref sig .tc := ⟨.hbm, 268, rfl⟩
abbrev main_call0_call0_v159 : Ref sig .tc := ⟨.hbm, 269, rfl⟩
abbrev main_call0_call0_v160 : Ref sig .tc := ⟨.hbm, 270, rfl⟩
abbrev main_call0_call0_v161 : Ref sig .tc := ⟨.hbm, 271, rfl⟩
abbrev main_call0_call0_v162 : Ref sig .tc := ⟨.hbm, 272, rfl⟩
abbrev main_call0_call0_v163 : Ref sig .tc := ⟨.hbm, 273, rfl⟩
abbrev main_call0_call0_c_42 : Ref sig .tc := ⟨.hbm, 274, rfl⟩
abbrev main_call0_call0_v164 : Ref sig .tc := ⟨.hbm, 275, rfl⟩
abbrev main_call0_call0_v165 : Ref sig .tc := ⟨.hbm, 276, rfl⟩
abbrev main_call0_call0_c_43 : Ref sig .tc := ⟨.hbm, 277, rfl⟩
abbrev main_call0_call0_v166 : Ref sig .tc := ⟨.hbm, 278, rfl⟩
abbrev main_call0_call0_v167 : Ref sig .tc := ⟨.hbm, 279, rfl⟩
abbrev main_call0_call0_v168 : Ref sig .tc := ⟨.hbm, 280, rfl⟩
abbrev main_call0_call0_v169 : Ref sig .tc := ⟨.hbm, 281, rfl⟩
abbrev main_call0_call0_v170 : Ref sig .tc := ⟨.hbm, 282, rfl⟩
abbrev main_call0_v11_0 : Ref sig .tc := ⟨.hbm, 283, rfl⟩
abbrev main_call0_call0_v172 : Ref sig .tc := ⟨.hbm, 284, rfl⟩
abbrev main_call0_call0_v173 : Ref sig .tc := ⟨.hbm, 285, rfl⟩
abbrev main_call0_call0_c_44 : Ref sig .tc := ⟨.hbm, 286, rfl⟩
abbrev main_call0_call0_v174 : Ref sig .tc := ⟨.hbm, 287, rfl⟩
abbrev main_call0_v11_1 : Ref sig .tc := ⟨.hbm, 288, rfl⟩
abbrev main_v38 : Ref sig .tc := ⟨.hbm, 289, rfl⟩
abbrev main_call1_cst : Ref sig .tc := ⟨.hbm, 290, rfl⟩
abbrev main_call1_cst_0 : Ref sig .tc := ⟨.hbm, 291, rfl⟩
abbrev main_call1_call0_v0 : Ref sig .tc := ⟨.hbm, 292, rfl⟩
abbrev main_call1_call0_v1 : Ref sig .tc := ⟨.hbm, 293, rfl⟩
abbrev main_call1_call0_v2 : Ref sig .tc := ⟨.hbm, 294, rfl⟩
abbrev main_call1_call0_v3 : Ref sig .tc := ⟨.hbm, 295, rfl⟩
abbrev main_call1_call0_v4 : Ref sig .tc := ⟨.hbm, 296, rfl⟩
abbrev main_call1_call0_v5 : Ref sig .tc := ⟨.hbm, 297, rfl⟩
abbrev main_call1_call0_v6 : Ref sig .tc := ⟨.hbm, 298, rfl⟩
abbrev main_call1_call0_v7 : Ref sig .tc := ⟨.hbm, 299, rfl⟩
abbrev main_call1_call0_v8 : Ref sig .tc := ⟨.hbm, 300, rfl⟩
abbrev main_call1_call0_c : Ref sig .tc := ⟨.hbm, 301, rfl⟩
abbrev main_call1_call0_v9 : Ref sig .tc := ⟨.hbm, 302, rfl⟩
abbrev main_call1_call0_v10 : Ref sig .tc := ⟨.hbm, 303, rfl⟩
abbrev main_call1_call0_c_0 : Ref sig .tc := ⟨.hbm, 304, rfl⟩
abbrev main_call1_call0_v11 : Ref sig .tc := ⟨.hbm, 305, rfl⟩
abbrev main_call1_call0_v12 : Ref sig .tc := ⟨.hbm, 306, rfl⟩
abbrev main_call1_call0_v13 : Ref sig .tc := ⟨.hbm, 307, rfl⟩
abbrev main_call1_call0_c_1 : Ref sig .tc := ⟨.hbm, 308, rfl⟩
abbrev main_call1_call0_v14 : Ref sig .tc := ⟨.hbm, 309, rfl⟩
abbrev main_call1_call0_v15 : Ref sig .tc := ⟨.hbm, 310, rfl⟩
abbrev main_call1_call0_v16 : Ref sig .tc := ⟨.hbm, 311, rfl⟩
abbrev main_call1_call0_v17 : Ref sig .tc := ⟨.hbm, 312, rfl⟩
abbrev main_call1_call0_call0_v0 : Ref sig .tc := ⟨.hbm, 313, rfl⟩
abbrev main_call1_call0_call0_c : Ref sig .tc := ⟨.hbm, 314, rfl⟩
abbrev main_call1_call0_call0_v1 : Ref sig .tc := ⟨.hbm, 315, rfl⟩
abbrev main_call1_call0_call0_v2 : Ref sig .tc := ⟨.hbm, 316, rfl⟩
abbrev main_call1_call0_call0_v3 : Ref sig .tc := ⟨.hbm, 317, rfl⟩
abbrev main_call1_call0_call0_v4 : Ref sig .tc := ⟨.hbm, 318, rfl⟩
abbrev main_call1_call0_call0_v5 : Ref sig .tc := ⟨.hbm, 319, rfl⟩
abbrev main_call1_call0_call0_v6 : Ref sig .tc := ⟨.hbm, 320, rfl⟩
abbrev main_call1_call0_call0_c_0 : Ref sig .tc := ⟨.hbm, 321, rfl⟩
abbrev main_call1_call0_call0_v7 : Ref sig .tc := ⟨.hbm, 322, rfl⟩
abbrev main_call1_call0_call0_v8 : Ref sig .tc := ⟨.hbm, 323, rfl⟩
abbrev main_call1_call0_call0_c_1 : Ref sig .tc := ⟨.hbm, 324, rfl⟩
abbrev main_call1_call0_call0_v9 : Ref sig .tc := ⟨.hbm, 325, rfl⟩
abbrev main_call1_call0_call0_v10 : Ref sig .tc := ⟨.hbm, 326, rfl⟩
abbrev main_call1_call0_call0_v11 : Ref sig .tc := ⟨.hbm, 327, rfl⟩
abbrev main_call1_call0_call0_v12 : Ref sig .tc := ⟨.hbm, 328, rfl⟩
abbrev main_call1_call0_call0_v13 : Ref sig .tc := ⟨.hbm, 329, rfl⟩
abbrev main_call1_call0_call0_c_2 : Ref sig .tc := ⟨.hbm, 330, rfl⟩
abbrev main_call1_call0_call0_v14 : Ref sig .tc := ⟨.hbm, 331, rfl⟩
abbrev main_call1_call0_call0_v15 : Ref sig .tc := ⟨.hbm, 332, rfl⟩
abbrev main_call1_call0_call0_c_3 : Ref sig .tc := ⟨.hbm, 333, rfl⟩
abbrev main_call1_call0_call0_v16 : Ref sig .tc := ⟨.hbm, 334, rfl⟩
abbrev main_call1_call0_call0_v17 : Ref sig .tc := ⟨.hbm, 335, rfl⟩
abbrev main_call1_call0_call0_v18 : Ref sig .tc := ⟨.hbm, 336, rfl⟩
abbrev main_call1_call0_call0_v19 : Ref sig .tc := ⟨.hbm, 337, rfl⟩
abbrev main_call1_call0_call0_v20 : Ref sig .tc := ⟨.hbm, 338, rfl⟩
abbrev main_call1_call0_call0_c_4 : Ref sig .tc := ⟨.hbm, 339, rfl⟩
abbrev main_call1_call0_call0_v21 : Ref sig .tc := ⟨.hbm, 340, rfl⟩
abbrev main_call1_call0_call0_v22 : Ref sig .tc := ⟨.hbm, 341, rfl⟩
abbrev main_call1_call0_call0_c_5 : Ref sig .tc := ⟨.hbm, 342, rfl⟩
abbrev main_call1_call0_call0_v23 : Ref sig .tc := ⟨.hbm, 343, rfl⟩
abbrev main_call1_call0_call0_v24 : Ref sig .tc := ⟨.hbm, 344, rfl⟩
abbrev main_call1_call0_call0_v25 : Ref sig .tc := ⟨.hbm, 345, rfl⟩
abbrev main_call1_call0_call0_v26 : Ref sig .tc := ⟨.hbm, 346, rfl⟩
abbrev main_call1_call0_call0_v27 : Ref sig .tc := ⟨.hbm, 347, rfl⟩
abbrev main_call1_call0_call0_c_6 : Ref sig .tc := ⟨.hbm, 348, rfl⟩
abbrev main_call1_call0_call0_v28 : Ref sig .tc := ⟨.hbm, 349, rfl⟩
abbrev main_call1_call0_call0_v29 : Ref sig .tc := ⟨.hbm, 350, rfl⟩
abbrev main_call1_call0_call0_c_7 : Ref sig .tc := ⟨.hbm, 351, rfl⟩
abbrev main_call1_call0_call0_v30 : Ref sig .tc := ⟨.hbm, 352, rfl⟩
abbrev main_call1_call0_call0_v31 : Ref sig .tc := ⟨.hbm, 353, rfl⟩
abbrev main_call1_call0_call0_v32 : Ref sig .tc := ⟨.hbm, 354, rfl⟩
abbrev main_call1_call0_call0_v33 : Ref sig .tc := ⟨.hbm, 355, rfl⟩
abbrev main_call1_call0_call0_v34 : Ref sig .tc := ⟨.hbm, 356, rfl⟩
abbrev main_call1_call0_call0_v35 : Ref sig .tc := ⟨.hbm, 357, rfl⟩
abbrev main_call1_call0_call0_v36 : Ref sig .tc := ⟨.hbm, 358, rfl⟩
abbrev main_call1_call0_call0_v37 : Ref sig .tc := ⟨.hbm, 359, rfl⟩
abbrev main_call1_call0_call0_c_8 : Ref sig .tc := ⟨.hbm, 360, rfl⟩
abbrev main_call1_call0_call0_v38 : Ref sig .tc := ⟨.hbm, 361, rfl⟩
abbrev main_call1_call0_call0_v39 : Ref sig .tc := ⟨.hbm, 362, rfl⟩
abbrev main_call1_call0_call0_v40 : Ref sig .tc := ⟨.hbm, 363, rfl⟩
abbrev main_call1_call0_call0_c_9 : Ref sig .tc := ⟨.hbm, 364, rfl⟩
abbrev main_call1_call0_call0_v41 : Ref sig .tc := ⟨.hbm, 365, rfl⟩
abbrev main_call1_call0_call0_v42 : Ref sig .tc := ⟨.hbm, 366, rfl⟩
abbrev main_call1_call0_call0_c_10 : Ref sig .tc := ⟨.hbm, 367, rfl⟩
abbrev main_call1_call0_call0_v43 : Ref sig .tc := ⟨.hbm, 368, rfl⟩
abbrev main_call1_call0_call0_v44 : Ref sig .tc := ⟨.hbm, 369, rfl⟩
abbrev main_call1_call0_call0_v45 : Ref sig .tc := ⟨.hbm, 370, rfl⟩
abbrev main_call1_call0_call0_v46 : Ref sig .tc := ⟨.hbm, 371, rfl⟩
abbrev main_call1_call0_call0_v47 : Ref sig .tc := ⟨.hbm, 372, rfl⟩
abbrev main_call1_call0_call0_c_11 : Ref sig .tc := ⟨.hbm, 373, rfl⟩
abbrev main_call1_call0_call0_v48 : Ref sig .tc := ⟨.hbm, 374, rfl⟩
abbrev main_call1_call0_call0_v49 : Ref sig .tc := ⟨.hbm, 375, rfl⟩
abbrev main_call1_call0_call0_c_12 : Ref sig .tc := ⟨.hbm, 376, rfl⟩
abbrev main_call1_call0_call0_v50 : Ref sig .tc := ⟨.hbm, 377, rfl⟩
abbrev main_call1_call0_call0_v51 : Ref sig .tc := ⟨.hbm, 378, rfl⟩
abbrev main_call1_call0_call0_v52 : Ref sig .tc := ⟨.hbm, 379, rfl⟩
abbrev main_call1_call0_call0_v53 : Ref sig .tc := ⟨.hbm, 380, rfl⟩
abbrev main_call1_call0_call0_v54 : Ref sig .tc := ⟨.hbm, 381, rfl⟩
abbrev main_call1_call0_call0_c_13 : Ref sig .tc := ⟨.hbm, 382, rfl⟩
abbrev main_call1_call0_call0_v55 : Ref sig .tc := ⟨.hbm, 383, rfl⟩
abbrev main_call1_call0_call0_v56 : Ref sig .tc := ⟨.hbm, 384, rfl⟩
abbrev main_call1_call0_call0_c_14 : Ref sig .tc := ⟨.hbm, 385, rfl⟩
abbrev main_call1_call0_call0_v57 : Ref sig .tc := ⟨.hbm, 386, rfl⟩
abbrev main_call1_call0_call0_v58 : Ref sig .tc := ⟨.hbm, 387, rfl⟩
abbrev main_call1_call0_call0_v59 : Ref sig .tc := ⟨.hbm, 388, rfl⟩
abbrev main_call1_call0_call0_v60 : Ref sig .tc := ⟨.hbm, 389, rfl⟩
abbrev main_call1_call0_call0_v61 : Ref sig .tc := ⟨.hbm, 390, rfl⟩
abbrev main_call1_call0_call0_c_15 : Ref sig .tc := ⟨.hbm, 391, rfl⟩
abbrev main_call1_call0_call0_v62 : Ref sig .tc := ⟨.hbm, 392, rfl⟩
abbrev main_call1_call0_call0_v63 : Ref sig .tc := ⟨.hbm, 393, rfl⟩
abbrev main_call1_call0_call0_c_16 : Ref sig .tc := ⟨.hbm, 394, rfl⟩
abbrev main_call1_call0_call0_v64 : Ref sig .tc := ⟨.hbm, 395, rfl⟩
abbrev main_call1_call0_call0_v65 : Ref sig .tc := ⟨.hbm, 396, rfl⟩
abbrev main_call1_call0_call0_v66 : Ref sig .tc := ⟨.hbm, 397, rfl⟩
abbrev main_call1_call0_call0_v67 : Ref sig .tc := ⟨.hbm, 398, rfl⟩
abbrev main_call1_call0_call0_v68 : Ref sig .tc := ⟨.hbm, 399, rfl⟩
abbrev main_call1_call0_call0_v69 : Ref sig .tc := ⟨.hbm, 400, rfl⟩
abbrev main_call1_call0_call0_v70 : Ref sig .tc := ⟨.hbm, 401, rfl⟩
abbrev main_call1_call0_call0_v71 : Ref sig .tc := ⟨.hbm, 402, rfl⟩
abbrev main_call1_call0_call0_c_17 : Ref sig .tc := ⟨.hbm, 403, rfl⟩
abbrev main_call1_call0_call0_v72 : Ref sig .tc := ⟨.hbm, 404, rfl⟩
abbrev main_call1_call0_call0_v73 : Ref sig .tc := ⟨.hbm, 405, rfl⟩
abbrev main_call1_call0_call0_v74 : Ref sig .tc := ⟨.hbm, 406, rfl⟩
abbrev main_call1_call0_call0_c_18 : Ref sig .tc := ⟨.hbm, 407, rfl⟩
abbrev main_call1_call0_call0_v75 : Ref sig .tc := ⟨.hbm, 408, rfl⟩
abbrev main_call1_call0_call0_v76 : Ref sig .tc := ⟨.hbm, 409, rfl⟩
abbrev main_call1_call0_call0_c_19 : Ref sig .tc := ⟨.hbm, 410, rfl⟩
abbrev main_call1_call0_call0_v77 : Ref sig .tc := ⟨.hbm, 411, rfl⟩
abbrev main_call1_call0_call0_v78 : Ref sig .tc := ⟨.hbm, 412, rfl⟩
abbrev main_call1_call0_call0_v79 : Ref sig .tc := ⟨.hbm, 413, rfl⟩
abbrev main_call1_call0_call0_v80 : Ref sig .tc := ⟨.hbm, 414, rfl⟩
abbrev main_call1_call0_call0_v81 : Ref sig .tc := ⟨.hbm, 415, rfl⟩
abbrev main_call1_call0_call0_c_20 : Ref sig .tc := ⟨.hbm, 416, rfl⟩
abbrev main_call1_call0_call0_v82 : Ref sig .tc := ⟨.hbm, 417, rfl⟩
abbrev main_call1_call0_call0_v83 : Ref sig .tc := ⟨.hbm, 418, rfl⟩
abbrev main_call1_call0_call0_c_21 : Ref sig .tc := ⟨.hbm, 419, rfl⟩
abbrev main_call1_call0_call0_v84 : Ref sig .tc := ⟨.hbm, 420, rfl⟩
abbrev main_call1_call0_call0_v85 : Ref sig .tc := ⟨.hbm, 421, rfl⟩
abbrev main_call1_call0_call0_v86 : Ref sig .tc := ⟨.hbm, 422, rfl⟩
abbrev main_call1_call0_call0_v87 : Ref sig .tc := ⟨.hbm, 423, rfl⟩
abbrev main_call1_call0_call0_v88 : Ref sig .tc := ⟨.hbm, 424, rfl⟩
abbrev main_call1_call0_call0_c_22 : Ref sig .tc := ⟨.hbm, 425, rfl⟩
abbrev main_call1_call0_call0_v89 : Ref sig .tc := ⟨.hbm, 426, rfl⟩
abbrev main_call1_call0_call0_v90 : Ref sig .tc := ⟨.hbm, 427, rfl⟩
abbrev main_call1_call0_call0_c_23 : Ref sig .tc := ⟨.hbm, 428, rfl⟩
abbrev main_call1_call0_call0_v91 : Ref sig .tc := ⟨.hbm, 429, rfl⟩
abbrev main_call1_call0_call0_v92 : Ref sig .tc := ⟨.hbm, 430, rfl⟩
abbrev main_call1_call0_call0_v93 : Ref sig .tc := ⟨.hbm, 431, rfl⟩
abbrev main_call1_call0_call0_v94 : Ref sig .tc := ⟨.hbm, 432, rfl⟩
abbrev main_call1_call0_call0_v95 : Ref sig .tc := ⟨.hbm, 433, rfl⟩
abbrev main_call1_call0_call0_c_24 : Ref sig .tc := ⟨.hbm, 434, rfl⟩
abbrev main_call1_call0_call0_v96 : Ref sig .tc := ⟨.hbm, 435, rfl⟩
abbrev main_call1_call0_call0_v97 : Ref sig .tc := ⟨.hbm, 436, rfl⟩
abbrev main_call1_call0_call0_c_25 : Ref sig .tc := ⟨.hbm, 437, rfl⟩
abbrev main_call1_call0_call0_v98 : Ref sig .tc := ⟨.hbm, 438, rfl⟩
abbrev main_call1_call0_call0_v99 : Ref sig .tc := ⟨.hbm, 439, rfl⟩
abbrev main_call1_call0_call0_v100 : Ref sig .tc := ⟨.hbm, 440, rfl⟩
abbrev main_call1_call0_call0_v101 : Ref sig .tc := ⟨.hbm, 441, rfl⟩
abbrev main_call1_call0_call0_v102 : Ref sig .tc := ⟨.hbm, 442, rfl⟩
abbrev main_call1_call0_call0_v103 : Ref sig .tc := ⟨.hbm, 443, rfl⟩
abbrev main_call1_call0_call0_v104 : Ref sig .tc := ⟨.hbm, 444, rfl⟩
abbrev main_call1_call0_call0_v105 : Ref sig .tc := ⟨.hbm, 445, rfl⟩
abbrev main_call1_call0_call0_c_26 : Ref sig .tc := ⟨.hbm, 446, rfl⟩
abbrev main_call1_call0_call0_v106 : Ref sig .tc := ⟨.hbm, 447, rfl⟩
abbrev main_call1_call0_call0_v107 : Ref sig .tc := ⟨.hbm, 448, rfl⟩
abbrev main_call1_call0_call0_v108 : Ref sig .tc := ⟨.hbm, 449, rfl⟩
abbrev main_call1_call0_call0_c_27 : Ref sig .tc := ⟨.hbm, 450, rfl⟩
abbrev main_call1_call0_call0_v109 : Ref sig .tc := ⟨.hbm, 451, rfl⟩
abbrev main_call1_call0_call0_v110 : Ref sig .tc := ⟨.hbm, 452, rfl⟩
abbrev main_call1_call0_call0_c_28 : Ref sig .tc := ⟨.hbm, 453, rfl⟩
abbrev main_call1_call0_call0_v111 : Ref sig .tc := ⟨.hbm, 454, rfl⟩
abbrev main_call1_call0_call0_v112 : Ref sig .tc := ⟨.hbm, 455, rfl⟩
abbrev main_call1_call0_call0_v113 : Ref sig .tc := ⟨.hbm, 456, rfl⟩
abbrev main_call1_call0_call0_v114 : Ref sig .tc := ⟨.hbm, 457, rfl⟩
abbrev main_call1_call0_call0_v115 : Ref sig .tc := ⟨.hbm, 458, rfl⟩
abbrev main_call1_call0_call0_c_29 : Ref sig .tc := ⟨.hbm, 459, rfl⟩
abbrev main_call1_call0_call0_v116 : Ref sig .tc := ⟨.hbm, 460, rfl⟩
abbrev main_call1_call0_call0_v117 : Ref sig .tc := ⟨.hbm, 461, rfl⟩
abbrev main_call1_call0_call0_c_30 : Ref sig .tc := ⟨.hbm, 462, rfl⟩
abbrev main_call1_call0_call0_v118 : Ref sig .tc := ⟨.hbm, 463, rfl⟩
abbrev main_call1_call0_call0_v119 : Ref sig .tc := ⟨.hbm, 464, rfl⟩
abbrev main_call1_call0_call0_v120 : Ref sig .tc := ⟨.hbm, 465, rfl⟩
abbrev main_call1_call0_call0_v121 : Ref sig .tc := ⟨.hbm, 466, rfl⟩
abbrev main_call1_call0_call0_v122 : Ref sig .tc := ⟨.hbm, 467, rfl⟩
abbrev main_call1_call0_call0_c_31 : Ref sig .tc := ⟨.hbm, 468, rfl⟩
abbrev main_call1_call0_call0_v123 : Ref sig .tc := ⟨.hbm, 469, rfl⟩
abbrev main_call1_call0_call0_v124 : Ref sig .tc := ⟨.hbm, 470, rfl⟩
abbrev main_call1_call0_call0_c_32 : Ref sig .tc := ⟨.hbm, 471, rfl⟩
abbrev main_call1_call0_call0_v125 : Ref sig .tc := ⟨.hbm, 472, rfl⟩
abbrev main_call1_call0_call0_v126 : Ref sig .tc := ⟨.hbm, 473, rfl⟩
abbrev main_call1_call0_call0_v127 : Ref sig .tc := ⟨.hbm, 474, rfl⟩
abbrev main_call1_call0_call0_v128 : Ref sig .tc := ⟨.hbm, 475, rfl⟩
abbrev main_call1_call0_call0_v129 : Ref sig .tc := ⟨.hbm, 476, rfl⟩
abbrev main_call1_call0_call0_c_33 : Ref sig .tc := ⟨.hbm, 477, rfl⟩
abbrev main_call1_call0_call0_v130 : Ref sig .tc := ⟨.hbm, 478, rfl⟩
abbrev main_call1_call0_call0_v131 : Ref sig .tc := ⟨.hbm, 479, rfl⟩
abbrev main_call1_call0_call0_c_34 : Ref sig .tc := ⟨.hbm, 480, rfl⟩
abbrev main_call1_call0_call0_v132 : Ref sig .tc := ⟨.hbm, 481, rfl⟩
abbrev main_call1_call0_call0_v133 : Ref sig .tc := ⟨.hbm, 482, rfl⟩
abbrev main_call1_call0_call0_v134 : Ref sig .tc := ⟨.hbm, 483, rfl⟩
abbrev main_call1_call0_call0_v135 : Ref sig .tc := ⟨.hbm, 484, rfl⟩
abbrev main_call1_call0_call0_v136 : Ref sig .tc := ⟨.hbm, 485, rfl⟩
abbrev main_call1_call0_call0_v137 : Ref sig .tc := ⟨.hbm, 486, rfl⟩
abbrev main_call1_call0_call0_v138 : Ref sig .tc := ⟨.hbm, 487, rfl⟩
abbrev main_call1_call0_call0_v139 : Ref sig .tc := ⟨.hbm, 488, rfl⟩
abbrev main_call1_call0_call0_c_35 : Ref sig .tc := ⟨.hbm, 489, rfl⟩
abbrev main_call1_call0_call0_v140 : Ref sig .tc := ⟨.hbm, 490, rfl⟩
abbrev main_call1_call0_call0_v141 : Ref sig .tc := ⟨.hbm, 491, rfl⟩
abbrev main_call1_call0_call0_v142 : Ref sig .tc := ⟨.hbm, 492, rfl⟩
abbrev main_call1_call0_call0_c_36 : Ref sig .tc := ⟨.hbm, 493, rfl⟩
abbrev main_call1_call0_call0_v143 : Ref sig .tc := ⟨.hbm, 494, rfl⟩
abbrev main_call1_call0_call0_v144 : Ref sig .tc := ⟨.hbm, 495, rfl⟩
abbrev main_call1_call0_call0_c_37 : Ref sig .tc := ⟨.hbm, 496, rfl⟩
abbrev main_call1_call0_call0_v145 : Ref sig .tc := ⟨.hbm, 497, rfl⟩
abbrev main_call1_call0_call0_v146 : Ref sig .tc := ⟨.hbm, 498, rfl⟩
abbrev main_call1_call0_call0_v147 : Ref sig .tc := ⟨.hbm, 499, rfl⟩
abbrev main_call1_call0_call0_v148 : Ref sig .tc := ⟨.hbm, 500, rfl⟩
abbrev main_call1_call0_call0_v149 : Ref sig .tc := ⟨.hbm, 501, rfl⟩
abbrev main_call1_call0_call0_c_38 : Ref sig .tc := ⟨.hbm, 502, rfl⟩
abbrev main_call1_call0_call0_v150 : Ref sig .tc := ⟨.hbm, 503, rfl⟩
abbrev main_call1_call0_call0_v151 : Ref sig .tc := ⟨.hbm, 504, rfl⟩
abbrev main_call1_call0_call0_c_39 : Ref sig .tc := ⟨.hbm, 505, rfl⟩
abbrev main_call1_call0_call0_v152 : Ref sig .tc := ⟨.hbm, 506, rfl⟩
abbrev main_call1_call0_call0_v153 : Ref sig .tc := ⟨.hbm, 507, rfl⟩
abbrev main_call1_call0_call0_v154 : Ref sig .tc := ⟨.hbm, 508, rfl⟩
abbrev main_call1_call0_call0_v155 : Ref sig .tc := ⟨.hbm, 509, rfl⟩
abbrev main_call1_call0_call0_v156 : Ref sig .tc := ⟨.hbm, 510, rfl⟩
abbrev main_call1_call0_call0_c_40 : Ref sig .tc := ⟨.hbm, 511, rfl⟩
abbrev main_call1_call0_call0_v157 : Ref sig .tc := ⟨.hbm, 512, rfl⟩
abbrev main_call1_call0_call0_v158 : Ref sig .tc := ⟨.hbm, 513, rfl⟩
abbrev main_call1_call0_call0_c_41 : Ref sig .tc := ⟨.hbm, 514, rfl⟩
abbrev main_call1_call0_call0_v159 : Ref sig .tc := ⟨.hbm, 515, rfl⟩
abbrev main_call1_call0_call0_v160 : Ref sig .tc := ⟨.hbm, 516, rfl⟩
abbrev main_call1_call0_call0_v161 : Ref sig .tc := ⟨.hbm, 517, rfl⟩
abbrev main_call1_call0_call0_v162 : Ref sig .tc := ⟨.hbm, 518, rfl⟩
abbrev main_call1_call0_call0_v163 : Ref sig .tc := ⟨.hbm, 519, rfl⟩
abbrev main_call1_call0_call0_c_42 : Ref sig .tc := ⟨.hbm, 520, rfl⟩
abbrev main_call1_call0_call0_v164 : Ref sig .tc := ⟨.hbm, 521, rfl⟩
abbrev main_call1_call0_call0_v165 : Ref sig .tc := ⟨.hbm, 522, rfl⟩
abbrev main_call1_call0_call0_c_43 : Ref sig .tc := ⟨.hbm, 523, rfl⟩
abbrev main_call1_call0_call0_v166 : Ref sig .tc := ⟨.hbm, 524, rfl⟩
abbrev main_call1_call0_call0_v167 : Ref sig .tc := ⟨.hbm, 525, rfl⟩
abbrev main_call1_call0_call0_v168 : Ref sig .tc := ⟨.hbm, 526, rfl⟩
abbrev main_call1_call0_call0_v169 : Ref sig .tc := ⟨.hbm, 527, rfl⟩
abbrev main_call1_call0_call0_v170 : Ref sig .tc := ⟨.hbm, 528, rfl⟩
abbrev main_call1_call0_v18_0 : Ref sig .tc := ⟨.hbm, 529, rfl⟩
abbrev main_call1_call0_call0_v172 : Ref sig .tc := ⟨.hbm, 530, rfl⟩
abbrev main_call1_call0_call0_v173 : Ref sig .tc := ⟨.hbm, 531, rfl⟩
abbrev main_call1_call0_call0_c_44 : Ref sig .tc := ⟨.hbm, 532, rfl⟩
abbrev main_call1_call0_call0_v174 : Ref sig .tc := ⟨.hbm, 533, rfl⟩
abbrev main_call1_call0_v18_1 : Ref sig .tc := ⟨.hbm, 534, rfl⟩
abbrev main_call1_call0_v19 : Ref sig .tc := ⟨.hbm, 535, rfl⟩
abbrev main_call1_call0_c_2 : Ref sig .tc := ⟨.hbm, 536, rfl⟩
abbrev main_call1_call0_v20 : Ref sig .tc := ⟨.hbm, 537, rfl⟩
abbrev main_call1_call0_v21 : Ref sig .tc := ⟨.hbm, 538, rfl⟩
abbrev main_call1_call0_c_3 : Ref sig .tc := ⟨.hbm, 539, rfl⟩
abbrev main_call1_call0_v22 : Ref sig .tc := ⟨.hbm, 540, rfl⟩
abbrev main_call1_call0_v23 : Ref sig .tc := ⟨.hbm, 541, rfl⟩
abbrev main_call1_call0_v24 : Ref sig .tc := ⟨.hbm, 542, rfl⟩
abbrev main_call1_call0_cst : Ref sig .tc := ⟨.hbm, 543, rfl⟩
abbrev main_call1_call0_v25 : Ref sig .tc := ⟨.hbm, 544, rfl⟩
abbrev main_call1_call0_v26 : Ref sig .tc := ⟨.hbm, 545, rfl⟩
abbrev main_call1_call0_v27 : Ref sig .tc := ⟨.hbm, 546, rfl⟩
abbrev main_call1_call0_v28 : Ref sig .tc := ⟨.hbm, 547, rfl⟩
abbrev main_call1_call0_v29 : Ref sig .tc := ⟨.hbm, 548, rfl⟩
abbrev main_call1_call0_v30 : Ref sig .tc := ⟨.hbm, 549, rfl⟩
abbrev main_call1_call0_v31 : Ref sig .tc := ⟨.hbm, 550, rfl⟩
abbrev main_call1_call0_v32 : Ref sig .tc := ⟨.hbm, 551, rfl⟩
abbrev main_call1_v0 : Ref sig .tc := ⟨.hbm, 552, rfl⟩
abbrev main_call1_v1 : Ref sig .tc := ⟨.hbm, 553, rfl⟩
abbrev main_call1_v2 : Ref sig .tc := ⟨.hbm, 554, rfl⟩
abbrev main_call1_v3 : Ref sig .tc := ⟨.hbm, 555, rfl⟩
abbrev main_v39 : Ref sig .tc := ⟨.hbm, 556, rfl⟩
abbrev main_v40 : Ref sig .tc := ⟨.hbm, 557, rfl⟩
abbrev main_call2_v0 : Ref sig .tc := ⟨.hbm, 558, rfl⟩
abbrev main_call2_cst : Ref sig .tc := ⟨.hbm, 559, rfl⟩
abbrev main_call2_c : Ref sig .tc := ⟨.hbm, 560, rfl⟩
abbrev main_call2_v1_0 : Ref sig .tc := ⟨.hbm, 561, rfl⟩
abbrev main_v41 : Ref sig .tc := ⟨.hbm, 562, rfl⟩
abbrev main_c_11 : Ref sig .tc := ⟨.hbm, 563, rfl⟩
abbrev main_v42 : Ref sig .tc := ⟨.hbm, 564, rfl⟩
abbrev main_v43 : Ref sig .tc := ⟨.hbm, 565, rfl⟩
abbrev main_v44 : Ref sig .tc := ⟨.hbm, 566, rfl⟩
abbrev main_call3_v0 : Ref sig .tc := ⟨.hbm, 567, rfl⟩
abbrev main_v45 : Ref sig .tc := ⟨.hbm, 568, rfl⟩
abbrev main_c_12 : Ref sig .tc := ⟨.hbm, 569, rfl⟩
abbrev main_v46 : Ref sig .tc := ⟨.hbm, 570, rfl⟩
abbrev main_v47 : Ref sig .tc := ⟨.hbm, 571, rfl⟩
abbrev main_v48 : Ref sig .tc := ⟨.hbm, 572, rfl⟩
abbrev main_v49 : Ref sig .tc := ⟨.hbm, 573, rfl⟩
abbrev main_call5_v0 : Ref sig .tc := ⟨.hbm, 574, rfl⟩
abbrev main_v50 : Ref sig .tc := ⟨.hbm, 575, rfl⟩
abbrev main_c_13 : Ref sig .tc := ⟨.hbm, 576, rfl⟩
abbrev main_v51 : Ref sig .tc := ⟨.hbm, 577, rfl⟩
abbrev main_v52 : Ref sig .tc := ⟨.hbm, 578, rfl⟩
abbrev main_v53 : Ref sig .tc := ⟨.hbm, 579, rfl⟩
abbrev main_v54 : Ref sig .tc := ⟨.hbm, 580, rfl⟩
abbrev main_call7_v0 : Ref sig .tc := ⟨.hbm, 581, rfl⟩
abbrev main_v55 : Ref sig .tc := ⟨.hbm, 582, rfl⟩
abbrev main_c_14 : Ref sig .tc := ⟨.hbm, 583, rfl⟩
abbrev main_v56 : Ref sig .tc := ⟨.hbm, 584, rfl⟩
abbrev main_v57 : Ref sig .tc := ⟨.hbm, 585, rfl⟩
abbrev main_v58 : Ref sig .tc := ⟨.hbm, 586, rfl⟩
abbrev main_cst_15 : Ref sig .tc := ⟨.hbm, 587, rfl⟩
abbrev main_v59 : Ref sig .tc := ⟨.hbm, 588, rfl⟩
abbrev main_cst_16 : Ref sig .tc := ⟨.hbm, 589, rfl⟩
abbrev main_v60 : Ref sig .tc := ⟨.hbm, 590, rfl⟩
abbrev main_v61 : Ref sig .tc := ⟨.hbm, 591, rfl⟩
abbrev main_v62 : Ref sig .tc := ⟨.hbm, 592, rfl⟩
abbrev main_cst_17 : Ref sig .tc := ⟨.hbm, 593, rfl⟩
abbrev main_cst_18 : Ref sig .tc := ⟨.hbm, 594, rfl⟩
abbrev main_call8_v0 : Ref sig .tc := ⟨.hbm, 595, rfl⟩
abbrev main_call8_v1 : Ref sig .tc := ⟨.hbm, 596, rfl⟩
abbrev main_call8_v2 : Ref sig .tc := ⟨.hbm, 597, rfl⟩
abbrev main_call8_v3 : Ref sig .tc := ⟨.hbm, 598, rfl⟩
abbrev main_call8_v4 : Ref sig .tc := ⟨.hbm, 599, rfl⟩
abbrev main_v63 : Ref sig .tc := ⟨.hbm, 600, rfl⟩
abbrev main_call9_v0 : Ref sig .tc := ⟨.hbm, 601, rfl⟩
abbrev main_v64 : Ref sig .tc := ⟨.hbm, 602, rfl⟩
abbrev main_c_19 : Ref sig .tc := ⟨.hbm, 603, rfl⟩
abbrev main_v65 : Ref sig .tc := ⟨.hbm, 604, rfl⟩
abbrev main_v66 : Ref sig .tc := ⟨.hbm, 605, rfl⟩
abbrev main_v67 : Ref sig .tc := ⟨.hbm, 606, rfl⟩
abbrev main_cst_20 : Ref sig .tc := ⟨.hbm, 607, rfl⟩
abbrev main_v68 : Ref sig .tc := ⟨.hbm, 608, rfl⟩
abbrev main_v69 : Ref sig .tc := ⟨.hbm, 609, rfl⟩
abbrev main_cst_21 : Ref sig .tc := ⟨.hbm, 610, rfl⟩
abbrev main_v70 : Ref sig .tc := ⟨.hbm, 611, rfl⟩
abbrev main_v71 : Ref sig .tc := ⟨.hbm, 612, rfl⟩
abbrev main_v72 : Ref sig .tc := ⟨.hbm, 613, rfl⟩
abbrev main_v73 : Ref sig .tc := ⟨.hbm, 614, rfl⟩
abbrev main_cst_22 : Ref sig .tc := ⟨.hbm, 615, rfl⟩
abbrev main_v74 : Ref sig .tc := ⟨.hbm, 616, rfl⟩
abbrev main_cst_23 : Ref sig .tc := ⟨.hbm, 617, rfl⟩
abbrev main_v75 : Ref sig .tc := ⟨.hbm, 618, rfl⟩
abbrev main_v76 : Ref sig .tc := ⟨.hbm, 619, rfl⟩
abbrev main_v77 : Ref sig .tc := ⟨.hbm, 620, rfl⟩
abbrev main_v78 : Ref sig .tc := ⟨.hbm, 621, rfl⟩
abbrev main_v79 : Ref sig .tc := ⟨.hbm, 622, rfl⟩
abbrev main_cst_24 : Ref sig .tc := ⟨.hbm, 623, rfl⟩
abbrev main_cst_25 : Ref sig .tc := ⟨.hbm, 624, rfl⟩
abbrev main_call10_v0 : Ref sig .tc := ⟨.hbm, 625, rfl⟩
abbrev main_call10_v1 : Ref sig .tc := ⟨.hbm, 626, rfl⟩
abbrev main_call10_v2 : Ref sig .tc := ⟨.hbm, 627, rfl⟩
abbrev main_call10_v3 : Ref sig .tc := ⟨.hbm, 628, rfl⟩
abbrev main_call10_v4 : Ref sig .tc := ⟨.hbm, 629, rfl⟩
abbrev main_v80 : Ref sig .tc := ⟨.hbm, 630, rfl⟩
abbrev main_call11_v0 : Ref sig .tc := ⟨.hbm, 631, rfl⟩
abbrev main_v81 : Ref sig .tc := ⟨.hbm, 632, rfl⟩
abbrev main_c_26 : Ref sig .tc := ⟨.hbm, 633, rfl⟩
abbrev main_v82 : Ref sig .tc := ⟨.hbm, 634, rfl⟩
abbrev main_v83 : Ref sig .tc := ⟨.hbm, 635, rfl⟩
abbrev main_v84 : Ref sig .tc := ⟨.hbm, 636, rfl⟩
abbrev main_cst_27 : Ref sig .tc := ⟨.hbm, 637, rfl⟩
abbrev main_v85 : Ref sig .tc := ⟨.hbm, 638, rfl⟩
abbrev main_v86 : Ref sig .tc := ⟨.hbm, 639, rfl⟩
abbrev main_call12_v0 : Ref sig .tc := ⟨.hbm, 640, rfl⟩
abbrev main_v87 : Ref sig .tc := ⟨.hbm, 641, rfl⟩
abbrev main_c_28 : Ref sig .tc := ⟨.hbm, 642, rfl⟩
abbrev main_v88 : Ref sig .tc := ⟨.hbm, 643, rfl⟩
abbrev main_v89 : Ref sig .tc := ⟨.hbm, 644, rfl⟩
abbrev main_v90 : Ref sig .tc := ⟨.hbm, 645, rfl⟩
abbrev main_cst_29 : Ref sig .tc := ⟨.hbm, 646, rfl⟩
abbrev main_v91 : Ref sig .tc := ⟨.hbm, 647, rfl⟩
abbrev main_cst_30 : Ref sig .tc := ⟨.hbm, 648, rfl⟩
abbrev main_v92 : Ref sig .tc := ⟨.hbm, 649, rfl⟩
abbrev main_cst_31 : Ref sig .tc := ⟨.hbm, 650, rfl⟩
abbrev main_v93 : Ref sig .tc := ⟨.hbm, 651, rfl⟩
abbrev main_v94 : Ref sig .tc := ⟨.hbm, 652, rfl⟩
abbrev main_v95 : Ref sig .tc := ⟨.hbm, 653, rfl⟩
abbrev main_cst_32 : Ref sig .tc := ⟨.hbm, 654, rfl⟩
abbrev main_v96 : Ref sig .tc := ⟨.hbm, 655, rfl⟩
abbrev main_v97 : Ref sig .tc := ⟨.hbm, 656, rfl⟩
abbrev main_v98 : Ref sig .tc := ⟨.hbm, 657, rfl⟩
abbrev main_call14_v0 : Ref sig .tc := ⟨.hbm, 658, rfl⟩
abbrev main_v99 : Ref sig .tc := ⟨.hbm, 659, rfl⟩
abbrev main_c_33 : Ref sig .tc := ⟨.hbm, 660, rfl⟩
abbrev main_v100 : Ref sig .tc := ⟨.hbm, 661, rfl⟩
abbrev main_v101 : Ref sig .tc := ⟨.hbm, 662, rfl⟩
abbrev main_v102 : Ref sig .tc := ⟨.hbm, 663, rfl⟩
abbrev main_cst_34 : Ref sig .tc := ⟨.hbm, 664, rfl⟩
abbrev main_v103 : Ref sig .tc := ⟨.hbm, 665, rfl⟩
abbrev main_cst_35 : Ref sig .tc := ⟨.hbm, 666, rfl⟩
abbrev main_v104 : Ref sig .tc := ⟨.hbm, 667, rfl⟩
abbrev main_v105 : Ref sig .tc := ⟨.hbm, 668, rfl⟩
abbrev main_v106 : Ref sig .tc := ⟨.hbm, 669, rfl⟩
abbrev main_v107 : Ref sig .tc := ⟨.hbm, 670, rfl⟩
abbrev main_call15_v0 : Ref sig .tc := ⟨.hbm, 671, rfl⟩
abbrev main_v108 : Ref sig .tc := ⟨.hbm, 672, rfl⟩
abbrev main_cst_36 : Ref sig .tc := ⟨.hbm, 673, rfl⟩
abbrev main_v109 : Ref sig .tc := ⟨.hbm, 674, rfl⟩
abbrev main_cst_37 : Ref sig .tc := ⟨.hbm, 675, rfl⟩
abbrev main_v110 : Ref sig .tc := ⟨.hbm, 676, rfl⟩
abbrev main_cst_38 : Ref sig .tc := ⟨.hbm, 677, rfl⟩
abbrev main_v111 : Ref sig .tc := ⟨.hbm, 678, rfl⟩
abbrev main_v112 : Ref sig .tc := ⟨.hbm, 679, rfl⟩
abbrev main_v113 : Ref sig .tc := ⟨.hbm, 680, rfl⟩
abbrev main_v114 : Ref sig .tc := ⟨.hbm, 681, rfl⟩
abbrev main_v115 : Ref sig .tc := ⟨.hbm, 682, rfl⟩
abbrev main_v116 : Ref sig .tc := ⟨.hbm, 683, rfl⟩
abbrev main_cst_39 : Ref sig .tc := ⟨.hbm, 684, rfl⟩
abbrev main_v117 : Ref sig .tc := ⟨.hbm, 685, rfl⟩
abbrev main_v118 : Ref sig .tc := ⟨.hbm, 686, rfl⟩
abbrev main_v119 : Ref sig .tc := ⟨.hbm, 687, rfl⟩
abbrev main_v120 : Ref sig .tc := ⟨.hbm, 688, rfl⟩
abbrev main_v121 : Ref sig .tc := ⟨.hbm, 689, rfl⟩
abbrev main_cst_40 : Ref sig .tc := ⟨.hbm, 690, rfl⟩
abbrev main_v122 : Ref sig .tc := ⟨.hbm, 691, rfl⟩
abbrev main_v123 : Ref sig .tc := ⟨.hbm, 692, rfl⟩
abbrev main_cst_41 : Ref sig .tc := ⟨.hbm, 693, rfl⟩
abbrev main_v124 : Ref sig .tc := ⟨.hbm, 694, rfl⟩
abbrev main_v125 : Ref sig .tc := ⟨.hbm, 695, rfl⟩
abbrev main_v126 : Ref sig .tc := ⟨.hbm, 696, rfl⟩
abbrev main_cst_42 : Ref sig .tc := ⟨.hbm, 697, rfl⟩
abbrev main_v127 : Ref sig .tc := ⟨.hbm, 698, rfl⟩
abbrev main_cst_43 : Ref sig .tc := ⟨.hbm, 699, rfl⟩
abbrev main_v128 : Ref sig .tc := ⟨.hbm, 700, rfl⟩
abbrev main_v129 : Ref sig .tc := ⟨.hbm, 701, rfl⟩
abbrev main_v130 : Ref sig .tc := ⟨.hbm, 702, rfl⟩
abbrev main_v131 : Ref sig .tc := ⟨.hbm, 703, rfl⟩
abbrev main_v132 : Ref sig .tc := ⟨.hbm, 704, rfl⟩
abbrev main_v133 : Ref sig .tc := ⟨.hbm, 705, rfl⟩
abbrev main_cst_44 : Ref sig .tc := ⟨.hbm, 706, rfl⟩
abbrev main_v134 : Ref sig .tc := ⟨.hbm, 707, rfl⟩
abbrev main_v135 : Ref sig .tc := ⟨.hbm, 708, rfl⟩
abbrev main_v136 : Ref sig .tc := ⟨.hbm, 709, rfl⟩
abbrev main_v137 : Ref sig .tc := ⟨.hbm, 710, rfl⟩
abbrev main_v138 : Ref sig .tc := ⟨.hbm, 711, rfl⟩
abbrev main_v139 : Ref sig .tc := ⟨.hbm, 712, rfl⟩
abbrev main_c_45 : Ref sig .tc := ⟨.hbm, 713, rfl⟩
abbrev main_call16_c : Ref sig .tc := ⟨.hbm, 714, rfl⟩
abbrev main_call16_v0 : Ref sig .tc := ⟨.hbm, 715, rfl⟩
abbrev main_call16_v1 : Ref sig .tc := ⟨.hbm, 716, rfl⟩
abbrev main_call16_c_0 : Ref sig .tc := ⟨.hbm, 717, rfl⟩
abbrev main_call16_v2 : Ref sig .tc := ⟨.hbm, 718, rfl⟩
abbrev main_call16_v3 : Ref sig .tc := ⟨.hbm, 719, rfl⟩
abbrev main_call16_v4 : Ref sig .tc := ⟨.hbm, 720, rfl⟩
abbrev main_call16_v5 : Ref sig .tc := ⟨.hbm, 721, rfl⟩
abbrev main_call16_v6 : Ref sig .tc := ⟨.hbm, 722, rfl⟩
abbrev main_call16_v7 : Ref sig .tc := ⟨.hbm, 723, rfl⟩
abbrev main_call16_v8 : Ref sig .tc := ⟨.hbm, 724, rfl⟩
abbrev main_call16_v9 : Ref sig .tc := ⟨.hbm, 725, rfl⟩
abbrev main_call16_v10 : Ref sig .tc := ⟨.hbm, 726, rfl⟩
abbrev main_call16_call0_v0 : Ref sig .tc := ⟨.hbm, 727, rfl⟩
abbrev main_call16_call0_c : Ref sig .tc := ⟨.hbm, 728, rfl⟩
abbrev main_call16_call0_v1 : Ref sig .tc := ⟨.hbm, 729, rfl⟩
abbrev main_call16_call0_v2 : Ref sig .tc := ⟨.hbm, 730, rfl⟩
abbrev main_call16_call0_v3 : Ref sig .tc := ⟨.hbm, 731, rfl⟩
abbrev main_call16_call0_v4 : Ref sig .tc := ⟨.hbm, 732, rfl⟩
abbrev main_call16_call0_v5 : Ref sig .tc := ⟨.hbm, 733, rfl⟩
abbrev main_call16_call0_v6 : Ref sig .tc := ⟨.hbm, 734, rfl⟩
abbrev main_call16_call0_c_0 : Ref sig .tc := ⟨.hbm, 735, rfl⟩
abbrev main_call16_call0_v7 : Ref sig .tc := ⟨.hbm, 736, rfl⟩
abbrev main_call16_call0_v8 : Ref sig .tc := ⟨.hbm, 737, rfl⟩
abbrev main_call16_call0_c_1 : Ref sig .tc := ⟨.hbm, 738, rfl⟩
abbrev main_call16_call0_v9 : Ref sig .tc := ⟨.hbm, 739, rfl⟩
abbrev main_call16_call0_v10 : Ref sig .tc := ⟨.hbm, 740, rfl⟩
abbrev main_call16_call0_v11 : Ref sig .tc := ⟨.hbm, 741, rfl⟩
abbrev main_call16_call0_v12 : Ref sig .tc := ⟨.hbm, 742, rfl⟩
abbrev main_call16_call0_v13 : Ref sig .tc := ⟨.hbm, 743, rfl⟩
abbrev main_call16_call0_c_2 : Ref sig .tc := ⟨.hbm, 744, rfl⟩
abbrev main_call16_call0_v14 : Ref sig .tc := ⟨.hbm, 745, rfl⟩
abbrev main_call16_call0_v15 : Ref sig .tc := ⟨.hbm, 746, rfl⟩
abbrev main_call16_call0_c_3 : Ref sig .tc := ⟨.hbm, 747, rfl⟩
abbrev main_call16_call0_v16 : Ref sig .tc := ⟨.hbm, 748, rfl⟩
abbrev main_call16_call0_v17 : Ref sig .tc := ⟨.hbm, 749, rfl⟩
abbrev main_call16_call0_v18 : Ref sig .tc := ⟨.hbm, 750, rfl⟩
abbrev main_call16_call0_v19 : Ref sig .tc := ⟨.hbm, 751, rfl⟩
abbrev main_call16_call0_v20 : Ref sig .tc := ⟨.hbm, 752, rfl⟩
abbrev main_call16_call0_c_4 : Ref sig .tc := ⟨.hbm, 753, rfl⟩
abbrev main_call16_call0_v21 : Ref sig .tc := ⟨.hbm, 754, rfl⟩
abbrev main_call16_call0_v22 : Ref sig .tc := ⟨.hbm, 755, rfl⟩
abbrev main_call16_call0_c_5 : Ref sig .tc := ⟨.hbm, 756, rfl⟩
abbrev main_call16_call0_v23 : Ref sig .tc := ⟨.hbm, 757, rfl⟩
abbrev main_call16_call0_v24 : Ref sig .tc := ⟨.hbm, 758, rfl⟩
abbrev main_call16_call0_v25 : Ref sig .tc := ⟨.hbm, 759, rfl⟩
abbrev main_call16_call0_v26 : Ref sig .tc := ⟨.hbm, 760, rfl⟩
abbrev main_call16_call0_v27 : Ref sig .tc := ⟨.hbm, 761, rfl⟩
abbrev main_call16_call0_c_6 : Ref sig .tc := ⟨.hbm, 762, rfl⟩
abbrev main_call16_call0_v28 : Ref sig .tc := ⟨.hbm, 763, rfl⟩
abbrev main_call16_call0_v29 : Ref sig .tc := ⟨.hbm, 764, rfl⟩
abbrev main_call16_call0_c_7 : Ref sig .tc := ⟨.hbm, 765, rfl⟩
abbrev main_call16_call0_v30 : Ref sig .tc := ⟨.hbm, 766, rfl⟩
abbrev main_call16_call0_v31 : Ref sig .tc := ⟨.hbm, 767, rfl⟩
abbrev main_call16_call0_v32 : Ref sig .tc := ⟨.hbm, 768, rfl⟩
abbrev main_call16_call0_v33 : Ref sig .tc := ⟨.hbm, 769, rfl⟩
abbrev main_call16_call0_v34 : Ref sig .tc := ⟨.hbm, 770, rfl⟩
abbrev main_call16_call0_v35 : Ref sig .tc := ⟨.hbm, 771, rfl⟩
abbrev main_call16_call0_v36 : Ref sig .tc := ⟨.hbm, 772, rfl⟩
abbrev main_call16_call0_v37 : Ref sig .tc := ⟨.hbm, 773, rfl⟩
abbrev main_call16_call0_c_8 : Ref sig .tc := ⟨.hbm, 774, rfl⟩
abbrev main_call16_call0_v38 : Ref sig .tc := ⟨.hbm, 775, rfl⟩
abbrev main_call16_call0_v39 : Ref sig .tc := ⟨.hbm, 776, rfl⟩
abbrev main_call16_call0_v40 : Ref sig .tc := ⟨.hbm, 777, rfl⟩
abbrev main_call16_call0_c_9 : Ref sig .tc := ⟨.hbm, 778, rfl⟩
abbrev main_call16_call0_v41 : Ref sig .tc := ⟨.hbm, 779, rfl⟩
abbrev main_call16_call0_v42 : Ref sig .tc := ⟨.hbm, 780, rfl⟩
abbrev main_call16_call0_c_10 : Ref sig .tc := ⟨.hbm, 781, rfl⟩
abbrev main_call16_call0_v43 : Ref sig .tc := ⟨.hbm, 782, rfl⟩
abbrev main_call16_call0_v44 : Ref sig .tc := ⟨.hbm, 783, rfl⟩
abbrev main_call16_call0_v45 : Ref sig .tc := ⟨.hbm, 784, rfl⟩
abbrev main_call16_call0_v46 : Ref sig .tc := ⟨.hbm, 785, rfl⟩
abbrev main_call16_call0_v47 : Ref sig .tc := ⟨.hbm, 786, rfl⟩
abbrev main_call16_call0_c_11 : Ref sig .tc := ⟨.hbm, 787, rfl⟩
abbrev main_call16_call0_v48 : Ref sig .tc := ⟨.hbm, 788, rfl⟩
abbrev main_call16_call0_v49 : Ref sig .tc := ⟨.hbm, 789, rfl⟩
abbrev main_call16_call0_c_12 : Ref sig .tc := ⟨.hbm, 790, rfl⟩
abbrev main_call16_call0_v50 : Ref sig .tc := ⟨.hbm, 791, rfl⟩
abbrev main_call16_call0_v51 : Ref sig .tc := ⟨.hbm, 792, rfl⟩
abbrev main_call16_call0_v52 : Ref sig .tc := ⟨.hbm, 793, rfl⟩
abbrev main_call16_call0_v53 : Ref sig .tc := ⟨.hbm, 794, rfl⟩
abbrev main_call16_call0_v54 : Ref sig .tc := ⟨.hbm, 795, rfl⟩
abbrev main_call16_call0_c_13 : Ref sig .tc := ⟨.hbm, 796, rfl⟩
abbrev main_call16_call0_v55 : Ref sig .tc := ⟨.hbm, 797, rfl⟩
abbrev main_call16_call0_v56 : Ref sig .tc := ⟨.hbm, 798, rfl⟩
abbrev main_call16_call0_c_14 : Ref sig .tc := ⟨.hbm, 799, rfl⟩
abbrev main_call16_call0_v57 : Ref sig .tc := ⟨.hbm, 800, rfl⟩
abbrev main_call16_call0_v58 : Ref sig .tc := ⟨.hbm, 801, rfl⟩
abbrev main_call16_call0_v59 : Ref sig .tc := ⟨.hbm, 802, rfl⟩
abbrev main_call16_call0_v60 : Ref sig .tc := ⟨.hbm, 803, rfl⟩
abbrev main_call16_call0_v61 : Ref sig .tc := ⟨.hbm, 804, rfl⟩
abbrev main_call16_call0_c_15 : Ref sig .tc := ⟨.hbm, 805, rfl⟩
abbrev main_call16_call0_v62 : Ref sig .tc := ⟨.hbm, 806, rfl⟩
abbrev main_call16_call0_v63 : Ref sig .tc := ⟨.hbm, 807, rfl⟩
abbrev main_call16_call0_c_16 : Ref sig .tc := ⟨.hbm, 808, rfl⟩
abbrev main_call16_call0_v64 : Ref sig .tc := ⟨.hbm, 809, rfl⟩
abbrev main_call16_call0_v65 : Ref sig .tc := ⟨.hbm, 810, rfl⟩
abbrev main_call16_call0_v66 : Ref sig .tc := ⟨.hbm, 811, rfl⟩
abbrev main_call16_call0_v67 : Ref sig .tc := ⟨.hbm, 812, rfl⟩
abbrev main_call16_call0_v68 : Ref sig .tc := ⟨.hbm, 813, rfl⟩
abbrev main_call16_call0_v69 : Ref sig .tc := ⟨.hbm, 814, rfl⟩
abbrev main_call16_call0_v70 : Ref sig .tc := ⟨.hbm, 815, rfl⟩
abbrev main_call16_call0_v71 : Ref sig .tc := ⟨.hbm, 816, rfl⟩
abbrev main_call16_call0_c_17 : Ref sig .tc := ⟨.hbm, 817, rfl⟩
abbrev main_call16_call0_v72 : Ref sig .tc := ⟨.hbm, 818, rfl⟩
abbrev main_call16_call0_v73 : Ref sig .tc := ⟨.hbm, 819, rfl⟩
abbrev main_call16_call0_v74 : Ref sig .tc := ⟨.hbm, 820, rfl⟩
abbrev main_call16_call0_c_18 : Ref sig .tc := ⟨.hbm, 821, rfl⟩
abbrev main_call16_call0_v75 : Ref sig .tc := ⟨.hbm, 822, rfl⟩
abbrev main_call16_call0_v76 : Ref sig .tc := ⟨.hbm, 823, rfl⟩
abbrev main_call16_call0_c_19 : Ref sig .tc := ⟨.hbm, 824, rfl⟩
abbrev main_call16_call0_v77 : Ref sig .tc := ⟨.hbm, 825, rfl⟩
abbrev main_call16_call0_v78 : Ref sig .tc := ⟨.hbm, 826, rfl⟩
abbrev main_call16_call0_v79 : Ref sig .tc := ⟨.hbm, 827, rfl⟩
abbrev main_call16_call0_v80 : Ref sig .tc := ⟨.hbm, 828, rfl⟩
abbrev main_call16_call0_v81 : Ref sig .tc := ⟨.hbm, 829, rfl⟩
abbrev main_call16_call0_c_20 : Ref sig .tc := ⟨.hbm, 830, rfl⟩
abbrev main_call16_call0_v82 : Ref sig .tc := ⟨.hbm, 831, rfl⟩
abbrev main_call16_call0_v83 : Ref sig .tc := ⟨.hbm, 832, rfl⟩
abbrev main_call16_call0_c_21 : Ref sig .tc := ⟨.hbm, 833, rfl⟩
abbrev main_call16_call0_v84 : Ref sig .tc := ⟨.hbm, 834, rfl⟩
abbrev main_call16_call0_v85 : Ref sig .tc := ⟨.hbm, 835, rfl⟩
abbrev main_call16_call0_v86 : Ref sig .tc := ⟨.hbm, 836, rfl⟩
abbrev main_call16_call0_v87 : Ref sig .tc := ⟨.hbm, 837, rfl⟩
abbrev main_call16_call0_v88 : Ref sig .tc := ⟨.hbm, 838, rfl⟩
abbrev main_call16_call0_c_22 : Ref sig .tc := ⟨.hbm, 839, rfl⟩
abbrev main_call16_call0_v89 : Ref sig .tc := ⟨.hbm, 840, rfl⟩
abbrev main_call16_call0_v90 : Ref sig .tc := ⟨.hbm, 841, rfl⟩
abbrev main_call16_call0_c_23 : Ref sig .tc := ⟨.hbm, 842, rfl⟩
abbrev main_call16_call0_v91 : Ref sig .tc := ⟨.hbm, 843, rfl⟩
abbrev main_call16_call0_v92 : Ref sig .tc := ⟨.hbm, 844, rfl⟩
abbrev main_call16_call0_v93 : Ref sig .tc := ⟨.hbm, 845, rfl⟩
abbrev main_call16_call0_v94 : Ref sig .tc := ⟨.hbm, 846, rfl⟩
abbrev main_call16_call0_v95 : Ref sig .tc := ⟨.hbm, 847, rfl⟩
abbrev main_call16_call0_c_24 : Ref sig .tc := ⟨.hbm, 848, rfl⟩
abbrev main_call16_call0_v96 : Ref sig .tc := ⟨.hbm, 849, rfl⟩
abbrev main_call16_call0_v97 : Ref sig .tc := ⟨.hbm, 850, rfl⟩
abbrev main_call16_call0_c_25 : Ref sig .tc := ⟨.hbm, 851, rfl⟩
abbrev main_call16_call0_v98 : Ref sig .tc := ⟨.hbm, 852, rfl⟩
abbrev main_call16_call0_v99 : Ref sig .tc := ⟨.hbm, 853, rfl⟩
abbrev main_call16_call0_v100 : Ref sig .tc := ⟨.hbm, 854, rfl⟩
abbrev main_call16_call0_v101 : Ref sig .tc := ⟨.hbm, 855, rfl⟩
abbrev main_call16_call0_v102 : Ref sig .tc := ⟨.hbm, 856, rfl⟩
abbrev main_call16_call0_v103 : Ref sig .tc := ⟨.hbm, 857, rfl⟩
abbrev main_call16_call0_v104 : Ref sig .tc := ⟨.hbm, 858, rfl⟩
abbrev main_call16_call0_v105 : Ref sig .tc := ⟨.hbm, 859, rfl⟩
abbrev main_call16_call0_c_26 : Ref sig .tc := ⟨.hbm, 860, rfl⟩
abbrev main_call16_call0_v106 : Ref sig .tc := ⟨.hbm, 861, rfl⟩
abbrev main_call16_call0_v107 : Ref sig .tc := ⟨.hbm, 862, rfl⟩
abbrev main_call16_call0_v108 : Ref sig .tc := ⟨.hbm, 863, rfl⟩
abbrev main_call16_call0_c_27 : Ref sig .tc := ⟨.hbm, 864, rfl⟩
abbrev main_call16_call0_v109 : Ref sig .tc := ⟨.hbm, 865, rfl⟩
abbrev main_call16_call0_v110 : Ref sig .tc := ⟨.hbm, 866, rfl⟩
abbrev main_call16_call0_c_28 : Ref sig .tc := ⟨.hbm, 867, rfl⟩
abbrev main_call16_call0_v111 : Ref sig .tc := ⟨.hbm, 868, rfl⟩
abbrev main_call16_call0_v112 : Ref sig .tc := ⟨.hbm, 869, rfl⟩
abbrev main_call16_call0_v113 : Ref sig .tc := ⟨.hbm, 870, rfl⟩
abbrev main_call16_call0_v114 : Ref sig .tc := ⟨.hbm, 871, rfl⟩
abbrev main_call16_call0_v115 : Ref sig .tc := ⟨.hbm, 872, rfl⟩
abbrev main_call16_call0_c_29 : Ref sig .tc := ⟨.hbm, 873, rfl⟩
abbrev main_call16_call0_v116 : Ref sig .tc := ⟨.hbm, 874, rfl⟩
abbrev main_call16_call0_v117 : Ref sig .tc := ⟨.hbm, 875, rfl⟩
abbrev main_call16_call0_c_30 : Ref sig .tc := ⟨.hbm, 876, rfl⟩
abbrev main_call16_call0_v118 : Ref sig .tc := ⟨.hbm, 877, rfl⟩
abbrev main_call16_call0_v119 : Ref sig .tc := ⟨.hbm, 878, rfl⟩
abbrev main_call16_call0_v120 : Ref sig .tc := ⟨.hbm, 879, rfl⟩
abbrev main_call16_call0_v121 : Ref sig .tc := ⟨.hbm, 880, rfl⟩
abbrev main_call16_call0_v122 : Ref sig .tc := ⟨.hbm, 881, rfl⟩
abbrev main_call16_call0_c_31 : Ref sig .tc := ⟨.hbm, 882, rfl⟩
abbrev main_call16_call0_v123 : Ref sig .tc := ⟨.hbm, 883, rfl⟩
abbrev main_call16_call0_v124 : Ref sig .tc := ⟨.hbm, 884, rfl⟩
abbrev main_call16_call0_c_32 : Ref sig .tc := ⟨.hbm, 885, rfl⟩
abbrev main_call16_call0_v125 : Ref sig .tc := ⟨.hbm, 886, rfl⟩
abbrev main_call16_call0_v126 : Ref sig .tc := ⟨.hbm, 887, rfl⟩
abbrev main_call16_call0_v127 : Ref sig .tc := ⟨.hbm, 888, rfl⟩
abbrev main_call16_call0_v128 : Ref sig .tc := ⟨.hbm, 889, rfl⟩
abbrev main_call16_call0_v129 : Ref sig .tc := ⟨.hbm, 890, rfl⟩
abbrev main_call16_call0_c_33 : Ref sig .tc := ⟨.hbm, 891, rfl⟩
abbrev main_call16_call0_v130 : Ref sig .tc := ⟨.hbm, 892, rfl⟩
abbrev main_call16_call0_v131 : Ref sig .tc := ⟨.hbm, 893, rfl⟩
abbrev main_call16_call0_c_34 : Ref sig .tc := ⟨.hbm, 894, rfl⟩
abbrev main_call16_call0_v132 : Ref sig .tc := ⟨.hbm, 895, rfl⟩
abbrev main_call16_call0_v133 : Ref sig .tc := ⟨.hbm, 896, rfl⟩
abbrev main_call16_call0_v134 : Ref sig .tc := ⟨.hbm, 897, rfl⟩
abbrev main_call16_call0_v135 : Ref sig .tc := ⟨.hbm, 898, rfl⟩
abbrev main_call16_call0_v136 : Ref sig .tc := ⟨.hbm, 899, rfl⟩
abbrev main_call16_call0_v137 : Ref sig .tc := ⟨.hbm, 900, rfl⟩
abbrev main_call16_call0_v138 : Ref sig .tc := ⟨.hbm, 901, rfl⟩
abbrev main_call16_call0_v139 : Ref sig .tc := ⟨.hbm, 902, rfl⟩
abbrev main_call16_call0_c_35 : Ref sig .tc := ⟨.hbm, 903, rfl⟩
abbrev main_call16_call0_v140 : Ref sig .tc := ⟨.hbm, 904, rfl⟩
abbrev main_call16_call0_v141 : Ref sig .tc := ⟨.hbm, 905, rfl⟩
abbrev main_call16_call0_v142 : Ref sig .tc := ⟨.hbm, 906, rfl⟩
abbrev main_call16_call0_c_36 : Ref sig .tc := ⟨.hbm, 907, rfl⟩
abbrev main_call16_call0_v143 : Ref sig .tc := ⟨.hbm, 908, rfl⟩
abbrev main_call16_call0_v144 : Ref sig .tc := ⟨.hbm, 909, rfl⟩
abbrev main_call16_call0_c_37 : Ref sig .tc := ⟨.hbm, 910, rfl⟩
abbrev main_call16_call0_v145 : Ref sig .tc := ⟨.hbm, 911, rfl⟩
abbrev main_call16_call0_v146 : Ref sig .tc := ⟨.hbm, 912, rfl⟩
abbrev main_call16_call0_v147 : Ref sig .tc := ⟨.hbm, 913, rfl⟩
abbrev main_call16_call0_v148 : Ref sig .tc := ⟨.hbm, 914, rfl⟩
abbrev main_call16_call0_v149 : Ref sig .tc := ⟨.hbm, 915, rfl⟩
abbrev main_call16_call0_c_38 : Ref sig .tc := ⟨.hbm, 916, rfl⟩
abbrev main_call16_call0_v150 : Ref sig .tc := ⟨.hbm, 917, rfl⟩
abbrev main_call16_call0_v151 : Ref sig .tc := ⟨.hbm, 918, rfl⟩
abbrev main_call16_call0_c_39 : Ref sig .tc := ⟨.hbm, 919, rfl⟩
abbrev main_call16_call0_v152 : Ref sig .tc := ⟨.hbm, 920, rfl⟩
abbrev main_call16_call0_v153 : Ref sig .tc := ⟨.hbm, 921, rfl⟩
abbrev main_call16_call0_v154 : Ref sig .tc := ⟨.hbm, 922, rfl⟩
abbrev main_call16_call0_v155 : Ref sig .tc := ⟨.hbm, 923, rfl⟩
abbrev main_call16_call0_v156 : Ref sig .tc := ⟨.hbm, 924, rfl⟩
abbrev main_call16_call0_c_40 : Ref sig .tc := ⟨.hbm, 925, rfl⟩
abbrev main_call16_call0_v157 : Ref sig .tc := ⟨.hbm, 926, rfl⟩
abbrev main_call16_call0_v158 : Ref sig .tc := ⟨.hbm, 927, rfl⟩
abbrev main_call16_call0_c_41 : Ref sig .tc := ⟨.hbm, 928, rfl⟩
abbrev main_call16_call0_v159 : Ref sig .tc := ⟨.hbm, 929, rfl⟩
abbrev main_call16_call0_v160 : Ref sig .tc := ⟨.hbm, 930, rfl⟩
abbrev main_call16_call0_v161 : Ref sig .tc := ⟨.hbm, 931, rfl⟩
abbrev main_call16_call0_v162 : Ref sig .tc := ⟨.hbm, 932, rfl⟩
abbrev main_call16_call0_v163 : Ref sig .tc := ⟨.hbm, 933, rfl⟩
abbrev main_call16_call0_c_42 : Ref sig .tc := ⟨.hbm, 934, rfl⟩
abbrev main_call16_call0_v164 : Ref sig .tc := ⟨.hbm, 935, rfl⟩
abbrev main_call16_call0_v165 : Ref sig .tc := ⟨.hbm, 936, rfl⟩
abbrev main_call16_call0_c_43 : Ref sig .tc := ⟨.hbm, 937, rfl⟩
abbrev main_call16_call0_v166 : Ref sig .tc := ⟨.hbm, 938, rfl⟩
abbrev main_call16_call0_v167 : Ref sig .tc := ⟨.hbm, 939, rfl⟩
abbrev main_call16_call0_v168 : Ref sig .tc := ⟨.hbm, 940, rfl⟩
abbrev main_call16_call0_v169 : Ref sig .tc := ⟨.hbm, 941, rfl⟩
abbrev main_call16_call0_v170 : Ref sig .tc := ⟨.hbm, 942, rfl⟩
abbrev main_call16_v11_0 : Ref sig .tc := ⟨.hbm, 943, rfl⟩
abbrev main_call16_call0_v172 : Ref sig .tc := ⟨.hbm, 944, rfl⟩
abbrev main_call16_call0_v173 : Ref sig .tc := ⟨.hbm, 945, rfl⟩
abbrev main_call16_call0_c_44 : Ref sig .tc := ⟨.hbm, 946, rfl⟩
abbrev main_call16_call0_v174 : Ref sig .tc := ⟨.hbm, 947, rfl⟩
abbrev main_call16_v11_1 : Ref sig .tc := ⟨.hbm, 948, rfl⟩
abbrev main_v140 : Ref sig .tc := ⟨.hbm, 949, rfl⟩
abbrev main_call17_cst : Ref sig .tc := ⟨.hbm, 950, rfl⟩
abbrev main_call17_cst_0 : Ref sig .tc := ⟨.hbm, 951, rfl⟩
abbrev main_call17_call0_v0 : Ref sig .tc := ⟨.hbm, 952, rfl⟩
abbrev main_call17_call0_v1 : Ref sig .tc := ⟨.hbm, 953, rfl⟩
abbrev main_call17_call0_v2 : Ref sig .tc := ⟨.hbm, 954, rfl⟩
abbrev main_call17_call0_v3 : Ref sig .tc := ⟨.hbm, 955, rfl⟩
abbrev main_call17_call0_v4 : Ref sig .tc := ⟨.hbm, 956, rfl⟩
abbrev main_call17_call0_v5 : Ref sig .tc := ⟨.hbm, 957, rfl⟩
abbrev main_call17_call0_v6 : Ref sig .tc := ⟨.hbm, 958, rfl⟩
abbrev main_call17_call0_v7 : Ref sig .tc := ⟨.hbm, 959, rfl⟩
abbrev main_call17_call0_v8 : Ref sig .tc := ⟨.hbm, 960, rfl⟩
abbrev main_call17_call0_c : Ref sig .tc := ⟨.hbm, 961, rfl⟩
abbrev main_call17_call0_v9 : Ref sig .tc := ⟨.hbm, 962, rfl⟩
abbrev main_call17_call0_v10 : Ref sig .tc := ⟨.hbm, 963, rfl⟩
abbrev main_call17_call0_c_0 : Ref sig .tc := ⟨.hbm, 964, rfl⟩
abbrev main_call17_call0_v11 : Ref sig .tc := ⟨.hbm, 965, rfl⟩
abbrev main_call17_call0_v12 : Ref sig .tc := ⟨.hbm, 966, rfl⟩
abbrev main_call17_call0_v13 : Ref sig .tc := ⟨.hbm, 967, rfl⟩
abbrev main_call17_call0_c_1 : Ref sig .tc := ⟨.hbm, 968, rfl⟩
abbrev main_call17_call0_v14 : Ref sig .tc := ⟨.hbm, 969, rfl⟩
abbrev main_call17_call0_v15 : Ref sig .tc := ⟨.hbm, 970, rfl⟩
abbrev main_call17_call0_v16 : Ref sig .tc := ⟨.hbm, 971, rfl⟩
abbrev main_call17_call0_v17 : Ref sig .tc := ⟨.hbm, 972, rfl⟩
abbrev main_call17_call0_call0_v0 : Ref sig .tc := ⟨.hbm, 973, rfl⟩
abbrev main_call17_call0_call0_c : Ref sig .tc := ⟨.hbm, 974, rfl⟩
abbrev main_call17_call0_call0_v1 : Ref sig .tc := ⟨.hbm, 975, rfl⟩
abbrev main_call17_call0_call0_v2 : Ref sig .tc := ⟨.hbm, 976, rfl⟩
abbrev main_call17_call0_call0_v3 : Ref sig .tc := ⟨.hbm, 977, rfl⟩
abbrev main_call17_call0_call0_v4 : Ref sig .tc := ⟨.hbm, 978, rfl⟩
abbrev main_call17_call0_call0_v5 : Ref sig .tc := ⟨.hbm, 979, rfl⟩
abbrev main_call17_call0_call0_v6 : Ref sig .tc := ⟨.hbm, 980, rfl⟩
abbrev main_call17_call0_call0_c_0 : Ref sig .tc := ⟨.hbm, 981, rfl⟩
abbrev main_call17_call0_call0_v7 : Ref sig .tc := ⟨.hbm, 982, rfl⟩
abbrev main_call17_call0_call0_v8 : Ref sig .tc := ⟨.hbm, 983, rfl⟩
abbrev main_call17_call0_call0_c_1 : Ref sig .tc := ⟨.hbm, 984, rfl⟩
abbrev main_call17_call0_call0_v9 : Ref sig .tc := ⟨.hbm, 985, rfl⟩
abbrev main_call17_call0_call0_v10 : Ref sig .tc := ⟨.hbm, 986, rfl⟩
abbrev main_call17_call0_call0_v11 : Ref sig .tc := ⟨.hbm, 987, rfl⟩
abbrev main_call17_call0_call0_v12 : Ref sig .tc := ⟨.hbm, 988, rfl⟩
abbrev main_call17_call0_call0_v13 : Ref sig .tc := ⟨.hbm, 989, rfl⟩
abbrev main_call17_call0_call0_c_2 : Ref sig .tc := ⟨.hbm, 990, rfl⟩
abbrev main_call17_call0_call0_v14 : Ref sig .tc := ⟨.hbm, 991, rfl⟩
abbrev main_call17_call0_call0_v15 : Ref sig .tc := ⟨.hbm, 992, rfl⟩
abbrev main_call17_call0_call0_c_3 : Ref sig .tc := ⟨.hbm, 993, rfl⟩
abbrev main_call17_call0_call0_v16 : Ref sig .tc := ⟨.hbm, 994, rfl⟩
abbrev main_call17_call0_call0_v17 : Ref sig .tc := ⟨.hbm, 995, rfl⟩
abbrev main_call17_call0_call0_v18 : Ref sig .tc := ⟨.hbm, 996, rfl⟩
abbrev main_call17_call0_call0_v19 : Ref sig .tc := ⟨.hbm, 997, rfl⟩
abbrev main_call17_call0_call0_v20 : Ref sig .tc := ⟨.hbm, 998, rfl⟩
abbrev main_call17_call0_call0_c_4 : Ref sig .tc := ⟨.hbm, 999, rfl⟩
abbrev main_call17_call0_call0_v21 : Ref sig .tc := ⟨.hbm, 1000, rfl⟩
abbrev main_call17_call0_call0_v22 : Ref sig .tc := ⟨.hbm, 1001, rfl⟩
abbrev main_call17_call0_call0_c_5 : Ref sig .tc := ⟨.hbm, 1002, rfl⟩
abbrev main_call17_call0_call0_v23 : Ref sig .tc := ⟨.hbm, 1003, rfl⟩
abbrev main_call17_call0_call0_v24 : Ref sig .tc := ⟨.hbm, 1004, rfl⟩
abbrev main_call17_call0_call0_v25 : Ref sig .tc := ⟨.hbm, 1005, rfl⟩
abbrev main_call17_call0_call0_v26 : Ref sig .tc := ⟨.hbm, 1006, rfl⟩
abbrev main_call17_call0_call0_v27 : Ref sig .tc := ⟨.hbm, 1007, rfl⟩
abbrev main_call17_call0_call0_c_6 : Ref sig .tc := ⟨.hbm, 1008, rfl⟩
abbrev main_call17_call0_call0_v28 : Ref sig .tc := ⟨.hbm, 1009, rfl⟩
abbrev main_call17_call0_call0_v29 : Ref sig .tc := ⟨.hbm, 1010, rfl⟩
abbrev main_call17_call0_call0_c_7 : Ref sig .tc := ⟨.hbm, 1011, rfl⟩
abbrev main_call17_call0_call0_v30 : Ref sig .tc := ⟨.hbm, 1012, rfl⟩
abbrev main_call17_call0_call0_v31 : Ref sig .tc := ⟨.hbm, 1013, rfl⟩
abbrev main_call17_call0_call0_v32 : Ref sig .tc := ⟨.hbm, 1014, rfl⟩
abbrev main_call17_call0_call0_v33 : Ref sig .tc := ⟨.hbm, 1015, rfl⟩
abbrev main_call17_call0_call0_v34 : Ref sig .tc := ⟨.hbm, 1016, rfl⟩
abbrev main_call17_call0_call0_v35 : Ref sig .tc := ⟨.hbm, 1017, rfl⟩
abbrev main_call17_call0_call0_v36 : Ref sig .tc := ⟨.hbm, 1018, rfl⟩
abbrev main_call17_call0_call0_v37 : Ref sig .tc := ⟨.hbm, 1019, rfl⟩
abbrev main_call17_call0_call0_c_8 : Ref sig .tc := ⟨.hbm, 1020, rfl⟩
abbrev main_call17_call0_call0_v38 : Ref sig .tc := ⟨.hbm, 1021, rfl⟩
abbrev main_call17_call0_call0_v39 : Ref sig .tc := ⟨.hbm, 1022, rfl⟩
abbrev main_call17_call0_call0_v40 : Ref sig .tc := ⟨.hbm, 1023, rfl⟩
abbrev main_call17_call0_call0_c_9 : Ref sig .tc := ⟨.hbm, 1024, rfl⟩
abbrev main_call17_call0_call0_v41 : Ref sig .tc := ⟨.hbm, 1025, rfl⟩
abbrev main_call17_call0_call0_v42 : Ref sig .tc := ⟨.hbm, 1026, rfl⟩
abbrev main_call17_call0_call0_c_10 : Ref sig .tc := ⟨.hbm, 1027, rfl⟩
abbrev main_call17_call0_call0_v43 : Ref sig .tc := ⟨.hbm, 1028, rfl⟩
abbrev main_call17_call0_call0_v44 : Ref sig .tc := ⟨.hbm, 1029, rfl⟩
abbrev main_call17_call0_call0_v45 : Ref sig .tc := ⟨.hbm, 1030, rfl⟩
abbrev main_call17_call0_call0_v46 : Ref sig .tc := ⟨.hbm, 1031, rfl⟩
abbrev main_call17_call0_call0_v47 : Ref sig .tc := ⟨.hbm, 1032, rfl⟩
abbrev main_call17_call0_call0_c_11 : Ref sig .tc := ⟨.hbm, 1033, rfl⟩
abbrev main_call17_call0_call0_v48 : Ref sig .tc := ⟨.hbm, 1034, rfl⟩
abbrev main_call17_call0_call0_v49 : Ref sig .tc := ⟨.hbm, 1035, rfl⟩
abbrev main_call17_call0_call0_c_12 : Ref sig .tc := ⟨.hbm, 1036, rfl⟩
abbrev main_call17_call0_call0_v50 : Ref sig .tc := ⟨.hbm, 1037, rfl⟩
abbrev main_call17_call0_call0_v51 : Ref sig .tc := ⟨.hbm, 1038, rfl⟩
abbrev main_call17_call0_call0_v52 : Ref sig .tc := ⟨.hbm, 1039, rfl⟩
abbrev main_call17_call0_call0_v53 : Ref sig .tc := ⟨.hbm, 1040, rfl⟩
abbrev main_call17_call0_call0_v54 : Ref sig .tc := ⟨.hbm, 1041, rfl⟩
abbrev main_call17_call0_call0_c_13 : Ref sig .tc := ⟨.hbm, 1042, rfl⟩
abbrev main_call17_call0_call0_v55 : Ref sig .tc := ⟨.hbm, 1043, rfl⟩
abbrev main_call17_call0_call0_v56 : Ref sig .tc := ⟨.hbm, 1044, rfl⟩
abbrev main_call17_call0_call0_c_14 : Ref sig .tc := ⟨.hbm, 1045, rfl⟩
abbrev main_call17_call0_call0_v57 : Ref sig .tc := ⟨.hbm, 1046, rfl⟩
abbrev main_call17_call0_call0_v58 : Ref sig .tc := ⟨.hbm, 1047, rfl⟩
abbrev main_call17_call0_call0_v59 : Ref sig .tc := ⟨.hbm, 1048, rfl⟩
abbrev main_call17_call0_call0_v60 : Ref sig .tc := ⟨.hbm, 1049, rfl⟩
abbrev main_call17_call0_call0_v61 : Ref sig .tc := ⟨.hbm, 1050, rfl⟩
abbrev main_call17_call0_call0_c_15 : Ref sig .tc := ⟨.hbm, 1051, rfl⟩
abbrev main_call17_call0_call0_v62 : Ref sig .tc := ⟨.hbm, 1052, rfl⟩
abbrev main_call17_call0_call0_v63 : Ref sig .tc := ⟨.hbm, 1053, rfl⟩
abbrev main_call17_call0_call0_c_16 : Ref sig .tc := ⟨.hbm, 1054, rfl⟩
abbrev main_call17_call0_call0_v64 : Ref sig .tc := ⟨.hbm, 1055, rfl⟩
abbrev main_call17_call0_call0_v65 : Ref sig .tc := ⟨.hbm, 1056, rfl⟩
abbrev main_call17_call0_call0_v66 : Ref sig .tc := ⟨.hbm, 1057, rfl⟩
abbrev main_call17_call0_call0_v67 : Ref sig .tc := ⟨.hbm, 1058, rfl⟩
abbrev main_call17_call0_call0_v68 : Ref sig .tc := ⟨.hbm, 1059, rfl⟩
abbrev main_call17_call0_call0_v69 : Ref sig .tc := ⟨.hbm, 1060, rfl⟩
abbrev main_call17_call0_call0_v70 : Ref sig .tc := ⟨.hbm, 1061, rfl⟩
abbrev main_call17_call0_call0_v71 : Ref sig .tc := ⟨.hbm, 1062, rfl⟩
abbrev main_call17_call0_call0_c_17 : Ref sig .tc := ⟨.hbm, 1063, rfl⟩
abbrev main_call17_call0_call0_v72 : Ref sig .tc := ⟨.hbm, 1064, rfl⟩
abbrev main_call17_call0_call0_v73 : Ref sig .tc := ⟨.hbm, 1065, rfl⟩
abbrev main_call17_call0_call0_v74 : Ref sig .tc := ⟨.hbm, 1066, rfl⟩
abbrev main_call17_call0_call0_c_18 : Ref sig .tc := ⟨.hbm, 1067, rfl⟩
abbrev main_call17_call0_call0_v75 : Ref sig .tc := ⟨.hbm, 1068, rfl⟩
abbrev main_call17_call0_call0_v76 : Ref sig .tc := ⟨.hbm, 1069, rfl⟩
abbrev main_call17_call0_call0_c_19 : Ref sig .tc := ⟨.hbm, 1070, rfl⟩
abbrev main_call17_call0_call0_v77 : Ref sig .tc := ⟨.hbm, 1071, rfl⟩
abbrev main_call17_call0_call0_v78 : Ref sig .tc := ⟨.hbm, 1072, rfl⟩
abbrev main_call17_call0_call0_v79 : Ref sig .tc := ⟨.hbm, 1073, rfl⟩
abbrev main_call17_call0_call0_v80 : Ref sig .tc := ⟨.hbm, 1074, rfl⟩
abbrev main_call17_call0_call0_v81 : Ref sig .tc := ⟨.hbm, 1075, rfl⟩
abbrev main_call17_call0_call0_c_20 : Ref sig .tc := ⟨.hbm, 1076, rfl⟩
abbrev main_call17_call0_call0_v82 : Ref sig .tc := ⟨.hbm, 1077, rfl⟩
abbrev main_call17_call0_call0_v83 : Ref sig .tc := ⟨.hbm, 1078, rfl⟩
abbrev main_call17_call0_call0_c_21 : Ref sig .tc := ⟨.hbm, 1079, rfl⟩
abbrev main_call17_call0_call0_v84 : Ref sig .tc := ⟨.hbm, 1080, rfl⟩
abbrev main_call17_call0_call0_v85 : Ref sig .tc := ⟨.hbm, 1081, rfl⟩
abbrev main_call17_call0_call0_v86 : Ref sig .tc := ⟨.hbm, 1082, rfl⟩
abbrev main_call17_call0_call0_v87 : Ref sig .tc := ⟨.hbm, 1083, rfl⟩
abbrev main_call17_call0_call0_v88 : Ref sig .tc := ⟨.hbm, 1084, rfl⟩
abbrev main_call17_call0_call0_c_22 : Ref sig .tc := ⟨.hbm, 1085, rfl⟩
abbrev main_call17_call0_call0_v89 : Ref sig .tc := ⟨.hbm, 1086, rfl⟩
abbrev main_call17_call0_call0_v90 : Ref sig .tc := ⟨.hbm, 1087, rfl⟩
abbrev main_call17_call0_call0_c_23 : Ref sig .tc := ⟨.hbm, 1088, rfl⟩
abbrev main_call17_call0_call0_v91 : Ref sig .tc := ⟨.hbm, 1089, rfl⟩
abbrev main_call17_call0_call0_v92 : Ref sig .tc := ⟨.hbm, 1090, rfl⟩
abbrev main_call17_call0_call0_v93 : Ref sig .tc := ⟨.hbm, 1091, rfl⟩
abbrev main_call17_call0_call0_v94 : Ref sig .tc := ⟨.hbm, 1092, rfl⟩
abbrev main_call17_call0_call0_v95 : Ref sig .tc := ⟨.hbm, 1093, rfl⟩
abbrev main_call17_call0_call0_c_24 : Ref sig .tc := ⟨.hbm, 1094, rfl⟩
abbrev main_call17_call0_call0_v96 : Ref sig .tc := ⟨.hbm, 1095, rfl⟩
abbrev main_call17_call0_call0_v97 : Ref sig .tc := ⟨.hbm, 1096, rfl⟩
abbrev main_call17_call0_call0_c_25 : Ref sig .tc := ⟨.hbm, 1097, rfl⟩
abbrev main_call17_call0_call0_v98 : Ref sig .tc := ⟨.hbm, 1098, rfl⟩
abbrev main_call17_call0_call0_v99 : Ref sig .tc := ⟨.hbm, 1099, rfl⟩
abbrev main_call17_call0_call0_v100 : Ref sig .tc := ⟨.hbm, 1100, rfl⟩
abbrev main_call17_call0_call0_v101 : Ref sig .tc := ⟨.hbm, 1101, rfl⟩
abbrev main_call17_call0_call0_v102 : Ref sig .tc := ⟨.hbm, 1102, rfl⟩
abbrev main_call17_call0_call0_v103 : Ref sig .tc := ⟨.hbm, 1103, rfl⟩
abbrev main_call17_call0_call0_v104 : Ref sig .tc := ⟨.hbm, 1104, rfl⟩
abbrev main_call17_call0_call0_v105 : Ref sig .tc := ⟨.hbm, 1105, rfl⟩
abbrev main_call17_call0_call0_c_26 : Ref sig .tc := ⟨.hbm, 1106, rfl⟩
abbrev main_call17_call0_call0_v106 : Ref sig .tc := ⟨.hbm, 1107, rfl⟩
abbrev main_call17_call0_call0_v107 : Ref sig .tc := ⟨.hbm, 1108, rfl⟩
abbrev main_call17_call0_call0_v108 : Ref sig .tc := ⟨.hbm, 1109, rfl⟩
abbrev main_call17_call0_call0_c_27 : Ref sig .tc := ⟨.hbm, 1110, rfl⟩
abbrev main_call17_call0_call0_v109 : Ref sig .tc := ⟨.hbm, 1111, rfl⟩
abbrev main_call17_call0_call0_v110 : Ref sig .tc := ⟨.hbm, 1112, rfl⟩
abbrev main_call17_call0_call0_c_28 : Ref sig .tc := ⟨.hbm, 1113, rfl⟩
abbrev main_call17_call0_call0_v111 : Ref sig .tc := ⟨.hbm, 1114, rfl⟩
abbrev main_call17_call0_call0_v112 : Ref sig .tc := ⟨.hbm, 1115, rfl⟩
abbrev main_call17_call0_call0_v113 : Ref sig .tc := ⟨.hbm, 1116, rfl⟩
abbrev main_call17_call0_call0_v114 : Ref sig .tc := ⟨.hbm, 1117, rfl⟩
abbrev main_call17_call0_call0_v115 : Ref sig .tc := ⟨.hbm, 1118, rfl⟩
abbrev main_call17_call0_call0_c_29 : Ref sig .tc := ⟨.hbm, 1119, rfl⟩
abbrev main_call17_call0_call0_v116 : Ref sig .tc := ⟨.hbm, 1120, rfl⟩
abbrev main_call17_call0_call0_v117 : Ref sig .tc := ⟨.hbm, 1121, rfl⟩
abbrev main_call17_call0_call0_c_30 : Ref sig .tc := ⟨.hbm, 1122, rfl⟩
abbrev main_call17_call0_call0_v118 : Ref sig .tc := ⟨.hbm, 1123, rfl⟩
abbrev main_call17_call0_call0_v119 : Ref sig .tc := ⟨.hbm, 1124, rfl⟩
abbrev main_call17_call0_call0_v120 : Ref sig .tc := ⟨.hbm, 1125, rfl⟩
abbrev main_call17_call0_call0_v121 : Ref sig .tc := ⟨.hbm, 1126, rfl⟩
abbrev main_call17_call0_call0_v122 : Ref sig .tc := ⟨.hbm, 1127, rfl⟩
abbrev main_call17_call0_call0_c_31 : Ref sig .tc := ⟨.hbm, 1128, rfl⟩
abbrev main_call17_call0_call0_v123 : Ref sig .tc := ⟨.hbm, 1129, rfl⟩
abbrev main_call17_call0_call0_v124 : Ref sig .tc := ⟨.hbm, 1130, rfl⟩
abbrev main_call17_call0_call0_c_32 : Ref sig .tc := ⟨.hbm, 1131, rfl⟩
abbrev main_call17_call0_call0_v125 : Ref sig .tc := ⟨.hbm, 1132, rfl⟩
abbrev main_call17_call0_call0_v126 : Ref sig .tc := ⟨.hbm, 1133, rfl⟩
abbrev main_call17_call0_call0_v127 : Ref sig .tc := ⟨.hbm, 1134, rfl⟩
abbrev main_call17_call0_call0_v128 : Ref sig .tc := ⟨.hbm, 1135, rfl⟩
abbrev main_call17_call0_call0_v129 : Ref sig .tc := ⟨.hbm, 1136, rfl⟩
abbrev main_call17_call0_call0_c_33 : Ref sig .tc := ⟨.hbm, 1137, rfl⟩
abbrev main_call17_call0_call0_v130 : Ref sig .tc := ⟨.hbm, 1138, rfl⟩
abbrev main_call17_call0_call0_v131 : Ref sig .tc := ⟨.hbm, 1139, rfl⟩
abbrev main_call17_call0_call0_c_34 : Ref sig .tc := ⟨.hbm, 1140, rfl⟩
abbrev main_call17_call0_call0_v132 : Ref sig .tc := ⟨.hbm, 1141, rfl⟩
abbrev main_call17_call0_call0_v133 : Ref sig .tc := ⟨.hbm, 1142, rfl⟩
abbrev main_call17_call0_call0_v134 : Ref sig .tc := ⟨.hbm, 1143, rfl⟩
abbrev main_call17_call0_call0_v135 : Ref sig .tc := ⟨.hbm, 1144, rfl⟩
abbrev main_call17_call0_call0_v136 : Ref sig .tc := ⟨.hbm, 1145, rfl⟩
abbrev main_call17_call0_call0_v137 : Ref sig .tc := ⟨.hbm, 1146, rfl⟩
abbrev main_call17_call0_call0_v138 : Ref sig .tc := ⟨.hbm, 1147, rfl⟩
abbrev main_call17_call0_call0_v139 : Ref sig .tc := ⟨.hbm, 1148, rfl⟩
abbrev main_call17_call0_call0_c_35 : Ref sig .tc := ⟨.hbm, 1149, rfl⟩
abbrev main_call17_call0_call0_v140 : Ref sig .tc := ⟨.hbm, 1150, rfl⟩
abbrev main_call17_call0_call0_v141 : Ref sig .tc := ⟨.hbm, 1151, rfl⟩
abbrev main_call17_call0_call0_v142 : Ref sig .tc := ⟨.hbm, 1152, rfl⟩
abbrev main_call17_call0_call0_c_36 : Ref sig .tc := ⟨.hbm, 1153, rfl⟩
abbrev main_call17_call0_call0_v143 : Ref sig .tc := ⟨.hbm, 1154, rfl⟩
abbrev main_call17_call0_call0_v144 : Ref sig .tc := ⟨.hbm, 1155, rfl⟩
abbrev main_call17_call0_call0_c_37 : Ref sig .tc := ⟨.hbm, 1156, rfl⟩
abbrev main_call17_call0_call0_v145 : Ref sig .tc := ⟨.hbm, 1157, rfl⟩
abbrev main_call17_call0_call0_v146 : Ref sig .tc := ⟨.hbm, 1158, rfl⟩
abbrev main_call17_call0_call0_v147 : Ref sig .tc := ⟨.hbm, 1159, rfl⟩
abbrev main_call17_call0_call0_v148 : Ref sig .tc := ⟨.hbm, 1160, rfl⟩
abbrev main_call17_call0_call0_v149 : Ref sig .tc := ⟨.hbm, 1161, rfl⟩
abbrev main_call17_call0_call0_c_38 : Ref sig .tc := ⟨.hbm, 1162, rfl⟩
abbrev main_call17_call0_call0_v150 : Ref sig .tc := ⟨.hbm, 1163, rfl⟩
abbrev main_call17_call0_call0_v151 : Ref sig .tc := ⟨.hbm, 1164, rfl⟩
abbrev main_call17_call0_call0_c_39 : Ref sig .tc := ⟨.hbm, 1165, rfl⟩
abbrev main_call17_call0_call0_v152 : Ref sig .tc := ⟨.hbm, 1166, rfl⟩
abbrev main_call17_call0_call0_v153 : Ref sig .tc := ⟨.hbm, 1167, rfl⟩
abbrev main_call17_call0_call0_v154 : Ref sig .tc := ⟨.hbm, 1168, rfl⟩
abbrev main_call17_call0_call0_v155 : Ref sig .tc := ⟨.hbm, 1169, rfl⟩
abbrev main_call17_call0_call0_v156 : Ref sig .tc := ⟨.hbm, 1170, rfl⟩
abbrev main_call17_call0_call0_c_40 : Ref sig .tc := ⟨.hbm, 1171, rfl⟩
abbrev main_call17_call0_call0_v157 : Ref sig .tc := ⟨.hbm, 1172, rfl⟩
abbrev main_call17_call0_call0_v158 : Ref sig .tc := ⟨.hbm, 1173, rfl⟩
abbrev main_call17_call0_call0_c_41 : Ref sig .tc := ⟨.hbm, 1174, rfl⟩
abbrev main_call17_call0_call0_v159 : Ref sig .tc := ⟨.hbm, 1175, rfl⟩
abbrev main_call17_call0_call0_v160 : Ref sig .tc := ⟨.hbm, 1176, rfl⟩
abbrev main_call17_call0_call0_v161 : Ref sig .tc := ⟨.hbm, 1177, rfl⟩
abbrev main_call17_call0_call0_v162 : Ref sig .tc := ⟨.hbm, 1178, rfl⟩
abbrev main_call17_call0_call0_v163 : Ref sig .tc := ⟨.hbm, 1179, rfl⟩
abbrev main_call17_call0_call0_c_42 : Ref sig .tc := ⟨.hbm, 1180, rfl⟩
abbrev main_call17_call0_call0_v164 : Ref sig .tc := ⟨.hbm, 1181, rfl⟩
abbrev main_call17_call0_call0_v165 : Ref sig .tc := ⟨.hbm, 1182, rfl⟩
abbrev main_call17_call0_call0_c_43 : Ref sig .tc := ⟨.hbm, 1183, rfl⟩
abbrev main_call17_call0_call0_v166 : Ref sig .tc := ⟨.hbm, 1184, rfl⟩
abbrev main_call17_call0_call0_v167 : Ref sig .tc := ⟨.hbm, 1185, rfl⟩
abbrev main_call17_call0_call0_v168 : Ref sig .tc := ⟨.hbm, 1186, rfl⟩
abbrev main_call17_call0_call0_v169 : Ref sig .tc := ⟨.hbm, 1187, rfl⟩
abbrev main_call17_call0_call0_v170 : Ref sig .tc := ⟨.hbm, 1188, rfl⟩
abbrev main_call17_call0_v18_0 : Ref sig .tc := ⟨.hbm, 1189, rfl⟩
abbrev main_call17_call0_call0_v172 : Ref sig .tc := ⟨.hbm, 1190, rfl⟩
abbrev main_call17_call0_call0_v173 : Ref sig .tc := ⟨.hbm, 1191, rfl⟩
abbrev main_call17_call0_call0_c_44 : Ref sig .tc := ⟨.hbm, 1192, rfl⟩
abbrev main_call17_call0_call0_v174 : Ref sig .tc := ⟨.hbm, 1193, rfl⟩
abbrev main_call17_call0_v18_1 : Ref sig .tc := ⟨.hbm, 1194, rfl⟩
abbrev main_call17_call0_v19 : Ref sig .tc := ⟨.hbm, 1195, rfl⟩
abbrev main_call17_call0_c_2 : Ref sig .tc := ⟨.hbm, 1196, rfl⟩
abbrev main_call17_call0_v20 : Ref sig .tc := ⟨.hbm, 1197, rfl⟩
abbrev main_call17_call0_v21 : Ref sig .tc := ⟨.hbm, 1198, rfl⟩
abbrev main_call17_call0_c_3 : Ref sig .tc := ⟨.hbm, 1199, rfl⟩
abbrev main_call17_call0_v22 : Ref sig .tc := ⟨.hbm, 1200, rfl⟩
abbrev main_call17_call0_v23 : Ref sig .tc := ⟨.hbm, 1201, rfl⟩
abbrev main_call17_call0_v24 : Ref sig .tc := ⟨.hbm, 1202, rfl⟩
abbrev main_call17_call0_cst : Ref sig .tc := ⟨.hbm, 1203, rfl⟩
abbrev main_call17_call0_v25 : Ref sig .tc := ⟨.hbm, 1204, rfl⟩
abbrev main_call17_call0_v26 : Ref sig .tc := ⟨.hbm, 1205, rfl⟩
abbrev main_call17_call0_v27 : Ref sig .tc := ⟨.hbm, 1206, rfl⟩
abbrev main_call17_call0_v28 : Ref sig .tc := ⟨.hbm, 1207, rfl⟩
abbrev main_call17_call0_v29 : Ref sig .tc := ⟨.hbm, 1208, rfl⟩
abbrev main_call17_call0_v30 : Ref sig .tc := ⟨.hbm, 1209, rfl⟩
abbrev main_call17_call0_v31 : Ref sig .tc := ⟨.hbm, 1210, rfl⟩
abbrev main_call17_call0_v32 : Ref sig .tc := ⟨.hbm, 1211, rfl⟩
abbrev main_call17_v0 : Ref sig .tc := ⟨.hbm, 1212, rfl⟩
abbrev main_call17_v1 : Ref sig .tc := ⟨.hbm, 1213, rfl⟩
abbrev main_call17_v2 : Ref sig .tc := ⟨.hbm, 1214, rfl⟩
abbrev main_call17_v3 : Ref sig .tc := ⟨.hbm, 1215, rfl⟩
abbrev main_v141 : Ref sig .tc := ⟨.hbm, 1216, rfl⟩
abbrev main_v142 : Ref sig .tc := ⟨.hbm, 1217, rfl⟩
abbrev main_call18_v0 : Ref sig .tc := ⟨.hbm, 1218, rfl⟩
abbrev main_call18_cst : Ref sig .tc := ⟨.hbm, 1219, rfl⟩
abbrev main_call18_c : Ref sig .tc := ⟨.hbm, 1220, rfl⟩
abbrev main_call18_v1_0 : Ref sig .tc := ⟨.hbm, 1221, rfl⟩
abbrev main_v143 : Ref sig .tc := ⟨.hbm, 1222, rfl⟩
abbrev main_c_46 : Ref sig .tc := ⟨.hbm, 1223, rfl⟩
abbrev main_v144 : Ref sig .tc := ⟨.hbm, 1224, rfl⟩
abbrev main_v145 : Ref sig .tc := ⟨.hbm, 1225, rfl⟩
abbrev main_v146 : Ref sig .tc := ⟨.hbm, 1226, rfl⟩
abbrev main_call19_v0 : Ref sig .tc := ⟨.hbm, 1227, rfl⟩
abbrev main_v147 : Ref sig .tc := ⟨.hbm, 1228, rfl⟩
abbrev main_c_47 : Ref sig .tc := ⟨.hbm, 1229, rfl⟩
abbrev main_v148 : Ref sig .tc := ⟨.hbm, 1230, rfl⟩
abbrev main_v149 : Ref sig .tc := ⟨.hbm, 1231, rfl⟩
abbrev main_v150 : Ref sig .tc := ⟨.hbm, 1232, rfl⟩
abbrev main_v151 : Ref sig .tc := ⟨.hbm, 1233, rfl⟩
abbrev main_call21_v0 : Ref sig .tc := ⟨.hbm, 1234, rfl⟩
abbrev main_v152 : Ref sig .tc := ⟨.hbm, 1235, rfl⟩
abbrev main_c_48 : Ref sig .tc := ⟨.hbm, 1236, rfl⟩
abbrev main_v153 : Ref sig .tc := ⟨.hbm, 1237, rfl⟩
abbrev main_v154 : Ref sig .tc := ⟨.hbm, 1238, rfl⟩
abbrev main_v155 : Ref sig .tc := ⟨.hbm, 1239, rfl⟩
abbrev main_v156 : Ref sig .tc := ⟨.hbm, 1240, rfl⟩
abbrev main_call23_v0 : Ref sig .tc := ⟨.hbm, 1241, rfl⟩
abbrev main_v157 : Ref sig .tc := ⟨.hbm, 1242, rfl⟩
abbrev main_c_49 : Ref sig .tc := ⟨.hbm, 1243, rfl⟩
abbrev main_v158 : Ref sig .tc := ⟨.hbm, 1244, rfl⟩
abbrev main_v159 : Ref sig .tc := ⟨.hbm, 1245, rfl⟩
abbrev main_v160 : Ref sig .tc := ⟨.hbm, 1246, rfl⟩
abbrev main_cst_50 : Ref sig .tc := ⟨.hbm, 1247, rfl⟩
abbrev main_v161 : Ref sig .tc := ⟨.hbm, 1248, rfl⟩
abbrev main_cst_51 : Ref sig .tc := ⟨.hbm, 1249, rfl⟩
abbrev main_v162 : Ref sig .tc := ⟨.hbm, 1250, rfl⟩
abbrev main_v163 : Ref sig .tc := ⟨.hbm, 1251, rfl⟩
abbrev main_v164 : Ref sig .tc := ⟨.hbm, 1252, rfl⟩
abbrev main_cst_52 : Ref sig .tc := ⟨.hbm, 1253, rfl⟩
abbrev main_cst_53 : Ref sig .tc := ⟨.hbm, 1254, rfl⟩
abbrev main_call24_v0 : Ref sig .tc := ⟨.hbm, 1255, rfl⟩
abbrev main_call24_v1 : Ref sig .tc := ⟨.hbm, 1256, rfl⟩
abbrev main_call24_v2 : Ref sig .tc := ⟨.hbm, 1257, rfl⟩
abbrev main_call24_v3 : Ref sig .tc := ⟨.hbm, 1258, rfl⟩
abbrev main_call24_v4 : Ref sig .tc := ⟨.hbm, 1259, rfl⟩
abbrev main_v165 : Ref sig .tc := ⟨.hbm, 1260, rfl⟩
abbrev main_call25_v0 : Ref sig .tc := ⟨.hbm, 1261, rfl⟩
abbrev main_v166 : Ref sig .tc := ⟨.hbm, 1262, rfl⟩
abbrev main_c_54 : Ref sig .tc := ⟨.hbm, 1263, rfl⟩
abbrev main_v167 : Ref sig .tc := ⟨.hbm, 1264, rfl⟩
abbrev main_v168 : Ref sig .tc := ⟨.hbm, 1265, rfl⟩
abbrev main_v169 : Ref sig .tc := ⟨.hbm, 1266, rfl⟩
abbrev main_cst_55 : Ref sig .tc := ⟨.hbm, 1267, rfl⟩
abbrev main_v170 : Ref sig .tc := ⟨.hbm, 1268, rfl⟩
abbrev main_v171 : Ref sig .tc := ⟨.hbm, 1269, rfl⟩
abbrev main_cst_56 : Ref sig .tc := ⟨.hbm, 1270, rfl⟩
abbrev main_v172 : Ref sig .tc := ⟨.hbm, 1271, rfl⟩
abbrev main_v173 : Ref sig .tc := ⟨.hbm, 1272, rfl⟩
abbrev main_v174 : Ref sig .tc := ⟨.hbm, 1273, rfl⟩
abbrev main_v175 : Ref sig .tc := ⟨.hbm, 1274, rfl⟩
abbrev main_cst_57 : Ref sig .tc := ⟨.hbm, 1275, rfl⟩
abbrev main_v176 : Ref sig .tc := ⟨.hbm, 1276, rfl⟩
abbrev main_cst_58 : Ref sig .tc := ⟨.hbm, 1277, rfl⟩
abbrev main_v177 : Ref sig .tc := ⟨.hbm, 1278, rfl⟩
abbrev main_v178 : Ref sig .tc := ⟨.hbm, 1279, rfl⟩
abbrev main_v179 : Ref sig .tc := ⟨.hbm, 1280, rfl⟩
abbrev main_v180 : Ref sig .tc := ⟨.hbm, 1281, rfl⟩
abbrev main_v181 : Ref sig .tc := ⟨.hbm, 1282, rfl⟩
abbrev main_cst_59 : Ref sig .tc := ⟨.hbm, 1283, rfl⟩
abbrev main_cst_60 : Ref sig .tc := ⟨.hbm, 1284, rfl⟩
abbrev main_call26_v0 : Ref sig .tc := ⟨.hbm, 1285, rfl⟩
abbrev main_call26_v1 : Ref sig .tc := ⟨.hbm, 1286, rfl⟩
abbrev main_call26_v2 : Ref sig .tc := ⟨.hbm, 1287, rfl⟩
abbrev main_call26_v3 : Ref sig .tc := ⟨.hbm, 1288, rfl⟩
abbrev main_call26_v4 : Ref sig .tc := ⟨.hbm, 1289, rfl⟩
abbrev main_v182 : Ref sig .tc := ⟨.hbm, 1290, rfl⟩
abbrev main_call27_v0 : Ref sig .tc := ⟨.hbm, 1291, rfl⟩
abbrev main_v183 : Ref sig .tc := ⟨.hbm, 1292, rfl⟩
abbrev main_c_61 : Ref sig .tc := ⟨.hbm, 1293, rfl⟩
abbrev main_v184 : Ref sig .tc := ⟨.hbm, 1294, rfl⟩
abbrev main_v185 : Ref sig .tc := ⟨.hbm, 1295, rfl⟩
abbrev main_v186 : Ref sig .tc := ⟨.hbm, 1296, rfl⟩
abbrev main_cst_62 : Ref sig .tc := ⟨.hbm, 1297, rfl⟩
abbrev main_v187 : Ref sig .tc := ⟨.hbm, 1298, rfl⟩
abbrev main_v188 : Ref sig .tc := ⟨.hbm, 1299, rfl⟩
abbrev main_call28_v0 : Ref sig .tc := ⟨.hbm, 1300, rfl⟩
abbrev main_v189 : Ref sig .tc := ⟨.hbm, 1301, rfl⟩
abbrev main_c_63 : Ref sig .tc := ⟨.hbm, 1302, rfl⟩
abbrev main_v190 : Ref sig .tc := ⟨.hbm, 1303, rfl⟩
abbrev main_v191 : Ref sig .tc := ⟨.hbm, 1304, rfl⟩
abbrev main_v192 : Ref sig .tc := ⟨.hbm, 1305, rfl⟩
abbrev main_cst_64 : Ref sig .tc := ⟨.hbm, 1306, rfl⟩
abbrev main_v193 : Ref sig .tc := ⟨.hbm, 1307, rfl⟩
abbrev main_cst_65 : Ref sig .tc := ⟨.hbm, 1308, rfl⟩
abbrev main_v194 : Ref sig .tc := ⟨.hbm, 1309, rfl⟩
abbrev main_cst_66 : Ref sig .tc := ⟨.hbm, 1310, rfl⟩
abbrev main_v195 : Ref sig .tc := ⟨.hbm, 1311, rfl⟩
abbrev main_v196 : Ref sig .tc := ⟨.hbm, 1312, rfl⟩
abbrev main_v197 : Ref sig .tc := ⟨.hbm, 1313, rfl⟩
abbrev main_cst_67 : Ref sig .tc := ⟨.hbm, 1314, rfl⟩
abbrev main_v198 : Ref sig .tc := ⟨.hbm, 1315, rfl⟩
abbrev main_v199 : Ref sig .tc := ⟨.hbm, 1316, rfl⟩
abbrev main_v200 : Ref sig .tc := ⟨.hbm, 1317, rfl⟩
abbrev main_call30_v0 : Ref sig .tc := ⟨.hbm, 1318, rfl⟩
abbrev main_v201 : Ref sig .tc := ⟨.hbm, 1319, rfl⟩
abbrev main_c_68 : Ref sig .tc := ⟨.hbm, 1320, rfl⟩
abbrev main_v202 : Ref sig .tc := ⟨.hbm, 1321, rfl⟩
abbrev main_v203 : Ref sig .tc := ⟨.hbm, 1322, rfl⟩
abbrev main_v204 : Ref sig .tc := ⟨.hbm, 1323, rfl⟩
abbrev main_cst_69 : Ref sig .tc := ⟨.hbm, 1324, rfl⟩
abbrev main_v205 : Ref sig .tc := ⟨.hbm, 1325, rfl⟩
abbrev main_cst_70 : Ref sig .tc := ⟨.hbm, 1326, rfl⟩
abbrev main_v206 : Ref sig .tc := ⟨.hbm, 1327, rfl⟩
abbrev main_v207 : Ref sig .tc := ⟨.hbm, 1328, rfl⟩
abbrev main_v208 : Ref sig .tc := ⟨.hbm, 1329, rfl⟩
abbrev main_v209 : Ref sig .tc := ⟨.hbm, 1330, rfl⟩
abbrev main_call31_v0 : Ref sig .tc := ⟨.hbm, 1331, rfl⟩
abbrev main_v210 : Ref sig .tc := ⟨.hbm, 1332, rfl⟩

abbrev nD : Nat := 1
abbrev τ : Topo := Topo.v7x

variable {F : FTy → Type} [FloatOps F]
-- ==== KernelDrawnIdeal.lean ====
abbrev S3x2x224x4 : Shape := ⟨4, ![3, 2, 224, 4]⟩
abbrev S3 : Shape := ⟨1, ![3]⟩
abbrev S_ : Shape := ⟨0, ![]⟩
abbrev S1 : Shape := ⟨1, ![1]⟩
abbrev S1x2x224x4 : Shape := ⟨4, ![1, 2, 224, 4]⟩
abbrev S2x224x4 : Shape := ⟨3, ![2, 224, 4]⟩
abbrev S1x1x1x1 : Shape := ⟨4, ![1, 1, 1, 1]⟩
abbrev S4x4 : Shape := ⟨2, ![4, 4]⟩
abbrev S448x4 : Shape := ⟨2, ![448, 4]⟩
abbrev S224x224 : Shape := ⟨2, ![224, 224]⟩
abbrev S2x4x224 : Shape := ⟨3, ![2, 4, 224]⟩

abbrev nBuf : Space → Nat
  | .hbm => 38
  | .vmem => 4
  | .smem => 5
  | _ => 0

abbrev bufTy : (tb : Table) → Fin (tcTables nBuf tb) → BufTy
  | .hbm, ⟨0, _⟩ => ⟨S3x2x224x4, .f32⟩
  | .hbm, ⟨1, _⟩ => ⟨S3, .i32⟩
  | .hbm, ⟨2, _⟩ => ⟨S3, .i32⟩
  | .hbm, ⟨3, _⟩ => ⟨S_, .f32⟩
  | .hbm, ⟨4, _⟩ => ⟨S_, .i32⟩
  | .hbm, ⟨5, _⟩ => ⟨S3, .i32⟩
  | .hbm, ⟨6, _⟩ => ⟨S3, .i1⟩
  | .hbm, ⟨7, _⟩ => ⟨S_, .i32⟩
  | .hbm, ⟨8, _⟩ => ⟨S3, .i32⟩
  | .hbm, ⟨9, _⟩ => ⟨S3, .i1⟩
  | .hbm, ⟨10, _⟩ => ⟨S_, .i32⟩
  | .hbm, ⟨11, _⟩ => ⟨S_, .i32⟩
  | .hbm, ⟨12, _⟩ => ⟨S3, .i32⟩
  | .hbm, ⟨13, _⟩ => ⟨S3, .i32⟩
  | .hbm, ⟨14, _⟩ => ⟨S3, .i32⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S3, .i32⟩
  | .hbm, ⟨19, _⟩ => ⟨S_, .i32⟩
  | .hbm, ⟨20, _⟩ => ⟨S3, .i32⟩
  | .hbm, ⟨21, _⟩ => ⟨S3, .i1⟩
  | .hbm, ⟨22, _⟩ => ⟨S_, .i32⟩
  | .hbm, ⟨23, _⟩ => ⟨S3, .i32⟩
  | .hbm, ⟨24, _⟩ => ⟨S3, .i1⟩
  | .hbm, ⟨25, _⟩ => ⟨S_, .i32⟩
  | .hbm, ⟨26, _⟩ => ⟨S_, .i32⟩
  | .hbm, ⟨27, _⟩ => ⟨S3, .i32⟩
  | .hbm, ⟨28, _⟩ => ⟨S3, .i32⟩
  | .hbm, ⟨29, _⟩ => ⟨S3, .i32⟩
  | .hbm, ⟨30, _⟩ => ⟨S_, .i32⟩
  | .hbm, ⟨31, _⟩ => ⟨S3, .i32⟩
  | .hbm, ⟨32, _⟩ => ⟨S3, .i32⟩
  | .hbm, ⟨33, _⟩ => ⟨S3, .i32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S3x2x224x4, .f32⟩
  | .local _ .vmem, ⟨0, _⟩ => ⟨S1x2x224x4, .f32⟩
  | .local _ .vmem, ⟨1, _⟩ => ⟨S1x2x224x4, .f32⟩
  | .local _ .vmem, ⟨2, _⟩ => ⟨S1x2x224x4, .f32⟩
  | .local _ .vmem, ⟨3, _⟩ => ⟨S1x2x224x4, .f32⟩
  | .local _ .smem, ⟨0, _⟩ => ⟨S3, .i32⟩
  | .local _ .smem, ⟨1, _⟩ => ⟨S3, .i32⟩
  | .local _ .smem, ⟨2, _⟩ => ⟨S3, .i32⟩
  | .local _ .smem, ⟨3, _⟩ => ⟨S3, .i32⟩
  | .local _ .smem, ⟨4, _⟩ => ⟨S1, .f32⟩
  | _, _ => ⟨S3x2x224x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_c_3 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_c_4 : Ref sig .tc := ⟨.hbm, 19, rfl⟩
abbrev main_v7 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_c_6 : Ref sig .tc := ⟨.hbm, 25, rfl⟩
abbrev main_c_7 : Ref sig .tc := ⟨.hbm, 26, rfl⟩
abbrev main_call2_v0 : Ref sig .tc := ⟨.hbm, 27, rfl⟩
abbrev main_call2_v1 : Ref sig .tc := ⟨.hbm, 28, rfl⟩
abbrev main_v11 : Ref sig .tc := ⟨.hbm, 29, rfl⟩
abbrev main_c_8 : Ref sig .tc := ⟨.hbm, 30, rfl⟩
abbrev main_call3_v0 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![3], ![false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v11 : Index := Scalar.indexCast arg0
  ![v11.toNat]
def k0_off3 (i : grid0.Coords) : Fin 1 → Nat :=
  let arg0 : BitVec 32 := BitVec.ofNat 32 (i 0).val
  let v22 : Index := Scalar.indexCast arg0
  ![v22.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S3 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S3 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x224x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x224x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceDrawnIdeal.lean ====
abbrev S3x2x224x4 : Shape := ⟨4, ![3, 2, 224, 4]⟩
abbrev S3 : Shape := ⟨1, ![3]⟩
abbrev S_ : Shape := ⟨0, ![]⟩
abbrev S3x1x1x1 : Shape := ⟨4, ![3, 1, 1, 1]⟩

abbrev nBuf : Space → Nat
  | .hbm => 224
  | .vmem => 0
  | .smem => 0
  | _ => 0

abbrev hbmTy0_0 (i : Nat) : BufTy := match i % 128 with
  | 0 => ⟨S3x2x224x4, .f32⟩
  | 1 => ⟨S3, .i32⟩
  | 2 => ⟨S3, .i32⟩
  | 3 => ⟨S_, .f32⟩
  | 4 => ⟨S_, .i32⟩
  | 5 => ⟨S3, .i32⟩
  | 6 => ⟨S3, .i1⟩
  | 7 => ⟨S3x1x1x1, .i1⟩
  | 8 => ⟨S3x2x224x4, .i1⟩
  | 9 => ⟨S3x2x224x4, .f32⟩
  | 10 => ⟨S_, .i32⟩
  | 11 => ⟨S3, .i32⟩
  | 12 => ⟨S3, .i1⟩
  | 13 => ⟨S3x1x1x1, .i1⟩
  | 14 => ⟨S3x2x224x4, .f32⟩
  | 15 => ⟨S3x2x224x4, .i1⟩
  | 16 => ⟨S3x2x224x4, .f32⟩
  | 17 => ⟨S_, .i32⟩
  | 18 => ⟨S3, .i32⟩
  | 19 => ⟨S3, .i1⟩
  | 20 => ⟨S3x1x1x1, .i1⟩
  | 21 => ⟨S3x2x224x4, .f32⟩
  | 22 => ⟨S3x2x224x4, .i1⟩
  | 23 => ⟨S3x2x224x4, .f32⟩
  | 24 => ⟨S_, .i32⟩
  | 25 => ⟨S3, .i32⟩
  | 26 => ⟨S3, .i1⟩
  | 27 => ⟨S3x1x1x1, .i1⟩
  | 28 => ⟨S_, .f32⟩
  | 29 => ⟨S_, .f32⟩
  | 30 => ⟨S_, .f32⟩
  | 31 => ⟨S_, .f32⟩
  | 32 => ⟨S3x2x224x4, .f32⟩
  | 33 => ⟨S3x2x224x4, .f32⟩
  | 34 => ⟨S_, .f32⟩
  | 35 => ⟨S_, .f32⟩
  | 36 => ⟨S_, .f32⟩
  | 37 => ⟨S3x2x224x4, .f32⟩
  | 38 => ⟨S3x2x224x4, .f32⟩
  | 39 => ⟨S_, .f32⟩
  | 40 => ⟨S3x2x224x4, .f32⟩
  | 41 => ⟨S3x2x224x4, .f32⟩
  | 42 => ⟨S3x2x224x4, .i1⟩
  | 43 => ⟨S3x2x224x4, .f32⟩
  | 44 => ⟨S_, .i32⟩
  | 45 => ⟨S3, .i32⟩
  | 46 => ⟨S3, .i1⟩
  | 47 => ⟨S3x1x1x1, .i1⟩
  | 48 => ⟨S_, .f32⟩
  | 49 => ⟨S3, .f32⟩
  | 50 => ⟨S3x1x1x1, .f32⟩
  | 51 => ⟨S_, .f32⟩
  | 52 => ⟨S3x1x1x1, .f32⟩
  | 53 => ⟨S3x1x1x1, .f32⟩
  | 54 => ⟨S3x2x224x4, .f32⟩
  | 55 => ⟨S3x2x224x4, .f32⟩
  | 56 => ⟨S_, .f32⟩
  | 57 => ⟨S_, .f32⟩
  | 58 => ⟨S_, .f32⟩
  | 59 => ⟨S_, .f32⟩
  | 60 => ⟨S3x2x224x4, .f32⟩
  | 61 => ⟨S3x2x224x4, .f32⟩
  | 62 => ⟨S3x2x224x4, .f32⟩
  | 63 => ⟨S3x2x224x4, .f32⟩
  | 64 => ⟨S_, .f32⟩
  | 65 => ⟨S_, .f32⟩
  | 66 => ⟨S_, .f32⟩
  | 67 => ⟨S3x2x224x4, .f32⟩
  | 68 => ⟨S3x2x224x4, .f32⟩
  | 69 => ⟨S_, .f32⟩
  | 70 => ⟨S3x2x224x4, .f32⟩
  | 71 => ⟨S3x2x224x4, .f32⟩
  | 72 => ⟨S3x2x224x4, .i1⟩
  | 73 => ⟨S3x2x224x4, .f32⟩
  | 74 => ⟨S_, .i32⟩
  | 75 => ⟨S3, .i32⟩
  | 76 => ⟨S3, .i1⟩
  | 77 => ⟨S3x1x1x1, .i1⟩
  | 78 => ⟨S_, .f32⟩
  | 79 => ⟨S3x2x224x4, .f32⟩
  | 80 => ⟨S3x2x224x4, .f32⟩
  | 81 => ⟨S3x2x224x4, .i1⟩
  | 82 => ⟨S3x2x224x4, .f32⟩
  | 83 => ⟨S_, .i32⟩
  | 84 => ⟨S3, .i32⟩
  | 85 => ⟨S3, .i1⟩
  | 86 => ⟨S3x1x1x1, .i1⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S3x2x224x4, .f32⟩
  | 94 => ⟨S3x2x224x4, .i1⟩
  | 95 => ⟨S_, .f32⟩
  | 96 => ⟨S3x2x224x4, .f32⟩
  | 97 => ⟨S3x2x224x4, .f32⟩
  | 98 => ⟨S3x2x224x4, .f32⟩
  | 99 => ⟨S3x2x224x4, .i1⟩
  | 100 => ⟨S3x2x224x4, .f32⟩
  | 101 => ⟨S_, .i32⟩
  | 102 => ⟨S3, .i32⟩
  | 103 => ⟨S3, .i1⟩
  | 104 => ⟨S3x1x1x1, .i1⟩
  | 105 => ⟨S_, .f32⟩
  | 106 => ⟨S_, .f32⟩
  | 107 => ⟨S_, .f32⟩
  | 108 => ⟨S_, .f32⟩
  | 109 => ⟨S3x2x224x4, .f32⟩
  | 110 => ⟨S3x2x224x4, .f32⟩
  | 111 => ⟨S3x2x224x4, .f32⟩
  | 112 => ⟨S3x2x224x4, .i1⟩
  | 113 => ⟨S3x2x224x4, .f32⟩
  | 114 => ⟨S_, .i32⟩
  | 115 => ⟨S3, .i32⟩
  | 116 => ⟨S3, .i1⟩
  | 117 => ⟨S3x1x1x1, .i1⟩
  | 118 => ⟨S3x2x224x4, .i1⟩
  | 119 => ⟨S3x2x224x4, .f32⟩
  | 120 => ⟨S_, .i32⟩
  | 121 => ⟨S3, .i32⟩
  | 122 => ⟨S3, .i1⟩
  | 123 => ⟨S3x1x1x1, .i1⟩
  | 124 => ⟨S3x2x224x4, .f32⟩
  | 125 => ⟨S3x2x224x4, .i1⟩
  | 126 => ⟨S3x2x224x4, .f32⟩
  | 127 => ⟨S_, .i32⟩
  | _ => ⟨S3x2x224x4, .f32⟩

abbrev hbmTy0_1 (i : Nat) : BufTy := match i % 128 with
  | 0 => ⟨S3, .i32⟩
  | 1 => ⟨S3, .i1⟩
  | 2 => ⟨S3x1x1x1, .i1⟩
  | 3 => ⟨S3x2x224x4, .f32⟩
  | 4 => ⟨S3x2x224x4, .i1⟩
  | 5 => ⟨S3x2x224x4, .f32⟩
  | 6 => ⟨S_, .i32⟩
  | 7 => ⟨S3, .i32⟩
  | 8 => ⟨S3, .i1⟩
  | 9 => ⟨S3x1x1x1, .i1⟩
  | 10 => ⟨S_, .f32⟩
  | 11 => ⟨S_, .f32⟩
  | 12 => ⟨S_, .f32⟩
  | 13 => ⟨S_, .f32⟩
  | 14 => ⟨S3x2x224x4, .f32⟩
  | 15 => ⟨S3x2x224x4, .f32⟩
  | 16 => ⟨S_, .f32⟩
  | 17 => ⟨S_, .f32⟩
  | 18 => ⟨S_, .f32⟩
  | 19 => ⟨S3x2x224x4, .f32⟩
  | 20 => ⟨S3x2x224x4, .f32⟩
  | 21 => ⟨S_, .f32⟩
  | 22 => ⟨S3x2x224x4, .f32⟩
  | 23 => ⟨S3x2x224x4, .f32⟩
  | 24 => ⟨S3x2x224x4, .i1⟩
  | 25 => ⟨S3x2x224x4, .f32⟩
  | 26 => ⟨S_, .i32⟩
  | 27 => ⟨S3, .i32⟩
  | 28 => ⟨S3, .i1⟩
  | 29 => ⟨S3x1x1x1, .i1⟩
  | 30 => ⟨S_, .f32⟩
  | 31 => ⟨S3, .f32⟩
  | 32 => ⟨S3x1x1x1, .f32⟩
  | 33 => ⟨S_, .f32⟩
  | 34 => ⟨S3x1x1x1, .f32⟩
  | 35 => ⟨S3x1x1x1, .f32⟩
  | 36 => ⟨S3x2x224x4, .f32⟩
  | 37 => ⟨S3x2x224x4, .f32⟩
  | 38 => ⟨S_, .f32⟩
  | 39 => ⟨S_, .f32⟩
  | 40 => ⟨S_, .f32⟩
  | 41 => ⟨S_, .f32⟩
  | 42 => ⟨S3x2x224x4, .f32⟩
  | 43 => ⟨S3x2x224x4, .f32⟩
  | 44 => ⟨S3x2x224x4, .f32⟩
  | 45 => ⟨S3x2x224x4, .f32⟩
  | 46 => ⟨S_, .f32⟩
  | 47 => ⟨S_, .f32⟩
  | 48 => ⟨S_, .f32⟩
  | 49 => ⟨S3x2x224x4, .f32⟩
  | 50 => ⟨S3x2x224x4, .f32⟩
  | 51 => ⟨S_, .f32⟩
  | 52 => ⟨S3x2x224x4, .f32⟩
  | 53 => ⟨S3x2x224x4, .f32⟩
  | 54 => ⟨S3x2x224x4, .i1⟩
  | 55 => ⟨S3x2x224x4, .f32⟩
  | 56 => ⟨S_, .i32⟩
  | 57 => ⟨S3, .i32⟩
  | 58 => ⟨S3, .i1⟩
  | 59 => ⟨S3x1x1x1, .i1⟩
  | 60 => ⟨S_, .f32⟩
  | 61 => ⟨S3x2x224x4, .f32⟩
  | 62 => ⟨S3x2x224x4, .f32⟩
  | 63 => ⟨S3x2x224x4, .i1⟩
  | 64 => ⟨S3x2x224x4, .f32⟩
  | 65 => ⟨S_, .i32⟩
  | 66 => ⟨S3, .i32⟩
  | 67 => ⟨S3, .i1⟩
  | 68 => ⟨S3x1x1x1, .i1⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S3x2x224x4, .f32⟩
  | 76 => ⟨S3x2x224x4, .i1⟩
  | 77 => ⟨S_, .f32⟩
  | 78 => ⟨S3x2x224x4, .f32⟩
  | 79 => ⟨S3x2x224x4, .f32⟩
  | 80 => ⟨S3x2x224x4, .f32⟩
  | 81 => ⟨S3x2x224x4, .i1⟩
  | 82 => ⟨S3x2x224x4, .f32⟩
  | 83 => ⟨S_, .i32⟩
  | 84 => ⟨S3, .i32⟩
  | 85 => ⟨S3, .i1⟩
  | 86 => ⟨S3x1x1x1, .i1⟩
  | 87 => ⟨S_, .f32⟩
  | 88 => ⟨S_, .f32⟩
  | 89 => ⟨S_, .f32⟩
  | 90 => ⟨S_, .f32⟩
  | 91 => ⟨S3x2x224x4, .f32⟩
  | 92 => ⟨S3x2x224x4, .f32⟩
  | 93 => ⟨S3x2x224x4, .f32⟩
  | 94 => ⟨S3x2x224x4, .i1⟩
  | 95 => ⟨S3x2x224x4, .f32⟩
  | _ => ⟨S3x2x224x4, .f32⟩

abbrev hbmTy (i : Nat) : BufTy := match i / 128 with
  | 0 => hbmTy0_0 i
  | 1 => hbmTy0_1 i
  | _ => ⟨S3x2x224x4, .f32⟩

abbrev bufTy : (tb : Table) → Fin (tcTables nBuf tb) → BufTy
  | .hbm, ⟨i, _⟩ => hbmTy i
  | _, _ => ⟨S3x2x224x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call2_v0 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call4_v0 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_cst_5 : Ref sig .tc := ⟨.hbm, 35, rfl⟩
abbrev main_call5_v0 : Ref sig .tc := ⟨.hbm, 36, rfl⟩
abbrev main_call5_v1 : Ref sig .tc := ⟨.hbm, 37, rfl⟩
abbrev main_call5_v2 : Ref sig .tc := ⟨.hbm, 38, rfl⟩
abbrev main_call5_v3 : Ref sig .tc := ⟨.hbm, 39, rfl⟩
abbrev main_call5_v4 : Ref sig .tc := ⟨.hbm, 40, rfl⟩
abbrev main_v21 : Ref sig .tc := ⟨.hbm, 41, rfl⟩
abbrev main_call6_v0 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_cst_8 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_cst_12 : Ref sig .tc := ⟨.hbm, 65, rfl⟩
abbrev main_call7_v0 : Ref sig .tc := ⟨.hbm, 66, rfl⟩
abbrev main_call7_v1 : Ref sig .tc := ⟨.hbm, 67, rfl⟩
abbrev main_call7_v2 : Ref sig .tc := ⟨.hbm, 68, rfl⟩
abbrev main_call7_v3 : Ref sig .tc := ⟨.hbm, 69, rfl⟩
abbrev main_call7_v4 : Ref sig .tc := ⟨.hbm, 70, rfl⟩
abbrev main_v38 : Ref sig .tc := ⟨.hbm, 71, rfl⟩
abbrev main_call8_v0 : Ref sig .tc := ⟨.hbm, 72, rfl⟩
abbrev main_v39 : Ref sig .tc := ⟨.hbm, 73, rfl⟩
abbrev main_c_13 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_14 : Ref sig .tc := ⟨.hbm, 78, rfl⟩
abbrev main_v43 : Ref sig .tc := ⟨.hbm, 79, rfl⟩
abbrev main_v44 : Ref sig .tc := ⟨.hbm, 80, rfl⟩
abbrev main_call9_v0 : Ref sig .tc := ⟨.hbm, 81, rfl⟩
abbrev main_v45 : Ref sig .tc := ⟨.hbm, 82, rfl⟩
abbrev main_c_15 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_16 : Ref sig .tc := ⟨.hbm, 87, rfl⟩
abbrev main_v49 : Ref sig .tc := ⟨.hbm, 88, rfl⟩
abbrev main_cst_17 : Ref sig .tc := ⟨.hbm, 89, rfl⟩
abbrev main_v50 : Ref sig .tc := ⟨.hbm, 90, rfl⟩
abbrev main_cst_18 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_19 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_call11_v0 : Ref sig .tc := ⟨.hbm, 99, rfl⟩
abbrev main_v57 : Ref sig .tc := ⟨.hbm, 100, rfl⟩
abbrev main_c_20 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_21 : Ref sig .tc := ⟨.hbm, 105, rfl⟩
abbrev main_v61 : Ref sig .tc := ⟨.hbm, 106, rfl⟩
abbrev main_cst_22 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call12_v0 : Ref sig .tc := ⟨.hbm, 112, rfl⟩
abbrev main_v66 : Ref sig .tc := ⟨.hbm, 113, rfl⟩
abbrev main_c_23 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_call13_v0 : Ref sig .tc := ⟨.hbm, 118, rfl⟩
abbrev main_v70 : Ref sig .tc := ⟨.hbm, 119, rfl⟩
abbrev main_c_24 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_call15_v0 : Ref sig .tc := ⟨.hbm, 125, rfl⟩
abbrev main_v75 : Ref sig .tc := ⟨.hbm, 126, rfl⟩
abbrev main_c_25 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_call17_v0 : Ref sig .tc := ⟨.hbm, 132, rfl⟩
abbrev main_v80 : Ref sig .tc := ⟨.hbm, 133, rfl⟩
abbrev main_c_26 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_27 : Ref sig .tc := ⟨.hbm, 138, rfl⟩
abbrev main_v84 : Ref sig .tc := ⟨.hbm, 139, rfl⟩
abbrev main_cst_28 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_29 : Ref sig .tc := ⟨.hbm, 144, rfl⟩
abbrev main_cst_30 : Ref sig .tc := ⟨.hbm, 145, rfl⟩
abbrev main_call18_v0 : Ref sig .tc := ⟨.hbm, 146, rfl⟩
abbrev main_call18_v1 : Ref sig .tc := ⟨.hbm, 147, rfl⟩
abbrev main_call18_v2 : Ref sig .tc := ⟨.hbm, 148, rfl⟩
abbrev main_call18_v3 : Ref sig .tc := ⟨.hbm, 149, rfl⟩
abbrev main_call18_v4 : Ref sig .tc := ⟨.hbm, 150, rfl⟩
abbrev main_v88 : Ref sig .tc := ⟨.hbm, 151, rfl⟩
abbrev main_call19_v0 : Ref sig .tc := ⟨.hbm, 152, rfl⟩
abbrev main_v89 : Ref sig .tc := ⟨.hbm, 153, rfl⟩
abbrev main_c_31 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_32 : Ref sig .tc := ⟨.hbm, 158, rfl⟩
abbrev main_v93 : Ref sig .tc := ⟨.hbm, 159, rfl⟩
abbrev main_v94 : Ref sig .tc := ⟨.hbm, 160, rfl⟩
abbrev main_cst_33 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_cst_34 : Ref sig .tc := ⟨.hbm, 166, rfl⟩
abbrev main_v99 : Ref sig .tc := ⟨.hbm, 167, rfl⟩
abbrev main_cst_35 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_36 : Ref sig .tc := ⟨.hbm, 174, rfl⟩
abbrev main_cst_37 : Ref sig .tc := ⟨.hbm, 175, rfl⟩
abbrev main_call20_v0 : Ref sig .tc := ⟨.hbm, 176, rfl⟩
abbrev main_call20_v1 : Ref sig .tc := ⟨.hbm, 177, rfl⟩
abbrev main_call20_v2 : Ref sig .tc := ⟨.hbm, 178, rfl⟩
abbrev main_call20_v3 : Ref sig .tc := ⟨.hbm, 179, rfl⟩
abbrev main_call20_v4 : Ref sig .tc := ⟨.hbm, 180, rfl⟩
abbrev main_v105 : Ref sig .tc := ⟨.hbm, 181, rfl⟩
abbrev main_call21_v0 : Ref sig .tc := ⟨.hbm, 182, rfl⟩
abbrev main_v106 : Ref sig .tc := ⟨.hbm, 183, rfl⟩
abbrev main_c_38 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_cst_39 : Ref sig .tc := ⟨.hbm, 188, rfl⟩
abbrev main_v110 : Ref sig .tc := ⟨.hbm, 189, rfl⟩
abbrev main_v111 : Ref sig .tc := ⟨.hbm, 190, rfl⟩
abbrev main_call22_v0 : Ref sig .tc := ⟨.hbm, 191, rfl⟩
abbrev main_v112 : Ref sig .tc := ⟨.hbm, 192, rfl⟩
abbrev main_c_40 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_cst_41 : Ref sig .tc := ⟨.hbm, 197, rfl⟩
abbrev main_v116 : Ref sig .tc := ⟨.hbm, 198, rfl⟩
abbrev main_cst_42 : Ref sig .tc := ⟨.hbm, 199, rfl⟩
abbrev main_v117 : Ref sig .tc := ⟨.hbm, 200, rfl⟩
abbrev main_cst_43 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_cst_44 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_call24_v0 : Ref sig .tc := ⟨.hbm, 209, rfl⟩
abbrev main_v124 : Ref sig .tc := ⟨.hbm, 210, rfl⟩
abbrev main_c_45 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_cst_46 : Ref sig .tc := ⟨.hbm, 215, rfl⟩
abbrev main_v128 : Ref sig .tc := ⟨.hbm, 216, rfl⟩
abbrev main_cst_47 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_call25_v0 : Ref sig .tc := ⟨.hbm, 222, rfl⟩
abbrev main_v133 : Ref sig .tc := ⟨.hbm, 223, rfl⟩

abbrev nD : Nat := 1
abbrev τ : Topo := Topo.v7x

variable {F : FTy → Type} [FloatOps F]
-- ==== Proof.Body.lean ====
module
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit.Basic
public import Idealize.ShloMosaic.Lib.Claim
/-! The kernel's body, its run and its frame, at any interpretation of the floating-point types.

The body is cut into stages, each a program that takes what follows it as an argument: the branch that the first draw
selects, the horizontal flip, the vertical flip, and the three again for the second draw. Each stage has one rule, so the
eight branches of one draw are never multiplied by those of the other. -/

@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The whole block of one image. -/
abbrev rX : Rect S1x3x224x224 := Rect.unit (s := S1x3x224x224) ![0, 0, 0, 0] S1x3x224x224.size inb_S1x3x224x224_S1x3x224x224_0_0_0_0

/-- One branch of the body: read an image, write its transform over the output block, go on. -/
def put (src dst : Memref sig .tc .vmem S1x3x224x224 .f32) (pay : Vec F S1x3x224x224 .f32 → FVec F S1x3x224x224 .f32)
    (k : Prog (TpuEff nD τ sig (Elt F) Λ₀ .tc) PUnit) : Prog (TpuEff nD τ sig (Elt F) Λ₀ .tc) PUnit := do
  let v : Vec F S1x3x224x224 .f32 ← Prog.lift (.load src rX.toLoadRect (View.loadsAt_vmem h_S1x3x224x224))
  let _w : Vec F S1x3x224x224 .f32 ← Prog.lift (.load dst rX.toLoadRect (View.loadsAt_vmem h_S1x3x224x224))
  Prog.lift (.store dst rX (pay v) Finset.univ (View.stores_vmem_bits_univ h_S1x3x224x224 rfl) (.inl rfl))
  k

theorem coverX (p : Vec F S1x3x224x224 .f32) (y : S1x3x224x224.Idx) :
    ∃ pc ∈ ([⟨rX, p⟩] : List (View.Piece (Elt F) S1x3x224x224 .f32)), y ∈ pc.1.set :=
  View.cover_of_tiled [⟨rX, p⟩] S1x3x224x224.size (by rfl) y

theorem put_self (c : Dev nD) (E : Set ℕ) (a : Memref sig .tc .vmem S1x3x224x224 .f32)
    (pay : Vec F S1x3x224x224 .f32 → FVec F S1x3x224x224 .f32) (y : Vec F S1x3x224x224 .f32)
    (k : Prog (TpuEff nD τ sig (Elt F) Λ₀ .tc) PUnit) (K : PUnit → sProp 𝕄) :
    iprop(owns (c : Thread nD τ) a fullShare y ∗ (owns (c : Thread nD τ) a fullShare (pay y) -∗ wp frame (wpE (defs₀ (F := F)) Variants.none c none) E k K))
      ⊢ wp frame (wpE (defs₀ (F := F)) Variants.none c none) E (put a a pay k) K := by
  unfold put
  unfold owns
  iintro ⟨⟨%f, %hf, H⟩, Hk⟩
  subst hf
  sl_exec
  iapply Hk
  iexists _
  isplitr
  swap
  · iexact H
  ipureintro
  rw [View.read_writes_eq_canon _ _ _ (coverX _), View.readAt_eq_ld, View.ld_unit_lit _ _ (by decide)]
  exact View.canon_cons_unit_lit _ _ _ (by decide)

theorem put_new (c : Dev nD) (E : Set ℕ) (a b : Memref sig .tc .vmem S1x3x224x224 .f32)
    (pay : Vec F S1x3x224x224 .f32 → FVec F S1x3x224x224 .f32) (x : Vec F S1x3x224x224 .f32)
    (k : Prog (TpuEff nD τ sig (Elt F) Λ₀ .tc) PUnit) (K : PUnit → sProp 𝕄) :
    iprop(owns (c : Thread nD τ) a fullShare x ∗ (∃ d, owns (c : Thread nD τ) b fullShare d)
        ∗ (iprop(owns (c : Thread nD τ) a fullShare x ∗ owns (c : Thread nD τ) b fullShare (pay x)) -∗ wp frame (wpE (defs₀ (F := F)) Variants.none c none) E k K))
      ⊢ wp frame (wpE (defs₀ (F := F)) Variants.none c none) E (put a b pay k) K := by
  unfold put
  unfold owns
  iintro ⟨⟨%f, %hf, H⟩, ⟨%d, %g, -, G⟩, Hk⟩
  subst hf
  sl_exec
  iapply Hk
  isplitl [H]
  · iexists f
    isplitr
    · ipureintro; rfl
    iexact H
  iexists _
  isplitr
  swap
  · iexact G
  ipureintro
  rw [View.read_writes_eq_canon _ _ _ (coverX _), View.readAt_eq_ld, View.ld_unit_lit _ _ (by decide)]
  exact View.canon_cons_unit_lit _ _ _ (by decide)

/-! ## The body's stages, each with what follows it as an argument -/

/-- The one of eight alternatives that the draw `v`, clamped to 0 … 7, selects. -/
def pick {α : Type _} (v : BitVec 32) (a0 a1 a2 a3 a4 a5 a6 a7 : α) : α :=
  let v5 : BitVec 32 := Scalar.maxsi v 0#32
  let v6 : BitVec 32 := Scalar.minsi v5 7#32
  if Scalar.cmpi .ne v6 0#32 = 1#1 then
    let w1 : BitVec 32 := Scalar.subi v6 1#32
    if Scalar.cmpi .ne w1 0#32 = 1#1 then
      let w2 : BitVec 32 := Scalar.subi w1 1#32
      if Scalar.cmpi .ne w2 0#32 = 1#1 then
        let w3 : BitVec 32 := Scalar.subi w2 1#32
        if Scalar.cmpi .ne w3 0#32 = 1#1 then
          let w4 : BitVec 32 := Scalar.subi w3 1#32
          if Scalar.cmpi .ne w4 0#32 = 1#1 then
            let w5 : BitVec 32 := Scalar.subi w4 1#32
            if Scalar.cmpi .ne w5 0#32 = 1#1 then
              let w6 : BitVec 32 := Scalar.subi w5 1#32
              if Scalar.cmpi .ne w6 0#32 = 1#1 then
                a7
              else a6
            else a5
          else a4
        else a3
      else a2
    else a1
  else a0

/-- The first transformation: the branch that the first draw `v1` selects, from the input block. -/
def first (v1 : Elt F .i32) (v4 : Elt F .f32) (a b : Memref sig .tc .vmem S1x3x224x224 .f32) (k : Prog (TpuEff nD τ sig (Elt F) Λ₀ .tc) PUnit) : Prog (TpuEff nD τ sig (Elt F) Λ₀ .tc) PUnit :=
  pick v1 (put a b k0_pay8 k) (put a b k0_pay7 k) (put a b k0_pay6 k) (put a b (k0_pay5 v4) k) (put a b (k0_pay4 v4) k) (put a b k0_pay3 k) (put a b (k0_pay2 v4) k) (put a b (k0_pay1 v4) k)

/-- What it leaves of the image `x`. -/
def firstOf (v1 : Elt F .i32) (v4 : Elt F .f32) (x : Vec F S1x3x224x224 .f32) : Vec F S1x3x224x224 .f32 :=
  pick v1 (k0_pay8 x) (k0_pay7 x) (k0_pay6 x) (k0_pay5 v4 x) (k0_pay4 v4 x) (k0_pay3 x) (k0_pay2 v4 x) (k0_pay1 v4 x)

/-- The second transformation, in place. -/
def second (v3 : Elt F .i32) (v4 : Elt F .f32) (b : Memref sig .tc .vmem S1x3x224x224 .f32) (k : Prog (TpuEff nD τ sig (Elt F) Λ₀ .tc) PUnit) : Prog (TpuEff nD τ sig (Elt F) Λ₀ .tc) PUnit :=
  pick v3 k k k (put b b (k0_pay15 v4) k) (put b b (k0_pay14 v4) k) (put b b k0_pay13 k) (put b b (k0_pay12 v4) k) (put b b (k0_pay11 v4) k)

/-- What it leaves of the image `x`. -/
def secondOf (v3 : Elt F .i32) (v4 : Elt F .f32) (x : Vec F S1x3x224x224 .f32) : Vec F S1x3x224x224 .f32 :=
  pick v3 x x x (k0_pay15 v4 x) (k0_pay14 v4 x) (k0_pay13 x) (k0_pay12 v4 x) (k0_pay11 v4 x)

/-- A step in place that is taken where the bit `t` says so. -/
def maybe (t : BitVec 1) (b : Memref sig .tc .vmem S1x3x224x224 .f32) (pay : Vec F S1x3x224x224 .f32 → FVec F S1x3x224x224 .f32) (k : Prog (TpuEff nD τ sig (Elt F) Λ₀ .tc) PUnit) : Prog (TpuEff nD τ sig (Elt F) Λ₀ .tc) PUnit :=
  if Scalar.cmpi .ne (Scalar.extui t) 0#32 = 1#1 then put b b pay k else k

/-- What it leaves of the image `x`. -/
def maybeOf (t : BitVec 1) (pay : Vec F S1x3x224x224 .f32 → FVec F S1x3x224x224 .f32) (x : Vec F S1x3x224x224 .f32) : Vec F S1x3x224x224 .f32 :=
  if Scalar.cmpi .ne (Scalar.extui t) 0#32 = 1#1 then pay x else x

theorem stay (P Q : sProp 𝕄) : iprop(P ∗ (P -∗ Q)) ⊢ Q := by
  iintro ⟨H, Hk⟩
  iapply Hk
  iexact H

/-- From the image `x` in `a`, the program `p` goes on to `k` with `y` in `b`. -/
def Fills (c : Dev nD) (E : Set ℕ) (a b : Memref sig .tc .vmem S1x3x224x224 .f32) (x : Vec F S1x3x224x224 .f32) (k : Prog (TpuEff nD τ sig (Elt F) Λ₀ .tc) PUnit) (K : PUnit → sProp 𝕄) (p : Prog (TpuEff nD τ sig (Elt F) Λ₀ .tc) PUnit) (y : Vec F S1x3x224x224 .f32) : Prop :=
  iprop(owns (c : Thread nD τ) a fullShare x ∗ (∃ d, owns (c : Thread nD τ) b fullShare d)
        ∗ (iprop(owns (c : Thread nD τ) a fullShare x ∗ owns (c : Thread nD τ) b fullShare y) -∗ wp frame (wpE (defs₀ (F := F)) Variants.none c none) E k K))
      ⊢ wp frame (wpE (defs₀ (F := F)) Variants.none c none) E p K

theorem pick_rel {α β : Type _} (R : α → β → Prop) (v : BitVec 32) {a0 a1 a2 a3 a4 a5 a6 a7 : α} {b0 b1 b2 b3 b4 b5 b6 b7 : β}
    (h0 : R a0 b0) (h1 : R a1 b1) (h2 : R a2 b2) (h3 : R a3 b3) (h4 : R a4 b4) (h5 : R a5 b5) (h6 : R a6 b6) (h7 : R a7 b7) :
    R (pick v a0 a1 a2 a3 a4 a5 a6 a7) (pick v b0 b1 b2 b3 b4 b5 b6 b7) := by
  have ite {t : Prop} [Decidable t] {p q : α} {y z : β} (h : R p y) (h' : R q z) : R (if t then p else q) (if t then y else z) := by
    split
    · exact h
    · exact h'
  unfold pick
  exact ite (ite (ite (ite (ite (ite (ite (h7) (h6)) (h5)) (h4)) (h3)) (h2)) (h1)) (h0)

theorem first_sound (c : Dev nD) (E : Set ℕ) (v1 : Elt F .i32) (v4 : Elt F .f32) (a b : Memref sig .tc .vmem S1x3x224x224 .f32) (x : Vec F S1x3x224x224 .f32) (k : Prog (TpuEff nD τ sig (Elt F) Λ₀ .tc) PUnit) (K : PUnit → sProp 𝕄) :
    Fills c E a b x k K (first v1 v4 a b k) (firstOf v1 v4 x) := by
  unfold first firstOf
  exact pick_rel (Fills c E a b x k K) v1 (put_new c E a b k0_pay8 x k K) (put_new c E a b k0_pay7 x k K) (put_new c E a b k0_pay6 x k K) (put_new c E a b (k0_pay5 v4) x k K) (put_new c E a b (k0_pay4 v4) x k K) (put_new c E a b k0_pay3 x k K) (put_new c E a b (k0_pay2 v4) x k K) (put_new c E a b (k0_pay1 v4) x k K)

/-- From the image `x` in `b`, the program `p` goes on to `k` with `y` there. -/
def Turns (c : Dev nD) (E : Set ℕ) (b : Memref sig .tc .vmem S1x3x224x224 .f32) (x : Vec F S1x3x224x224 .f32) (k : Prog (TpuEff nD τ sig (Elt F) Λ₀ .tc) PUnit) (K : PUnit → sProp 𝕄) (p : Prog (TpuEff nD τ sig (Elt F) Λ₀ .tc) PUnit) (y : Vec F S1x3x224x224 .f32) : Prop :=
  iprop(owns (c : Thread nD τ) b fullShare x ∗ (owns (c : Thread nD τ) b fullShare y -∗ wp frame (wpE (defs₀ (F := F)) Variants.none c none) E k K))
      ⊢ wp frame (wpE (defs₀ (F := F)) Variants.none c none) E p K

theorem second_sound (c : Dev nD) (E : Set ℕ) (v3 : Elt F .i32) (v4 : Elt F .f32) (b : Memref sig .tc .vmem S1x3x224x224 .f32) (x : Vec F S1x3x224x224 .f32) (k : Prog (TpuEff nD τ sig (Elt F) Λ₀ .tc) PUnit) (K : PUnit → sProp 𝕄) :
    Turns c E b x k K (second v3 v4 b k) (secondOf v3 v4 x) := by
  unfold second secondOf
  exact pick_rel (Turns c E b x k K) v3 (stay _ _) (stay _ _) (stay _ _) (put_self c E b (k0_pay15 v4) x k K) (put_self c E b (k0_pay14 v4) x k K) (put_self c E b k0_pay13 x k K) (put_self c E b (k0_pay12 v4) x k K) (put_self c E b (k0_pay11 v4) x k K)

theorem maybe_sound (c : Dev nD) (E : Set ℕ) (t : BitVec 1) (b : Memref sig .tc .vmem S1x3x224x224 .f32) (pay : Vec F S1x3x224x224 .f32 → FVec F S1x3x224x224 .f32) (x : Vec F S1x3x224x224 .f32) (k : Prog (TpuEff nD τ sig (Elt F) Λ₀ .tc) PUnit) (K : PUnit → sProp 𝕄) :
    iprop(owns (c : Thread nD τ) b fullShare x ∗ (owns (c : Thread nD τ) b fullShare (maybeOf t pay x) -∗ wp frame (wpE (defs₀ (F := F)) Variants.none c none) E k K))
      ⊢ wp frame (wpE (defs₀ (F := F)) Variants.none c none) E (maybe t b pay k) K := by
  unfold maybe maybeOf
  split_ifs <;> first
    | exact put_self c E b _ x k K
    | exact stay _ _

section stagesSection
variable (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S128 .i32) (harg4 : arg4.IsWhole) (arg5 : Memref sig .tc .smem S1 .f32) (harg5 : arg5.IsWhole) (arg6 : Memref sig .tc .vmem S1x3x224x224 .f32) (harg6 : arg6.IsWhole) (arg7 : Memref sig .tc .vmem S1x3x224x224 .f32) (harg7 : arg7.IsWhole)

/-- The body as its stages. -/
def stages : Prog (TpuEff nD τ sig (Elt F) Λ₀ .tc) PUnit := do
  let v1 : Elt F .i32 ← smemLoad arg1 (Rect.unit (s := S128) (k0_off1 i) S1.size (k0_off1_inb i)) numel1_S1 rfl
  let v3 : Elt F .i32 ← smemLoad arg2 (Rect.unit (s := S128) (k0_off1 i) S1.size (k0_off1_inb i)) numel1_S1 rfl
  let v4 : Elt F .f32 ← smemLoad arg5 (Rect.unit (s := S1) ![0] S1.size inb_S1_S1_0) numel1_S1 rfl
  first v1 v4 arg6 arg7 <| maybe (Scalar.cmpi .eq v1 1#32) arg7 k0_pay9 <| do
    let v12 : Elt F .i32 ← smemLoad arg3 (Rect.unit (s := S128) (k0_off2 i) S1.size (k0_off2_inb i)) numel1_S1 rfl
    maybe (Scalar.cmpi .sgt v12 0#32) arg7 (k0_pay10 v12) <| second v3 v4 arg7 <| maybe (Scalar.cmpi .eq v3 1#32) arg7 k0_pay16 <| do
      let v23 : Elt F .i32 ← smemLoad arg4 (Rect.unit (s := S128) (k0_off3 i) S1.size (k0_off3_inb i)) numel1_S1 rfl
      maybe (Scalar.cmpi .sgt v23 0#32) arg7 (k0_pay17 v23) <| pure ⟨⟩

set_option maxRecDepth 65536 in
set_option maxHeartbeats 4000000 in
theorem skel_eq_stages : cc0__body_skel (F := F) i arg1 harg1 arg2 harg2 arg3 harg3 arg4 harg4 arg5 harg5 arg6 harg6 arg7 harg7
    = stages i arg1 arg2 arg3 arg4 arg5 arg6 arg7 := by
  rfl

/-! ## The words that the body reads, and what it leaves -/

/-- The word at the grid point of a table of words. -/
def wordAt (off : Fin S128.rank → Nat) (hoff : ∀ a, off a + S1.size a ≤ S128.size a) (x : Vec F S128 .i32) : Elt F .i32 :=
  View.ld x (Rect.unit (s := S128) off S1.size hoff) (Shape.Idx.first (numel1_S1.symm ▸ Nat.one_pos))
/-- The one word of the rate's memory. -/
def rateAt (x : Vec F S1 .f32) : Elt F .f32 :=
  View.ld x (Rect.unit (s := S1) ![0] S1.size inb_S1_S1_0) (Shape.Idx.first (numel1_S1.symm ▸ Nat.one_pos))

theorem word_sound (c : Dev nD) (E : Set ℕ) (a : Memref sig .tc .smem S128 .i32) (off : Fin S128.rank → Nat) (hoff : ∀ a, off a + S1.size a ≤ S128.size a)
    (x : Vec F S128 .i32) (k : Elt F .i32 → Prog (TpuEff nD τ sig (Elt F) Λ₀ .tc) PUnit) (K : PUnit → sProp 𝕄) :
    iprop(owns (c : Thread nD τ) a fullShare x ∗ (owns (c : Thread nD τ) a fullShare x -∗ wp frame (wpE (defs₀ (F := F)) Variants.none c none) E (k (wordAt (F := F) off hoff x)) K))
      ⊢ wp frame (wpE (defs₀ (F := F)) Variants.none c none) E (smemLoad a (Rect.unit (s := S128) off S1.size hoff) numel1_S1 rfl >>= k) K := by
  unfold owns
  iintro ⟨⟨%f, %hf, H⟩, Hk⟩
  subst hf
  sl_exec
  iapply Hk
  iexists f
  isplitr
  · ipureintro; rfl
  iexact H

theorem rate_sound (c : Dev nD) (E : Set ℕ) (a : Memref sig .tc .smem S1 .f32)
    (x : Vec F S1 .f32) (k : Elt F .f32 → Prog (TpuEff nD τ sig (Elt F) Λ₀ .tc) PUnit) (K : PUnit → sProp 𝕄) :
    iprop(owns (c : Thread nD τ) a fullShare x ∗ (owns (c : Thread nD τ) a fullShare x -∗ wp frame (wpE (defs₀ (F := F)) Variants.none c none) E (k (rateAt x)) K))
      ⊢ wp frame (wpE (defs₀ (F := F)) Variants.none c none) E (smemLoad a (Rect.unit (s := S1) ![0] S1.size inb_S1_S1_0) numel1_S1 rfl >>= k) K := by
  unfold owns
  iintro ⟨⟨%f, %hf, H⟩, Hk⟩
  subst hf
  sl_exec
  iapply Hk
  iexists f
  isplitr
  · ipureintro; rfl
  iexact H

/-- The output block at grid point `i`, from the tables of draws `x1`, `x2`, the tables of row counts `x3`, `x4`, the rate `x5`
    and the input block `x6`. -/
def outOf (x1 x2 x3 x4 : Vec F S128 .i32) (x5 : Vec F S1 .f32) (x6 : Vec F S1x3x224x224 .f32) : Vec F S1x3x224x224 .f32 :=
  maybeOf (Scalar.cmpi .sgt (wordAt (F := F) (k0_off3 i) (k0_off3_inb i) x4) 0#32) (k0_pay17 (wordAt (F := F) (k0_off3 i) (k0_off3_inb i) x4))
    (maybeOf (Scalar.cmpi .eq (wordAt (F := F) (k0_off1 i) (k0_off1_inb i) x2) 1#32) k0_pay16
      (secondOf (wordAt (F := F) (k0_off1 i) (k0_off1_inb i) x2) (rateAt x5)
        (maybeOf (Scalar.cmpi .sgt (wordAt (F := F) (k0_off2 i) (k0_off2_inb i) x3) 0#32) (k0_pay10 (wordAt (F := F) (k0_off2 i) (k0_off2_inb i) x3))
          (maybeOf (Scalar.cmpi .eq (wordAt (F := F) (k0_off1 i) (k0_off1_inb i) x1) 1#32) k0_pay9
            (firstOf (wordAt (F := F) (k0_off1 i) (k0_off1_inb i) x1) (rateAt x5) x6)))))

set_option maxHeartbeats 2000000 in
/-- The body on whole staging memrefs, the inputs' at read contents and the output's at anything, runs to the
    continuation that holds the inputs' as they were and the output's at `outOf` of them. -/
theorem sound_kernel (c : Dev nD) (E : Set ℕ) (x1 x2 x3 x4 : Vec F S128 .i32) (x5 : Vec F S1 .f32) (x6 : Vec F S1x3x224x224 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (outOf i x1 x2 x3 x4 x5 x6)) -∗ K ⟨⟩))
      ⊢ wp frame (wpE (defs₀ (F := F)) Variants.none c none) E (cc0__body i arg1 harg1 arg2 harg2 arg3 harg3 arg4 harg4 arg5 harg5 arg6 harg6 arg7 harg7) K := by
  rw [cc0__body_eq_skeleton, skel_eq_stages]
  unfold stages
  iintro ⟨H1, H2, H3, H4, H5, H6, H7, Hk⟩
  iapply (word_sound c E arg1 (k0_off1 i) (k0_off1_inb i) x1 _ K)
  isplitl [H1]
  · iexact H1
  iintro H1
  iapply (word_sound c E arg2 (k0_off1 i) (k0_off1_inb i) x2 _ K)
  isplitl [H2]
  · iexact H2
  iintro H2
  iapply (rate_sound c E arg5 x5 _ K)
  isplitl [H5]
  · iexact H5
  iintro H5
  iapply (show _ ⊢ _ from first_sound c E _ _ arg6 arg7 x6 _ K)
  isplitl [H6]
  · iexact H6
  isplitl [H7]
  · iexact H7
  iintro ⟨H6, H7⟩
  iapply (maybe_sound c E _ arg7 _ _ _ K)
  isplitl [H7]
  · iexact H7
  iintro H7
  iapply (word_sound c E arg3 (k0_off2 i) (k0_off2_inb i) x3 _ K)
  isplitl [H3]
  · iexact H3
  iintro H3
  iapply (maybe_sound c E _ arg7 _ _ _ K)
  isplitl [H7]
  · iexact H7
  iintro H7
  iapply (show _ ⊢ _ from second_sound c E _ _ arg7 _ _ K)
  isplitl [H7]
  · iexact H7
  iintro H7
  iapply (maybe_sound c E _ arg7 _ _ _ K)
  isplitl [H7]
  · iexact H7
  iintro H7
  iapply (word_sound c E arg4 (k0_off3 i) (k0_off3_inb i) x4 _ K)
  isplitl [H4]
  · iexact H4
  iintro H4
  iapply (maybe_sound c E _ arg7 _ _ _ K)
  isplitl [H7]
  · iexact H7
  iintro H7
  sl_step
  iapply Hk
  unfold outOf
  isplitl [H1]
  · iexact H1
  isplitl [H2]
  · iexact H2
  isplitl [H3]
  · iexact H3
  isplitl [H4]
  · iexact H4
  isplitl [H5]
  · iexact H5
  isplitl [H6]
  · iexact H6
  iexact H7

end stagesSection
variable (m : (ℓ : Loc nD τ sig) → Buf (Elt F) ℓ) (ρ : Dev nD → PrngReg)

/-! ## The pipeline's proof data -/

/-- The proof data on core `c`: the arrays as the region finds them; after the body at point `t` each input's buffer at
    its block and the output's at `outOf` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outOf (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outOf (grid0.coords t) (iblk m c 0 t) (iblk m c 1 t) (iblk m c 2 t) (iblk m c 3 t) (iblk m c 4 t) (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (grid0.coords t) _ _ _ _ _ _ _ _ _ _ _ _ _ _ c Set.univ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 4000000 in
/-- Every weakly fair execution of @main terminates, with the arrays at what the proof data say and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_main_quiescent m ρ))

end Cert.KernelIdeal.Gen
end
-- ==== Proof.RefLines.lean ====
module

public import proofs.«01_k».proof.Proof.Gen.ReferenceIdeal
public import Idealize.ShloMosaic.Lib.StableHlo.RunHlo
public import Idealize.ShloMosaic.Lib.Pipeline.Frame
public import Idealize.ShloMosaic.Lib.StableHlo.RunRead

/-! The functions the reference calls, each as a line of host operations. -/

@[expose] public section

set_option maxRecDepth 16384

noncomputable section

namespace Cert.ReferenceIdeal.Gen

open Cert.ReferenceIdeal Idealize.ShloMosaic Idealize.ShloMosaic.TcCoe Idealize.ShloMosaic.StableHlo Idealize.SL.Sem

variable {F : FTy → Type} [FloatOps F]

/-- Every operation of a line touches TensorCore references only and allocates nothing. -/
def Fine (l : List (HloOp τ sig (Elt F))) : Prop := ∀ op ∈ l, op.bufs ⊆ tcRefs τ sig ∧ op.fresh = ∅

theorem fine_nil : Fine (F := F) [] := fun _ h => nomatch h

theorem fine_cons {op : HloOp τ sig (Elt F)} {l : List (HloOp τ sig (Elt F))} (h : op.bufs ⊆ tcRefs τ sig) (hf : op.fresh = ∅)
    (hl : Fine l) : Fine (op :: l) := fun o ho => by
  rcases List.mem_cons.1 ho with rfl | ho
  · exact ⟨h, hf⟩
  · exact hl o ho

theorem fine_append {l l' : List (HloOp τ sig (Elt F))} (h : Fine l) (h' : Fine l') : Fine (l ++ l') := fun o ho =>
  (List.mem_append.1 ho).elim (h o) (h' o)

theorem isSeq_one {Λ : Labels} {op : HloOp τ sig (Elt F)} :
    IsSeq (nD := nD) (Λ := Λ) (hlo rfl op fun _ => .ret (⟨⟩ : PUnit)) [op] := rfl

theorem isSeq_of {Λ : Labels} {p : Prog (TpuEff nD τ sig (Elt F) Λ .tc) PUnit} {l l' : List (HloOp τ sig (Elt F))}
    (h : IsSeq p l) (e : l = l') : IsSeq p l' := e ▸ h

theorem isSeq_append {Λ : Labels} {p k : Prog (TpuEff nD τ sig (Elt F) Λ .tc) PUnit} {l l' : List (HloOp τ sig (Elt F))}
    (h : IsSeq p l) (h' : IsSeq k l') : IsSeq (p >>= fun _ => k) (l ++ l') := by
  unfold IsSeq at h h' ⊢
  rw [seq_append, h, h']

def fn_threefry2x32.run0 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.binary arg0 arg1 φ.v0 xori),
   (TRef.nullary φ.c (constantI S_ 32 466688986#32)),
   (TRef.binary φ.v0 φ.c φ.v1 xori),
   (TRef.unary arg0 φ.v2 (broadcastInDim S1 ![] bcast_S_S1)),
   (TRef.binary arg2 φ.v2 φ.v3 addi),
   (TRef.unary arg1 φ.v4 (broadcastInDim S1 ![] bcast_S_S1)),
   (TRef.binary arg3 φ.v4 φ.v5 addi),
   (TRef.binary φ.v3 φ.v5 φ.v6 addi),
   (TRef.nullary φ.c_0 (constantI S_ 32 13#32)),
   (TRef.unary φ.c_0 φ.v7 (broadcastInDim S1 ![] bcast_S_S1)),
   (TRef.binary φ.v5 φ.v7 φ.v8 Host.shli),
   (TRef.nullary φ.c_1 (constantI S_ 32 19#32)),
   (TRef.unary φ.c_1 φ.v9 (broadcastInDim S1 ![] bcast_S_S1)),
   (TRef.binary φ.v5 φ.v9 φ.v10 Host.shrui),
   (TRef.binary φ.v8 φ.v10 φ.v11 ori),
   (TRef.binary φ.v6 φ.v11 φ.v12 xori),
   (TRef.binary φ.v6 φ.v12 φ.v13 addi),
   (TRef.nullary φ.c_2 (constantI S_ 32 15#32)),
   (TRef.unary φ.c_2 φ.v14 (broadcastInDim S1 ![] bcast_S_S1)),
   (TRef.binary φ.v12 φ.v14 φ.v15 Host.shli),
   (TRef.nullary φ.c_3 (constantI S_ 32 17#32)),
   (TRef.unary φ.c_3 φ.v16 (broadcastInDim S1 ![] bcast_S_S1)),
   (TRef.binary φ.v12 φ.v16 φ.v17 Host.shrui),
   (TRef.binary φ.v15 φ.v17 φ.v18 ori)]

theorem fn_threefry2x32.run0_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run0 (F := F) arg0 arg1 arg2 arg3 φ) :=
  fine_cons (binary_bufs_sub ..) rfl <| fine_cons (nullary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_nil

def fn_threefry2x32.run1 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.binary φ.v13 φ.v18 φ.v19 xori),
   (TRef.binary φ.v13 φ.v19 φ.v20 addi),
   (TRef.nullary φ.c_4 (constantI S_ 32 26#32)),
   (TRef.unary φ.c_4 φ.v21 (broadcastInDim S1 ![] bcast_S_S1)),
   (TRef.binary φ.v19 φ.v21 φ.v22 Host.shli),
   (TRef.nullary φ.c_5 (constantI S_ 32 6#32)),
   (TRef.unary φ.c_5 φ.v23 (broadcastInDim S1 ![] bcast_S_S1)),
   (TRef.binary φ.v19 φ.v23 φ.v24 Host.shrui),
   (TRef.binary φ.v22 φ.v24 φ.v25 ori),
   (TRef.binary φ.v20 φ.v25 φ.v26 xori),
   (TRef.binary φ.v20 φ.v26 φ.v27 addi),
   (TRef.nullary φ.c_6 (constantI S_ 32 6#32)),
   (TRef.unary φ.c_6 φ.v28 (broadcastInDim S1 ![] bcast_S_S1)),
   (TRef.binary φ.v26 φ.v28 φ.v29 Host.shli),
   (TRef.nullary φ.c_7 (constantI S_ 32 26#32)),
   (TRef.unary φ.c_7 φ.v30 (broadcastInDim S1 ![] bcast_S_S1)),
   (TRef.binary φ.v26 φ.v30 φ.v31 Host.shrui),
   (TRef.binary φ.v29 φ.v31 φ.v32 ori),
   (TRef.binary φ.v27 φ.v32 φ.v33 xori),
   (TRef.unary arg1 φ.v34 (broadcastInDim S1 ![] bcast_S_S1)),
   (TRef.binary φ.v27 φ.v34 φ.v35 addi),
   (TRef.unary φ.v1 φ.v36 (broadcastInDim S1 ![] bcast_S_S1)),
   (TRef.binary φ.v33 φ.v36 φ.v37 addi),
   (TRef.nullary φ.c_8 (constantI S_ 32 1#32))]

theorem fn_threefry2x32.run1_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run1 (F := F) arg0 arg1 arg2 arg3 φ) :=
  fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_nil

def fn_threefry2x32.run2 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.unary φ.c_8 φ.v38 (broadcastInDim S1 ![] bcast_S_S1)),
   (TRef.binary φ.v37 φ.v38 φ.v39 addi),
   (TRef.binary φ.v35 φ.v39 φ.v40 addi),
   (TRef.nullary φ.c_9 (constantI S_ 32 17#32)),
   (TRef.unary φ.c_9 φ.v41 (broadcastInDim S1 ![] bcast_S_S1)),
   (TRef.binary φ.v39 φ.v41 φ.v42 Host.shli),
   (TRef.nullary φ.c_10 (constantI S_ 32 15#32)),
   (TRef.unary φ.c_10 φ.v43 (broadcastInDim S1 ![] bcast_S_S1)),
   (TRef.binary φ.v39 φ.v43 φ.v44 Host.shrui),
   (TRef.binary φ.v42 φ.v44 φ.v45 ori),
   (TRef.binary φ.v40 φ.v45 φ.v46 xori),
   (TRef.binary φ.v40 φ.v46 φ.v47 addi)]

theorem fn_threefry2x32.run2_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run2 (F := F) arg0 arg1 arg2 arg3 φ) :=
  fine_cons (unary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_nil

def fn_threefry2x32.run3 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.nullary φ.c_11 (constantI S_ 32 29#32)),
   (TRef.unary φ.c_11 φ.v48 (broadcastInDim S1 ![] bcast_S_S1)),
   (TRef.binary φ.v46 φ.v48 φ.v49 Host.shli),
   (TRef.nullary φ.c_12 (constantI S_ 32 3#32)),
   (TRef.unary φ.c_12 φ.v50 (broadcastInDim S1 ![] bcast_S_S1)),
   (TRef.binary φ.v46 φ.v50 φ.v51 Host.shrui),
   (TRef.binary φ.v49 φ.v51 φ.v52 ori),
   (TRef.binary φ.v47 φ.v52 φ.v53 xori),
   (TRef.binary φ.v47 φ.v53 φ.v54 addi),
   (TRef.nullary φ.c_13 (constantI S_ 32 16#32)),
   (TRef.unary φ.c_13 φ.v55 (broadcastInDim S1 ![] bcast_S_S1)),
   (TRef.binary φ.v53 φ.v55 φ.v56 Host.shli)]

theorem fn_threefry2x32.run3_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run3 (F := F) arg0 arg1 arg2 arg3 φ) :=
  fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_nil

def fn_threefry2x32.run4 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.nullary φ.c_14 (constantI S_ 32 16#32)),
   (TRef.unary φ.c_14 φ.v57 (broadcastInDim S1 ![] bcast_S_S1)),
   (TRef.binary φ.v53 φ.v57 φ.v58 Host.shrui),
   (TRef.binary φ.v56 φ.v58 φ.v59 ori),
   (TRef.binary φ.v54 φ.v59 φ.v60 xori),
   (TRef.binary φ.v54 φ.v60 φ.v61 addi),
   (TRef.nullary φ.c_15 (constantI S_ 32 24#32)),
   (TRef.unary φ.c_15 φ.v62 (broadcastInDim S1 ![] bcast_S_S1)),
   (TRef.binary φ.v60 φ.v62 φ.v63 Host.shli),
   (TRef.nullary φ.c_16 (constantI S_ 32 8#32)),
   (TRef.unary φ.c_16 φ.v64 (broadcastInDim S1 ![] bcast_S_S1)),
   (TRef.binary φ.v60 φ.v64 φ.v65 Host.shrui),
   (TRef.binary φ.v63 φ.v65 φ.v66 ori),
   (TRef.binary φ.v61 φ.v66 φ.v67 xori),
   (TRef.unary φ.v1 φ.v68 (broadcastInDim S1 ![] bcast_S_S1)),
   (TRef.binary φ.v61 φ.v68 φ.v69 addi),
   (TRef.unary arg0 φ.v70 (broadcastInDim S1 ![] bcast_S_S1)),
   (TRef.binary φ.v67 φ.v70 φ.v71 addi),
   (TRef.nullary φ.c_17 (constantI S_ 32 2#32)),
   (TRef.unary φ.c_17 φ.v72 (broadcastInDim S1 ![] bcast_S_S1)),
   (TRef.binary φ.v71 φ.v72 φ.v73 addi),
   (TRef.binary φ.v69 φ.v73 φ.v74 addi),
   (TRef.nullary φ.c_18 (constantI S_ 32 13#32)),
   (TRef.unary φ.c_18 φ.v75 (broadcastInDim S1 ![] bcast_S_S1))]

theorem fn_threefry2x32.run4_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run4 (F := F) arg0 arg1 arg2 arg3 φ) :=
  fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (nullary_bufs_sub ..) rfl <| fine_cons (unary_bufs_sub ..) rfl <| fine_nil

def fn_threefry2x32.run5 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.binary φ.v73 φ.v75 φ.v76 Host.shli),
   (TRef.nullary φ.c_19 (constantI S_ 32 19#32)),
   (TRef.unary φ.c_19 φ.v77 (broadcastInDim S1 ![] bcast_S_S1)),
   (TRef.binary φ.v73 φ.v77 φ.v78 Host.shrui),
   (TRef.binary φ.v76 φ.v78 φ.v79 ori),
   (TRef.binary φ.v74 φ.v79 φ.v80 xori),
   (TRef.binary φ.v74 φ.v80 φ.v81 addi),
   (TRef.nullary φ.c_20 (constantI S_ 32 15#32)),
   (TRef.unary φ.c_20 φ.v82 (broadcastInDim S1 ![] bcast_S_S1)),
   (TRef.binary φ.v80 φ.v82 φ.v83 Host.shli),
   (TRef.nullary φ.c_21 (constantI S_ 32 17#32)),
   (TRef.unary φ.c_21 φ.v84 (broadcastInDim S1 ![] bcast_S_S1)),
   (TRef.binary φ.v80 φ.v84 φ.v85 Host.shrui),
   (TRef.binary φ.v83 φ.v85 φ.v86 ori),
   (TRef.binary φ.v81 φ.v86 φ.v87 xori),
   (TRef.binary φ.v81 φ.v87 φ.v88 addi),
   (TRef.nullary φ.c_22 (constantI S_ 32 26#32)),
   (TRef.unary φ.c_22 φ.v89 (broadcastInDim S1 ![] bcast_S_S1)),
   (TRef.binary φ.v87 φ.v89 φ.v90 Host.shli),
   (TRef.nullary φ.c_23 (constantI S_ 32 6#32)),
   (TRef.unary φ.c_23 φ.v91 (broadcastInDim S1 ![] bcast_S_S1)),
   (TRef.binary φ.v87 φ.v91 φ.v92 Host.shrui),
   (TRef.binary φ.v90 φ.v92 φ.v93 ori),
   (TRef.binary φ.v88 φ.v93 φ.v94 xori)]

theorem fn_threefry2x32.run5_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run5 (F := F) arg0 arg1 arg2 arg3 φ) :=
  fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_nil

def fn_threefry2x32.run6 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.binary φ.v88 φ.v94 φ.v95 addi),
   (TRef.nullary φ.c_24 (constantI S_ 32 6#32)),
   (TRef.unary φ.c_24 φ.v96 (broadcastInDim S1 ![] bcast_S_S1)),
   (TRef.binary φ.v94 φ.v96 φ.v97 Host.shli),
   (TRef.nullary φ.c_25 (constantI S_ 32 26#32)),
   (TRef.unary φ.c_25 φ.v98 (broadcastInDim S1 ![] bcast_S_S1)),
   (TRef.binary φ.v94 φ.v98 φ.v99 Host.shrui),
   (TRef.binary φ.v97 φ.v99 φ.v100 ori),
   (TRef.binary φ.v95 φ.v100 φ.v101 xori),
   (TRef.unary arg0 φ.v102 (broadcastInDim S1 ![] bcast_S_S1)),
   (TRef.binary φ.v95 φ.v102 φ.v103 addi),
   (TRef.unary arg1 φ.v104 (broadcastInDim S1 ![] bcast_S_S1)),
   (TRef.binary φ.v101 φ.v104 φ.v105 addi),
   (TRef.nullary φ.c_26 (constantI S_ 32 3#32)),
   (TRef.unary φ.c_26 φ.v106 (broadcastInDim S1 ![] bcast_S_S1)),
   (TRef.binary φ.v105 φ.v106 φ.v107 addi),
   (TRef.binary φ.v103 φ.v107 φ.v108 addi),
   (TRef.nullary φ.c_27 (constantI S_ 32 17#32)),
   (TRef.unary φ.c_27 φ.v109 (broadcastInDim S1 ![] bcast_S_S1)),
   (TRef.binary φ.v107 φ.v109 φ.v110 Host.shli),
   (TRef.nullary φ.c_28 (constantI S_ 32 15#32)),
   (TRef.unary φ.c_28 φ.v111 (broadcastInDim S1 ![] bcast_S_S1)),
   (TRef.binary φ.v107 φ.v111 φ.v112 Host.shrui),
   (TRef.binary φ.v110 φ.v112 φ.v113 ori)]

theorem fn_threefry2x32.run6_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run6 (F := F) arg0 arg1 arg2 arg3 φ) :=
  fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_nil

def fn_threefry2x32.run7 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.binary φ.v108 φ.v113 φ.v114 xori),
   (TRef.binary φ.v108 φ.v114 φ.v115 addi),
   (TRef.nullary φ.c_29 (constantI S_ 32 29#32)),
   (TRef.unary φ.c_29 φ.v116 (broadcastInDim S1 ![] bcast_S_S1)),
   (TRef.binary φ.v114 φ.v116 φ.v117 Host.shli),
   (TRef.nullary φ.c_30 (constantI S_ 32 3#32)),
   (TRef.unary φ.c_30 φ.v118 (broadcastInDim S1 ![] bcast_S_S1)),
   (TRef.binary φ.v114 φ.v118 φ.v119 Host.shrui),
   (TRef.binary φ.v117 φ.v119 φ.v120 ori),
   (TRef.binary φ.v115 φ.v120 φ.v121 xori),
   (TRef.binary φ.v115 φ.v121 φ.v122 addi),
   (TRef.nullary φ.c_31 (constantI S_ 32 16#32)),
   (TRef.unary φ.c_31 φ.v123 (broadcastInDim S1 ![] bcast_S_S1)),
   (TRef.binary φ.v121 φ.v123 φ.v124 Host.shli),
   (TRef.nullary φ.c_32 (constantI S_ 32 16#32)),
   (TRef.unary φ.c_32 φ.v125 (broadcastInDim S1 ![] bcast_S_S1)),
   (TRef.binary φ.v121 φ.v125 φ.v126 Host.shrui),
   (TRef.binary φ.v124 φ.v126 φ.v127 ori),
   (TRef.binary φ.v122 φ.v127 φ.v128 xori),
   (TRef.binary φ.v122 φ.v128 φ.v129 addi),
   (TRef.nullary φ.c_33 (constantI S_ 32 24#32)),
   (TRef.unary φ.c_33 φ.v130 (broadcastInDim S1 ![] bcast_S_S1)),
   (TRef.binary φ.v128 φ.v130 φ.v131 Host.shli),
   (TRef.nullary φ.c_34 (constantI S_ 32 8#32))]

theorem fn_threefry2x32.run7_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run7 (F := F) arg0 arg1 arg2 arg3 φ) :=
  fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_nil

def fn_threefry2x32.run8 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.unary φ.c_34 φ.v132 (broadcastInDim S1 ![] bcast_S_S1)),
   (TRef.binary φ.v128 φ.v132 φ.v133 Host.shrui),
   (TRef.binary φ.v131 φ.v133 φ.v134 ori),
   (TRef.binary φ.v129 φ.v134 φ.v135 xori),
   (TRef.unary arg1 φ.v136 (broadcastInDim S1 ![] bcast_S_S1)),
   (TRef.binary φ.v129 φ.v136 φ.v137 addi),
   (TRef.unary φ.v1 φ.v138 (broadcastInDim S1 ![] bcast_S_S1)),
   (TRef.binary φ.v135 φ.v138 φ.v139 addi),
   (TRef.nullary φ.c_35 (constantI S_ 32 4#32)),
   (TRef.unary φ.c_35 φ.v140 (broadcastInDim S1 ![] bcast_S_S1)),
   (TRef.binary φ.v139 φ.v140 φ.v141 addi),
   (TRef.binary φ.v137 φ.v141 φ.v142 addi)]

theorem fn_threefry2x32.run8_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run8 (F := F) arg0 arg1 arg2 arg3 φ) :=
  fine_cons (unary_bufs_sub ..) rfl <| fine_cons (binary_bufs_sub ..) rfl <| fine_cons (binary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_nil

def fn_threefry2x32.run9 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.nullary φ.c_36 (constantI S_ 32 13#32)),
   (TRef.unary φ.c_36 φ.v143 (broadcastInDim S1 ![] bcast_S_S1)),
   (TRef.binary φ.v141 φ.v143 φ.v144 Host.shli),
   (TRef.nullary φ.c_37 (constantI S_ 32 19#32)),
   (TRef.unary φ.c_37 φ.v145 (broadcastInDim S1 ![] bcast_S_S1)),
   (TRef.binary φ.v141 φ.v145 φ.v146 Host.shrui),
   (TRef.binary φ.v144 φ.v146 φ.v147 ori),
   (TRef.binary φ.v142 φ.v147 φ.v148 xori),
   (TRef.binary φ.v142 φ.v148 φ.v149 addi),
   (TRef.nullary φ.c_38 (constantI S_ 32 15#32)),
   (TRef.unary φ.c_38 φ.v150 (broadcastInDim S1 ![] bcast_S_S1)),
   (TRef.binary φ.v148 φ.v150 φ.v151 Host.shli)]

theorem fn_threefry2x32.run9_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run9 (F := F) arg0 arg1 arg2 arg3 φ) :=
  fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_nil

def fn_threefry2x32.run10 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.nullary φ.c_39 (constantI S_ 32 17#32)),
   (TRef.unary φ.c_39 φ.v152 (broadcastInDim S1 ![] bcast_S_S1)),
   (TRef.binary φ.v148 φ.v152 φ.v153 Host.shrui),
   (TRef.binary φ.v151 φ.v153 φ.v154 ori),
   (TRef.binary φ.v149 φ.v154 φ.v155 xori),
   (TRef.binary φ.v149 φ.v155 φ.v156 addi),
   (TRef.nullary φ.c_40 (constantI S_ 32 26#32)),
   (TRef.unary φ.c_40 φ.v157 (broadcastInDim S1 ![] bcast_S_S1)),
   (TRef.binary φ.v155 φ.v157 φ.v158 Host.shli),
   (TRef.nullary φ.c_41 (constantI S_ 32 6#32)),
   (TRef.unary φ.c_41 φ.v159 (broadcastInDim S1 ![] bcast_S_S1)),
   (TRef.binary φ.v155 φ.v159 φ.v160 Host.shrui),
   (TRef.binary φ.v158 φ.v160 φ.v161 ori),
   (TRef.binary φ.v156 φ.v161 φ.v162 xori),
   (TRef.binary φ.v156 φ.v162 φ.v163 addi),
   (TRef.nullary φ.c_42 (constantI S_ 32 6#32)),
   (TRef.unary φ.c_42 φ.v164 (broadcastInDim S1 ![] bcast_S_S1)),
   (TRef.binary φ.v162 φ.v164 φ.v165 Host.shli),
   (TRef.nullary φ.c_43 (constantI S_ 32 26#32)),
   (TRef.unary φ.c_43 φ.v166 (broadcastInDim S1 ![] bcast_S_S1)),
   (TRef.binary φ.v162 φ.v166 φ.v167 Host.shrui),
   (TRef.binary φ.v165 φ.v167 φ.v168 ori),
   (TRef.binary φ.v163 φ.v168 φ.v169 xori),
   (TRef.unary φ.v1 φ.v170 (broadcastInDim S1 ![] bcast_S_S1))]

theorem fn_threefry2x32.run10_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run10 (F := F) arg0 arg1 arg2 arg3 φ) :=
  fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (unary_bufs_sub ..) rfl <| fine_nil

def fn_threefry2x32.run11 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  [(TRef.binary φ.v163 φ.v170 φ.v171 addi),
   (TRef.unary arg0 φ.v172 (broadcastInDim S1 ![] bcast_S_S1)),
   (TRef.binary φ.v169 φ.v172 φ.v173 addi),
   (TRef.nullary φ.c_44 (constantI S_ 32 5#32)),
   (TRef.unary φ.c_44 φ.v174 (broadcastInDim S1 ![] bcast_S_S1)),
   (TRef.binary φ.v173 φ.v174 φ.v175 addi)]

theorem fn_threefry2x32.run11_fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.run11 (F := F) arg0 arg1 arg2 arg3 φ) :=
  fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_nil

def fn_threefry2x32.line (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : List (HloOp τ sig (Elt F)) :=
  fn_threefry2x32.run0 arg0 arg1 arg2 arg3 φ ++ (fn_threefry2x32.run1 arg0 arg1 arg2 arg3 φ ++ (fn_threefry2x32.run2 arg0 arg1 arg2 arg3 φ ++ (fn_threefry2x32.run3 arg0 arg1 arg2 arg3 φ ++ (fn_threefry2x32.run4 arg0 arg1 arg2 arg3 φ ++ (fn_threefry2x32.run5 arg0 arg1 arg2 arg3 φ ++ (fn_threefry2x32.run6 arg0 arg1 arg2 arg3 φ ++ (fn_threefry2x32.run7 arg0 arg1 arg2 arg3 φ ++ (fn_threefry2x32.run8 arg0 arg1 arg2 arg3 φ ++ (fn_threefry2x32.run9 arg0 arg1 arg2 arg3 φ ++ (fn_threefry2x32.run10 arg0 arg1 arg2 arg3 φ ++ fn_threefry2x32.run11 arg0 arg1 arg2 arg3 φ))))))))))

theorem fn_threefry2x32.fine (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : Fine (fn_threefry2x32.line (F := F) arg0 arg1 arg2 arg3 φ) :=
  fine_append (fn_threefry2x32.run0_fine arg0 arg1 arg2 arg3 φ) (fine_append (fn_threefry2x32.run1_fine arg0 arg1 arg2 arg3 φ) (fine_append (fn_threefry2x32.run2_fine arg0 arg1 arg2 arg3 φ) (fine_append (fn_threefry2x32.run3_fine arg0 arg1 arg2 arg3 φ) (fine_append (fn_threefry2x32.run4_fine arg0 arg1 arg2 arg3 φ) (fine_append (fn_threefry2x32.run5_fine arg0 arg1 arg2 arg3 φ) (fine_append (fn_threefry2x32.run6_fine arg0 arg1 arg2 arg3 φ) (fine_append (fn_threefry2x32.run7_fine arg0 arg1 arg2 arg3 φ) (fine_append (fn_threefry2x32.run8_fine arg0 arg1 arg2 arg3 φ) (fine_append (fn_threefry2x32.run9_fine arg0 arg1 arg2 arg3 φ) (fine_append (fn_threefry2x32.run10_fine arg0 arg1 arg2 arg3 φ) (fn_threefry2x32.run11_fine arg0 arg1 arg2 arg3 φ)))))))))))

set_option maxHeartbeats 4000000 in
theorem fn_threefry2x32.straight0 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : IsSeq (fn_threefry2x32.body_part0 (F := F) arg0 arg1 arg2 arg3 φ) (fn_threefry2x32.run0 arg0 arg1 arg2 arg3 φ ++ (fn_threefry2x32.run1 arg0 arg1 arg2 arg3 φ ++ fn_threefry2x32.run2 arg0 arg1 arg2 arg3 φ)) := by
  unfold fn_threefry2x32.body_part0
  iterate 59 apply IsSeq.cons
  exact isSeq_one

set_option maxHeartbeats 4000000 in
theorem fn_threefry2x32.straight1 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : IsSeq (fn_threefry2x32.body_part1 (F := F) arg0 arg1 arg2 arg3 φ) (fn_threefry2x32.run3 arg0 arg1 arg2 arg3 φ ++ (fn_threefry2x32.run4 arg0 arg1 arg2 arg3 φ ++ fn_threefry2x32.run5 arg0 arg1 arg2 arg3 φ)) := by
  unfold fn_threefry2x32.body_part1
  iterate 59 apply IsSeq.cons
  exact isSeq_one

set_option maxHeartbeats 4000000 in
theorem fn_threefry2x32.straight2 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : IsSeq (fn_threefry2x32.body_part2 (F := F) arg0 arg1 arg2 arg3 φ) (fn_threefry2x32.run6 arg0 arg1 arg2 arg3 φ ++ (fn_threefry2x32.run7 arg0 arg1 arg2 arg3 φ ++ fn_threefry2x32.run8 arg0 arg1 arg2 arg3 φ)) := by
  unfold fn_threefry2x32.body_part2
  iterate 59 apply IsSeq.cons
  exact isSeq_one

set_option maxHeartbeats 4000000 in
theorem fn_threefry2x32.straight3 (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : IsSeq (fn_threefry2x32.body_part3 (F := F) arg0 arg1 arg2 arg3 φ) (fn_threefry2x32.run9 arg0 arg1 arg2 arg3 φ ++ (fn_threefry2x32.run10 arg0 arg1 arg2 arg3 φ ++ fn_threefry2x32.run11 arg0 arg1 arg2 arg3 φ)) := by
  unfold fn_threefry2x32.body_part3
  iterate 42 apply IsSeq.cons
  exact IsSeq.nil

theorem fn_threefry2x32.straight (arg0 : StableHlo.TRef sig ⟨S_, .i32⟩) (arg1 : StableHlo.TRef sig ⟨S_, .i32⟩) (arg2 : StableHlo.TRef sig ⟨S1, .i32⟩) (arg3 : StableHlo.TRef sig ⟨S1, .i32⟩) (φ : fn_threefry2x32.Bufs) : IsSeq (fn_threefry2x32.body (F := F) arg0 arg1 arg2 arg3 φ) (fn_threefry2x32.line (F := F) arg0 arg1 arg2 arg3 φ) := by
  have h := isSeq_append (fn_threefry2x32.straight0 (F := F) arg0 arg1 arg2 arg3 φ) (isSeq_append (fn_threefry2x32.straight1 (F := F) arg0 arg1 arg2 arg3 φ) (isSeq_append (fn_threefry2x32.straight2 (F := F) arg0 arg1 arg2 arg3 φ) (fn_threefry2x32.straight3 (F := F) arg0 arg1 arg2 arg3 φ)))
  simp only [List.append_assoc] at h
  exact h

def fn_threefry_fold_in.run0 (arg0 : StableHlo.TRef sig ⟨S2, .i32⟩) (arg1 : StableHlo.TRef sig ⟨S_, .i32⟩) (φ : fn_threefry_fold_in.Bufs) : List (HloOp τ sig (Elt F)) :=
  [(TRef.nullary φ.c (constantI S_ 32 32#32)),
   (TRef.binary arg1 φ.c φ.v0 Host.shrui),
   (TRef.unary φ.v0 φ.v1 (broadcastInDim S1 ![] bcast_S_S1)),
   (TRef.nullary φ.c_0 (constantI S_ 32 4294967295#32)),
   (TRef.binary arg1 φ.c_0 φ.v2 andi),
   (TRef.unary φ.v2 φ.v3 (broadcastInDim S1 ![] bcast_S_S1)),
   (TRef.binary φ.v1 φ.v3 φ.v4 (fun a b => concatenate S2 0 [⟨S1, a⟩, ⟨S1, b⟩] concatenates_S1_S1_S2_d0)),
   (TRef.unary arg0 φ.v5 (extractStridedSlice S1 ![0] · slices_S2_S1_0)),
   (TRef.reshape φ.v5 φ.v6 (rfl : (.i32 : EltTy) = .i32) shapeCasts_S1_S_),
   (TRef.unary arg0 φ.v7 (extractStridedSlice S1 ![1] · slices_S2_S1_1)),
   (TRef.reshape φ.v7 φ.v8 (rfl : (.i32 : EltTy) = .i32) shapeCasts_S1_S_),
   (TRef.unary φ.v4 φ.v9 (extractStridedSlice S1 ![0] · slices_S2_S1_0)),
   (TRef.unary φ.v4 φ.v10 (extractStridedSlice S1 ![1] · slices_S2_S1_1))]

theorem fn_threefry_fold_in.run0_fine (arg0 : StableHlo.TRef sig ⟨S2, .i32⟩) (arg1 : StableHlo.TRef sig ⟨S_, .i32⟩) (φ : fn_threefry_fold_in.Bufs) : Fine (fn_threefry_fold_in.run0 (F := F) arg0 arg1 φ) :=
  fine_cons (nullary_bufs_sub ..) rfl <| fine_cons (binary_bufs_sub ..) rfl <| fine_cons (unary_bufs_sub ..) rfl <| fine_cons (nullary_bufs_sub ..) rfl <| fine_cons (binary_bufs_sub ..) rfl <| fine_cons (unary_bufs_sub ..) rfl <| fine_cons (binary_bufs_sub ..) rfl <| fine_cons (unary_bufs_sub ..) rfl <| fine_cons (reshape_bufs_sub ..) rfl <| fine_cons (unary_bufs_sub ..) rfl <| fine_cons (reshape_bufs_sub ..) rfl <| fine_cons (unary_bufs_sub ..) rfl <| fine_cons (unary_bufs_sub ..) rfl <| fine_nil

def fn_threefry_fold_in.run1 (arg0 : StableHlo.TRef sig ⟨S2, .i32⟩) (arg1 : StableHlo.TRef sig ⟨S_, .i32⟩) (φ : fn_threefry_fold_in.Bufs) : List (HloOp τ sig (Elt F)) :=
  [(TRef.binary φ.call0.v171 φ.call0.v175 φ.v12 (fun a b => concatenate S2 0 [⟨S1, a⟩, ⟨S1, b⟩] concatenates_S1_S1_S2_d0))]

theorem fn_threefry_fold_in.run1_fine (arg0 : StableHlo.TRef sig ⟨S2, .i32⟩) (arg1 : StableHlo.TRef sig ⟨S_, .i32⟩) (φ : fn_threefry_fold_in.Bufs) : Fine (fn_threefry_fold_in.run1 (F := F) arg0 arg1 φ) :=
  fine_cons (binary_bufs_sub ..) rfl <| fine_nil

def fn_threefry_fold_in.line (arg0 : StableHlo.TRef sig ⟨S2, .i32⟩) (arg1 : StableHlo.TRef sig ⟨S_, .i32⟩) (φ : fn_threefry_fold_in.Bufs) : List (HloOp τ sig (Elt F)) :=
  fn_threefry_fold_in.run0 arg0 arg1 φ ++ (fn_threefry2x32.line φ.v6 φ.v8 φ.v9 φ.v10 φ.call0 ++ fn_threefry_fold_in.run1 arg0 arg1 φ)

theorem fn_threefry_fold_in.fine (arg0 : StableHlo.TRef sig ⟨S2, .i32⟩) (arg1 : StableHlo.TRef sig ⟨S_, .i32⟩) (φ : fn_threefry_fold_in.Bufs) : Fine (fn_threefry_fold_in.line (F := F) arg0 arg1 φ) :=
  fine_append (fn_threefry_fold_in.run0_fine arg0 arg1 φ) (fine_append (fn_threefry2x32.fine φ.v6 φ.v8 φ.v9 φ.v10 φ.call0) (fn_threefry_fold_in.run1_fine arg0 arg1 φ))

set_option maxHeartbeats 4000000 in
theorem fn_threefry_fold_in.straight (arg0 : StableHlo.TRef sig ⟨S2, .i32⟩) (arg1 : StableHlo.TRef sig ⟨S_, .i32⟩) (φ : fn_threefry_fold_in.Bufs) : IsSeq (fn_threefry_fold_in.body (F := F) arg0 arg1 φ) (fn_threefry_fold_in.line arg0 arg1 φ) := by
  unfold fn_threefry_fold_in.body
  apply isSeq_of
  case h =>
    iterate 13 apply IsSeq.cons
    apply isSeq_append (fn_threefry2x32.straight ..)
    iterate 1 apply IsSeq.cons
    exact IsSeq.nil
  case e => rfl

def fn_threefry2x32_0.run0 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.binary arg0 arg1 φ.v0 xori),
   (TRef.nullary φ.c (constantI S_ 32 466688986#32)),
   (TRef.binary φ.v0 φ.c φ.v1 xori),
   (TRef.unary arg0 φ.v2 (broadcastInDim S128x8 ![] bcast_S_S128x8)),
   (TRef.binary arg2 φ.v2 φ.v3 addi),
   (TRef.unary arg1 φ.v4 (broadcastInDim S128x8 ![] bcast_S_S128x8)),
   (TRef.binary arg3 φ.v4 φ.v5 addi),
   (TRef.binary φ.v3 φ.v5 φ.v6 addi),
   (TRef.nullary φ.c_0 (constantI S_ 32 13#32)),
   (TRef.unary φ.c_0 φ.v7 (broadcastInDim S128x8 ![] bcast_S_S128x8)),
   (TRef.binary φ.v5 φ.v7 φ.v8 Host.shli),
   (TRef.nullary φ.c_1 (constantI S_ 32 19#32)),
   (TRef.unary φ.c_1 φ.v9 (broadcastInDim S128x8 ![] bcast_S_S128x8)),
   (TRef.binary φ.v5 φ.v9 φ.v10 Host.shrui),
   (TRef.binary φ.v8 φ.v10 φ.v11 ori),
   (TRef.binary φ.v6 φ.v11 φ.v12 xori),
   (TRef.binary φ.v6 φ.v12 φ.v13 addi),
   (TRef.nullary φ.c_2 (constantI S_ 32 15#32)),
   (TRef.unary φ.c_2 φ.v14 (broadcastInDim S128x8 ![] bcast_S_S128x8)),
   (TRef.binary φ.v12 φ.v14 φ.v15 Host.shli),
   (TRef.nullary φ.c_3 (constantI S_ 32 17#32)),
   (TRef.unary φ.c_3 φ.v16 (broadcastInDim S128x8 ![] bcast_S_S128x8)),
   (TRef.binary φ.v12 φ.v16 φ.v17 Host.shrui),
   (TRef.binary φ.v15 φ.v17 φ.v18 ori)]

theorem fn_threefry2x32_0.run0_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run0 (F := F) arg0 arg1 arg2 arg3 φ) :=
  fine_cons (binary_bufs_sub ..) rfl <| fine_cons (nullary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_nil

def fn_threefry2x32_0.run1 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.binary φ.v13 φ.v18 φ.v19 xori),
   (TRef.binary φ.v13 φ.v19 φ.v20 addi),
   (TRef.nullary φ.c_4 (constantI S_ 32 26#32)),
   (TRef.unary φ.c_4 φ.v21 (broadcastInDim S128x8 ![] bcast_S_S128x8)),
   (TRef.binary φ.v19 φ.v21 φ.v22 Host.shli),
   (TRef.nullary φ.c_5 (constantI S_ 32 6#32)),
   (TRef.unary φ.c_5 φ.v23 (broadcastInDim S128x8 ![] bcast_S_S128x8)),
   (TRef.binary φ.v19 φ.v23 φ.v24 Host.shrui),
   (TRef.binary φ.v22 φ.v24 φ.v25 ori),
   (TRef.binary φ.v20 φ.v25 φ.v26 xori),
   (TRef.binary φ.v20 φ.v26 φ.v27 addi),
   (TRef.nullary φ.c_6 (constantI S_ 32 6#32)),
   (TRef.unary φ.c_6 φ.v28 (broadcastInDim S128x8 ![] bcast_S_S128x8)),
   (TRef.binary φ.v26 φ.v28 φ.v29 Host.shli),
   (TRef.nullary φ.c_7 (constantI S_ 32 26#32)),
   (TRef.unary φ.c_7 φ.v30 (broadcastInDim S128x8 ![] bcast_S_S128x8)),
   (TRef.binary φ.v26 φ.v30 φ.v31 Host.shrui),
   (TRef.binary φ.v29 φ.v31 φ.v32 ori),
   (TRef.binary φ.v27 φ.v32 φ.v33 xori),
   (TRef.unary arg1 φ.v34 (broadcastInDim S128x8 ![] bcast_S_S128x8)),
   (TRef.binary φ.v27 φ.v34 φ.v35 addi),
   (TRef.unary φ.v1 φ.v36 (broadcastInDim S128x8 ![] bcast_S_S128x8)),
   (TRef.binary φ.v33 φ.v36 φ.v37 addi),
   (TRef.nullary φ.c_8 (constantI S_ 32 1#32))]

theorem fn_threefry2x32_0.run1_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run1 (F := F) arg0 arg1 arg2 arg3 φ) :=
  fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_nil

def fn_threefry2x32_0.run2 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.unary φ.c_8 φ.v38 (broadcastInDim S128x8 ![] bcast_S_S128x8)),
   (TRef.binary φ.v37 φ.v38 φ.v39 addi),
   (TRef.binary φ.v35 φ.v39 φ.v40 addi),
   (TRef.nullary φ.c_9 (constantI S_ 32 17#32)),
   (TRef.unary φ.c_9 φ.v41 (broadcastInDim S128x8 ![] bcast_S_S128x8)),
   (TRef.binary φ.v39 φ.v41 φ.v42 Host.shli),
   (TRef.nullary φ.c_10 (constantI S_ 32 15#32)),
   (TRef.unary φ.c_10 φ.v43 (broadcastInDim S128x8 ![] bcast_S_S128x8)),
   (TRef.binary φ.v39 φ.v43 φ.v44 Host.shrui),
   (TRef.binary φ.v42 φ.v44 φ.v45 ori),
   (TRef.binary φ.v40 φ.v45 φ.v46 xori),
   (TRef.binary φ.v40 φ.v46 φ.v47 addi)]

theorem fn_threefry2x32_0.run2_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run2 (F := F) arg0 arg1 arg2 arg3 φ) :=
  fine_cons (unary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_nil

def fn_threefry2x32_0.run3 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.nullary φ.c_11 (constantI S_ 32 29#32)),
   (TRef.unary φ.c_11 φ.v48 (broadcastInDim S128x8 ![] bcast_S_S128x8)),
   (TRef.binary φ.v46 φ.v48 φ.v49 Host.shli),
   (TRef.nullary φ.c_12 (constantI S_ 32 3#32)),
   (TRef.unary φ.c_12 φ.v50 (broadcastInDim S128x8 ![] bcast_S_S128x8)),
   (TRef.binary φ.v46 φ.v50 φ.v51 Host.shrui),
   (TRef.binary φ.v49 φ.v51 φ.v52 ori),
   (TRef.binary φ.v47 φ.v52 φ.v53 xori),
   (TRef.binary φ.v47 φ.v53 φ.v54 addi),
   (TRef.nullary φ.c_13 (constantI S_ 32 16#32)),
   (TRef.unary φ.c_13 φ.v55 (broadcastInDim S128x8 ![] bcast_S_S128x8)),
   (TRef.binary φ.v53 φ.v55 φ.v56 Host.shli)]

theorem fn_threefry2x32_0.run3_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run3 (F := F) arg0 arg1 arg2 arg3 φ) :=
  fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_nil

def fn_threefry2x32_0.run4 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.nullary φ.c_14 (constantI S_ 32 16#32)),
   (TRef.unary φ.c_14 φ.v57 (broadcastInDim S128x8 ![] bcast_S_S128x8)),
   (TRef.binary φ.v53 φ.v57 φ.v58 Host.shrui),
   (TRef.binary φ.v56 φ.v58 φ.v59 ori),
   (TRef.binary φ.v54 φ.v59 φ.v60 xori),
   (TRef.binary φ.v54 φ.v60 φ.v61 addi),
   (TRef.nullary φ.c_15 (constantI S_ 32 24#32)),
   (TRef.unary φ.c_15 φ.v62 (broadcastInDim S128x8 ![] bcast_S_S128x8)),
   (TRef.binary φ.v60 φ.v62 φ.v63 Host.shli),
   (TRef.nullary φ.c_16 (constantI S_ 32 8#32)),
   (TRef.unary φ.c_16 φ.v64 (broadcastInDim S128x8 ![] bcast_S_S128x8)),
   (TRef.binary φ.v60 φ.v64 φ.v65 Host.shrui),
   (TRef.binary φ.v63 φ.v65 φ.v66 ori),
   (TRef.binary φ.v61 φ.v66 φ.v67 xori),
   (TRef.unary φ.v1 φ.v68 (broadcastInDim S128x8 ![] bcast_S_S128x8)),
   (TRef.binary φ.v61 φ.v68 φ.v69 addi),
   (TRef.unary arg0 φ.v70 (broadcastInDim S128x8 ![] bcast_S_S128x8)),
   (TRef.binary φ.v67 φ.v70 φ.v71 addi),
   (TRef.nullary φ.c_17 (constantI S_ 32 2#32)),
   (TRef.unary φ.c_17 φ.v72 (broadcastInDim S128x8 ![] bcast_S_S128x8)),
   (TRef.binary φ.v71 φ.v72 φ.v73 addi),
   (TRef.binary φ.v69 φ.v73 φ.v74 addi),
   (TRef.nullary φ.c_18 (constantI S_ 32 13#32)),
   (TRef.unary φ.c_18 φ.v75 (broadcastInDim S128x8 ![] bcast_S_S128x8))]

theorem fn_threefry2x32_0.run4_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run4 (F := F) arg0 arg1 arg2 arg3 φ) :=
  fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (nullary_bufs_sub ..) rfl <| fine_cons (unary_bufs_sub ..) rfl <| fine_nil

def fn_threefry2x32_0.run5 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.binary φ.v73 φ.v75 φ.v76 Host.shli),
   (TRef.nullary φ.c_19 (constantI S_ 32 19#32)),
   (TRef.unary φ.c_19 φ.v77 (broadcastInDim S128x8 ![] bcast_S_S128x8)),
   (TRef.binary φ.v73 φ.v77 φ.v78 Host.shrui),
   (TRef.binary φ.v76 φ.v78 φ.v79 ori),
   (TRef.binary φ.v74 φ.v79 φ.v80 xori),
   (TRef.binary φ.v74 φ.v80 φ.v81 addi),
   (TRef.nullary φ.c_20 (constantI S_ 32 15#32)),
   (TRef.unary φ.c_20 φ.v82 (broadcastInDim S128x8 ![] bcast_S_S128x8)),
   (TRef.binary φ.v80 φ.v82 φ.v83 Host.shli),
   (TRef.nullary φ.c_21 (constantI S_ 32 17#32)),
   (TRef.unary φ.c_21 φ.v84 (broadcastInDim S128x8 ![] bcast_S_S128x8)),
   (TRef.binary φ.v80 φ.v84 φ.v85 Host.shrui),
   (TRef.binary φ.v83 φ.v85 φ.v86 ori),
   (TRef.binary φ.v81 φ.v86 φ.v87 xori),
   (TRef.binary φ.v81 φ.v87 φ.v88 addi),
   (TRef.nullary φ.c_22 (constantI S_ 32 26#32)),
   (TRef.unary φ.c_22 φ.v89 (broadcastInDim S128x8 ![] bcast_S_S128x8)),
   (TRef.binary φ.v87 φ.v89 φ.v90 Host.shli),
   (TRef.nullary φ.c_23 (constantI S_ 32 6#32)),
   (TRef.unary φ.c_23 φ.v91 (broadcastInDim S128x8 ![] bcast_S_S128x8)),
   (TRef.binary φ.v87 φ.v91 φ.v92 Host.shrui),
   (TRef.binary φ.v90 φ.v92 φ.v93 ori),
   (TRef.binary φ.v88 φ.v93 φ.v94 xori)]

theorem fn_threefry2x32_0.run5_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run5 (F := F) arg0 arg1 arg2 arg3 φ) :=
  fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_nil

def fn_threefry2x32_0.run6 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.binary φ.v88 φ.v94 φ.v95 addi),
   (TRef.nullary φ.c_24 (constantI S_ 32 6#32)),
   (TRef.unary φ.c_24 φ.v96 (broadcastInDim S128x8 ![] bcast_S_S128x8)),
   (TRef.binary φ.v94 φ.v96 φ.v97 Host.shli),
   (TRef.nullary φ.c_25 (constantI S_ 32 26#32)),
   (TRef.unary φ.c_25 φ.v98 (broadcastInDim S128x8 ![] bcast_S_S128x8)),
   (TRef.binary φ.v94 φ.v98 φ.v99 Host.shrui),
   (TRef.binary φ.v97 φ.v99 φ.v100 ori),
   (TRef.binary φ.v95 φ.v100 φ.v101 xori),
   (TRef.unary arg0 φ.v102 (broadcastInDim S128x8 ![] bcast_S_S128x8)),
   (TRef.binary φ.v95 φ.v102 φ.v103 addi),
   (TRef.unary arg1 φ.v104 (broadcastInDim S128x8 ![] bcast_S_S128x8)),
   (TRef.binary φ.v101 φ.v104 φ.v105 addi),
   (TRef.nullary φ.c_26 (constantI S_ 32 3#32)),
   (TRef.unary φ.c_26 φ.v106 (broadcastInDim S128x8 ![] bcast_S_S128x8)),
   (TRef.binary φ.v105 φ.v106 φ.v107 addi),
   (TRef.binary φ.v103 φ.v107 φ.v108 addi),
   (TRef.nullary φ.c_27 (constantI S_ 32 17#32)),
   (TRef.unary φ.c_27 φ.v109 (broadcastInDim S128x8 ![] bcast_S_S128x8)),
   (TRef.binary φ.v107 φ.v109 φ.v110 Host.shli),
   (TRef.nullary φ.c_28 (constantI S_ 32 15#32)),
   (TRef.unary φ.c_28 φ.v111 (broadcastInDim S128x8 ![] bcast_S_S128x8)),
   (TRef.binary φ.v107 φ.v111 φ.v112 Host.shrui),
   (TRef.binary φ.v110 φ.v112 φ.v113 ori)]

theorem fn_threefry2x32_0.run6_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run6 (F := F) arg0 arg1 arg2 arg3 φ) :=
  fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_nil

def fn_threefry2x32_0.run7 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.binary φ.v108 φ.v113 φ.v114 xori),
   (TRef.binary φ.v108 φ.v114 φ.v115 addi),
   (TRef.nullary φ.c_29 (constantI S_ 32 29#32)),
   (TRef.unary φ.c_29 φ.v116 (broadcastInDim S128x8 ![] bcast_S_S128x8)),
   (TRef.binary φ.v114 φ.v116 φ.v117 Host.shli),
   (TRef.nullary φ.c_30 (constantI S_ 32 3#32)),
   (TRef.unary φ.c_30 φ.v118 (broadcastInDim S128x8 ![] bcast_S_S128x8)),
   (TRef.binary φ.v114 φ.v118 φ.v119 Host.shrui),
   (TRef.binary φ.v117 φ.v119 φ.v120 ori),
   (TRef.binary φ.v115 φ.v120 φ.v121 xori),
   (TRef.binary φ.v115 φ.v121 φ.v122 addi),
   (TRef.nullary φ.c_31 (constantI S_ 32 16#32)),
   (TRef.unary φ.c_31 φ.v123 (broadcastInDim S128x8 ![] bcast_S_S128x8)),
   (TRef.binary φ.v121 φ.v123 φ.v124 Host.shli),
   (TRef.nullary φ.c_32 (constantI S_ 32 16#32)),
   (TRef.unary φ.c_32 φ.v125 (broadcastInDim S128x8 ![] bcast_S_S128x8)),
   (TRef.binary φ.v121 φ.v125 φ.v126 Host.shrui),
   (TRef.binary φ.v124 φ.v126 φ.v127 ori),
   (TRef.binary φ.v122 φ.v127 φ.v128 xori),
   (TRef.binary φ.v122 φ.v128 φ.v129 addi),
   (TRef.nullary φ.c_33 (constantI S_ 32 24#32)),
   (TRef.unary φ.c_33 φ.v130 (broadcastInDim S128x8 ![] bcast_S_S128x8)),
   (TRef.binary φ.v128 φ.v130 φ.v131 Host.shli),
   (TRef.nullary φ.c_34 (constantI S_ 32 8#32))]

theorem fn_threefry2x32_0.run7_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run7 (F := F) arg0 arg1 arg2 arg3 φ) :=
  fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_nil

def fn_threefry2x32_0.run8 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.unary φ.c_34 φ.v132 (broadcastInDim S128x8 ![] bcast_S_S128x8)),
   (TRef.binary φ.v128 φ.v132 φ.v133 Host.shrui),
   (TRef.binary φ.v131 φ.v133 φ.v134 ori),
   (TRef.binary φ.v129 φ.v134 φ.v135 xori),
   (TRef.unary arg1 φ.v136 (broadcastInDim S128x8 ![] bcast_S_S128x8)),
   (TRef.binary φ.v129 φ.v136 φ.v137 addi),
   (TRef.unary φ.v1 φ.v138 (broadcastInDim S128x8 ![] bcast_S_S128x8)),
   (TRef.binary φ.v135 φ.v138 φ.v139 addi),
   (TRef.nullary φ.c_35 (constantI S_ 32 4#32)),
   (TRef.unary φ.c_35 φ.v140 (broadcastInDim S128x8 ![] bcast_S_S128x8)),
   (TRef.binary φ.v139 φ.v140 φ.v141 addi),
   (TRef.binary φ.v137 φ.v141 φ.v142 addi)]

theorem fn_threefry2x32_0.run8_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run8 (F := F) arg0 arg1 arg2 arg3 φ) :=
  fine_cons (unary_bufs_sub ..) rfl <| fine_cons (binary_bufs_sub ..) rfl <| fine_cons (binary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_nil

def fn_threefry2x32_0.run9 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.nullary φ.c_36 (constantI S_ 32 13#32)),
   (TRef.unary φ.c_36 φ.v143 (broadcastInDim S128x8 ![] bcast_S_S128x8)),
   (TRef.binary φ.v141 φ.v143 φ.v144 Host.shli),
   (TRef.nullary φ.c_37 (constantI S_ 32 19#32)),
   (TRef.unary φ.c_37 φ.v145 (broadcastInDim S128x8 ![] bcast_S_S128x8)),
   (TRef.binary φ.v141 φ.v145 φ.v146 Host.shrui),
   (TRef.binary φ.v144 φ.v146 φ.v147 ori),
   (TRef.binary φ.v142 φ.v147 φ.v148 xori),
   (TRef.binary φ.v142 φ.v148 φ.v149 addi),
   (TRef.nullary φ.c_38 (constantI S_ 32 15#32)),
   (TRef.unary φ.c_38 φ.v150 (broadcastInDim S128x8 ![] bcast_S_S128x8)),
   (TRef.binary φ.v148 φ.v150 φ.v151 Host.shli)]

theorem fn_threefry2x32_0.run9_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run9 (F := F) arg0 arg1 arg2 arg3 φ) :=
  fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_nil

def fn_threefry2x32_0.run10 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.nullary φ.c_39 (constantI S_ 32 17#32)),
   (TRef.unary φ.c_39 φ.v152 (broadcastInDim S128x8 ![] bcast_S_S128x8)),
   (TRef.binary φ.v148 φ.v152 φ.v153 Host.shrui),
   (TRef.binary φ.v151 φ.v153 φ.v154 ori),
   (TRef.binary φ.v149 φ.v154 φ.v155 xori),
   (TRef.binary φ.v149 φ.v155 φ.v156 addi),
   (TRef.nullary φ.c_40 (constantI S_ 32 26#32)),
   (TRef.unary φ.c_40 φ.v157 (broadcastInDim S128x8 ![] bcast_S_S128x8)),
   (TRef.binary φ.v155 φ.v157 φ.v158 Host.shli),
   (TRef.nullary φ.c_41 (constantI S_ 32 6#32)),
   (TRef.unary φ.c_41 φ.v159 (broadcastInDim S128x8 ![] bcast_S_S128x8)),
   (TRef.binary φ.v155 φ.v159 φ.v160 Host.shrui),
   (TRef.binary φ.v158 φ.v160 φ.v161 ori),
   (TRef.binary φ.v156 φ.v161 φ.v162 xori),
   (TRef.binary φ.v156 φ.v162 φ.v163 addi),
   (TRef.nullary φ.c_42 (constantI S_ 32 6#32)),
   (TRef.unary φ.c_42 φ.v164 (broadcastInDim S128x8 ![] bcast_S_S128x8)),
   (TRef.binary φ.v162 φ.v164 φ.v165 Host.shli),
   (TRef.nullary φ.c_43 (constantI S_ 32 26#32)),
   (TRef.unary φ.c_43 φ.v166 (broadcastInDim S128x8 ![] bcast_S_S128x8)),
   (TRef.binary φ.v162 φ.v166 φ.v167 Host.shrui),
   (TRef.binary φ.v165 φ.v167 φ.v168 ori),
   (TRef.binary φ.v163 φ.v168 φ.v169 xori),
   (TRef.unary φ.v1 φ.v170 (broadcastInDim S128x8 ![] bcast_S_S128x8))]

theorem fn_threefry2x32_0.run10_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run10 (F := F) arg0 arg1 arg2 arg3 φ) :=
  fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (binary_bufs_sub ..) rfl <| fine_cons (unary_bufs_sub ..) rfl <| fine_nil

def fn_threefry2x32_0.run11 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  [(TRef.binary φ.v163 φ.v170 φ.v171 addi),
   (TRef.unary arg0 φ.v172 (broadcastInDim S128x8 ![] bcast_S_S128x8)),
   (TRef.binary φ.v169 φ.v172 φ.v173 addi),
   (TRef.nullary φ.c_44 (constantI S_ 32 5#32)),
   (TRef.unary φ.c_44 φ.v174 (broadcastInDim S128x8 ![] bcast_S_S128x8)),
   (TRef.binary φ.v173 φ.v174 φ.v175 addi)]

theorem fn_threefry2x32_0.run11_fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.run11 (F := F) arg0 arg1 arg2 arg3 φ) :=
  fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_nil

def fn_threefry2x32_0.line (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : List (HloOp τ sig (Elt F)) :=
  fn_threefry2x32_0.run0 arg0 arg1 arg2 arg3 φ ++ (fn_threefry2x32_0.run1 arg0 arg1 arg2 arg3 φ ++ (fn_threefry2x32_0.run2 arg0 arg1 arg2 arg3 φ ++ (fn_threefry2x32_0.run3 arg0 arg1 arg2 arg3 φ ++ (fn_threefry2x32_0.run4 arg0 arg1 arg2 arg3 φ ++ (fn_threefry2x32_0.run5 arg0 arg1 arg2 arg3 φ ++ (fn_threefry2x32_0.run6 arg0 arg1 arg2 arg3 φ ++ (fn_threefry2x32_0.run7 arg0 arg1 arg2 arg3 φ ++ (fn_threefry2x32_0.run8 arg0 arg1 arg2 arg3 φ ++ (fn_threefry2x32_0.run9 arg0 arg1 arg2 arg3 φ ++ (fn_threefry2x32_0.run10 arg0 arg1 arg2 arg3 φ ++ fn_threefry2x32_0.run11 arg0 arg1 arg2 arg3 φ))))))))))

theorem fn_threefry2x32_0.fine (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : Fine (fn_threefry2x32_0.line (F := F) arg0 arg1 arg2 arg3 φ) :=
  fine_append (fn_threefry2x32_0.run0_fine arg0 arg1 arg2 arg3 φ) (fine_append (fn_threefry2x32_0.run1_fine arg0 arg1 arg2 arg3 φ) (fine_append (fn_threefry2x32_0.run2_fine arg0 arg1 arg2 arg3 φ) (fine_append (fn_threefry2x32_0.run3_fine arg0 arg1 arg2 arg3 φ) (fine_append (fn_threefry2x32_0.run4_fine arg0 arg1 arg2 arg3 φ) (fine_append (fn_threefry2x32_0.run5_fine arg0 arg1 arg2 arg3 φ) (fine_append (fn_threefry2x32_0.run6_fine arg0 arg1 arg2 arg3 φ) (fine_append (fn_threefry2x32_0.run7_fine arg0 arg1 arg2 arg3 φ) (fine_append (fn_threefry2x32_0.run8_fine arg0 arg1 arg2 arg3 φ) (fine_append (fn_threefry2x32_0.run9_fine arg0 arg1 arg2 arg3 φ) (fine_append (fn_threefry2x32_0.run10_fine arg0 arg1 arg2 arg3 φ) (fn_threefry2x32_0.run11_fine arg0 arg1 arg2 arg3 φ)))))))))))

set_option maxHeartbeats 4000000 in
theorem fn_threefry2x32_0.straight0 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : IsSeq (fn_threefry2x32_0.body_part0 (F := F) arg0 arg1 arg2 arg3 φ) (fn_threefry2x32_0.run0 arg0 arg1 arg2 arg3 φ ++ (fn_threefry2x32_0.run1 arg0 arg1 arg2 arg3 φ ++ fn_threefry2x32_0.run2 arg0 arg1 arg2 arg3 φ)) := by
  unfold fn_threefry2x32_0.body_part0
  iterate 59 apply IsSeq.cons
  exact isSeq_one

set_option maxHeartbeats 4000000 in
theorem fn_threefry2x32_0.straight1 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : IsSeq (fn_threefry2x32_0.body_part1 (F := F) arg0 arg1 arg2 arg3 φ) (fn_threefry2x32_0.run3 arg0 arg1 arg2 arg3 φ ++ (fn_threefry2x32_0.run4 arg0 arg1 arg2 arg3 φ ++ fn_threefry2x32_0.run5 arg0 arg1 arg2 arg3 φ)) := by
  unfold fn_threefry2x32_0.body_part1
  iterate 59 apply IsSeq.cons
  exact isSeq_one

set_option maxHeartbeats 4000000 in
theorem fn_threefry2x32_0.straight2 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : IsSeq (fn_threefry2x32_0.body_part2 (F := F) arg0 arg1 arg2 arg3 φ) (fn_threefry2x32_0.run6 arg0 arg1 arg2 arg3 φ ++ (fn_threefry2x32_0.run7 arg0 arg1 arg2 arg3 φ ++ fn_threefry2x32_0.run8 arg0 arg1 arg2 arg3 φ)) := by
  unfold fn_threefry2x32_0.body_part2
  iterate 59 apply IsSeq.cons
  exact isSeq_one

set_option maxHeartbeats 4000000 in
theorem fn_threefry2x32_0.straight3 (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : IsSeq (fn_threefry2x32_0.body_part3 (F := F) arg0 arg1 arg2 arg3 φ) (fn_threefry2x32_0.run9 arg0 arg1 arg2 arg3 φ ++ (fn_threefry2x32_0.run10 arg0 arg1 arg2 arg3 φ ++ fn_threefry2x32_0.run11 arg0 arg1 arg2 arg3 φ)) := by
  unfold fn_threefry2x32_0.body_part3
  iterate 42 apply IsSeq.cons
  exact IsSeq.nil

theorem fn_threefry2x32_0.straight (arg0 : StableHlo.TRef sig ⟨S_, .i32⟩) (arg1 : StableHlo.TRef sig ⟨S_, .i32⟩) (arg2 : StableHlo.TRef sig ⟨S128x8, .i32⟩) (arg3 : StableHlo.TRef sig ⟨S128x8, .i32⟩) (φ : fn_threefry2x32_0.Bufs) : IsSeq (fn_threefry2x32_0.body (F := F) arg0 arg1 arg2 arg3 φ) (fn_threefry2x32_0.line (F := F) arg0 arg1 arg2 arg3 φ) := by
  have h := isSeq_append (fn_threefry2x32_0.straight0 (F := F) arg0 arg1 arg2 arg3 φ) (isSeq_append (fn_threefry2x32_0.straight1 (F := F) arg0 arg1 arg2 arg3 φ) (isSeq_append (fn_threefry2x32_0.straight2 (F := F) arg0 arg1 arg2 arg3 φ) (fn_threefry2x32_0.straight3 (F := F) arg0 arg1 arg2 arg3 φ)))
  simp only [List.append_assoc] at h
  exact h

def fn_uniform.run0 (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [(TRef.unary arg1 φ.v0 id),
   (TRef.unary arg2 φ.v1 (broadcastInDim S1x1 ![] bcast_S_S1x1)),
   (TRef.unary φ.v0 φ.v2 (broadcastInDim S1x1 ![] bcast_S_S1x1)),
   (TRef.unary arg0 φ.v3 (extractStridedSlice S1 ![0] · slices_S2_S1_0)),
   (TRef.reshape φ.v3 φ.v4 (rfl : (.i32 : EltTy) = .i32) shapeCasts_S1_S_),
   (TRef.unary arg0 φ.v5 (extractStridedSlice S1 ![1] · slices_S2_S1_1)),
   (TRef.reshape φ.v5 φ.v6 (rfl : (.i32 : EltTy) = .i32) shapeCasts_S1_S_),
   (TRef.nullary φ.v7 (iotaInDim S128x8 64 0)),
   (TRef.nullary φ.v8 (iotaInDim S128x8 64 1)),
   (TRef.nullary φ.c (constantI S_ 64 8#64)),
   (TRef.unary φ.c φ.v9 (broadcastInDim S128x8 ![] bcast_S_S128x8)),
   (TRef.binary φ.v9 φ.v7 φ.v10 muli),
   (TRef.nullary φ.c_0 (constantI S_ 64 1#64)),
   (TRef.unary φ.c_0 φ.v11 (broadcastInDim S128x8 ![] bcast_S_S128x8)),
   (TRef.binary φ.v11 φ.v8 φ.v12 muli),
   (TRef.binary φ.v10 φ.v12 φ.v13 addi),
   (TRef.nullary φ.c_1 (constantI S_ 64 32#64)),
   (TRef.unary φ.c_1 φ.v14 (broadcastInDim S128x8 ![] bcast_S_S128x8)),
   (TRef.binary φ.v13 φ.v14 φ.v15 Host.shrui),
   (TRef.unary φ.v13 φ.v16 (trunci 32 · natLt_32_64)),
   (TRef.unary φ.v15 φ.v17 (trunci 32 · natLt_32_64))]

theorem fn_uniform.run0_fine (arg0 : StableHlo.TRef sig ⟨S2, .i32⟩) (arg1 : StableHlo.TRef sig ⟨S_, .f32⟩) (arg2 : StableHlo.TRef sig ⟨S_, .f32⟩) (φ : fn_uniform.Bufs) : Fine (fn_uniform.run0 (F := F) arg0 arg1 arg2 φ) :=
  fine_cons (unary_bufs_sub ..) rfl <| fine_cons (unary_bufs_sub ..) rfl <| fine_cons (unary_bufs_sub ..) rfl <| fine_cons (unary_bufs_sub ..) rfl <| fine_cons (reshape_bufs_sub ..) rfl <| fine_cons (unary_bufs_sub ..) rfl <| fine_cons (reshape_bufs_sub ..) rfl <| fine_cons (nullary_bufs_sub ..) rfl <| fine_cons (nullary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (nullary_bufs_sub ..) rfl <| fine_cons (unary_bufs_sub ..) rfl <| fine_cons (binary_bufs_sub ..) rfl <| fine_cons (unary_bufs_sub ..) rfl <| fine_cons (unary_bufs_sub ..) rfl <| fine_nil

def fn_uniform.run1 (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [(TRef.binary φ.call0.v171 φ.call0.v175 φ.v19 xori),
   (TRef.nullary φ.c_2 (constantI S_ 32 9#32)),
   (TRef.unary φ.c_2 φ.v20 (broadcastInDim S128x8 ![] bcast_S_S128x8)),
   (TRef.binary φ.v19 φ.v20 φ.v21 Host.shrui),
   (TRef.nullary φ.c_3 (constantI S_ 32 1065353216#32)),
   (TRef.unary φ.c_3 φ.v22 (broadcastInDim S128x8 ![] bcast_S_S128x8)),
   (TRef.binary φ.v21 φ.v22 φ.v23 ori),
   (TRef.unary φ.v23 φ.v24 (bitcastToFloat .f32)),
   (TRef.nullary φ.cst (constant S_ .f32 0x3F800000#32)),
   (TRef.unary φ.cst φ.v25 (broadcastInDim S128x8 ![] bcast_S_S128x8)),
   (TRef.binary φ.v24 φ.v25 φ.v26 subf),
   (TRef.binary φ.v2 φ.v1 φ.v27 subf),
   (TRef.unary φ.v27 φ.v28 (broadcastInDim S128x8 ![0, 1] bcast_S1x1_S128x8_0_1)),
   (TRef.binary φ.v26 φ.v28 φ.v29 mulf),
   (TRef.unary φ.v1 φ.v30 (broadcastInDim S128x8 ![0, 1] bcast_S1x1_S128x8_0_1)),
   (TRef.binary φ.v29 φ.v30 φ.v31 addf),
   (TRef.unary φ.v1 φ.v32 (broadcastInDim S128x8 ![0, 1] bcast_S1x1_S128x8_0_1)),
   (TRef.binary φ.v32 φ.v31 φ.v33 maximumf)]

theorem fn_uniform.run1_fine (arg0 : StableHlo.TRef sig ⟨S2, .i32⟩) (arg1 : StableHlo.TRef sig ⟨S_, .f32⟩) (arg2 : StableHlo.TRef sig ⟨S_, .f32⟩) (φ : fn_uniform.Bufs) : Fine (fn_uniform.run1 (F := F) arg0 arg1 arg2 φ) :=
  fine_cons (binary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (unary_bufs_sub ..) rfl <| fine_cons (nullary_bufs_sub ..) rfl <| fine_cons (unary_bufs_sub ..) rfl <| fine_cons (binary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_nil

def fn_uniform.line (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  fn_uniform.run0 arg0 arg1 arg2 φ ++ (fn_threefry2x32_0.line φ.v4 φ.v6 φ.v17 φ.v16 φ.call0 ++ fn_uniform.run1 arg0 arg1 arg2 φ)

theorem fn_uniform.fine (arg0 : StableHlo.TRef sig ⟨S2, .i32⟩) (arg1 : StableHlo.TRef sig ⟨S_, .f32⟩) (arg2 : StableHlo.TRef sig ⟨S_, .f32⟩) (φ : fn_uniform.Bufs) : Fine (fn_uniform.line (F := F) arg0 arg1 arg2 φ) :=
  fine_append (fn_uniform.run0_fine arg0 arg1 arg2 φ) (fine_append (fn_threefry2x32_0.fine φ.v4 φ.v6 φ.v17 φ.v16 φ.call0) (fn_uniform.run1_fine arg0 arg1 arg2 φ))

set_option maxHeartbeats 4000000 in
theorem fn_uniform.straight (arg0 : StableHlo.TRef sig ⟨S2, .i32⟩) (arg1 : StableHlo.TRef sig ⟨S_, .f32⟩) (arg2 : StableHlo.TRef sig ⟨S_, .f32⟩) (φ : fn_uniform.Bufs) : IsSeq (fn_uniform.body (F := F) arg0 arg1 arg2 φ) (fn_uniform.line arg0 arg1 arg2 φ) := by
  unfold fn_uniform.body
  apply isSeq_of
  case h =>
    iterate 21 apply IsSeq.cons
    apply isSeq_append (fn_threefry2x32_0.straight ..)
    iterate 18 apply IsSeq.cons
    exact IsSeq.nil
  case e => rfl

def fn_gumbel.run0 (arg0 : StableHlo.TRef sig ⟨S2, .i32⟩) (φ : fn_gumbel.Bufs) : List (HloOp τ sig (Elt F)) :=
  [(TRef.nullary φ.cst (constant S_ .f32 0x3F800000#32)),
   (TRef.nullary φ.cst_0 (constant S_ .f32 0x00800000#32))]

theorem fn_gumbel.run0_fine (arg0 : StableHlo.TRef sig ⟨S2, .i32⟩) (φ : fn_gumbel.Bufs) : Fine (fn_gumbel.run0 (F := F) arg0 φ) :=
  fine_cons (nullary_bufs_sub ..) rfl <| fine_cons (nullary_bufs_sub ..) rfl <| fine_nil

def fn_gumbel.run1 (arg0 : StableHlo.TRef sig ⟨S2, .i32⟩) (φ : fn_gumbel.Bufs) : List (HloOp τ sig (Elt F)) :=
  [(TRef.unary φ.call0.v33 φ.v1 Host.log),
   (TRef.unary φ.v1 φ.v2 Host.negf),
   (TRef.unary φ.v2 φ.v3 Host.log),
   (TRef.unary φ.v3 φ.v4 Host.negf)]

theorem fn_gumbel.run1_fine (arg0 : StableHlo.TRef sig ⟨S2, .i32⟩) (φ : fn_gumbel.Bufs) : Fine (fn_gumbel.run1 (F := F) arg0 φ) :=
  fine_cons (unary_bufs_sub ..) rfl <| fine_cons (unary_bufs_sub ..) rfl <| fine_cons (unary_bufs_sub ..) rfl <| fine_cons (unary_bufs_sub ..) rfl <| fine_nil

def fn_gumbel.line (arg0 : StableHlo.TRef sig ⟨S2, .i32⟩) (φ : fn_gumbel.Bufs) : List (HloOp τ sig (Elt F)) :=
  fn_gumbel.run0 arg0 φ ++ (fn_uniform.line arg0 φ.cst φ.cst_0 φ.call0 ++ fn_gumbel.run1 arg0 φ)

theorem fn_gumbel.fine (arg0 : StableHlo.TRef sig ⟨S2, .i32⟩) (φ : fn_gumbel.Bufs) : Fine (fn_gumbel.line (F := F) arg0 φ) :=
  fine_append (fn_gumbel.run0_fine arg0 φ) (fine_append (fn_uniform.fine arg0 φ.cst φ.cst_0 φ.call0) (fn_gumbel.run1_fine arg0 φ))

set_option maxHeartbeats 4000000 in
theorem fn_gumbel.straight (arg0 : StableHlo.TRef sig ⟨S2, .i32⟩) (φ : fn_gumbel.Bufs) : IsSeq (fn_gumbel.body (F := F) arg0 φ) (fn_gumbel.line arg0 φ) := by
  unfold fn_gumbel.body
  apply isSeq_of
  case h =>
    iterate 2 apply IsSeq.cons
    apply isSeq_append (fn_uniform.straight ..)
    iterate 4 apply IsSeq.cons
    exact IsSeq.nil
  case e => rfl

def fn_argmax.run0 (arg0 : StableHlo.TRef sig ⟨S128x8, .f32⟩) (φ : fn_argmax.Bufs) : List (HloOp τ sig (Elt F)) :=
  [(TRef.nullary φ.v0 (iotaInDim S128x8 32 1)),
   (TRef.nullary φ.cst (constant S_ .f32 0xFF800000#32)),
   (TRef.nullary φ.c (constantI S_ 32 0#32)),
   (TRef.quaternary arg0 φ.v0 φ.cst φ.c φ.v1_0 (fun x y u v j => (Host.argReduce reducer_argmax_f32_i32 x y u v reducesTo_S128x8_S128_d1 h_S_ j).1)),
   (TRef.quaternary arg0 φ.v0 φ.cst φ.c φ.v1_1 (fun x y u v j => (Host.argReduce reducer_argmax_f32_i32 x y u v reducesTo_S128x8_S128_d1 h_S_ j).2))]

theorem fn_argmax.run0_fine (arg0 : StableHlo.TRef sig ⟨S128x8, .f32⟩) (φ : fn_argmax.Bufs) : Fine (fn_argmax.run0 (F := F) arg0 φ) :=
  fine_cons (nullary_bufs_sub ..) rfl <| fine_cons (nullary_bufs_sub ..) rfl <| fine_cons (nullary_bufs_sub ..) rfl <| fine_cons (quaternary_bufs_sub ..) rfl <| fine_cons (quaternary_bufs_sub ..) rfl <| fine_nil

def fn_argmax.line (arg0 : StableHlo.TRef sig ⟨S128x8, .f32⟩) (φ : fn_argmax.Bufs) : List (HloOp τ sig (Elt F)) :=
  fn_argmax.run0 arg0 φ

theorem fn_argmax.fine (arg0 : StableHlo.TRef sig ⟨S128x8, .f32⟩) (φ : fn_argmax.Bufs) : Fine (fn_argmax.line (F := F) arg0 φ) :=
  fn_argmax.run0_fine arg0 φ

set_option maxHeartbeats 4000000 in
theorem fn_argmax.straight (arg0 : StableHlo.TRef sig ⟨S128x8, .f32⟩) (φ : fn_argmax.Bufs) : IsSeq (fn_argmax.body (F := F) arg0 φ) (fn_argmax.line arg0 φ) := by
  unfold fn_argmax.body
  iterate 5 apply IsSeq.cons
  exact IsSeq.nil

def fn_where.run0 (arg0 : StableHlo.TRef sig ⟨S128x1x1x1, .i1⟩) (arg1 : StableHlo.TRef sig ⟨S128x3x224x224, .f32⟩) (arg2 : StableHlo.TRef sig ⟨S128x3x224x224, .f32⟩) (φ : fn_where.Bufs) : List (HloOp τ sig (Elt F)) :=
  [(TRef.unary arg0 φ.v0 (broadcastInDim S128x3x224x224 ![0, 1, 2, 3] bcast_S128x1x1x1_S128x3x224x224_0_1_2_3)),
   (TRef.ternary φ.v0 arg1 arg2 φ.v1 select)]

theorem fn_where.run0_fine (arg0 : StableHlo.TRef sig ⟨S128x1x1x1, .i1⟩) (arg1 : StableHlo.TRef sig ⟨S128x3x224x224, .f32⟩) (arg2 : StableHlo.TRef sig ⟨S128x3x224x224, .f32⟩) (φ : fn_where.Bufs) : Fine (fn_where.run0 (F := F) arg0 arg1 arg2 φ) :=
  fine_cons (unary_bufs_sub ..) rfl <| fine_cons (ternary_bufs_sub ..) rfl <| fine_nil

def fn_where.line (arg0 : StableHlo.TRef sig ⟨S128x1x1x1, .i1⟩) (arg1 : StableHlo.TRef sig ⟨S128x3x224x224, .f32⟩) (arg2 : StableHlo.TRef sig ⟨S128x3x224x224, .f32⟩) (φ : fn_where.Bufs) : List (HloOp τ sig (Elt F)) :=
  fn_where.run0 arg0 arg1 arg2 φ

theorem fn_where.fine (arg0 : StableHlo.TRef sig ⟨S128x1x1x1, .i1⟩) (arg1 : StableHlo.TRef sig ⟨S128x3x224x224, .f32⟩) (arg2 : StableHlo.TRef sig ⟨S128x3x224x224, .f32⟩) (φ : fn_where.Bufs) : Fine (fn_where.line (F := F) arg0 arg1 arg2 φ) :=
  fn_where.run0_fine arg0 arg1 arg2 φ

set_option maxHeartbeats 4000000 in
theorem fn_where.straight (arg0 : StableHlo.TRef sig ⟨S128x1x1x1, .i1⟩) (arg1 : StableHlo.TRef sig ⟨S128x3x224x224, .f32⟩) (arg2 : StableHlo.TRef sig ⟨S128x3x224x224, .f32⟩) (φ : fn_where.Bufs) : IsSeq (fn_where.body (F := F) arg0 arg1 arg2 φ) (fn_where.line arg0 arg1 arg2 φ) := by
  unfold fn_where.body
  iterate 2 apply IsSeq.cons
  exact IsSeq.nil

def fn_flip.run0 (arg0 : StableHlo.TRef sig ⟨S128x3x224x224, .f32⟩) (φ : fn_flip.Bufs) : List (HloOp τ sig (Elt F)) :=
  [(TRef.unary arg0 φ.v0 (Host.reverse [3]))]

theorem fn_flip.run0_fine (arg0 : StableHlo.TRef sig ⟨S128x3x224x224, .f32⟩) (φ : fn_flip.Bufs) : Fine (fn_flip.run0 (F := F) arg0 φ) :=
  fine_cons (unary_bufs_sub ..) rfl <| fine_nil

def fn_flip.line (arg0 : StableHlo.TRef sig ⟨S128x3x224x224, .f32⟩) (φ : fn_flip.Bufs) : List (HloOp τ sig (Elt F)) :=
  fn_flip.run0 arg0 φ

theorem fn_flip.fine (arg0 : StableHlo.TRef sig ⟨S128x3x224x224, .f32⟩) (φ : fn_flip.Bufs) : Fine (fn_flip.line (F := F) arg0 φ) :=
  fn_flip.run0_fine arg0 φ

set_option maxHeartbeats 4000000 in
theorem fn_flip.straight (arg0 : StableHlo.TRef sig ⟨S128x3x224x224, .f32⟩) (φ : fn_flip.Bufs) : IsSeq (fn_flip.body (F := F) arg0 φ) (fn_flip.line arg0 φ) := by
  unfold fn_flip.body
  iterate 1 apply IsSeq.cons
  exact IsSeq.nil

def fn_where_1.run0 (arg0 : StableHlo.TRef sig ⟨S128x1x1x1, .i1⟩) (arg1 : StableHlo.TRef sig ⟨S128x3x224x224, .f32⟩) (arg2 : StableHlo.TRef sig ⟨S128x3x224x224, .f32⟩) (φ : fn_where_1.Bufs) : List (HloOp τ sig (Elt F)) :=
  [(TRef.unary arg0 φ.v0 (broadcastInDim S128x3x224x224 ![0, 1, 2, 3] bcast_S128x1x1x1_S128x3x224x224_0_1_2_3)),
   (TRef.ternary φ.v0 arg1 arg2 φ.v1 select)]

theorem fn_where_1.run0_fine (arg0 : StableHlo.TRef sig ⟨S128x1x1x1, .i1⟩) (arg1 : StableHlo.TRef sig ⟨S128x3x224x224, .f32⟩) (arg2 : StableHlo.TRef sig ⟨S128x3x224x224, .f32⟩) (φ : fn_where_1.Bufs) : Fine (fn_where_1.run0 (F := F) arg0 arg1 arg2 φ) :=
  fine_cons (unary_bufs_sub ..) rfl <| fine_cons (ternary_bufs_sub ..) rfl <| fine_nil

def fn_where_1.line (arg0 : StableHlo.TRef sig ⟨S128x1x1x1, .i1⟩) (arg1 : StableHlo.TRef sig ⟨S128x3x224x224, .f32⟩) (arg2 : StableHlo.TRef sig ⟨S128x3x224x224, .f32⟩) (φ : fn_where_1.Bufs) : List (HloOp τ sig (Elt F)) :=
  fn_where_1.run0 arg0 arg1 arg2 φ

theorem fn_where_1.fine (arg0 : StableHlo.TRef sig ⟨S128x1x1x1, .i1⟩) (arg1 : StableHlo.TRef sig ⟨S128x3x224x224, .f32⟩) (arg2 : StableHlo.TRef sig ⟨S128x3x224x224, .f32⟩) (φ : fn_where_1.Bufs) : Fine (fn_where_1.line (F := F) arg0 arg1 arg2 φ) :=
  fn_where_1.run0_fine arg0 arg1 arg2 φ

set_option maxHeartbeats 4000000 in
theorem fn_where_1.straight (arg0 : StableHlo.TRef sig ⟨S128x1x1x1, .i1⟩) (arg1 : StableHlo.TRef sig ⟨S128x3x224x224, .f32⟩) (arg2 : StableHlo.TRef sig ⟨S128x3x224x224, .f32⟩) (φ : fn_where_1.Bufs) : IsSeq (fn_where_1.body (F := F) arg0 arg1 arg2 φ) (fn_where_1.line arg0 arg1 arg2 φ) := by
  unfold fn_where_1.body
  iterate 2 apply IsSeq.cons
  exact IsSeq.nil

def fn_flip_2.run0 (arg0 : StableHlo.TRef sig ⟨S128x3x224x224, .f32⟩) (φ : fn_flip_2.Bufs) : List (HloOp τ sig (Elt F)) :=
  [(TRef.unary arg0 φ.v0 (Host.reverse [2]))]

theorem fn_flip_2.run0_fine (arg0 : StableHlo.TRef sig ⟨S128x3x224x224, .f32⟩) (φ : fn_flip_2.Bufs) : Fine (fn_flip_2.run0 (F := F) arg0 φ) :=
  fine_cons (unary_bufs_sub ..) rfl <| fine_nil

def fn_flip_2.line (arg0 : StableHlo.TRef sig ⟨S128x3x224x224, .f32⟩) (φ : fn_flip_2.Bufs) : List (HloOp τ sig (Elt F)) :=
  fn_flip_2.run0 arg0 φ

theorem fn_flip_2.fine (arg0 : StableHlo.TRef sig ⟨S128x3x224x224, .f32⟩) (φ : fn_flip_2.Bufs) : Fine (fn_flip_2.line (F := F) arg0 φ) :=
  fn_flip_2.run0_fine arg0 φ

set_option maxHeartbeats 4000000 in
theorem fn_flip_2.straight (arg0 : StableHlo.TRef sig ⟨S128x3x224x224, .f32⟩) (φ : fn_flip_2.Bufs) : IsSeq (fn_flip_2.body (F := F) arg0 φ) (fn_flip_2.line arg0 φ) := by
  unfold fn_flip_2.body
  iterate 1 apply IsSeq.cons
  exact IsSeq.nil

def fn_clip.run0 (arg0 : StableHlo.TRef sig ⟨S128x3x224x224, .f32⟩) (arg1 : StableHlo.TRef sig ⟨S_, .f32⟩) (arg2 : StableHlo.TRef sig ⟨S_, .f32⟩) (φ : fn_clip.Bufs) : List (HloOp τ sig (Elt F)) :=
  [(TRef.unary arg1 φ.v0 id),
   (TRef.unary φ.v0 φ.v1 (broadcastInDim S128x3x224x224 ![] bcast_S_S128x3x224x224)),
   (TRef.binary φ.v1 arg0 φ.v2 maximumf),
   (TRef.unary arg2 φ.v3 id),
   (TRef.unary φ.v3 φ.v4 (broadcastInDim S128x3x224x224 ![] bcast_S_S128x3x224x224)),
   (TRef.binary φ.v4 φ.v2 φ.v5 minimumf)]

theorem fn_clip.run0_fine (arg0 : StableHlo.TRef sig ⟨S128x3x224x224, .f32⟩) (arg1 : StableHlo.TRef sig ⟨S_, .f32⟩) (arg2 : StableHlo.TRef sig ⟨S_, .f32⟩) (φ : fn_clip.Bufs) : Fine (fn_clip.run0 (F := F) arg0 arg1 arg2 φ) :=
  fine_cons (unary_bufs_sub ..) rfl <| fine_cons (unary_bufs_sub ..) rfl <| fine_cons (binary_bufs_sub ..) rfl <| fine_cons (unary_bufs_sub ..) rfl <| fine_cons (unary_bufs_sub ..) rfl <| fine_cons (binary_bufs_sub ..) rfl <| fine_nil

def fn_clip.line (arg0 : StableHlo.TRef sig ⟨S128x3x224x224, .f32⟩) (arg1 : StableHlo.TRef sig ⟨S_, .f32⟩) (arg2 : StableHlo.TRef sig ⟨S_, .f32⟩) (φ : fn_clip.Bufs) : List (HloOp τ sig (Elt F)) :=
  fn_clip.run0 arg0 arg1 arg2 φ

theorem fn_clip.fine (arg0 : StableHlo.TRef sig ⟨S128x3x224x224, .f32⟩) (arg1 : StableHlo.TRef sig ⟨S_, .f32⟩) (arg2 : StableHlo.TRef sig ⟨S_, .f32⟩) (φ : fn_clip.Bufs) : Fine (fn_clip.line (F := F) arg0 arg1 arg2 φ) :=
  fn_clip.run0_fine arg0 arg1 arg2 φ

set_option maxHeartbeats 4000000 in
theorem fn_clip.straight (arg0 : StableHlo.TRef sig ⟨S128x3x224x224, .f32⟩) (arg1 : StableHlo.TRef sig ⟨S_, .f32⟩) (arg2 : StableHlo.TRef sig ⟨S_, .f32⟩) (φ : fn_clip.Bufs) : IsSeq (fn_clip.body (F := F) arg0 arg1 arg2 φ) (fn_clip.line arg0 arg1 arg2 φ) := by
  unfold fn_clip.body
  iterate 6 apply IsSeq.cons
  exact IsSeq.nil

def fn_where_3.run0 (arg0 : StableHlo.TRef sig ⟨S128x3x224x224, .i1⟩) (arg1 : StableHlo.TRef sig ⟨S128x3x224x224, .f32⟩) (arg2 : StableHlo.TRef sig ⟨S128x3x224x224, .f32⟩) (φ : fn_where_3.Bufs) : List (HloOp τ sig (Elt F)) :=
  [(TRef.ternary arg0 arg1 arg2 φ.v0 select)]

theorem fn_where_3.run0_fine (arg0 : StableHlo.TRef sig ⟨S128x3x224x224, .i1⟩) (arg1 : StableHlo.TRef sig ⟨S128x3x224x224, .f32⟩) (arg2 : StableHlo.TRef sig ⟨S128x3x224x224, .f32⟩) (φ : fn_where_3.Bufs) : Fine (fn_where_3.run0 (F := F) arg0 arg1 arg2 φ) :=
  fine_cons (ternary_bufs_sub ..) rfl <| fine_nil

def fn_where_3.line (arg0 : StableHlo.TRef sig ⟨S128x3x224x224, .i1⟩) (arg1 : StableHlo.TRef sig ⟨S128x3x224x224, .f32⟩) (arg2 : StableHlo.TRef sig ⟨S128x3x224x224, .f32⟩) (φ : fn_where_3.Bufs) : List (HloOp τ sig (Elt F)) :=
  fn_where_3.run0 arg0 arg1 arg2 φ

theorem fn_where_3.fine (arg0 : StableHlo.TRef sig ⟨S128x3x224x224, .i1⟩) (arg1 : StableHlo.TRef sig ⟨S128x3x224x224, .f32⟩) (arg2 : StableHlo.TRef sig ⟨S128x3x224x224, .f32⟩) (φ : fn_where_3.Bufs) : Fine (fn_where_3.line (F := F) arg0 arg1 arg2 φ) :=
  fn_where_3.run0_fine arg0 arg1 arg2 φ

set_option maxHeartbeats 4000000 in
theorem fn_where_3.straight (arg0 : StableHlo.TRef sig ⟨S128x3x224x224, .i1⟩) (arg1 : StableHlo.TRef sig ⟨S128x3x224x224, .f32⟩) (arg2 : StableHlo.TRef sig ⟨S128x3x224x224, .f32⟩) (φ : fn_where_3.Bufs) : IsSeq (fn_where_3.body (F := F) arg0 arg1 arg2 φ) (fn_where_3.line arg0 arg1 arg2 φ) := by
  unfold fn_where_3.body
  iterate 1 apply IsSeq.cons
  exact IsSeq.nil

end Cert.ReferenceIdeal.Gen

end
-- ==== Proof.RefMain.lean ====
module

public import proofs.«01_k».proof.Proof.Gen.ReferenceIdeal
public import proofs.«01_k».proof.Proof.RefLines
public import Idealize.ShloMosaic.Lib.StableHlo.RunHlo
public import Idealize.ShloMosaic.Lib.Pipeline.Frame
public import Idealize.ShloMosaic.Lib.StableHlo.RunRead

/-! The reference's `main` as one line of host operations, in stretches. -/

@[expose] public section

set_option maxRecDepth 16384

noncomputable section

namespace Cert.ReferenceIdeal.Gen

open Cert.ReferenceIdeal Idealize.ShloMosaic Idealize.ShloMosaic.TcCoe Idealize.ShloMosaic.StableHlo Idealize.SL.Sem

variable {F : FTy → Type} [FloatOps F]

def main.run0 : List (HloOp τ sig (Elt F)) :=
  [(nullary main_c (constantI S_ 32 42#32)),
   (nullary main_c_0 (constantI S_ 32 32#32)),
   (binary main_c main_c_0 main_v0 (Host.shrui : (⟨S_, .i32⟩ : BufTy).Contents (Elt F) → (⟨S_, .i32⟩ : BufTy).Contents (Elt F) → (⟨S_, .i32⟩ : BufTy).Contents (Elt F))),
   (unary main_v0 main_v1 (id : (⟨S_, .i32⟩ : BufTy).Contents (Elt F) → (⟨S_, .i32⟩ : BufTy).Contents (Elt F))),
   (unary main_v1 main_v2 (broadcastInDim S1 ![] bcast_S_S1 : (⟨S_, .i32⟩ : BufTy).Contents (Elt F) → (⟨S1, .i32⟩ : BufTy).Contents (Elt F))),
   (nullary main_c_1 (constantI S_ 32 4294967295#32)),
   (binary main_c main_c_1 main_v3 (andi : (⟨S_, .i32⟩ : BufTy).Contents (Elt F) → (⟨S_, .i32⟩ : BufTy).Contents (Elt F) → (⟨S_, .i32⟩ : BufTy).Contents (Elt F))),
   (unary main_v3 main_v4 (id : (⟨S_, .i32⟩ : BufTy).Contents (Elt F) → (⟨S_, .i32⟩ : BufTy).Contents (Elt F))),
   (unary main_v4 main_v5 (broadcastInDim S1 ![] bcast_S_S1 : (⟨S_, .i32⟩ : BufTy).Contents (Elt F) → (⟨S1, .i32⟩ : BufTy).Contents (Elt F))),
   (binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))),
   (nullary main_cst (constant S_ .f32 0x3F800000#32)),
   (unary main_cst main_v7 (broadcastInDim S1x8 ![] bcast_S_S1x8 : (⟨S_, .f32⟩ : BufTy).Contents (Elt F) → (⟨S1x8, .f32⟩ : BufTy).Contents (Elt F))),
   (nullary main_cst_2 (constant S_ .f32 0xFF800000#32)),
   (binary main_v7 main_cst_2 main_v8 ((fun x v => Host.reduce FloatOps.maximumf x v reducesTo_S1x8_S1_d1 h_S_) : (⟨S1x8, .f32⟩ : BufTy).Contents (Elt F) → (⟨S_, .f32⟩ : BufTy).Contents (Elt F) → (⟨S1, .f32⟩ : BufTy).Contents (Elt F))),
   (nullary main_cst_3 (constant S_ .f32 0xFF800000#32)),
   (unary main_cst_3 main_v9 (broadcastInDim S1 ![] bcast_S_S1 : (⟨S_, .f32⟩ : BufTy).Contents (Elt F) → (⟨S1, .f32⟩ : BufTy).Contents (Elt F))),
   (binary main_v9 main_v8 main_v10 (maximumf : (⟨S1, .f32⟩ : BufTy).Contents (Elt F) → (⟨S1, .f32⟩ : BufTy).Contents (Elt F) → (⟨S1, .f32⟩ : BufTy).Contents (Elt F))),
   (unary main_v10 main_v11 (broadcastInDim S1x1 ![0] bcast_S1_S1x1_0 : (⟨S1, .f32⟩ : BufTy).Contents (Elt F) → (⟨S1x1, .f32⟩ : BufTy).Contents (Elt F))),
   (unary main_v11 main_v12 (broadcastInDim S1x8 ![0, 1] bcast_S1x1_S1x8_0_1 : (⟨S1x1, .f32⟩ : BufTy).Contents (Elt F) → (⟨S1x8, .f32⟩ : BufTy).Contents (Elt F))),
   (binary main_v7 main_v12 main_v13 (subf : (⟨S1x8, .f32⟩ : BufTy).Contents (Elt F) → (⟨S1x8, .f32⟩ : BufTy).Contents (Elt F) → (⟨S1x8, .f32⟩ : BufTy).Contents (Elt F))),
   (unary main_v13 main_v14 (Host.exp : (⟨S1x8, .f32⟩ : BufTy).Contents (Elt F) → (⟨S1x8, .f32⟩ : BufTy).Contents (Elt F))),
   (nullary main_cst_4 (constant S_ .f32 0x00000000#32)),
   (binary main_v14 main_cst_4 main_v15 ((fun x v => Host.reduceAdd x v reducesTo_S1x8_S1_d1 h_S_) : (⟨S1x8, .f32⟩ : BufTy).Contents (Elt F) → (⟨S_, .f32⟩ : BufTy).Contents (Elt F) → (⟨S1, .f32⟩ : BufTy).Contents (Elt F))),
   (unary main_v15 main_v16 (broadcastInDim S1x1 ![0] bcast_S1_S1x1_0 : (⟨S1, .f32⟩ : BufTy).Contents (Elt F) → (⟨S1x1, .f32⟩ : BufTy).Contents (Elt F))),
   (unary main_v16 main_v17 (broadcastInDim S1x8 ![0, 1] bcast_S1x1_S1x8_0_1 : (⟨S1x1, .f32⟩ : BufTy).Contents (Elt F) → (⟨S1x8, .f32⟩ : BufTy).Contents (Elt F))),
   (binary main_v14 main_v17 main_v18 (Host.divf : (⟨S1x8, .f32⟩ : BufTy).Contents (Elt F) → (⟨S1x8, .f32⟩ : BufTy).Contents (Elt F) → (⟨S1x8, .f32⟩ : BufTy).Contents (Elt F))),
   (unary main_arg1 main_v19 (broadcastInDim S1x8 ![1] bcast_S8_S1x8_1 : (⟨S8, .f32⟩ : BufTy).Contents (Elt F) → (⟨S1x8, .f32⟩ : BufTy).Contents (Elt F))),
   (nullary main_cst_5 (constant S_ .f32 0x3F000000#32)),
   (unary main_cst_5 main_v20 (broadcastInDim S1x8 ![] bcast_S_S1x8 : (⟨S_, .f32⟩ : BufTy).Contents (Elt F) → (⟨S1x8, .f32⟩ : BufTy).Contents (Elt F))),
   (binary main_v20 main_v19 main_v21 (mulf : (⟨S1x8, .f32⟩ : BufTy).Contents (Elt F) → (⟨S1x8, .f32⟩ : BufTy).Contents (Elt F) → (⟨S1x8, .f32⟩ : BufTy).Contents (Elt F))),
   (nullary main_cst_6 (constant S_ .f32 0x3F000000#32)),
   (unary main_cst_6 main_v22 (broadcastInDim S1x8 ![] bcast_S_S1x8 : (⟨S_, .f32⟩ : BufTy).Contents (Elt F) → (⟨S1x8, .f32⟩ : BufTy).Contents (Elt F))),
   (binary main_v22 main_v18 main_v23 (mulf : (⟨S1x8, .f32⟩ : BufTy).Contents (Elt F) → (⟨S1x8, .f32⟩ : BufTy).Contents (Elt F) → (⟨S1x8, .f32⟩ : BufTy).Contents (Elt F))),
   (binary main_v21 main_v23 main_v24 (addf : (⟨S1x8, .f32⟩ : BufTy).Contents (Elt F) → (⟨S1x8, .f32⟩ : BufTy).Contents (Elt F) → (⟨S1x8, .f32⟩ : BufTy).Contents (Elt F))),
   (nullary main_cst_7 (constant S_ .f32 0xFF800000#32)),
   (binary main_v24 main_cst_7 main_v25 ((fun x v => Host.reduce FloatOps.maximumf x v reducesTo_S1x8_S1_d1 h_S_) : (⟨S1x8, .f32⟩ : BufTy).Contents (Elt F) → (⟨S_, .f32⟩ : BufTy).Contents (Elt F) → (⟨S1, .f32⟩ : BufTy).Contents (Elt F))),
   (nullary main_cst_8 (constant S_ .f32 0xFF800000#32)),
   (unary main_cst_8 main_v26 (broadcastInDim S1 ![] bcast_S_S1 : (⟨S_, .f32⟩ : BufTy).Contents (Elt F) → (⟨S1, .f32⟩ : BufTy).Contents (Elt F))),
   (binary main_v26 main_v25 main_v27 (maximumf : (⟨S1, .f32⟩ : BufTy).Contents (Elt F) → (⟨S1, .f32⟩ : BufTy).Contents (Elt F) → (⟨S1, .f32⟩ : BufTy).Contents (Elt F))),
   (unary main_v27 main_v28 (broadcastInDim S1x1 ![0] bcast_S1_S1x1_0 : (⟨S1, .f32⟩ : BufTy).Contents (Elt F) → (⟨S1x1, .f32⟩ : BufTy).Contents (Elt F))),
   (unary main_v28 main_v29 (broadcastInDim S1x8 ![0, 1] bcast_S1x1_S1x8_0_1 : (⟨S1x1, .f32⟩ : BufTy).Contents (Elt F) → (⟨S1x8, .f32⟩ : BufTy).Contents (Elt F))),
   (binary main_v24 main_v29 main_v30 (subf : (⟨S1x8, .f32⟩ : BufTy).Contents (Elt F) → (⟨S1x8, .f32⟩ : BufTy).Contents (Elt F) → (⟨S1x8, .f32⟩ : BufTy).Contents (Elt F))),
   (unary main_v30 main_v31 (Host.exp : (⟨S1x8, .f32⟩ : BufTy).Contents (Elt F) → (⟨S1x8, .f32⟩ : BufTy).Contents (Elt F))),
   (nullary main_cst_9 (constant S_ .f32 0x00000000#32)),
   (binary main_v31 main_cst_9 main_v32 ((fun x v => Host.reduceAdd x v reducesTo_S1x8_S1_d1 h_S_) : (⟨S1x8, .f32⟩ : BufTy).Contents (Elt F) → (⟨S_, .f32⟩ : BufTy).Contents (Elt F) → (⟨S1, .f32⟩ : BufTy).Contents (Elt F))),
   (unary main_v32 main_v33 (broadcastInDim S1x1 ![0] bcast_S1_S1x1_0 : (⟨S1, .f32⟩ : BufTy).Contents (Elt F) → (⟨S1x1, .f32⟩ : BufTy).Contents (Elt F))),
   (unary main_v33 main_v34 (broadcastInDim S1x8 ![0, 1] bcast_S1x1_S1x8_0_1 : (⟨S1x1, .f32⟩ : BufTy).Contents (Elt F) → (⟨S1x8, .f32⟩ : BufTy).Contents (Elt F))),
   (binary main_v31 main_v34 main_v35 (Host.divf : (⟨S1x8, .f32⟩ : BufTy).Contents (Elt F) → (⟨S1x8, .f32⟩ : BufTy).Contents (Elt F) → (⟨S1x8, .f32⟩ : BufTy).Contents (Elt F))),
   (unary main_v35 main_v36 (broadcastInDim S128x8 ![0, 1] bcast_S1x8_S128x8_0_1 : (⟨S1x8, .f32⟩ : BufTy).Contents (Elt F) → (⟨S128x8, .f32⟩ : BufTy).Contents (Elt F))),
   (unary main_v36 main_v37 (Host.log : (⟨S128x8, .f32⟩ : BufTy).Contents (Elt F) → (⟨S128x8, .f32⟩ : BufTy).Contents (Elt F))),
   (nullary main_c_10 (constantI S_ 32 0#32))]

theorem main.run0_fine : Fine (main.run0 (F := F)) :=
  fine_cons (nullary_bufs_sub ..) rfl <| fine_cons (nullary_bufs_sub ..) rfl <| fine_cons (binary_bufs_sub ..) rfl <| fine_cons (unary_bufs_sub ..) rfl <| fine_cons (unary_bufs_sub ..) rfl <| fine_cons (nullary_bufs_sub ..) rfl <| fine_cons (binary_bufs_sub ..) rfl <| fine_cons (unary_bufs_sub ..) rfl <| fine_cons (unary_bufs_sub ..) rfl <| fine_cons (binary_bufs_sub ..) rfl <| fine_cons (nullary_bufs_sub ..) rfl <| fine_cons (unary_bufs_sub ..) rfl <| fine_cons (nullary_bufs_sub ..) rfl <| fine_cons (binary_bufs_sub ..) rfl <| fine_cons (nullary_bufs_sub ..) rfl <| fine_cons (unary_bufs_sub ..) rfl <| fine_cons (binary_bufs_sub ..) rfl <| fine_cons (unary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (unary_bufs_sub ..) rfl <| fine_cons (unary_bufs_sub ..) rfl <| fine_cons (binary_bufs_sub ..) rfl <| fine_cons (unary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (nullary_bufs_sub ..) rfl <| fine_cons (binary_bufs_sub ..) rfl <| fine_cons (nullary_bufs_sub ..) rfl <| fine_cons (unary_bufs_sub ..) rfl <| fine_cons (binary_bufs_sub ..) rfl <| fine_cons (unary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (unary_bufs_sub ..) rfl <| fine_cons (unary_bufs_sub ..) rfl <| fine_cons (binary_bufs_sub ..) rfl <| fine_cons (unary_bufs_sub ..) rfl <| fine_cons (unary_bufs_sub ..) rfl <| fine_cons (nullary_bufs_sub ..) rfl <| fine_nil

def main.run1 : List (HloOp τ sig (Elt F)) :=
  [(binary main_v39 main_v37 main_v40 (addf : (⟨S128x8, .f32⟩ : BufTy).Contents (Elt F) → (⟨S128x8, .f32⟩ : BufTy).Contents (Elt F) → (⟨S128x8, .f32⟩ : BufTy).Contents (Elt F)))]

theorem main.run1_fine : Fine (main.run1 (F := F)) :=
  fine_cons (binary_bufs_sub ..) rfl <| fine_nil

def main.run2 : List (HloOp τ sig (Elt F)) :=
  [(nullary main_c_11 (constantI S_ 32 0#32)),
   (unary main_c_11 main_v42 (broadcastInDim S128 ![] bcast_S_S128 : (⟨S_, .i32⟩ : BufTy).Contents (Elt F) → (⟨S128, .i32⟩ : BufTy).Contents (Elt F))),
   (binary main_v41 main_v42 main_v43 (cmpi .eq : (⟨S128, .i32⟩ : BufTy).Contents (Elt F) → (⟨S128, .i32⟩ : BufTy).Contents (Elt F) → (⟨S128, .i1⟩ : BufTy).Contents (Elt F))),
   (unary main_v43 main_v44 (broadcastInDim S128x1x1x1 ![0] bcast_S128_S128x1x1x1_0 : (⟨S128, .i1⟩ : BufTy).Contents (Elt F) → (⟨S128x1x1x1, .i1⟩ : BufTy).Contents (Elt F)))]

theorem main.run2_fine : Fine (main.run2 (F := F)) :=
  fine_cons (nullary_bufs_sub ..) rfl <| fine_cons (unary_bufs_sub ..) rfl <| fine_cons (binary_bufs_sub ..) rfl <| fine_cons (unary_bufs_sub ..) rfl <| fine_nil

def main.run3 : List (HloOp τ sig (Elt F)) :=
  [(nullary main_c_12 (constantI S_ 32 1#32)),
   (unary main_c_12 main_v46 (broadcastInDim S128 ![] bcast_S_S128 : (⟨S_, .i32⟩ : BufTy).Contents (Elt F) → (⟨S128, .i32⟩ : BufTy).Contents (Elt F))),
   (binary main_v41 main_v46 main_v47 (cmpi .eq : (⟨S128, .i32⟩ : BufTy).Contents (Elt F) → (⟨S128, .i32⟩ : BufTy).Contents (Elt F) → (⟨S128, .i1⟩ : BufTy).Contents (Elt F))),
   (unary main_v47 main_v48 (broadcastInDim S128x1x1x1 ![0] bcast_S128_S128x1x1x1_0 : (⟨S128, .i1⟩ : BufTy).Contents (Elt F) → (⟨S128x1x1x1, .i1⟩ : BufTy).Contents (Elt F)))]

theorem main.run3_fine : Fine (main.run3 (F := F)) :=
  fine_cons (nullary_bufs_sub ..) rfl <| fine_cons (unary_bufs_sub ..) rfl <| fine_cons (binary_bufs_sub ..) rfl <| fine_cons (unary_bufs_sub ..) rfl <| fine_nil

def main.run4 : List (HloOp τ sig (Elt F)) :=
  [(nullary main_c_13 (constantI S_ 32 2#32)),
   (unary main_c_13 main_v51 (broadcastInDim S128 ![] bcast_S_S128 : (⟨S_, .i32⟩ : BufTy).Contents (Elt F) → (⟨S128, .i32⟩ : BufTy).Contents (Elt F))),
   (binary main_v41 main_v51 main_v52 (cmpi .eq : (⟨S128, .i32⟩ : BufTy).Contents (Elt F) → (⟨S128, .i32⟩ : BufTy).Contents (Elt F) → (⟨S128, .i1⟩ : BufTy).Contents (Elt F))),
   (unary main_v52 main_v53 (broadcastInDim S128x1x1x1 ![0] bcast_S128_S128x1x1x1_0 : (⟨S128, .i1⟩ : BufTy).Contents (Elt F) → (⟨S128x1x1x1, .i1⟩ : BufTy).Contents (Elt F)))]

theorem main.run4_fine : Fine (main.run4 (F := F)) :=
  fine_cons (nullary_bufs_sub ..) rfl <| fine_cons (unary_bufs_sub ..) rfl <| fine_cons (binary_bufs_sub ..) rfl <| fine_cons (unary_bufs_sub ..) rfl <| fine_nil

def main.run5 : List (HloOp τ sig (Elt F)) :=
  [(nullary main_c_14 (constantI S_ 32 3#32)),
   (unary main_c_14 main_v56 (broadcastInDim S128 ![] bcast_S_S128 : (⟨S_, .i32⟩ : BufTy).Contents (Elt F) → (⟨S128, .i32⟩ : BufTy).Contents (Elt F))),
   (binary main_v41 main_v56 main_v57 (cmpi .eq : (⟨S128, .i32⟩ : BufTy).Contents (Elt F) → (⟨S128, .i32⟩ : BufTy).Contents (Elt F) → (⟨S128, .i1⟩ : BufTy).Contents (Elt F))),
   (unary main_v57 main_v58 (broadcastInDim S128x1x1x1 ![0] bcast_S128_S128x1x1x1_0 : (⟨S128, .i1⟩ : BufTy).Contents (Elt F) → (⟨S128x1x1x1, .i1⟩ : BufTy).Contents (Elt F))),
   (nullary main_cst_15 (constant S_ .f32 0x41200000#32)),
   (binary main_arg2 main_cst_15 main_v59 (Host.divf : (⟨S_, .f32⟩ : BufTy).Contents (Elt F) → (⟨S_, .f32⟩ : BufTy).Contents (Elt F) → (⟨S_, .f32⟩ : BufTy).Contents (Elt F))),
   (nullary main_cst_16 (constant S_ .f32 0x3E99999A#32)),
   (binary main_cst_16 main_v59 main_v60 (mulf : (⟨S_, .f32⟩ : BufTy).Contents (Elt F) → (⟨S_, .f32⟩ : BufTy).Contents (Elt F) → (⟨S_, .f32⟩ : BufTy).Contents (Elt F))),
   (unary main_v60 main_v61 (broadcastInDim S128x3x224x224 ![] bcast_S_S128x3x224x224 : (⟨S_, .f32⟩ : BufTy).Contents (Elt F) → (⟨S128x3x224x224, .f32⟩ : BufTy).Contents (Elt F))),
   (binary main_v55 main_v61 main_v62 (addf : (⟨S128x3x224x224, .f32⟩ : BufTy).Contents (Elt F) → (⟨S128x3x224x224, .f32⟩ : BufTy).Contents (Elt F) → (⟨S128x3x224x224, .f32⟩ : BufTy).Contents (Elt F))),
   (nullary main_cst_17 (constant S_ .f32 0x00000000#32)),
   (nullary main_cst_18 (constant S_ .f32 0x3F800000#32))]

theorem main.run5_fine : Fine (main.run5 (F := F)) :=
  fine_cons (nullary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (nullary_bufs_sub ..) rfl <| fine_cons (binary_bufs_sub ..) rfl <| fine_cons (unary_bufs_sub ..) rfl <| fine_cons (binary_bufs_sub ..) rfl <| fine_cons (nullary_bufs_sub ..) rfl <| fine_cons (nullary_bufs_sub ..) rfl <| fine_nil

def main.run6 : List (HloOp τ sig (Elt F)) :=
  [(nullary main_c_19 (constantI S_ 32 4#32)),
   (unary main_c_19 main_v65 (broadcastInDim S128 ![] bcast_S_S128 : (⟨S_, .i32⟩ : BufTy).Contents (Elt F) → (⟨S128, .i32⟩ : BufTy).Contents (Elt F))),
   (binary main_v41 main_v65 main_v66 (cmpi .eq : (⟨S128, .i32⟩ : BufTy).Contents (Elt F) → (⟨S128, .i32⟩ : BufTy).Contents (Elt F) → (⟨S128, .i1⟩ : BufTy).Contents (Elt F))),
   (unary main_v66 main_v67 (broadcastInDim S128x1x1x1 ![0] bcast_S128_S128x1x1x1_0 : (⟨S128, .i1⟩ : BufTy).Contents (Elt F) → (⟨S128x1x1x1, .i1⟩ : BufTy).Contents (Elt F))),
   (nullary main_cst_20 (constant S_ .f32 0x00000000#32)),
   (binary main_v64 main_cst_20 main_v68 ((fun x v => Host.reduceAdd x v reducesTo_S128x3x224x224_S128_d1_2_3 h_S_) : (⟨S128x3x224x224, .f32⟩ : BufTy).Contents (Elt F) → (⟨S_, .f32⟩ : BufTy).Contents (Elt F) → (⟨S128, .f32⟩ : BufTy).Contents (Elt F))),
   (unary main_v68 main_v69 (broadcastInDim S128x1x1x1 ![0] bcast_S128_S128x1x1x1_0 : (⟨S128, .f32⟩ : BufTy).Contents (Elt F) → (⟨S128x1x1x1, .f32⟩ : BufTy).Contents (Elt F))),
   (nullary main_cst_21 (constant S_ .f32 0x48130000#32)),
   (unary main_cst_21 main_v70 (broadcastInDim S128x1x1x1 ![] bcast_S_S128x1x1x1 : (⟨S_, .f32⟩ : BufTy).Contents (Elt F) → (⟨S128x1x1x1, .f32⟩ : BufTy).Contents (Elt F))),
   (binary main_v69 main_v70 main_v71 (Host.divf : (⟨S128x1x1x1, .f32⟩ : BufTy).Contents (Elt F) → (⟨S128x1x1x1, .f32⟩ : BufTy).Contents (Elt F) → (⟨S128x1x1x1, .f32⟩ : BufTy).Contents (Elt F))),
   (unary main_v71 main_v72 (broadcastInDim S128x3x224x224 ![0, 1, 2, 3] bcast_S128x1x1x1_S128x3x224x224_0_1_2_3 : (⟨S128x1x1x1, .f32⟩ : BufTy).Contents (Elt F) → (⟨S128x3x224x224, .f32⟩ : BufTy).Contents (Elt F))),
   (binary main_v64 main_v72 main_v73 (subf : (⟨S128x3x224x224, .f32⟩ : BufTy).Contents (Elt F) → (⟨S128x3x224x224, .f32⟩ : BufTy).Contents (Elt F) → (⟨S128x3x224x224, .f32⟩ : BufTy).Contents (Elt F))),
   (nullary main_cst_22 (constant S_ .f32 0x41200000#32)),
   (binary main_arg2 main_cst_22 main_v74 (Host.divf : (⟨S_, .f32⟩ : BufTy).Contents (Elt F) → (⟨S_, .f32⟩ : BufTy).Contents (Elt F) → (⟨S_, .f32⟩ : BufTy).Contents (Elt F))),
   (nullary main_cst_23 (constant S_ .f32 0x3F800000#32)),
   (binary main_cst_23 main_v74 main_v75 (addf : (⟨S_, .f32⟩ : BufTy).Contents (Elt F) → (⟨S_, .f32⟩ : BufTy).Contents (Elt F) → (⟨S_, .f32⟩ : BufTy).Contents (Elt F))),
   (unary main_v75 main_v76 (broadcastInDim S128x3x224x224 ![] bcast_S_S128x3x224x224 : (⟨S_, .f32⟩ : BufTy).Contents (Elt F) → (⟨S128x3x224x224, .f32⟩ : BufTy).Contents (Elt F))),
   (binary main_v73 main_v76 main_v77 (mulf : (⟨S128x3x224x224, .f32⟩ : BufTy).Contents (Elt F) → (⟨S128x3x224x224, .f32⟩ : BufTy).Contents (Elt F) → (⟨S128x3x224x224, .f32⟩ : BufTy).Contents (Elt F))),
   (unary main_v71 main_v78 (broadcastInDim S128x3x224x224 ![0, 1, 2, 3] bcast_S128x1x1x1_S128x3x224x224_0_1_2_3 : (⟨S128x1x1x1, .f32⟩ : BufTy).Contents (Elt F) → (⟨S128x3x224x224, .f32⟩ : BufTy).Contents (Elt F))),
   (binary main_v77 main_v78 main_v79 (addf : (⟨S128x3x224x224, .f32⟩ : BufTy).Contents (Elt F) → (⟨S128x3x224x224, .f32⟩ : BufTy).Contents (Elt F) → (⟨S128x3x224x224, .f32⟩ : BufTy).Contents (Elt F))),
   (nullary main_cst_24 (constant S_ .f32 0x00000000#32)),
   (nullary main_cst_25 (constant S_ .f32 0x3F800000#32))]

theorem main.run6_fine : Fine (main.run6 (F := F)) :=
  fine_cons (nullary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (unary_bufs_sub ..) rfl <| fine_cons (nullary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_cons (binary_bufs_sub ..) rfl <| fine_cons (nullary_bufs_sub ..) rfl <| fine_cons (binary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_cons (nullary_bufs_sub ..) rfl <| fine_nil

def main.run7 : List (HloOp τ sig (Elt F)) :=
  [(nullary main_c_26 (constantI S_ 32 5#32)),
   (unary main_c_26 main_v82 (broadcastInDim S128 ![] bcast_S_S128 : (⟨S_, .i32⟩ : BufTy).Contents (Elt F) → (⟨S128, .i32⟩ : BufTy).Contents (Elt F))),
   (binary main_v41 main_v82 main_v83 (cmpi .eq : (⟨S128, .i32⟩ : BufTy).Contents (Elt F) → (⟨S128, .i32⟩ : BufTy).Contents (Elt F) → (⟨S128, .i1⟩ : BufTy).Contents (Elt F))),
   (unary main_v83 main_v84 (broadcastInDim S128x1x1x1 ![0] bcast_S128_S128x1x1x1_0 : (⟨S128, .i1⟩ : BufTy).Contents (Elt F) → (⟨S128x1x1x1, .i1⟩ : BufTy).Contents (Elt F))),
   (nullary main_cst_27 (constant S_ .f32 0x3F800000#32)),
   (unary main_cst_27 main_v85 (broadcastInDim S128x3x224x224 ![] bcast_S_S128x3x224x224 : (⟨S_, .f32⟩ : BufTy).Contents (Elt F) → (⟨S128x3x224x224, .f32⟩ : BufTy).Contents (Elt F))),
   (binary main_v85 main_v81 main_v86 (subf : (⟨S128x3x224x224, .f32⟩ : BufTy).Contents (Elt F) → (⟨S128x3x224x224, .f32⟩ : BufTy).Contents (Elt F) → (⟨S128x3x224x224, .f32⟩ : BufTy).Contents (Elt F)))]

theorem main.run7_fine : Fine (main.run7 (F := F)) :=
  fine_cons (nullary_bufs_sub ..) rfl <| fine_cons (unary_bufs_sub ..) rfl <| fine_cons (binary_bufs_sub ..) rfl <| fine_cons (unary_bufs_sub ..) rfl <| fine_cons (nullary_bufs_sub ..) rfl <| fine_cons (unary_bufs_sub ..) rfl <| fine_cons (binary_bufs_sub ..) rfl <| fine_nil

def main.run8 : List (HloOp τ sig (Elt F)) :=
  [(nullary main_c_28 (constantI S_ 32 6#32)),
   (unary main_c_28 main_v88 (broadcastInDim S128 ![] bcast_S_S128 : (⟨S_, .i32⟩ : BufTy).Contents (Elt F) → (⟨S128, .i32⟩ : BufTy).Contents (Elt F)))]

theorem main.run8_fine : Fine (main.run8 (F := F)) :=
  fine_cons (nullary_bufs_sub ..) rfl <| fine_cons (unary_bufs_sub ..) rfl <| fine_nil

def main.run9 : List (HloOp τ sig (Elt F)) :=
  [(binary main_v41 main_v88 main_v89 (cmpi .eq : (⟨S128, .i32⟩ : BufTy).Contents (Elt F) → (⟨S128, .i32⟩ : BufTy).Contents (Elt F) → (⟨S128, .i1⟩ : BufTy).Contents (Elt F))),
   (unary main_v89 main_v90 (broadcastInDim S128x1x1x1 ![0] bcast_S128_S128x1x1x1_0 : (⟨S128, .i1⟩ : BufTy).Contents (Elt F) → (⟨S128x1x1x1, .i1⟩ : BufTy).Contents (Elt F))),
   (nullary main_cst_29 (constant S_ .f32 0x41200000#32)),
   (binary main_arg2 main_cst_29 main_v91 (Host.divf : (⟨S_, .f32⟩ : BufTy).Contents (Elt F) → (⟨S_, .f32⟩ : BufTy).Contents (Elt F) → (⟨S_, .f32⟩ : BufTy).Contents (Elt F))),
   (nullary main_cst_30 (constant S_ .f32 0x3F000000#32)),
   (binary main_cst_30 main_v91 main_v92 (mulf : (⟨S_, .f32⟩ : BufTy).Contents (Elt F) → (⟨S_, .f32⟩ : BufTy).Contents (Elt F) → (⟨S_, .f32⟩ : BufTy).Contents (Elt F))),
   (nullary main_cst_31 (constant S_ .f32 0x3F800000#32)),
   (binary main_cst_31 main_v92 main_v93 (subf : (⟨S_, .f32⟩ : BufTy).Contents (Elt F) → (⟨S_, .f32⟩ : BufTy).Contents (Elt F) → (⟨S_, .f32⟩ : BufTy).Contents (Elt F))),
   (unary main_v93 main_v94 (broadcastInDim S128x3x224x224 ![] bcast_S_S128x3x224x224 : (⟨S_, .f32⟩ : BufTy).Contents (Elt F) → (⟨S128x3x224x224, .f32⟩ : BufTy).Contents (Elt F))),
   (binary main_v87 main_v94 main_v95 (cmpf .olt : (⟨S128x3x224x224, .f32⟩ : BufTy).Contents (Elt F) → (⟨S128x3x224x224, .f32⟩ : BufTy).Contents (Elt F) → (⟨S128x3x224x224, .i1⟩ : BufTy).Contents (Elt F))),
   (nullary main_cst_32 (constant S_ .f32 0x3F800000#32)),
   (unary main_cst_32 main_v96 (broadcastInDim S128x3x224x224 ![] bcast_S_S128x3x224x224 : (⟨S_, .f32⟩ : BufTy).Contents (Elt F) → (⟨S128x3x224x224, .f32⟩ : BufTy).Contents (Elt F))),
   (binary main_v96 main_v87 main_v97 (subf : (⟨S128x3x224x224, .f32⟩ : BufTy).Contents (Elt F) → (⟨S128x3x224x224, .f32⟩ : BufTy).Contents (Elt F) → (⟨S128x3x224x224, .f32⟩ : BufTy).Contents (Elt F)))]

theorem main.run9_fine : Fine (main.run9 (F := F)) :=
  fine_cons (binary_bufs_sub ..) rfl <| fine_cons (unary_bufs_sub ..) rfl <| fine_cons (nullary_bufs_sub ..) rfl <| fine_cons (binary_bufs_sub ..) rfl <| fine_cons (nullary_bufs_sub ..) rfl <| fine_cons (binary_bufs_sub ..) rfl <| fine_cons (nullary_bufs_sub ..) rfl <| fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_nil

def main.run10 : List (HloOp τ sig (Elt F)) :=
  [(nullary main_c_33 (constantI S_ 32 7#32)),
   (unary main_c_33 main_v100 (broadcastInDim S128 ![] bcast_S_S128 : (⟨S_, .i32⟩ : BufTy).Contents (Elt F) → (⟨S128, .i32⟩ : BufTy).Contents (Elt F))),
   (binary main_v41 main_v100 main_v101 (cmpi .eq : (⟨S128, .i32⟩ : BufTy).Contents (Elt F) → (⟨S128, .i32⟩ : BufTy).Contents (Elt F) → (⟨S128, .i1⟩ : BufTy).Contents (Elt F))),
   (unary main_v101 main_v102 (broadcastInDim S128x1x1x1 ![0] bcast_S128_S128x1x1x1_0 : (⟨S128, .i1⟩ : BufTy).Contents (Elt F) → (⟨S128x1x1x1, .i1⟩ : BufTy).Contents (Elt F))),
   (nullary main_cst_34 (constant S_ .f32 0x41200000#32)),
   (binary main_arg2 main_cst_34 main_v103 (Host.divf : (⟨S_, .f32⟩ : BufTy).Contents (Elt F) → (⟨S_, .f32⟩ : BufTy).Contents (Elt F) → (⟨S_, .f32⟩ : BufTy).Contents (Elt F))),
   (nullary main_cst_35 (constant S_ .f32 0x3F800000#32)),
   (binary main_cst_35 main_v103 main_v104 (addf : (⟨S_, .f32⟩ : BufTy).Contents (Elt F) → (⟨S_, .f32⟩ : BufTy).Contents (Elt F) → (⟨S_, .f32⟩ : BufTy).Contents (Elt F))),
   (unary main_v104 main_v105 (broadcastInDim S128x3x224x224 ![] bcast_S_S128x3x224x224 : (⟨S_, .f32⟩ : BufTy).Contents (Elt F) → (⟨S128x3x224x224, .f32⟩ : BufTy).Contents (Elt F))),
   (binary main_v99 main_v105 main_v106 (mulf : (⟨S128x3x224x224, .f32⟩ : BufTy).Contents (Elt F) → (⟨S128x3x224x224, .f32⟩ : BufTy).Contents (Elt F) → (⟨S128x3x224x224, .f32⟩ : BufTy).Contents (Elt F))),
   (unary main_v106 main_v107 (Host.tanh : (⟨S128x3x224x224, .f32⟩ : BufTy).Contents (Elt F) → (⟨S128x3x224x224, .f32⟩ : BufTy).Contents (Elt F)))]

theorem main.run10_fine : Fine (main.run10 (F := F)) :=
  fine_cons (nullary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (nullary_bufs_sub ..) rfl <| fine_cons (binary_bufs_sub ..) rfl <| fine_cons (unary_bufs_sub ..) rfl <| fine_cons (binary_bufs_sub ..) rfl <| fine_cons (unary_bufs_sub ..) rfl <| fine_nil

def main.run11 : List (HloOp τ sig (Elt F)) :=
  [(nullary main_cst_36 (constant S_ .f32 0x3F800000#32)),
   (unary main_cst_36 main_v109 (broadcastInDim S1x8 ![] bcast_S_S1x8 : (⟨S_, .f32⟩ : BufTy).Contents (Elt F) → (⟨S1x8, .f32⟩ : BufTy).Contents (Elt F))),
   (nullary main_cst_37 (constant S_ .f32 0xFF800000#32)),
   (binary main_v109 main_cst_37 main_v110 ((fun x v => Host.reduce FloatOps.maximumf x v reducesTo_S1x8_S1_d1 h_S_) : (⟨S1x8, .f32⟩ : BufTy).Contents (Elt F) → (⟨S_, .f32⟩ : BufTy).Contents (Elt F) → (⟨S1, .f32⟩ : BufTy).Contents (Elt F))),
   (nullary main_cst_38 (constant S_ .f32 0xFF800000#32)),
   (unary main_cst_38 main_v111 (broadcastInDim S1 ![] bcast_S_S1 : (⟨S_, .f32⟩ : BufTy).Contents (Elt F) → (⟨S1, .f32⟩ : BufTy).Contents (Elt F))),
   (binary main_v111 main_v110 main_v112 (maximumf : (⟨S1, .f32⟩ : BufTy).Contents (Elt F) → (⟨S1, .f32⟩ : BufTy).Contents (Elt F) → (⟨S1, .f32⟩ : BufTy).Contents (Elt F))),
   (unary main_v112 main_v113 (broadcastInDim S1x1 ![0] bcast_S1_S1x1_0 : (⟨S1, .f32⟩ : BufTy).Contents (Elt F) → (⟨S1x1, .f32⟩ : BufTy).Contents (Elt F))),
   (unary main_v113 main_v114 (broadcastInDim S1x8 ![0, 1] bcast_S1x1_S1x8_0_1 : (⟨S1x1, .f32⟩ : BufTy).Contents (Elt F) → (⟨S1x8, .f32⟩ : BufTy).Contents (Elt F))),
   (binary main_v109 main_v114 main_v115 (subf : (⟨S1x8, .f32⟩ : BufTy).Contents (Elt F) → (⟨S1x8, .f32⟩ : BufTy).Contents (Elt F) → (⟨S1x8, .f32⟩ : BufTy).Contents (Elt F))),
   (unary main_v115 main_v116 (Host.exp : (⟨S1x8, .f32⟩ : BufTy).Contents (Elt F) → (⟨S1x8, .f32⟩ : BufTy).Contents (Elt F))),
   (nullary main_cst_39 (constant S_ .f32 0x00000000#32)),
   (binary main_v116 main_cst_39 main_v117 ((fun x v => Host.reduceAdd x v reducesTo_S1x8_S1_d1 h_S_) : (⟨S1x8, .f32⟩ : BufTy).Contents (Elt F) → (⟨S_, .f32⟩ : BufTy).Contents (Elt F) → (⟨S1, .f32⟩ : BufTy).Contents (Elt F))),
   (unary main_v117 main_v118 (broadcastInDim S1x1 ![0] bcast_S1_S1x1_0 : (⟨S1, .f32⟩ : BufTy).Contents (Elt F) → (⟨S1x1, .f32⟩ : BufTy).Contents (Elt F))),
   (unary main_v118 main_v119 (broadcastInDim S1x8 ![0, 1] bcast_S1x1_S1x8_0_1 : (⟨S1x1, .f32⟩ : BufTy).Contents (Elt F) → (⟨S1x8, .f32⟩ : BufTy).Contents (Elt F))),
   (binary main_v116 main_v119 main_v120 (Host.divf : (⟨S1x8, .f32⟩ : BufTy).Contents (Elt F) → (⟨S1x8, .f32⟩ : BufTy).Contents (Elt F) → (⟨S1x8, .f32⟩ : BufTy).Contents (Elt F))),
   (unary main_arg1 main_v121 (broadcastInDim S1x8 ![1] bcast_S8_S1x8_1 : (⟨S8, .f32⟩ : BufTy).Contents (Elt F) → (⟨S1x8, .f32⟩ : BufTy).Contents (Elt F))),
   (nullary main_cst_40 (constant S_ .f32 0x3F000000#32)),
   (unary main_cst_40 main_v122 (broadcastInDim S1x8 ![] bcast_S_S1x8 : (⟨S_, .f32⟩ : BufTy).Contents (Elt F) → (⟨S1x8, .f32⟩ : BufTy).Contents (Elt F))),
   (binary main_v122 main_v121 main_v123 (mulf : (⟨S1x8, .f32⟩ : BufTy).Contents (Elt F) → (⟨S1x8, .f32⟩ : BufTy).Contents (Elt F) → (⟨S1x8, .f32⟩ : BufTy).Contents (Elt F))),
   (nullary main_cst_41 (constant S_ .f32 0x3F000000#32)),
   (unary main_cst_41 main_v124 (broadcastInDim S1x8 ![] bcast_S_S1x8 : (⟨S_, .f32⟩ : BufTy).Contents (Elt F) → (⟨S1x8, .f32⟩ : BufTy).Contents (Elt F))),
   (binary main_v124 main_v120 main_v125 (mulf : (⟨S1x8, .f32⟩ : BufTy).Contents (Elt F) → (⟨S1x8, .f32⟩ : BufTy).Contents (Elt F) → (⟨S1x8, .f32⟩ : BufTy).Contents (Elt F))),
   (binary main_v123 main_v125 main_v126 (addf : (⟨S1x8, .f32⟩ : BufTy).Contents (Elt F) → (⟨S1x8, .f32⟩ : BufTy).Contents (Elt F) → (⟨S1x8, .f32⟩ : BufTy).Contents (Elt F))),
   (nullary main_cst_42 (constant S_ .f32 0xFF800000#32)),
   (binary main_v126 main_cst_42 main_v127 ((fun x v => Host.reduce FloatOps.maximumf x v reducesTo_S1x8_S1_d1 h_S_) : (⟨S1x8, .f32⟩ : BufTy).Contents (Elt F) → (⟨S_, .f32⟩ : BufTy).Contents (Elt F) → (⟨S1, .f32⟩ : BufTy).Contents (Elt F))),
   (nullary main_cst_43 (constant S_ .f32 0xFF800000#32)),
   (unary main_cst_43 main_v128 (broadcastInDim S1 ![] bcast_S_S1 : (⟨S_, .f32⟩ : BufTy).Contents (Elt F) → (⟨S1, .f32⟩ : BufTy).Contents (Elt F))),
   (binary main_v128 main_v127 main_v129 (maximumf : (⟨S1, .f32⟩ : BufTy).Contents (Elt F) → (⟨S1, .f32⟩ : BufTy).Contents (Elt F) → (⟨S1, .f32⟩ : BufTy).Contents (Elt F))),
   (unary main_v129 main_v130 (broadcastInDim S1x1 ![0] bcast_S1_S1x1_0 : (⟨S1, .f32⟩ : BufTy).Contents (Elt F) → (⟨S1x1, .f32⟩ : BufTy).Contents (Elt F))),
   (unary main_v130 main_v131 (broadcastInDim S1x8 ![0, 1] bcast_S1x1_S1x8_0_1 : (⟨S1x1, .f32⟩ : BufTy).Contents (Elt F) → (⟨S1x8, .f32⟩ : BufTy).Contents (Elt F))),
   (binary main_v126 main_v131 main_v132 (subf : (⟨S1x8, .f32⟩ : BufTy).Contents (Elt F) → (⟨S1x8, .f32⟩ : BufTy).Contents (Elt F) → (⟨S1x8, .f32⟩ : BufTy).Contents (Elt F))),
   (unary main_v132 main_v133 (Host.exp : (⟨S1x8, .f32⟩ : BufTy).Contents (Elt F) → (⟨S1x8, .f32⟩ : BufTy).Contents (Elt F)))]

theorem main.run11_fine : Fine (main.run11 (F := F)) :=
  fine_cons (nullary_bufs_sub ..) rfl <| fine_cons (unary_bufs_sub ..) rfl <| fine_cons (nullary_bufs_sub ..) rfl <| fine_cons (binary_bufs_sub ..) rfl <| fine_cons (nullary_bufs_sub ..) rfl <| fine_cons (unary_bufs_sub ..) rfl <| fine_cons (binary_bufs_sub ..) rfl <| fine_cons (unary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (unary_bufs_sub ..) rfl <| fine_cons (unary_bufs_sub ..) rfl <| fine_cons (binary_bufs_sub ..) rfl <| fine_cons (unary_bufs_sub ..) rfl <| fine_cons (nullary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_cons (binary_bufs_sub ..) rfl <| fine_cons (nullary_bufs_sub ..) rfl <| fine_cons (binary_bufs_sub ..) rfl <| fine_cons (nullary_bufs_sub ..) rfl <| fine_cons (unary_bufs_sub ..) rfl <| fine_cons (binary_bufs_sub ..) rfl <| fine_cons (unary_bufs_sub ..) rfl <| fine_cons (unary_bufs_sub ..) rfl <| fine_cons (binary_bufs_sub ..) rfl <| fine_cons (unary_bufs_sub ..) rfl <| fine_nil

def main.run12 : List (HloOp τ sig (Elt F)) :=
  [(nullary main_cst_44 (constant S_ .f32 0x00000000#32)),
   (binary main_v133 main_cst_44 main_v134 ((fun x v => Host.reduceAdd x v reducesTo_S1x8_S1_d1 h_S_) : (⟨S1x8, .f32⟩ : BufTy).Contents (Elt F) → (⟨S_, .f32⟩ : BufTy).Contents (Elt F) → (⟨S1, .f32⟩ : BufTy).Contents (Elt F))),
   (unary main_v134 main_v135 (broadcastInDim S1x1 ![0] bcast_S1_S1x1_0 : (⟨S1, .f32⟩ : BufTy).Contents (Elt F) → (⟨S1x1, .f32⟩ : BufTy).Contents (Elt F))),
   (unary main_v135 main_v136 (broadcastInDim S1x8 ![0, 1] bcast_S1x1_S1x8_0_1 : (⟨S1x1, .f32⟩ : BufTy).Contents (Elt F) → (⟨S1x8, .f32⟩ : BufTy).Contents (Elt F))),
   (binary main_v133 main_v136 main_v137 (Host.divf : (⟨S1x8, .f32⟩ : BufTy).Contents (Elt F) → (⟨S1x8, .f32⟩ : BufTy).Contents (Elt F) → (⟨S1x8, .f32⟩ : BufTy).Contents (Elt F))),
   (unary main_v137 main_v138 (broadcastInDim S128x8 ![0, 1] bcast_S1x8_S128x8_0_1 : (⟨S1x8, .f32⟩ : BufTy).Contents (Elt F) → (⟨S128x8, .f32⟩ : BufTy).Contents (Elt F))),
   (unary main_v138 main_v139 (Host.log : (⟨S128x8, .f32⟩ : BufTy).Contents (Elt F) → (⟨S128x8, .f32⟩ : BufTy).Contents (Elt F))),
   (nullary main_c_45 (constantI S_ 32 1#32))]

theorem main.run12_fine : Fine (main.run12 (F := F)) :=
  fine_cons (nullary_bufs_sub ..) rfl <| fine_cons (binary_bufs_sub ..) rfl <| fine_cons (unary_bufs_sub ..) rfl <| fine_cons (unary_bufs_sub ..) rfl <| fine_cons (binary_bufs_sub ..) rfl <| fine_cons (unary_bufs_sub ..) rfl <| fine_cons (unary_bufs_sub ..) rfl <| fine_cons (nullary_bufs_sub ..) rfl <| fine_nil

def main.run13 : List (HloOp τ sig (Elt F)) :=
  [(binary main_v141 main_v139 main_v142 (addf : (⟨S128x8, .f32⟩ : BufTy).Contents (Elt F) → (⟨S128x8, .f32⟩ : BufTy).Contents (Elt F) → (⟨S128x8, .f32⟩ : BufTy).Contents (Elt F)))]

theorem main.run13_fine : Fine (main.run13 (F := F)) :=
  fine_cons (binary_bufs_sub ..) rfl <| fine_nil

def main.run14 : List (HloOp τ sig (Elt F)) :=
  [(nullary main_c_46 (constantI S_ 32 0#32)),
   (unary main_c_46 main_v144 (broadcastInDim S128 ![] bcast_S_S128 : (⟨S_, .i32⟩ : BufTy).Contents (Elt F) → (⟨S128, .i32⟩ : BufTy).Contents (Elt F))),
   (binary main_v143 main_v144 main_v145 (cmpi .eq : (⟨S128, .i32⟩ : BufTy).Contents (Elt F) → (⟨S128, .i32⟩ : BufTy).Contents (Elt F) → (⟨S128, .i1⟩ : BufTy).Contents (Elt F))),
   (unary main_v145 main_v146 (broadcastInDim S128x1x1x1 ![0] bcast_S128_S128x1x1x1_0 : (⟨S128, .i1⟩ : BufTy).Contents (Elt F) → (⟨S128x1x1x1, .i1⟩ : BufTy).Contents (Elt F)))]

theorem main.run14_fine : Fine (main.run14 (F := F)) :=
  fine_cons (nullary_bufs_sub ..) rfl <| fine_cons (unary_bufs_sub ..) rfl <| fine_cons (binary_bufs_sub ..) rfl <| fine_cons (unary_bufs_sub ..) rfl <| fine_nil

def main.run15 : List (HloOp τ sig (Elt F)) :=
  [(nullary main_c_47 (constantI S_ 32 1#32)),
   (unary main_c_47 main_v148 (broadcastInDim S128 ![] bcast_S_S128 : (⟨S_, .i32⟩ : BufTy).Contents (Elt F) → (⟨S128, .i32⟩ : BufTy).Contents (Elt F))),
   (binary main_v143 main_v148 main_v149 (cmpi .eq : (⟨S128, .i32⟩ : BufTy).Contents (Elt F) → (⟨S128, .i32⟩ : BufTy).Contents (Elt F) → (⟨S128, .i1⟩ : BufTy).Contents (Elt F))),
   (unary main_v149 main_v150 (broadcastInDim S128x1x1x1 ![0] bcast_S128_S128x1x1x1_0 : (⟨S128, .i1⟩ : BufTy).Contents (Elt F) → (⟨S128x1x1x1, .i1⟩ : BufTy).Contents (Elt F)))]

theorem main.run15_fine : Fine (main.run15 (F := F)) :=
  fine_cons (nullary_bufs_sub ..) rfl <| fine_cons (unary_bufs_sub ..) rfl <| fine_cons (binary_bufs_sub ..) rfl <| fine_cons (unary_bufs_sub ..) rfl <| fine_nil

def main.run16 : List (HloOp τ sig (Elt F)) :=
  [(nullary main_c_48 (constantI S_ 32 2#32)),
   (unary main_c_48 main_v153 (broadcastInDim S128 ![] bcast_S_S128 : (⟨S_, .i32⟩ : BufTy).Contents (Elt F) → (⟨S128, .i32⟩ : BufTy).Contents (Elt F))),
   (binary main_v143 main_v153 main_v154 (cmpi .eq : (⟨S128, .i32⟩ : BufTy).Contents (Elt F) → (⟨S128, .i32⟩ : BufTy).Contents (Elt F) → (⟨S128, .i1⟩ : BufTy).Contents (Elt F))),
   (unary main_v154 main_v155 (broadcastInDim S128x1x1x1 ![0] bcast_S128_S128x1x1x1_0 : (⟨S128, .i1⟩ : BufTy).Contents (Elt F) → (⟨S128x1x1x1, .i1⟩ : BufTy).Contents (Elt F)))]

theorem main.run16_fine : Fine (main.run16 (F := F)) :=
  fine_cons (nullary_bufs_sub ..) rfl <| fine_cons (unary_bufs_sub ..) rfl <| fine_cons (binary_bufs_sub ..) rfl <| fine_cons (unary_bufs_sub ..) rfl <| fine_nil

def main.run17 : List (HloOp τ sig (Elt F)) :=
  [(nullary main_c_49 (constantI S_ 32 3#32)),
   (unary main_c_49 main_v158 (broadcastInDim S128 ![] bcast_S_S128 : (⟨S_, .i32⟩ : BufTy).Contents (Elt F) → (⟨S128, .i32⟩ : BufTy).Contents (Elt F))),
   (binary main_v143 main_v158 main_v159 (cmpi .eq : (⟨S128, .i32⟩ : BufTy).Contents (Elt F) → (⟨S128, .i32⟩ : BufTy).Contents (Elt F) → (⟨S128, .i1⟩ : BufTy).Contents (Elt F))),
   (unary main_v159 main_v160 (broadcastInDim S128x1x1x1 ![0] bcast_S128_S128x1x1x1_0 : (⟨S128, .i1⟩ : BufTy).Contents (Elt F) → (⟨S128x1x1x1, .i1⟩ : BufTy).Contents (Elt F))),
   (nullary main_cst_50 (constant S_ .f32 0x41200000#32)),
   (binary main_arg2 main_cst_50 main_v161 (Host.divf : (⟨S_, .f32⟩ : BufTy).Contents (Elt F) → (⟨S_, .f32⟩ : BufTy).Contents (Elt F) → (⟨S_, .f32⟩ : BufTy).Contents (Elt F))),
   (nullary main_cst_51 (constant S_ .f32 0x3E99999A#32)),
   (binary main_cst_51 main_v161 main_v162 (mulf : (⟨S_, .f32⟩ : BufTy).Contents (Elt F) → (⟨S_, .f32⟩ : BufTy).Contents (Elt F) → (⟨S_, .f32⟩ : BufTy).Contents (Elt F))),
   (unary main_v162 main_v163 (broadcastInDim S128x3x224x224 ![] bcast_S_S128x3x224x224 : (⟨S_, .f32⟩ : BufTy).Contents (Elt F) → (⟨S128x3x224x224, .f32⟩ : BufTy).Contents (Elt F))),
   (binary main_v157 main_v163 main_v164 (addf : (⟨S128x3x224x224, .f32⟩ : BufTy).Contents (Elt F) → (⟨S128x3x224x224, .f32⟩ : BufTy).Contents (Elt F) → (⟨S128x3x224x224, .f32⟩ : BufTy).Contents (Elt F))),
   (nullary main_cst_52 (constant S_ .f32 0x00000000#32)),
   (nullary main_cst_53 (constant S_ .f32 0x3F800000#32))]

theorem main.run17_fine : Fine (main.run17 (F := F)) :=
  fine_cons (nullary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (nullary_bufs_sub ..) rfl <| fine_cons (binary_bufs_sub ..) rfl <| fine_cons (unary_bufs_sub ..) rfl <| fine_cons (binary_bufs_sub ..) rfl <| fine_cons (nullary_bufs_sub ..) rfl <| fine_cons (nullary_bufs_sub ..) rfl <| fine_nil

def main.run18 : List (HloOp τ sig (Elt F)) :=
  [(nullary main_c_54 (constantI S_ 32 4#32)),
   (unary main_c_54 main_v167 (broadcastInDim S128 ![] bcast_S_S128 : (⟨S_, .i32⟩ : BufTy).Contents (Elt F) → (⟨S128, .i32⟩ : BufTy).Contents (Elt F))),
   (binary main_v143 main_v167 main_v168 (cmpi .eq : (⟨S128, .i32⟩ : BufTy).Contents (Elt F) → (⟨S128, .i32⟩ : BufTy).Contents (Elt F) → (⟨S128, .i1⟩ : BufTy).Contents (Elt F))),
   (unary main_v168 main_v169 (broadcastInDim S128x1x1x1 ![0] bcast_S128_S128x1x1x1_0 : (⟨S128, .i1⟩ : BufTy).Contents (Elt F) → (⟨S128x1x1x1, .i1⟩ : BufTy).Contents (Elt F))),
   (nullary main_cst_55 (constant S_ .f32 0x00000000#32)),
   (binary main_v166 main_cst_55 main_v170 ((fun x v => Host.reduceAdd x v reducesTo_S128x3x224x224_S128_d1_2_3 h_S_) : (⟨S128x3x224x224, .f32⟩ : BufTy).Contents (Elt F) → (⟨S_, .f32⟩ : BufTy).Contents (Elt F) → (⟨S128, .f32⟩ : BufTy).Contents (Elt F))),
   (unary main_v170 main_v171 (broadcastInDim S128x1x1x1 ![0] bcast_S128_S128x1x1x1_0 : (⟨S128, .f32⟩ : BufTy).Contents (Elt F) → (⟨S128x1x1x1, .f32⟩ : BufTy).Contents (Elt F))),
   (nullary main_cst_56 (constant S_ .f32 0x48130000#32)),
   (unary main_cst_56 main_v172 (broadcastInDim S128x1x1x1 ![] bcast_S_S128x1x1x1 : (⟨S_, .f32⟩ : BufTy).Contents (Elt F) → (⟨S128x1x1x1, .f32⟩ : BufTy).Contents (Elt F))),
   (binary main_v171 main_v172 main_v173 (Host.divf : (⟨S128x1x1x1, .f32⟩ : BufTy).Contents (Elt F) → (⟨S128x1x1x1, .f32⟩ : BufTy).Contents (Elt F) → (⟨S128x1x1x1, .f32⟩ : BufTy).Contents (Elt F))),
   (unary main_v173 main_v174 (broadcastInDim S128x3x224x224 ![0, 1, 2, 3] bcast_S128x1x1x1_S128x3x224x224_0_1_2_3 : (⟨S128x1x1x1, .f32⟩ : BufTy).Contents (Elt F) → (⟨S128x3x224x224, .f32⟩ : BufTy).Contents (Elt F))),
   (binary main_v166 main_v174 main_v175 (subf : (⟨S128x3x224x224, .f32⟩ : BufTy).Contents (Elt F) → (⟨S128x3x224x224, .f32⟩ : BufTy).Contents (Elt F) → (⟨S128x3x224x224, .f32⟩ : BufTy).Contents (Elt F))),
   (nullary main_cst_57 (constant S_ .f32 0x41200000#32)),
   (binary main_arg2 main_cst_57 main_v176 (Host.divf : (⟨S_, .f32⟩ : BufTy).Contents (Elt F) → (⟨S_, .f32⟩ : BufTy).Contents (Elt F) → (⟨S_, .f32⟩ : BufTy).Contents (Elt F))),
   (nullary main_cst_58 (constant S_ .f32 0x3F800000#32)),
   (binary main_cst_58 main_v176 main_v177 (addf : (⟨S_, .f32⟩ : BufTy).Contents (Elt F) → (⟨S_, .f32⟩ : BufTy).Contents (Elt F) → (⟨S_, .f32⟩ : BufTy).Contents (Elt F))),
   (unary main_v177 main_v178 (broadcastInDim S128x3x224x224 ![] bcast_S_S128x3x224x224 : (⟨S_, .f32⟩ : BufTy).Contents (Elt F) → (⟨S128x3x224x224, .f32⟩ : BufTy).Contents (Elt F)))]

theorem main.run18_fine : Fine (main.run18 (F := F)) :=
  fine_cons (nullary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (unary_bufs_sub ..) rfl <| fine_cons (nullary_bufs_sub ..) rfl <| fine_cons (unary_bufs_sub ..) rfl <| fine_cons (binary_bufs_sub ..) rfl <| fine_cons (unary_bufs_sub ..) rfl <| fine_cons (binary_bufs_sub ..) rfl <| fine_cons (nullary_bufs_sub ..) rfl <| fine_cons (binary_bufs_sub ..) rfl <| fine_cons (nullary_bufs_sub ..) rfl <| fine_cons (binary_bufs_sub ..) rfl <| fine_cons (unary_bufs_sub ..) rfl <| fine_nil

def main.run19 : List (HloOp τ sig (Elt F)) :=
  [(binary main_v175 main_v178 main_v179 (mulf : (⟨S128x3x224x224, .f32⟩ : BufTy).Contents (Elt F) → (⟨S128x3x224x224, .f32⟩ : BufTy).Contents (Elt F) → (⟨S128x3x224x224, .f32⟩ : BufTy).Contents (Elt F))),
   (unary main_v173 main_v180 (broadcastInDim S128x3x224x224 ![0, 1, 2, 3] bcast_S128x1x1x1_S128x3x224x224_0_1_2_3 : (⟨S128x1x1x1, .f32⟩ : BufTy).Contents (Elt F) → (⟨S128x3x224x224, .f32⟩ : BufTy).Contents (Elt F))),
   (binary main_v179 main_v180 main_v181 (addf : (⟨S128x3x224x224, .f32⟩ : BufTy).Contents (Elt F) → (⟨S128x3x224x224, .f32⟩ : BufTy).Contents (Elt F) → (⟨S128x3x224x224, .f32⟩ : BufTy).Contents (Elt F))),
   (nullary main_cst_59 (constant S_ .f32 0x00000000#32)),
   (nullary main_cst_60 (constant S_ .f32 0x3F800000#32))]

theorem main.run19_fine : Fine (main.run19 (F := F)) :=
  fine_cons (binary_bufs_sub ..) rfl <| fine_cons (unary_bufs_sub ..) rfl <| fine_cons (binary_bufs_sub ..) rfl <| fine_cons (nullary_bufs_sub ..) rfl <| fine_cons (nullary_bufs_sub ..) rfl <| fine_nil

def main.run20 : List (HloOp τ sig (Elt F)) :=
  [(nullary main_c_61 (constantI S_ 32 5#32)),
   (unary main_c_61 main_v184 (broadcastInDim S128 ![] bcast_S_S128 : (⟨S_, .i32⟩ : BufTy).Contents (Elt F) → (⟨S128, .i32⟩ : BufTy).Contents (Elt F))),
   (binary main_v143 main_v184 main_v185 (cmpi .eq : (⟨S128, .i32⟩ : BufTy).Contents (Elt F) → (⟨S128, .i32⟩ : BufTy).Contents (Elt F) → (⟨S128, .i1⟩ : BufTy).Contents (Elt F))),
   (unary main_v185 main_v186 (broadcastInDim S128x1x1x1 ![0] bcast_S128_S128x1x1x1_0 : (⟨S128, .i1⟩ : BufTy).Contents (Elt F) → (⟨S128x1x1x1, .i1⟩ : BufTy).Contents (Elt F))),
   (nullary main_cst_62 (constant S_ .f32 0x3F800000#32)),
   (unary main_cst_62 main_v187 (broadcastInDim S128x3x224x224 ![] bcast_S_S128x3x224x224 : (⟨S_, .f32⟩ : BufTy).Contents (Elt F) → (⟨S128x3x224x224, .f32⟩ : BufTy).Contents (Elt F))),
   (binary main_v187 main_v183 main_v188 (subf : (⟨S128x3x224x224, .f32⟩ : BufTy).Contents (Elt F) → (⟨S128x3x224x224, .f32⟩ : BufTy).Contents (Elt F) → (⟨S128x3x224x224, .f32⟩ : BufTy).Contents (Elt F)))]

theorem main.run20_fine : Fine (main.run20 (F := F)) :=
  fine_cons (nullary_bufs_sub ..) rfl <| fine_cons (unary_bufs_sub ..) rfl <| fine_cons (binary_bufs_sub ..) rfl <| fine_cons (unary_bufs_sub ..) rfl <| fine_cons (nullary_bufs_sub ..) rfl <| fine_cons (unary_bufs_sub ..) rfl <| fine_cons (binary_bufs_sub ..) rfl <| fine_nil

def main.run21 : List (HloOp τ sig (Elt F)) :=
  [(nullary main_c_63 (constantI S_ 32 6#32)),
   (unary main_c_63 main_v190 (broadcastInDim S128 ![] bcast_S_S128 : (⟨S_, .i32⟩ : BufTy).Contents (Elt F) → (⟨S128, .i32⟩ : BufTy).Contents (Elt F))),
   (binary main_v143 main_v190 main_v191 (cmpi .eq : (⟨S128, .i32⟩ : BufTy).Contents (Elt F) → (⟨S128, .i32⟩ : BufTy).Contents (Elt F) → (⟨S128, .i1⟩ : BufTy).Contents (Elt F))),
   (unary main_v191 main_v192 (broadcastInDim S128x1x1x1 ![0] bcast_S128_S128x1x1x1_0 : (⟨S128, .i1⟩ : BufTy).Contents (Elt F) → (⟨S128x1x1x1, .i1⟩ : BufTy).Contents (Elt F))),
   (nullary main_cst_64 (constant S_ .f32 0x41200000#32)),
   (binary main_arg2 main_cst_64 main_v193 (Host.divf : (⟨S_, .f32⟩ : BufTy).Contents (Elt F) → (⟨S_, .f32⟩ : BufTy).Contents (Elt F) → (⟨S_, .f32⟩ : BufTy).Contents (Elt F))),
   (nullary main_cst_65 (constant S_ .f32 0x3F000000#32)),
   (binary main_cst_65 main_v193 main_v194 (mulf : (⟨S_, .f32⟩ : BufTy).Contents (Elt F) → (⟨S_, .f32⟩ : BufTy).Contents (Elt F) → (⟨S_, .f32⟩ : BufTy).Contents (Elt F))),
   (nullary main_cst_66 (constant S_ .f32 0x3F800000#32)),
   (binary main_cst_66 main_v194 main_v195 (subf : (⟨S_, .f32⟩ : BufTy).Contents (Elt F) → (⟨S_, .f32⟩ : BufTy).Contents (Elt F) → (⟨S_, .f32⟩ : BufTy).Contents (Elt F))),
   (unary main_v195 main_v196 (broadcastInDim S128x3x224x224 ![] bcast_S_S128x3x224x224 : (⟨S_, .f32⟩ : BufTy).Contents (Elt F) → (⟨S128x3x224x224, .f32⟩ : BufTy).Contents (Elt F))),
   (binary main_v189 main_v196 main_v197 (cmpf .olt : (⟨S128x3x224x224, .f32⟩ : BufTy).Contents (Elt F) → (⟨S128x3x224x224, .f32⟩ : BufTy).Contents (Elt F) → (⟨S128x3x224x224, .i1⟩ : BufTy).Contents (Elt F))),
   (nullary main_cst_67 (constant S_ .f32 0x3F800000#32)),
   (unary main_cst_67 main_v198 (broadcastInDim S128x3x224x224 ![] bcast_S_S128x3x224x224 : (⟨S_, .f32⟩ : BufTy).Contents (Elt F) → (⟨S128x3x224x224, .f32⟩ : BufTy).Contents (Elt F))),
   (binary main_v198 main_v189 main_v199 (subf : (⟨S128x3x224x224, .f32⟩ : BufTy).Contents (Elt F) → (⟨S128x3x224x224, .f32⟩ : BufTy).Contents (Elt F) → (⟨S128x3x224x224, .f32⟩ : BufTy).Contents (Elt F)))]

theorem main.run21_fine : Fine (main.run21 (F := F)) :=
  fine_cons (nullary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (nullary_bufs_sub ..) rfl <| fine_cons (binary_bufs_sub ..) rfl <| fine_cons (nullary_bufs_sub ..) rfl <| fine_cons (binary_bufs_sub ..) rfl <| fine_cons (unary_bufs_sub ..) rfl <| fine_cons (binary_bufs_sub ..) rfl <| fine_cons (nullary_bufs_sub ..) rfl <| fine_cons (unary_bufs_sub ..) rfl <| fine_cons (binary_bufs_sub ..) rfl <| fine_nil

def main.run22 : List (HloOp τ sig (Elt F)) :=
  [(nullary main_c_68 (constantI S_ 32 7#32)),
   (unary main_c_68 main_v202 (broadcastInDim S128 ![] bcast_S_S128 : (⟨S_, .i32⟩ : BufTy).Contents (Elt F) → (⟨S128, .i32⟩ : BufTy).Contents (Elt F))),
   (binary main_v143 main_v202 main_v203 (cmpi .eq : (⟨S128, .i32⟩ : BufTy).Contents (Elt F) → (⟨S128, .i32⟩ : BufTy).Contents (Elt F) → (⟨S128, .i1⟩ : BufTy).Contents (Elt F))),
   (unary main_v203 main_v204 (broadcastInDim S128x1x1x1 ![0] bcast_S128_S128x1x1x1_0 : (⟨S128, .i1⟩ : BufTy).Contents (Elt F) → (⟨S128x1x1x1, .i1⟩ : BufTy).Contents (Elt F))),
   (nullary main_cst_69 (constant S_ .f32 0x41200000#32)),
   (binary main_arg2 main_cst_69 main_v205 (Host.divf : (⟨S_, .f32⟩ : BufTy).Contents (Elt F) → (⟨S_, .f32⟩ : BufTy).Contents (Elt F) → (⟨S_, .f32⟩ : BufTy).Contents (Elt F))),
   (nullary main_cst_70 (constant S_ .f32 0x3F800000#32)),
   (binary main_cst_70 main_v205 main_v206 (addf : (⟨S_, .f32⟩ : BufTy).Contents (Elt F) → (⟨S_, .f32⟩ : BufTy).Contents (Elt F) → (⟨S_, .f32⟩ : BufTy).Contents (Elt F))),
   (unary main_v206 main_v207 (broadcastInDim S128x3x224x224 ![] bcast_S_S128x3x224x224 : (⟨S_, .f32⟩ : BufTy).Contents (Elt F) → (⟨S128x3x224x224, .f32⟩ : BufTy).Contents (Elt F))),
   (binary main_v201 main_v207 main_v208 (mulf : (⟨S128x3x224x224, .f32⟩ : BufTy).Contents (Elt F) → (⟨S128x3x224x224, .f32⟩ : BufTy).Contents (Elt F) → (⟨S128x3x224x224, .f32⟩ : BufTy).Contents (Elt F))),
   (unary main_v208 main_v209 (Host.tanh : (⟨S128x3x224x224, .f32⟩ : BufTy).Contents (Elt F) → (⟨S128x3x224x224, .f32⟩ : BufTy).Contents (Elt F)))]

theorem main.run22_fine : Fine (main.run22 (F := F)) :=
  fine_cons (nullary_bufs_sub ..) rfl <| fine_cons (unary_bufs_sub ..) rfl <| fine_cons (binary_bufs_sub ..) rfl <| fine_cons (unary_bufs_sub ..) rfl <| fine_cons (nullary_bufs_sub ..) rfl <| fine_cons (binary_bufs_sub ..) rfl <| fine_cons (nullary_bufs_sub ..) rfl <| fine_cons (binary_bufs_sub ..) rfl <| fine_cons (unary_bufs_sub ..) rfl <| fine_cons (binary_bufs_sub ..) rfl <| fine_cons (unary_bufs_sub ..) rfl <| fine_nil

/-- Stretch 0 of the reference's `main`. -/
def main.seg0 : List (HloOp τ sig (Elt F)) := main.run0

theorem main.seg0_fine : Fine (main.seg0 (F := F)) := main.run0_fine

/-- Stretch 1 of the reference's `main`. -/
def main.seg1 : List (HloOp τ sig (Elt F)) := fn_threefry_fold_in.line (.of main_v6) (.of main_c_10) main_call0

theorem main.seg1_fine : Fine (main.seg1 (F := F)) := fn_threefry_fold_in.fine (.of main_v6) (.of main_c_10) main_call0

/-- Stretch 2 of the reference's `main`. -/
def main.seg2 : List (HloOp τ sig (Elt F)) := fn_gumbel.line (.of main_v38) main_call1

theorem main.seg2_fine : Fine (main.seg2 (F := F)) := fn_gumbel.fine (.of main_v38) main_call1

/-- Stretch 3 of the reference's `main`. -/
def main.seg3 : List (HloOp τ sig (Elt F)) := main.run1 ++ fn_argmax.line (.of main_v40) main_call2

theorem main.seg3_fine : Fine (main.seg3 (F := F)) := fine_append (main.run1_fine) (fn_argmax.fine (.of main_v40) main_call2)

/-- Stretch 4 of the reference's `main`. -/
def main.seg4 : List (HloOp τ sig (Elt F)) := main.run2 ++ fn_where.line (.of main_v44) (.of main_arg0) (.of main_arg0) main_call3

theorem main.seg4_fine : Fine (main.seg4 (F := F)) := fine_append (main.run2_fine) (fn_where.fine (.of main_v44) (.of main_arg0) (.of main_arg0) main_call3)

/-- Stretch 5 of the reference's `main`. -/
def main.seg5 : List (HloOp τ sig (Elt F)) := main.run3 ++ (fn_flip.line (.of main_v45) main_call4 ++ fn_where_1.line (.of main_v48) (.of main_v49) (.of main_v45) main_call5)

theorem main.seg5_fine : Fine (main.seg5 (F := F)) := fine_append (main.run3_fine) (fine_append (fn_flip.fine (.of main_v45) main_call4) (fn_where_1.fine (.of main_v48) (.of main_v49) (.of main_v45) main_call5))

/-- Stretch 6 of the reference's `main`. -/
def main.seg6 : List (HloOp τ sig (Elt F)) := main.run4 ++ (fn_flip_2.line (.of main_v50) main_call6 ++ fn_where_1.line (.of main_v53) (.of main_v54) (.of main_v50) main_call7)

theorem main.seg6_fine : Fine (main.seg6 (F := F)) := fine_append (main.run4_fine) (fine_append (fn_flip_2.fine (.of main_v50) main_call6) (fn_where_1.fine (.of main_v53) (.of main_v54) (.of main_v50) main_call7))

/-- Stretch 7 of the reference's `main`. -/
def main.seg7 : List (HloOp τ sig (Elt F)) := main.run5 ++ (fn_clip.line (.of main_v62) (.of main_cst_17) (.of main_cst_18) main_call8 ++ fn_where_1.line (.of main_v58) (.of main_v63) (.of main_v55) main_call9)

theorem main.seg7_fine : Fine (main.seg7 (F := F)) := fine_append (main.run5_fine) (fine_append (fn_clip.fine (.of main_v62) (.of main_cst_17) (.of main_cst_18) main_call8) (fn_where_1.fine (.of main_v58) (.of main_v63) (.of main_v55) main_call9))

/-- Stretch 8 of the reference's `main`. -/
def main.seg8 : List (HloOp τ sig (Elt F)) := main.run6 ++ (fn_clip.line (.of main_v79) (.of main_cst_24) (.of main_cst_25) main_call10 ++ fn_where_1.line (.of main_v67) (.of main_v80) (.of main_v64) main_call11)

theorem main.seg8_fine : Fine (main.seg8 (F := F)) := fine_append (main.run6_fine) (fine_append (fn_clip.fine (.of main_v79) (.of main_cst_24) (.of main_cst_25) main_call10) (fn_where_1.fine (.of main_v67) (.of main_v80) (.of main_v64) main_call11))

/-- Stretch 9 of the reference's `main`. -/
def main.seg9 : List (HloOp τ sig (Elt F)) := main.run7 ++ fn_where_1.line (.of main_v84) (.of main_v86) (.of main_v81) main_call12

theorem main.seg9_fine : Fine (main.seg9 (F := F)) := fine_append (main.run7_fine) (fn_where_1.fine (.of main_v84) (.of main_v86) (.of main_v81) main_call12)

/-- Stretch 10 of the reference's `main`. -/
def main.seg10 : List (HloOp τ sig (Elt F)) := main.run8 ++ (main.run9 ++ (fn_where_3.line (.of main_v95) (.of main_v87) (.of main_v97) main_call13 ++ fn_where_1.line (.of main_v90) (.of main_v98) (.of main_v87) main_call14))

theorem main.seg10_fine : Fine (main.seg10 (F := F)) := fine_append (main.run8_fine) (fine_append (main.run9_fine) (fine_append (fn_where_3.fine (.of main_v95) (.of main_v87) (.of main_v97) main_call13) (fn_where_1.fine (.of main_v90) (.of main_v98) (.of main_v87) main_call14)))

/-- Stretch 11 of the reference's `main`. -/
def main.seg11 : List (HloOp τ sig (Elt F)) := main.run10 ++ fn_where_1.line (.of main_v102) (.of main_v107) (.of main_v99) main_call15

theorem main.seg11_fine : Fine (main.seg11 (F := F)) := fine_append (main.run10_fine) (fn_where_1.fine (.of main_v102) (.of main_v107) (.of main_v99) main_call15)

/-- Stretch 12 of the reference's `main`. -/
def main.seg12 : List (HloOp τ sig (Elt F)) := main.run11 ++ main.run12

theorem main.seg12_fine : Fine (main.seg12 (F := F)) := fine_append (main.run11_fine) (main.run12_fine)

/-- Stretch 13 of the reference's `main`. -/
def main.seg13 : List (HloOp τ sig (Elt F)) := fn_threefry_fold_in.line (.of main_v6) (.of main_c_45) main_call16

theorem main.seg13_fine : Fine (main.seg13 (F := F)) := fn_threefry_fold_in.fine (.of main_v6) (.of main_c_45) main_call16

/-- Stretch 14 of the reference's `main`. -/
def main.seg14 : List (HloOp τ sig (Elt F)) := fn_gumbel.line (.of main_v140) main_call17

theorem main.seg14_fine : Fine (main.seg14 (F := F)) := fn_gumbel.fine (.of main_v140) main_call17

/-- Stretch 15 of the reference's `main`. -/
def main.seg15 : List (HloOp τ sig (Elt F)) := main.run13 ++ fn_argmax.line (.of main_v142) main_call18

theorem main.seg15_fine : Fine (main.seg15 (F := F)) := fine_append (main.run13_fine) (fn_argmax.fine (.of main_v142) main_call18)

/-- Stretch 16 of the reference's `main`. -/
def main.seg16 : List (HloOp τ sig (Elt F)) := main.run14 ++ fn_where_1.line (.of main_v146) (.of main_v108) (.of main_v108) main_call19

theorem main.seg16_fine : Fine (main.seg16 (F := F)) := fine_append (main.run14_fine) (fn_where_1.fine (.of main_v146) (.of main_v108) (.of main_v108) main_call19)

/-- Stretch 17 of the reference's `main`. -/
def main.seg17 : List (HloOp τ sig (Elt F)) := main.run15 ++ (fn_flip.line (.of main_v147) main_call20 ++ fn_where_1.line (.of main_v150) (.of main_v151) (.of main_v147) main_call21)

theorem main.seg17_fine : Fine (main.seg17 (F := F)) := fine_append (main.run15_fine) (fine_append (fn_flip.fine (.of main_v147) main_call20) (fn_where_1.fine (.of main_v150) (.of main_v151) (.of main_v147) main_call21))

/-- Stretch 18 of the reference's `main`. -/
def main.seg18 : List (HloOp τ sig (Elt F)) := main.run16 ++ (fn_flip_2.line (.of main_v152) main_call22 ++ fn_where_1.line (.of main_v155) (.of main_v156) (.of main_v152) main_call23)

theorem main.seg18_fine : Fine (main.seg18 (F := F)) := fine_append (main.run16_fine) (fine_append (fn_flip_2.fine (.of main_v152) main_call22) (fn_where_1.fine (.of main_v155) (.of main_v156) (.of main_v152) main_call23))

/-- Stretch 19 of the reference's `main`. -/
def main.seg19 : List (HloOp τ sig (Elt F)) := main.run17 ++ (fn_clip.line (.of main_v164) (.of main_cst_52) (.of main_cst_53) main_call24 ++ fn_where_1.line (.of main_v160) (.of main_v165) (.of main_v157) main_call25)

theorem main.seg19_fine : Fine (main.seg19 (F := F)) := fine_append (main.run17_fine) (fine_append (fn_clip.fine (.of main_v164) (.of main_cst_52) (.of main_cst_53) main_call24) (fn_where_1.fine (.of main_v160) (.of main_v165) (.of main_v157) main_call25))

/-- Stretch 20 of the reference's `main`. -/
def main.seg20 : List (HloOp τ sig (Elt F)) := main.run18 ++ (main.run19 ++ (fn_clip.line (.of main_v181) (.of main_cst_59) (.of main_cst_60) main_call26 ++ fn_where_1.line (.of main_v169) (.of main_v182) (.of main_v166) main_call27))

theorem main.seg20_fine : Fine (main.seg20 (F := F)) := fine_append (main.run18_fine) (fine_append (main.run19_fine) (fine_append (fn_clip.fine (.of main_v181) (.of main_cst_59) (.of main_cst_60) main_call26) (fn_where_1.fine (.of main_v169) (.of main_v182) (.of main_v166) main_call27)))

/-- Stretch 21 of the reference's `main`. -/
def main.seg21 : List (HloOp τ sig (Elt F)) := main.run20 ++ fn_where_1.line (.of main_v186) (.of main_v188) (.of main_v183) main_call28

theorem main.seg21_fine : Fine (main.seg21 (F := F)) := fine_append (main.run20_fine) (fn_where_1.fine (.of main_v186) (.of main_v188) (.of main_v183) main_call28)

/-- Stretch 22 of the reference's `main`. -/
def main.seg22 : List (HloOp τ sig (Elt F)) := main.run21 ++ (fn_where_3.line (.of main_v197) (.of main_v189) (.of main_v199) main_call29 ++ fn_where_1.line (.of main_v192) (.of main_v200) (.of main_v189) main_call30)

theorem main.seg22_fine : Fine (main.seg22 (F := F)) := fine_append (main.run21_fine) (fine_append (fn_where_3.fine (.of main_v197) (.of main_v189) (.of main_v199) main_call29) (fn_where_1.fine (.of main_v192) (.of main_v200) (.of main_v189) main_call30))

/-- Stretch 23 of the reference's `main`. -/
def main.seg23 : List (HloOp τ sig (Elt F)) := main.run22 ++ fn_where_1.line (.of main_v204) (.of main_v209) (.of main_v201) main_call31

theorem main.seg23_fine : Fine (main.seg23 (F := F)) := fine_append (main.run22_fine) (fn_where_1.fine (.of main_v204) (.of main_v209) (.of main_v201) main_call31)

set_option maxHeartbeats 4000000 in
theorem main.straight0 (d : Dev nD) : IsSeq (main_part0 (F := F) d) (main.run0 ++ (fn_threefry_fold_in.line (.of main_v6) (.of main_c_10) main_call0 ++ (fn_gumbel.line (.of main_v38) main_call1 ++ (main.run1 ++ (fn_argmax.line (.of main_v40) main_call2 ++ (main.run2 ++ fn_where.line (.of main_v44) (.of main_arg0) (.of main_arg0) main_call3)))))) := by
  unfold main_part0
  apply isSeq_of
  case h =>
    iterate 51 apply IsSeq.cons
    apply isSeq_append (fn_threefry_fold_in.straight ..)
    apply isSeq_append (fn_gumbel.straight ..)
    iterate 1 apply IsSeq.cons
    apply isSeq_append (fn_argmax.straight ..)
    iterate 4 apply IsSeq.cons
    exact fn_where.straight ..
  case e => rfl

set_option maxHeartbeats 4000000 in
theorem main.straight1 (d : Dev nD) : IsSeq (main_part1 (F := F) d) (main.run3 ++ (fn_flip.line (.of main_v45) main_call4 ++ (fn_where_1.line (.of main_v48) (.of main_v49) (.of main_v45) main_call5 ++ (main.run4 ++ (fn_flip_2.line (.of main_v50) main_call6 ++ (fn_where_1.line (.of main_v53) (.of main_v54) (.of main_v50) main_call7 ++ (main.run5 ++ (fn_clip.line (.of main_v62) (.of main_cst_17) (.of main_cst_18) main_call8 ++ (fn_where_1.line (.of main_v58) (.of main_v63) (.of main_v55) main_call9 ++ (main.run6 ++ (fn_clip.line (.of main_v79) (.of main_cst_24) (.of main_cst_25) main_call10 ++ (fn_where_1.line (.of main_v67) (.of main_v80) (.of main_v64) main_call11 ++ (main.run7 ++ (fn_where_1.line (.of main_v84) (.of main_v86) (.of main_v81) main_call12 ++ main.run8)))))))))))))) := by
  unfold main_part1
  apply isSeq_of
  case h =>
    iterate 4 apply IsSeq.cons
    apply isSeq_append (fn_flip.straight ..)
    apply isSeq_append (fn_where_1.straight ..)
    iterate 4 apply IsSeq.cons
    apply isSeq_append (fn_flip_2.straight ..)
    apply isSeq_append (fn_where_1.straight ..)
    iterate 12 apply IsSeq.cons
    apply isSeq_append (fn_clip.straight ..)
    apply isSeq_append (fn_where_1.straight ..)
    iterate 22 apply IsSeq.cons
    apply isSeq_append (fn_clip.straight ..)
    apply isSeq_append (fn_where_1.straight ..)
    iterate 7 apply IsSeq.cons
    apply isSeq_append (fn_where_1.straight ..)
    iterate 1 apply IsSeq.cons
    exact isSeq_one
  case e => rfl

set_option maxHeartbeats 4000000 in
theorem main.straight2 (d : Dev nD) : IsSeq (main_part2 (F := F) d) (main.run9 ++ (fn_where_3.line (.of main_v95) (.of main_v87) (.of main_v97) main_call13 ++ (fn_where_1.line (.of main_v90) (.of main_v98) (.of main_v87) main_call14 ++ (main.run10 ++ (fn_where_1.line (.of main_v102) (.of main_v107) (.of main_v99) main_call15 ++ main.run11))))) := by
  unfold main_part2
  apply isSeq_of
  case h =>
    iterate 13 apply IsSeq.cons
    apply isSeq_append (fn_where_3.straight ..)
    apply isSeq_append (fn_where_1.straight ..)
    iterate 11 apply IsSeq.cons
    apply isSeq_append (fn_where_1.straight ..)
    iterate 32 apply IsSeq.cons
    exact isSeq_one
  case e => rfl

set_option maxHeartbeats 4000000 in
theorem main.straight3 (d : Dev nD) : IsSeq (main_part3 (F := F) d) (main.run12 ++ (fn_threefry_fold_in.line (.of main_v6) (.of main_c_45) main_call16 ++ (fn_gumbel.line (.of main_v140) main_call17 ++ (main.run13 ++ (fn_argmax.line (.of main_v142) main_call18 ++ (main.run14 ++ (fn_where_1.line (.of main_v146) (.of main_v108) (.of main_v108) main_call19 ++ (main.run15 ++ (fn_flip.line (.of main_v147) main_call20 ++ (fn_where_1.line (.of main_v150) (.of main_v151) (.of main_v147) main_call21 ++ (main.run16 ++ (fn_flip_2.line (.of main_v152) main_call22 ++ (fn_where_1.line (.of main_v155) (.of main_v156) (.of main_v152) main_call23 ++ (main.run17 ++ (fn_clip.line (.of main_v164) (.of main_cst_52) (.of main_cst_53) main_call24 ++ (fn_where_1.line (.of main_v160) (.of main_v165) (.of main_v157) main_call25 ++ main.run18)))))))))))))))) := by
  unfold main_part3
  apply isSeq_of
  case h =>
    iterate 8 apply IsSeq.cons
    apply isSeq_append (fn_threefry_fold_in.straight ..)
    apply isSeq_append (fn_gumbel.straight ..)
    iterate 1 apply IsSeq.cons
    apply isSeq_append (fn_argmax.straight ..)
    iterate 4 apply IsSeq.cons
    apply isSeq_append (fn_where_1.straight ..)
    iterate 4 apply IsSeq.cons
    apply isSeq_append (fn_flip.straight ..)
    apply isSeq_append (fn_where_1.straight ..)
    iterate 4 apply IsSeq.cons
    apply isSeq_append (fn_flip_2.straight ..)
    apply isSeq_append (fn_where_1.straight ..)
    iterate 12 apply IsSeq.cons
    apply isSeq_append (fn_clip.straight ..)
    apply isSeq_append (fn_where_1.straight ..)
    iterate 16 apply IsSeq.cons
    exact isSeq_one
  case e => rfl

set_option maxHeartbeats 4000000 in
theorem main.straight4 (d : Dev nD) : IsSeq (main_part4 (F := F) d) (main.run19 ++ (fn_clip.line (.of main_v181) (.of main_cst_59) (.of main_cst_60) main_call26 ++ (fn_where_1.line (.of main_v169) (.of main_v182) (.of main_v166) main_call27 ++ (main.run20 ++ (fn_where_1.line (.of main_v186) (.of main_v188) (.of main_v183) main_call28 ++ (main.run21 ++ (fn_where_3.line (.of main_v197) (.of main_v189) (.of main_v199) main_call29 ++ (fn_where_1.line (.of main_v192) (.of main_v200) (.of main_v189) main_call30 ++ (main.run22 ++ fn_where_1.line (.of main_v204) (.of main_v209) (.of main_v201) main_call31))))))))) := by
  unfold main_part4
  apply isSeq_of
  case h =>
    iterate 5 apply IsSeq.cons
    apply isSeq_append (fn_clip.straight ..)
    apply isSeq_append (fn_where_1.straight ..)
    iterate 7 apply IsSeq.cons
    apply isSeq_append (fn_where_1.straight ..)
    iterate 15 apply IsSeq.cons
    apply isSeq_append (fn_where_3.straight ..)
    apply isSeq_append (fn_where_1.straight ..)
    iterate 11 apply IsSeq.cons
    apply isSeq_append (fn_where_1.straight ..)
    exact IsSeq.nil
  case e => rfl

/-- The whole of the reference's `main` as one line. -/
def main.line : List (HloOp τ sig (Elt F)) :=
  main.seg0 ++ (main.seg1 ++ (main.seg2 ++ (main.seg3 ++ (main.seg4 ++ (main.seg5 ++ (main.seg6 ++ (main.seg7 ++ (main.seg8 ++ (main.seg9 ++ (main.seg10 ++ (main.seg11 ++ (main.seg12 ++ (main.seg13 ++ (main.seg14 ++ (main.seg15 ++ (main.seg16 ++ (main.seg17 ++ (main.seg18 ++ (main.seg19 ++ (main.seg20 ++ (main.seg21 ++ (main.seg22 ++ main.seg23))))))))))))))))))))))

theorem main.line_fine : Fine (main.line (F := F)) :=
  fine_append (main.seg0_fine) (fine_append (main.seg1_fine) (fine_append (main.seg2_fine) (fine_append (main.seg3_fine) (fine_append (main.seg4_fine) (fine_append (main.seg5_fine) (fine_append (main.seg6_fine) (fine_append (main.seg7_fine) (fine_append (main.seg8_fine) (fine_append (main.seg9_fine) (fine_append (main.seg10_fine) (fine_append (main.seg11_fine) (fine_append (main.seg12_fine) (fine_append (main.seg13_fine) (fine_append (main.seg14_fine) (fine_append (main.seg15_fine) (fine_append (main.seg16_fine) (fine_append (main.seg17_fine) (fine_append (main.seg18_fine) (fine_append (main.seg19_fine) (fine_append (main.seg20_fine) (fine_append (main.seg21_fine) (fine_append (main.seg22_fine) (main.seg23_fine)))))))))))))))))))))))

theorem main.straight (d : Dev nD) : IsSeq (main (F := F) d) (main.line (F := F)) := by
  have h := isSeq_append (main.straight0 (F := F) d) (isSeq_append (main.straight1 (F := F) d) (isSeq_append (main.straight2 (F := F) d) (isSeq_append (main.straight3 (F := F) d) (main.straight4 (F := F) d))))
  unfold main.line main.seg0 main.seg1 main.seg2 main.seg3 main.seg4 main.seg5 main.seg6 main.seg7 main.seg8 main.seg9 main.seg10 main.seg11 main.seg12 main.seg13 main.seg14 main.seg15 main.seg16 main.seg17 main.seg18 main.seg19 main.seg20 main.seg21 main.seg22 main.seg23
  simp only [List.append_assoc] at h ⊢
  exact h

end Cert.ReferenceIdeal.Gen

end
-- ==== Proof.RefRun.lean ====
module

public import proofs.«01_k».proof.Proof.Gen.ReferenceIdeal
public import proofs.«01_k».proof.Proof.RefMain
public import Idealize.ShloMosaic.Lib.Quiescent
public import Idealize.ShloMosaic.Lib.StableHlo.RunHlo
public import Idealize.ShloMosaic.Lib.Pipeline.Frame
public import Idealize.ShloMosaic.Lib.StableHlo.RunRead

/-! The run of the reference, and the buffers each stretch of it leaves alone. -/

@[expose] public section

set_option maxRecDepth 16384

noncomputable section

namespace Cert.ReferenceIdeal.Gen

open Cert.ReferenceIdeal Idealize.ShloMosaic Idealize.ShloMosaic.TcCoe Idealize.ShloMosaic.StableHlo Idealize.SL.Sem

variable {F : FTy → Type} [FloatOps F]

theorem main.seg0_keep_arg0 (W : Valuation τ sig (Elt F)) : after (main.seg0 (F := F)) W (Proc.devRef .tc main_arg0) = W (Proc.devRef .tc main_arg0) := by
  after_reads_simp

theorem main.seg0_keep_arg1 (W : Valuation τ sig (Elt F)) : after (main.seg0 (F := F)) W (Proc.devRef .tc main_arg1) = W (Proc.devRef .tc main_arg1) := by
  after_reads_simp

theorem main.seg0_keep_arg2 (W : Valuation τ sig (Elt F)) : after (main.seg0 (F := F)) W (Proc.devRef .tc main_arg2) = W (Proc.devRef .tc main_arg2) := by
  after_reads_simp

theorem main.seg1_keep_arg0 (W : Valuation τ sig (Elt F)) : after (main.seg1 (F := F)) W (Proc.devRef .tc main_arg0) = W (Proc.devRef .tc main_arg0) := by
  after_reads_simp

theorem main.seg1_keep_arg1 (W : Valuation τ sig (Elt F)) : after (main.seg1 (F := F)) W (Proc.devRef .tc main_arg1) = W (Proc.devRef .tc main_arg1) := by
  after_reads_simp

theorem main.seg1_keep_arg2 (W : Valuation τ sig (Elt F)) : after (main.seg1 (F := F)) W (Proc.devRef .tc main_arg2) = W (Proc.devRef .tc main_arg2) := by
  after_reads_simp

theorem main.seg1_keep_v6 (W : Valuation τ sig (Elt F)) : after (main.seg1 (F := F)) W (Proc.devRef .tc main_v6) = W (Proc.devRef .tc main_v6) := by
  after_reads_simp

theorem main.seg1_keep_v37 (W : Valuation τ sig (Elt F)) : after (main.seg1 (F := F)) W (Proc.devRef .tc main_v37) = W (Proc.devRef .tc main_v37) := by
  after_reads_simp

theorem main.seg2_keep_arg0 (W : Valuation τ sig (Elt F)) : after (main.seg2 (F := F)) W (Proc.devRef .tc main_arg0) = W (Proc.devRef .tc main_arg0) := by
  after_reads_simp

theorem main.seg2_keep_arg1 (W : Valuation τ sig (Elt F)) : after (main.seg2 (F := F)) W (Proc.devRef .tc main_arg1) = W (Proc.devRef .tc main_arg1) := by
  after_reads_simp

theorem main.seg2_keep_arg2 (W : Valuation τ sig (Elt F)) : after (main.seg2 (F := F)) W (Proc.devRef .tc main_arg2) = W (Proc.devRef .tc main_arg2) := by
  after_reads_simp

theorem main.seg2_keep_v6 (W : Valuation τ sig (Elt F)) : after (main.seg2 (F := F)) W (Proc.devRef .tc main_v6) = W (Proc.devRef .tc main_v6) := by
  after_reads_simp

theorem main.seg2_keep_v37 (W : Valuation τ sig (Elt F)) : after (main.seg2 (F := F)) W (Proc.devRef .tc main_v37) = W (Proc.devRef .tc main_v37) := by
  after_reads_simp

theorem main.seg3_keep_arg0 (W : Valuation τ sig (Elt F)) : after (main.seg3 (F := F)) W (Proc.devRef .tc main_arg0) = W (Proc.devRef .tc main_arg0) := by
  after_reads_simp

theorem main.seg3_keep_arg1 (W : Valuation τ sig (Elt F)) : after (main.seg3 (F := F)) W (Proc.devRef .tc main_arg1) = W (Proc.devRef .tc main_arg1) := by
  after_reads_simp

theorem main.seg3_keep_arg2 (W : Valuation τ sig (Elt F)) : after (main.seg3 (F := F)) W (Proc.devRef .tc main_arg2) = W (Proc.devRef .tc main_arg2) := by
  after_reads_simp

theorem main.seg3_keep_v6 (W : Valuation τ sig (Elt F)) : after (main.seg3 (F := F)) W (Proc.devRef .tc main_v6) = W (Proc.devRef .tc main_v6) := by
  after_reads_simp

theorem main.seg4_keep_arg0 (W : Valuation τ sig (Elt F)) : after (main.seg4 (F := F)) W (Proc.devRef .tc main_arg0) = W (Proc.devRef .tc main_arg0) := by
  after_reads_simp

theorem main.seg4_keep_arg1 (W : Valuation τ sig (Elt F)) : after (main.seg4 (F := F)) W (Proc.devRef .tc main_arg1) = W (Proc.devRef .tc main_arg1) := by
  after_reads_simp

theorem main.seg4_keep_arg2 (W : Valuation τ sig (Elt F)) : after (main.seg4 (F := F)) W (Proc.devRef .tc main_arg2) = W (Proc.devRef .tc main_arg2) := by
  after_reads_simp

theorem main.seg4_keep_v6 (W : Valuation τ sig (Elt F)) : after (main.seg4 (F := F)) W (Proc.devRef .tc main_v6) = W (Proc.devRef .tc main_v6) := by
  after_reads_simp

theorem main.seg4_keep_v41 (W : Valuation τ sig (Elt F)) : after (main.seg4 (F := F)) W (Proc.devRef .tc main_v41) = W (Proc.devRef .tc main_v41) := by
  after_reads_simp

theorem main.seg5_keep_arg0 (W : Valuation τ sig (Elt F)) : after (main.seg5 (F := F)) W (Proc.devRef .tc main_arg0) = W (Proc.devRef .tc main_arg0) := by
  after_reads_simp

theorem main.seg5_keep_arg1 (W : Valuation τ sig (Elt F)) : after (main.seg5 (F := F)) W (Proc.devRef .tc main_arg1) = W (Proc.devRef .tc main_arg1) := by
  after_reads_simp

theorem main.seg5_keep_arg2 (W : Valuation τ sig (Elt F)) : after (main.seg5 (F := F)) W (Proc.devRef .tc main_arg2) = W (Proc.devRef .tc main_arg2) := by
  after_reads_simp

theorem main.seg5_keep_v6 (W : Valuation τ sig (Elt F)) : after (main.seg5 (F := F)) W (Proc.devRef .tc main_v6) = W (Proc.devRef .tc main_v6) := by
  after_reads_simp

theorem main.seg5_keep_v41 (W : Valuation τ sig (Elt F)) : after (main.seg5 (F := F)) W (Proc.devRef .tc main_v41) = W (Proc.devRef .tc main_v41) := by
  after_reads_simp

theorem main.seg6_keep_arg0 (W : Valuation τ sig (Elt F)) : after (main.seg6 (F := F)) W (Proc.devRef .tc main_arg0) = W (Proc.devRef .tc main_arg0) := by
  after_reads_simp

theorem main.seg6_keep_arg1 (W : Valuation τ sig (Elt F)) : after (main.seg6 (F := F)) W (Proc.devRef .tc main_arg1) = W (Proc.devRef .tc main_arg1) := by
  after_reads_simp

theorem main.seg6_keep_arg2 (W : Valuation τ sig (Elt F)) : after (main.seg6 (F := F)) W (Proc.devRef .tc main_arg2) = W (Proc.devRef .tc main_arg2) := by
  after_reads_simp

theorem main.seg6_keep_v6 (W : Valuation τ sig (Elt F)) : after (main.seg6 (F := F)) W (Proc.devRef .tc main_v6) = W (Proc.devRef .tc main_v6) := by
  after_reads_simp

theorem main.seg6_keep_v41 (W : Valuation τ sig (Elt F)) : after (main.seg6 (F := F)) W (Proc.devRef .tc main_v41) = W (Proc.devRef .tc main_v41) := by
  after_reads_simp

theorem main.seg7_keep_arg0 (W : Valuation τ sig (Elt F)) : after (main.seg7 (F := F)) W (Proc.devRef .tc main_arg0) = W (Proc.devRef .tc main_arg0) := by
  after_reads_simp

theorem main.seg7_keep_arg1 (W : Valuation τ sig (Elt F)) : after (main.seg7 (F := F)) W (Proc.devRef .tc main_arg1) = W (Proc.devRef .tc main_arg1) := by
  after_reads_simp

theorem main.seg7_keep_arg2 (W : Valuation τ sig (Elt F)) : after (main.seg7 (F := F)) W (Proc.devRef .tc main_arg2) = W (Proc.devRef .tc main_arg2) := by
  after_reads_simp

theorem main.seg7_keep_v6 (W : Valuation τ sig (Elt F)) : after (main.seg7 (F := F)) W (Proc.devRef .tc main_v6) = W (Proc.devRef .tc main_v6) := by
  after_reads_simp

theorem main.seg7_keep_v41 (W : Valuation τ sig (Elt F)) : after (main.seg7 (F := F)) W (Proc.devRef .tc main_v41) = W (Proc.devRef .tc main_v41) := by
  after_reads_simp

theorem main.seg8_keep_arg0 (W : Valuation τ sig (Elt F)) : after (main.seg8 (F := F)) W (Proc.devRef .tc main_arg0) = W (Proc.devRef .tc main_arg0) := by
  after_reads_simp

theorem main.seg8_keep_arg1 (W : Valuation τ sig (Elt F)) : after (main.seg8 (F := F)) W (Proc.devRef .tc main_arg1) = W (Proc.devRef .tc main_arg1) := by
  after_reads_simp

theorem main.seg8_keep_arg2 (W : Valuation τ sig (Elt F)) : after (main.seg8 (F := F)) W (Proc.devRef .tc main_arg2) = W (Proc.devRef .tc main_arg2) := by
  after_reads_simp

theorem main.seg8_keep_v6 (W : Valuation τ sig (Elt F)) : after (main.seg8 (F := F)) W (Proc.devRef .tc main_v6) = W (Proc.devRef .tc main_v6) := by
  after_reads_simp

theorem main.seg8_keep_v41 (W : Valuation τ sig (Elt F)) : after (main.seg8 (F := F)) W (Proc.devRef .tc main_v41) = W (Proc.devRef .tc main_v41) := by
  after_reads_simp

theorem main.seg9_keep_arg0 (W : Valuation τ sig (Elt F)) : after (main.seg9 (F := F)) W (Proc.devRef .tc main_arg0) = W (Proc.devRef .tc main_arg0) := by
  after_reads_simp

theorem main.seg9_keep_arg1 (W : Valuation τ sig (Elt F)) : after (main.seg9 (F := F)) W (Proc.devRef .tc main_arg1) = W (Proc.devRef .tc main_arg1) := by
  after_reads_simp

theorem main.seg9_keep_arg2 (W : Valuation τ sig (Elt F)) : after (main.seg9 (F := F)) W (Proc.devRef .tc main_arg2) = W (Proc.devRef .tc main_arg2) := by
  after_reads_simp

theorem main.seg9_keep_v6 (W : Valuation τ sig (Elt F)) : after (main.seg9 (F := F)) W (Proc.devRef .tc main_v6) = W (Proc.devRef .tc main_v6) := by
  after_reads_simp

theorem main.seg9_keep_v41 (W : Valuation τ sig (Elt F)) : after (main.seg9 (F := F)) W (Proc.devRef .tc main_v41) = W (Proc.devRef .tc main_v41) := by
  after_reads_simp

theorem main.seg10_keep_arg0 (W : Valuation τ sig (Elt F)) : after (main.seg10 (F := F)) W (Proc.devRef .tc main_arg0) = W (Proc.devRef .tc main_arg0) := by
  after_reads_simp

theorem main.seg10_keep_arg1 (W : Valuation τ sig (Elt F)) : after (main.seg10 (F := F)) W (Proc.devRef .tc main_arg1) = W (Proc.devRef .tc main_arg1) := by
  after_reads_simp

theorem main.seg10_keep_arg2 (W : Valuation τ sig (Elt F)) : after (main.seg10 (F := F)) W (Proc.devRef .tc main_arg2) = W (Proc.devRef .tc main_arg2) := by
  after_reads_simp

theorem main.seg10_keep_v6 (W : Valuation τ sig (Elt F)) : after (main.seg10 (F := F)) W (Proc.devRef .tc main_v6) = W (Proc.devRef .tc main_v6) := by
  after_reads_simp

theorem main.seg10_keep_v41 (W : Valuation τ sig (Elt F)) : after (main.seg10 (F := F)) W (Proc.devRef .tc main_v41) = W (Proc.devRef .tc main_v41) := by
  after_reads_simp

theorem main.seg11_keep_arg0 (W : Valuation τ sig (Elt F)) : after (main.seg11 (F := F)) W (Proc.devRef .tc main_arg0) = W (Proc.devRef .tc main_arg0) := by
  after_reads_simp

theorem main.seg11_keep_arg1 (W : Valuation τ sig (Elt F)) : after (main.seg11 (F := F)) W (Proc.devRef .tc main_arg1) = W (Proc.devRef .tc main_arg1) := by
  after_reads_simp

theorem main.seg11_keep_arg2 (W : Valuation τ sig (Elt F)) : after (main.seg11 (F := F)) W (Proc.devRef .tc main_arg2) = W (Proc.devRef .tc main_arg2) := by
  after_reads_simp

theorem main.seg11_keep_v6 (W : Valuation τ sig (Elt F)) : after (main.seg11 (F := F)) W (Proc.devRef .tc main_v6) = W (Proc.devRef .tc main_v6) := by
  after_reads_simp

theorem main.seg12_keep_arg0 (W : Valuation τ sig (Elt F)) : after (main.seg12 (F := F)) W (Proc.devRef .tc main_arg0) = W (Proc.devRef .tc main_arg0) := by
  after_reads_simp

theorem main.seg12_keep_arg1 (W : Valuation τ sig (Elt F)) : after (main.seg12 (F := F)) W (Proc.devRef .tc main_arg1) = W (Proc.devRef .tc main_arg1) := by
  after_reads_simp

theorem main.seg12_keep_arg2 (W : Valuation τ sig (Elt F)) : after (main.seg12 (F := F)) W (Proc.devRef .tc main_arg2) = W (Proc.devRef .tc main_arg2) := by
  after_reads_simp

theorem main.seg12_keep_v6 (W : Valuation τ sig (Elt F)) : after (main.seg12 (F := F)) W (Proc.devRef .tc main_v6) = W (Proc.devRef .tc main_v6) := by
  after_reads_simp

theorem main.seg12_keep_v108 (W : Valuation τ sig (Elt F)) : after (main.seg12 (F := F)) W (Proc.devRef .tc main_v108) = W (Proc.devRef .tc main_v108) := by
  after_reads_simp

theorem main.seg13_keep_arg0 (W : Valuation τ sig (Elt F)) : after (main.seg13 (F := F)) W (Proc.devRef .tc main_arg0) = W (Proc.devRef .tc main_arg0) := by
  after_reads_simp

theorem main.seg13_keep_arg1 (W : Valuation τ sig (Elt F)) : after (main.seg13 (F := F)) W (Proc.devRef .tc main_arg1) = W (Proc.devRef .tc main_arg1) := by
  after_reads_simp

theorem main.seg13_keep_arg2 (W : Valuation τ sig (Elt F)) : after (main.seg13 (F := F)) W (Proc.devRef .tc main_arg2) = W (Proc.devRef .tc main_arg2) := by
  after_reads_simp

theorem main.seg13_keep_v108 (W : Valuation τ sig (Elt F)) : after (main.seg13 (F := F)) W (Proc.devRef .tc main_v108) = W (Proc.devRef .tc main_v108) := by
  after_reads_simp

theorem main.seg13_keep_v139 (W : Valuation τ sig (Elt F)) : after (main.seg13 (F := F)) W (Proc.devRef .tc main_v139) = W (Proc.devRef .tc main_v139) := by
  after_reads_simp

theorem main.seg14_keep_arg0 (W : Valuation τ sig (Elt F)) : after (main.seg14 (F := F)) W (Proc.devRef .tc main_arg0) = W (Proc.devRef .tc main_arg0) := by
  after_reads_simp

theorem main.seg14_keep_arg1 (W : Valuation τ sig (Elt F)) : after (main.seg14 (F := F)) W (Proc.devRef .tc main_arg1) = W (Proc.devRef .tc main_arg1) := by
  after_reads_simp

theorem main.seg14_keep_arg2 (W : Valuation τ sig (Elt F)) : after (main.seg14 (F := F)) W (Proc.devRef .tc main_arg2) = W (Proc.devRef .tc main_arg2) := by
  after_reads_simp

theorem main.seg14_keep_v108 (W : Valuation τ sig (Elt F)) : after (main.seg14 (F := F)) W (Proc.devRef .tc main_v108) = W (Proc.devRef .tc main_v108) := by
  after_reads_simp

theorem main.seg14_keep_v139 (W : Valuation τ sig (Elt F)) : after (main.seg14 (F := F)) W (Proc.devRef .tc main_v139) = W (Proc.devRef .tc main_v139) := by
  after_reads_simp

theorem main.seg15_keep_arg0 (W : Valuation τ sig (Elt F)) : after (main.seg15 (F := F)) W (Proc.devRef .tc main_arg0) = W (Proc.devRef .tc main_arg0) := by
  after_reads_simp

theorem main.seg15_keep_arg1 (W : Valuation τ sig (Elt F)) : after (main.seg15 (F := F)) W (Proc.devRef .tc main_arg1) = W (Proc.devRef .tc main_arg1) := by
  after_reads_simp

theorem main.seg15_keep_arg2 (W : Valuation τ sig (Elt F)) : after (main.seg15 (F := F)) W (Proc.devRef .tc main_arg2) = W (Proc.devRef .tc main_arg2) := by
  after_reads_simp

theorem main.seg15_keep_v108 (W : Valuation τ sig (Elt F)) : after (main.seg15 (F := F)) W (Proc.devRef .tc main_v108) = W (Proc.devRef .tc main_v108) := by
  after_reads_simp

theorem main.seg16_keep_arg0 (W : Valuation τ sig (Elt F)) : after (main.seg16 (F := F)) W (Proc.devRef .tc main_arg0) = W (Proc.devRef .tc main_arg0) := by
  after_reads_simp

theorem main.seg16_keep_arg1 (W : Valuation τ sig (Elt F)) : after (main.seg16 (F := F)) W (Proc.devRef .tc main_arg1) = W (Proc.devRef .tc main_arg1) := by
  after_reads_simp

theorem main.seg16_keep_arg2 (W : Valuation τ sig (Elt F)) : after (main.seg16 (F := F)) W (Proc.devRef .tc main_arg2) = W (Proc.devRef .tc main_arg2) := by
  after_reads_simp

theorem main.seg16_keep_v143 (W : Valuation τ sig (Elt F)) : after (main.seg16 (F := F)) W (Proc.devRef .tc main_v143) = W (Proc.devRef .tc main_v143) := by
  after_reads_simp

theorem main.seg17_keep_arg0 (W : Valuation τ sig (Elt F)) : after (main.seg17 (F := F)) W (Proc.devRef .tc main_arg0) = W (Proc.devRef .tc main_arg0) := by
  after_reads_simp

theorem main.seg17_keep_arg1 (W : Valuation τ sig (Elt F)) : after (main.seg17 (F := F)) W (Proc.devRef .tc main_arg1) = W (Proc.devRef .tc main_arg1) := by
  after_reads_simp

theorem main.seg17_keep_arg2 (W : Valuation τ sig (Elt F)) : after (main.seg17 (F := F)) W (Proc.devRef .tc main_arg2) = W (Proc.devRef .tc main_arg2) := by
  after_reads_simp

theorem main.seg17_keep_v143 (W : Valuation τ sig (Elt F)) : after (main.seg17 (F := F)) W (Proc.devRef .tc main_v143) = W (Proc.devRef .tc main_v143) := by
  after_reads_simp

theorem main.seg18_keep_arg0 (W : Valuation τ sig (Elt F)) : after (main.seg18 (F := F)) W (Proc.devRef .tc main_arg0) = W (Proc.devRef .tc main_arg0) := by
  after_reads_simp

theorem main.seg18_keep_arg1 (W : Valuation τ sig (Elt F)) : after (main.seg18 (F := F)) W (Proc.devRef .tc main_arg1) = W (Proc.devRef .tc main_arg1) := by
  after_reads_simp

theorem main.seg18_keep_arg2 (W : Valuation τ sig (Elt F)) : after (main.seg18 (F := F)) W (Proc.devRef .tc main_arg2) = W (Proc.devRef .tc main_arg2) := by
  after_reads_simp

theorem main.seg18_keep_v143 (W : Valuation τ sig (Elt F)) : after (main.seg18 (F := F)) W (Proc.devRef .tc main_v143) = W (Proc.devRef .tc main_v143) := by
  after_reads_simp

theorem main.seg19_keep_arg0 (W : Valuation τ sig (Elt F)) : after (main.seg19 (F := F)) W (Proc.devRef .tc main_arg0) = W (Proc.devRef .tc main_arg0) := by
  after_reads_simp

theorem main.seg19_keep_arg1 (W : Valuation τ sig (Elt F)) : after (main.seg19 (F := F)) W (Proc.devRef .tc main_arg1) = W (Proc.devRef .tc main_arg1) := by
  after_reads_simp

theorem main.seg19_keep_arg2 (W : Valuation τ sig (Elt F)) : after (main.seg19 (F := F)) W (Proc.devRef .tc main_arg2) = W (Proc.devRef .tc main_arg2) := by
  after_reads_simp

theorem main.seg19_keep_v143 (W : Valuation τ sig (Elt F)) : after (main.seg19 (F := F)) W (Proc.devRef .tc main_v143) = W (Proc.devRef .tc main_v143) := by
  after_reads_simp

theorem main.seg20_keep_arg0 (W : Valuation τ sig (Elt F)) : after (main.seg20 (F := F)) W (Proc.devRef .tc main_arg0) = W (Proc.devRef .tc main_arg0) := by
  after_reads_simp

theorem main.seg20_keep_arg1 (W : Valuation τ sig (Elt F)) : after (main.seg20 (F := F)) W (Proc.devRef .tc main_arg1) = W (Proc.devRef .tc main_arg1) := by
  after_reads_simp

theorem main.seg20_keep_arg2 (W : Valuation τ sig (Elt F)) : after (main.seg20 (F := F)) W (Proc.devRef .tc main_arg2) = W (Proc.devRef .tc main_arg2) := by
  after_reads_simp

theorem main.seg20_keep_v143 (W : Valuation τ sig (Elt F)) : after (main.seg20 (F := F)) W (Proc.devRef .tc main_v143) = W (Proc.devRef .tc main_v143) := by
  after_reads_simp

theorem main.seg21_keep_arg0 (W : Valuation τ sig (Elt F)) : after (main.seg21 (F := F)) W (Proc.devRef .tc main_arg0) = W (Proc.devRef .tc main_arg0) := by
  after_reads_simp

theorem main.seg21_keep_arg1 (W : Valuation τ sig (Elt F)) : after (main.seg21 (F := F)) W (Proc.devRef .tc main_arg1) = W (Proc.devRef .tc main_arg1) := by
  after_reads_simp

theorem main.seg21_keep_arg2 (W : Valuation τ sig (Elt F)) : after (main.seg21 (F := F)) W (Proc.devRef .tc main_arg2) = W (Proc.devRef .tc main_arg2) := by
  after_reads_simp

theorem main.seg21_keep_v143 (W : Valuation τ sig (Elt F)) : after (main.seg21 (F := F)) W (Proc.devRef .tc main_v143) = W (Proc.devRef .tc main_v143) := by
  after_reads_simp

theorem main.seg22_keep_arg0 (W : Valuation τ sig (Elt F)) : after (main.seg22 (F := F)) W (Proc.devRef .tc main_arg0) = W (Proc.devRef .tc main_arg0) := by
  after_reads_simp

theorem main.seg22_keep_arg1 (W : Valuation τ sig (Elt F)) : after (main.seg22 (F := F)) W (Proc.devRef .tc main_arg1) = W (Proc.devRef .tc main_arg1) := by
  after_reads_simp

theorem main.seg22_keep_arg2 (W : Valuation τ sig (Elt F)) : after (main.seg22 (F := F)) W (Proc.devRef .tc main_arg2) = W (Proc.devRef .tc main_arg2) := by
  after_reads_simp

theorem main.seg22_keep_v143 (W : Valuation τ sig (Elt F)) : after (main.seg22 (F := F)) W (Proc.devRef .tc main_v143) = W (Proc.devRef .tc main_v143) := by
  after_reads_simp

theorem main.seg23_keep_arg0 (W : Valuation τ sig (Elt F)) : after (main.seg23 (F := F)) W (Proc.devRef .tc main_arg0) = W (Proc.devRef .tc main_arg0) := by
  after_reads_simp

theorem main.seg23_keep_arg1 (W : Valuation τ sig (Elt F)) : after (main.seg23 (F := F)) W (Proc.devRef .tc main_arg1) = W (Proc.devRef .tc main_arg1) := by
  after_reads_simp

theorem main.seg23_keep_arg2 (W : Valuation τ sig (Elt F)) : after (main.seg23 (F := F)) W (Proc.devRef .tc main_arg2) = W (Proc.devRef .tc main_arg2) := by
  after_reads_simp

theorem main.line_keep_arg0 (W : Valuation τ sig (Elt F)) : after (main.line (F := F)) W (Proc.devRef .tc main_arg0) = W (Proc.devRef .tc main_arg0) := by
  unfold main.line
  simp only [after_append]
  rw [main.seg23_keep_arg0, main.seg22_keep_arg0, main.seg21_keep_arg0, main.seg20_keep_arg0, main.seg19_keep_arg0, main.seg18_keep_arg0, main.seg17_keep_arg0, main.seg16_keep_arg0, main.seg15_keep_arg0, main.seg14_keep_arg0, main.seg13_keep_arg0, main.seg12_keep_arg0, main.seg11_keep_arg0, main.seg10_keep_arg0, main.seg9_keep_arg0, main.seg8_keep_arg0, main.seg7_keep_arg0, main.seg6_keep_arg0, main.seg5_keep_arg0, main.seg4_keep_arg0, main.seg3_keep_arg0, main.seg2_keep_arg0, main.seg1_keep_arg0, main.seg0_keep_arg0]

theorem main.line_keep_arg1 (W : Valuation τ sig (Elt F)) : after (main.line (F := F)) W (Proc.devRef .tc main_arg1) = W (Proc.devRef .tc main_arg1) := by
  unfold main.line
  simp only [after_append]
  rw [main.seg23_keep_arg1, main.seg22_keep_arg1, main.seg21_keep_arg1, main.seg20_keep_arg1, main.seg19_keep_arg1, main.seg18_keep_arg1, main.seg17_keep_arg1, main.seg16_keep_arg1, main.seg15_keep_arg1, main.seg14_keep_arg1, main.seg13_keep_arg1, main.seg12_keep_arg1, main.seg11_keep_arg1, main.seg10_keep_arg1, main.seg9_keep_arg1, main.seg8_keep_arg1, main.seg7_keep_arg1, main.seg6_keep_arg1, main.seg5_keep_arg1, main.seg4_keep_arg1, main.seg3_keep_arg1, main.seg2_keep_arg1, main.seg1_keep_arg1, main.seg0_keep_arg1]

theorem main.line_keep_arg2 (W : Valuation τ sig (Elt F)) : after (main.line (F := F)) W (Proc.devRef .tc main_arg2) = W (Proc.devRef .tc main_arg2) := by
  unfold main.line
  simp only [after_append]
  rw [main.seg23_keep_arg2, main.seg22_keep_arg2, main.seg21_keep_arg2, main.seg20_keep_arg2, main.seg19_keep_arg2, main.seg18_keep_arg2, main.seg17_keep_arg2, main.seg16_keep_arg2, main.seg15_keep_arg2, main.seg14_keep_arg2, main.seg13_keep_arg2, main.seg12_keep_arg2, main.seg11_keep_arg2, main.seg10_keep_arg2, main.seg9_keep_arg2, main.seg8_keep_arg2, main.seg7_keep_arg2, main.seg6_keep_arg2, main.seg5_keep_arg2, main.seg4_keep_arg2, main.seg3_keep_arg2, main.seg2_keep_arg2, main.seg1_keep_arg2, main.seg0_keep_arg2]

variable (m : (ℓ : Loc nD τ sig) → Buf (Elt F) ℓ) (ρ : Dev nD → PrngReg)

/-- The reference runs to its line of operations applied to its launch contents. -/
theorem run_line : θ_run (defs (F := F)) (onTc (τ := τ) (main (F := F))) ⟨m, fun _ => 0, ρ⟩ fun r =>
    ∀ (d : Dev nD) (b : Ref sig .tc), r.2.mem ((d.tc : Thread nD τ).loc b) = after (main.line (F := F)) (launchContents m d) (Proc.devRef .tc b) :=
  run_hlo _ _ main.straight (by decide) (by decide) (List.forall_iff_forall_mem.2 fun op h => (main.line_fine op h).1)
    (fun op h => (main.line_fine op h).2) m ρ

/-- The arguments are unchanged and the counters at zero. -/
theorem frame_line : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_mono (run_line m ρ) fun r h => ⟨fun c => ⟨(h c main_arg0).trans (main.line_keep_arg0 _), (h c main_arg1).trans (main.line_keep_arg1 _),
    (h c main_arg2).trans (main.line_keep_arg2 _)⟩, sem_eq_zero_of_no_sems (by decide) r.2⟩

end Cert.ReferenceIdeal.Gen

end
-- ==== Proof.Img.lean ====
module

public import Idealize.ShloMosaic.Lib.Pointwise

/-! One image as a function of channel, row and column over the ideal reals: the eight augmentations of the problem, what
one draw does to the image, and what the kernel does instead. The last theorem says where the two agree. -/

@[expose] public section

noncomputable section

namespace Cert.Image

open Idealize.ShloMosaic

/-- One image: channel, row, column. -/
abbrev Img := Fin 3 → Fin 224 → Fin 224 → EReal

def mirror (y : Img) : Img := fun c r w => y c r w.rev
def overturn (y : Img) : Img := fun c r w => y c r.rev w
/-- The first `k` rows taken from the opposite row, the rest left. -/
def turn (k : Nat) (y : Img) : Img := fun c r w => if r.val < k then y c r.rev w else y c r w
def bright (t : EReal) (y : Img) : Img := fun c r w => min 1 (max 0 (y c r w + Ideal.ofBits .f32 0x3E99999A#32 * t))
def mean (y : Img) : EReal := Ideal.div (∑ c, ∑ r, ∑ w, y c r w) (Ideal.ofBits .f32 0x48130000#32)
def contrast (t : EReal) (y : Img) : Img := fun c r w => min 1 (max 0 ((y c r w - mean y) * (1 + t) + mean y))
def invert (y : Img) : Img := fun c r w => 1 - y c r w
def solarize (t : EReal) (y : Img) : Img := fun c r w => if y c r w < 1 - Ideal.ofBits .f32 0x3F000000#32 * t then y c r w else 1 - y c r w
def squash (t : EReal) (y : Img) : Img := fun c r w => Ideal.tanh (y c r w * (1 + t))

/-- What the draw `s` does to an image whose rate is `t`: the problem's augmentation. -/
def step (s : BitVec 32) (t : EReal) (y : Img) : Img :=
  if s = 1#32 then mirror y else if s = 2#32 then overturn y else if s = 3#32 then bright t y else if s = 4#32 then contrast t y
  else if s = 5#32 then invert y else if s = 6#32 then solarize t y else if s = 7#32 then squash t y else y

/-- The reference's spelling: eight masked overwrites, one after the other. -/
def stages (s : BitVec 32) (t : EReal) (y : Img) : Img :=
  let y0 := if s = 0#32 then y else y
  let y1 := if s = 1#32 then mirror y0 else y0
  let y2 := if s = 2#32 then overturn y1 else y1
  let y3 := if s = 3#32 then bright t y2 else y2
  let y4 := if s = 4#32 then contrast t y3 else y3
  let y5 := if s = 5#32 then invert y4 else y4
  let y6 := if s = 6#32 then solarize t y5 else y5
  if s = 7#32 then squash t y6 else y6

theorem stages_eq (s : BitVec 32) (t : EReal) (y : Img) : stages s t y = step s t y := by
  unfold stages step
  by_cases h1 : s = 1#32
  · subst h1; simp
  by_cases h2 : s = 2#32
  · subst h2; simp
  by_cases h3 : s = 3#32
  · subst h3; simp
  by_cases h4 : s = 4#32
  · subst h4; simp
  by_cases h5 : s = 5#32
  · subst h5; simp
  by_cases h6 : s = 6#32
  · subst h6; simp
  by_cases h7 : s = 7#32
  · subst h7; simp
  simp [h1, h2, h3, h4, h5, h6, h7]

/-- The branch of the kernel that the draw selects: the flips are left to the steps after it. -/
def branch (s : BitVec 32) (t : EReal) (y : Img) : Img :=
  if s = 3#32 then bright t y else if s = 4#32 then contrast t y else if s = 5#32 then invert y
  else if s = 6#32 then solarize t y else if s = 7#32 then squash t y else y

/-- The number of rows the kernel turns over at each draw. -/
def rows1 (s1 s2 : BitVec 32) : Nat := if s1 = 2#32 then (if s2 = 1#32 then 224 else 120) else 0
def rows2 (s1 s2 : BitVec 32) : Nat := if s2 = 2#32 then (if s1 = 2#32 then 224 else 150) else 0

/-- One draw of the kernel. -/
def kstep (s : BitVec 32) (k : Nat) (t : EReal) (y : Img) : Img :=
  turn k (if s = 1#32 then mirror (branch s t y) else branch s t y)

theorem turn_zero (y : Img) : turn 0 y = y := by
  funext c r w; simp [turn]

theorem turn_all (y : Img) : turn 224 y = overturn y := by
  funext c r w
  have := r.isLt
  simp [turn, overturn, this]

/-- A draw other than the vertical flip, with no rows turned, is the problem's. -/
theorem kstep_zero (s : BitVec 32) (t : EReal) (y : Img) (h : s ≠ 2#32) : kstep s 0 t y = step s t y := by
  unfold kstep step branch
  rw [turn_zero]
  by_cases h1 : s = 1#32
  · subst h1; simp
  simp [h, h1]

/-- The vertical flip of the kernel is the problem's in the rows it reaches. -/
theorem kstep_two (k : Nat) (t : EReal) (y : Img) : kstep 2#32 k t y = turn k y := by
  unfold kstep branch; simp

theorem step_two (t : EReal) (y : Img) : step 2#32 t y = overturn y := by
  unfold step; simp

/-- What the mask of the claim lets through, in the words of one image and the row. -/
def Agrees (s1 s2 : BitVec 32) (r : Nat) : Prop :=
  (s1 ≠ 2#32 ∧ s2 ≠ 2#32) ∨ (s1 = 2#32 ∧ s2 = 1#32) ∨ (s1 = 2#32 ∧ s2 = 2#32 ∧ 104 ≤ r)
    ∨ (s1 ≠ 2#32 ∧ s2 = 2#32 ∧ r < 150) ∨ (s1 = 2#32 ∧ s2 ≠ 2#32 ∧ s2 ≠ 4#32 ∧ r < 120)

/-- An elementwise draw at a pixel, or the horizontal flip at a row, reads that row only. -/
theorem step_row (s : BitVec 32) (t : EReal) (y z : Img) (r : Fin 224) (h2 : s ≠ 2#32) (h4 : s ≠ 4#32)
    (hyz : ∀ c w, y c r w = z c r w) (c : Fin 3) (w : Fin 224) : step s t y c r w = step s t z c r w := by
  unfold step
  simp only [h2, h4, if_false]
  split_ifs <;> simp [mirror, bright, invert, solarize, squash, hyz]

theorem agree (s1 s2 : BitVec 32) (t : EReal) (y : Img) (c : Fin 3) (r w : Fin 224) (h : Agrees s1 s2 r.val) :
    kstep s2 (rows2 s1 s2) t (kstep s1 (rows1 s1 s2) t y) c r w = step s2 t (step s1 t y) c r w := by
  unfold Agrees at h
  by_cases h1 : s1 = 2#32 <;> by_cases h2 : s2 = 2#32
  · subst h1; subst h2
    have hr : 104 ≤ r.val := by simpa using h
    simp only [rows1, rows2, kstep_two, step_two, turn_all, if_true]
    have hlt : r.rev.val < 120 := by rw [Fin.val_rev]; omega
    show (if r.rev.val < 120 then y c r.rev.rev w else y c r.rev w) = y c r.rev.rev w
    rw [if_pos hlt]
  · subst h1
    simp only [rows1, rows2, kstep_two, step_two, h2, if_false, if_true]
    rw [kstep_zero _ _ _ h2]
    by_cases h5 : s2 = 1#32
    · subst h5
      rw [if_pos rfl, turn_all]
    · have hh : s2 ≠ 4#32 ∧ r.val < 120 := by simpa [h2, h5] using h
      rw [if_neg h5]
      exact step_row s2 t _ _ r h2 hh.1 (fun c w => by simp [turn, overturn, hh.2]) c w
  · subst h2
    have hr : r.val < 150 := by simpa [h1] using h
    simp only [rows1, rows2, kstep_two, step_two, h1, if_false, if_true]
    rw [kstep_zero _ _ _ h1]
    simp [turn, overturn, hr]
  · simp only [rows1, rows2, h1, h2, if_false]
    rw [kstep_zero _ _ _ h1, kstep_zero _ _ _ h2]

end Cert.Image

end
-- ==== Proof.RStages.lean ====
module

public import proofs.«01_k».proof.Proof.RefMain
public import proofs.«01_k».proof.Proof.Img
public import Idealize.ShloMosaic.Lib.StableHlo.RunRead
public import Idealize.ShloMosaic.Lib.Pipeline.Frame

/-! What each masked overwrite of the reference leaves of one image, over the ideal reals. -/

@[expose] public section

set_option maxRecDepth 16384
set_option maxHeartbeats 4000000

noncomputable section

namespace Cert.ReferenceIdeal.Gen

open Cert.ReferenceIdeal.Gen Cert.ReferenceIdeal Idealize.ShloMosaic Idealize.ShloMosaic.TcCoe Idealize.ShloMosaic.StableHlo Idealize.SL.Sem Cert.Image

/-- Image `b` of the batch. -/
def im (b : Fin 128) (x : FVec Ideal S128x3x224x224 .f32) : Img := fun c r w => x (ix4 b c r w)

/-- The rate that a magnitude stands for. -/
def rate (mag : FVec Ideal S_ .f32) : EReal := Ideal.div (mag ix0) (Ideal.ofBits .f32 0x41200000#32)

theorem sel_eq (a k : BitVec 32) (u v : EReal) : Scalar.select (IntOp.cmpi .eq a k) u v = if a = k then u else v := by
  by_cases h : a = k
  · subst h; simp [IntOp.cmpi, Scalar.select]
  · have e : (a == k) = false := beq_false_of_ne h
    rw [if_neg h]
    simp only [IntOp.cmpi, e]
    rfl

theorem if_img (p : Prop) [Decidable p] (y z : Img) (c : Fin 3) (r w : Fin 224) : (if p then y else z) c r w = if p then y c r w else z c r w := by
  split <;> rfl

/-- The sum over all but the first axis, at one image. -/
theorem batch_sum (h : S128x3x224x224.ReducesTo [1, 2, 3] S128) (x : FVec Ideal S128x3x224x224 .f32) (b : Fin 128) :
    Ideal.hostReduceAdd h x 0 (ix1 b) = ∑ c, ∑ r, ∑ w, im b x c r w := by
  have hd : ∀ (a : Fin 128) (c : Fin 3) (r w : Fin 224), h.drop (ix4 a c r w) = ix1 b ↔ a = b := by
    intro a c r w
    have e : (h.drop (ix4 a c r w) (0 : Fin 1)).val = a.val := rfl
    constructor
    · intro q
      apply Fin.ext
      rw [← e, q]
      rfl
    · intro q
      subst q
      funext i
      have hi : i = (0 : Fin 1) := Subsingleton.elim _ _
      subst hi
      exact Fin.ext e
  unfold Ideal.hostReduceAdd
  rw [zero_add, Finset.sum_filter, sum_idx4]
  simp only [hd]
  rw [Finset.sum_eq_single b]
  · simp [im]
  · intro a _ ha
    simp [ha]
  · intro hb; exact absurd (Finset.mem_univ _) hb

theorem seg4_im (W : Valuation τ sig (Elt Ideal)) (b : Fin 128) : im b (after main.seg4 W (Proc.devRef .tc main_v45))
    = if (W (Proc.devRef .tc main_v41) : IVec S128 32) (ix1 b) = 0#32 then im b (W (Proc.devRef .tc main_arg0)) else im b (W (Proc.devRef .tc main_arg0)) := by
  funext c r w
  rw [if_img]
  unfold im
  after_reads_simp
  simp -implicitDefEqProofs only [TRef.toBuf, TRef.ofBuf, cast_cast, cast_eq]
  pointwise [id_eq]
  simp only [ite_self]
  try rfl

theorem seg5_im (W : Valuation τ sig (Elt Ideal)) (b : Fin 128) : im b (after main.seg5 W (Proc.devRef .tc main_v50))
    = if (W (Proc.devRef .tc main_v41) : IVec S128 32) (ix1 b) = 1#32 then mirror (im b (W (Proc.devRef .tc main_v45))) else im b (W (Proc.devRef .tc main_v45)) := by
  funext c r w
  rw [if_img]
  unfold im mirror
  after_reads_simp
  simp -implicitDefEqProofs only [TRef.toBuf, TRef.ofBuf, cast_cast, cast_eq]
  pointwise [id_eq]
  rw [sel_eq]
  try rfl

theorem seg6_im (W : Valuation τ sig (Elt Ideal)) (b : Fin 128) : im b (after main.seg6 W (Proc.devRef .tc main_v55))
    = if (W (Proc.devRef .tc main_v41) : IVec S128 32) (ix1 b) = 2#32 then overturn (im b (W (Proc.devRef .tc main_v50))) else im b (W (Proc.devRef .tc main_v50)) := by
  funext c r w
  rw [if_img]
  unfold im overturn
  after_reads_simp
  simp -implicitDefEqProofs only [TRef.toBuf, TRef.ofBuf, cast_cast, cast_eq]
  pointwise [id_eq]
  rw [sel_eq]
  try rfl

theorem seg7_im (W : Valuation τ sig (Elt Ideal)) (b : Fin 128) : im b (after main.seg7 W (Proc.devRef .tc main_v64))
    = if (W (Proc.devRef .tc main_v41) : IVec S128 32) (ix1 b) = 3#32 then bright (rate (W (Proc.devRef .tc main_arg2))) (im b (W (Proc.devRef .tc main_v55))) else im b (W (Proc.devRef .tc main_v55)) := by
  funext c r w
  rw [if_img]
  unfold im rate bright
  after_reads_simp
  simp -implicitDefEqProofs only [TRef.toBuf, TRef.ofBuf, cast_cast, cast_eq]
  pointwise [id_eq]
  rw [sel_eq]
  try rfl

theorem seg8_im (W : Valuation τ sig (Elt Ideal)) (b : Fin 128) : im b (after main.seg8 W (Proc.devRef .tc main_v81))
    = if (W (Proc.devRef .tc main_v41) : IVec S128 32) (ix1 b) = 4#32 then contrast (rate (W (Proc.devRef .tc main_arg2))) (im b (W (Proc.devRef .tc main_v64))) else im b (W (Proc.devRef .tc main_v64)) := by
  funext c r w
  rw [if_img]
  unfold contrast mean
  rw [← batch_sum reducesTo_S128x3x224x224_S128_d1_2_3 (W (Proc.devRef .tc main_v64)) b]
  unfold im rate
  after_reads_simp
  simp -implicitDefEqProofs only [TRef.toBuf, TRef.ofBuf, cast_cast, cast_eq]
  pointwise [id_eq]
  rw [sel_eq]
  try rfl

theorem seg9_im (W : Valuation τ sig (Elt Ideal)) (b : Fin 128) : im b (after main.seg9 W (Proc.devRef .tc main_v87))
    = if (W (Proc.devRef .tc main_v41) : IVec S128 32) (ix1 b) = 5#32 then invert (im b (W (Proc.devRef .tc main_v81))) else im b (W (Proc.devRef .tc main_v81)) := by
  funext c r w
  rw [if_img]
  unfold im invert
  after_reads_simp
  simp -implicitDefEqProofs only [TRef.toBuf, TRef.ofBuf, cast_cast, cast_eq]
  pointwise [id_eq]
  rw [sel_eq]
  try rfl

theorem seg10_im (W : Valuation τ sig (Elt Ideal)) (b : Fin 128) : im b (after main.seg10 W (Proc.devRef .tc main_v99))
    = if (W (Proc.devRef .tc main_v41) : IVec S128 32) (ix1 b) = 6#32 then solarize (rate (W (Proc.devRef .tc main_arg2))) (im b (W (Proc.devRef .tc main_v87))) else im b (W (Proc.devRef .tc main_v87)) := by
  funext c r w
  rw [if_img]
  unfold im rate solarize
  after_reads_simp
  simp -implicitDefEqProofs only [TRef.toBuf, TRef.ofBuf, cast_cast, cast_eq]
  pointwise [id_eq]
  rw [sel_eq]
  try rfl

theorem seg11_im (W : Valuation τ sig (Elt Ideal)) (b : Fin 128) : im b (after main.seg11 W (Proc.devRef .tc main_v108))
    = if (W (Proc.devRef .tc main_v41) : IVec S128 32) (ix1 b) = 7#32 then squash (rate (W (Proc.devRef .tc main_arg2))) (im b (W (Proc.devRef .tc main_v99))) else im b (W (Proc.devRef .tc main_v99)) := by
  funext c r w
  rw [if_img]
  unfold im rate squash
  after_reads_simp
  simp -implicitDefEqProofs only [TRef.toBuf, TRef.ofBuf, cast_cast, cast_eq]
  pointwise [id_eq]
  rw [sel_eq]
  try rfl

theorem seg16_im (W : Valuation τ sig (Elt Ideal)) (b : Fin 128) : im b (after main.seg16 W (Proc.devRef .tc main_v147))
    = if (W (Proc.devRef .tc main_v143) : IVec S128 32) (ix1 b) = 0#32 then im b (W (Proc.devRef .tc main_v108)) else im b (W (Proc.devRef .tc main_v108)) := by
  funext c r w
  rw [if_img]
  unfold im
  after_reads_simp
  simp -implicitDefEqProofs only [TRef.toBuf, TRef.ofBuf, cast_cast, cast_eq]
  pointwise [id_eq]
  simp only [ite_self]
  try rfl

theorem seg17_im (W : Valuation τ sig (Elt Ideal)) (b : Fin 128) : im b (after main.seg17 W (Proc.devRef .tc main_v152))
    = if (W (Proc.devRef .tc main_v143) : IVec S128 32) (ix1 b) = 1#32 then mirror (im b (W (Proc.devRef .tc main_v147))) else im b (W (Proc.devRef .tc main_v147)) := by
  funext c r w
  rw [if_img]
  unfold im mirror
  after_reads_simp
  simp -implicitDefEqProofs only [TRef.toBuf, TRef.ofBuf, cast_cast, cast_eq]
  pointwise [id_eq]
  rw [sel_eq]
  try rfl

theorem seg18_im (W : Valuation τ sig (Elt Ideal)) (b : Fin 128) : im b (after main.seg18 W (Proc.devRef .tc main_v157))
    = if (W (Proc.devRef .tc main_v143) : IVec S128 32) (ix1 b) = 2#32 then overturn (im b (W (Proc.devRef .tc main_v152))) else im b (W (Proc.devRef .tc main_v152)) := by
  funext c r w
  rw [if_img]
  unfold im overturn
  after_reads_simp
  simp -implicitDefEqProofs only [TRef.toBuf, TRef.ofBuf, cast_cast, cast_eq]
  pointwise [id_eq]
  rw [sel_eq]
  try rfl

theorem seg19_im (W : Valuation τ sig (Elt Ideal)) (b : Fin 128) : im b (after main.seg19 W (Proc.devRef .tc main_v166))
    = if (W (Proc.devRef .tc main_v143) : IVec S128 32) (ix1 b) = 3#32 then bright (rate (W (Proc.devRef .tc main_arg2))) (im b (W (Proc.devRef .tc main_v157))) else im b (W (Proc.devRef .tc main_v157)) := by
  funext c r w
  rw [if_img]
  unfold im rate bright
  after_reads_simp
  simp -implicitDefEqProofs only [TRef.toBuf, TRef.ofBuf, cast_cast, cast_eq]
  pointwise [id_eq]
  rw [sel_eq]
  try rfl

theorem seg20_im (W : Valuation τ sig (Elt Ideal)) (b : Fin 128) : im b (after main.seg20 W (Proc.devRef .tc main_v183))
    = if (W (Proc.devRef .tc main_v143) : IVec S128 32) (ix1 b) = 4#32 then contrast (rate (W (Proc.devRef .tc main_arg2))) (im b (W (Proc.devRef .tc main_v166))) else im b (W (Proc.devRef .tc main_v166)) := by
  funext c r w
  rw [if_img]
  unfold contrast mean
  rw [← batch_sum reducesTo_S128x3x224x224_S128_d1_2_3 (W (Proc.devRef .tc main_v166)) b]
  unfold im rate
  after_reads_simp
  simp -implicitDefEqProofs only [TRef.toBuf, TRef.ofBuf, cast_cast, cast_eq]
  pointwise [id_eq]
  rw [sel_eq]
  try rfl

theorem seg21_im (W : Valuation τ sig (Elt Ideal)) (b : Fin 128) : im b (after main.seg21 W (Proc.devRef .tc main_v189))
    = if (W (Proc.devRef .tc main_v143) : IVec S128 32) (ix1 b) = 5#32 then invert (im b (W (Proc.devRef .tc main_v183))) else im b (W (Proc.devRef .tc main_v183)) := by
  funext c r w
  rw [if_img]
  unfold im invert
  after_reads_simp
  simp -implicitDefEqProofs only [TRef.toBuf, TRef.ofBuf, cast_cast, cast_eq]
  pointwise [id_eq]
  rw [sel_eq]
  try rfl

theorem seg22_im (W : Valuation τ sig (Elt Ideal)) (b : Fin 128) : im b (after main.seg22 W (Proc.devRef .tc main_v201))
    = if (W (Proc.devRef .tc main_v143) : IVec S128 32) (ix1 b) = 6#32 then solarize (rate (W (Proc.devRef .tc main_arg2))) (im b (W (Proc.devRef .tc main_v189))) else im b (W (Proc.devRef .tc main_v189)) := by
  funext c r w
  rw [if_img]
  unfold im rate solarize
  after_reads_simp
  simp -implicitDefEqProofs only [TRef.toBuf, TRef.ofBuf, cast_cast, cast_eq]
  pointwise [id_eq]
  rw [sel_eq]
  try rfl

theorem seg23_im (W : Valuation τ sig (Elt Ideal)) (b : Fin 128) : im b (after main.seg23 W (Proc.devRef .tc main_v210))
    = if (W (Proc.devRef .tc main_v143) : IVec S128 32) (ix1 b) = 7#32 then squash (rate (W (Proc.devRef .tc main_arg2))) (im b (W (Proc.devRef .tc main_v201))) else im b (W (Proc.devRef .tc main_v201)) := by
  funext c r w
  rw [if_img]
  unfold im rate squash
  after_reads_simp
  simp -implicitDefEqProofs only [TRef.toBuf, TRef.ofBuf, cast_cast, cast_eq]
  pointwise [id_eq]
  rw [sel_eq]
  try rfl

end Cert.ReferenceIdeal.Gen

end
-- ==== Proof.RDraw0.lean ====
module

public import proofs.«01_k».proof.Proof.RefMain
public import proofs.«01_k».proof.Proof.Gen.On_agrees
public import Idealize.ShloMosaic.Lib.StableHlo.RunRead
public import Idealize.ShloMosaic.Lib.Pipeline.Frame

/-! Chunk by chunk, what the random draws leave in their buffers: the same function on both sides. -/

@[expose] public section

set_option maxRecDepth 16384
set_option maxHeartbeats 4000000

noncomputable section

namespace Cert.ReferenceIdeal.Gen

open Cert.ReferenceIdeal.Gen Cert.ReferenceIdeal Idealize.ShloMosaic Idealize.ShloMosaic.TcCoe Idealize.ShloMosaic.StableHlo Idealize.SL.Sem

variable {F : FTy → Type} [FloatOps F]

theorem rf0_0 (W : Valuation τ sig (Elt F)) : Cert.On_agrees.fn_threefry2x32 (F := F) (W (Proc.devRef .tc main_call0_v6)) (W (Proc.devRef .tc main_call0_v8)) (W (Proc.devRef .tc main_call0_v9)) (W (Proc.devRef .tc main_call0_v10)) =
    (fun W2 : Valuation τ sig (Elt F) => Cert.On_agrees.fn_threefry2x32_part1 (F := F) (W2 (Proc.devRef .tc main_call0_v6)) (W2 (Proc.devRef .tc main_call0_v8)) (W2 (Proc.devRef .tc main_call0_call0_v1)) (W2 (Proc.devRef .tc main_call0_call0_v13)) (W2 (Proc.devRef .tc main_call0_call0_v18))) (after ((fn_threefry2x32.run0 (F := F) main_call0.v6 main_call0.v8 main_call0.v9 main_call0.v10 main_call0.call0) : List (HloOp τ sig (Elt F))) W) := by
  dsimp only
  unfold Cert.On_agrees.fn_threefry2x32
  after_reads_simp
  rfl

theorem rf0_1 (W : Valuation τ sig (Elt F)) : Cert.On_agrees.fn_threefry2x32_part1 (F := F) (W (Proc.devRef .tc main_call0_v6)) (W (Proc.devRef .tc main_call0_v8)) (W (Proc.devRef .tc main_call0_call0_v1)) (W (Proc.devRef .tc main_call0_call0_v13)) (W (Proc.devRef .tc main_call0_call0_v18)) =
    (fun W2 : Valuation τ sig (Elt F) => Cert.On_agrees.fn_threefry2x32_part2 (F := F) (W2 (Proc.devRef .tc main_call0_v6)) (W2 (Proc.devRef .tc main_call0_v8)) (W2 (Proc.devRef .tc main_call0_call0_v1)) (W2 (Proc.devRef .tc main_call0_call0_v35)) (W2 (Proc.devRef .tc main_call0_call0_v37)) (W2 (Proc.devRef .tc main_call0_call0_c_8))) (after ((fn_threefry2x32.run1 (F := F) main_call0.v6 main_call0.v8 main_call0.v9 main_call0.v10 main_call0.call0) : List (HloOp τ sig (Elt F))) W) := by
  dsimp only
  unfold Cert.On_agrees.fn_threefry2x32_part1
  after_reads_simp
  rfl

theorem rf0_2 (W : Valuation τ sig (Elt F)) : Cert.On_agrees.fn_threefry2x32_part2 (F := F) (W (Proc.devRef .tc main_call0_v6)) (W (Proc.devRef .tc main_call0_v8)) (W (Proc.devRef .tc main_call0_call0_v1)) (W (Proc.devRef .tc main_call0_call0_v35)) (W (Proc.devRef .tc main_call0_call0_v37)) (W (Proc.devRef .tc main_call0_call0_c_8)) =
    (fun W2 : Valuation τ sig (Elt F) => Cert.On_agrees.fn_threefry2x32_part3 (F := F) (W2 (Proc.devRef .tc main_call0_v6)) (W2 (Proc.devRef .tc main_call0_v8)) (W2 (Proc.devRef .tc main_call0_call0_v1)) (W2 (Proc.devRef .tc main_call0_call0_v53)) (W2 (Proc.devRef .tc main_call0_call0_v54)) (W2 (Proc.devRef .tc main_call0_call0_v56))) (after ((fn_threefry2x32.run2 (F := F) main_call0.v6 main_call0.v8 main_call0.v9 main_call0.v10 main_call0.call0 ++ (fn_threefry2x32.run3 (F := F) main_call0.v6 main_call0.v8 main_call0.v9 main_call0.v10 main_call0.call0)) : List (HloOp τ sig (Elt F))) W) := by
  dsimp only
  unfold Cert.On_agrees.fn_threefry2x32_part2
  after_reads_simp
  rfl

theorem rf0_3 (W : Valuation τ sig (Elt F)) : Cert.On_agrees.fn_threefry2x32_part3 (F := F) (W (Proc.devRef .tc main_call0_v6)) (W (Proc.devRef .tc main_call0_v8)) (W (Proc.devRef .tc main_call0_call0_v1)) (W (Proc.devRef .tc main_call0_call0_v53)) (W (Proc.devRef .tc main_call0_call0_v54)) (W (Proc.devRef .tc main_call0_call0_v56)) =
    (fun W2 : Valuation τ sig (Elt F) => Cert.On_agrees.fn_threefry2x32_part4 (F := F) (W2 (Proc.devRef .tc main_call0_v6)) (W2 (Proc.devRef .tc main_call0_v8)) (W2 (Proc.devRef .tc main_call0_call0_v1)) (W2 (Proc.devRef .tc main_call0_call0_v73)) (W2 (Proc.devRef .tc main_call0_call0_v74)) (W2 (Proc.devRef .tc main_call0_call0_v75))) (after ((fn_threefry2x32.run4 (F := F) main_call0.v6 main_call0.v8 main_call0.v9 main_call0.v10 main_call0.call0) : List (HloOp τ sig (Elt F))) W) := by
  dsimp only
  unfold Cert.On_agrees.fn_threefry2x32_part3
  after_reads_simp
  rfl

theorem rf0_4 (W : Valuation τ sig (Elt F)) : Cert.On_agrees.fn_threefry2x32_part4 (F := F) (W (Proc.devRef .tc main_call0_v6)) (W (Proc.devRef .tc main_call0_v8)) (W (Proc.devRef .tc main_call0_call0_v1)) (W (Proc.devRef .tc main_call0_call0_v73)) (W (Proc.devRef .tc main_call0_call0_v74)) (W (Proc.devRef .tc main_call0_call0_v75)) =
    (fun W2 : Valuation τ sig (Elt F) => Cert.On_agrees.fn_threefry2x32_part5 (F := F) (W2 (Proc.devRef .tc main_call0_v6)) (W2 (Proc.devRef .tc main_call0_v8)) (W2 (Proc.devRef .tc main_call0_call0_v1)) (W2 (Proc.devRef .tc main_call0_call0_v88)) (W2 (Proc.devRef .tc main_call0_call0_v94))) (after ((fn_threefry2x32.run5 (F := F) main_call0.v6 main_call0.v8 main_call0.v9 main_call0.v10 main_call0.call0) : List (HloOp τ sig (Elt F))) W) := by
  dsimp only
  unfold Cert.On_agrees.fn_threefry2x32_part4
  after_reads_simp
  rfl

theorem rf0_5 (W : Valuation τ sig (Elt F)) : Cert.On_agrees.fn_threefry2x32_part5 (F := F) (W (Proc.devRef .tc main_call0_v6)) (W (Proc.devRef .tc main_call0_v8)) (W (Proc.devRef .tc main_call0_call0_v1)) (W (Proc.devRef .tc main_call0_call0_v88)) (W (Proc.devRef .tc main_call0_call0_v94)) =
    (fun W2 : Valuation τ sig (Elt F) => Cert.On_agrees.fn_threefry2x32_part6 (F := F) (W2 (Proc.devRef .tc main_call0_v6)) (W2 (Proc.devRef .tc main_call0_v8)) (W2 (Proc.devRef .tc main_call0_call0_v1)) (W2 (Proc.devRef .tc main_call0_call0_v108)) (W2 (Proc.devRef .tc main_call0_call0_v113))) (after ((fn_threefry2x32.run6 (F := F) main_call0.v6 main_call0.v8 main_call0.v9 main_call0.v10 main_call0.call0) : List (HloOp τ sig (Elt F))) W) := by
  dsimp only
  unfold Cert.On_agrees.fn_threefry2x32_part5
  after_reads_simp
  rfl

theorem rf0_6 (W : Valuation τ sig (Elt F)) : Cert.On_agrees.fn_threefry2x32_part6 (F := F) (W (Proc.devRef .tc main_call0_v6)) (W (Proc.devRef .tc main_call0_v8)) (W (Proc.devRef .tc main_call0_call0_v1)) (W (Proc.devRef .tc main_call0_call0_v108)) (W (Proc.devRef .tc main_call0_call0_v113)) =
    (fun W2 : Valuation τ sig (Elt F) => Cert.On_agrees.fn_threefry2x32_part7 (F := F) (W2 (Proc.devRef .tc main_call0_v6)) (W2 (Proc.devRef .tc main_call0_v8)) (W2 (Proc.devRef .tc main_call0_call0_v1)) (W2 (Proc.devRef .tc main_call0_call0_v128)) (W2 (Proc.devRef .tc main_call0_call0_v129)) (W2 (Proc.devRef .tc main_call0_call0_v131)) (W2 (Proc.devRef .tc main_call0_call0_c_34))) (after ((fn_threefry2x32.run7 (F := F) main_call0.v6 main_call0.v8 main_call0.v9 main_call0.v10 main_call0.call0) : List (HloOp τ sig (Elt F))) W) := by
  dsimp only
  unfold Cert.On_agrees.fn_threefry2x32_part6
  after_reads_simp
  rfl

theorem rf0_7 (W : Valuation τ sig (Elt F)) : Cert.On_agrees.fn_threefry2x32_part7 (F := F) (W (Proc.devRef .tc main_call0_v6)) (W (Proc.devRef .tc main_call0_v8)) (W (Proc.devRef .tc main_call0_call0_v1)) (W (Proc.devRef .tc main_call0_call0_v128)) (W (Proc.devRef .tc main_call0_call0_v129)) (W (Proc.devRef .tc main_call0_call0_v131)) (W (Proc.devRef .tc main_call0_call0_c_34)) =
    (fun W2 : Valuation τ sig (Elt F) => Cert.On_agrees.fn_threefry2x32_part8 (F := F) (W2 (Proc.devRef .tc main_call0_v6)) (W2 (Proc.devRef .tc main_call0_call0_v1)) (W2 (Proc.devRef .tc main_call0_call0_v148)) (W2 (Proc.devRef .tc main_call0_call0_v149)) (W2 (Proc.devRef .tc main_call0_call0_v151))) (after ((fn_threefry2x32.run8 (F := F) main_call0.v6 main_call0.v8 main_call0.v9 main_call0.v10 main_call0.call0 ++ (fn_threefry2x32.run9 (F := F) main_call0.v6 main_call0.v8 main_call0.v9 main_call0.v10 main_call0.call0)) : List (HloOp τ sig (Elt F))) W) := by
  dsimp only
  unfold Cert.On_agrees.fn_threefry2x32_part7
  after_reads_simp
  rfl

theorem rf0_8 (W : Valuation τ sig (Elt F)) : Cert.On_agrees.fn_threefry2x32_part8 (F := F) (W (Proc.devRef .tc main_call0_v6)) (W (Proc.devRef .tc main_call0_call0_v1)) (W (Proc.devRef .tc main_call0_call0_v148)) (W (Proc.devRef .tc main_call0_call0_v149)) (W (Proc.devRef .tc main_call0_call0_v151)) =
    (fun W2 : Valuation τ sig (Elt F) => Cert.On_agrees.fn_threefry2x32_part9 (F := F) (W2 (Proc.devRef .tc main_call0_v6)) (W2 (Proc.devRef .tc main_call0_call0_v163)) (W2 (Proc.devRef .tc main_call0_call0_v169)) (W2 (Proc.devRef .tc main_call0_call0_v170))) (after ((fn_threefry2x32.run10 (F := F) main_call0.v6 main_call0.v8 main_call0.v9 main_call0.v10 main_call0.call0) : List (HloOp τ sig (Elt F))) W) := by
  dsimp only
  unfold Cert.On_agrees.fn_threefry2x32_part8
  after_reads_simp
  rfl

theorem rf0_9 (W : Valuation τ sig (Elt F)) : Cert.On_agrees.fn_threefry2x32_part9 (F := F) (W (Proc.devRef .tc main_call0_v6)) (W (Proc.devRef .tc main_call0_call0_v163)) (W (Proc.devRef .tc main_call0_call0_v169)) (W (Proc.devRef .tc main_call0_call0_v170)) =
    (fun W2 : Valuation τ sig (Elt F) => ((W2 (Proc.devRef .tc main_call0_v11_0)), (W2 (Proc.devRef .tc main_call0_v11_1)))) (after ((fn_threefry2x32.run11 (F := F) main_call0.v6 main_call0.v8 main_call0.v9 main_call0.v10 main_call0.call0) : List (HloOp τ sig (Elt F))) W) := by
  dsimp only
  unfold Cert.On_agrees.fn_threefry2x32_part9
  after_reads_simp
  rfl

/-- The counter function inside one key derivation. -/
def rf0 : List (HloOp τ sig (Elt F)) :=
  (fn_threefry2x32.run0 (F := F) main_call0.v6 main_call0.v8 main_call0.v9 main_call0.v10 main_call0.call0) ++ ((fn_threefry2x32.run1 (F := F) main_call0.v6 main_call0.v8 main_call0.v9 main_call0.v10 main_call0.call0) ++ ((fn_threefry2x32.run2 (F := F) main_call0.v6 main_call0.v8 main_call0.v9 main_call0.v10 main_call0.call0 ++ (fn_threefry2x32.run3 (F := F) main_call0.v6 main_call0.v8 main_call0.v9 main_call0.v10 main_call0.call0)) ++ ((fn_threefry2x32.run4 (F := F) main_call0.v6 main_call0.v8 main_call0.v9 main_call0.v10 main_call0.call0) ++ ((fn_threefry2x32.run5 (F := F) main_call0.v6 main_call0.v8 main_call0.v9 main_call0.v10 main_call0.call0) ++ ((fn_threefry2x32.run6 (F := F) main_call0.v6 main_call0.v8 main_call0.v9 main_call0.v10 main_call0.call0) ++ ((fn_threefry2x32.run7 (F := F) main_call0.v6 main_call0.v8 main_call0.v9 main_call0.v10 main_call0.call0) ++ ((fn_threefry2x32.run8 (F := F) main_call0.v6 main_call0.v8 main_call0.v9 main_call0.v10 main_call0.call0 ++ (fn_threefry2x32.run9 (F := F) main_call0.v6 main_call0.v8 main_call0.v9 main_call0.v10 main_call0.call0)) ++ ((fn_threefry2x32.run10 (F := F) main_call0.v6 main_call0.v8 main_call0.v9 main_call0.v10 main_call0.call0) ++ ((fn_threefry2x32.run11 (F := F) main_call0.v6 main_call0.v8 main_call0.v9 main_call0.v10 main_call0.call0))))))))))

theorem rf0_all (W : Valuation τ sig (Elt F)) : Cert.On_agrees.fn_threefry2x32 (F := F) (W (Proc.devRef .tc main_call0_v6)) (W (Proc.devRef .tc main_call0_v8)) (W (Proc.devRef .tc main_call0_v9)) (W (Proc.devRef .tc main_call0_v10)) =
    ((after rf0 W (Proc.devRef .tc main_call0_v11_0)), (after rf0 W (Proc.devRef .tc main_call0_v11_1))) := by
  unfold rf0
  simp only [after_append]
  exact (rf0_0 _).trans <| (rf0_1 _).trans <| (rf0_2 _).trans <| (rf0_3 _).trans <| (rf0_4 _).trans <| (rf0_5 _).trans <| (rf0_6 _).trans <| (rf0_7 _).trans <| (rf0_8 _).trans <| (rf0_9 _)

/-- One key derivation of the reference. -/
theorem rfold0 (W : Valuation τ sig (Elt F)) : after (fn_threefry_fold_in.line (F := F) (.of main_v6) (.of main_c_10) main_call0 : List (HloOp τ sig (Elt F))) W (Proc.devRef .tc main_v38) =
    Cert.On_agrees.fn_threefry_fold_in (F := F) (W (Proc.devRef .tc main_v6)) (W (Proc.devRef .tc main_c_10)) := by
  have hl : (fn_threefry_fold_in.line (F := F) (.of main_v6) (.of main_c_10) main_call0 : List (HloOp τ sig (Elt F))) = (fn_threefry_fold_in.run0 (F := F) (.of main_v6) (.of main_c_10) main_call0) ++ (rf0 ++ (fn_threefry_fold_in.run1 (F := F) (.of main_v6) (.of main_c_10) main_call0)) := by
    unfold fn_threefry_fold_in.line fn_threefry2x32.line rf0
    simp only [List.append_assoc]
  rw [hl, after_append, after_append]
  have e1 : (after rf0 (after (fn_threefry_fold_in.run0 (F := F) (.of main_v6) (.of main_c_10) main_call0) W) (Proc.devRef .tc main_call0_v11_0)) = _ := (congrArg Prod.fst (rf0_all (after (fn_threefry_fold_in.run0 (F := F) (.of main_v6) (.of main_c_10) main_call0) W))).symm
  have e2 : (after rf0 (after (fn_threefry_fold_in.run0 (F := F) (.of main_v6) (.of main_c_10) main_call0) W) (Proc.devRef .tc main_call0_v11_1)) = _ := (congrArg Prod.snd (rf0_all (after (fn_threefry_fold_in.run0 (F := F) (.of main_v6) (.of main_c_10) main_call0) W))).symm
  generalize after rf0 (after (fn_threefry_fold_in.run0 (F := F) (.of main_v6) (.of main_c_10) main_call0) W) = W2 at e1 e2 ⊢
  have hp : after (fn_threefry_fold_in.run1 (F := F) (.of main_v6) (.of main_c_10) main_call0) W2 (Proc.devRef .tc main_v38) =
      (fun a b : IVec S1 32 => concatenate S2 0 [⟨S1, a⟩, ⟨S1, b⟩] concatenates_S1_S1_S2_d0)
        (W2 (Proc.devRef .tc main_call0_v11_0)) (W2 (Proc.devRef .tc main_call0_v11_1)) := by
    after_reads_simp
    rfl
  refine hp.trans ?_
  unfold Cert.On_agrees.fn_threefry_fold_in
  refine congrArg₂ (fun a b : IVec S1 32 => concatenate S2 0 [⟨S1, a⟩, ⟨S1, b⟩] concatenates_S1_S1_S2_d0)
    (e1.trans (congrArg Prod.fst ?_)) (e2.trans (congrArg Prod.snd ?_))
  · after_reads_simp
    rfl
  · after_reads_simp
    rfl

end Cert.ReferenceIdeal.Gen

end
-- ==== Proof.RDraw1.lean ====
module

public import proofs.«01_k».proof.Proof.RefMain
public import proofs.«01_k».proof.Proof.Gen.On_agrees
public import Idealize.ShloMosaic.Lib.StableHlo.RunRead
public import Idealize.ShloMosaic.Lib.Pipeline.Frame

/-! Chunk by chunk, what the random draws leave in their buffers: the same function on both sides. -/

@[expose] public section

set_option maxRecDepth 16384
set_option maxHeartbeats 4000000

noncomputable section

namespace Cert.ReferenceIdeal.Gen

open Cert.ReferenceIdeal.Gen Cert.ReferenceIdeal Idealize.ShloMosaic Idealize.ShloMosaic.TcCoe Idealize.ShloMosaic.StableHlo Idealize.SL.Sem

variable {F : FTy → Type} [FloatOps F]

theorem rg0_0 (W : Valuation τ sig (Elt F)) : Cert.On_agrees.fn_threefry2x32_0 (F := F) (W (Proc.devRef .tc main_call1_call0_v4)) (W (Proc.devRef .tc main_call1_call0_v6)) (W (Proc.devRef .tc main_call1_call0_v17)) (W (Proc.devRef .tc main_call1_call0_v16)) =
    (fun W2 : Valuation τ sig (Elt F) => Cert.On_agrees.fn_threefry2x32_0_part1 (F := F) (W2 (Proc.devRef .tc main_call1_call0_v4)) (W2 (Proc.devRef .tc main_call1_call0_v6)) (W2 (Proc.devRef .tc main_call1_call0_call0_v1)) (W2 (Proc.devRef .tc main_call1_call0_call0_v13)) (W2 (Proc.devRef .tc main_call1_call0_call0_v18))) (after ((fn_threefry2x32_0.run0 (F := F) main_call1.call0.v4 main_call1.call0.v6 main_call1.call0.v17 main_call1.call0.v16 main_call1.call0.call0) : List (HloOp τ sig (Elt F))) W) := by
  dsimp only
  unfold Cert.On_agrees.fn_threefry2x32_0
  after_reads_simp
  rfl

theorem rg0_1 (W : Valuation τ sig (Elt F)) : Cert.On_agrees.fn_threefry2x32_0_part1 (F := F) (W (Proc.devRef .tc main_call1_call0_v4)) (W (Proc.devRef .tc main_call1_call0_v6)) (W (Proc.devRef .tc main_call1_call0_call0_v1)) (W (Proc.devRef .tc main_call1_call0_call0_v13)) (W (Proc.devRef .tc main_call1_call0_call0_v18)) =
    (fun W2 : Valuation τ sig (Elt F) => Cert.On_agrees.fn_threefry2x32_0_part2 (F := F) (W2 (Proc.devRef .tc main_call1_call0_v4)) (W2 (Proc.devRef .tc main_call1_call0_v6)) (W2 (Proc.devRef .tc main_call1_call0_call0_v1)) (W2 (Proc.devRef .tc main_call1_call0_call0_v35)) (W2 (Proc.devRef .tc main_call1_call0_call0_v37)) (W2 (Proc.devRef .tc main_call1_call0_call0_c_8))) (after ((fn_threefry2x32_0.run1 (F := F) main_call1.call0.v4 main_call1.call0.v6 main_call1.call0.v17 main_call1.call0.v16 main_call1.call0.call0) : List (HloOp τ sig (Elt F))) W) := by
  dsimp only
  unfold Cert.On_agrees.fn_threefry2x32_0_part1
  after_reads_simp
  rfl

theorem rg0_2 (W : Valuation τ sig (Elt F)) : Cert.On_agrees.fn_threefry2x32_0_part2 (F := F) (W (Proc.devRef .tc main_call1_call0_v4)) (W (Proc.devRef .tc main_call1_call0_v6)) (W (Proc.devRef .tc main_call1_call0_call0_v1)) (W (Proc.devRef .tc main_call1_call0_call0_v35)) (W (Proc.devRef .tc main_call1_call0_call0_v37)) (W (Proc.devRef .tc main_call1_call0_call0_c_8)) =
    (fun W2 : Valuation τ sig (Elt F) => Cert.On_agrees.fn_threefry2x32_0_part3 (F := F) (W2 (Proc.devRef .tc main_call1_call0_v4)) (W2 (Proc.devRef .tc main_call1_call0_v6)) (W2 (Proc.devRef .tc main_call1_call0_call0_v1)) (W2 (Proc.devRef .tc main_call1_call0_call0_v53)) (W2 (Proc.devRef .tc main_call1_call0_call0_v54)) (W2 (Proc.devRef .tc main_call1_call0_call0_v56))) (after ((fn_threefry2x32_0.run2 (F := F) main_call1.call0.v4 main_call1.call0.v6 main_call1.call0.v17 main_call1.call0.v16 main_call1.call0.call0 ++ (fn_threefry2x32_0.run3 (F := F) main_call1.call0.v4 main_call1.call0.v6 main_call1.call0.v17 main_call1.call0.v16 main_call1.call0.call0)) : List (HloOp τ sig (Elt F))) W) := by
  dsimp only
  unfold Cert.On_agrees.fn_threefry2x32_0_part2
  after_reads_simp
  rfl

theorem rg0_3 (W : Valuation τ sig (Elt F)) : Cert.On_agrees.fn_threefry2x32_0_part3 (F := F) (W (Proc.devRef .tc main_call1_call0_v4)) (W (Proc.devRef .tc main_call1_call0_v6)) (W (Proc.devRef .tc main_call1_call0_call0_v1)) (W (Proc.devRef .tc main_call1_call0_call0_v53)) (W (Proc.devRef .tc main_call1_call0_call0_v54)) (W (Proc.devRef .tc main_call1_call0_call0_v56)) =
    (fun W2 : Valuation τ sig (Elt F) => Cert.On_agrees.fn_threefry2x32_0_part4 (F := F) (W2 (Proc.devRef .tc main_call1_call0_v4)) (W2 (Proc.devRef .tc main_call1_call0_v6)) (W2 (Proc.devRef .tc main_call1_call0_call0_v1)) (W2 (Proc.devRef .tc main_call1_call0_call0_v73)) (W2 (Proc.devRef .tc main_call1_call0_call0_v74)) (W2 (Proc.devRef .tc main_call1_call0_call0_v75))) (after ((fn_threefry2x32_0.run4 (F := F) main_call1.call0.v4 main_call1.call0.v6 main_call1.call0.v17 main_call1.call0.v16 main_call1.call0.call0) : List (HloOp τ sig (Elt F))) W) := by
  dsimp only
  unfold Cert.On_agrees.fn_threefry2x32_0_part3
  after_reads_simp
  rfl

theorem rg0_4 (W : Valuation τ sig (Elt F)) : Cert.On_agrees.fn_threefry2x32_0_part4 (F := F) (W (Proc.devRef .tc main_call1_call0_v4)) (W (Proc.devRef .tc main_call1_call0_v6)) (W (Proc.devRef .tc main_call1_call0_call0_v1)) (W (Proc.devRef .tc main_call1_call0_call0_v73)) (W (Proc.devRef .tc main_call1_call0_call0_v74)) (W (Proc.devRef .tc main_call1_call0_call0_v75)) =
    (fun W2 : Valuation τ sig (Elt F) => Cert.On_agrees.fn_threefry2x32_0_part5 (F := F) (W2 (Proc.devRef .tc main_call1_call0_v4)) (W2 (Proc.devRef .tc main_call1_call0_v6)) (W2 (Proc.devRef .tc main_call1_call0_call0_v1)) (W2 (Proc.devRef .tc main_call1_call0_call0_v88)) (W2 (Proc.devRef .tc main_call1_call0_call0_v94))) (after ((fn_threefry2x32_0.run5 (F := F) main_call1.call0.v4 main_call1.call0.v6 main_call1.call0.v17 main_call1.call0.v16 main_call1.call0.call0) : List (HloOp τ sig (Elt F))) W) := by
  dsimp only
  unfold Cert.On_agrees.fn_threefry2x32_0_part4
  after_reads_simp
  rfl

theorem rg0_5 (W : Valuation τ sig (Elt F)) : Cert.On_agrees.fn_threefry2x32_0_part5 (F := F) (W (Proc.devRef .tc main_call1_call0_v4)) (W (Proc.devRef .tc main_call1_call0_v6)) (W (Proc.devRef .tc main_call1_call0_call0_v1)) (W (Proc.devRef .tc main_call1_call0_call0_v88)) (W (Proc.devRef .tc main_call1_call0_call0_v94)) =
    (fun W2 : Valuation τ sig (Elt F) => Cert.On_agrees.fn_threefry2x32_0_part6 (F := F) (W2 (Proc.devRef .tc main_call1_call0_v4)) (W2 (Proc.devRef .tc main_call1_call0_v6)) (W2 (Proc.devRef .tc main_call1_call0_call0_v1)) (W2 (Proc.devRef .tc main_call1_call0_call0_v108)) (W2 (Proc.devRef .tc main_call1_call0_call0_v113))) (after ((fn_threefry2x32_0.run6 (F := F) main_call1.call0.v4 main_call1.call0.v6 main_call1.call0.v17 main_call1.call0.v16 main_call1.call0.call0) : List (HloOp τ sig (Elt F))) W) := by
  dsimp only
  unfold Cert.On_agrees.fn_threefry2x32_0_part5
  after_reads_simp
  rfl

theorem rg0_6 (W : Valuation τ sig (Elt F)) : Cert.On_agrees.fn_threefry2x32_0_part6 (F := F) (W (Proc.devRef .tc main_call1_call0_v4)) (W (Proc.devRef .tc main_call1_call0_v6)) (W (Proc.devRef .tc main_call1_call0_call0_v1)) (W (Proc.devRef .tc main_call1_call0_call0_v108)) (W (Proc.devRef .tc main_call1_call0_call0_v113)) =
    (fun W2 : Valuation τ sig (Elt F) => Cert.On_agrees.fn_threefry2x32_0_part7 (F := F) (W2 (Proc.devRef .tc main_call1_call0_v4)) (W2 (Proc.devRef .tc main_call1_call0_v6)) (W2 (Proc.devRef .tc main_call1_call0_call0_v1)) (W2 (Proc.devRef .tc main_call1_call0_call0_v128)) (W2 (Proc.devRef .tc main_call1_call0_call0_v129)) (W2 (Proc.devRef .tc main_call1_call0_call0_v131)) (W2 (Proc.devRef .tc main_call1_call0_call0_c_34))) (after ((fn_threefry2x32_0.run7 (F := F) main_call1.call0.v4 main_call1.call0.v6 main_call1.call0.v17 main_call1.call0.v16 main_call1.call0.call0) : List (HloOp τ sig (Elt F))) W) := by
  dsimp only
  unfold Cert.On_agrees.fn_threefry2x32_0_part6
  after_reads_simp
  rfl

theorem rg0_7 (W : Valuation τ sig (Elt F)) : Cert.On_agrees.fn_threefry2x32_0_part7 (F := F) (W (Proc.devRef .tc main_call1_call0_v4)) (W (Proc.devRef .tc main_call1_call0_v6)) (W (Proc.devRef .tc main_call1_call0_call0_v1)) (W (Proc.devRef .tc main_call1_call0_call0_v128)) (W (Proc.devRef .tc main_call1_call0_call0_v129)) (W (Proc.devRef .tc main_call1_call0_call0_v131)) (W (Proc.devRef .tc main_call1_call0_call0_c_34)) =
    (fun W2 : Valuation τ sig (Elt F) => Cert.On_agrees.fn_threefry2x32_0_part8 (F := F) (W2 (Proc.devRef .tc main_call1_call0_v4)) (W2 (Proc.devRef .tc main_call1_call0_call0_v1)) (W2 (Proc.devRef .tc main_call1_call0_call0_v148)) (W2 (Proc.devRef .tc main_call1_call0_call0_v149)) (W2 (Proc.devRef .tc main_call1_call0_call0_v151))) (after ((fn_threefry2x32_0.run8 (F := F) main_call1.call0.v4 main_call1.call0.v6 main_call1.call0.v17 main_call1.call0.v16 main_call1.call0.call0 ++ (fn_threefry2x32_0.run9 (F := F) main_call1.call0.v4 main_call1.call0.v6 main_call1.call0.v17 main_call1.call0.v16 main_call1.call0.call0)) : List (HloOp τ sig (Elt F))) W) := by
  dsimp only
  unfold Cert.On_agrees.fn_threefry2x32_0_part7
  after_reads_simp
  rfl

theorem rg0_8 (W : Valuation τ sig (Elt F)) : Cert.On_agrees.fn_threefry2x32_0_part8 (F := F) (W (Proc.devRef .tc main_call1_call0_v4)) (W (Proc.devRef .tc main_call1_call0_call0_v1)) (W (Proc.devRef .tc main_call1_call0_call0_v148)) (W (Proc.devRef .tc main_call1_call0_call0_v149)) (W (Proc.devRef .tc main_call1_call0_call0_v151)) =
    (fun W2 : Valuation τ sig (Elt F) => Cert.On_agrees.fn_threefry2x32_0_part9 (F := F) (W2 (Proc.devRef .tc main_call1_call0_v4)) (W2 (Proc.devRef .tc main_call1_call0_call0_v163)) (W2 (Proc.devRef .tc main_call1_call0_call0_v169)) (W2 (Proc.devRef .tc main_call1_call0_call0_v170))) (after ((fn_threefry2x32_0.run10 (F := F) main_call1.call0.v4 main_call1.call0.v6 main_call1.call0.v17 main_call1.call0.v16 main_call1.call0.call0) : List (HloOp τ sig (Elt F))) W) := by
  dsimp only
  unfold Cert.On_agrees.fn_threefry2x32_0_part8
  after_reads_simp
  rfl

theorem rg0_9 (W : Valuation τ sig (Elt F)) : Cert.On_agrees.fn_threefry2x32_0_part9 (F := F) (W (Proc.devRef .tc main_call1_call0_v4)) (W (Proc.devRef .tc main_call1_call0_call0_v163)) (W (Proc.devRef .tc main_call1_call0_call0_v169)) (W (Proc.devRef .tc main_call1_call0_call0_v170)) =
    (fun W2 : Valuation τ sig (Elt F) => ((W2 (Proc.devRef .tc main_call1_call0_v18_0)), (W2 (Proc.devRef .tc main_call1_call0_v18_1)))) (after ((fn_threefry2x32_0.run11 (F := F) main_call1.call0.v4 main_call1.call0.v6 main_call1.call0.v17 main_call1.call0.v16 main_call1.call0.call0) : List (HloOp τ sig (Elt F))) W) := by
  dsimp only
  unfold Cert.On_agrees.fn_threefry2x32_0_part9
  after_reads_simp
  rfl

/-- The counter function inside one noise table. -/
def rg0 : List (HloOp τ sig (Elt F)) :=
  (fn_threefry2x32_0.run0 (F := F) main_call1.call0.v4 main_call1.call0.v6 main_call1.call0.v17 main_call1.call0.v16 main_call1.call0.call0) ++ ((fn_threefry2x32_0.run1 (F := F) main_call1.call0.v4 main_call1.call0.v6 main_call1.call0.v17 main_call1.call0.v16 main_call1.call0.call0) ++ ((fn_threefry2x32_0.run2 (F := F) main_call1.call0.v4 main_call1.call0.v6 main_call1.call0.v17 main_call1.call0.v16 main_call1.call0.call0 ++ (fn_threefry2x32_0.run3 (F := F) main_call1.call0.v4 main_call1.call0.v6 main_call1.call0.v17 main_call1.call0.v16 main_call1.call0.call0)) ++ ((fn_threefry2x32_0.run4 (F := F) main_call1.call0.v4 main_call1.call0.v6 main_call1.call0.v17 main_call1.call0.v16 main_call1.call0.call0) ++ ((fn_threefry2x32_0.run5 (F := F) main_call1.call0.v4 main_call1.call0.v6 main_call1.call0.v17 main_call1.call0.v16 main_call1.call0.call0) ++ ((fn_threefry2x32_0.run6 (F := F) main_call1.call0.v4 main_call1.call0.v6 main_call1.call0.v17 main_call1.call0.v16 main_call1.call0.call0) ++ ((fn_threefry2x32_0.run7 (F := F) main_call1.call0.v4 main_call1.call0.v6 main_call1.call0.v17 main_call1.call0.v16 main_call1.call0.call0) ++ ((fn_threefry2x32_0.run8 (F := F) main_call1.call0.v4 main_call1.call0.v6 main_call1.call0.v17 main_call1.call0.v16 main_call1.call0.call0 ++ (fn_threefry2x32_0.run9 (F := F) main_call1.call0.v4 main_call1.call0.v6 main_call1.call0.v17 main_call1.call0.v16 main_call1.call0.call0)) ++ ((fn_threefry2x32_0.run10 (F := F) main_call1.call0.v4 main_call1.call0.v6 main_call1.call0.v17 main_call1.call0.v16 main_call1.call0.call0) ++ ((fn_threefry2x32_0.run11 (F := F) main_call1.call0.v4 main_call1.call0.v6 main_call1.call0.v17 main_call1.call0.v16 main_call1.call0.call0))))))))))

theorem rg0_all (W : Valuation τ sig (Elt F)) : Cert.On_agrees.fn_threefry2x32_0 (F := F) (W (Proc.devRef .tc main_call1_call0_v4)) (W (Proc.devRef .tc main_call1_call0_v6)) (W (Proc.devRef .tc main_call1_call0_v17)) (W (Proc.devRef .tc main_call1_call0_v16)) =
    ((after rg0 W (Proc.devRef .tc main_call1_call0_v18_0)), (after rg0 W (Proc.devRef .tc main_call1_call0_v18_1))) := by
  unfold rg0
  simp only [after_append]
  exact (rg0_0 _).trans <| (rg0_1 _).trans <| (rg0_2 _).trans <| (rg0_3 _).trans <| (rg0_4 _).trans <| (rg0_5 _).trans <| (rg0_6 _).trans <| (rg0_7 _).trans <| (rg0_8 _).trans <| (rg0_9 _)

/-- One noise table of the reference. -/
theorem rgum0 (W : Valuation τ sig (Elt F)) : after (fn_gumbel.line (F := F) (.of main_v38) main_call1 : List (HloOp τ sig (Elt F))) W (Proc.devRef .tc main_v39) =
    Cert.On_agrees.fn_gumbel (F := F) (W (Proc.devRef .tc main_v38)) := by
  have hl : (fn_gumbel.line (F := F) (.of main_v38) main_call1 : List (HloOp τ sig (Elt F))) = (fn_gumbel.run0 (F := F) (.of main_v38) main_call1 ++ fn_uniform.run0 (F := F) (.of main_v38) main_call1.cst main_call1.cst_0 main_call1.call0) ++ (rg0 ++ (fn_uniform.run1 (F := F) (.of main_v38) main_call1.cst main_call1.cst_0 main_call1.call0 ++ fn_gumbel.run1 (F := F) (.of main_v38) main_call1)) := by
    unfold fn_gumbel.line fn_uniform.line fn_threefry2x32_0.line rg0
    simp only [List.append_assoc]
  rw [hl, after_append, after_append]
  have e1 : (after rg0 (after (fn_gumbel.run0 (F := F) (.of main_v38) main_call1 ++ fn_uniform.run0 (F := F) (.of main_v38) main_call1.cst main_call1.cst_0 main_call1.call0) W) (Proc.devRef .tc main_call1_call0_v18_0)) = _ := (congrArg Prod.fst (rg0_all (after (fn_gumbel.run0 (F := F) (.of main_v38) main_call1 ++ fn_uniform.run0 (F := F) (.of main_v38) main_call1.cst main_call1.cst_0 main_call1.call0) W))).symm
  have e2 : (after rg0 (after (fn_gumbel.run0 (F := F) (.of main_v38) main_call1 ++ fn_uniform.run0 (F := F) (.of main_v38) main_call1.cst main_call1.cst_0 main_call1.call0) W) (Proc.devRef .tc main_call1_call0_v18_1)) = _ := (congrArg Prod.snd (rg0_all (after (fn_gumbel.run0 (F := F) (.of main_v38) main_call1 ++ fn_uniform.run0 (F := F) (.of main_v38) main_call1.cst main_call1.cst_0 main_call1.call0) W))).symm
  have e3 : (after rg0 (after (fn_gumbel.run0 (F := F) (.of main_v38) main_call1 ++ fn_uniform.run0 (F := F) (.of main_v38) main_call1.cst main_call1.cst_0 main_call1.call0) W) (Proc.devRef .tc main_call1_call0_v1)) = after (fn_gumbel.run0 (F := F) (.of main_v38) main_call1 ++ fn_uniform.run0 (F := F) (.of main_v38) main_call1.cst main_call1.cst_0 main_call1.call0) W (Proc.devRef .tc main_call1_call0_v1) := by after_reads_simp
  have e4 : (after rg0 (after (fn_gumbel.run0 (F := F) (.of main_v38) main_call1 ++ fn_uniform.run0 (F := F) (.of main_v38) main_call1.cst main_call1.cst_0 main_call1.call0) W) (Proc.devRef .tc main_call1_call0_v2)) = after (fn_gumbel.run0 (F := F) (.of main_v38) main_call1 ++ fn_uniform.run0 (F := F) (.of main_v38) main_call1.cst main_call1.cst_0 main_call1.call0) W (Proc.devRef .tc main_call1_call0_v2) := by after_reads_simp
  generalize after rg0 (after (fn_gumbel.run0 (F := F) (.of main_v38) main_call1 ++ fn_uniform.run0 (F := F) (.of main_v38) main_call1.cst main_call1.cst_0 main_call1.call0) W) = W2 at e1 e2 e3 e4 ⊢
  after_reads_simp
  rw [e1, e2, e3, e4]
  after_reads_simp
  unfold Cert.On_agrees.fn_gumbel Cert.On_agrees.fn_uniform Cert.On_agrees.fn_uniform_part1
  rfl

end Cert.ReferenceIdeal.Gen

end
-- ==== Proof.RDraw2.lean ====
module

public import proofs.«01_k».proof.Proof.RefMain
public import proofs.«01_k».proof.Proof.Gen.On_agrees
public import Idealize.ShloMosaic.Lib.StableHlo.RunRead
public import Idealize.ShloMosaic.Lib.Pipeline.Frame

/-! Chunk by chunk, what the random draws leave in their buffers: the same function on both sides. -/

@[expose] public section

set_option maxRecDepth 16384
set_option maxHeartbeats 4000000

noncomputable section

namespace Cert.ReferenceIdeal.Gen

open Cert.ReferenceIdeal.Gen Cert.ReferenceIdeal Idealize.ShloMosaic Idealize.ShloMosaic.TcCoe Idealize.ShloMosaic.StableHlo Idealize.SL.Sem

variable {F : FTy → Type} [FloatOps F]

theorem rf1_0 (W : Valuation τ sig (Elt F)) : Cert.On_agrees.fn_threefry2x32 (F := F) (W (Proc.devRef .tc main_call16_v6)) (W (Proc.devRef .tc main_call16_v8)) (W (Proc.devRef .tc main_call16_v9)) (W (Proc.devRef .tc main_call16_v10)) =
    (fun W2 : Valuation τ sig (Elt F) => Cert.On_agrees.fn_threefry2x32_part1 (F := F) (W2 (Proc.devRef .tc main_call16_v6)) (W2 (Proc.devRef .tc main_call16_v8)) (W2 (Proc.devRef .tc main_call16_call0_v1)) (W2 (Proc.devRef .tc main_call16_call0_v13)) (W2 (Proc.devRef .tc main_call16_call0_v18))) (after ((fn_threefry2x32.run0 (F := F) main_call16.v6 main_call16.v8 main_call16.v9 main_call16.v10 main_call16.call0) : List (HloOp τ sig (Elt F))) W) := by
  dsimp only
  unfold Cert.On_agrees.fn_threefry2x32
  after_reads_simp
  rfl

theorem rf1_1 (W : Valuation τ sig (Elt F)) : Cert.On_agrees.fn_threefry2x32_part1 (F := F) (W (Proc.devRef .tc main_call16_v6)) (W (Proc.devRef .tc main_call16_v8)) (W (Proc.devRef .tc main_call16_call0_v1)) (W (Proc.devRef .tc main_call16_call0_v13)) (W (Proc.devRef .tc main_call16_call0_v18)) =
    (fun W2 : Valuation τ sig (Elt F) => Cert.On_agrees.fn_threefry2x32_part2 (F := F) (W2 (Proc.devRef .tc main_call16_v6)) (W2 (Proc.devRef .tc main_call16_v8)) (W2 (Proc.devRef .tc main_call16_call0_v1)) (W2 (Proc.devRef .tc main_call16_call0_v35)) (W2 (Proc.devRef .tc main_call16_call0_v37)) (W2 (Proc.devRef .tc main_call16_call0_c_8))) (after ((fn_threefry2x32.run1 (F := F) main_call16.v6 main_call16.v8 main_call16.v9 main_call16.v10 main_call16.call0) : List (HloOp τ sig (Elt F))) W) := by
  dsimp only
  unfold Cert.On_agrees.fn_threefry2x32_part1
  after_reads_simp
  rfl

theorem rf1_2 (W : Valuation τ sig (Elt F)) : Cert.On_agrees.fn_threefry2x32_part2 (F := F) (W (Proc.devRef .tc main_call16_v6)) (W (Proc.devRef .tc main_call16_v8)) (W (Proc.devRef .tc main_call16_call0_v1)) (W (Proc.devRef .tc main_call16_call0_v35)) (W (Proc.devRef .tc main_call16_call0_v37)) (W (Proc.devRef .tc main_call16_call0_c_8)) =
    (fun W2 : Valuation τ sig (Elt F) => Cert.On_agrees.fn_threefry2x32_part3 (F := F) (W2 (Proc.devRef .tc main_call16_v6)) (W2 (Proc.devRef .tc main_call16_v8)) (W2 (Proc.devRef .tc main_call16_call0_v1)) (W2 (Proc.devRef .tc main_call16_call0_v53)) (W2 (Proc.devRef .tc main_call16_call0_v54)) (W2 (Proc.devRef .tc main_call16_call0_v56))) (after ((fn_threefry2x32.run2 (F := F) main_call16.v6 main_call16.v8 main_call16.v9 main_call16.v10 main_call16.call0 ++ (fn_threefry2x32.run3 (F := F) main_call16.v6 main_call16.v8 main_call16.v9 main_call16.v10 main_call16.call0)) : List (HloOp τ sig (Elt F))) W) := by
  dsimp only
  unfold Cert.On_agrees.fn_threefry2x32_part2
  after_reads_simp
  rfl

theorem rf1_3 (W : Valuation τ sig (Elt F)) : Cert.On_agrees.fn_threefry2x32_part3 (F := F) (W (Proc.devRef .tc main_call16_v6)) (W (Proc.devRef .tc main_call16_v8)) (W (Proc.devRef .tc main_call16_call0_v1)) (W (Proc.devRef .tc main_call16_call0_v53)) (W (Proc.devRef .tc main_call16_call0_v54)) (W (Proc.devRef .tc main_call16_call0_v56)) =
    (fun W2 : Valuation τ sig (Elt F) => Cert.On_agrees.fn_threefry2x32_part4 (F := F) (W2 (Proc.devRef .tc main_call16_v6)) (W2 (Proc.devRef .tc main_call16_v8)) (W2 (Proc.devRef .tc main_call16_call0_v1)) (W2 (Proc.devRef .tc main_call16_call0_v73)) (W2 (Proc.devRef .tc main_call16_call0_v74)) (W2 (Proc.devRef .tc main_call16_call0_v75))) (after ((fn_threefry2x32.run4 (F := F) main_call16.v6 main_call16.v8 main_call16.v9 main_call16.v10 main_call16.call0) : List (HloOp τ sig (Elt F))) W) := by
  dsimp only
  unfold Cert.On_agrees.fn_threefry2x32_part3
  after_reads_simp
  rfl

theorem rf1_4 (W : Valuation τ sig (Elt F)) : Cert.On_agrees.fn_threefry2x32_part4 (F := F) (W (Proc.devRef .tc main_call16_v6)) (W (Proc.devRef .tc main_call16_v8)) (W (Proc.devRef .tc main_call16_call0_v1)) (W (Proc.devRef .tc main_call16_call0_v73)) (W (Proc.devRef .tc main_call16_call0_v74)) (W (Proc.devRef .tc main_call16_call0_v75)) =
    (fun W2 : Valuation τ sig (Elt F) => Cert.On_agrees.fn_threefry2x32_part5 (F := F) (W2 (Proc.devRef .tc main_call16_v6)) (W2 (Proc.devRef .tc main_call16_v8)) (W2 (Proc.devRef .tc main_call16_call0_v1)) (W2 (Proc.devRef .tc main_call16_call0_v88)) (W2 (Proc.devRef .tc main_call16_call0_v94))) (after ((fn_threefry2x32.run5 (F := F) main_call16.v6 main_call16.v8 main_call16.v9 main_call16.v10 main_call16.call0) : List (HloOp τ sig (Elt F))) W) := by
  dsimp only
  unfold Cert.On_agrees.fn_threefry2x32_part4
  after_reads_simp
  rfl

theorem rf1_5 (W : Valuation τ sig (Elt F)) : Cert.On_agrees.fn_threefry2x32_part5 (F := F) (W (Proc.devRef .tc main_call16_v6)) (W (Proc.devRef .tc main_call16_v8)) (W (Proc.devRef .tc main_call16_call0_v1)) (W (Proc.devRef .tc main_call16_call0_v88)) (W (Proc.devRef .tc main_call16_call0_v94)) =
    (fun W2 : Valuation τ sig (Elt F) => Cert.On_agrees.fn_threefry2x32_part6 (F := F) (W2 (Proc.devRef .tc main_call16_v6)) (W2 (Proc.devRef .tc main_call16_v8)) (W2 (Proc.devRef .tc main_call16_call0_v1)) (W2 (Proc.devRef .tc main_call16_call0_v108)) (W2 (Proc.devRef .tc main_call16_call0_v113))) (after ((fn_threefry2x32.run6 (F := F) main_call16.v6 main_call16.v8 main_call16.v9 main_call16.v10 main_call16.call0) : List (HloOp τ sig (Elt F))) W) := by
  dsimp only
  unfold Cert.On_agrees.fn_threefry2x32_part5
  after_reads_simp
  rfl

theorem rf1_6 (W : Valuation τ sig (Elt F)) : Cert.On_agrees.fn_threefry2x32_part6 (F := F) (W (Proc.devRef .tc main_call16_v6)) (W (Proc.devRef .tc main_call16_v8)) (W (Proc.devRef .tc main_call16_call0_v1)) (W (Proc.devRef .tc main_call16_call0_v108)) (W (Proc.devRef .tc main_call16_call0_v113)) =
    (fun W2 : Valuation τ sig (Elt F) => Cert.On_agrees.fn_threefry2x32_part7 (F := F) (W2 (Proc.devRef .tc main_call16_v6)) (W2 (Proc.devRef .tc main_call16_v8)) (W2 (Proc.devRef .tc main_call16_call0_v1)) (W2 (Proc.devRef .tc main_call16_call0_v128)) (W2 (Proc.devRef .tc main_call16_call0_v129)) (W2 (Proc.devRef .tc main_call16_call0_v131)) (W2 (Proc.devRef .tc main_call16_call0_c_34))) (after ((fn_threefry2x32.run7 (F := F) main_call16.v6 main_call16.v8 main_call16.v9 main_call16.v10 main_call16.call0) : List (HloOp τ sig (Elt F))) W) := by
  dsimp only
  unfold Cert.On_agrees.fn_threefry2x32_part6
  after_reads_simp
  rfl

theorem rf1_7 (W : Valuation τ sig (Elt F)) : Cert.On_agrees.fn_threefry2x32_part7 (F := F) (W (Proc.devRef .tc main_call16_v6)) (W (Proc.devRef .tc main_call16_v8)) (W (Proc.devRef .tc main_call16_call0_v1)) (W (Proc.devRef .tc main_call16_call0_v128)) (W (Proc.devRef .tc main_call16_call0_v129)) (W (Proc.devRef .tc main_call16_call0_v131)) (W (Proc.devRef .tc main_call16_call0_c_34)) =
    (fun W2 : Valuation τ sig (Elt F) => Cert.On_agrees.fn_threefry2x32_part8 (F := F) (W2 (Proc.devRef .tc main_call16_v6)) (W2 (Proc.devRef .tc main_call16_call0_v1)) (W2 (Proc.devRef .tc main_call16_call0_v148)) (W2 (Proc.devRef .tc main_call16_call0_v149)) (W2 (Proc.devRef .tc main_call16_call0_v151))) (after ((fn_threefry2x32.run8 (F := F) main_call16.v6 main_call16.v8 main_call16.v9 main_call16.v10 main_call16.call0 ++ (fn_threefry2x32.run9 (F := F) main_call16.v6 main_call16.v8 main_call16.v9 main_call16.v10 main_call16.call0)) : List (HloOp τ sig (Elt F))) W) := by
  dsimp only
  unfold Cert.On_agrees.fn_threefry2x32_part7
  after_reads_simp
  rfl

theorem rf1_8 (W : Valuation τ sig (Elt F)) : Cert.On_agrees.fn_threefry2x32_part8 (F := F) (W (Proc.devRef .tc main_call16_v6)) (W (Proc.devRef .tc main_call16_call0_v1)) (W (Proc.devRef .tc main_call16_call0_v148)) (W (Proc.devRef .tc main_call16_call0_v149)) (W (Proc.devRef .tc main_call16_call0_v151)) =
    (fun W2 : Valuation τ sig (Elt F) => Cert.On_agrees.fn_threefry2x32_part9 (F := F) (W2 (Proc.devRef .tc main_call16_v6)) (W2 (Proc.devRef .tc main_call16_call0_v163)) (W2 (Proc.devRef .tc main_call16_call0_v169)) (W2 (Proc.devRef .tc main_call16_call0_v170))) (after ((fn_threefry2x32.run10 (F := F) main_call16.v6 main_call16.v8 main_call16.v9 main_call16.v10 main_call16.call0) : List (HloOp τ sig (Elt F))) W) := by
  dsimp only
  unfold Cert.On_agrees.fn_threefry2x32_part8
  after_reads_simp
  rfl

theorem rf1_9 (W : Valuation τ sig (Elt F)) : Cert.On_agrees.fn_threefry2x32_part9 (F := F) (W (Proc.devRef .tc main_call16_v6)) (W (Proc.devRef .tc main_call16_call0_v163)) (W (Proc.devRef .tc main_call16_call0_v169)) (W (Proc.devRef .tc main_call16_call0_v170)) =
    (fun W2 : Valuation τ sig (Elt F) => ((W2 (Proc.devRef .tc main_call16_v11_0)), (W2 (Proc.devRef .tc main_call16_v11_1)))) (after ((fn_threefry2x32.run11 (F := F) main_call16.v6 main_call16.v8 main_call16.v9 main_call16.v10 main_call16.call0) : List (HloOp τ sig (Elt F))) W) := by
  dsimp only
  unfold Cert.On_agrees.fn_threefry2x32_part9
  after_reads_simp
  rfl

/-- The counter function inside one key derivation. -/
def rf1 : List (HloOp τ sig (Elt F)) :=
  (fn_threefry2x32.run0 (F := F) main_call16.v6 main_call16.v8 main_call16.v9 main_call16.v10 main_call16.call0) ++ ((fn_threefry2x32.run1 (F := F) main_call16.v6 main_call16.v8 main_call16.v9 main_call16.v10 main_call16.call0) ++ ((fn_threefry2x32.run2 (F := F) main_call16.v6 main_call16.v8 main_call16.v9 main_call16.v10 main_call16.call0 ++ (fn_threefry2x32.run3 (F := F) main_call16.v6 main_call16.v8 main_call16.v9 main_call16.v10 main_call16.call0)) ++ ((fn_threefry2x32.run4 (F := F) main_call16.v6 main_call16.v8 main_call16.v9 main_call16.v10 main_call16.call0) ++ ((fn_threefry2x32.run5 (F := F) main_call16.v6 main_call16.v8 main_call16.v9 main_call16.v10 main_call16.call0) ++ ((fn_threefry2x32.run6 (F := F) main_call16.v6 main_call16.v8 main_call16.v9 main_call16.v10 main_call16.call0) ++ ((fn_threefry2x32.run7 (F := F) main_call16.v6 main_call16.v8 main_call16.v9 main_call16.v10 main_call16.call0) ++ ((fn_threefry2x32.run8 (F := F) main_call16.v6 main_call16.v8 main_call16.v9 main_call16.v10 main_call16.call0 ++ (fn_threefry2x32.run9 (F := F) main_call16.v6 main_call16.v8 main_call16.v9 main_call16.v10 main_call16.call0)) ++ ((fn_threefry2x32.run10 (F := F) main_call16.v6 main_call16.v8 main_call16.v9 main_call16.v10 main_call16.call0) ++ ((fn_threefry2x32.run11 (F := F) main_call16.v6 main_call16.v8 main_call16.v9 main_call16.v10 main_call16.call0))))))))))

theorem rf1_all (W : Valuation τ sig (Elt F)) : Cert.On_agrees.fn_threefry2x32 (F := F) (W (Proc.devRef .tc main_call16_v6)) (W (Proc.devRef .tc main_call16_v8)) (W (Proc.devRef .tc main_call16_v9)) (W (Proc.devRef .tc main_call16_v10)) =
    ((after rf1 W (Proc.devRef .tc main_call16_v11_0)), (after rf1 W (Proc.devRef .tc main_call16_v11_1))) := by
  unfold rf1
  simp only [after_append]
  exact (rf1_0 _).trans <| (rf1_1 _).trans <| (rf1_2 _).trans <| (rf1_3 _).trans <| (rf1_4 _).trans <| (rf1_5 _).trans <| (rf1_6 _).trans <| (rf1_7 _).trans <| (rf1_8 _).trans <| (rf1_9 _)

/-- One key derivation of the reference. -/
theorem rfold1 (W : Valuation τ sig (Elt F)) : after (fn_threefry_fold_in.line (F := F) (.of main_v6) (.of main_c_45) main_call16 : List (HloOp τ sig (Elt F))) W (Proc.devRef .tc main_v140) =
    Cert.On_agrees.fn_threefry_fold_in (F := F) (W (Proc.devRef .tc main_v6)) (W (Proc.devRef .tc main_c_45)) := by
  have hl : (fn_threefry_fold_in.line (F := F) (.of main_v6) (.of main_c_45) main_call16 : List (HloOp τ sig (Elt F))) = (fn_threefry_fold_in.run0 (F := F) (.of main_v6) (.of main_c_45) main_call16) ++ (rf1 ++ (fn_threefry_fold_in.run1 (F := F) (.of main_v6) (.of main_c_45) main_call16)) := by
    unfold fn_threefry_fold_in.line fn_threefry2x32.line rf1
    simp only [List.append_assoc]
  rw [hl, after_append, after_append]
  have e1 : (after rf1 (after (fn_threefry_fold_in.run0 (F := F) (.of main_v6) (.of main_c_45) main_call16) W) (Proc.devRef .tc main_call16_v11_0)) = _ := (congrArg Prod.fst (rf1_all (after (fn_threefry_fold_in.run0 (F := F) (.of main_v6) (.of main_c_45) main_call16) W))).symm
  have e2 : (after rf1 (after (fn_threefry_fold_in.run0 (F := F) (.of main_v6) (.of main_c_45) main_call16) W) (Proc.devRef .tc main_call16_v11_1)) = _ := (congrArg Prod.snd (rf1_all (after (fn_threefry_fold_in.run0 (F := F) (.of main_v6) (.of main_c_45) main_call16) W))).symm
  generalize after rf1 (after (fn_threefry_fold_in.run0 (F := F) (.of main_v6) (.of main_c_45) main_call16) W) = W2 at e1 e2 ⊢
  have hp : after (fn_threefry_fold_in.run1 (F := F) (.of main_v6) (.of main_c_45) main_call16) W2 (Proc.devRef .tc main_v140) =
      (fun a b : IVec S1 32 => concatenate S2 0 [⟨S1, a⟩, ⟨S1, b⟩] concatenates_S1_S1_S2_d0)
        (W2 (Proc.devRef .tc main_call16_v11_0)) (W2 (Proc.devRef .tc main_call16_v11_1)) := by
    after_reads_simp
    rfl
  refine hp.trans ?_
  unfold Cert.On_agrees.fn_threefry_fold_in
  refine congrArg₂ (fun a b : IVec S1 32 => concatenate S2 0 [⟨S1, a⟩, ⟨S1, b⟩] concatenates_S1_S1_S2_d0)
    (e1.trans (congrArg Prod.fst ?_)) (e2.trans (congrArg Prod.snd ?_))
  · after_reads_simp
    rfl
  · after_reads_simp
    rfl

end Cert.ReferenceIdeal.Gen

end
-- ==== Proof.RDraw3.lean ====
module

public import proofs.«01_k».proof.Proof.RefMain
public import proofs.«01_k».proof.Proof.Gen.On_agrees
public import Idealize.ShloMosaic.Lib.StableHlo.RunRead
public import Idealize.ShloMosaic.Lib.Pipeline.Frame

/-! Chunk by chunk, what the random draws leave in their buffers: the same function on both sides. -/

@[expose] public section

set_option maxRecDepth 16384
set_option maxHeartbeats 4000000

noncomputable section

namespace Cert.ReferenceIdeal.Gen

open Cert.ReferenceIdeal.Gen Cert.ReferenceIdeal Idealize.ShloMosaic Idealize.ShloMosaic.TcCoe Idealize.ShloMosaic.StableHlo Idealize.SL.Sem

variable {F : FTy → Type} [FloatOps F]

theorem rg1_0 (W : Valuation τ sig (Elt F)) : Cert.On_agrees.fn_threefry2x32_0 (F := F) (W (Proc.devRef .tc main_call17_call0_v4)) (W (Proc.devRef .tc main_call17_call0_v6)) (W (Proc.devRef .tc main_call17_call0_v17)) (W (Proc.devRef .tc main_call17_call0_v16)) =
    (fun W2 : Valuation τ sig (Elt F) => Cert.On_agrees.fn_threefry2x32_0_part1 (F := F) (W2 (Proc.devRef .tc main_call17_call0_v4)) (W2 (Proc.devRef .tc main_call17_call0_v6)) (W2 (Proc.devRef .tc main_call17_call0_call0_v1)) (W2 (Proc.devRef .tc main_call17_call0_call0_v13)) (W2 (Proc.devRef .tc main_call17_call0_call0_v18))) (after ((fn_threefry2x32_0.run0 (F := F) main_call17.call0.v4 main_call17.call0.v6 main_call17.call0.v17 main_call17.call0.v16 main_call17.call0.call0) : List (HloOp τ sig (Elt F))) W) := by
  dsimp only
  unfold Cert.On_agrees.fn_threefry2x32_0
  after_reads_simp
  rfl

theorem rg1_1 (W : Valuation τ sig (Elt F)) : Cert.On_agrees.fn_threefry2x32_0_part1 (F := F) (W (Proc.devRef .tc main_call17_call0_v4)) (W (Proc.devRef .tc main_call17_call0_v6)) (W (Proc.devRef .tc main_call17_call0_call0_v1)) (W (Proc.devRef .tc main_call17_call0_call0_v13)) (W (Proc.devRef .tc main_call17_call0_call0_v18)) =
    (fun W2 : Valuation τ sig (Elt F) => Cert.On_agrees.fn_threefry2x32_0_part2 (F := F) (W2 (Proc.devRef .tc main_call17_call0_v4)) (W2 (Proc.devRef .tc main_call17_call0_v6)) (W2 (Proc.devRef .tc main_call17_call0_call0_v1)) (W2 (Proc.devRef .tc main_call17_call0_call0_v35)) (W2 (Proc.devRef .tc main_call17_call0_call0_v37)) (W2 (Proc.devRef .tc main_call17_call0_call0_c_8))) (after ((fn_threefry2x32_0.run1 (F := F) main_call17.call0.v4 main_call17.call0.v6 main_call17.call0.v17 main_call17.call0.v16 main_call17.call0.call0) : List (HloOp τ sig (Elt F))) W) := by
  dsimp only
  unfold Cert.On_agrees.fn_threefry2x32_0_part1
  after_reads_simp
  rfl

theorem rg1_2 (W : Valuation τ sig (Elt F)) : Cert.On_agrees.fn_threefry2x32_0_part2 (F := F) (W (Proc.devRef .tc main_call17_call0_v4)) (W (Proc.devRef .tc main_call17_call0_v6)) (W (Proc.devRef .tc main_call17_call0_call0_v1)) (W (Proc.devRef .tc main_call17_call0_call0_v35)) (W (Proc.devRef .tc main_call17_call0_call0_v37)) (W (Proc.devRef .tc main_call17_call0_call0_c_8)) =
    (fun W2 : Valuation τ sig (Elt F) => Cert.On_agrees.fn_threefry2x32_0_part3 (F := F) (W2 (Proc.devRef .tc main_call17_call0_v4)) (W2 (Proc.devRef .tc main_call17_call0_v6)) (W2 (Proc.devRef .tc main_call17_call0_call0_v1)) (W2 (Proc.devRef .tc main_call17_call0_call0_v53)) (W2 (Proc.devRef .tc main_call17_call0_call0_v54)) (W2 (Proc.devRef .tc main_call17_call0_call0_v56))) (after ((fn_threefry2x32_0.run2 (F := F) main_call17.call0.v4 main_call17.call0.v6 main_call17.call0.v17 main_call17.call0.v16 main_call17.call0.call0 ++ (fn_threefry2x32_0.run3 (F := F) main_call17.call0.v4 main_call17.call0.v6 main_call17.call0.v17 main_call17.call0.v16 main_call17.call0.call0)) : List (HloOp τ sig (Elt F))) W) := by
  dsimp only
  unfold Cert.On_agrees.fn_threefry2x32_0_part2
  after_reads_simp
  rfl

theorem rg1_3 (W : Valuation τ sig (Elt F)) : Cert.On_agrees.fn_threefry2x32_0_part3 (F := F) (W (Proc.devRef .tc main_call17_call0_v4)) (W (Proc.devRef .tc main_call17_call0_v6)) (W (Proc.devRef .tc main_call17_call0_call0_v1)) (W (Proc.devRef .tc main_call17_call0_call0_v53)) (W (Proc.devRef .tc main_call17_call0_call0_v54)) (W (Proc.devRef .tc main_call17_call0_call0_v56)) =
    (fun W2 : Valuation τ sig (Elt F) => Cert.On_agrees.fn_threefry2x32_0_part4 (F := F) (W2 (Proc.devRef .tc main_call17_call0_v4)) (W2 (Proc.devRef .tc main_call17_call0_v6)) (W2 (Proc.devRef .tc main_call17_call0_call0_v1)) (W2 (Proc.devRef .tc main_call17_call0_call0_v73)) (W2 (Proc.devRef .tc main_call17_call0_call0_v74)) (W2 (Proc.devRef .tc main_call17_call0_call0_v75))) (after ((fn_threefry2x32_0.run4 (F := F) main_call17.call0.v4 main_call17.call0.v6 main_call17.call0.v17 main_call17.call0.v16 main_call17.call0.call0) : List (HloOp τ sig (Elt F))) W) := by
  dsimp only
  unfold Cert.On_agrees.fn_threefry2x32_0_part3
  after_reads_simp
  rfl

theorem rg1_4 (W : Valuation τ sig (Elt F)) : Cert.On_agrees.fn_threefry2x32_0_part4 (F := F) (W (Proc.devRef .tc main_call17_call0_v4)) (W (Proc.devRef .tc main_call17_call0_v6)) (W (Proc.devRef .tc main_call17_call0_call0_v1)) (W (Proc.devRef .tc main_call17_call0_call0_v73)) (W (Proc.devRef .tc main_call17_call0_call0_v74)) (W (Proc.devRef .tc main_call17_call0_call0_v75)) =
    (fun W2 : Valuation τ sig (Elt F) => Cert.On_agrees.fn_threefry2x32_0_part5 (F := F) (W2 (Proc.devRef .tc main_call17_call0_v4)) (W2 (Proc.devRef .tc main_call17_call0_v6)) (W2 (Proc.devRef .tc main_call17_call0_call0_v1)) (W2 (Proc.devRef .tc main_call17_call0_call0_v88)) (W2 (Proc.devRef .tc main_call17_call0_call0_v94))) (after ((fn_threefry2x32_0.run5 (F := F) main_call17.call0.v4 main_call17.call0.v6 main_call17.call0.v17 main_call17.call0.v16 main_call17.call0.call0) : List (HloOp τ sig (Elt F))) W) := by
  dsimp only
  unfold Cert.On_agrees.fn_threefry2x32_0_part4
  after_reads_simp
  rfl

theorem rg1_5 (W : Valuation τ sig (Elt F)) : Cert.On_agrees.fn_threefry2x32_0_part5 (F := F) (W (Proc.devRef .tc main_call17_call0_v4)) (W (Proc.devRef .tc main_call17_call0_v6)) (W (Proc.devRef .tc main_call17_call0_call0_v1)) (W (Proc.devRef .tc main_call17_call0_call0_v88)) (W (Proc.devRef .tc main_call17_call0_call0_v94)) =
    (fun W2 : Valuation τ sig (Elt F) => Cert.On_agrees.fn_threefry2x32_0_part6 (F := F) (W2 (Proc.devRef .tc main_call17_call0_v4)) (W2 (Proc.devRef .tc main_call17_call0_v6)) (W2 (Proc.devRef .tc main_call17_call0_call0_v1)) (W2 (Proc.devRef .tc main_call17_call0_call0_v108)) (W2 (Proc.devRef .tc main_call17_call0_call0_v113))) (after ((fn_threefry2x32_0.run6 (F := F) main_call17.call0.v4 main_call17.call0.v6 main_call17.call0.v17 main_call17.call0.v16 main_call17.call0.call0) : List (HloOp τ sig (Elt F))) W) := by
  dsimp only
  unfold Cert.On_agrees.fn_threefry2x32_0_part5
  after_reads_simp
  rfl

theorem rg1_6 (W : Valuation τ sig (Elt F)) : Cert.On_agrees.fn_threefry2x32_0_part6 (F := F) (W (Proc.devRef .tc main_call17_call0_v4)) (W (Proc.devRef .tc main_call17_call0_v6)) (W (Proc.devRef .tc main_call17_call0_call0_v1)) (W (Proc.devRef .tc main_call17_call0_call0_v108)) (W (Proc.devRef .tc main_call17_call0_call0_v113)) =
    (fun W2 : Valuation τ sig (Elt F) => Cert.On_agrees.fn_threefry2x32_0_part7 (F := F) (W2 (Proc.devRef .tc main_call17_call0_v4)) (W2 (Proc.devRef .tc main_call17_call0_v6)) (W2 (Proc.devRef .tc main_call17_call0_call0_v1)) (W2 (Proc.devRef .tc main_call17_call0_call0_v128)) (W2 (Proc.devRef .tc main_call17_call0_call0_v129)) (W2 (Proc.devRef .tc main_call17_call0_call0_v131)) (W2 (Proc.devRef .tc main_call17_call0_call0_c_34))) (after ((fn_threefry2x32_0.run7 (F := F) main_call17.call0.v4 main_call17.call0.v6 main_call17.call0.v17 main_call17.call0.v16 main_call17.call0.call0) : List (HloOp τ sig (Elt F))) W) := by
  dsimp only
  unfold Cert.On_agrees.fn_threefry2x32_0_part6
  after_reads_simp
  rfl

theorem rg1_7 (W : Valuation τ sig (Elt F)) : Cert.On_agrees.fn_threefry2x32_0_part7 (F := F) (W (Proc.devRef .tc main_call17_call0_v4)) (W (Proc.devRef .tc main_call17_call0_v6)) (W (Proc.devRef .tc main_call17_call0_call0_v1)) (W (Proc.devRef .tc main_call17_call0_call0_v128)) (W (Proc.devRef .tc main_call17_call0_call0_v129)) (W (Proc.devRef .tc main_call17_call0_call0_v131)) (W (Proc.devRef .tc main_call17_call0_call0_c_34)) =
    (fun W2 : Valuation τ sig (Elt F) => Cert.On_agrees.fn_threefry2x32_0_part8 (F := F) (W2 (Proc.devRef .tc main_call17_call0_v4)) (W2 (Proc.devRef .tc main_call17_call0_call0_v1)) (W2 (Proc.devRef .tc main_call17_call0_call0_v148)) (W2 (Proc.devRef .tc main_call17_call0_call0_v149)) (W2 (Proc.devRef .tc main_call17_call0_call0_v151))) (after ((fn_threefry2x32_0.run8 (F := F) main_call17.call0.v4 main_call17.call0.v6 main_call17.call0.v17 main_call17.call0.v16 main_call17.call0.call0 ++ (fn_threefry2x32_0.run9 (F := F) main_call17.call0.v4 main_call17.call0.v6 main_call17.call0.v17 main_call17.call0.v16 main_call17.call0.call0)) : List (HloOp τ sig (Elt F))) W) := by
  dsimp only
  unfold Cert.On_agrees.fn_threefry2x32_0_part7
  after_reads_simp
  rfl

theorem rg1_8 (W : Valuation τ sig (Elt F)) : Cert.On_agrees.fn_threefry2x32_0_part8 (F := F) (W (Proc.devRef .tc main_call17_call0_v4)) (W (Proc.devRef .tc main_call17_call0_call0_v1)) (W (Proc.devRef .tc main_call17_call0_call0_v148)) (W (Proc.devRef .tc main_call17_call0_call0_v149)) (W (Proc.devRef .tc main_call17_call0_call0_v151)) =
    (fun W2 : Valuation τ sig (Elt F) => Cert.On_agrees.fn_threefry2x32_0_part9 (F := F) (W2 (Proc.devRef .tc main_call17_call0_v4)) (W2 (Proc.devRef .tc main_call17_call0_call0_v163)) (W2 (Proc.devRef .tc main_call17_call0_call0_v169)) (W2 (Proc.devRef .tc main_call17_call0_call0_v170))) (after ((fn_threefry2x32_0.run10 (F := F) main_call17.call0.v4 main_call17.call0.v6 main_call17.call0.v17 main_call17.call0.v16 main_call17.call0.call0) : List (HloOp τ sig (Elt F))) W) := by
  dsimp only
  unfold Cert.On_agrees.fn_threefry2x32_0_part8
  after_reads_simp
  rfl

theorem rg1_9 (W : Valuation τ sig (Elt F)) : Cert.On_agrees.fn_threefry2x32_0_part9 (F := F) (W (Proc.devRef .tc main_call17_call0_v4)) (W (Proc.devRef .tc main_call17_call0_call0_v163)) (W (Proc.devRef .tc main_call17_call0_call0_v169)) (W (Proc.devRef .tc main_call17_call0_call0_v170)) =
    (fun W2 : Valuation τ sig (Elt F) => ((W2 (Proc.devRef .tc main_call17_call0_v18_0)), (W2 (Proc.devRef .tc main_call17_call0_v18_1)))) (after ((fn_threefry2x32_0.run11 (F := F) main_call17.call0.v4 main_call17.call0.v6 main_call17.call0.v17 main_call17.call0.v16 main_call17.call0.call0) : List (HloOp τ sig (Elt F))) W) := by
  dsimp only
  unfold Cert.On_agrees.fn_threefry2x32_0_part9
  after_reads_simp
  rfl

/-- The counter function inside one noise table. -/
def rg1 : List (HloOp τ sig (Elt F)) :=
  (fn_threefry2x32_0.run0 (F := F) main_call17.call0.v4 main_call17.call0.v6 main_call17.call0.v17 main_call17.call0.v16 main_call17.call0.call0) ++ ((fn_threefry2x32_0.run1 (F := F) main_call17.call0.v4 main_call17.call0.v6 main_call17.call0.v17 main_call17.call0.v16 main_call17.call0.call0) ++ ((fn_threefry2x32_0.run2 (F := F) main_call17.call0.v4 main_call17.call0.v6 main_call17.call0.v17 main_call17.call0.v16 main_call17.call0.call0 ++ (fn_threefry2x32_0.run3 (F := F) main_call17.call0.v4 main_call17.call0.v6 main_call17.call0.v17 main_call17.call0.v16 main_call17.call0.call0)) ++ ((fn_threefry2x32_0.run4 (F := F) main_call17.call0.v4 main_call17.call0.v6 main_call17.call0.v17 main_call17.call0.v16 main_call17.call0.call0) ++ ((fn_threefry2x32_0.run5 (F := F) main_call17.call0.v4 main_call17.call0.v6 main_call17.call0.v17 main_call17.call0.v16 main_call17.call0.call0) ++ ((fn_threefry2x32_0.run6 (F := F) main_call17.call0.v4 main_call17.call0.v6 main_call17.call0.v17 main_call17.call0.v16 main_call17.call0.call0) ++ ((fn_threefry2x32_0.run7 (F := F) main_call17.call0.v4 main_call17.call0.v6 main_call17.call0.v17 main_call17.call0.v16 main_call17.call0.call0) ++ ((fn_threefry2x32_0.run8 (F := F) main_call17.call0.v4 main_call17.call0.v6 main_call17.call0.v17 main_call17.call0.v16 main_call17.call0.call0 ++ (fn_threefry2x32_0.run9 (F := F) main_call17.call0.v4 main_call17.call0.v6 main_call17.call0.v17 main_call17.call0.v16 main_call17.call0.call0)) ++ ((fn_threefry2x32_0.run10 (F := F) main_call17.call0.v4 main_call17.call0.v6 main_call17.call0.v17 main_call17.call0.v16 main_call17.call0.call0) ++ ((fn_threefry2x32_0.run11 (F := F) main_call17.call0.v4 main_call17.call0.v6 main_call17.call0.v17 main_call17.call0.v16 main_call17.call0.call0))))))))))

theorem rg1_all (W : Valuation τ sig (Elt F)) : Cert.On_agrees.fn_threefry2x32_0 (F := F) (W (Proc.devRef .tc main_call17_call0_v4)) (W (Proc.devRef .tc main_call17_call0_v6)) (W (Proc.devRef .tc main_call17_call0_v17)) (W (Proc.devRef .tc main_call17_call0_v16)) =
    ((after rg1 W (Proc.devRef .tc main_call17_call0_v18_0)), (after rg1 W (Proc.devRef .tc main_call17_call0_v18_1))) := by
  unfold rg1
  simp only [after_append]
  exact (rg1_0 _).trans <| (rg1_1 _).trans <| (rg1_2 _).trans <| (rg1_3 _).trans <| (rg1_4 _).trans <| (rg1_5 _).trans <| (rg1_6 _).trans <| (rg1_7 _).trans <| (rg1_8 _).trans <| (rg1_9 _)

/-- One noise table of the reference. -/
theorem rgum1 (W : Valuation τ sig (Elt F)) : after (fn_gumbel.line (F := F) (.of main_v140) main_call17 : List (HloOp τ sig (Elt F))) W (Proc.devRef .tc main_v141) =
    Cert.On_agrees.fn_gumbel (F := F) (W (Proc.devRef .tc main_v140)) := by
  have hl : (fn_gumbel.line (F := F) (.of main_v140) main_call17 : List (HloOp τ sig (Elt F))) = (fn_gumbel.run0 (F := F) (.of main_v140) main_call17 ++ fn_uniform.run0 (F := F) (.of main_v140) main_call17.cst main_call17.cst_0 main_call17.call0) ++ (rg1 ++ (fn_uniform.run1 (F := F) (.of main_v140) main_call17.cst main_call17.cst_0 main_call17.call0 ++ fn_gumbel.run1 (F := F) (.of main_v140) main_call17)) := by
    unfold fn_gumbel.line fn_uniform.line fn_threefry2x32_0.line rg1
    simp only [List.append_assoc]
  rw [hl, after_append, after_append]
  have e1 : (after rg1 (after (fn_gumbel.run0 (F := F) (.of main_v140) main_call17 ++ fn_uniform.run0 (F := F) (.of main_v140) main_call17.cst main_call17.cst_0 main_call17.call0) W) (Proc.devRef .tc main_call17_call0_v18_0)) = _ := (congrArg Prod.fst (rg1_all (after (fn_gumbel.run0 (F := F) (.of main_v140) main_call17 ++ fn_uniform.run0 (F := F) (.of main_v140) main_call17.cst main_call17.cst_0 main_call17.call0) W))).symm
  have e2 : (after rg1 (after (fn_gumbel.run0 (F := F) (.of main_v140) main_call17 ++ fn_uniform.run0 (F := F) (.of main_v140) main_call17.cst main_call17.cst_0 main_call17.call0) W) (Proc.devRef .tc main_call17_call0_v18_1)) = _ := (congrArg Prod.snd (rg1_all (after (fn_gumbel.run0 (F := F) (.of main_v140) main_call17 ++ fn_uniform.run0 (F := F) (.of main_v140) main_call17.cst main_call17.cst_0 main_call17.call0) W))).symm
  have e3 : (after rg1 (after (fn_gumbel.run0 (F := F) (.of main_v140) main_call17 ++ fn_uniform.run0 (F := F) (.of main_v140) main_call17.cst main_call17.cst_0 main_call17.call0) W) (Proc.devRef .tc main_call17_call0_v1)) = after (fn_gumbel.run0 (F := F) (.of main_v140) main_call17 ++ fn_uniform.run0 (F := F) (.of main_v140) main_call17.cst main_call17.cst_0 main_call17.call0) W (Proc.devRef .tc main_call17_call0_v1) := by after_reads_simp
  have e4 : (after rg1 (after (fn_gumbel.run0 (F := F) (.of main_v140) main_call17 ++ fn_uniform.run0 (F := F) (.of main_v140) main_call17.cst main_call17.cst_0 main_call17.call0) W) (Proc.devRef .tc main_call17_call0_v2)) = after (fn_gumbel.run0 (F := F) (.of main_v140) main_call17 ++ fn_uniform.run0 (F := F) (.of main_v140) main_call17.cst main_call17.cst_0 main_call17.call0) W (Proc.devRef .tc main_call17_call0_v2) := by after_reads_simp
  generalize after rg1 (after (fn_gumbel.run0 (F := F) (.of main_v140) main_call17 ++ fn_uniform.run0 (F := F) (.of main_v140) main_call17.cst main_call17.cst_0 main_call17.call0) W) = W2 at e1 e2 e3 e4 ⊢
  after_reads_simp
  rw [e1, e2, e3, e4]
  after_reads_simp
  unfold Cert.On_agrees.fn_gumbel Cert.On_agrees.fn_uniform Cert.On_agrees.fn_uniform_part1
  rfl

end Cert.ReferenceIdeal.Gen

end
-- ==== Proof.Hub.lean ====
module

public import proofs.«01_k».proof.Proof.Gen.On_agrees
public import proofs.«01_k».proof.Proof.Img
public import Idealize.ShloMosaic.Lib.Pointwise

/-! The two draws as functions of the probabilities, as every program of this directory computes them, and the mask of the
claim read at an element. -/

@[expose] public section

set_option maxRecDepth 16384
set_option maxHeartbeats 2000000

noncomputable section

namespace Cert.On_agrees

open Idealize.ShloMosaic Facts

/-- The key of seed 42. -/
def key : IVec S2 32 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  main_v6

/-- The logits of every image: the logarithm of the mixed distribution. -/
def logits {F : FTy → Type} [FloatOps F] (main_arg1 : FVec F S8 .f32) : FVec F S128x8 .f32 :=
  let main_cst : FVec F S_ .f32 := constant S_ .f32 0x3F800000#32
  let main_v7 : FVec F S1x8 .f32 := broadcastInDim S1x8 ![] bcast_S_S1x8 main_cst
  let main_cst_2 : FVec F S_ .f32 := constant S_ .f32 0xFF800000#32
  let main_v8 : FVec F S1 .f32 := (fun x v => Host.reduce FloatOps.maximumf x v reducesTo_S1x8_S1_d1 h_S_) main_v7 main_cst_2
  let main_cst_3 : FVec F S_ .f32 := constant S_ .f32 0xFF800000#32
  let main_v9 : FVec F S1 .f32 := broadcastInDim S1 ![] bcast_S_S1 main_cst_3
  let main_v10 : FVec F S1 .f32 := maximumf main_v9 main_v8
  let main_v11 : FVec F S1x1 .f32 := broadcastInDim S1x1 ![0] bcast_S1_S1x1_0 main_v10
  let main_v12 : FVec F S1x8 .f32 := broadcastInDim S1x8 ![0, 1] bcast_S1x1_S1x8_0_1 main_v11
  let main_v13 : FVec F S1x8 .f32 := subf main_v7 main_v12
  let main_v14 : FVec F S1x8 .f32 := Host.exp main_v13
  let main_cst_4 : FVec F S_ .f32 := constant S_ .f32 0x00000000#32
  let main_v15 : FVec F S1 .f32 := (fun x v => Host.reduceAdd x v reducesTo_S1x8_S1_d1 h_S_) main_v14 main_cst_4
  let main_v16 : FVec F S1x1 .f32 := broadcastInDim S1x1 ![0] bcast_S1_S1x1_0 main_v15
  let main_v17 : FVec F S1x8 .f32 := broadcastInDim S1x8 ![0, 1] bcast_S1x1_S1x8_0_1 main_v16
  let main_v18 : FVec F S1x8 .f32 := Host.divf main_v14 main_v17
  let main_v19 : FVec F S1x8 .f32 := broadcastInDim S1x8 ![1] bcast_S8_S1x8_1 main_arg1
  let main_cst_5 : FVec F S_ .f32 := constant S_ .f32 0x3F000000#32
  let main_v20 : FVec F S1x8 .f32 := broadcastInDim S1x8 ![] bcast_S_S1x8 main_cst_5
  let main_v21 : FVec F S1x8 .f32 := mulf main_v20 main_v19
  let main_cst_6 : FVec F S_ .f32 := constant S_ .f32 0x3F000000#32
  let main_v22 : FVec F S1x8 .f32 := broadcastInDim S1x8 ![] bcast_S_S1x8 main_cst_6
  let main_v23 : FVec F S1x8 .f32 := mulf main_v22 main_v18
  let main_v24 : FVec F S1x8 .f32 := addf main_v21 main_v23
  let main_cst_7 : FVec F S_ .f32 := constant S_ .f32 0xFF800000#32
  let main_v25 : FVec F S1 .f32 := (fun x v => Host.reduce FloatOps.maximumf x v reducesTo_S1x8_S1_d1 h_S_) main_v24 main_cst_7
  let main_cst_8 : FVec F S_ .f32 := constant S_ .f32 0xFF800000#32
  let main_v26 : FVec F S1 .f32 := broadcastInDim S1 ![] bcast_S_S1 main_cst_8
  let main_v27 : FVec F S1 .f32 := maximumf main_v26 main_v25
  let main_v28 : FVec F S1x1 .f32 := broadcastInDim S1x1 ![0] bcast_S1_S1x1_0 main_v27
  let main_v29 : FVec F S1x8 .f32 := broadcastInDim S1x8 ![0, 1] bcast_S1x1_S1x8_0_1 main_v28
  let main_v30 : FVec F S1x8 .f32 := subf main_v24 main_v29
  let main_v31 : FVec F S1x8 .f32 := Host.exp main_v30
  let main_cst_9 : FVec F S_ .f32 := constant S_ .f32 0x00000000#32
  let main_v32 : FVec F S1 .f32 := (fun x v => Host.reduceAdd x v reducesTo_S1x8_S1_d1 h_S_) main_v31 main_cst_9
  let main_v33 : FVec F S1x1 .f32 := broadcastInDim S1x1 ![0] bcast_S1_S1x1_0 main_v32
  let main_v34 : FVec F S1x8 .f32 := broadcastInDim S1x8 ![0, 1] bcast_S1x1_S1x8_0_1 main_v33
  let main_v35 : FVec F S1x8 .f32 := Host.divf main_v31 main_v34
  let main_v36 : FVec F S128x8 .f32 := broadcastInDim S128x8 ![0, 1] bcast_S1x8_S128x8_0_1 main_v35
  let main_v37 : FVec F S128x8 .f32 := Host.log main_v36
  main_v37

/-- The draw of every image at step `n`. -/
def draw {F : FTy → Type} [FloatOps F] (n : BitVec 32) (p : FVec F S8 .f32) : IVec S128 32 :=
  fn_argmax (F := F) (addf (fn_gumbel (F := F) (fn_threefry_fold_in (F := F) key (constantI S_ 32 n))) (logits p))

/-- The mask from the two draws. -/
def maskOf (s1 s2 : IVec S128 32) : IVec S128x3x224x224 1 :=
  let main_v42 : IVec S128x3x224x224 32 := broadcastInDim S128x3x224x224 ![0] bcast_S128_S128x3x224x224_0 s1
  let main_v85 : IVec S128x3x224x224 32 := broadcastInDim S128x3x224x224 ![0] bcast_S128_S128x3x224x224_0 s2
  let main_v86 : IVec S128x3x224x224 32 := iotaInDim S128x3x224x224 32 2
  let main_c_24 : IVec S_ 32 := constantI S_ 32 2#32
  let main_v87 : IVec S128x3x224x224 32 := broadcastInDim S128x3x224x224 ![] bcast_S_S128x3x224x224 main_c_24
  let main_v88 : IVec S128x3x224x224 1 := cmpi .ne main_v42 main_v87
  let main_c_25 : IVec S_ 32 := constantI S_ 32 2#32
  let main_v89 : IVec S128x3x224x224 32 := broadcastInDim S128x3x224x224 ![] bcast_S_S128x3x224x224 main_c_25
  let main_v90 : IVec S128x3x224x224 1 := cmpi .ne main_v85 main_v89
  let main_v91 : IVec S128x3x224x224 1 := andi main_v88 main_v90
  let main_c_26 : IVec S_ 32 := constantI S_ 32 2#32
  let main_v92 : IVec S128x3x224x224 32 := broadcastInDim S128x3x224x224 ![] bcast_S_S128x3x224x224 main_c_26
  let main_v93 : IVec S128x3x224x224 1 := cmpi .eq main_v42 main_v92
  let main_c_27 : IVec S_ 32 := constantI S_ 32 1#32
  let main_v94 : IVec S128x3x224x224 32 := broadcastInDim S128x3x224x224 ![] bcast_S_S128x3x224x224 main_c_27
  let main_v95 : IVec S128x3x224x224 1 := cmpi .eq main_v85 main_v94
  let main_v96 : IVec S128x3x224x224 1 := andi main_v93 main_v95
  let main_v97 : IVec S128x3x224x224 1 := ori main_v91 main_v96
  let main_c_28 : IVec S_ 32 := constantI S_ 32 2#32
  let main_v98 : IVec S128x3x224x224 32 := broadcastInDim S128x3x224x224 ![] bcast_S_S128x3x224x224 main_c_28
  let main_v99 : IVec S128x3x224x224 1 := cmpi .eq main_v42 main_v98
  let main_c_29 : IVec S_ 32 := constantI S_ 32 2#32
  let main_v100 : IVec S128x3x224x224 32 := broadcastInDim S128x3x224x224 ![] bcast_S_S128x3x224x224 main_c_29
  let main_v101 : IVec S128x3x224x224 1 := cmpi .eq main_v85 main_v100
  let main_v102 : IVec S128x3x224x224 1 := andi main_v99 main_v101
  let main_c_30 : IVec S_ 32 := constantI S_ 32 104#32
  let main_v103 : IVec S128x3x224x224 32 := broadcastInDim S128x3x224x224 ![] bcast_S_S128x3x224x224 main_c_30
  let main_v104 : IVec S128x3x224x224 1 := cmpi .sge main_v86 main_v103
  let main_v105 : IVec S128x3x224x224 1 := andi main_v102 main_v104
  let main_v106 : IVec S128x3x224x224 1 := ori main_v97 main_v105
  let main_c_31 : IVec S_ 32 := constantI S_ 32 2#32
  let main_v107 : IVec S128x3x224x224 32 := broadcastInDim S128x3x224x224 ![] bcast_S_S128x3x224x224 main_c_31
  let main_v108 : IVec S128x3x224x224 1 := cmpi .ne main_v42 main_v107
  let main_c_32 : IVec S_ 32 := constantI S_ 32 2#32
  let main_v109 : IVec S128x3x224x224 32 := broadcastInDim S128x3x224x224 ![] bcast_S_S128x3x224x224 main_c_32
  let main_v110 : IVec S128x3x224x224 1 := cmpi .eq main_v85 main_v109
  let main_v111 : IVec S128x3x224x224 1 := andi main_v108 main_v110
  let main_c_33 : IVec S_ 32 := constantI S_ 32 150#32
  let main_v112 : IVec S128x3x224x224 32 := broadcastInDim S128x3x224x224 ![] bcast_S_S128x3x224x224 main_c_33
  let main_v113 : IVec S128x3x224x224 1 := cmpi .slt main_v86 main_v112
  let main_v114 : IVec S128x3x224x224 1 := andi main_v111 main_v113
  let main_v115 : IVec S128x3x224x224 1 := ori main_v106 main_v114
  let main_c_34 : IVec S_ 32 := constantI S_ 32 2#32
  let main_v116 : IVec S128x3x224x224 32 := broadcastInDim S128x3x224x224 ![] bcast_S_S128x3x224x224 main_c_34
  let main_v117 : IVec S128x3x224x224 1 := cmpi .eq main_v42 main_v116
  let main_c_35 : IVec S_ 32 := constantI S_ 32 2#32
  let main_v118 : IVec S128x3x224x224 32 := broadcastInDim S128x3x224x224 ![] bcast_S_S128x3x224x224 main_c_35
  let main_v119 : IVec S128x3x224x224 1 := cmpi .ne main_v85 main_v118
  let main_v120 : IVec S128x3x224x224 1 := andi main_v117 main_v119
  let main_c_36 : IVec S_ 32 := constantI S_ 32 4#32
  let main_v121 : IVec S128x3x224x224 32 := broadcastInDim S128x3x224x224 ![] bcast_S_S128x3x224x224 main_c_36
  let main_v122 : IVec S128x3x224x224 1 := cmpi .ne main_v85 main_v121
  let main_v123 : IVec S128x3x224x224 1 := andi main_v120 main_v122
  let main_c_37 : IVec S_ 32 := constantI S_ 32 120#32
  let main_v124 : IVec S128x3x224x224 32 := broadcastInDim S128x3x224x224 ![] bcast_S_S128x3x224x224 main_c_37
  let main_v125 : IVec S128x3x224x224 1 := cmpi .slt main_v86 main_v124
  let main_v126 : IVec S128x3x224x224 1 := andi main_v123 main_v125
  let main_v127 : IVec S128x3x224x224 1 := ori main_v115 main_v126
  main_v127

theorem fn_eq {F : FTy → Type} [FloatOps F] (x : FVec F S128x3x224x224 .f32) (p : FVec F S8 .f32) (mag : FVec F S_ .f32) :
    fn (F := F) x p mag = maskOf (draw 0#32 p) (draw 1#32 p) := by
  unfold fn fn_part1 fn_part2 fn_part3 fn_part4 fn_part5 fn_part6
  rfl

theorem bit_and (a b : BitVec 1) : IntOp.andi a b = 1#1 ↔ a = 1#1 ∧ b = 1#1 := by
  revert a b; decide
theorem bit_or (a b : BitVec 1) : IntOp.ori a b = 1#1 ↔ a = 1#1 ∨ b = 1#1 := by
  revert a b; decide
theorem bit_eq (a b : BitVec 32) : IntOp.cmpi .eq a b = 1#1 ↔ a = b := by
  by_cases h : a = b
  · subst h; simp [IntOp.cmpi]
  · have e : (a == b) = false := beq_false_of_ne h
    simp only [IntOp.cmpi, e]
    exact ⟨fun q => absurd q (by decide), fun q => absurd q h⟩
theorem bit_ne (a b : BitVec 32) : IntOp.cmpi .ne a b = 1#1 ↔ a ≠ b := by
  by_cases h : a = b
  · subst h; simp [IntOp.cmpi]
  · have e : (a == b) = false := beq_false_of_ne h
    simp only [IntOp.cmpi, bne, e]
    exact ⟨fun _ => h, fun _ => rfl⟩
theorem row_toInt (r : Fin 224) : (BitVec.ofNat 32 r.val).toInt = r.val := by
  have := r.isLt
  rw [BitVec.toInt_eq_toNat_of_lt] <;> simp only [BitVec.toNat_ofNat] <;> omega
theorem bit_lt (r : Fin 224) (n : Nat) (hn : n < 1000) : IntOp.cmpi .slt (BitVec.ofNat 32 r.val) (BitVec.ofNat 32 n) = 1#1 ↔ r.val < n := by
  have h2 : (BitVec.ofNat 32 n).toInt = n := by
    rw [BitVec.toInt_eq_toNat_of_lt] <;> simp only [BitVec.toNat_ofNat] <;> omega
  simp only [IntOp.cmpi, BitVec.slt, row_toInt, h2]
  by_cases h : r.val < n <;> simp [h]
theorem bit_ge (r : Fin 224) (n : Nat) (hn : n < 1000) : IntOp.cmpi .sge (BitVec.ofNat 32 r.val) (BitVec.ofNat 32 n) = 1#1 ↔ n ≤ r.val := by
  have h2 : (BitVec.ofNat 32 n).toInt = n := by
    rw [BitVec.toInt_eq_toNat_of_lt] <;> simp only [BitVec.toNat_ofNat] <;> omega
  simp only [IntOp.cmpi, BitVec.sle, row_toInt, h2]
  by_cases h : n ≤ r.val <;> simp [h]

/-- The mask at an element, in words. -/
theorem maskOf_iff (s1 s2 : IVec S128 32) (b : Fin 128) (c : Fin 3) (r w : Fin 224) :
    maskOf s1 s2 (ix4 b c r w) = 1#1 ↔ Cert.Image.Agrees (s1 (ix1 b)) (s2 (ix1 b)) r.val := by
  unfold maskOf
  pointwise
  simp only [bit_or, bit_and, bit_eq, bit_ne]
  rw [bit_lt r 120 (by omega), bit_lt r 150 (by omega), bit_ge r 104 (by omega)]
  unfold Cert.Image.Agrees
  tauto

/-- The arg-max is one of the eight indices. -/
theorem argmax_lt (x : FVec Ideal S128x8 .f32) (j : S128.Idx) : (fn_argmax (F := Ideal) x j).toNat < 8 := by
  unfold fn_argmax
  dsimp only
  rw [Ideal.argReduce_eq_reduce2, Host.reduce2_eq_foldl_fiber]
  have gen : ∀ (l : List (Ideal .f32 × BitVec 32)) (a : Ideal .f32 × BitVec 32), a.2.toNat < 8 → (∀ p ∈ l, p.2.toNat < 8) →
      (l.foldl reducer_argmax_f32_i32 a).2.toNat < 8 := by
    intro l
    induction l with
    | nil => intro a ha _; exact ha
    | cons p l ih =>
      intro a ha hl
      refine ih _ ?_ (fun q hq => hl q (List.mem_cons_of_mem _ hq))
      have hp := hl p List.mem_cons_self
      unfold reducer_argmax_f32_i32
      dsimp only [Scalar.select]
      split <;> assumption
  refine gen _ _ (by decide) ?_
  intro p hp
  unfold Host.argReduceFiber at hp
  obtain ⟨n, _, rfl⟩ := List.mem_map.1 hp
  dsimp only
  have h8 : ((S128x8.rowMajor.symm n) 1).val < 8 := ((S128x8.rowMajor.symm n) 1).isLt
  show (BitVec.ofNat 32 ((S128x8.rowMajor.symm n) 1).val).toNat < 8
  rw [BitVec.toNat_ofNat]
  omega

theorem draw_lt (n : BitVec 32) (p : FVec Ideal S8 .f32) (j : S128.Idx) : (draw (F := Ideal) n p j).toNat < 8 := argmax_lt _ j

end Cert.On_agrees

end
-- ==== Proof.RVal.lean ====
module

public import proofs.«01_k».proof.Proof.RefRun
public import proofs.«01_k».proof.Proof.RStages
public import proofs.«01_k».proof.Proof.RDraw0
public import proofs.«01_k».proof.Proof.RDraw1
public import proofs.«01_k».proof.Proof.RDraw2
public import proofs.«01_k».proof.Proof.RDraw3
public import proofs.«01_k».proof.Proof.Hub

/-! The value of the reference at one image: the second draw's augmentation of the first draw's. -/

@[expose] public section

set_option maxRecDepth 16384
set_option maxHeartbeats 4000000

noncomputable section

namespace Cert.ReferenceIdeal.Gen

open Cert.ReferenceIdeal.Gen Cert.ReferenceIdeal Idealize.ShloMosaic Idealize.ShloMosaic.TcCoe Idealize.ShloMosaic.StableHlo Idealize.SL.Sem Cert.Image
open Idealize.ShloMosaic.StableHlo (after_append)

variable {F : FTy → Type} [FloatOps F]

theorem seg0_key (W : Valuation τ sig (Elt F)) : after (main.seg0) W (Proc.devRef .tc main_v6) = Cert.On_agrees.key := by
  have hp : after (main.seg0 (F := F)) W (Proc.devRef .tc main_v6)
      = (fun a b => concatenate S2 0 [⟨S1, a⟩, ⟨S1, b⟩] concatenates_S1_S1_S2_d0) (after (main.seg0 (F := F)) W (Proc.devRef .tc main_v2)) (after (main.seg0 (F := F)) W (Proc.devRef .tc main_v5)) := by
    after_reads_simp
    rfl
  refine hp.trans ?_
  unfold Cert.On_agrees.key
  refine congrArg₂ (fun a b => concatenate S2 0 [⟨S1, a⟩, ⟨S1, b⟩] concatenates_S1_S1_S2_d0) ?_ ?_
  · after_reads_simp
  · after_reads_simp

theorem seg0_logits (W : Valuation τ sig (Elt F)) : after (main.seg0) W (Proc.devRef .tc main_v37) = Cert.On_agrees.logits (F := F) (W (Proc.devRef .tc main_arg1)) := by
  unfold Cert.On_agrees.logits
  after_reads_simp
  try rfl

theorem seg0_step (W : Valuation τ sig (Elt F)) : after (main.seg0) W (Proc.devRef .tc main_c_10) = constantI S_ 32 0#32 := by
  after_reads_simp
  try rfl

theorem seg3_argmax (W : Valuation τ sig (Elt F)) : after (main.seg3) W (Proc.devRef .tc main_v41)
    = Cert.On_agrees.fn_argmax (F := F) (addf (W (Proc.devRef .tc main_v39) : FVec F S128x8 .f32) (W (Proc.devRef .tc main_v37) : FVec F S128x8 .f32)) := by
  unfold Cert.On_agrees.fn_argmax
  after_reads_simp
  try rfl

theorem seg12_logits (W : Valuation τ sig (Elt F)) : after (main.seg12) W (Proc.devRef .tc main_v139) = Cert.On_agrees.logits (F := F) (W (Proc.devRef .tc main_arg1)) := by
  unfold Cert.On_agrees.logits
  after_reads_simp
  try rfl

theorem seg12_step (W : Valuation τ sig (Elt F)) : after (main.seg12) W (Proc.devRef .tc main_c_45) = constantI S_ 32 1#32 := by
  after_reads_simp
  try rfl

theorem seg15_argmax (W : Valuation τ sig (Elt F)) : after (main.seg15) W (Proc.devRef .tc main_v143)
    = Cert.On_agrees.fn_argmax (F := F) (addf (W (Proc.devRef .tc main_v141) : FVec F S128x8 .f32) (W (Proc.devRef .tc main_v139) : FVec F S128x8 .f32)) := by
  unfold Cert.On_agrees.fn_argmax
  after_reads_simp
  try rfl

/-- The first draw. -/
theorem draw0_eq (W : Valuation τ sig (Elt F)) : after (main.seg3) (after (main.seg2) (after (main.seg1) (after (main.seg0) W))) (Proc.devRef .tc main_v41)
    = Cert.On_agrees.draw (F := F) 0#32 (W (Proc.devRef .tc main_arg1)) := by
  rw [seg3_argmax]
  unfold main.seg2 main.seg1
  rw [rgum0, rfold0, seg0_key, seg0_step]
  have e := (main.seg2_keep_v37 (after (main.seg1) (after (main.seg0) W))).trans ((main.seg1_keep_v37 (after (main.seg0) W)).trans (seg0_logits W))
  unfold main.seg2 main.seg1 at e
  rw [e]
  rfl

/-- The second draw. -/
theorem draw1_eq (W : Valuation τ sig (Elt F)) (hk : W (Proc.devRef .tc main_v6) = Cert.On_agrees.key) :
    after (main.seg15) (after (main.seg14) (after (main.seg13) (after (main.seg12) W))) (Proc.devRef .tc main_v143)
    = Cert.On_agrees.draw (F := F) 1#32 (W (Proc.devRef .tc main_arg1)) := by
  rw [seg15_argmax]
  unfold main.seg14 main.seg13
  rw [rgum1, rfold1, main.seg12_keep_v6, hk, seg12_step]
  have e := (main.seg14_keep_v139 (after (main.seg13) (after (main.seg12) W))).trans ((main.seg13_keep_v139 (after (main.seg12) W)).trans (seg12_logits W))
  unfold main.seg14 main.seg13 at e
  rw [e]
  rfl

/-- One masked overwrite. -/
def once (n s : BitVec 32) (op : Img → Img) (y : Img) : Img := if s = n then op y else y

theorem stages_once (s : BitVec 32) (t : EReal) (y : Img) : stages s t y
    = once 7#32 s (squash t) (once 6#32 s (solarize t) (once 5#32 s invert (once 4#32 s (contrast t) (once 3#32 s (bright t)
        (once 2#32 s overturn (once 1#32 s mirror (once 0#32 s id y))))))) := rfl

theorem seg4_once (W : Valuation τ sig (Elt Ideal)) (b : Fin 128) (s : BitVec 32) (t : EReal) (hs : (W (Proc.devRef .tc main_v41) : IVec S128 32) (ix1 b) = s)
    (ht : rate (W (Proc.devRef .tc main_arg2)) = t) :
    im b (after main.seg4 W (Proc.devRef .tc main_v45)) = once 0#32 s id (im b (W (Proc.devRef .tc main_arg0))) := by
  subst hs ht
  exact seg4_im W b

theorem seg5_once (W : Valuation τ sig (Elt Ideal)) (b : Fin 128) (s : BitVec 32) (t : EReal) (hs : (W (Proc.devRef .tc main_v41) : IVec S128 32) (ix1 b) = s)
    (ht : rate (W (Proc.devRef .tc main_arg2)) = t) :
    im b (after main.seg5 W (Proc.devRef .tc main_v50)) = once 1#32 s mirror (im b (W (Proc.devRef .tc main_v45))) := by
  subst hs ht
  exact seg5_im W b

theorem seg6_once (W : Valuation τ sig (Elt Ideal)) (b : Fin 128) (s : BitVec 32) (t : EReal) (hs : (W (Proc.devRef .tc main_v41) : IVec S128 32) (ix1 b) = s)
    (ht : rate (W (Proc.devRef .tc main_arg2)) = t) :
    im b (after main.seg6 W (Proc.devRef .tc main_v55)) = once 2#32 s overturn (im b (W (Proc.devRef .tc main_v50))) := by
  subst hs ht
  exact seg6_im W b

theorem seg7_once (W : Valuation τ sig (Elt Ideal)) (b : Fin 128) (s : BitVec 32) (t : EReal) (hs : (W (Proc.devRef .tc main_v41) : IVec S128 32) (ix1 b) = s)
    (ht : rate (W (Proc.devRef .tc main_arg2)) = t) :
    im b (after main.seg7 W (Proc.devRef .tc main_v64)) = once 3#32 s (bright t) (im b (W (Proc.devRef .tc main_v55))) := by
  subst hs ht
  exact seg7_im W b

theorem seg8_once (W : Valuation τ sig (Elt Ideal)) (b : Fin 128) (s : BitVec 32) (t : EReal) (hs : (W (Proc.devRef .tc main_v41) : IVec S128 32) (ix1 b) = s)
    (ht : rate (W (Proc.devRef .tc main_arg2)) = t) :
    im b (after main.seg8 W (Proc.devRef .tc main_v81)) = once 4#32 s (contrast t) (im b (W (Proc.devRef .tc main_v64))) := by
  subst hs ht
  exact seg8_im W b

theorem seg9_once (W : Valuation τ sig (Elt Ideal)) (b : Fin 128) (s : BitVec 32) (t : EReal) (hs : (W (Proc.devRef .tc main_v41) : IVec S128 32) (ix1 b) = s)
    (ht : rate (W (Proc.devRef .tc main_arg2)) = t) :
    im b (after main.seg9 W (Proc.devRef .tc main_v87)) = once 5#32 s invert (im b (W (Proc.devRef .tc main_v81))) := by
  subst hs ht
  exact seg9_im W b

theorem seg10_once (W : Valuation τ sig (Elt Ideal)) (b : Fin 128) (s : BitVec 32) (t : EReal) (hs : (W (Proc.devRef .tc main_v41) : IVec S128 32) (ix1 b) = s)
    (ht : rate (W (Proc.devRef .tc main_arg2)) = t) :
    im b (after main.seg10 W (Proc.devRef .tc main_v99)) = once 6#32 s (solarize t) (im b (W (Proc.devRef .tc main_v87))) := by
  subst hs ht
  exact seg10_im W b

theorem seg11_once (W : Valuation τ sig (Elt Ideal)) (b : Fin 128) (s : BitVec 32) (t : EReal) (hs : (W (Proc.devRef .tc main_v41) : IVec S128 32) (ix1 b) = s)
    (ht : rate (W (Proc.devRef .tc main_arg2)) = t) :
    im b (after main.seg11 W (Proc.devRef .tc main_v108)) = once 7#32 s (squash t) (im b (W (Proc.devRef .tc main_v99))) := by
  subst hs ht
  exact seg11_im W b

/-- The eight masked overwrites of one draw. -/
theorem first_im (W : Valuation τ sig (Elt Ideal)) (b : Fin 128) (s : BitVec 32) (t : EReal) (hs : (W (Proc.devRef .tc main_v41) : IVec S128 32) (ix1 b) = s)
    (ht : rate (W (Proc.devRef .tc main_arg2)) = t) : im b (after (main.seg11) (after (main.seg10) (after (main.seg9) (after (main.seg8) (after (main.seg7) (after (main.seg6) (after (main.seg5) (after (main.seg4) W))))))) (Proc.devRef .tc main_v108))
    = step s t (im b (W (Proc.devRef .tc main_arg0))) := by
  rw [← stages_eq, stages_once]
  have s4 := (congrFun (main.seg4_keep_v41 (F := Ideal) W) (ix1 b)).trans hs
  have t4 := (congrArg rate (main.seg4_keep_arg2 (F := Ideal) W)).trans ht
  generalize e1 : after main.seg4 W = W1 at s4 t4 ⊢
  have s5 := (congrFun (main.seg5_keep_v41 (F := Ideal) W1) (ix1 b)).trans s4
  have t5 := (congrArg rate (main.seg5_keep_arg2 (F := Ideal) W1)).trans t4
  generalize e2 : after main.seg5 W1 = W2 at s5 t5 ⊢
  have s6 := (congrFun (main.seg6_keep_v41 (F := Ideal) W2) (ix1 b)).trans s5
  have t6 := (congrArg rate (main.seg6_keep_arg2 (F := Ideal) W2)).trans t5
  generalize e3 : after main.seg6 W2 = W3 at s6 t6 ⊢
  have s7 := (congrFun (main.seg7_keep_v41 (F := Ideal) W3) (ix1 b)).trans s6
  have t7 := (congrArg rate (main.seg7_keep_arg2 (F := Ideal) W3)).trans t6
  generalize e4 : after main.seg7 W3 = W4 at s7 t7 ⊢
  have s8 := (congrFun (main.seg8_keep_v41 (F := Ideal) W4) (ix1 b)).trans s7
  have t8 := (congrArg rate (main.seg8_keep_arg2 (F := Ideal) W4)).trans t7
  generalize e5 : after main.seg8 W4 = W5 at s8 t8 ⊢
  have s9 := (congrFun (main.seg9_keep_v41 (F := Ideal) W5) (ix1 b)).trans s8
  have t9 := (congrArg rate (main.seg9_keep_arg2 (F := Ideal) W5)).trans t8
  generalize e6 : after main.seg9 W5 = W6 at s9 t9 ⊢
  have s10 := (congrFun (main.seg10_keep_v41 (F := Ideal) W6) (ix1 b)).trans s9
  have t10 := (congrArg rate (main.seg10_keep_arg2 (F := Ideal) W6)).trans t9
  generalize e7 : after main.seg10 W6 = W7 at s10 t10 ⊢
  refine (seg11_once W7 b s t s10 t10).trans (congrArg (once 7#32 s (squash t)) ?_)
  rw [← e7]
  refine (seg10_once W6 b s t s9 t9).trans (congrArg (once 6#32 s (solarize t)) ?_)
  rw [← e6]
  refine (seg9_once W5 b s t s8 t8).trans (congrArg (once 5#32 s invert) ?_)
  rw [← e5]
  refine (seg8_once W4 b s t s7 t7).trans (congrArg (once 4#32 s (contrast t)) ?_)
  rw [← e4]
  refine (seg7_once W3 b s t s6 t6).trans (congrArg (once 3#32 s (bright t)) ?_)
  rw [← e3]
  refine (seg6_once W2 b s t s5 t5).trans (congrArg (once 2#32 s overturn) ?_)
  rw [← e2]
  refine (seg5_once W1 b s t s4 t4).trans (congrArg (once 1#32 s mirror) ?_)
  rw [← e1]
  exact seg4_once W b s t hs ht

theorem seg16_once (W : Valuation τ sig (Elt Ideal)) (b : Fin 128) (s : BitVec 32) (t : EReal) (hs : (W (Proc.devRef .tc main_v143) : IVec S128 32) (ix1 b) = s)
    (ht : rate (W (Proc.devRef .tc main_arg2)) = t) :
    im b (after main.seg16 W (Proc.devRef .tc main_v147)) = once 0#32 s id (im b (W (Proc.devRef .tc main_v108))) := by
  subst hs ht
  exact seg16_im W b

theorem seg17_once (W : Valuation τ sig (Elt Ideal)) (b : Fin 128) (s : BitVec 32) (t : EReal) (hs : (W (Proc.devRef .tc main_v143) : IVec S128 32) (ix1 b) = s)
    (ht : rate (W (Proc.devRef .tc main_arg2)) = t) :
    im b (after main.seg17 W (Proc.devRef .tc main_v152)) = once 1#32 s mirror (im b (W (Proc.devRef .tc main_v147))) := by
  subst hs ht
  exact seg17_im W b

theorem seg18_once (W : Valuation τ sig (Elt Ideal)) (b : Fin 128) (s : BitVec 32) (t : EReal) (hs : (W (Proc.devRef .tc main_v143) : IVec S128 32) (ix1 b) = s)
    (ht : rate (W (Proc.devRef .tc main_arg2)) = t) :
    im b (after main.seg18 W (Proc.devRef .tc main_v157)) = once 2#32 s overturn (im b (W (Proc.devRef .tc main_v152))) := by
  subst hs ht
  exact seg18_im W b

theorem seg19_once (W : Valuation τ sig (Elt Ideal)) (b : Fin 128) (s : BitVec 32) (t : EReal) (hs : (W (Proc.devRef .tc main_v143) : IVec S128 32) (ix1 b) = s)
    (ht : rate (W (Proc.devRef .tc main_arg2)) = t) :
    im b (after main.seg19 W (Proc.devRef .tc main_v166)) = once 3#32 s (bright t) (im b (W (Proc.devRef .tc main_v157))) := by
  subst hs ht
  exact seg19_im W b

theorem seg20_once (W : Valuation τ sig (Elt Ideal)) (b : Fin 128) (s : BitVec 32) (t : EReal) (hs : (W (Proc.devRef .tc main_v143) : IVec S128 32) (ix1 b) = s)
    (ht : rate (W (Proc.devRef .tc main_arg2)) = t) :
    im b (after main.seg20 W (Proc.devRef .tc main_v183)) = once 4#32 s (contrast t) (im b (W (Proc.devRef .tc main_v166))) := by
  subst hs ht
  exact seg20_im W b

theorem seg21_once (W : Valuation τ sig (Elt Ideal)) (b : Fin 128) (s : BitVec 32) (t : EReal) (hs : (W (Proc.devRef .tc main_v143) : IVec S128 32) (ix1 b) = s)
    (ht : rate (W (Proc.devRef .tc main_arg2)) = t) :
    im b (after main.seg21 W (Proc.devRef .tc main_v189)) = once 5#32 s invert (im b (W (Proc.devRef .tc main_v183))) := by
  subst hs ht
  exact seg21_im W b

theorem seg22_once (W : Valuation τ sig (Elt Ideal)) (b : Fin 128) (s : BitVec 32) (t : EReal) (hs : (W (Proc.devRef .tc main_v143) : IVec S128 32) (ix1 b) = s)
    (ht : rate (W (Proc.devRef .tc main_arg2)) = t) :
    im b (after main.seg22 W (Proc.devRef .tc main_v201)) = once 6#32 s (solarize t) (im b (W (Proc.devRef .tc main_v189))) := by
  subst hs ht
  exact seg22_im W b

theorem seg23_once (W : Valuation τ sig (Elt Ideal)) (b : Fin 128) (s : BitVec 32) (t : EReal) (hs : (W (Proc.devRef .tc main_v143) : IVec S128 32) (ix1 b) = s)
    (ht : rate (W (Proc.devRef .tc main_arg2)) = t) :
    im b (after main.seg23 W (Proc.devRef .tc main_v210)) = once 7#32 s (squash t) (im b (W (Proc.devRef .tc main_v201))) := by
  subst hs ht
  exact seg23_im W b

/-- The eight masked overwrites of one draw. -/
theorem second_im (W : Valuation τ sig (Elt Ideal)) (b : Fin 128) (s : BitVec 32) (t : EReal) (hs : (W (Proc.devRef .tc main_v143) : IVec S128 32) (ix1 b) = s)
    (ht : rate (W (Proc.devRef .tc main_arg2)) = t) : im b (after (main.seg23) (after (main.seg22) (after (main.seg21) (after (main.seg20) (after (main.seg19) (after (main.seg18) (after (main.seg17) (after (main.seg16) W))))))) (Proc.devRef .tc main_v210))
    = step s t (im b (W (Proc.devRef .tc main_v108))) := by
  rw [← stages_eq, stages_once]
  have s16 := (congrFun (main.seg16_keep_v143 (F := Ideal) W) (ix1 b)).trans hs
  have t16 := (congrArg rate (main.seg16_keep_arg2 (F := Ideal) W)).trans ht
  generalize e1 : after main.seg16 W = W1 at s16 t16 ⊢
  have s17 := (congrFun (main.seg17_keep_v143 (F := Ideal) W1) (ix1 b)).trans s16
  have t17 := (congrArg rate (main.seg17_keep_arg2 (F := Ideal) W1)).trans t16
  generalize e2 : after main.seg17 W1 = W2 at s17 t17 ⊢
  have s18 := (congrFun (main.seg18_keep_v143 (F := Ideal) W2) (ix1 b)).trans s17
  have t18 := (congrArg rate (main.seg18_keep_arg2 (F := Ideal) W2)).trans t17
  generalize e3 : after main.seg18 W2 = W3 at s18 t18 ⊢
  have s19 := (congrFun (main.seg19_keep_v143 (F := Ideal) W3) (ix1 b)).trans s18
  have t19 := (congrArg rate (main.seg19_keep_arg2 (F := Ideal) W3)).trans t18
  generalize e4 : after main.seg19 W3 = W4 at s19 t19 ⊢
  have s20 := (congrFun (main.seg20_keep_v143 (F := Ideal) W4) (ix1 b)).trans s19
  have t20 := (congrArg rate (main.seg20_keep_arg2 (F := Ideal) W4)).trans t19
  generalize e5 : after main.seg20 W4 = W5 at s20 t20 ⊢
  have s21 := (congrFun (main.seg21_keep_v143 (F := Ideal) W5) (ix1 b)).trans s20
  have t21 := (congrArg rate (main.seg21_keep_arg2 (F := Ideal) W5)).trans t20
  generalize e6 : after main.seg21 W5 = W6 at s21 t21 ⊢
  have s22 := (congrFun (main.seg22_keep_v143 (F := Ideal) W6) (ix1 b)).trans s21
  have t22 := (congrArg rate (main.seg22_keep_arg2 (F := Ideal) W6)).trans t21
  generalize e7 : after main.seg22 W6 = W7 at s22 t22 ⊢
  refine (seg23_once W7 b s t s22 t22).trans (congrArg (once 7#32 s (squash t)) ?_)
  rw [← e7]
  refine (seg22_once W6 b s t s21 t21).trans (congrArg (once 6#32 s (solarize t)) ?_)
  rw [← e6]
  refine (seg21_once W5 b s t s20 t20).trans (congrArg (once 5#32 s invert) ?_)
  rw [← e5]
  refine (seg20_once W4 b s t s19 t19).trans (congrArg (once 4#32 s (contrast t)) ?_)
  rw [← e4]
  refine (seg19_once W3 b s t s18 t18).trans (congrArg (once 3#32 s (bright t)) ?_)
  rw [← e3]
  refine (seg18_once W2 b s t s17 t17).trans (congrArg (once 2#32 s overturn) ?_)
  rw [← e2]
  refine (seg17_once W1 b s t s16 t16).trans (congrArg (once 1#32 s mirror) ?_)
  rw [← e1]
  exact seg16_once W b s t hs ht

/-- The reference's result at image `b`. -/
theorem line_im (W : Valuation τ sig (Elt Ideal)) (b : Fin 128) : im b (after main.line W (Proc.devRef .tc main_v210))
    = step (Cert.On_agrees.draw (F := Ideal) 1#32 (W (Proc.devRef .tc main_arg1)) (ix1 b)) (rate (W (Proc.devRef .tc main_arg2)))
        (step (Cert.On_agrees.draw (F := Ideal) 0#32 (W (Proc.devRef .tc main_arg1)) (ix1 b)) (rate (W (Proc.devRef .tc main_arg2)))
          (im b (W (Proc.devRef .tc main_arg0)))) := by
  unfold main.line
  simp only [after_append]
  rw [second_im _ b (Cert.On_agrees.draw (F := Ideal) 1#32 (W (Proc.devRef .tc main_arg1)) (ix1 b)) (rate (W (Proc.devRef .tc main_arg2))),
    main.seg15_keep_v108, main.seg14_keep_v108, main.seg13_keep_v108, main.seg12_keep_v108,
    first_im _ b (Cert.On_agrees.draw (F := Ideal) 0#32 (W (Proc.devRef .tc main_arg1)) (ix1 b)) (rate (W (Proc.devRef .tc main_arg2))), main.seg3_keep_arg0, main.seg2_keep_arg0, main.seg1_keep_arg0, main.seg0_keep_arg0]
  · exact congrFun (draw0_eq W) (ix1 b)
  · rw [main.seg3_keep_arg2, main.seg2_keep_arg2, main.seg1_keep_arg2, main.seg0_keep_arg2]
  · rw [draw1_eq]
    · rw [main.seg11_keep_arg1, main.seg10_keep_arg1, main.seg9_keep_arg1, main.seg8_keep_arg1, main.seg7_keep_arg1, main.seg6_keep_arg1, main.seg5_keep_arg1, main.seg4_keep_arg1, main.seg3_keep_arg1, main.seg2_keep_arg1, main.seg1_keep_arg1, main.seg0_keep_arg1]
    · rw [main.seg11_keep_v6, main.seg10_keep_v6, main.seg9_keep_v6, main.seg8_keep_v6, main.seg7_keep_v6, main.seg6_keep_v6, main.seg5_keep_v6, main.seg4_keep_v6, main.seg3_keep_v6, main.seg2_keep_v6, main.seg1_keep_v6, seg0_key]
  · rw [main.seg15_keep_arg2, main.seg14_keep_arg2, main.seg13_keep_arg2, main.seg12_keep_arg2, main.seg11_keep_arg2, main.seg10_keep_arg2, main.seg9_keep_arg2, main.seg8_keep_arg2, main.seg7_keep_arg2, main.seg6_keep_arg2, main.seg5_keep_arg2, main.seg4_keep_arg2, main.seg3_keep_arg2, main.seg2_keep_arg2, main.seg1_keep_arg2, main.seg0_keep_arg2]

end Cert.ReferenceIdeal.Gen

end
-- ==== Proof.Pays.lean ====
module

public import proofs.«01_k».proof.Proof.Gen.KernelIdeal
public import proofs.«01_k».proof.Proof.Gen.KernelIdeal.Skeleton
public import proofs.«01_k».proof.Proof.Img

/-! What each stored value of the kernel is at a pixel of the block, over the ideal reals. -/

@[expose] public section

set_option maxRecDepth 16384
set_option maxHeartbeats 2000000

noncomputable section

namespace Cert.KernelIdeal.Gen

open Idealize.ShloMosaic Idealize.ShloMosaic.TcCoe Cert.Image

/-- The image that a block of the pipeline holds. -/
def img (x : Vec Ideal S1x3x224x224 .f32) : Img := fun c r w => x (ix4 0 c r w)

theorem block_sum (h : S1x3x224x224.Reduces [1, 2, 3] S1) (x : Vec Ideal S1x3x224x224 .f32) (j : S1.Idx) :
    Ideal.reduceAdd h x j = ∑ c, ∑ r, ∑ w, img x c r w := by
  rw [Ideal.reduceAdd_total _ (by decide), sum_idx4]
  simp [img]

theorem img_pay1 (v : Elt Ideal .f32) (x : Vec Ideal S1x3x224x224 .f32) : img (k0_pay1 v x) = squash v (img x) := by
  funext c r w; unfold img squash; pointwise [k0_pay1]
theorem img_pay2 (v : Elt Ideal .f32) (x : Vec Ideal S1x3x224x224 .f32) : img (k0_pay2 v x) = solarize v (img x) := by
  funext c r w; unfold img solarize; pointwise [k0_pay2]
theorem img_pay3 (x : Vec Ideal S1x3x224x224 .f32) : img (k0_pay3 x) = invert (img x) := by
  funext c r w; unfold img invert; pointwise [k0_pay3]
theorem img_pay4 (v : Elt Ideal .f32) (x : Vec Ideal S1x3x224x224 .f32) : img (k0_pay4 v x) = contrast v (img x) := by
  funext c r w
  unfold contrast mean
  rw [← block_sum reduces_S1x3x224x224_S1 x (ix1 0)]
  unfold img; pointwise [k0_pay4]
theorem img_pay5 (v : Elt Ideal .f32) (x : Vec Ideal S1x3x224x224 .f32) : img (k0_pay5 v x) = bright v (img x) := by
  funext c r w; unfold img bright; pointwise [k0_pay5]
theorem img_pay6 (x : Vec Ideal S1x3x224x224 .f32) : img (k0_pay6 x) = img x := by
  funext c r w; unfold img; pointwise [k0_pay6]
theorem img_pay7 (x : Vec Ideal S1x3x224x224 .f32) : img (k0_pay7 x) = img x := by
  funext c r w; unfold img; pointwise [k0_pay7]
theorem img_pay8 (x : Vec Ideal S1x3x224x224 .f32) : img (k0_pay8 x) = img x := by
  funext c r w; unfold img; pointwise [k0_pay8]

theorem pay11_eq {F : FTy → Type} [FloatOps F] (v : Elt F .f32) (x : Vec F S1x3x224x224 .f32) : k0_pay11 v x = k0_pay1 v x := rfl
theorem pay12_eq {F : FTy → Type} [FloatOps F] (v : Elt F .f32) (x : Vec F S1x3x224x224 .f32) : k0_pay12 v x = k0_pay2 v x := rfl
theorem pay13_eq {F : FTy → Type} [FloatOps F] (x : Vec F S1x3x224x224 .f32) : k0_pay13 x = k0_pay3 x := rfl
theorem pay14_eq {F : FTy → Type} [FloatOps F] (v : Elt F .f32) (x : Vec F S1x3x224x224 .f32) : k0_pay14 v x = k0_pay4 v x := rfl
theorem pay15_eq {F : FTy → Type} [FloatOps F] (v : Elt F .f32) (x : Vec F S1x3x224x224 .f32) : k0_pay15 v x = k0_pay5 v x := rfl
theorem pay16_eq {F : FTy → Type} [FloatOps F] (x : Vec F S1x3x224x224 .f32) : k0_pay16 x = k0_pay9 x := rfl
theorem pay17_eq {F : FTy → Type} [FloatOps F] (k : Elt F .i32) (x : Vec F S1x3x224x224 .f32) : k0_pay17 k x = k0_pay10 k x := rfl

/-- A truth bit widened and read as a float is one or zero. -/
theorem bit_value (b : BitVec 1) : (FloatOps.sitofp (F := Ideal) .f32 (BitVec.setWidth 32 b) : EReal) = if b = 1#1 then 1 else 0 := by
  show (((BitVec.setWidth 32 b).toInt : ℝ) : EReal) = _
  have hb : b = 0#1 ∨ b = 1#1 := by
    have := b.isLt
    rcases (show b.toNat = 0 ∨ b.toNat = 1 by omega) with h | h
    · exact Or.inl (BitVec.eq_of_toNat_eq h)
    · exact Or.inr (BitVec.eq_of_toNat_eq h)
  rcases hb with rfl | rfl
  · simp
  · have : (BitVec.setWidth 32 1#1).toInt = 1 := by decide
    rw [this]; simp

/-- A sum against the row of a permutation matrix reads the one entry that the row names. -/
theorem sum_pick (f : Fin 224 → EReal) (b : Fin 224 → BitVec 1) (i : Fin 224) (hb : ∀ k, b k = 1#1 ↔ k = i) :
    ∑ k, f k * FloatOps.sitofp (F := Ideal) .f32 (BitVec.setWidth 32 (b k)) = f i := by
  have : ∀ k, f k * (FloatOps.sitofp (F := Ideal) .f32 (BitVec.setWidth 32 (b k)) : EReal) = if k = i then f i else 0 := by
    intro k
    rw [bit_value]
    by_cases h : k = i
    · subst h; simp [(hb k).2 rfl]
    · have h0 : ¬ b k = 1#1 := fun e => h ((hb k).1 e)
      simp [h, h0]
  simp only [this]
  simp

theorem cmpi_eq_iff (a b : BitVec 32) : IntOp.cmpi .eq a b = 1#1 ↔ a = b := by
  by_cases h : a = b
  · subst h; simp [IntOp.cmpi]
  · have e : (a == b) = false := beq_false_of_ne h
    simp only [IntOp.cmpi, e]
    exact ⟨fun q => absurd q (by decide), fun q => absurd q h⟩

theorem mirror_bit (k w : Fin 224) :
    IntOp.cmpi .eq (IntOp.addi (BitVec.ofNat 32 k.val) (BitVec.ofNat 32 w.val)) 223#32 = 1#1 ↔ k = w.rev := by
  have hk := k.isLt
  have hw := w.isLt
  have e : IntOp.addi (BitVec.ofNat 32 k.val) (BitVec.ofNat 32 w.val) = BitVec.ofNat 32 (k.val + w.val) := by
    show BitVec.ofNat 32 k.val + BitVec.ofNat 32 w.val = _
    rw [BitVec.ofNat_add]
  rw [e]
  have q : (BitVec.ofNat 32 (k.val + w.val) = 223#32) ↔ k = w.rev := by
    constructor
    · intro h
      have := congrArg BitVec.toNat h
      simp only [BitVec.toNat_ofNat] at this
      apply Fin.ext; rw [Fin.val_rev]; omega
    · intro h
      have := congrArg Fin.val h
      rw [Fin.val_rev] at this
      congr 1; omega
  rw [← q]
  exact cmpi_eq_iff _ _

theorem img_pay9 (x : Vec Ideal S1x3x224x224 .f32) : img (k0_pay9 x) = mirror (img x) := by
  funext c r w
  unfold img mirror
  pointwise [k0_pay9]
  exact sum_pick (fun k => x (ix4 0 c r k)) _ _ (fun k => mirror_bit k w)

theorem turn_bit (n : Nat) (hn : n ≤ 224) (k r : Fin 224) :
    IntOp.cmpi .eq (BitVec.ofNat 32 k.val)
        (Scalar.select (IntOp.cmpi .slt (BitVec.ofNat 32 r.val) (BitVec.ofNat 32 n)) (IntOp.subi (223#32) (BitVec.ofNat 32 r.val)) (BitVec.ofNat 32 r.val)) = 1#1
      ↔ k = if r.val < n then r.rev else r := by
  have hk := k.isLt
  have hr := r.isLt
  have hs : IntOp.cmpi .slt (BitVec.ofNat 32 r.val) (BitVec.ofNat 32 n) = if r.val < n then 1#1 else 0#1 := by
    have h1 : (BitVec.ofNat 32 r.val).toInt = r.val := by
      rw [BitVec.toInt_eq_toNat_of_lt] <;> simp only [BitVec.toNat_ofNat] <;> omega
    have h2 : (BitVec.ofNat 32 n).toInt = n := by
      rw [BitVec.toInt_eq_toNat_of_lt] <;> simp only [BitVec.toNat_ofNat] <;> omega
    simp only [IntOp.cmpi, BitVec.slt, h1, h2]
    by_cases h : r.val < n <;> simp [h]
  have hsub : IntOp.subi (223#32) (BitVec.ofNat 32 r.val) = BitVec.ofNat 32 r.rev.val := by
    show 223#32 - BitVec.ofNat 32 r.val = _
    apply BitVec.eq_of_toNat_eq
    rw [BitVec.toNat_sub, Fin.val_rev]
    simp only [BitVec.toNat_ofNat]
    omega
  rw [hs, hsub]
  have q : ∀ a b : Fin 224, IntOp.cmpi .eq (BitVec.ofNat 32 a.val) (BitVec.ofNat 32 b.val) = 1#1 ↔ a = b := by
    intro a b
    have ha := a.isLt
    have hb := b.isLt
    have : (BitVec.ofNat 32 a.val = BitVec.ofNat 32 b.val) ↔ a = b := by
      constructor
      · intro h
        have := congrArg BitVec.toNat h
        simp only [BitVec.toNat_ofNat] at this
        apply Fin.ext; omega
      · intro h; rw [h]
    rw [← this]
    exact cmpi_eq_iff _ _
  by_cases h : r.val < n
  · simpa [h, Scalar.select] using q k r.rev
  · simpa [h, Scalar.select] using q k r

theorem img_pay10 (n : Nat) (hn : n ≤ 224) (x : Vec Ideal S1x3x224x224 .f32) : img (k0_pay10 (F := Ideal) (BitVec.ofNat 32 n) x) = turn n (img x) := by
  funext c r w
  unfold img turn
  have key := sum_pick (fun k => x (ix4 0 c k w)) _ _ (fun k => turn_bit n hn k r)
  by_cases h : r.val < n
  · rw [if_pos h]
    simp only [h, if_true] at key
    refine Eq.trans ?_ key
    pointwise [k0_pay10]
  · rw [if_neg h]
    simp only [h, if_false] at key
    refine Eq.trans ?_ key
    pointwise [k0_pay10]

end Cert.KernelIdeal.Gen

end
-- ==== Proof.KVal.lean ====
module

public import proofs.«01_k».proof.Proof.Body
public import proofs.«01_k».proof.Proof.Pays

/-! The image the kernel writes at one grid point. -/

@[expose] public section

set_option maxRecDepth 16384
set_option maxHeartbeats 2000000

noncomputable section

namespace Cert.KernelIdeal.Gen

open Cert.KernelIdeal.Gen Cert.KernelIdeal Idealize.ShloMosaic Idealize.ShloMosaic.TcCoe Idealize.ShloMosaic.StableHlo Idealize.SL.Sem Cert.Image

theorem word_lt {P : BitVec 32 → Prop} (h0 : P 0#32) (h1 : P 1#32) (h2 : P 2#32) (h3 : P 3#32) (h4 : P 4#32) (h5 : P 5#32)
    (h6 : P 6#32) (h7 : P 7#32) (v : BitVec 32) (hv : v.toNat < 8) : P v := by
  obtain ⟨n, hn, rfl⟩ : ∃ n < 8, v = BitVec.ofNat 32 n := ⟨v.toNat, hv, by simp⟩
  interval_cases n
  exacts [h0, h1, h2, h3, h4, h5, h6, h7]

/-- Among its eight cases, `pick` of a word below eight takes the word's. -/
theorem pick_lt {α : Type _} (v : BitVec 32) (hv : v.toNat < 8) (a0 a1 a2 a3 a4 a5 a6 a7 : α) :
    pick v a0 a1 a2 a3 a4 a5 a6 a7 = if v = 3#32 then a3 else if v = 4#32 then a4 else if v = 5#32 then a5
      else if v = 6#32 then a6 else if v = 7#32 then a7 else if v = 0#32 then a0 else if v = 1#32 then a1 else a2 := by
  revert v
  intro v hv
  refine word_lt (P := fun v => pick v a0 a1 a2 a3 a4 a5 a6 a7 = if v = 3#32 then a3 else if v = 4#32 then a4 else if v = 5#32 then a5
      else if v = 6#32 then a6 else if v = 7#32 then a7 else if v = 0#32 then a0 else if v = 1#32 then a1 else a2) ?_ ?_ ?_ ?_ ?_ ?_ ?_ ?_ v hv <;> rfl

theorem firstOf_img (v : BitVec 32) (hv : v.toNat < 8) (t : EReal) (x : Vec Ideal S1x3x224x224 .f32) :
    img (firstOf (F := Ideal) v t x) = branch v t (img x) := by
  unfold firstOf branch
  rw [pick_lt v hv]
  split_ifs
  · exact img_pay5 t x
  · exact img_pay4 t x
  · exact img_pay3 x
  · exact img_pay2 t x
  · exact img_pay1 t x
  · exact img_pay8 x
  · exact img_pay7 x
  · exact img_pay6 x

theorem secondOf_img (v : BitVec 32) (hv : v.toNat < 8) (t : EReal) (x : Vec Ideal S1x3x224x224 .f32) :
    img (secondOf (F := Ideal) v t x) = branch v t (img x) := by
  unfold secondOf branch
  rw [pick_lt v hv]
  split_ifs
  · rw [pay15_eq]; exact img_pay5 t x
  · rw [pay14_eq]; exact img_pay4 t x
  · rw [pay13_eq]; exact img_pay3 x
  · rw [pay12_eq]; exact img_pay2 t x
  · rw [pay11_eq]; exact img_pay1 t x
  · rfl
  · rfl
  · rfl

theorem test_bit (b : BitVec 1) : Scalar.cmpi .ne (Scalar.extui b : BitVec 32) 0#32 = 1#1 ↔ b = 1#1 := by
  revert b; decide

theorem test_pos (n : Nat) (hn : n ≤ 224) : Scalar.cmpi .sgt (BitVec.ofNat 32 n) 0#32 = 1#1 ↔ 0 < n := by
  interval_cases n <;> decide

theorem maybe_flip (s : BitVec 32) (x : Vec Ideal S1x3x224x224 .f32) :
    img (maybeOf (F := Ideal) (Scalar.cmpi .eq s 1#32) k0_pay9 x) = if s = 1#32 then mirror (img x) else img x := by
  unfold maybeOf
  simp only [test_bit]
  have e : (Scalar.cmpi .eq s 1#32 = 1#1) = (s = 1#32) := propext (cmpi_eq_iff s 1#32)
  simp only [e]
  split_ifs
  · exact img_pay9 x
  · rfl

theorem maybe_turn (n : Nat) (hn : n ≤ 224) (x : Vec Ideal S1x3x224x224 .f32) :
    img (maybeOf (F := Ideal) (Scalar.cmpi .sgt (BitVec.ofNat 32 n) 0#32) (k0_pay10 (F := Ideal) (BitVec.ofNat 32 n)) x) = turn n (img x) := by
  unfold maybeOf
  simp only [test_bit]
  have e : (Scalar.cmpi .sgt (BitVec.ofNat 32 n) 0#32 = 1#1) = (0 < n) := propext (test_pos n hn)
  simp only [e]
  split_ifs with h
  · exact img_pay10 n hn x
  · obtain rfl : n = 0 := by omega
    exact (turn_zero _).symm

/-- What the body leaves, from the words it reads. -/
theorem outOf_img (i : grid0.Coords) (x1 x2 x3 x4 : Vec Ideal S128 .i32) (x5 : Vec Ideal S1 .f32) (x6 : Vec Ideal S1x3x224x224 .f32)
    (s1 s2 : BitVec 32) (n1 n2 : Nat) (t : EReal)
    (e1 : wordAt (F := Ideal) (k0_off1 i) (k0_off1_inb i) x1 = s1) (e2 : wordAt (F := Ideal) (k0_off1 i) (k0_off1_inb i) x2 = s2)
    (e3 : wordAt (F := Ideal) (k0_off2 i) (k0_off2_inb i) x3 = BitVec.ofNat 32 n1) (e4 : wordAt (F := Ideal) (k0_off3 i) (k0_off3_inb i) x4 = BitVec.ofNat 32 n2)
    (e5 : rateAt (F := Ideal) x5 = t) (h1 : s1.toNat < 8) (h2 : s2.toNat < 8) (hn1 : n1 ≤ 224) (hn2 : n2 ≤ 224) :
    img (outOf i x1 x2 x3 x4 x5 x6) = kstep s2 n2 t (kstep s1 n1 t (img x6)) := by
  unfold outOf kstep
  rw [e1, e2, e3, e4, e5]
  rw [show (k0_pay17 (F := Ideal) (BitVec.ofNat 32 n2)) = k0_pay10 (F := Ideal) (BitVec.ofNat 32 n2) from rfl,
    show (k0_pay16 (F := Ideal)) = k0_pay9 (F := Ideal) from rfl]
  rw [maybe_turn n2 hn2, maybe_flip, secondOf_img s2 h2, maybe_turn n1 hn1, maybe_flip, firstOf_img s1 h1]

/-- A word of the scalar memory, at the point's own place. -/
theorem wordAt_eq (off : Fin S128.rank → Nat) (h : ∀ a, off a + S1.size a ≤ S128.size a) (x : Vec Ideal S128 .i32) (b : Fin 128) (hb : off 0 = b.val) :
    wordAt (F := Ideal) off h x = x (ix1 b) := by
  unfold wordAt View.ld
  congr 1
  funext a
  apply Fin.ext
  fin_cases a
  simp only [Rect.unit]
  have h0 : ∀ k : Fin (S1.size 0), k.val = 0 := fun k => Nat.lt_one_iff.mp k.isLt
  simp [hb, h0]
theorem rateAt_eq (x : Vec Ideal S1 .f32) : rateAt (F := Ideal) x = x (ix1 0) := by
  unfold rateAt View.ld
  congr 1
  funext a
  apply Fin.ext
  fin_cases a
  simp only [Rect.unit]
  have h0 : ∀ k : Fin (S1.size 0), k.val = 0 := fun k => Nat.lt_one_iff.mp k.isLt
  simp [h0]

end Cert.KernelIdeal.Gen

end
-- ==== Proof.KDraw0.lean ====
module

public import proofs.«01_k».proof.Proof.Gen.KernelIdeal.Launch
public import proofs.«01_k».proof.Proof.Gen.On_agrees
public import Idealize.ShloMosaic.Lib.StableHlo.RunRead
public import Idealize.ShloMosaic.Lib.Pipeline.Frame

/-! Chunk by chunk, what the random draws leave in their buffers: the same function on both sides. -/

@[expose] public section

set_option maxRecDepth 16384
set_option maxHeartbeats 4000000

noncomputable section

namespace Cert.KernelIdeal.Gen

open Cert.KernelIdeal.Gen Cert.KernelIdeal Idealize.ShloMosaic Idealize.ShloMosaic.TcCoe Idealize.ShloMosaic.StableHlo Idealize.SL.Sem

variable {F : FTy → Type} [FloatOps F]

theorem kf0_0 (W : Valuation τ sig (Elt F)) : Cert.On_agrees.fn_threefry2x32 (F := F) (W (Proc.devRef .tc main_call0_v6)) (W (Proc.devRef .tc main_call0_v8)) (W (Proc.devRef .tc main_call0_v9)) (W (Proc.devRef .tc main_call0_v10)) =
    (fun W2 : Valuation τ sig (Elt F) => Cert.On_agrees.fn_threefry2x32_part1 (F := F) (W2 (Proc.devRef .tc main_call0_v6)) (W2 (Proc.devRef .tc main_call0_v8)) (W2 (Proc.devRef .tc main_call0_call0_v1)) (W2 (Proc.devRef .tc main_call0_call0_v13)) (W2 (Proc.devRef .tc main_call0_call0_v18))) (after (((hostOps0_1 (F := F)).drop 13).take 24 : List (HloOp τ sig (Elt F))) W) := by
  dsimp only
  unfold Cert.On_agrees.fn_threefry2x32
  after_reads_simp
  rfl

theorem kf0_1 (W : Valuation τ sig (Elt F)) : Cert.On_agrees.fn_threefry2x32_part1 (F := F) (W (Proc.devRef .tc main_call0_v6)) (W (Proc.devRef .tc main_call0_v8)) (W (Proc.devRef .tc main_call0_call0_v1)) (W (Proc.devRef .tc main_call0_call0_v13)) (W (Proc.devRef .tc main_call0_call0_v18)) =
    (fun W2 : Valuation τ sig (Elt F) => Cert.On_agrees.fn_threefry2x32_part2 (F := F) (W2 (Proc.devRef .tc main_call0_v6)) (W2 (Proc.devRef .tc main_call0_v8)) (W2 (Proc.devRef .tc main_call0_call0_v1)) (W2 (Proc.devRef .tc main_call0_call0_v35)) (W2 (Proc.devRef .tc main_call0_call0_v37)) (W2 (Proc.devRef .tc main_call0_call0_c_8))) (after (((hostOps0_1 (F := F)).drop 37).take 24 : List (HloOp τ sig (Elt F))) W) := by
  dsimp only
  unfold Cert.On_agrees.fn_threefry2x32_part1
  after_reads_simp
  rfl

theorem kf0_2 (W : Valuation τ sig (Elt F)) : Cert.On_agrees.fn_threefry2x32_part2 (F := F) (W (Proc.devRef .tc main_call0_v6)) (W (Proc.devRef .tc main_call0_v8)) (W (Proc.devRef .tc main_call0_call0_v1)) (W (Proc.devRef .tc main_call0_call0_v35)) (W (Proc.devRef .tc main_call0_call0_v37)) (W (Proc.devRef .tc main_call0_call0_c_8)) =
    (fun W2 : Valuation τ sig (Elt F) => Cert.On_agrees.fn_threefry2x32_part3 (F := F) (W2 (Proc.devRef .tc main_call0_v6)) (W2 (Proc.devRef .tc main_call0_v8)) (W2 (Proc.devRef .tc main_call0_call0_v1)) (W2 (Proc.devRef .tc main_call0_call0_v53)) (W2 (Proc.devRef .tc main_call0_call0_v54)) (W2 (Proc.devRef .tc main_call0_call0_v56))) (after (((hostOps0_1 (F := F)).drop 61).take 24 : List (HloOp τ sig (Elt F))) W) := by
  dsimp only
  unfold Cert.On_agrees.fn_threefry2x32_part2
  after_reads_simp
  rfl

theorem kf0_3 (W : Valuation τ sig (Elt F)) : Cert.On_agrees.fn_threefry2x32_part3 (F := F) (W (Proc.devRef .tc main_call0_v6)) (W (Proc.devRef .tc main_call0_v8)) (W (Proc.devRef .tc main_call0_call0_v1)) (W (Proc.devRef .tc main_call0_call0_v53)) (W (Proc.devRef .tc main_call0_call0_v54)) (W (Proc.devRef .tc main_call0_call0_v56)) =
    (fun W2 : Valuation τ sig (Elt F) => Cert.On_agrees.fn_threefry2x32_part4 (F := F) (W2 (Proc.devRef .tc main_call0_v6)) (W2 (Proc.devRef .tc main_call0_v8)) (W2 (Proc.devRef .tc main_call0_call0_v1)) (W2 (Proc.devRef .tc main_call0_call0_v73)) (W2 (Proc.devRef .tc main_call0_call0_v74)) (W2 (Proc.devRef .tc main_call0_call0_v75))) (after (((hostOps0_1 (F := F)).drop 85).take 24 : List (HloOp τ sig (Elt F))) W) := by
  dsimp only
  unfold Cert.On_agrees.fn_threefry2x32_part3
  after_reads_simp
  rfl

theorem kf0_4 (W : Valuation τ sig (Elt F)) : Cert.On_agrees.fn_threefry2x32_part4 (F := F) (W (Proc.devRef .tc main_call0_v6)) (W (Proc.devRef .tc main_call0_v8)) (W (Proc.devRef .tc main_call0_call0_v1)) (W (Proc.devRef .tc main_call0_call0_v73)) (W (Proc.devRef .tc main_call0_call0_v74)) (W (Proc.devRef .tc main_call0_call0_v75)) =
    (fun W2 : Valuation τ sig (Elt F) => Cert.On_agrees.fn_threefry2x32_part5 (F := F) (W2 (Proc.devRef .tc main_call0_v6)) (W2 (Proc.devRef .tc main_call0_v8)) (W2 (Proc.devRef .tc main_call0_call0_v1)) (W2 (Proc.devRef .tc main_call0_call0_v88)) (W2 (Proc.devRef .tc main_call0_call0_v94))) (after (((hostOps0_1 (F := F)).drop 109).take 24 : List (HloOp τ sig (Elt F))) W) := by
  dsimp only
  unfold Cert.On_agrees.fn_threefry2x32_part4
  after_reads_simp
  rfl

theorem kf0_5 (W : Valuation τ sig (Elt F)) : Cert.On_agrees.fn_threefry2x32_part5 (F := F) (W (Proc.devRef .tc main_call0_v6)) (W (Proc.devRef .tc main_call0_v8)) (W (Proc.devRef .tc main_call0_call0_v1)) (W (Proc.devRef .tc main_call0_call0_v88)) (W (Proc.devRef .tc main_call0_call0_v94)) =
    (fun W2 : Valuation τ sig (Elt F) => Cert.On_agrees.fn_threefry2x32_part6 (F := F) (W2 (Proc.devRef .tc main_call0_v6)) (W2 (Proc.devRef .tc main_call0_v8)) (W2 (Proc.devRef .tc main_call0_call0_v1)) (W2 (Proc.devRef .tc main_call0_call0_v108)) (W2 (Proc.devRef .tc main_call0_call0_v113))) (after (((hostOps0_1 (F := F)).drop 133).take 24 : List (HloOp τ sig (Elt F))) W) := by
  dsimp only
  unfold Cert.On_agrees.fn_threefry2x32_part5
  after_reads_simp
  rfl

theorem kf0_6 (W : Valuation τ sig (Elt F)) : Cert.On_agrees.fn_threefry2x32_part6 (F := F) (W (Proc.devRef .tc main_call0_v6)) (W (Proc.devRef .tc main_call0_v8)) (W (Proc.devRef .tc main_call0_call0_v1)) (W (Proc.devRef .tc main_call0_call0_v108)) (W (Proc.devRef .tc main_call0_call0_v113)) =
    (fun W2 : Valuation τ sig (Elt F) => Cert.On_agrees.fn_threefry2x32_part7 (F := F) (W2 (Proc.devRef .tc main_call0_v6)) (W2 (Proc.devRef .tc main_call0_v8)) (W2 (Proc.devRef .tc main_call0_call0_v1)) (W2 (Proc.devRef .tc main_call0_call0_v128)) (W2 (Proc.devRef .tc main_call0_call0_v129)) (W2 (Proc.devRef .tc main_call0_call0_v131)) (W2 (Proc.devRef .tc main_call0_call0_c_34))) (after (((hostOps0_1 (F := F)).drop 157).take 24 : List (HloOp τ sig (Elt F))) W) := by
  dsimp only
  unfold Cert.On_agrees.fn_threefry2x32_part6
  after_reads_simp
  rfl

theorem kf0_7 (W : Valuation τ sig (Elt F)) : Cert.On_agrees.fn_threefry2x32_part7 (F := F) (W (Proc.devRef .tc main_call0_v6)) (W (Proc.devRef .tc main_call0_v8)) (W (Proc.devRef .tc main_call0_call0_v1)) (W (Proc.devRef .tc main_call0_call0_v128)) (W (Proc.devRef .tc main_call0_call0_v129)) (W (Proc.devRef .tc main_call0_call0_v131)) (W (Proc.devRef .tc main_call0_call0_c_34)) =
    (fun W2 : Valuation τ sig (Elt F) => Cert.On_agrees.fn_threefry2x32_part8 (F := F) (W2 (Proc.devRef .tc main_call0_v6)) (W2 (Proc.devRef .tc main_call0_call0_v1)) (W2 (Proc.devRef .tc main_call0_call0_v148)) (W2 (Proc.devRef .tc main_call0_call0_v149)) (W2 (Proc.devRef .tc main_call0_call0_v151))) (after (((hostOps0_1 (F := F)).drop 181).take 24 : List (HloOp τ sig (Elt F))) W) := by
  dsimp only
  unfold Cert.On_agrees.fn_threefry2x32_part7
  after_reads_simp
  rfl

theorem kf0_8 (W : Valuation τ sig (Elt F)) : Cert.On_agrees.fn_threefry2x32_part8 (F := F) (W (Proc.devRef .tc main_call0_v6)) (W (Proc.devRef .tc main_call0_call0_v1)) (W (Proc.devRef .tc main_call0_call0_v148)) (W (Proc.devRef .tc main_call0_call0_v149)) (W (Proc.devRef .tc main_call0_call0_v151)) =
    (fun W2 : Valuation τ sig (Elt F) => Cert.On_agrees.fn_threefry2x32_part9 (F := F) (W2 (Proc.devRef .tc main_call0_v6)) (W2 (Proc.devRef .tc main_call0_call0_v163)) (W2 (Proc.devRef .tc main_call0_call0_v169)) (W2 (Proc.devRef .tc main_call0_call0_v170))) (after (((hostOps0_1 (F := F)).drop 205).take 24 : List (HloOp τ sig (Elt F))) W) := by
  dsimp only
  unfold Cert.On_agrees.fn_threefry2x32_part8
  after_reads_simp
  rfl

theorem kf0_9 (W : Valuation τ sig (Elt F)) : Cert.On_agrees.fn_threefry2x32_part9 (F := F) (W (Proc.devRef .tc main_call0_v6)) (W (Proc.devRef .tc main_call0_call0_v163)) (W (Proc.devRef .tc main_call0_call0_v169)) (W (Proc.devRef .tc main_call0_call0_v170)) =
    (fun W2 : Valuation τ sig (Elt F) => ((W2 (Proc.devRef .tc main_call0_v11_0)), (W2 (Proc.devRef .tc main_call0_v11_1)))) (after (((hostOps0_1 (F := F)).drop 229).take 6 : List (HloOp τ sig (Elt F))) W) := by
  dsimp only
  unfold Cert.On_agrees.fn_threefry2x32_part9
  after_reads_simp
  rfl

/-- The counter function inside one key derivation. -/
def kf0 : List (HloOp τ sig (Elt F)) :=
  ((hostOps0_1 (F := F)).drop 13).take 24 ++ (((hostOps0_1 (F := F)).drop 37).take 24 ++ (((hostOps0_1 (F := F)).drop 61).take 24 ++ (((hostOps0_1 (F := F)).drop 85).take 24 ++ (((hostOps0_1 (F := F)).drop 109).take 24 ++ (((hostOps0_1 (F := F)).drop 133).take 24 ++ (((hostOps0_1 (F := F)).drop 157).take 24 ++ (((hostOps0_1 (F := F)).drop 181).take 24 ++ (((hostOps0_1 (F := F)).drop 205).take 24 ++ (((hostOps0_1 (F := F)).drop 229).take 6)))))))))

theorem kf0_all (W : Valuation τ sig (Elt F)) : Cert.On_agrees.fn_threefry2x32 (F := F) (W (Proc.devRef .tc main_call0_v6)) (W (Proc.devRef .tc main_call0_v8)) (W (Proc.devRef .tc main_call0_v9)) (W (Proc.devRef .tc main_call0_v10)) =
    ((after kf0 W (Proc.devRef .tc main_call0_v11_0)), (after kf0 W (Proc.devRef .tc main_call0_v11_1))) := by
  unfold kf0
  simp only [after_append]
  exact (kf0_0 _).trans <| (kf0_1 _).trans <| (kf0_2 _).trans <| (kf0_3 _).trans <| (kf0_4 _).trans <| (kf0_5 _).trans <| (kf0_6 _).trans <| (kf0_7 _).trans <| (kf0_8 _).trans <| (kf0_9 _)

/-- One key derivation of the kernel's program. -/
theorem kfold0 (W : Valuation τ sig (Elt F)) : after (hostOps0_1 (F := F) : List (HloOp τ sig (Elt F))) W (Proc.devRef .tc main_v38) =
    Cert.On_agrees.fn_threefry_fold_in (F := F) (W (Proc.devRef .tc main_v6)) (W (Proc.devRef .tc main_c_10)) := by
  have hl : (hostOps0_1 (F := F) : List (HloOp τ sig (Elt F))) = ((hostOps0_1 (F := F)).take 13) ++ (kf0 ++ ((hostOps0_1 (F := F)).drop 235)) := rfl
  rw [hl, after_append, after_append]
  have e1 : (after kf0 (after ((hostOps0_1 (F := F)).take 13) W) (Proc.devRef .tc main_call0_v11_0)) = _ := (congrArg Prod.fst (kf0_all (after ((hostOps0_1 (F := F)).take 13) W))).symm
  have e2 : (after kf0 (after ((hostOps0_1 (F := F)).take 13) W) (Proc.devRef .tc main_call0_v11_1)) = _ := (congrArg Prod.snd (kf0_all (after ((hostOps0_1 (F := F)).take 13) W))).symm
  generalize after kf0 (after ((hostOps0_1 (F := F)).take 13) W) = W2 at e1 e2 ⊢
  have hp : after ((hostOps0_1 (F := F)).drop 235) W2 (Proc.devRef .tc main_v38) =
      (fun a b : IVec S1 32 => concatenate S2 0 [⟨S1, a⟩, ⟨S1, b⟩] concatenates_S1_S1_S2_d0)
        (W2 (Proc.devRef .tc main_call0_v11_0)) (W2 (Proc.devRef .tc main_call0_v11_1)) := by
    after_reads_simp
    rfl
  refine hp.trans ?_
  unfold Cert.On_agrees.fn_threefry_fold_in
  refine congrArg₂ (fun a b : IVec S1 32 => concatenate S2 0 [⟨S1, a⟩, ⟨S1, b⟩] concatenates_S1_S1_S2_d0)
    (e1.trans (congrArg Prod.fst ?_)) (e2.trans (congrArg Prod.snd ?_))
  · after_reads_simp
    rfl
  · after_reads_simp
    rfl

end Cert.KernelIdeal.Gen

end
-- ==== Proof.KDraw1.lean ====
module

public import proofs.«01_k».proof.Proof.Gen.KernelIdeal.Launch
public import proofs.«01_k».proof.Proof.Gen.On_agrees
public import Idealize.ShloMosaic.Lib.StableHlo.RunRead
public import Idealize.ShloMosaic.Lib.Pipeline.Frame

/-! Chunk by chunk, what the random draws leave in their buffers: the same function on both sides. -/

@[expose] public section

set_option maxRecDepth 16384
set_option maxHeartbeats 4000000

noncomputable section

namespace Cert.KernelIdeal.Gen

open Cert.KernelIdeal.Gen Cert.KernelIdeal Idealize.ShloMosaic Idealize.ShloMosaic.TcCoe Idealize.ShloMosaic.StableHlo Idealize.SL.Sem

variable {F : FTy → Type} [FloatOps F]

theorem kg0_0 (W : Valuation τ sig (Elt F)) : Cert.On_agrees.fn_threefry2x32_0 (F := F) (W (Proc.devRef .tc main_call1_call0_v4)) (W (Proc.devRef .tc main_call1_call0_v6)) (W (Proc.devRef .tc main_call1_call0_v17)) (W (Proc.devRef .tc main_call1_call0_v16)) =
    (fun W2 : Valuation τ sig (Elt F) => Cert.On_agrees.fn_threefry2x32_0_part1 (F := F) (W2 (Proc.devRef .tc main_call1_call0_v4)) (W2 (Proc.devRef .tc main_call1_call0_v6)) (W2 (Proc.devRef .tc main_call1_call0_call0_v1)) (W2 (Proc.devRef .tc main_call1_call0_call0_v13)) (W2 (Proc.devRef .tc main_call1_call0_call0_v18))) (after (((hostOps0_2 (F := F)).drop 23).take 24 : List (HloOp τ sig (Elt F))) W) := by
  dsimp only
  unfold Cert.On_agrees.fn_threefry2x32_0
  after_reads_simp
  rfl

theorem kg0_1 (W : Valuation τ sig (Elt F)) : Cert.On_agrees.fn_threefry2x32_0_part1 (F := F) (W (Proc.devRef .tc main_call1_call0_v4)) (W (Proc.devRef .tc main_call1_call0_v6)) (W (Proc.devRef .tc main_call1_call0_call0_v1)) (W (Proc.devRef .tc main_call1_call0_call0_v13)) (W (Proc.devRef .tc main_call1_call0_call0_v18)) =
    (fun W2 : Valuation τ sig (Elt F) => Cert.On_agrees.fn_threefry2x32_0_part2 (F := F) (W2 (Proc.devRef .tc main_call1_call0_v4)) (W2 (Proc.devRef .tc main_call1_call0_v6)) (W2 (Proc.devRef .tc main_call1_call0_call0_v1)) (W2 (Proc.devRef .tc main_call1_call0_call0_v35)) (W2 (Proc.devRef .tc main_call1_call0_call0_v37)) (W2 (Proc.devRef .tc main_call1_call0_call0_c_8))) (after (((hostOps0_2 (F := F)).drop 47).take 24 : List (HloOp τ sig (Elt F))) W) := by
  dsimp only
  unfold Cert.On_agrees.fn_threefry2x32_0_part1
  after_reads_simp
  rfl

theorem kg0_2 (W : Valuation τ sig (Elt F)) : Cert.On_agrees.fn_threefry2x32_0_part2 (F := F) (W (Proc.devRef .tc main_call1_call0_v4)) (W (Proc.devRef .tc main_call1_call0_v6)) (W (Proc.devRef .tc main_call1_call0_call0_v1)) (W (Proc.devRef .tc main_call1_call0_call0_v35)) (W (Proc.devRef .tc main_call1_call0_call0_v37)) (W (Proc.devRef .tc main_call1_call0_call0_c_8)) =
    (fun W2 : Valuation τ sig (Elt F) => Cert.On_agrees.fn_threefry2x32_0_part3 (F := F) (W2 (Proc.devRef .tc main_call1_call0_v4)) (W2 (Proc.devRef .tc main_call1_call0_v6)) (W2 (Proc.devRef .tc main_call1_call0_call0_v1)) (W2 (Proc.devRef .tc main_call1_call0_call0_v53)) (W2 (Proc.devRef .tc main_call1_call0_call0_v54)) (W2 (Proc.devRef .tc main_call1_call0_call0_v56))) (after (((hostOps0_2 (F := F)).drop 71).take 24 : List (HloOp τ sig (Elt F))) W) := by
  dsimp only
  unfold Cert.On_agrees.fn_threefry2x32_0_part2
  after_reads_simp
  rfl

theorem kg0_3 (W : Valuation τ sig (Elt F)) : Cert.On_agrees.fn_threefry2x32_0_part3 (F := F) (W (Proc.devRef .tc main_call1_call0_v4)) (W (Proc.devRef .tc main_call1_call0_v6)) (W (Proc.devRef .tc main_call1_call0_call0_v1)) (W (Proc.devRef .tc main_call1_call0_call0_v53)) (W (Proc.devRef .tc main_call1_call0_call0_v54)) (W (Proc.devRef .tc main_call1_call0_call0_v56)) =
    (fun W2 : Valuation τ sig (Elt F) => Cert.On_agrees.fn_threefry2x32_0_part4 (F := F) (W2 (Proc.devRef .tc main_call1_call0_v4)) (W2 (Proc.devRef .tc main_call1_call0_v6)) (W2 (Proc.devRef .tc main_call1_call0_call0_v1)) (W2 (Proc.devRef .tc main_call1_call0_call0_v73)) (W2 (Proc.devRef .tc main_call1_call0_call0_v74)) (W2 (Proc.devRef .tc main_call1_call0_call0_v75))) (after (((hostOps0_2 (F := F)).drop 95).take 24 : List (HloOp τ sig (Elt F))) W) := by
  dsimp only
  unfold Cert.On_agrees.fn_threefry2x32_0_part3
  after_reads_simp
  rfl

theorem kg0_4 (W : Valuation τ sig (Elt F)) : Cert.On_agrees.fn_threefry2x32_0_part4 (F := F) (W (Proc.devRef .tc main_call1_call0_v4)) (W (Proc.devRef .tc main_call1_call0_v6)) (W (Proc.devRef .tc main_call1_call0_call0_v1)) (W (Proc.devRef .tc main_call1_call0_call0_v73)) (W (Proc.devRef .tc main_call1_call0_call0_v74)) (W (Proc.devRef .tc main_call1_call0_call0_v75)) =
    (fun W2 : Valuation τ sig (Elt F) => Cert.On_agrees.fn_threefry2x32_0_part5 (F := F) (W2 (Proc.devRef .tc main_call1_call0_v4)) (W2 (Proc.devRef .tc main_call1_call0_v6)) (W2 (Proc.devRef .tc main_call1_call0_call0_v1)) (W2 (Proc.devRef .tc main_call1_call0_call0_v88)) (W2 (Proc.devRef .tc main_call1_call0_call0_v94))) (after (((hostOps0_2 (F := F)).drop 119).take 24 : List (HloOp τ sig (Elt F))) W) := by
  dsimp only
  unfold Cert.On_agrees.fn_threefry2x32_0_part4
  after_reads_simp
  rfl

theorem kg0_5 (W : Valuation τ sig (Elt F)) : Cert.On_agrees.fn_threefry2x32_0_part5 (F := F) (W (Proc.devRef .tc main_call1_call0_v4)) (W (Proc.devRef .tc main_call1_call0_v6)) (W (Proc.devRef .tc main_call1_call0_call0_v1)) (W (Proc.devRef .tc main_call1_call0_call0_v88)) (W (Proc.devRef .tc main_call1_call0_call0_v94)) =
    (fun W2 : Valuation τ sig (Elt F) => Cert.On_agrees.fn_threefry2x32_0_part6 (F := F) (W2 (Proc.devRef .tc main_call1_call0_v4)) (W2 (Proc.devRef .tc main_call1_call0_v6)) (W2 (Proc.devRef .tc main_call1_call0_call0_v1)) (W2 (Proc.devRef .tc main_call1_call0_call0_v108)) (W2 (Proc.devRef .tc main_call1_call0_call0_v113))) (after (((hostOps0_2 (F := F)).drop 143).take 24 : List (HloOp τ sig (Elt F))) W) := by
  dsimp only
  unfold Cert.On_agrees.fn_threefry2x32_0_part5
  after_reads_simp
  rfl

theorem kg0_6 (W : Valuation τ sig (Elt F)) : Cert.On_agrees.fn_threefry2x32_0_part6 (F := F) (W (Proc.devRef .tc main_call1_call0_v4)) (W (Proc.devRef .tc main_call1_call0_v6)) (W (Proc.devRef .tc main_call1_call0_call0_v1)) (W (Proc.devRef .tc main_call1_call0_call0_v108)) (W (Proc.devRef .tc main_call1_call0_call0_v113)) =
    (fun W2 : Valuation τ sig (Elt F) => Cert.On_agrees.fn_threefry2x32_0_part7 (F := F) (W2 (Proc.devRef .tc main_call1_call0_v4)) (W2 (Proc.devRef .tc main_call1_call0_v6)) (W2 (Proc.devRef .tc main_call1_call0_call0_v1)) (W2 (Proc.devRef .tc main_call1_call0_call0_v128)) (W2 (Proc.devRef .tc main_call1_call0_call0_v129)) (W2 (Proc.devRef .tc main_call1_call0_call0_v131)) (W2 (Proc.devRef .tc main_call1_call0_call0_c_34))) (after (((hostOps0_2 (F := F)).drop 167).take 24 : List (HloOp τ sig (Elt F))) W) := by
  dsimp only
  unfold Cert.On_agrees.fn_threefry2x32_0_part6
  after_reads_simp
  rfl

theorem kg0_7 (W : Valuation τ sig (Elt F)) : Cert.On_agrees.fn_threefry2x32_0_part7 (F := F) (W (Proc.devRef .tc main_call1_call0_v4)) (W (Proc.devRef .tc main_call1_call0_v6)) (W (Proc.devRef .tc main_call1_call0_call0_v1)) (W (Proc.devRef .tc main_call1_call0_call0_v128)) (W (Proc.devRef .tc main_call1_call0_call0_v129)) (W (Proc.devRef .tc main_call1_call0_call0_v131)) (W (Proc.devRef .tc main_call1_call0_call0_c_34)) =
    (fun W2 : Valuation τ sig (Elt F) => Cert.On_agrees.fn_threefry2x32_0_part8 (F := F) (W2 (Proc.devRef .tc main_call1_call0_v4)) (W2 (Proc.devRef .tc main_call1_call0_call0_v1)) (W2 (Proc.devRef .tc main_call1_call0_call0_v148)) (W2 (Proc.devRef .tc main_call1_call0_call0_v149)) (W2 (Proc.devRef .tc main_call1_call0_call0_v151))) (after (((hostOps0_2 (F := F)).drop 191).take 24 : List (HloOp τ sig (Elt F))) W) := by
  dsimp only
  unfold Cert.On_agrees.fn_threefry2x32_0_part7
  after_reads_simp
  rfl

theorem kg0_8 (W : Valuation τ sig (Elt F)) : Cert.On_agrees.fn_threefry2x32_0_part8 (F := F) (W (Proc.devRef .tc main_call1_call0_v4)) (W (Proc.devRef .tc main_call1_call0_call0_v1)) (W (Proc.devRef .tc main_call1_call0_call0_v148)) (W (Proc.devRef .tc main_call1_call0_call0_v149)) (W (Proc.devRef .tc main_call1_call0_call0_v151)) =
    (fun W2 : Valuation τ sig (Elt F) => Cert.On_agrees.fn_threefry2x32_0_part9 (F := F) (W2 (Proc.devRef .tc main_call1_call0_v4)) (W2 (Proc.devRef .tc main_call1_call0_call0_v163)) (W2 (Proc.devRef .tc main_call1_call0_call0_v169)) (W2 (Proc.devRef .tc main_call1_call0_call0_v170))) (after (((hostOps0_2 (F := F)).drop 215).take 24 : List (HloOp τ sig (Elt F))) W) := by
  dsimp only
  unfold Cert.On_agrees.fn_threefry2x32_0_part8
  after_reads_simp
  rfl

theorem kg0_9 (W : Valuation τ sig (Elt F)) : Cert.On_agrees.fn_threefry2x32_0_part9 (F := F) (W (Proc.devRef .tc main_call1_call0_v4)) (W (Proc.devRef .tc main_call1_call0_call0_v163)) (W (Proc.devRef .tc main_call1_call0_call0_v169)) (W (Proc.devRef .tc main_call1_call0_call0_v170)) =
    (fun W2 : Valuation τ sig (Elt F) => ((W2 (Proc.devRef .tc main_call1_call0_v18_0)), (W2 (Proc.devRef .tc main_call1_call0_v18_1)))) (after (((hostOps0_2 (F := F)).drop 239).take 6 : List (HloOp τ sig (Elt F))) W) := by
  dsimp only
  unfold Cert.On_agrees.fn_threefry2x32_0_part9
  after_reads_simp
  rfl

/-- The counter function inside one noise table. -/
def kg0 : List (HloOp τ sig (Elt F)) :=
  ((hostOps0_2 (F := F)).drop 23).take 24 ++ (((hostOps0_2 (F := F)).drop 47).take 24 ++ (((hostOps0_2 (F := F)).drop 71).take 24 ++ (((hostOps0_2 (F := F)).drop 95).take 24 ++ (((hostOps0_2 (F := F)).drop 119).take 24 ++ (((hostOps0_2 (F := F)).drop 143).take 24 ++ (((hostOps0_2 (F := F)).drop 167).take 24 ++ (((hostOps0_2 (F := F)).drop 191).take 24 ++ (((hostOps0_2 (F := F)).drop 215).take 24 ++ (((hostOps0_2 (F := F)).drop 239).take 6)))))))))

theorem kg0_all (W : Valuation τ sig (Elt F)) : Cert.On_agrees.fn_threefry2x32_0 (F := F) (W (Proc.devRef .tc main_call1_call0_v4)) (W (Proc.devRef .tc main_call1_call0_v6)) (W (Proc.devRef .tc main_call1_call0_v17)) (W (Proc.devRef .tc main_call1_call0_v16)) =
    ((after kg0 W (Proc.devRef .tc main_call1_call0_v18_0)), (after kg0 W (Proc.devRef .tc main_call1_call0_v18_1))) := by
  unfold kg0
  simp only [after_append]
  exact (kg0_0 _).trans <| (kg0_1 _).trans <| (kg0_2 _).trans <| (kg0_3 _).trans <| (kg0_4 _).trans <| (kg0_5 _).trans <| (kg0_6 _).trans <| (kg0_7 _).trans <| (kg0_8 _).trans <| (kg0_9 _)

/-- One noise table of the kernel's program. -/
theorem kgum0 (W : Valuation τ sig (Elt F)) : after (hostOps0_2 (F := F) : List (HloOp τ sig (Elt F))) W (Proc.devRef .tc main_v39) =
    Cert.On_agrees.fn_gumbel (F := F) (W (Proc.devRef .tc main_v38)) := by
  have hl : (hostOps0_2 (F := F) : List (HloOp τ sig (Elt F))) = ((hostOps0_2 (F := F)).take 23) ++ (kg0 ++ ((hostOps0_2 (F := F)).drop 245)) := rfl
  rw [hl, after_append, after_append]
  have e1 : (after kg0 (after ((hostOps0_2 (F := F)).take 23) W) (Proc.devRef .tc main_call1_call0_v18_0)) = _ := (congrArg Prod.fst (kg0_all (after ((hostOps0_2 (F := F)).take 23) W))).symm
  have e2 : (after kg0 (after ((hostOps0_2 (F := F)).take 23) W) (Proc.devRef .tc main_call1_call0_v18_1)) = _ := (congrArg Prod.snd (kg0_all (after ((hostOps0_2 (F := F)).take 23) W))).symm
  have e3 : (after kg0 (after ((hostOps0_2 (F := F)).take 23) W) (Proc.devRef .tc main_call1_call0_v1)) = after ((hostOps0_2 (F := F)).take 23) W (Proc.devRef .tc main_call1_call0_v1) := by after_reads_simp
  have e4 : (after kg0 (after ((hostOps0_2 (F := F)).take 23) W) (Proc.devRef .tc main_call1_call0_v2)) = after ((hostOps0_2 (F := F)).take 23) W (Proc.devRef .tc main_call1_call0_v2) := by after_reads_simp
  generalize after kg0 (after ((hostOps0_2 (F := F)).take 23) W) = W2 at e1 e2 e3 e4 ⊢
  after_reads_simp
  rw [e1, e2, e3, e4]
  after_reads_simp
  unfold Cert.On_agrees.fn_gumbel Cert.On_agrees.fn_uniform Cert.On_agrees.fn_uniform_part1
  rfl

end Cert.KernelIdeal.Gen

end
-- ==== Proof.KDraw2.lean ====
module

public import proofs.«01_k».proof.Proof.Gen.KernelIdeal.Launch
public import proofs.«01_k».proof.Proof.Gen.On_agrees
public import Idealize.ShloMosaic.Lib.StableHlo.RunRead
public import Idealize.ShloMosaic.Lib.Pipeline.Frame

/-! Chunk by chunk, what the random draws leave in their buffers: the same function on both sides. -/

@[expose] public section

set_option maxRecDepth 16384
set_option maxHeartbeats 4000000

noncomputable section

namespace Cert.KernelIdeal.Gen

open Cert.KernelIdeal.Gen Cert.KernelIdeal Idealize.ShloMosaic Idealize.ShloMosaic.TcCoe Idealize.ShloMosaic.StableHlo Idealize.SL.Sem

variable {F : FTy → Type} [FloatOps F]

theorem kf1_0 (W : Valuation τ sig (Elt F)) : Cert.On_agrees.fn_threefry2x32 (F := F) (W (Proc.devRef .tc main_call3_v6)) (W (Proc.devRef .tc main_call3_v8)) (W (Proc.devRef .tc main_call3_v9)) (W (Proc.devRef .tc main_call3_v10)) =
    (fun W2 : Valuation τ sig (Elt F) => Cert.On_agrees.fn_threefry2x32_part1 (F := F) (W2 (Proc.devRef .tc main_call3_v6)) (W2 (Proc.devRef .tc main_call3_v8)) (W2 (Proc.devRef .tc main_call3_call0_v1)) (W2 (Proc.devRef .tc main_call3_call0_v13)) (W2 (Proc.devRef .tc main_call3_call0_v18))) (after (((hostOps0_6 (F := F)).drop 13).take 24 : List (HloOp τ sig (Elt F))) W) := by
  dsimp only
  unfold Cert.On_agrees.fn_threefry2x32
  after_reads_simp
  rfl

theorem kf1_1 (W : Valuation τ sig (Elt F)) : Cert.On_agrees.fn_threefry2x32_part1 (F := F) (W (Proc.devRef .tc main_call3_v6)) (W (Proc.devRef .tc main_call3_v8)) (W (Proc.devRef .tc main_call3_call0_v1)) (W (Proc.devRef .tc main_call3_call0_v13)) (W (Proc.devRef .tc main_call3_call0_v18)) =
    (fun W2 : Valuation τ sig (Elt F) => Cert.On_agrees.fn_threefry2x32_part2 (F := F) (W2 (Proc.devRef .tc main_call3_v6)) (W2 (Proc.devRef .tc main_call3_v8)) (W2 (Proc.devRef .tc main_call3_call0_v1)) (W2 (Proc.devRef .tc main_call3_call0_v35)) (W2 (Proc.devRef .tc main_call3_call0_v37)) (W2 (Proc.devRef .tc main_call3_call0_c_8))) (after (((hostOps0_6 (F := F)).drop 37).take 24 : List (HloOp τ sig (Elt F))) W) := by
  dsimp only
  unfold Cert.On_agrees.fn_threefry2x32_part1
  after_reads_simp
  rfl

theorem kf1_2 (W : Valuation τ sig (Elt F)) : Cert.On_agrees.fn_threefry2x32_part2 (F := F) (W (Proc.devRef .tc main_call3_v6)) (W (Proc.devRef .tc main_call3_v8)) (W (Proc.devRef .tc main_call3_call0_v1)) (W (Proc.devRef .tc main_call3_call0_v35)) (W (Proc.devRef .tc main_call3_call0_v37)) (W (Proc.devRef .tc main_call3_call0_c_8)) =
    (fun W2 : Valuation τ sig (Elt F) => Cert.On_agrees.fn_threefry2x32_part3 (F := F) (W2 (Proc.devRef .tc main_call3_v6)) (W2 (Proc.devRef .tc main_call3_v8)) (W2 (Proc.devRef .tc main_call3_call0_v1)) (W2 (Proc.devRef .tc main_call3_call0_v53)) (W2 (Proc.devRef .tc main_call3_call0_v54)) (W2 (Proc.devRef .tc main_call3_call0_v56))) (after (((hostOps0_6 (F := F)).drop 61).take 24 : List (HloOp τ sig (Elt F))) W) := by
  dsimp only
  unfold Cert.On_agrees.fn_threefry2x32_part2
  after_reads_simp
  rfl

theorem kf1_3 (W : Valuation τ sig (Elt F)) : Cert.On_agrees.fn_threefry2x32_part3 (F := F) (W (Proc.devRef .tc main_call3_v6)) (W (Proc.devRef .tc main_call3_v8)) (W (Proc.devRef .tc main_call3_call0_v1)) (W (Proc.devRef .tc main_call3_call0_v53)) (W (Proc.devRef .tc main_call3_call0_v54)) (W (Proc.devRef .tc main_call3_call0_v56)) =
    (fun W2 : Valuation τ sig (Elt F) => Cert.On_agrees.fn_threefry2x32_part4 (F := F) (W2 (Proc.devRef .tc main_call3_v6)) (W2 (Proc.devRef .tc main_call3_v8)) (W2 (Proc.devRef .tc main_call3_call0_v1)) (W2 (Proc.devRef .tc main_call3_call0_v73)) (W2 (Proc.devRef .tc main_call3_call0_v74)) (W2 (Proc.devRef .tc main_call3_call0_v75))) (after (((hostOps0_6 (F := F)).drop 85).take 24 : List (HloOp τ sig (Elt F))) W) := by
  dsimp only
  unfold Cert.On_agrees.fn_threefry2x32_part3
  after_reads_simp
  rfl

theorem kf1_4 (W : Valuation τ sig (Elt F)) : Cert.On_agrees.fn_threefry2x32_part4 (F := F) (W (Proc.devRef .tc main_call3_v6)) (W (Proc.devRef .tc main_call3_v8)) (W (Proc.devRef .tc main_call3_call0_v1)) (W (Proc.devRef .tc main_call3_call0_v73)) (W (Proc.devRef .tc main_call3_call0_v74)) (W (Proc.devRef .tc main_call3_call0_v75)) =
    (fun W2 : Valuation τ sig (Elt F) => Cert.On_agrees.fn_threefry2x32_part5 (F := F) (W2 (Proc.devRef .tc main_call3_v6)) (W2 (Proc.devRef .tc main_call3_v8)) (W2 (Proc.devRef .tc main_call3_call0_v1)) (W2 (Proc.devRef .tc main_call3_call0_v88)) (W2 (Proc.devRef .tc main_call3_call0_v94))) (after (((hostOps0_6 (F := F)).drop 109).take 24 : List (HloOp τ sig (Elt F))) W) := by
  dsimp only
  unfold Cert.On_agrees.fn_threefry2x32_part4
  after_reads_simp
  rfl

theorem kf1_5 (W : Valuation τ sig (Elt F)) : Cert.On_agrees.fn_threefry2x32_part5 (F := F) (W (Proc.devRef .tc main_call3_v6)) (W (Proc.devRef .tc main_call3_v8)) (W (Proc.devRef .tc main_call3_call0_v1)) (W (Proc.devRef .tc main_call3_call0_v88)) (W (Proc.devRef .tc main_call3_call0_v94)) =
    (fun W2 : Valuation τ sig (Elt F) => Cert.On_agrees.fn_threefry2x32_part6 (F := F) (W2 (Proc.devRef .tc main_call3_v6)) (W2 (Proc.devRef .tc main_call3_v8)) (W2 (Proc.devRef .tc main_call3_call0_v1)) (W2 (Proc.devRef .tc main_call3_call0_v108)) (W2 (Proc.devRef .tc main_call3_call0_v113))) (after (((hostOps0_6 (F := F)).drop 133).take 24 : List (HloOp τ sig (Elt F))) W) := by
  dsimp only
  unfold Cert.On_agrees.fn_threefry2x32_part5
  after_reads_simp
  rfl

theorem kf1_6 (W : Valuation τ sig (Elt F)) : Cert.On_agrees.fn_threefry2x32_part6 (F := F) (W (Proc.devRef .tc main_call3_v6)) (W (Proc.devRef .tc main_call3_v8)) (W (Proc.devRef .tc main_call3_call0_v1)) (W (Proc.devRef .tc main_call3_call0_v108)) (W (Proc.devRef .tc main_call3_call0_v113)) =
    (fun W2 : Valuation τ sig (Elt F) => Cert.On_agrees.fn_threefry2x32_part7 (F := F) (W2 (Proc.devRef .tc main_call3_v6)) (W2 (Proc.devRef .tc main_call3_v8)) (W2 (Proc.devRef .tc main_call3_call0_v1)) (W2 (Proc.devRef .tc main_call3_call0_v128)) (W2 (Proc.devRef .tc main_call3_call0_v129)) (W2 (Proc.devRef .tc main_call3_call0_v131)) (W2 (Proc.devRef .tc main_call3_call0_c_34))) (after (((hostOps0_6 (F := F)).drop 157).take 24 : List (HloOp τ sig (Elt F))) W) := by
  dsimp only
  unfold Cert.On_agrees.fn_threefry2x32_part6
  after_reads_simp
  rfl

theorem kf1_7 (W : Valuation τ sig (Elt F)) : Cert.On_agrees.fn_threefry2x32_part7 (F := F) (W (Proc.devRef .tc main_call3_v6)) (W (Proc.devRef .tc main_call3_v8)) (W (Proc.devRef .tc main_call3_call0_v1)) (W (Proc.devRef .tc main_call3_call0_v128)) (W (Proc.devRef .tc main_call3_call0_v129)) (W (Proc.devRef .tc main_call3_call0_v131)) (W (Proc.devRef .tc main_call3_call0_c_34)) =
    (fun W2 : Valuation τ sig (Elt F) => Cert.On_agrees.fn_threefry2x32_part8 (F := F) (W2 (Proc.devRef .tc main_call3_v6)) (W2 (Proc.devRef .tc main_call3_call0_v1)) (W2 (Proc.devRef .tc main_call3_call0_v148)) (W2 (Proc.devRef .tc main_call3_call0_v149)) (W2 (Proc.devRef .tc main_call3_call0_v151))) (after (((hostOps0_6 (F := F)).drop 181).take 24 : List (HloOp τ sig (Elt F))) W) := by
  dsimp only
  unfold Cert.On_agrees.fn_threefry2x32_part7
  after_reads_simp
  rfl

theorem kf1_8 (W : Valuation τ sig (Elt F)) : Cert.On_agrees.fn_threefry2x32_part8 (F := F) (W (Proc.devRef .tc main_call3_v6)) (W (Proc.devRef .tc main_call3_call0_v1)) (W (Proc.devRef .tc main_call3_call0_v148)) (W (Proc.devRef .tc main_call3_call0_v149)) (W (Proc.devRef .tc main_call3_call0_v151)) =
    (fun W2 : Valuation τ sig (Elt F) => Cert.On_agrees.fn_threefry2x32_part9 (F := F) (W2 (Proc.devRef .tc main_call3_v6)) (W2 (Proc.devRef .tc main_call3_call0_v163)) (W2 (Proc.devRef .tc main_call3_call0_v169)) (W2 (Proc.devRef .tc main_call3_call0_v170))) (after (((hostOps0_6 (F := F)).drop 205).take 24 : List (HloOp τ sig (Elt F))) W) := by
  dsimp only
  unfold Cert.On_agrees.fn_threefry2x32_part8
  after_reads_simp
  rfl

theorem kf1_9 (W : Valuation τ sig (Elt F)) : Cert.On_agrees.fn_threefry2x32_part9 (F := F) (W (Proc.devRef .tc main_call3_v6)) (W (Proc.devRef .tc main_call3_call0_v163)) (W (Proc.devRef .tc main_call3_call0_v169)) (W (Proc.devRef .tc main_call3_call0_v170)) =
    (fun W2 : Valuation τ sig (Elt F) => ((W2 (Proc.devRef .tc main_call3_v11_0)), (W2 (Proc.devRef .tc main_call3_v11_1)))) (after (((hostOps0_6 (F := F)).drop 229).take 6 : List (HloOp τ sig (Elt F))) W) := by
  dsimp only
  unfold Cert.On_agrees.fn_threefry2x32_part9
  after_reads_simp
  rfl

/-- The counter function inside one key derivation. -/
def kf1 : List (HloOp τ sig (Elt F)) :=
  ((hostOps0_6 (F := F)).drop 13).take 24 ++ (((hostOps0_6 (F := F)).drop 37).take 24 ++ (((hostOps0_6 (F := F)).drop 61).take 24 ++ (((hostOps0_6 (F := F)).drop 85).take 24 ++ (((hostOps0_6 (F := F)).drop 109).take 24 ++ (((hostOps0_6 (F := F)).drop 133).take 24 ++ (((hostOps0_6 (F := F)).drop 157).take 24 ++ (((hostOps0_6 (F := F)).drop 181).take 24 ++ (((hostOps0_6 (F := F)).drop 205).take 24 ++ (((hostOps0_6 (F := F)).drop 229).take 6)))))))))

theorem kf1_all (W : Valuation τ sig (Elt F)) : Cert.On_agrees.fn_threefry2x32 (F := F) (W (Proc.devRef .tc main_call3_v6)) (W (Proc.devRef .tc main_call3_v8)) (W (Proc.devRef .tc main_call3_v9)) (W (Proc.devRef .tc main_call3_v10)) =
    ((after kf1 W (Proc.devRef .tc main_call3_v11_0)), (after kf1 W (Proc.devRef .tc main_call3_v11_1))) := by
  unfold kf1
  simp only [after_append]
  exact (kf1_0 _).trans <| (kf1_1 _).trans <| (kf1_2 _).trans <| (kf1_3 _).trans <| (kf1_4 _).trans <| (kf1_5 _).trans <| (kf1_6 _).trans <| (kf1_7 _).trans <| (kf1_8 _).trans <| (kf1_9 _)

/-- One key derivation of the kernel's program. -/
theorem kfold1 (W : Valuation τ sig (Elt F)) : after (hostOps0_6 (F := F) : List (HloOp τ sig (Elt F))) W (Proc.devRef .tc main_v42) =
    Cert.On_agrees.fn_threefry_fold_in (F := F) (W (Proc.devRef .tc main_v6)) (W (Proc.devRef .tc main_c_11)) := by
  have hl : (hostOps0_6 (F := F) : List (HloOp τ sig (Elt F))) = ((hostOps0_6 (F := F)).take 13) ++ (kf1 ++ ((hostOps0_6 (F := F)).drop 235)) := rfl
  rw [hl, after_append, after_append]
  have e1 : (after kf1 (after ((hostOps0_6 (F := F)).take 13) W) (Proc.devRef .tc main_call3_v11_0)) = _ := (congrArg Prod.fst (kf1_all (after ((hostOps0_6 (F := F)).take 13) W))).symm
  have e2 : (after kf1 (after ((hostOps0_6 (F := F)).take 13) W) (Proc.devRef .tc main_call3_v11_1)) = _ := (congrArg Prod.snd (kf1_all (after ((hostOps0_6 (F := F)).take 13) W))).symm
  generalize after kf1 (after ((hostOps0_6 (F := F)).take 13) W) = W2 at e1 e2 ⊢
  have hp : after ((hostOps0_6 (F := F)).drop 235) W2 (Proc.devRef .tc main_v42) =
      (fun a b : IVec S1 32 => concatenate S2 0 [⟨S1, a⟩, ⟨S1, b⟩] concatenates_S1_S1_S2_d0)
        (W2 (Proc.devRef .tc main_call3_v11_0)) (W2 (Proc.devRef .tc main_call3_v11_1)) := by
    after_reads_simp
    rfl
  refine hp.trans ?_
  unfold Cert.On_agrees.fn_threefry_fold_in
  refine congrArg₂ (fun a b : IVec S1 32 => concatenate S2 0 [⟨S1, a⟩, ⟨S1, b⟩] concatenates_S1_S1_S2_d0)
    (e1.trans (congrArg Prod.fst ?_)) (e2.trans (congrArg Prod.snd ?_))
  · after_reads_simp
    rfl
  · after_reads_simp
    rfl

end Cert.KernelIdeal.Gen

end
-- ==== Proof.KDraw3.lean ====
module

public import proofs.«01_k».proof.Proof.Gen.KernelIdeal.Launch
public import proofs.«01_k».proof.Proof.Gen.On_agrees
public import Idealize.ShloMosaic.Lib.StableHlo.RunRead
public import Idealize.ShloMosaic.Lib.Pipeline.Frame

/-! Chunk by chunk, what the random draws leave in their buffers: the same function on both sides. -/

@[expose] public section

set_option maxRecDepth 16384
set_option maxHeartbeats 4000000

noncomputable section

namespace Cert.KernelIdeal.Gen

open Cert.KernelIdeal.Gen Cert.KernelIdeal Idealize.ShloMosaic Idealize.ShloMosaic.TcCoe Idealize.ShloMosaic.StableHlo Idealize.SL.Sem

variable {F : FTy → Type} [FloatOps F]

theorem kg1_0 (W : Valuation τ sig (Elt F)) : Cert.On_agrees.fn_threefry2x32_0 (F := F) (W (Proc.devRef .tc main_call4_call0_v4)) (W (Proc.devRef .tc main_call4_call0_v6)) (W (Proc.devRef .tc main_call4_call0_v17)) (W (Proc.devRef .tc main_call4_call0_v16)) =
    (fun W2 : Valuation τ sig (Elt F) => Cert.On_agrees.fn_threefry2x32_0_part1 (F := F) (W2 (Proc.devRef .tc main_call4_call0_v4)) (W2 (Proc.devRef .tc main_call4_call0_v6)) (W2 (Proc.devRef .tc main_call4_call0_call0_v1)) (W2 (Proc.devRef .tc main_call4_call0_call0_v13)) (W2 (Proc.devRef .tc main_call4_call0_call0_v18))) (after (((hostOps0_7 (F := F)).drop 23).take 24 : List (HloOp τ sig (Elt F))) W) := by
  dsimp only
  unfold Cert.On_agrees.fn_threefry2x32_0
  after_reads_simp
  rfl

theorem kg1_1 (W : Valuation τ sig (Elt F)) : Cert.On_agrees.fn_threefry2x32_0_part1 (F := F) (W (Proc.devRef .tc main_call4_call0_v4)) (W (Proc.devRef .tc main_call4_call0_v6)) (W (Proc.devRef .tc main_call4_call0_call0_v1)) (W (Proc.devRef .tc main_call4_call0_call0_v13)) (W (Proc.devRef .tc main_call4_call0_call0_v18)) =
    (fun W2 : Valuation τ sig (Elt F) => Cert.On_agrees.fn_threefry2x32_0_part2 (F := F) (W2 (Proc.devRef .tc main_call4_call0_v4)) (W2 (Proc.devRef .tc main_call4_call0_v6)) (W2 (Proc.devRef .tc main_call4_call0_call0_v1)) (W2 (Proc.devRef .tc main_call4_call0_call0_v35)) (W2 (Proc.devRef .tc main_call4_call0_call0_v37)) (W2 (Proc.devRef .tc main_call4_call0_call0_c_8))) (after (((hostOps0_7 (F := F)).drop 47).take 24 : List (HloOp τ sig (Elt F))) W) := by
  dsimp only
  unfold Cert.On_agrees.fn_threefry2x32_0_part1
  after_reads_simp
  rfl

theorem kg1_2 (W : Valuation τ sig (Elt F)) : Cert.On_agrees.fn_threefry2x32_0_part2 (F := F) (W (Proc.devRef .tc main_call4_call0_v4)) (W (Proc.devRef .tc main_call4_call0_v6)) (W (Proc.devRef .tc main_call4_call0_call0_v1)) (W (Proc.devRef .tc main_call4_call0_call0_v35)) (W (Proc.devRef .tc main_call4_call0_call0_v37)) (W (Proc.devRef .tc main_call4_call0_call0_c_8)) =
    (fun W2 : Valuation τ sig (Elt F) => Cert.On_agrees.fn_threefry2x32_0_part3 (F := F) (W2 (Proc.devRef .tc main_call4_call0_v4)) (W2 (Proc.devRef .tc main_call4_call0_v6)) (W2 (Proc.devRef .tc main_call4_call0_call0_v1)) (W2 (Proc.devRef .tc main_call4_call0_call0_v53)) (W2 (Proc.devRef .tc main_call4_call0_call0_v54)) (W2 (Proc.devRef .tc main_call4_call0_call0_v56))) (after (((hostOps0_7 (F := F)).drop 71).take 24 : List (HloOp τ sig (Elt F))) W) := by
  dsimp only
  unfold Cert.On_agrees.fn_threefry2x32_0_part2
  after_reads_simp
  rfl

theorem kg1_3 (W : Valuation τ sig (Elt F)) : Cert.On_agrees.fn_threefry2x32_0_part3 (F := F) (W (Proc.devRef .tc main_call4_call0_v4)) (W (Proc.devRef .tc main_call4_call0_v6)) (W (Proc.devRef .tc main_call4_call0_call0_v1)) (W (Proc.devRef .tc main_call4_call0_call0_v53)) (W (Proc.devRef .tc main_call4_call0_call0_v54)) (W (Proc.devRef .tc main_call4_call0_call0_v56)) =
    (fun W2 : Valuation τ sig (Elt F) => Cert.On_agrees.fn_threefry2x32_0_part4 (F := F) (W2 (Proc.devRef .tc main_call4_call0_v4)) (W2 (Proc.devRef .tc main_call4_call0_v6)) (W2 (Proc.devRef .tc main_call4_call0_call0_v1)) (W2 (Proc.devRef .tc main_call4_call0_call0_v73)) (W2 (Proc.devRef .tc main_call4_call0_call0_v74)) (W2 (Proc.devRef .tc main_call4_call0_call0_v75))) (after (((hostOps0_7 (F := F)).drop 95).take 24 : List (HloOp τ sig (Elt F))) W) := by
  dsimp only
  unfold Cert.On_agrees.fn_threefry2x32_0_part3
  after_reads_simp
  rfl

theorem kg1_4 (W : Valuation τ sig (Elt F)) : Cert.On_agrees.fn_threefry2x32_0_part4 (F := F) (W (Proc.devRef .tc main_call4_call0_v4)) (W (Proc.devRef .tc main_call4_call0_v6)) (W (Proc.devRef .tc main_call4_call0_call0_v1)) (W (Proc.devRef .tc main_call4_call0_call0_v73)) (W (Proc.devRef .tc main_call4_call0_call0_v74)) (W (Proc.devRef .tc main_call4_call0_call0_v75)) =
    (fun W2 : Valuation τ sig (Elt F) => Cert.On_agrees.fn_threefry2x32_0_part5 (F := F) (W2 (Proc.devRef .tc main_call4_call0_v4)) (W2 (Proc.devRef .tc main_call4_call0_v6)) (W2 (Proc.devRef .tc main_call4_call0_call0_v1)) (W2 (Proc.devRef .tc main_call4_call0_call0_v88)) (W2 (Proc.devRef .tc main_call4_call0_call0_v94))) (after (((hostOps0_7 (F := F)).drop 119).take 24 : List (HloOp τ sig (Elt F))) W) := by
  dsimp only
  unfold Cert.On_agrees.fn_threefry2x32_0_part4
  after_reads_simp
  rfl

theorem kg1_5 (W : Valuation τ sig (Elt F)) : Cert.On_agrees.fn_threefry2x32_0_part5 (F := F) (W (Proc.devRef .tc main_call4_call0_v4)) (W (Proc.devRef .tc main_call4_call0_v6)) (W (Proc.devRef .tc main_call4_call0_call0_v1)) (W (Proc.devRef .tc main_call4_call0_call0_v88)) (W (Proc.devRef .tc main_call4_call0_call0_v94)) =
    (fun W2 : Valuation τ sig (Elt F) => Cert.On_agrees.fn_threefry2x32_0_part6 (F := F) (W2 (Proc.devRef .tc main_call4_call0_v4)) (W2 (Proc.devRef .tc main_call4_call0_v6)) (W2 (Proc.devRef .tc main_call4_call0_call0_v1)) (W2 (Proc.devRef .tc main_call4_call0_call0_v108)) (W2 (Proc.devRef .tc main_call4_call0_call0_v113))) (after (((hostOps0_7 (F := F)).drop 143).take 24 : List (HloOp τ sig (Elt F))) W) := by
  dsimp only
  unfold Cert.On_agrees.fn_threefry2x32_0_part5
  after_reads_simp
  rfl

theorem kg1_6 (W : Valuation τ sig (Elt F)) : Cert.On_agrees.fn_threefry2x32_0_part6 (F := F) (W (Proc.devRef .tc main_call4_call0_v4)) (W (Proc.devRef .tc main_call4_call0_v6)) (W (Proc.devRef .tc main_call4_call0_call0_v1)) (W (Proc.devRef .tc main_call4_call0_call0_v108)) (W (Proc.devRef .tc main_call4_call0_call0_v113)) =
    (fun W2 : Valuation τ sig (Elt F) => Cert.On_agrees.fn_threefry2x32_0_part7 (F := F) (W2 (Proc.devRef .tc main_call4_call0_v4)) (W2 (Proc.devRef .tc main_call4_call0_v6)) (W2 (Proc.devRef .tc main_call4_call0_call0_v1)) (W2 (Proc.devRef .tc main_call4_call0_call0_v128)) (W2 (Proc.devRef .tc main_call4_call0_call0_v129)) (W2 (Proc.devRef .tc main_call4_call0_call0_v131)) (W2 (Proc.devRef .tc main_call4_call0_call0_c_34))) (after (((hostOps0_7 (F := F)).drop 167).take 24 : List (HloOp τ sig (Elt F))) W) := by
  dsimp only
  unfold Cert.On_agrees.fn_threefry2x32_0_part6
  after_reads_simp
  rfl

theorem kg1_7 (W : Valuation τ sig (Elt F)) : Cert.On_agrees.fn_threefry2x32_0_part7 (F := F) (W (Proc.devRef .tc main_call4_call0_v4)) (W (Proc.devRef .tc main_call4_call0_v6)) (W (Proc.devRef .tc main_call4_call0_call0_v1)) (W (Proc.devRef .tc main_call4_call0_call0_v128)) (W (Proc.devRef .tc main_call4_call0_call0_v129)) (W (Proc.devRef .tc main_call4_call0_call0_v131)) (W (Proc.devRef .tc main_call4_call0_call0_c_34)) =
    (fun W2 : Valuation τ sig (Elt F) => Cert.On_agrees.fn_threefry2x32_0_part8 (F := F) (W2 (Proc.devRef .tc main_call4_call0_v4)) (W2 (Proc.devRef .tc main_call4_call0_call0_v1)) (W2 (Proc.devRef .tc main_call4_call0_call0_v148)) (W2 (Proc.devRef .tc main_call4_call0_call0_v149)) (W2 (Proc.devRef .tc main_call4_call0_call0_v151))) (after (((hostOps0_7 (F := F)).drop 191).take 24 : List (HloOp τ sig (Elt F))) W) := by
  dsimp only
  unfold Cert.On_agrees.fn_threefry2x32_0_part7
  after_reads_simp
  rfl

theorem kg1_8 (W : Valuation τ sig (Elt F)) : Cert.On_agrees.fn_threefry2x32_0_part8 (F := F) (W (Proc.devRef .tc main_call4_call0_v4)) (W (Proc.devRef .tc main_call4_call0_call0_v1)) (W (Proc.devRef .tc main_call4_call0_call0_v148)) (W (Proc.devRef .tc main_call4_call0_call0_v149)) (W (Proc.devRef .tc main_call4_call0_call0_v151)) =
    (fun W2 : Valuation τ sig (Elt F) => Cert.On_agrees.fn_threefry2x32_0_part9 (F := F) (W2 (Proc.devRef .tc main_call4_call0_v4)) (W2 (Proc.devRef .tc main_call4_call0_call0_v163)) (W2 (Proc.devRef .tc main_call4_call0_call0_v169)) (W2 (Proc.devRef .tc main_call4_call0_call0_v170))) (after (((hostOps0_7 (F := F)).drop 215).take 24 : List (HloOp τ sig (Elt F))) W) := by
  dsimp only
  unfold Cert.On_agrees.fn_threefry2x32_0_part8
  after_reads_simp
  rfl

theorem kg1_9 (W : Valuation τ sig (Elt F)) : Cert.On_agrees.fn_threefry2x32_0_part9 (F := F) (W (Proc.devRef .tc main_call4_call0_v4)) (W (Proc.devRef .tc main_call4_call0_call0_v163)) (W (Proc.devRef .tc main_call4_call0_call0_v169)) (W (Proc.devRef .tc main_call4_call0_call0_v170)) =
    (fun W2 : Valuation τ sig (Elt F) => ((W2 (Proc.devRef .tc main_call4_call0_v18_0)), (W2 (Proc.devRef .tc main_call4_call0_v18_1)))) (after (((hostOps0_7 (F := F)).drop 239).take 6 : List (HloOp τ sig (Elt F))) W) := by
  dsimp only
  unfold Cert.On_agrees.fn_threefry2x32_0_part9
  after_reads_simp
  rfl

/-- The counter function inside one noise table. -/
def kg1 : List (HloOp τ sig (Elt F)) :=
  ((hostOps0_7 (F := F)).drop 23).take 24 ++ (((hostOps0_7 (F := F)).drop 47).take 24 ++ (((hostOps0_7 (F := F)).drop 71).take 24 ++ (((hostOps0_7 (F := F)).drop 95).take 24 ++ (((hostOps0_7 (F := F)).drop 119).take 24 ++ (((hostOps0_7 (F := F)).drop 143).take 24 ++ (((hostOps0_7 (F := F)).drop 167).take 24 ++ (((hostOps0_7 (F := F)).drop 191).take 24 ++ (((hostOps0_7 (F := F)).drop 215).take 24 ++ (((hostOps0_7 (F := F)).drop 239).take 6)))))))))

theorem kg1_all (W : Valuation τ sig (Elt F)) : Cert.On_agrees.fn_threefry2x32_0 (F := F) (W (Proc.devRef .tc main_call4_call0_v4)) (W (Proc.devRef .tc main_call4_call0_v6)) (W (Proc.devRef .tc main_call4_call0_v17)) (W (Proc.devRef .tc main_call4_call0_v16)) =
    ((after kg1 W (Proc.devRef .tc main_call4_call0_v18_0)), (after kg1 W (Proc.devRef .tc main_call4_call0_v18_1))) := by
  unfold kg1
  simp only [after_append]
  exact (kg1_0 _).trans <| (kg1_1 _).trans <| (kg1_2 _).trans <| (kg1_3 _).trans <| (kg1_4 _).trans <| (kg1_5 _).trans <| (kg1_6 _).trans <| (kg1_7 _).trans <| (kg1_8 _).trans <| (kg1_9 _)

/-- One noise table of the kernel's program. -/
theorem kgum1 (W : Valuation τ sig (Elt F)) : after (hostOps0_7 (F := F) : List (HloOp τ sig (Elt F))) W (Proc.devRef .tc main_v43) =
    Cert.On_agrees.fn_gumbel (F := F) (W (Proc.devRef .tc main_v42)) := by
  have hl : (hostOps0_7 (F := F) : List (HloOp τ sig (Elt F))) = ((hostOps0_7 (F := F)).take 23) ++ (kg1 ++ ((hostOps0_7 (F := F)).drop 245)) := rfl
  rw [hl, after_append, after_append]
  have e1 : (after kg1 (after ((hostOps0_7 (F := F)).take 23) W) (Proc.devRef .tc main_call4_call0_v18_0)) = _ := (congrArg Prod.fst (kg1_all (after ((hostOps0_7 (F := F)).take 23) W))).symm
  have e2 : (after kg1 (after ((hostOps0_7 (F := F)).take 23) W) (Proc.devRef .tc main_call4_call0_v18_1)) = _ := (congrArg Prod.snd (kg1_all (after ((hostOps0_7 (F := F)).take 23) W))).symm
  have e3 : (after kg1 (after ((hostOps0_7 (F := F)).take 23) W) (Proc.devRef .tc main_call4_call0_v1)) = after ((hostOps0_7 (F := F)).take 23) W (Proc.devRef .tc main_call4_call0_v1) := by after_reads_simp
  have e4 : (after kg1 (after ((hostOps0_7 (F := F)).take 23) W) (Proc.devRef .tc main_call4_call0_v2)) = after ((hostOps0_7 (F := F)).take 23) W (Proc.devRef .tc main_call4_call0_v2) := by after_reads_simp
  generalize after kg1 (after ((hostOps0_7 (F := F)).take 23) W) = W2 at e1 e2 e3 e4 ⊢
  after_reads_simp
  rw [e1, e2, e3, e4]
  after_reads_simp
  unfold Cert.On_agrees.fn_gumbel Cert.On_agrees.fn_uniform Cert.On_agrees.fn_uniform_part1
  rfl

end Cert.KernelIdeal.Gen

end
-- ==== Proof.KWords.lean ====
module

public import proofs.«01_k».proof.Proof.Body
public import proofs.«01_k».proof.Proof.KDraw0
public import proofs.«01_k».proof.Proof.KDraw1
public import proofs.«01_k».proof.Proof.KDraw2
public import proofs.«01_k».proof.Proof.KDraw3
public import proofs.«01_k».proof.Proof.Hub
public import Idealize.ShloMosaic.Lib.Pointwise

/-! What the host operations before the launch leave in its operands: the two draws, the two row counts, the rate. -/

@[expose] public section

set_option maxRecDepth 16384
set_option maxHeartbeats 4000000

noncomputable section

namespace Cert.KernelIdeal.Gen

open Cert.KernelIdeal.Gen Cert.KernelIdeal Idealize.ShloMosaic Idealize.ShloMosaic.TcCoe Idealize.ShloMosaic.StableHlo Idealize.SL.Sem Cert.Image

variable {F : FTy → Type} [FloatOps F]

theorem keep1_v6 (W : Valuation τ sig (Elt F)) : after (hostOps0_1 (F := F)) W (Proc.devRef .tc main_v6) = W (Proc.devRef .tc main_v6) := by
  after_reads_simp

theorem keep2_v6 (W : Valuation τ sig (Elt F)) : after (hostOps0_2 (F := F)) W (Proc.devRef .tc main_v6) = W (Proc.devRef .tc main_v6) := by
  after_reads_simp

theorem keep3_v6 (W : Valuation τ sig (Elt F)) : after (hostOps0_3 (F := F)) W (Proc.devRef .tc main_v6) = W (Proc.devRef .tc main_v6) := by
  after_reads_simp

theorem keep4_v6 (W : Valuation τ sig (Elt F)) : after (hostOps0_4 (F := F)) W (Proc.devRef .tc main_v6) = W (Proc.devRef .tc main_v6) := by
  after_reads_simp

theorem keep5_v6 (W : Valuation τ sig (Elt F)) : after (hostOps0_5 (F := F)) W (Proc.devRef .tc main_v6) = W (Proc.devRef .tc main_v6) := by
  after_reads_simp

theorem keep1_v37 (W : Valuation τ sig (Elt F)) : after (hostOps0_1 (F := F)) W (Proc.devRef .tc main_v37) = W (Proc.devRef .tc main_v37) := by
  after_reads_simp

theorem keep2_v37 (W : Valuation τ sig (Elt F)) : after (hostOps0_2 (F := F)) W (Proc.devRef .tc main_v37) = W (Proc.devRef .tc main_v37) := by
  after_reads_simp

theorem keep3_v37 (W : Valuation τ sig (Elt F)) : after (hostOps0_3 (F := F)) W (Proc.devRef .tc main_v37) = W (Proc.devRef .tc main_v37) := by
  after_reads_simp

theorem keep4_v37 (W : Valuation τ sig (Elt F)) : after (hostOps0_4 (F := F)) W (Proc.devRef .tc main_v37) = W (Proc.devRef .tc main_v37) := by
  after_reads_simp

theorem keep5_v37 (W : Valuation τ sig (Elt F)) : after (hostOps0_5 (F := F)) W (Proc.devRef .tc main_v37) = W (Proc.devRef .tc main_v37) := by
  after_reads_simp

theorem keep6_v37 (W : Valuation τ sig (Elt F)) : after (hostOps0_6 (F := F)) W (Proc.devRef .tc main_v37) = W (Proc.devRef .tc main_v37) := by
  after_reads_simp

theorem keep7_v37 (W : Valuation τ sig (Elt F)) : after (hostOps0_7 (F := F)) W (Proc.devRef .tc main_v37) = W (Proc.devRef .tc main_v37) := by
  after_reads_simp

theorem keep5_v41 (W : Valuation τ sig (Elt F)) : after (hostOps0_5 (F := F)) W (Proc.devRef .tc main_v41) = W (Proc.devRef .tc main_v41) := by
  after_reads_simp

theorem keep6_v41 (W : Valuation τ sig (Elt F)) : after (hostOps0_6 (F := F)) W (Proc.devRef .tc main_v41) = W (Proc.devRef .tc main_v41) := by
  after_reads_simp

theorem keep7_v41 (W : Valuation τ sig (Elt F)) : after (hostOps0_7 (F := F)) W (Proc.devRef .tc main_v41) = W (Proc.devRef .tc main_v41) := by
  after_reads_simp

theorem keep8_v41 (W : Valuation τ sig (Elt F)) : after (hostOps0_8 (F := F)) W (Proc.devRef .tc main_v41) = W (Proc.devRef .tc main_v41) := by
  after_reads_simp

theorem keep9_v41 (W : Valuation τ sig (Elt F)) : after (hostOps0_9 (F := F)) W (Proc.devRef .tc main_v41) = W (Proc.devRef .tc main_v41) := by
  after_reads_simp

theorem keep10_v41 (W : Valuation τ sig (Elt F)) : after (hostOps0_10 (F := F)) W (Proc.devRef .tc main_v41) = W (Proc.devRef .tc main_v41) := by
  after_reads_simp

theorem keep11_v41 (W : Valuation τ sig (Elt F)) : after (hostOps0_11 (F := F)) W (Proc.devRef .tc main_v41) = W (Proc.devRef .tc main_v41) := by
  after_reads_simp

theorem keep12_v41 (W : Valuation τ sig (Elt F)) : after (hostOps0_12 (F := F)) W (Proc.devRef .tc main_v41) = W (Proc.devRef .tc main_v41) := by
  after_reads_simp

theorem keep13_v41 (W : Valuation τ sig (Elt F)) : after (hostOps0_13 (F := F)) W (Proc.devRef .tc main_v41) = W (Proc.devRef .tc main_v41) := by
  after_reads_simp

theorem keep14_v41 (W : Valuation τ sig (Elt F)) : after (hostOps0_14 (F := F)) W (Proc.devRef .tc main_v41) = W (Proc.devRef .tc main_v41) := by
  after_reads_simp

theorem keep15_v41 (W : Valuation τ sig (Elt F)) : after (hostOps0_15 (F := F)) W (Proc.devRef .tc main_v41) = W (Proc.devRef .tc main_v41) := by
  after_reads_simp

theorem keep16_v41 (W : Valuation τ sig (Elt F)) : after (hostOps0_16 (F := F)) W (Proc.devRef .tc main_v41) = W (Proc.devRef .tc main_v41) := by
  after_reads_simp

theorem keep17_v41 (W : Valuation τ sig (Elt F)) : after (hostOps0_17 (F := F)) W (Proc.devRef .tc main_v41) = W (Proc.devRef .tc main_v41) := by
  after_reads_simp

theorem keep18_v41 (W : Valuation τ sig (Elt F)) : after (hostOps0_18 (F := F)) W (Proc.devRef .tc main_v41) = W (Proc.devRef .tc main_v41) := by
  after_reads_simp

theorem keep10_v45 (W : Valuation τ sig (Elt F)) : after (hostOps0_10 (F := F)) W (Proc.devRef .tc main_v45) = W (Proc.devRef .tc main_v45) := by
  after_reads_simp

theorem keep11_v45 (W : Valuation τ sig (Elt F)) : after (hostOps0_11 (F := F)) W (Proc.devRef .tc main_v45) = W (Proc.devRef .tc main_v45) := by
  after_reads_simp

theorem keep12_v45 (W : Valuation τ sig (Elt F)) : after (hostOps0_12 (F := F)) W (Proc.devRef .tc main_v45) = W (Proc.devRef .tc main_v45) := by
  after_reads_simp

theorem keep13_v45 (W : Valuation τ sig (Elt F)) : after (hostOps0_13 (F := F)) W (Proc.devRef .tc main_v45) = W (Proc.devRef .tc main_v45) := by
  after_reads_simp

theorem keep14_v45 (W : Valuation τ sig (Elt F)) : after (hostOps0_14 (F := F)) W (Proc.devRef .tc main_v45) = W (Proc.devRef .tc main_v45) := by
  after_reads_simp

theorem keep15_v45 (W : Valuation τ sig (Elt F)) : after (hostOps0_15 (F := F)) W (Proc.devRef .tc main_v45) = W (Proc.devRef .tc main_v45) := by
  after_reads_simp

theorem keep16_v45 (W : Valuation τ sig (Elt F)) : after (hostOps0_16 (F := F)) W (Proc.devRef .tc main_v45) = W (Proc.devRef .tc main_v45) := by
  after_reads_simp

theorem keep17_v45 (W : Valuation τ sig (Elt F)) : after (hostOps0_17 (F := F)) W (Proc.devRef .tc main_v45) = W (Proc.devRef .tc main_v45) := by
  after_reads_simp

theorem keep18_v45 (W : Valuation τ sig (Elt F)) : after (hostOps0_18 (F := F)) W (Proc.devRef .tc main_v45) = W (Proc.devRef .tc main_v45) := by
  after_reads_simp

theorem keep11_v47 (W : Valuation τ sig (Elt F)) : after (hostOps0_11 (F := F)) W (Proc.devRef .tc main_v47) = W (Proc.devRef .tc main_v47) := by
  after_reads_simp

theorem keep12_v47 (W : Valuation τ sig (Elt F)) : after (hostOps0_12 (F := F)) W (Proc.devRef .tc main_v47) = W (Proc.devRef .tc main_v47) := by
  after_reads_simp

theorem keep12_v50 (W : Valuation τ sig (Elt F)) : after (hostOps0_12 (F := F)) W (Proc.devRef .tc main_v50) = W (Proc.devRef .tc main_v50) := by
  after_reads_simp

theorem keep15_v52 (W : Valuation τ sig (Elt F)) : after (hostOps0_15 (F := F)) W (Proc.devRef .tc main_v52) = W (Proc.devRef .tc main_v52) := by
  after_reads_simp

theorem keep16_v52 (W : Valuation τ sig (Elt F)) : after (hostOps0_16 (F := F)) W (Proc.devRef .tc main_v52) = W (Proc.devRef .tc main_v52) := by
  after_reads_simp

theorem keep17_v52 (W : Valuation τ sig (Elt F)) : after (hostOps0_17 (F := F)) W (Proc.devRef .tc main_v52) = W (Proc.devRef .tc main_v52) := by
  after_reads_simp

theorem keep18_v52 (W : Valuation τ sig (Elt F)) : after (hostOps0_18 (F := F)) W (Proc.devRef .tc main_v52) = W (Proc.devRef .tc main_v52) := by
  after_reads_simp

theorem keep15_v54 (W : Valuation τ sig (Elt F)) : after (hostOps0_15 (F := F)) W (Proc.devRef .tc main_v54) = W (Proc.devRef .tc main_v54) := by
  after_reads_simp

theorem keep16_v54 (W : Valuation τ sig (Elt F)) : after (hostOps0_16 (F := F)) W (Proc.devRef .tc main_v54) = W (Proc.devRef .tc main_v54) := by
  after_reads_simp

theorem keep16_v57 (W : Valuation τ sig (Elt F)) : after (hostOps0_16 (F := F)) W (Proc.devRef .tc main_v57) = W (Proc.devRef .tc main_v57) := by
  after_reads_simp

theorem keep0_arg2 (W : Valuation τ sig (Elt F)) : after (hostOps0 (F := F)) W (Proc.devRef .tc main_arg2) = W (Proc.devRef .tc main_arg2) := by
  after_reads_simp

theorem keep1_arg2 (W : Valuation τ sig (Elt F)) : after (hostOps0_1 (F := F)) W (Proc.devRef .tc main_arg2) = W (Proc.devRef .tc main_arg2) := by
  after_reads_simp

theorem keep2_arg2 (W : Valuation τ sig (Elt F)) : after (hostOps0_2 (F := F)) W (Proc.devRef .tc main_arg2) = W (Proc.devRef .tc main_arg2) := by
  after_reads_simp

theorem keep3_arg2 (W : Valuation τ sig (Elt F)) : after (hostOps0_3 (F := F)) W (Proc.devRef .tc main_arg2) = W (Proc.devRef .tc main_arg2) := by
  after_reads_simp

theorem keep4_arg2 (W : Valuation τ sig (Elt F)) : after (hostOps0_4 (F := F)) W (Proc.devRef .tc main_arg2) = W (Proc.devRef .tc main_arg2) := by
  after_reads_simp

theorem keep5_arg2 (W : Valuation τ sig (Elt F)) : after (hostOps0_5 (F := F)) W (Proc.devRef .tc main_arg2) = W (Proc.devRef .tc main_arg2) := by
  after_reads_simp

theorem keep6_arg2 (W : Valuation τ sig (Elt F)) : after (hostOps0_6 (F := F)) W (Proc.devRef .tc main_arg2) = W (Proc.devRef .tc main_arg2) := by
  after_reads_simp

theorem keep7_arg2 (W : Valuation τ sig (Elt F)) : after (hostOps0_7 (F := F)) W (Proc.devRef .tc main_arg2) = W (Proc.devRef .tc main_arg2) := by
  after_reads_simp

theorem keep8_arg2 (W : Valuation τ sig (Elt F)) : after (hostOps0_8 (F := F)) W (Proc.devRef .tc main_arg2) = W (Proc.devRef .tc main_arg2) := by
  after_reads_simp

theorem keep9_arg2 (W : Valuation τ sig (Elt F)) : after (hostOps0_9 (F := F)) W (Proc.devRef .tc main_arg2) = W (Proc.devRef .tc main_arg2) := by
  after_reads_simp

theorem keep10_arg2 (W : Valuation τ sig (Elt F)) : after (hostOps0_10 (F := F)) W (Proc.devRef .tc main_arg2) = W (Proc.devRef .tc main_arg2) := by
  after_reads_simp

theorem keep11_arg2 (W : Valuation τ sig (Elt F)) : after (hostOps0_11 (F := F)) W (Proc.devRef .tc main_arg2) = W (Proc.devRef .tc main_arg2) := by
  after_reads_simp

theorem keep12_arg2 (W : Valuation τ sig (Elt F)) : after (hostOps0_12 (F := F)) W (Proc.devRef .tc main_arg2) = W (Proc.devRef .tc main_arg2) := by
  after_reads_simp

theorem keep13_arg2 (W : Valuation τ sig (Elt F)) : after (hostOps0_13 (F := F)) W (Proc.devRef .tc main_arg2) = W (Proc.devRef .tc main_arg2) := by
  after_reads_simp

theorem keep14_arg2 (W : Valuation τ sig (Elt F)) : after (hostOps0_14 (F := F)) W (Proc.devRef .tc main_arg2) = W (Proc.devRef .tc main_arg2) := by
  after_reads_simp

theorem keep15_arg2 (W : Valuation τ sig (Elt F)) : after (hostOps0_15 (F := F)) W (Proc.devRef .tc main_arg2) = W (Proc.devRef .tc main_arg2) := by
  after_reads_simp

theorem keep16_arg2 (W : Valuation τ sig (Elt F)) : after (hostOps0_16 (F := F)) W (Proc.devRef .tc main_arg2) = W (Proc.devRef .tc main_arg2) := by
  after_reads_simp

theorem keep17_arg2 (W : Valuation τ sig (Elt F)) : after (hostOps0_17 (F := F)) W (Proc.devRef .tc main_arg2) = W (Proc.devRef .tc main_arg2) := by
  after_reads_simp

theorem host_key (W : Valuation τ sig (Elt F)) : after (hostOps0 (F := F)) W (Proc.devRef .tc main_v6) = Cert.On_agrees.key := by
  have hp : after (hostOps0 (F := F)) W (Proc.devRef .tc main_v6)
      = (fun a b => concatenate S2 0 [⟨S1, a⟩, ⟨S1, b⟩] concatenates_S1_S1_S2_d0) (after (hostOps0 (F := F)) W (Proc.devRef .tc main_v2)) (after (hostOps0 (F := F)) W (Proc.devRef .tc main_v5)) := by
    after_reads_simp
    rfl
  refine hp.trans ?_
  unfold Cert.On_agrees.key
  refine congrArg₂ (fun a b => concatenate S2 0 [⟨S1, a⟩, ⟨S1, b⟩] concatenates_S1_S1_S2_d0) ?_ ?_
  · after_reads_simp
  · after_reads_simp

theorem host_logits (W : Valuation τ sig (Elt F)) : after (hostOps0 (F := F)) W (Proc.devRef .tc main_v37) = Cert.On_agrees.logits (F := F) (W (Proc.devRef .tc main_arg1)) := by
  unfold Cert.On_agrees.logits
  after_reads_simp
  try rfl

theorem host_step0 (W : Valuation τ sig (Elt F)) : after (hostOps0 (F := F)) W (Proc.devRef .tc main_c_10) = constantI S_ 32 0#32 := by
  after_reads_simp
  try rfl

theorem host_step1 (W : Valuation τ sig (Elt F)) : after (hostOps0_5 (F := F)) W (Proc.devRef .tc main_c_11) = constantI S_ 32 1#32 := by
  after_reads_simp
  try rfl

theorem host_sum3 (W : Valuation τ sig (Elt F)) : after (hostOps0_3 (F := F)) W (Proc.devRef .tc main_v40)
    = addf (W (Proc.devRef .tc main_v39) : FVec F S128x8 .f32) (W (Proc.devRef .tc main_v37) : FVec F S128x8 .f32) := by
  after_reads_simp
  try rfl

theorem host_argmax4 (W : Valuation τ sig (Elt F)) : after (hostOps0_4 (F := F)) W (Proc.devRef .tc main_v41)
    = Cert.On_agrees.fn_argmax (F := F) (W (Proc.devRef .tc main_v40) : FVec F S128x8 .f32) := by
  unfold Cert.On_agrees.fn_argmax
  after_reads_simp
  try rfl

theorem host_sum8 (W : Valuation τ sig (Elt F)) : after (hostOps0_8 (F := F)) W (Proc.devRef .tc main_v44)
    = addf (W (Proc.devRef .tc main_v43) : FVec F S128x8 .f32) (W (Proc.devRef .tc main_v37) : FVec F S128x8 .f32) := by
  after_reads_simp
  try rfl

theorem host_argmax9 (W : Valuation τ sig (Elt F)) : after (hostOps0_9 (F := F)) W (Proc.devRef .tc main_v45)
    = Cert.On_agrees.fn_argmax (F := F) (W (Proc.devRef .tc main_v44) : FVec F S128x8 .f32) := by
  unfold Cert.On_agrees.fn_argmax
  after_reads_simp
  try rfl

/-- The first draw. -/
theorem host_draw0 (W : Valuation τ sig (Elt F)) : after (hostOps0_4 (F := F)) (after (hostOps0_3 (F := F)) (after (hostOps0_2 (F := F)) (after (hostOps0_1 (F := F)) (after (hostOps0 (F := F)) W)))) (Proc.devRef .tc main_v41)
    = Cert.On_agrees.draw (F := F) 0#32 (W (Proc.devRef .tc main_arg1)) := by
  rw [host_argmax4, host_sum3, kgum0, kfold0, host_key, host_step0, keep2_v37, keep1_v37, host_logits]
  rfl

/-- The second draw. -/
theorem host_draw1 (W : Valuation τ sig (Elt F)) : after (hostOps0_9 (F := F)) (after (hostOps0_8 (F := F)) (after (hostOps0_7 (F := F)) (after (hostOps0_6 (F := F)) (after (hostOps0_5 (F := F)) (after (hostOps0_4 (F := F)) (after (hostOps0_3 (F := F)) (after (hostOps0_2 (F := F)) (after (hostOps0_1 (F := F)) (after (hostOps0 (F := F)) W))))))))) (Proc.devRef .tc main_v45)
    = Cert.On_agrees.draw (F := F) 1#32 (W (Proc.devRef .tc main_arg1)) := by
  rw [host_argmax9, host_sum8, kgum1, kfold1, host_step1, keep5_v6, keep4_v6, keep3_v6, keep2_v6, keep1_v6, host_key,
    keep7_v37, keep6_v37, keep5_v37, keep4_v37, keep3_v37, keep2_v37, keep1_v37, host_logits]
  rfl

theorem pick_word (s n a b : BitVec 32) : Scalar.select (IntOp.cmpi .eq s n) a b = if s = n then a else b := by
  by_cases h : s = n
  · subst h; simp [IntOp.cmpi, Scalar.select]
  · have e : (s == n) = false := beq_false_of_ne h
    simp [IntOp.cmpi, Scalar.select, h, e]

/-- The row counts of the first draw, from the two draws. -/
theorem host_rows1 (W : Valuation τ sig (Elt F)) (b : Fin 128) : ((after (hostOps0_14 (F := F)) (after (hostOps0_13 (F := F)) (after (hostOps0_12 (F := F)) (after (hostOps0_11 (F := F)) (after (hostOps0_10 (F := F)) W))))) (Proc.devRef .tc main_v52) : IVec S128 32) (ix1 b)
    = BitVec.ofNat 32 (rows1 ((W (Proc.devRef .tc main_v41) : IVec S128 32) (ix1 b)) ((W (Proc.devRef .tc main_v45) : IVec S128 32) (ix1 b))) := by
  have e : ((after (hostOps0_14 (F := F)) (after (hostOps0_13 (F := F)) (after (hostOps0_12 (F := F)) (after (hostOps0_11 (F := F)) (after (hostOps0_10 (F := F)) W))))) (Proc.devRef .tc main_v52) : IVec S128 32) (ix1 b)
      = Scalar.select (IntOp.cmpi .eq ((W (Proc.devRef .tc main_v41) : IVec S128 32) (ix1 b)) 2#32)
          (Scalar.select (IntOp.cmpi .eq ((W (Proc.devRef .tc main_v45) : IVec S128 32) (ix1 b)) 1#32) 224#32 120#32) 0#32 := by
    simp only [← after_append]
    after_reads_simp
    try simp -implicitDefEqProofs only [TRef.toBuf, TRef.ofBuf, cast_cast, cast_eq]
    pointwise [id_eq]
  rw [e]
  unfold rows1
  simp only [pick_word]
  split_ifs <;> rfl

/-- The row counts of the second draw, from the two draws. -/
theorem host_rows2 (W : Valuation τ sig (Elt F)) (b : Fin 128) : ((after (hostOps0_18 (F := F)) (after (hostOps0_17 (F := F)) (after (hostOps0_16 (F := F)) (after (hostOps0_15 (F := F)) (after (hostOps0_14 (F := F)) W))))) (Proc.devRef .tc main_v59) : IVec S128 32) (ix1 b)
    = BitVec.ofNat 32 (rows2 ((W (Proc.devRef .tc main_v41) : IVec S128 32) (ix1 b)) ((W (Proc.devRef .tc main_v45) : IVec S128 32) (ix1 b))) := by
  have e : ((after (hostOps0_18 (F := F)) (after (hostOps0_17 (F := F)) (after (hostOps0_16 (F := F)) (after (hostOps0_15 (F := F)) (after (hostOps0_14 (F := F)) W))))) (Proc.devRef .tc main_v59) : IVec S128 32) (ix1 b)
      = Scalar.select (IntOp.cmpi .eq ((W (Proc.devRef .tc main_v45) : IVec S128 32) (ix1 b)) 2#32)
          (Scalar.select (IntOp.cmpi .eq ((W (Proc.devRef .tc main_v41) : IVec S128 32) (ix1 b)) 2#32) 224#32 150#32) 0#32 := by
    simp only [← after_append]
    after_reads_simp
    try simp -implicitDefEqProofs only [TRef.toBuf, TRef.ofBuf, cast_cast, cast_eq]
    pointwise [id_eq]
  rw [e]
  unfold rows2
  simp only [pick_word]
  split_ifs <;> rfl

/-- The rate. -/
theorem host_rate (W : Valuation τ sig (Elt Ideal)) (j : Fin 1) : (after (hostOps0_18 (F := Ideal)) W (Proc.devRef .tc main_v61) : FVec Ideal S1 .f32) (ix1 j)
    = Ideal.div ((W (Proc.devRef .tc main_arg2) : FVec Ideal S_ .f32) ix0) (Ideal.ofBits .f32 0x41200000#32) := by
  after_reads_simp
  try simp -implicitDefEqProofs only [TRef.toBuf, TRef.ofBuf, cast_cast, cast_eq]
  pointwise [id_eq]

variable (m : (l : Loc nD τ sig) → Buf (Elt F) l) (c : Dev nD)

/-- The operands of the launch. -/
theorem V_s1 : (V m c main_v41 : IVec S128 32) = Cert.On_agrees.draw (F := F) 0#32 (m ((c : Thread nD τ).loc main_arg1)) := by
  unfold V
  simp only [List.flatten_cons, List.flatten_nil, List.append_nil, after_append]
  rw [keep18_v41, keep17_v41, keep16_v41, keep15_v41, keep14_v41, keep13_v41, keep12_v41, keep11_v41, keep10_v41, keep9_v41, keep8_v41, keep7_v41, keep6_v41, keep5_v41, host_draw0]
theorem V_s2 : (V m c main_v45 : IVec S128 32) = Cert.On_agrees.draw (F := F) 1#32 (m ((c : Thread nD τ).loc main_arg1)) := by
  unfold V
  simp only [List.flatten_cons, List.flatten_nil, List.append_nil, after_append]
  rw [keep18_v45, keep17_v45, keep16_v45, keep15_v45, keep14_v45, keep13_v45, keep12_v45, keep11_v45, keep10_v45, host_draw1]
theorem V_k1 (b : Fin 128) : (V m c main_v52 : IVec S128 32) (ix1 b)
    = BitVec.ofNat 32 (rows1 ((V m c main_v41 : IVec S128 32) (ix1 b)) ((V m c main_v45 : IVec S128 32) (ix1 b))) := by
  unfold V
  simp only [List.flatten_cons, List.flatten_nil, List.append_nil, after_append]
  rw [keep18_v52, keep17_v52, keep16_v52, keep15_v52, host_rows1, keep18_v41, keep17_v41, keep16_v41, keep15_v41, keep14_v41, keep13_v41, keep12_v41, keep11_v41, keep10_v41, keep18_v45, keep17_v45, keep16_v45, keep15_v45, keep14_v45, keep13_v45, keep12_v45, keep11_v45, keep10_v45]
theorem V_k2 (b : Fin 128) : (V m c main_v59 : IVec S128 32) (ix1 b)
    = BitVec.ofNat 32 (rows2 ((V m c main_v41 : IVec S128 32) (ix1 b)) ((V m c main_v45 : IVec S128 32) (ix1 b))) := by
  unfold V
  simp only [List.flatten_cons, List.flatten_nil, List.append_nil, after_append]
  rw [host_rows2, keep18_v41, keep17_v41, keep16_v41, keep15_v41, keep14_v41, keep18_v45, keep17_v45, keep16_v45, keep15_v45, keep14_v45]
theorem V_t (m : (l : Loc nD τ sig) → Buf (Elt Ideal) l) (j : Fin 1) : (V m c main_v61 : FVec Ideal S1 .f32) (ix1 j)
    = Ideal.div ((m ((c : Thread nD τ).loc main_arg2) : FVec Ideal S_ .f32) ix0) (Ideal.ofBits .f32 0x41200000#32) := by
  unfold V
  simp only [List.flatten_cons, List.flatten_nil, List.append_nil, after_append]
  rw [host_rate, keep17_arg2, keep16_arg2, keep15_arg2, keep14_arg2, keep13_arg2, keep12_arg2, keep11_arg2, keep10_arg2, keep9_arg2, keep8_arg2, keep7_arg2, keep6_arg2, keep5_arg2, keep4_arg2, keep3_arg2, keep2_arg2, keep1_arg2, keep0_arg2]

end Cert.KernelIdeal.Gen

end
-- ==== Proof.KRun.lean ====
module

public import proofs.«01_k».proof.Proof.KVal
public import proofs.«01_k».proof.Proof.KWords
public import Idealize.ShloMosaic.Lib.Pipeline.ValueKit
public import Idealize.ShloMosaic.Lib.Pipeline.Covers

/-! The result array of the kernel: image by image, the second draw's step of the first draw's. -/

@[expose] public section

set_option maxRecDepth 16384
set_option maxHeartbeats 2000000

noncomputable section

namespace Cert.KernelIdeal.Gen

open Cert.KernelIdeal.Gen Cert.KernelIdeal Idealize.ShloMosaic Idealize.ShloMosaic.TcCoe Idealize.ShloMosaic.StableHlo Idealize.SL.Sem Cert.Image

variable (m : (l : Loc nD τ sig) → Buf (Elt Ideal) l) (c : Dev nD)

/-- The image of a grid point. -/
def pt (t : Fin cfg0.N) : Fin 128 := grid0.coords t 0

theorem idx0 (t : Fin cfg0.N) : win0_0.index t 0 = 0 := rfl
theorem idx1 (t : Fin cfg0.N) : win0_1.index t 0 = 0 := rfl
theorem idx2 (t : Fin cfg0.N) : win0_2.index t 0 = 0 := rfl
theorem idx3 (t : Fin cfg0.N) : win0_3.index t 0 = 0 := rfl
theorem idx4 (t : Fin cfg0.N) : win0_4.index t 0 = 0 := rfl
theorem idx5 : ∀ t : Fin cfg0.N, win0_5.index t = ![(grid0.coords t 0).val, 0, 0, 0] := by decide +kernel
theorem idx6 : ∀ t : Fin cfg0.N, win0_6.index t = ![(grid0.coords t 0).val, 0, 0, 0] := by decide +kernel

theorem iblk_s1 (t : Fin cfg0.N) (b : Fin 128) : (iblk m c 0 t : Vec Ideal S128 .i32) (ix1 b) = (V m c main_v41 : IVec S128 32) (ix1 b) := by
  blk_ext [iblk, V, idx0 t]
theorem iblk_s2 (t : Fin cfg0.N) (b : Fin 128) : (iblk m c 1 t : Vec Ideal S128 .i32) (ix1 b) = (V m c main_v45 : IVec S128 32) (ix1 b) := by
  blk_ext [iblk, V, idx1 t]
theorem iblk_k1 (t : Fin cfg0.N) (b : Fin 128) : (iblk m c 2 t : Vec Ideal S128 .i32) (ix1 b) = (V m c main_v52 : IVec S128 32) (ix1 b) := by
  blk_ext [iblk, V, idx2 t]
theorem iblk_k2 (t : Fin cfg0.N) (b : Fin 128) : (iblk m c 3 t : Vec Ideal S128 .i32) (ix1 b) = (V m c main_v59 : IVec S128 32) (ix1 b) := by
  blk_ext [iblk, V, idx3 t]
theorem iblk_t (t : Fin cfg0.N) (b : Fin 1) : (iblk m c 4 t : Vec Ideal S1 .f32) (ix1 b) = (V m c main_v61 : FVec Ideal S1 .f32) (ix1 b) := by
  blk_ext [iblk, V, idx4 t]
theorem iblk_x (t : Fin cfg0.N) : img (iblk m c 5 t) = fun k r w => (m ((c : Thread nD τ).loc main_arg0) : FVec Ideal S128x3x224x224 .f32) (ix4 (pt t) k r w) := by
  funext k r w
  unfold img
  refine Eq.trans ?_ (congrFun (V_main_arg0 m c) (ix4 (pt t) k r w))
  blk_ext [iblk, pt, idx5 t]

/-- The two draws at an image and the rate. -/
abbrev s1At (b : Fin 128) : BitVec 32 := Cert.On_agrees.draw (F := Ideal) 0#32 (m ((c : Thread nD τ).loc main_arg1)) (ix1 b)
abbrev s2At (b : Fin 128) : BitVec 32 := Cert.On_agrees.draw (F := Ideal) 1#32 (m ((c : Thread nD τ).loc main_arg1)) (ix1 b)
abbrev tAt : EReal := Ideal.div ((m ((c : Thread nD τ).loc main_arg2) : FVec Ideal S_ .f32) ix0) (Ideal.ofBits .f32 0x41200000#32)
abbrev xAt (b : Fin 128) : Img := fun k r w => (m ((c : Thread nD τ).loc main_arg0) : FVec Ideal S128x3x224x224 .f32) (ix4 b k r w)

theorem rows1_le (s1 s2 : BitVec 32) : rows1 s1 s2 ≤ 224 := by unfold rows1; split_ifs <;> omega
theorem rows2_le (s1 s2 : BitVec 32) : rows2 s1 s2 ≤ 224 := by unfold rows2; split_ifs <;> omega

/-- What the kernel makes of image `b`. -/
def made (b : Fin 128) : Img :=
  kstep (s2At m c b) (rows2 (s1At m c b) (s2At m c b)) (tAt m c) (kstep (s1At m c b) (rows1 (s1At m c b) (s2At m c b)) (tAt m c) (xAt m c b))

theorem point (t : Fin cfg0.N) :
    img (outOf (grid0.coords t) (iblk m c 0 t) (iblk m c 1 t) (iblk m c 2 t) (iblk m c 3 t) (iblk m c 4 t) (iblk m c 5 t)) = made m c (pt t) := by
  have o1 : k0_off1 (grid0.coords t) 0 = (pt t).val := congrFun (k0_off1_eq _) 0
  have o2 : k0_off2 (grid0.coords t) 0 = (pt t).val := congrFun (k0_off2_eq _) 0
  have o3 : k0_off3 (grid0.coords t) 0 = (pt t).val := congrFun (k0_off3_eq _) 0
  have v1 := congrFun (V_s1 m c) (ix1 (pt t))
  have v2 := congrFun (V_s2 m c) (ix1 (pt t))
  have v3 := V_k1 m c (pt t)
  have v4 := V_k2 m c (pt t)
  rw [v1, v2] at v3 v4
  have h := outOf_img (grid0.coords t) (iblk m c 0 t) (iblk m c 1 t) (iblk m c 2 t) (iblk m c 3 t) (iblk m c 4 t) (iblk m c 5 t)
    (s1At m c (pt t)) (s2At m c (pt t)) (rows1 (s1At m c (pt t)) (s2At m c (pt t))) (rows2 (s1At m c (pt t)) (s2At m c (pt t))) (tAt m c)
    ((wordAt_eq _ _ _ (pt t) o1).trans ((iblk_s1 m c t _).trans v1))
    ((wordAt_eq _ _ _ (pt t) o1).trans ((iblk_s2 m c t _).trans v2))
    ((wordAt_eq _ _ _ (pt t) o2).trans ((iblk_k1 m c t _).trans v3))
    ((wordAt_eq _ _ _ (pt t) o3).trans ((iblk_k2 m c t _).trans v4))
    ((rateAt_eq _).trans ((iblk_t m c t _).trans (V_t c m 0)))
    (Cert.On_agrees.draw_lt _ _ _) (Cert.On_agrees.draw_lt _ _ _) (rows1_le _ _) (rows2_le _ _)
  rw [h, iblk_x m c t]
  rfl

/-- The result array. -/
theorem result : (dats m 0 c).arrAt 6 cfg0.N = (fun i => made m c (i 0) (i 1) (i 2) (i 3) : S128x3x224x224.Idx → EReal) := by
  refine (dats m 0 c).arrAt_eq_of_covers 6 _ (by decide +kernel) fun t hf y => ?_
  blk_simp [idx6 t]
  rw [after0_6]
  have key := congrFun (congrFun (congrFun (point m c t) (y 1)) (y 2)) (y 3)
  have hy : (y : S1x3x224x224.Idx) = ix4 0 (y 1) (y 2) (y 3) := by
    funext a
    fin_cases a
    · exact Subsingleton.elim (α := Fin 1) _ _
    · rfl
    · rfl
    · rfl
  have h0 : (win0_6.blk t).view.emb y 0 = pt t := Fin.ext (by blk_simp [idx6 t, pt])
  have h1 : (win0_6.blk t).view.emb y 1 = y 1 := Fin.ext (by blk_simp [idx6 t]; try simp)
  have h2 : (win0_6.blk t).view.emb y 2 = y 2 := Fin.ext (by blk_simp [idx6 t]; try simp)
  have h3 : (win0_6.blk t).view.emb y 3 = y 3 := Fin.ext (by blk_simp [idx6 t]; try simp)
  rw [h0, h1, h2, h3, ← key]
  exact congrArg (outOf (grid0.coords t) (iblk m c 0 t) (iblk m c 1 t) (iblk m c 2 t) (iblk m c 3 t) (iblk m c 4 t) (iblk m c 5 t)) hy

end Cert.KernelIdeal.Gen

end
-- ==== Proof.DrawnBody.lean ====
module
public import proofs.«01_k».proof.Proof.Gen.KernelDrawnIdeal.Skeleton
public import proofs.«01_k».proof.Proof.Gen.KernelDrawnIdeal.Launch
public import proofs.«01_k».proof.Proof.Gen.KernelDrawnIdeal.Points
public import proofs.«01_k».proof.Proof.Gen.KernelDrawnIdeal.Frame
public import Idealize.ShloMosaic.Lib.Pipeline.ValueKit.Basic
public import Idealize.ShloMosaic.Lib.Claim
/-! The kernel's body, its run and its frame, at any interpretation of the floating-point types.

The body is cut into stages, each a program that takes what follows it as an argument: the branch that the first draw
selects, the horizontal flip, the vertical flip, and the three again for the second draw. Each stage has one rule, so the
eight branches of one draw are never multiplied by those of the other. -/

@[expose] public section
set_option maxRecDepth 16384
noncomputable section
namespace Cert.KernelDrawnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The whole block of one image. -/
abbrev rX : Rect S1x2x224x4 := Rect.unit (s := S1x2x224x4) ![0, 0, 0, 0] S1x2x224x4.size inb_S1x2x224x4_S1x2x224x4_0_0_0_0

/-- One branch of the body: read an image, write its transform over the output block, go on. -/
def put (src dst : Memref sig .tc .vmem S1x2x224x4 .f32) (pay : Vec F S1x2x224x4 .f32 → FVec F S1x2x224x4 .f32)
    (k : Prog (TpuEff nD τ sig (Elt F) Λ₀ .tc) PUnit) : Prog (TpuEff nD τ sig (Elt F) Λ₀ .tc) PUnit := do
  let v : Vec F S1x2x224x4 .f32 ← Prog.lift (.load src rX.toLoadRect (View.loadsAt_vmem h_S1x2x224x4))
  let _w : Vec F S1x2x224x4 .f32 ← Prog.lift (.load dst rX.toLoadRect (View.loadsAt_vmem h_S1x2x224x4))
  Prog.lift (.store dst rX (pay v) Finset.univ (View.stores_vmem_bits_univ h_S1x2x224x4 rfl) (.inl rfl))
  k

theorem coverX (p : Vec F S1x2x224x4 .f32) (y : S1x2x224x4.Idx) :
    ∃ pc ∈ ([⟨rX, p⟩] : List (View.Piece (Elt F) S1x2x224x4 .f32)), y ∈ pc.1.set :=
  View.cover_of_tiled [⟨rX, p⟩] S1x2x224x4.size (by rfl) y

theorem put_self (c : Dev nD) (E : Set ℕ) (a : Memref sig .tc .vmem S1x2x224x4 .f32)
    (pay : Vec F S1x2x224x4 .f32 → FVec F S1x2x224x4 .f32) (y : Vec F S1x2x224x4 .f32)
    (k : Prog (TpuEff nD τ sig (Elt F) Λ₀ .tc) PUnit) (K : PUnit → sProp 𝕄) :
    iprop(owns (c : Thread nD τ) a fullShare y ∗ (owns (c : Thread nD τ) a fullShare (pay y) -∗ wp frame (wpE (defs₀ (F := F)) Variants.none c none) E k K))
      ⊢ wp frame (wpE (defs₀ (F := F)) Variants.none c none) E (put a a pay k) K := by
  unfold put
  unfold owns
  iintro ⟨⟨%f, %hf, H⟩, Hk⟩
  subst hf
  sl_exec
  iapply Hk
  iexists _
  isplitr
  swap
  · iexact H
  ipureintro
  rw [View.read_writes_eq_canon _ _ _ (coverX _), View.readAt_eq_ld, View.ld_unit_lit _ _ (by decide)]
  exact View.canon_cons_unit_lit _ _ _ (by decide)

theorem put_new (c : Dev nD) (E : Set ℕ) (a b : Memref sig .tc .vmem S1x2x224x4 .f32)
    (pay : Vec F S1x2x224x4 .f32 → FVec F S1x2x224x4 .f32) (x : Vec F S1x2x224x4 .f32)
    (k : Prog (TpuEff nD τ sig (Elt F) Λ₀ .tc) PUnit) (K : PUnit → sProp 𝕄) :
    iprop(owns (c : Thread nD τ) a fullShare x ∗ (∃ d, owns (c : Thread nD τ) b fullShare d)
        ∗ (iprop(owns (c : Thread nD τ) a fullShare x ∗ owns (c : Thread nD τ) b fullShare (pay x)) -∗ wp frame (wpE (defs₀ (F := F)) Variants.none c none) E k K))
      ⊢ wp frame (wpE (defs₀ (F := F)) Variants.none c none) E (put a b pay k) K := by
  unfold put
  unfold owns
  iintro ⟨⟨%f, %hf, H⟩, ⟨%d, %g, -, G⟩, Hk⟩
  subst hf
  sl_exec
  iapply Hk
  isplitl [H]
  · iexists f
    isplitr
    · ipureintro; rfl
    iexact H
  iexists _
  isplitr
  swap
  · iexact G
  ipureintro
  rw [View.read_writes_eq_canon _ _ _ (coverX _), View.readAt_eq_ld, View.ld_unit_lit _ _ (by decide)]
  exact View.canon_cons_unit_lit _ _ _ (by decide)

/-! ## The body's stages, each with what follows it as an argument -/

/-- The one of eight alternatives that the draw `v`, clamped to 0 … 7, selects. -/
def pick {α : Type _} (v : BitVec 32) (a0 a1 a2 a3 a4 a5 a6 a7 : α) : α :=
  let v5 : BitVec 32 := Scalar.maxsi v 0#32
  let v6 : BitVec 32 := Scalar.minsi v5 7#32
  if Scalar.cmpi .ne v6 0#32 = 1#1 then
    let w1 : BitVec 32 := Scalar.subi v6 1#32
    if Scalar.cmpi .ne w1 0#32 = 1#1 then
      let w2 : BitVec 32 := Scalar.subi w1 1#32
      if Scalar.cmpi .ne w2 0#32 = 1#1 then
        let w3 : BitVec 32 := Scalar.subi w2 1#32
        if Scalar.cmpi .ne w3 0#32 = 1#1 then
          let w4 : BitVec 32 := Scalar.subi w3 1#32
          if Scalar.cmpi .ne w4 0#32 = 1#1 then
            let w5 : BitVec 32 := Scalar.subi w4 1#32
            if Scalar.cmpi .ne w5 0#32 = 1#1 then
              let w6 : BitVec 32 := Scalar.subi w5 1#32
              if Scalar.cmpi .ne w6 0#32 = 1#1 then
                a7
              else a6
            else a5
          else a4
        else a3
      else a2
    else a1
  else a0

/-- The first transformation: the branch that the first draw `v1` selects, from the input block. -/
def first (v1 : Elt F .i32) (v4 : Elt F .f32) (a b : Memref sig .tc .vmem S1x2x224x4 .f32) (k : Prog (TpuEff nD τ sig (Elt F) Λ₀ .tc) PUnit) : Prog (TpuEff nD τ sig (Elt F) Λ₀ .tc) PUnit :=
  pick v1 (put a b k0_pay8 k) (put a b k0_pay7 k) (put a b k0_pay6 k) (put a b (k0_pay5 v4) k) (put a b (k0_pay4 v4) k) (put a b k0_pay3 k) (put a b (k0_pay2 v4) k) (put a b (k0_pay1 v4) k)

/-- What it leaves of the image `x`. -/
def firstOf (v1 : Elt F .i32) (v4 : Elt F .f32) (x : Vec F S1x2x224x4 .f32) : Vec F S1x2x224x4 .f32 :=
  pick v1 (k0_pay8 x) (k0_pay7 x) (k0_pay6 x) (k0_pay5 v4 x) (k0_pay4 v4 x) (k0_pay3 x) (k0_pay2 v4 x) (k0_pay1 v4 x)

/-- The second transformation, in place. -/
def second (v3 : Elt F .i32) (v4 : Elt F .f32) (b : Memref sig .tc .vmem S1x2x224x4 .f32) (k : Prog (TpuEff nD τ sig (Elt F) Λ₀ .tc) PUnit) : Prog (TpuEff nD τ sig (Elt F) Λ₀ .tc) PUnit :=
  pick v3 k k k (put b b (k0_pay15 v4) k) (put b b (k0_pay14 v4) k) (put b b k0_pay13 k) (put b b (k0_pay12 v4) k) (put b b (k0_pay11 v4) k)

/-- What it leaves of the image `x`. -/
def secondOf (v3 : Elt F .i32) (v4 : Elt F .f32) (x : Vec F S1x2x224x4 .f32) : Vec F S1x2x224x4 .f32 :=
  pick v3 x x x (k0_pay15 v4 x) (k0_pay14 v4 x) (k0_pay13 x) (k0_pay12 v4 x) (k0_pay11 v4 x)

/-- A step in place that is taken where the bit `t` says so. -/
def maybe (t : BitVec 1) (b : Memref sig .tc .vmem S1x2x224x4 .f32) (pay : Vec F S1x2x224x4 .f32 → FVec F S1x2x224x4 .f32) (k : Prog (TpuEff nD τ sig (Elt F) Λ₀ .tc) PUnit) : Prog (TpuEff nD τ sig (Elt F) Λ₀ .tc) PUnit :=
  if Scalar.cmpi .ne (Scalar.extui t) 0#32 = 1#1 then put b b pay k else k

/-- What it leaves of the image `x`. -/
def maybeOf (t : BitVec 1) (pay : Vec F S1x2x224x4 .f32 → FVec F S1x2x224x4 .f32) (x : Vec F S1x2x224x4 .f32) : Vec F S1x2x224x4 .f32 :=
  if Scalar.cmpi .ne (Scalar.extui t) 0#32 = 1#1 then pay x else x

theorem stay (P Q : sProp 𝕄) : iprop(P ∗ (P -∗ Q)) ⊢ Q := by
  iintro ⟨H, Hk⟩
  iapply Hk
  iexact H

/-- From the image `x` in `a`, the program `p` goes on to `k` with `y` in `b`. -/
def Fills (c : Dev nD) (E : Set ℕ) (a b : Memref sig .tc .vmem S1x2x224x4 .f32) (x : Vec F S1x2x224x4 .f32) (k : Prog (TpuEff nD τ sig (Elt F) Λ₀ .tc) PUnit) (K : PUnit → sProp 𝕄) (p : Prog (TpuEff nD τ sig (Elt F) Λ₀ .tc) PUnit) (y : Vec F S1x2x224x4 .f32) : Prop :=
  iprop(owns (c : Thread nD τ) a fullShare x ∗ (∃ d, owns (c : Thread nD τ) b fullShare d)
        ∗ (iprop(owns (c : Thread nD τ) a fullShare x ∗ owns (c : Thread nD τ) b fullShare y) -∗ wp frame (wpE (defs₀ (F := F)) Variants.none c none) E k K))
      ⊢ wp frame (wpE (defs₀ (F := F)) Variants.none c none) E p K

theorem pick_rel {α β : Type _} (R : α → β → Prop) (v : BitVec 32) {a0 a1 a2 a3 a4 a5 a6 a7 : α} {b0 b1 b2 b3 b4 b5 b6 b7 : β}
    (h0 : R a0 b0) (h1 : R a1 b1) (h2 : R a2 b2) (h3 : R a3 b3) (h4 : R a4 b4) (h5 : R a5 b5) (h6 : R a6 b6) (h7 : R a7 b7) :
    R (pick v a0 a1 a2 a3 a4 a5 a6 a7) (pick v b0 b1 b2 b3 b4 b5 b6 b7) := by
  have ite {t : Prop} [Decidable t] {p q : α} {y z : β} (h : R p y) (h' : R q z) : R (if t then p else q) (if t then y else z) := by
    split
    · exact h
    · exact h'
  unfold pick
  exact ite (ite (ite (ite (ite (ite (ite (h7) (h6)) (h5)) (h4)) (h3)) (h2)) (h1)) (h0)

theorem first_sound (c : Dev nD) (E : Set ℕ) (v1 : Elt F .i32) (v4 : Elt F .f32) (a b : Memref sig .tc .vmem S1x2x224x4 .f32) (x : Vec F S1x2x224x4 .f32) (k : Prog (TpuEff nD τ sig (Elt F) Λ₀ .tc) PUnit) (K : PUnit → sProp 𝕄) :
    Fills c E a b x k K (first v1 v4 a b k) (firstOf v1 v4 x) := by
  unfold first firstOf
  exact pick_rel (Fills c E a b x k K) v1 (put_new c E a b k0_pay8 x k K) (put_new c E a b k0_pay7 x k K) (put_new c E a b k0_pay6 x k K) (put_new c E a b (k0_pay5 v4) x k K) (put_new c E a b (k0_pay4 v4) x k K) (put_new c E a b k0_pay3 x k K) (put_new c E a b (k0_pay2 v4) x k K) (put_new c E a b (k0_pay1 v4) x k K)

/-- From the image `x` in `b`, the program `p` goes on to `k` with `y` there. -/
def Turns (c : Dev nD) (E : Set ℕ) (b : Memref sig .tc .vmem S1x2x224x4 .f32) (x : Vec F S1x2x224x4 .f32) (k : Prog (TpuEff nD τ sig (Elt F) Λ₀ .tc) PUnit) (K : PUnit → sProp 𝕄) (p : Prog (TpuEff nD τ sig (Elt F) Λ₀ .tc) PUnit) (y : Vec F S1x2x224x4 .f32) : Prop :=
  iprop(owns (c : Thread nD τ) b fullShare x ∗ (owns (c : Thread nD τ) b fullShare y -∗ wp frame (wpE (defs₀ (F := F)) Variants.none c none) E k K))
      ⊢ wp frame (wpE (defs₀ (F := F)) Variants.none c none) E p K

theorem second_sound (c : Dev nD) (E : Set ℕ) (v3 : Elt F .i32) (v4 : Elt F .f32) (b : Memref sig .tc .vmem S1x2x224x4 .f32) (x : Vec F S1x2x224x4 .f32) (k : Prog (TpuEff nD τ sig (Elt F) Λ₀ .tc) PUnit) (K : PUnit → sProp 𝕄) :
    Turns c E b x k K (second v3 v4 b k) (secondOf v3 v4 x) := by
  unfold second secondOf
  exact pick_rel (Turns c E b x k K) v3 (stay _ _) (stay _ _) (stay _ _) (put_self c E b (k0_pay15 v4) x k K) (put_self c E b (k0_pay14 v4) x k K) (put_self c E b k0_pay13 x k K) (put_self c E b (k0_pay12 v4) x k K) (put_self c E b (k0_pay11 v4) x k K)

theorem maybe_sound (c : Dev nD) (E : Set ℕ) (t : BitVec 1) (b : Memref sig .tc .vmem S1x2x224x4 .f32) (pay : Vec F S1x2x224x4 .f32 → FVec F S1x2x224x4 .f32) (x : Vec F S1x2x224x4 .f32) (k : Prog (TpuEff nD τ sig (Elt F) Λ₀ .tc) PUnit) (K : PUnit → sProp 𝕄) :
    iprop(owns (c : Thread nD τ) b fullShare x ∗ (owns (c : Thread nD τ) b fullShare (maybeOf t pay x) -∗ wp frame (wpE (defs₀ (F := F)) Variants.none c none) E k K))
      ⊢ wp frame (wpE (defs₀ (F := F)) Variants.none c none) E (maybe t b pay k) K := by
  unfold maybe maybeOf
  split_ifs <;> first
    | exact put_self c E b _ x k K
    | exact stay _ _

section stagesSection
variable (i : grid0.Coords) (arg1 : Memref sig .tc .smem S3 .i32) (harg1 : arg1.IsWhole) (arg2 : Memref sig .tc .smem S3 .i32) (harg2 : arg2.IsWhole) (arg3 : Memref sig .tc .smem S3 .i32) (harg3 : arg3.IsWhole) (arg4 : Memref sig .tc .smem S3 .i32) (harg4 : arg4.IsWhole) (arg5 : Memref sig .tc .smem S1 .f32) (harg5 : arg5.IsWhole) (arg6 : Memref sig .tc .vmem S1x2x224x4 .f32) (harg6 : arg6.IsWhole) (arg7 : Memref sig .tc .vmem S1x2x224x4 .f32) (harg7 : arg7.IsWhole)

/-- The body as its stages. -/
def stages : Prog (TpuEff nD τ sig (Elt F) Λ₀ .tc) PUnit := do
  let v1 : Elt F .i32 ← smemLoad arg1 (Rect.unit (s := S3) (k0_off1 i) S1.size (k0_off1_inb i)) numel1_S1 rfl
  let v3 : Elt F .i32 ← smemLoad arg2 (Rect.unit (s := S3) (k0_off1 i) S1.size (k0_off1_inb i)) numel1_S1 rfl
  let v4 : Elt F .f32 ← smemLoad arg5 (Rect.unit (s := S1) ![0] S1.size inb_S1_S1_0) numel1_S1 rfl
  first v1 v4 arg6 arg7 <| maybe (Scalar.cmpi .eq v1 1#32) arg7 k0_pay9 <| do
    let v12 : Elt F .i32 ← smemLoad arg3 (Rect.unit (s := S3) (k0_off2 i) S1.size (k0_off2_inb i)) numel1_S1 rfl
    maybe (Scalar.cmpi .sgt v12 0#32) arg7 (k0_pay10 v12) <| second v3 v4 arg7 <| maybe (Scalar.cmpi .eq v3 1#32) arg7 k0_pay16 <| do
      let v23 : Elt F .i32 ← smemLoad arg4 (Rect.unit (s := S3) (k0_off3 i) S1.size (k0_off3_inb i)) numel1_S1 rfl
      maybe (Scalar.cmpi .sgt v23 0#32) arg7 (k0_pay17 v23) <| pure ⟨⟩

set_option maxRecDepth 65536 in
set_option maxHeartbeats 4000000 in
theorem skel_eq_stages : cc0__body_skel (F := F) i arg1 harg1 arg2 harg2 arg3 harg3 arg4 harg4 arg5 harg5 arg6 harg6 arg7 harg7
    = stages i arg1 arg2 arg3 arg4 arg5 arg6 arg7 := by
  rfl

/-! ## The words that the body reads, and what it leaves -/

/-- The word at the grid point of a table of words. -/
def wordAt (off : Fin S3.rank → Nat) (hoff : ∀ a, off a + S1.size a ≤ S3.size a) (x : Vec F S3 .i32) : Elt F .i32 :=
  View.ld x (Rect.unit (s := S3) off S1.size hoff) (Shape.Idx.first (numel1_S1.symm ▸ Nat.one_pos))
/-- The one word of the rate's memory. -/
def rateAt (x : Vec F S1 .f32) : Elt F .f32 :=
  View.ld x (Rect.unit (s := S1) ![0] S1.size inb_S1_S1_0) (Shape.Idx.first (numel1_S1.symm ▸ Nat.one_pos))

theorem word_sound (c : Dev nD) (E : Set ℕ) (a : Memref sig .tc .smem S3 .i32) (off : Fin S3.rank → Nat) (hoff : ∀ a, off a + S1.size a ≤ S3.size a)
    (x : Vec F S3 .i32) (k : Elt F .i32 → Prog (TpuEff nD τ sig (Elt F) Λ₀ .tc) PUnit) (K : PUnit → sProp 𝕄) :
    iprop(owns (c : Thread nD τ) a fullShare x ∗ (owns (c : Thread nD τ) a fullShare x -∗ wp frame (wpE (defs₀ (F := F)) Variants.none c none) E (k (wordAt (F := F) off hoff x)) K))
      ⊢ wp frame (wpE (defs₀ (F := F)) Variants.none c none) E (smemLoad a (Rect.unit (s := S3) off S1.size hoff) numel1_S1 rfl >>= k) K := by
  unfold owns
  iintro ⟨⟨%f, %hf, H⟩, Hk⟩
  subst hf
  sl_exec
  iapply Hk
  iexists f
  isplitr
  · ipureintro; rfl
  iexact H

theorem rate_sound (c : Dev nD) (E : Set ℕ) (a : Memref sig .tc .smem S1 .f32)
    (x : Vec F S1 .f32) (k : Elt F .f32 → Prog (TpuEff nD τ sig (Elt F) Λ₀ .tc) PUnit) (K : PUnit → sProp 𝕄) :
    iprop(owns (c : Thread nD τ) a fullShare x ∗ (owns (c : Thread nD τ) a fullShare x -∗ wp frame (wpE (defs₀ (F := F)) Variants.none c none) E (k (rateAt x)) K))
      ⊢ wp frame (wpE (defs₀ (F := F)) Variants.none c none) E (smemLoad a (Rect.unit (s := S1) ![0] S1.size inb_S1_S1_0) numel1_S1 rfl >>= k) K := by
  unfold owns
  iintro ⟨⟨%f, %hf, H⟩, Hk⟩
  subst hf
  sl_exec
  iapply Hk
  iexists f
  isplitr
  · ipureintro; rfl
  iexact H

/-- The output block at grid point `i`, from the tables of draws `x1`, `x2`, the tables of row counts `x3`, `x4`, the rate `x5`
    and the input block `x6`. -/
def outOf (x1 x2 x3 x4 : Vec F S3 .i32) (x5 : Vec F S1 .f32) (x6 : Vec F S1x2x224x4 .f32) : Vec F S1x2x224x4 .f32 :=
  maybeOf (Scalar.cmpi .sgt (wordAt (F := F) (k0_off3 i) (k0_off3_inb i) x4) 0#32) (k0_pay17 (wordAt (F := F) (k0_off3 i) (k0_off3_inb i) x4))
    (maybeOf (Scalar.cmpi .eq (wordAt (F := F) (k0_off1 i) (k0_off1_inb i) x2) 1#32) k0_pay16
      (secondOf (wordAt (F := F) (k0_off1 i) (k0_off1_inb i) x2) (rateAt x5)
        (maybeOf (Scalar.cmpi .sgt (wordAt (F := F) (k0_off2 i) (k0_off2_inb i) x3) 0#32) (k0_pay10 (wordAt (F := F) (k0_off2 i) (k0_off2_inb i) x3))
          (maybeOf (Scalar.cmpi .eq (wordAt (F := F) (k0_off1 i) (k0_off1_inb i) x1) 1#32) k0_pay9
            (firstOf (wordAt (F := F) (k0_off1 i) (k0_off1_inb i) x1) (rateAt x5) x6)))))

set_option maxHeartbeats 2000000 in
/-- The body on whole staging memrefs, the inputs' at read contents and the output's at anything, runs to the
    continuation that holds the inputs' as they were and the output's at `outOf` of them. -/
theorem sound_kernel (c : Dev nD) (E : Set ℕ) (x1 x2 x3 x4 : Vec F S3 .i32) (x5 : Vec F S1 .f32) (x6 : Vec F S1x2x224x4 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (outOf i x1 x2 x3 x4 x5 x6)) -∗ K ⟨⟩))
      ⊢ wp frame (wpE (defs₀ (F := F)) Variants.none c none) E (cc0__body i arg1 harg1 arg2 harg2 arg3 harg3 arg4 harg4 arg5 harg5 arg6 harg6 arg7 harg7) K := by
  rw [cc0__body_eq_skeleton, skel_eq_stages]
  unfold stages
  iintro ⟨H1, H2, H3, H4, H5, H6, H7, Hk⟩
  iapply (word_sound c E arg1 (k0_off1 i) (k0_off1_inb i) x1 _ K)
  isplitl [H1]
  · iexact H1
  iintro H1
  iapply (word_sound c E arg2 (k0_off1 i) (k0_off1_inb i) x2 _ K)
  isplitl [H2]
  · iexact H2
  iintro H2
  iapply (rate_sound c E arg5 x5 _ K)
  isplitl [H5]
  · iexact H5
  iintro H5
  iapply (show _ ⊢ _ from first_sound c E _ _ arg6 arg7 x6 _ K)
  isplitl [H6]
  · iexact H6
  isplitl [H7]
  · iexact H7
  iintro ⟨H6, H7⟩
  iapply (maybe_sound c E _ arg7 _ _ _ K)
  isplitl [H7]
  · iexact H7
  iintro H7
  iapply (word_sound c E arg3 (k0_off2 i) (k0_off2_inb i) x3 _ K)
  isplitl [H3]
  · iexact H3
  iintro H3
  iapply (maybe_sound c E _ arg7 _ _ _ K)
  isplitl [H7]
  · iexact H7
  iintro H7
  iapply (show _ ⊢ _ from second_sound c E _ _ arg7 _ _ K)
  isplitl [H7]
  · iexact H7
  iintro H7
  iapply (maybe_sound c E _ arg7 _ _ _ K)
  isplitl [H7]
  · iexact H7
  iintro H7
  iapply (word_sound c E arg4 (k0_off3 i) (k0_off3_inb i) x4 _ K)
  isplitl [H4]
  · iexact H4
  iintro H4
  iapply (maybe_sound c E _ arg7 _ _ _ K)
  isplitl [H7]
  · iexact H7
  iintro H7
  sl_step
  iapply Hk
  unfold outOf
  isplitl [H1]
  · iexact H1
  isplitl [H2]
  · iexact H2
  isplitl [H3]
  · iexact H3
  isplitl [H4]
  · iexact H4
  isplitl [H5]
  · iexact H5
  isplitl [H6]
  · iexact H6
  iexact H7

end stagesSection
variable (m : (ℓ : Loc nD τ sig) → Buf (Elt F) ℓ) (ρ : Dev nD → PrngReg)

/-! ## The pipeline's proof data -/

/-- The proof data on core `c`: the arrays as the region finds them; after the body at point `t` each input's buffer at
    its block and the output's at `outOf` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outOf (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outOf (grid0.coords t) (iblk m c 0 t) (iblk m c 1 t) (iblk m c 2 t) (iblk m c 3 t) (iblk m c 4 t) (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (grid0.coords t) _ _ _ _ _ _ _ _ _ _ _ _ _ _ c Set.univ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 4000000 in
/-- Every weakly fair execution of @main terminates, with the arrays at what the proof data say and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Cert.KernelDrawnIdeal.Gen
end
-- ==== Proof.DrawnRun.lean ====
module

public import proofs.«01_k».proof.Proof.DrawnBody
public import proofs.«01_k».proof.Proof.KVal
public import Idealize.ShloMosaic.Lib.StableHlo.RunRead
public import Idealize.ShloMosaic.Lib.Pointwise
public import Idealize.ShloMosaic.Lib.Pipeline.ValueKit
public import Idealize.ShloMosaic.Lib.Pipeline.Covers

/-! The small kernel, its draws given and all of them the vertical flip: its result, image by image, is the image with its
first 120 rows taken from below and then all of its rows. -/

@[expose] public section

set_option maxRecDepth 16384
set_option maxHeartbeats 2000000

noncomputable section

namespace Cert.KernelDrawnIdeal.Gen

open Cert.KernelDrawnIdeal.Gen Cert.KernelDrawnIdeal Idealize.ShloMosaic Idealize.ShloMosaic.TcCoe Idealize.ShloMosaic.StableHlo Idealize.SL.Sem
open Cert.KernelIdeal.Gen (sum_pick turn_bit test_bit test_pos)

/-! ## One block -/

/-- The image that a block of the pipeline holds. -/
def im (x : Vec Ideal S1x2x224x4 .f32) : Fin 2 → Fin 224 → Fin 4 → EReal := fun c r w => x (ix4 0 c r w)

/-- The first `n` rows taken from below. -/
def turned (n : Nat) (f : Fin 2 → Fin 224 → Fin 4 → EReal) : Fin 2 → Fin 224 → Fin 4 → EReal :=
  fun c r w => if r.val < n then f c r.rev w else f c r w

theorem im_pay6 (x : Vec Ideal S1x2x224x4 .f32) : im (k0_pay6 x) = im x := by
  funext c r w; unfold im; pointwise [k0_pay6]

theorem im_pay10 (n : Nat) (hn : n ≤ 224) (x : Vec Ideal S1x2x224x4 .f32) : im (k0_pay10 (F := Ideal) (BitVec.ofNat 32 n) x) = turned n (im x) := by
  funext c r w
  unfold im turned
  have key := sum_pick (fun k => x (ix4 0 c k w)) _ _ (fun k => turn_bit n hn k r)
  by_cases h : r.val < n
  · rw [if_pos h]
    simp only [h, if_true] at key
    refine Eq.trans ?_ key
    pointwise [k0_pay10]
  · rw [if_neg h]
    simp only [h, if_false] at key
    refine Eq.trans ?_ key
    pointwise [k0_pay10]

theorem may_turn (n : Nat) (hn : n ≤ 224) (h0 : 0 < n) (x : Vec Ideal S1x2x224x4 .f32) :
    im (maybeOf (F := Ideal) (Scalar.cmpi .sgt (BitVec.ofNat 32 n) 0#32) (k0_pay10 (F := Ideal) (BitVec.ofNat 32 n)) x) = turned n (im x) := by
  unfold maybeOf
  rw [if_pos ((test_bit _).2 ((test_pos n hn).2 h0))]
  exact im_pay10 n hn x

theorem may_flip (pay : Vec Ideal S1x2x224x4 .f32 → FVec Ideal S1x2x224x4 .f32) (x : Vec Ideal S1x2x224x4 .f32) :
    maybeOf (F := Ideal) (Scalar.cmpi .eq 2#32 1#32) pay x = x := by
  unfold maybeOf
  rw [if_neg (by decide)]

/-- What the body leaves where both draws are the vertical flip. -/
theorem outOf_im (i : grid0.Coords) (x1 x2 x3 x4 : Vec Ideal S3 .i32) (x5 : Vec Ideal S1 .f32) (x6 : Vec Ideal S1x2x224x4 .f32)
    (e1 : wordAt (F := Ideal) (k0_off1 i) (k0_off1_inb i) x1 = 2#32) (e2 : wordAt (F := Ideal) (k0_off1 i) (k0_off1_inb i) x2 = 2#32)
    (e3 : wordAt (F := Ideal) (k0_off2 i) (k0_off2_inb i) x3 = BitVec.ofNat 32 120) (e4 : wordAt (F := Ideal) (k0_off3 i) (k0_off3_inb i) x4 = BitVec.ofNat 32 224) :
    im (outOf i x1 x2 x3 x4 x5 x6) = turned 224 (turned 120 (im x6)) := by
  unfold outOf
  rw [e1, e2, e3, e4]
  rw [show (k0_pay17 (F := Ideal) (BitVec.ofNat 32 224)) = k0_pay10 (F := Ideal) (BitVec.ofNat 32 224) from rfl]
  rw [may_turn 224 (by decide) (by decide), may_flip]
  rw [show ∀ y, secondOf (F := Ideal) 2#32 (rateAt x5) y = y from fun _ => rfl]
  rw [may_turn 120 (by decide) (by decide), may_flip]
  rw [show firstOf (F := Ideal) 2#32 (rateAt x5) x6 = k0_pay6 x6 from rfl, im_pay6]

/-- A word of the scalar memory, at the point's own place. -/
theorem wordAt_eq (off : Fin S3.rank → Nat) (h : ∀ a, off a + S1.size a ≤ S3.size a) (x : Vec Ideal S3 .i32) (b : Fin 3) (hb : off 0 = b.val) :
    wordAt (F := Ideal) off h x = x (ix1 b) := by
  unfold wordAt View.ld
  congr 1
  funext a
  apply Fin.ext
  fin_cases a
  simp only [Rect.unit]
  have h0 : ∀ k : Fin (S1.size 0), k.val = 0 := fun k => Nat.lt_one_iff.mp k.isLt
  simp [hb, h0]

/-! ## The words of the launch -/

variable (m : (l : Loc nD τ sig) → Buf (Elt Ideal) l) (c : Dev nD)

theorem V_k1 (b : Fin 3) (h1 : (m ((c : Thread nD τ).loc main_arg1) : IVec S3 32) (ix1 b) = 2#32)
    (h2 : (m ((c : Thread nD τ).loc main_arg2) : IVec S3 32) (ix1 b) = 2#32) :
    (V m c main_v6 : IVec S3 32) (ix1 b) = BitVec.ofNat 32 120 := by
  have e : (V m c main_v6 : IVec S3 32) (ix1 b) = Scalar.select (IntOp.cmpi .eq ((m ((c : Thread nD τ).loc main_arg1) : IVec S3 32) (ix1 b)) 2#32) (Scalar.select (IntOp.cmpi .eq ((m ((c : Thread nD τ).loc main_arg2) : IVec S3 32) (ix1 b)) 1#32) 224#32 120#32) 0#32 := by
    unfold V
    simp only [List.flatten_cons, List.flatten_nil, List.append_nil]
    after_reads_simp
    try simp -implicitDefEqProofs only [TRef.toBuf, TRef.ofBuf, cast_cast, cast_eq]
    pointwise [id_eq]
  rw [e, h1, h2]
  rfl

theorem V_k2 (b : Fin 3) (h1 : (m ((c : Thread nD τ).loc main_arg1) : IVec S3 32) (ix1 b) = 2#32)
    (h2 : (m ((c : Thread nD τ).loc main_arg2) : IVec S3 32) (ix1 b) = 2#32) :
    (V m c main_v13 : IVec S3 32) (ix1 b) = BitVec.ofNat 32 224 := by
  have e : (V m c main_v13 : IVec S3 32) (ix1 b) = Scalar.select (IntOp.cmpi .eq ((m ((c : Thread nD τ).loc main_arg2) : IVec S3 32) (ix1 b)) 2#32) (Scalar.select (IntOp.cmpi .eq ((m ((c : Thread nD τ).loc main_arg1) : IVec S3 32) (ix1 b)) 2#32) 224#32 150#32) 0#32 := by
    unfold V
    simp only [List.flatten_cons, List.flatten_nil, List.append_nil]
    after_reads_simp
    try simp -implicitDefEqProofs only [TRef.toBuf, TRef.ofBuf, cast_cast, cast_eq]
    pointwise [id_eq]
  rw [e, h1, h2]
  rfl

/-! ## The result -/

/-- The image of a grid point. -/
def pt (t : Fin cfg0.N) : Fin 3 := grid0.coords t 0

theorem idx0 (t : Fin cfg0.N) : win0_0.index t 0 = 0 := rfl
theorem idx1 (t : Fin cfg0.N) : win0_1.index t 0 = 0 := rfl
theorem idx2 (t : Fin cfg0.N) : win0_2.index t 0 = 0 := rfl
theorem idx3 (t : Fin cfg0.N) : win0_3.index t 0 = 0 := rfl
theorem idx5 : ∀ t : Fin cfg0.N, win0_5.index t = ![(grid0.coords t 0).val, 0, 0, 0] := by decide +kernel
theorem idx6 : ∀ t : Fin cfg0.N, win0_6.index t = ![(grid0.coords t 0).val, 0, 0, 0] := by decide +kernel

theorem iblk_s1 (t : Fin cfg0.N) (b : Fin 3) : (iblk m c 0 t : Vec Ideal S3 .i32) (ix1 b) = (m ((c : Thread nD τ).loc main_arg1) : IVec S3 32) (ix1 b) := by
  refine Eq.trans ?_ (congrFun (V_main_arg1 m c) (ix1 b))
  blk_ext [iblk, idx0 t]
theorem iblk_s2 (t : Fin cfg0.N) (b : Fin 3) : (iblk m c 1 t : Vec Ideal S3 .i32) (ix1 b) = (m ((c : Thread nD τ).loc main_arg2) : IVec S3 32) (ix1 b) := by
  refine Eq.trans ?_ (congrFun (V_main_arg2 m c) (ix1 b))
  blk_ext [iblk, idx1 t]
theorem iblk_k1 (t : Fin cfg0.N) (b : Fin 3) : (iblk m c 2 t : Vec Ideal S3 .i32) (ix1 b) = (V m c main_v6 : IVec S3 32) (ix1 b) := by
  blk_ext [iblk, V, idx2 t]
theorem iblk_k2 (t : Fin cfg0.N) (b : Fin 3) : (iblk m c 3 t : Vec Ideal S3 .i32) (ix1 b) = (V m c main_v13 : IVec S3 32) (ix1 b) := by
  blk_ext [iblk, V, idx3 t]
theorem iblk_x (t : Fin cfg0.N) : im (iblk m c 5 t) = fun k r w => (m ((c : Thread nD τ).loc main_arg0) : FVec Ideal S3x2x224x4 .f32) (ix4 (pt t) k r w) := by
  funext k r w
  unfold im
  refine Eq.trans ?_ (congrFun (V_main_arg0 m c) (ix4 (pt t) k r w))
  blk_ext [iblk, pt, idx5 t]

/-- What the kernel makes of image `b` where all draws are the vertical flip. -/
def made (b : Fin 3) : Fin 2 → Fin 224 → Fin 4 → EReal :=
  turned 224 (turned 120 fun k r w => (m ((c : Thread nD τ).loc main_arg0) : FVec Ideal S3x2x224x4 .f32) (ix4 b k r w))

variable (h1 : ∀ b, (m ((c : Thread nD τ).loc main_arg1) : IVec S3 32) (ix1 b) = 2#32)
  (h2 : ∀ b, (m ((c : Thread nD τ).loc main_arg2) : IVec S3 32) (ix1 b) = 2#32)
include h1 h2

theorem point (t : Fin cfg0.N) :
    im (outOf (grid0.coords t) (iblk m c 0 t) (iblk m c 1 t) (iblk m c 2 t) (iblk m c 3 t) (iblk m c 4 t) (iblk m c 5 t)) = made m c (pt t) := by
  have o1 : k0_off1 (grid0.coords t) 0 = (pt t).val := congrFun (k0_off1_eq _) 0
  have o2 : k0_off2 (grid0.coords t) 0 = (pt t).val := congrFun (k0_off2_eq _) 0
  have o3 : k0_off3 (grid0.coords t) 0 = (pt t).val := congrFun (k0_off3_eq _) 0
  have h := outOf_im (grid0.coords t) (iblk m c 0 t) (iblk m c 1 t) (iblk m c 2 t) (iblk m c 3 t) (iblk m c 4 t) (iblk m c 5 t)
    ((wordAt_eq _ _ _ (pt t) o1).trans ((iblk_s1 m c t _).trans (h1 _)))
    ((wordAt_eq _ _ _ (pt t) o1).trans ((iblk_s2 m c t _).trans (h2 _)))
    ((wordAt_eq _ _ _ (pt t) o2).trans ((iblk_k1 m c t _).trans (V_k1 m c _ (h1 _) (h2 _))))
    ((wordAt_eq _ _ _ (pt t) o3).trans ((iblk_k2 m c t _).trans (V_k2 m c _ (h1 _) (h2 _))))
  rw [h, iblk_x m c t]
  rfl

/-- The result array. -/
theorem result : (dats m 0 c).arrAt 6 cfg0.N = (fun i => made m c (i 0) (i 1) (i 2) (i 3) : S3x2x224x4.Idx → EReal) := by
  refine (dats m 0 c).arrAt_eq_of_covers 6 _ (by decide +kernel) fun t hf y => ?_
  blk_simp [idx6 t]
  rw [after0_6]
  have key := congrFun (congrFun (congrFun (point m c h1 h2 t) (y 1)) (y 2)) (y 3)
  have hy : (y : S1x2x224x4.Idx) = ix4 0 (y 1) (y 2) (y 3) := by
    funext a
    fin_cases a
    · exact Subsingleton.elim (α := Fin 1) _ _
    · rfl
    · rfl
    · rfl
  have h0 : (win0_6.blk t).view.emb y 0 = pt t := Fin.ext (by blk_simp [idx6 t, pt])
  have h1 : (win0_6.blk t).view.emb y 1 = y 1 := Fin.ext (by blk_simp [idx6 t]; try simp)
  have h2 : (win0_6.blk t).view.emb y 2 = y 2 := Fin.ext (by blk_simp [idx6 t]; try simp)
  have h3 : (win0_6.blk t).view.emb y 3 = y 3 := Fin.ext (by blk_simp [idx6 t]; try simp)
  rw [h0, h1, h2, h3, ← key]
  exact congrArg (outOf (grid0.coords t) (iblk m c 0 t) (iblk m c 1 t) (iblk m c 2 t) (iblk m c 3 t) (iblk m c 4 t) (iblk m c 5 t)) hy

end Cert.KernelDrawnIdeal.Gen

end
-- ==== Proof.DrawnRef.lean ====
module

public import proofs.«01_k».proof.Proof.Gen.ReferenceDrawnIdeal
public import proofs.«01_k».proof.Proof.Gen.ReferenceDrawnIdeal.Run
public import proofs.«01_k».proof.Proof.Gen.ReferenceDrawnIdeal.Read
public import Idealize.ShloMosaic.Lib.Pointwise

/-! The small reference, its draws given and all of them the vertical flip: every other transformation leaves every
element, and the two flips undo each other. -/

@[expose] public section

set_option maxRecDepth 16384
set_option maxHeartbeats 1000000

noncomputable section

namespace Cert.ReferenceDrawnIdeal.Read

open Cert.ReferenceDrawnIdeal Cert.ReferenceDrawnIdeal.Gen Idealize.ShloMosaic Idealize.ShloMosaic.TcCoe Idealize.SL.Sem Idealize.ShloMosaic.StableHlo

variable (x0 : (⟨S3x2x224x4, .f32⟩ : BufTy).Contents (Elt Ideal)) (x1 x2 : (⟨S3, .i32⟩ : BufTy).Contents (Elt Ideal)) (x3 : (⟨S_, .f32⟩ : BufTy).Contents (Elt Ideal))

theorem mask_v3 (h : ∀ b, x1 b = 2#32) (i : S3x2x224x4.Idx) : val_main_call0_v0 (F := Ideal) x1 i = 0#1 := by
  rw [val_main_call0_v0_apply, val_main_v2_apply, val_main_v1_apply, val_main_v0_apply, val_main_c_apply, h]; rfl

theorem pass_v3 (h : ∀ b, x1 b = 2#32) (i : S3x2x224x4.Idx) : val_main_v3 (F := Ideal) x0 x1 i = x0 i := by
  rw [val_main_v3_apply, mask_v3 x1 h]; rfl

theorem mask_v8 (h : ∀ b, x1 b = 2#32) (i : S3x2x224x4.Idx) : val_main_call2_v0 (F := Ideal) x1 i = 0#1 := by
  rw [val_main_call2_v0_apply, val_main_v6_apply, val_main_v5_apply, val_main_v4_apply, val_main_c_0_apply, h]; rfl

theorem pass_v8 (h : ∀ b, x1 b = 2#32) (i : S3x2x224x4.Idx) : val_main_v8 (F := Ideal) x0 x1 i = val_main_v3 (F := Ideal) x0 x1 i := by
  rw [val_main_v8_apply, mask_v8 x1 h]; rfl

theorem mask_v13 (h : ∀ b, x1 b = 2#32) (i : S3x2x224x4.Idx) : val_main_call4_v0 (F := Ideal) x1 i = 1#1 := by
  rw [val_main_call4_v0_apply, val_main_v11_apply, val_main_v10_apply, val_main_v9_apply, val_main_c_1_apply, h]; rfl

theorem pass_v13 (h : ∀ b, x1 b = 2#32) (i : S3x2x224x4.Idx) : val_main_v13 (F := Ideal) x0 x1 i = val_main_v8 (F := Ideal) x0 x1 (ix4 (i 0) (i 1) (i 2).rev (i 3)) := by
  rw [val_main_v13_apply, mask_v13 x1 h]
  unfold val_main_v12
  show val_main_v8 (F := Ideal) x0 x1  _ = _
  congr 1
  funext a
  fin_cases a <;> rfl

theorem mask_v22 (h : ∀ b, x1 b = 2#32) (i : S3x2x224x4.Idx) : val_main_call6_v0 (F := Ideal) x1 i = 0#1 := by
  rw [val_main_call6_v0_apply, val_main_v16_apply, val_main_v15_apply, val_main_v14_apply, val_main_c_2_apply, h]; rfl

theorem pass_v22 (h : ∀ b, x1 b = 2#32) (i : S3x2x224x4.Idx) : val_main_v22 (F := Ideal) x0 x1 x3 i = val_main_v13 (F := Ideal) x0 x1 i := by
  rw [val_main_v22_apply, mask_v22 x1 h]; rfl

theorem mask_v39 (h : ∀ b, x1 b = 2#32) (i : S3x2x224x4.Idx) : val_main_call8_v0 (F := Ideal) x1 i = 0#1 := by
  rw [val_main_call8_v0_apply, val_main_v25_apply, val_main_v24_apply, val_main_v23_apply, val_main_c_6_apply, h]; rfl

theorem pass_v39 (h : ∀ b, x1 b = 2#32) (i : S3x2x224x4.Idx) : val_main_v39 (F := Ideal) x0 x1 x3 i = val_main_v22 (F := Ideal) x0 x1 x3 i := by
  rw [val_main_v39_apply, mask_v39 x1 h]; rfl

theorem mask_v45 (h : ∀ b, x1 b = 2#32) (i : S3x2x224x4.Idx) : val_main_call9_v0 (F := Ideal) x1 i = 0#1 := by
  rw [val_main_call9_v0_apply, val_main_v42_apply, val_main_v41_apply, val_main_v40_apply, val_main_c_13_apply, h]; rfl

theorem pass_v45 (h : ∀ b, x1 b = 2#32) (i : S3x2x224x4.Idx) : val_main_v45 (F := Ideal) x0 x1 x3 i = val_main_v39 (F := Ideal) x0 x1 x3 i := by
  rw [val_main_v45_apply, mask_v45 x1 h]; rfl

theorem mask_v57 (h : ∀ b, x1 b = 2#32) (i : S3x2x224x4.Idx) : val_main_call11_v0 (F := Ideal) x1 i = 0#1 := by
  rw [val_main_call11_v0_apply, val_main_v48_apply, val_main_v47_apply, val_main_v46_apply, val_main_c_15_apply, h]; rfl

theorem pass_v57 (h : ∀ b, x1 b = 2#32) (i : S3x2x224x4.Idx) : val_main_v57 (F := Ideal) x0 x1 x3 i = val_main_v45 (F := Ideal) x0 x1 x3 i := by
  rw [val_main_v57_apply, mask_v57 x1 h]; rfl

theorem mask_v66 (h : ∀ b, x1 b = 2#32) (i : S3x2x224x4.Idx) : val_main_call12_v0 (F := Ideal) x1 i = 0#1 := by
  rw [val_main_call12_v0_apply, val_main_v60_apply, val_main_v59_apply, val_main_v58_apply, val_main_c_20_apply, h]; rfl

theorem pass_v66 (h : ∀ b, x1 b = 2#32) (i : S3x2x224x4.Idx) : val_main_v66 (F := Ideal) x0 x1 x3 i = val_main_v57 (F := Ideal) x0 x1 x3 i := by
  rw [val_main_v66_apply, mask_v66 x1 h]; rfl

theorem mask_v70 (h : ∀ b, x2 b = 2#32) (i : S3x2x224x4.Idx) : val_main_call13_v0 (F := Ideal) x2 i = 0#1 := by
  rw [val_main_call13_v0_apply, val_main_v69_apply, val_main_v68_apply, val_main_v67_apply, val_main_c_23_apply, h]; rfl

theorem pass_v70 (h : ∀ b, x2 b = 2#32) (i : S3x2x224x4.Idx) : val_main_v70 (F := Ideal) x0 x1 x2 x3 i = val_main_v66 (F := Ideal) x0 x1 x3 i := by
  rw [val_main_v70_apply, mask_v70 x2 h]; rfl

theorem mask_v75 (h : ∀ b, x2 b = 2#32) (i : S3x2x224x4.Idx) : val_main_call15_v0 (F := Ideal) x2 i = 0#1 := by
  rw [val_main_call15_v0_apply, val_main_v73_apply, val_main_v72_apply, val_main_v71_apply, val_main_c_24_apply, h]; rfl

theorem pass_v75 (h : ∀ b, x2 b = 2#32) (i : S3x2x224x4.Idx) : val_main_v75 (F := Ideal) x0 x1 x2 x3 i = val_main_v70 (F := Ideal) x0 x1 x2 x3 i := by
  rw [val_main_v75_apply, mask_v75 x2 h]; rfl

theorem mask_v80 (h : ∀ b, x2 b = 2#32) (i : S3x2x224x4.Idx) : val_main_call17_v0 (F := Ideal) x2 i = 1#1 := by
  rw [val_main_call17_v0_apply, val_main_v78_apply, val_main_v77_apply, val_main_v76_apply, val_main_c_25_apply, h]; rfl

theorem pass_v80 (h : ∀ b, x2 b = 2#32) (i : S3x2x224x4.Idx) : val_main_v80 (F := Ideal) x0 x1 x2 x3 i = val_main_v75 (F := Ideal) x0 x1 x2 x3 (ix4 (i 0) (i 1) (i 2).rev (i 3)) := by
  rw [val_main_v80_apply, mask_v80 x2 h]
  unfold val_main_v79
  show val_main_v75 (F := Ideal) x0 x1 x2 x3  _ = _
  congr 1
  funext a
  fin_cases a <;> rfl

theorem mask_v89 (h : ∀ b, x2 b = 2#32) (i : S3x2x224x4.Idx) : val_main_call19_v0 (F := Ideal) x2 i = 0#1 := by
  rw [val_main_call19_v0_apply, val_main_v83_apply, val_main_v82_apply, val_main_v81_apply, val_main_c_26_apply, h]; rfl

theorem pass_v89 (h : ∀ b, x2 b = 2#32) (i : S3x2x224x4.Idx) : val_main_v89 (F := Ideal) x0 x1 x2 x3 i = val_main_v80 (F := Ideal) x0 x1 x2 x3 i := by
  rw [val_main_v89_apply, mask_v89 x2 h]; rfl

theorem mask_v106 (h : ∀ b, x2 b = 2#32) (i : S3x2x224x4.Idx) : val_main_call21_v0 (F := Ideal) x2 i = 0#1 := by
  rw [val_main_call21_v0_apply, val_main_v92_apply, val_main_v91_apply, val_main_v90_apply, val_main_c_31_apply, h]; rfl

theorem pass_v106 (h : ∀ b, x2 b = 2#32) (i : S3x2x224x4.Idx) : val_main_v106 (F := Ideal) x0 x1 x2 x3 i = val_main_v89 (F := Ideal) x0 x1 x2 x3 i := by
  rw [val_main_v106_apply, mask_v106 x2 h]; rfl

theorem mask_v112 (h : ∀ b, x2 b = 2#32) (i : S3x2x224x4.Idx) : val_main_call22_v0 (F := Ideal) x2 i = 0#1 := by
  rw [val_main_call22_v0_apply, val_main_v109_apply, val_main_v108_apply, val_main_v107_apply, val_main_c_38_apply, h]; rfl

theorem pass_v112 (h : ∀ b, x2 b = 2#32) (i : S3x2x224x4.Idx) : val_main_v112 (F := Ideal) x0 x1 x2 x3 i = val_main_v106 (F := Ideal) x0 x1 x2 x3 i := by
  rw [val_main_v112_apply, mask_v112 x2 h]; rfl

theorem mask_v124 (h : ∀ b, x2 b = 2#32) (i : S3x2x224x4.Idx) : val_main_call24_v0 (F := Ideal) x2 i = 0#1 := by
  rw [val_main_call24_v0_apply, val_main_v115_apply, val_main_v114_apply, val_main_v113_apply, val_main_c_40_apply, h]; rfl

theorem pass_v124 (h : ∀ b, x2 b = 2#32) (i : S3x2x224x4.Idx) : val_main_v124 (F := Ideal) x0 x1 x2 x3 i = val_main_v112 (F := Ideal) x0 x1 x2 x3 i := by
  rw [val_main_v124_apply, mask_v124 x2 h]; rfl

theorem mask_v133 (h : ∀ b, x2 b = 2#32) (i : S3x2x224x4.Idx) : val_main_call25_v0 (F := Ideal) x2 i = 0#1 := by
  rw [val_main_call25_v0_apply, val_main_v127_apply, val_main_v126_apply, val_main_v125_apply, val_main_c_45_apply, h]; rfl

theorem pass_v133 (h : ∀ b, x2 b = 2#32) (i : S3x2x224x4.Idx) : val_main_v133 (F := Ideal) x0 x1 x2 x3 i = val_main_v124 (F := Ideal) x0 x1 x2 x3 i := by
  rw [val_main_v133_apply, mask_v133 x2 h]; rfl

/-- With every draw the vertical flip the small reference gives back what it is given. -/
theorem twice (h1 : ∀ b, x1 b = 2#32) (h2 : ∀ b, x2 b = 2#32) (i : S3x2x224x4.Idx) : val_main_v133 (F := Ideal) x0 x1 x2 x3 i = x0 i := by
  rw [pass_v133 x0 x1 x2 x3 h2, pass_v124 x0 x1 x2 x3 h2, pass_v112 x0 x1 x2 x3 h2, pass_v106 x0 x1 x2 x3 h2, pass_v89 x0 x1 x2 x3 h2, pass_v80 x0 x1 x2 x3 h2, pass_v75 x0 x1 x2 x3 h2, pass_v70 x0 x1 x2 x3 h2, pass_v66 x0 x1 x3 h1, pass_v57 x0 x1 x3 h1, pass_v45 x0 x1 x3 h1, pass_v39 x0 x1 x3 h1, pass_v22 x0 x1 x3 h1, pass_v13 x0 x1 h1, pass_v8 x0 x1 h1, pass_v3 x0 x1 h1]
  congr 1
  funext a
  fin_cases a
  · rfl
  · rfl
  · exact Fin.rev_rev _
  · rfl

end Cert.ReferenceDrawnIdeal.Read

end
-- ==== Proof.Drawn.lean ====
module

public import proofs.«01_k».proof.Defs
public import proofs.«01_k».proof.Proof.DrawnRun
public import proofs.«01_k».proof.Proof.DrawnRef

/-! The small kernel and the small reference differ: on the marked images, with every draw the vertical flip, the first
element of the kernel's result is the one of the last row, and that of the reference's the zero of the first. -/

@[expose] public section

set_option maxRecDepth 16384

noncomputable section

namespace Cert.Proof

open Idealize.ShloMosaic Idealize.SL.Sem

theorem first_word : Cert.Cx_KernelDrawnIdeal.arg0_words 0 0 0 0 = 0x00000000#32 := by decide +kernel
theorem last_word : Cert.Cx_KernelDrawnIdeal.arg0_words 0 0 223 0 = 0x3F800000#32 := by decide +kernel

theorem flips1 (b : Cert.KernelDrawnIdeal.S3.Idx) : Cert.Cx_KernelDrawnIdeal.arg1 b = 2#32 :=
  (show ∀ k, Cert.Cx_KernelDrawnIdeal.arg1_words k = 2#32 by decide +kernel) (b 0)
theorem flips2 (b : Cert.KernelDrawnIdeal.S3.Idx) : Cert.Cx_KernelDrawnIdeal.arg2 b = 2#32 :=
  (show ∀ k, Cert.Cx_KernelDrawnIdeal.arg2_words k = 2#32 by decide +kernel) (b 0)

theorem one_ne_zero_word : Ideal.ofBits .f32 0x3F800000#32 ≠ Ideal.ofBits .f32 0x00000000#32 := by
  simp [Ideal.ofBits, Ideal.ieee]

/-- The element at which the two are compared. -/
abbrev here : Cert.KernelDrawnIdeal.S3x2x224x4.Idx := ix4 0 0 0 0

theorem disproof [Cert.KernelDrawnIdeal.Facts] [Cert.ReferenceDrawnIdeal.Facts] :
    Cert.disproves_algebraic_KernelDrawnIdeal_ReferenceDrawnIdeal := by
  intro m g m' g' hargs hagree
  refine ⟨trivial, fun c => Cert.ReferenceDrawnIdeal.Read.val_main_v133 (F := Ideal)
    (m' ((c.tc : Thread Cert.ReferenceDrawnIdeal.nD Cert.ReferenceDrawnIdeal.τ).loc Cert.ReferenceDrawnIdeal.main_arg0))
    (m' ((c.tc : Thread Cert.ReferenceDrawnIdeal.nD Cert.ReferenceDrawnIdeal.τ).loc Cert.ReferenceDrawnIdeal.main_arg1))
    (m' ((c.tc : Thread Cert.ReferenceDrawnIdeal.nD Cert.ReferenceDrawnIdeal.τ).loc Cert.ReferenceDrawnIdeal.main_arg2))
    (m' ((c.tc : Thread Cert.ReferenceDrawnIdeal.nD Cert.ReferenceDrawnIdeal.τ).loc Cert.ReferenceDrawnIdeal.main_arg3)), ?_, ?_⟩
  · refine (θ_run _ _ _).mono ?_ (Cert.KernelDrawnIdeal.Gen.run_main m g)
    intro r h hall
    have c : Dev Cert.KernelDrawnIdeal.nD := ⟨0, by decide⟩
    obtain ⟨a0, a1, a2, -⟩ := hargs c
    obtain ⟨b0, b1, b2, -⟩ := hagree c
    have k := (h.out_eq c 6).trans (Cert.KernelDrawnIdeal.Gen.result m c
      (fun b => (congrFun a1 (ix1 b)).trans (flips1 _)) (fun b => (congrFun a2 (ix1 b)).trans (flips2 _)))
    have e := (congrFun k here).symm.trans (congrFun (hall c) here)
    have w := Cert.ReferenceDrawnIdeal.Read.twice
      (m' ((c.tc : Thread Cert.ReferenceDrawnIdeal.nD Cert.ReferenceDrawnIdeal.τ).loc Cert.ReferenceDrawnIdeal.main_arg0))
      (m' ((c.tc : Thread Cert.ReferenceDrawnIdeal.nD Cert.ReferenceDrawnIdeal.τ).loc Cert.ReferenceDrawnIdeal.main_arg1))
      (m' ((c.tc : Thread Cert.ReferenceDrawnIdeal.nD Cert.ReferenceDrawnIdeal.τ).loc Cert.ReferenceDrawnIdeal.main_arg2))
      (m' ((c.tc : Thread Cert.ReferenceDrawnIdeal.nD Cert.ReferenceDrawnIdeal.τ).loc Cert.ReferenceDrawnIdeal.main_arg3))
      (fun b => (congrFun (b1.trans a1) b).trans (flips1 b)) (fun b => (congrFun (b2.trans a2) b).trans (flips2 b)) here
    have l : Cert.KernelDrawnIdeal.Gen.made m c 0 0 0 0 = Ideal.ofBits .f32 0x3F800000#32 := by
      rw [← last_word]
      exact congrFun a0 (ix4 0 0 223 0)
    have q : m' ((c.tc : Thread Cert.ReferenceDrawnIdeal.nD Cert.ReferenceDrawnIdeal.τ).loc Cert.ReferenceDrawnIdeal.main_arg0) here = Ideal.ofBits .f32 0x00000000#32 := by
      rw [← first_word]
      exact congrFun (b0.trans a0) here
    exact one_ne_zero_word (l.symm.trans (e.trans (w.trans q)))
  · refine (θ_run _ _ _).mono ?_ (Cert.ReferenceDrawnIdeal.Value.run (F := Ideal) m' g')
    intro r h c
    exact (h c).1.trans (Cert.ReferenceDrawnIdeal.Read.val_main_v133_eq (F := Ideal) _)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.On_agrees
public import proofs.«01_k».proof.Proof.Gen.KernelDrawnIdeal
public import proofs.«01_k».proof.Proof.Gen.ReferenceDrawnIdeal
public import proofs.«01_k».proof.Proof.Body
public import proofs.«01_k».proof.Proof.BodyBits
public import proofs.«01_k».proof.Proof.RefRun
public import proofs.«01_k».proof.Proof.RVal
public import proofs.«01_k».proof.Proof.KRun
public import proofs.«01_k».proof.Proof.Drawn

@[expose] public section

noncomputable section

namespace Cert.Proof

open Idealize.ShloMosaic Idealize.SL.Sem Cert.Image

theorem frame_kernel : Cert.quiescent_Kernel := fun m ρ _ => Cert.Kernel.Gen.frame_run (F := Bits) m ρ

theorem frame_kernelIdeal : Cert.quiescent_KernelIdeal := fun m ρ _ => Cert.KernelIdeal.Gen.frame_run (F := Ideal) m ρ

theorem frame_referenceIdeal : Cert.quiescent_ReferenceIdeal := fun m ρ _ => Cert.ReferenceIdeal.Gen.frame_line (F := Ideal) m ρ

/-- What the reference makes of the arguments: image by image, the second draw's step of the first draw's. -/
def wanted (m : (l : Loc Cert.KernelIdeal.nD Cert.KernelIdeal.τ Cert.KernelIdeal.sig) → Buf (Elt Ideal) l) (c : Dev Cert.KernelIdeal.nD) :
    Cert.KernelIdeal.S128x3x224x224.Idx → EReal := fun i =>
  step (Cert.KernelIdeal.Gen.s2At m c (i 0)) (Cert.KernelIdeal.Gen.tAt m c)
    (step (Cert.KernelIdeal.Gen.s1At m c (i 0)) (Cert.KernelIdeal.Gen.tAt m c) (Cert.KernelIdeal.Gen.xAt m c (i 0))) (i 1) (i 2) (i 3)

theorem index_eq (i : Cert.KernelIdeal.S128x3x224x224.Idx) : i = ix4 (i 0) (i 1) (i 2) (i 3) := by
  funext a
  fin_cases a <;> rfl

/-- Where the mask is set the kernel's image is the wanted one. -/
theorem made_eq (m : (l : Loc Cert.KernelIdeal.nD Cert.KernelIdeal.τ Cert.KernelIdeal.sig) → Buf (Elt Ideal) l) (c : Dev Cert.KernelIdeal.nD)
    (x : FVec Ideal Cert.KernelIdeal.S128x3x224x224 .f32) (mag : FVec Ideal Cert.KernelIdeal.S_ .f32) (i : Cert.KernelIdeal.S128x3x224x224.Idx)
    (h : Cert.On_agrees.fn (F := Ideal) x (m ((c.tc : Thread Cert.KernelIdeal.nD Cert.KernelIdeal.τ).loc Cert.KernelIdeal.main_arg1)) mag i = 1#1) :
    Cert.KernelIdeal.Gen.made m c (i 0) (i 1) (i 2) (i 3) = wanted m c i := by
  rw [Cert.On_agrees.fn_eq, index_eq i] at h
  exact agree _ _ _ _ _ _ _ ((Cert.On_agrees.maskOf_iff _ _ (i 0) (i 1) (i 2) (i 3)).1 h)

theorem value : Cert.algebraic_KernelIdeal_ReferenceIdeal_on_agrees := by
  intro m g m' g' _ hagree
  refine ⟨wanted m, ?_, ?_⟩
  · refine (θ_run _ _ _).mono ?_ (θ_run_and (Cert.KernelIdeal.Gen.run_main m g) (Cert.KernelIdeal.Gen.frame_run m g))
    intro r h c
    refine ⟨fun i hi => ?_, h.2.1 c⟩
    have e := (h.1.out_eq c 6).trans (Cert.KernelIdeal.Gen.result m c)
    exact (congrFun e i).trans (made_eq m c _ _ i hi)
  · refine (θ_run _ _ _).mono ?_ (θ_run_and (Cert.ReferenceIdeal.Gen.run_line m' g') (Cert.ReferenceIdeal.Gen.frame_line m' g'))
    intro r h c
    refine ⟨fun i _ => ?_, h.2.1 c⟩
    have e := h.1 c Cert.ReferenceIdeal.main_v210
    have l := congrFun (congrFun (congrFun (Cert.ReferenceIdeal.Gen.line_im (StableHlo.launchContents m' c) (i 0)) (i 1)) (i 2)) (i 3)
    obtain ⟨a0, a1, a2⟩ := hagree c
    have b0 : StableHlo.launchContents m' c (Proc.devRef .tc Cert.ReferenceIdeal.main_arg0) = _ := a0
    have b1 : StableHlo.launchContents m' c (Proc.devRef .tc Cert.ReferenceIdeal.main_arg1) = _ := a1
    have b2 : StableHlo.launchContents m' c (Proc.devRef .tc Cert.ReferenceIdeal.main_arg2) = _ := a2
    rw [b0, b1, b2] at l
    rw [e]
    exact (congrArg _ (index_eq i)).trans l

theorem claim : Cert.Claim := ⟨Cert.Kernel.Gen.facts, Cert.KernelIdeal.Gen.facts, Cert.ReferenceIdeal.Gen.facts,
  Cert.KernelDrawnIdeal.Gen.facts, Cert.ReferenceDrawnIdeal.Gen.facts, Cert.On_agrees.Gen.facts,
  frame_kernel, frame_kernelIdeal, frame_referenceIdeal, trivial, value, disproof⟩

end Cert.Proof

end
